-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_scores_finite [hPre_scores_finite : Cert.Pre_scores_finite.Facts] (m : (ℓ : Loc Cert.AttnIdeal.nD Cert.AttnIdeal.τ Cert.AttnIdeal.sig) → Buf (Elt Ideal) ℓ) : Prop :=
  ∀ c : Dev Cert.AttnIdeal.nD,
    (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_scores_finite [hPre_scores_finite : Cert.Pre_scores_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2 = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradRefIdeal (m : (ℓ : Loc Cert.UpGradRefIdeal.nD Cert.UpGradRefIdeal.τ Cert.UpGradRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_DownIn (m : (ℓ : Loc Cert.DownIn.nD Cert.DownIn.τ Cert.DownIn.sig) → Buf (Elt Bits) ℓ) : Prop :=
  True

def Pre_DownInIdeal (m : (ℓ : Loc Cert.DownInIdeal.nD Cert.DownInIdeal.τ Cert.DownInIdeal.sig) → Buf (Elt Ideal) ℓ) : Prop :=
  True

def Pre_DownInRefIdeal (m : (ℓ : Loc Cert.DownInRefIdeal.nD Cert.DownInRefIdeal.τ Cert.DownInRefIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixGrad (m : (ℓ : Loc Cert.MixGrad.nD Cert.MixGrad.τ Cert.MixGrad.sig) → Buf (Elt Bits) ℓ) : Prop :=
  True

def Pre_MixGradIdeal (m : (ℓ : Loc Cert.MixGradIdeal.nD Cert.MixGradIdeal.τ Cert.MixGradIdeal.sig) → Buf (Elt Ideal) ℓ) : Prop :=
  True

def Pre_MixGradRefIdeal (m : (ℓ : Loc Cert.MixGradRefIdeal.nD Cert.MixGradRefIdeal.τ Cert.MixGradRefIdeal.sig) → Buf (Elt Ideal) ℓ) : Prop :=
  True

def Pre_OutIn (m : (ℓ : Loc Cert.OutIn.nD Cert.OutIn.τ Cert.OutIn.sig) → Buf (Elt Bits) ℓ) : Prop :=
  True

def Pre_OutInIdeal (m : (ℓ : Loc Cert.OutInIdeal.nD Cert.OutInIdeal.τ Cert.OutInIdeal.sig) → Buf (Elt Ideal) ℓ) : Prop :=
  True

def Pre_OutInRefIdeal (m : (ℓ : Loc Cert.OutInRefIdeal.nD Cert.OutInRefIdeal.τ Cert.OutInRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_GradRows (m : (ℓ : Loc Cert.GradRows.nD Cert.GradRows.τ Cert.GradRows.sig) → Buf (Elt Bits) ℓ) : Prop :=
  True

def Pre_GradRowsIdeal (m : (ℓ : Loc Cert.GradRowsIdeal.nD Cert.GradRowsIdeal.τ Cert.GradRowsIdeal.sig) → Buf (Elt Ideal) ℓ) : Prop :=
  True

def Pre_GradRowsRefIdeal (m : (ℓ : Loc Cert.GradRowsRefIdeal.nD Cert.GradRowsRefIdeal.τ Cert.GradRowsRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_CatIn (m : (ℓ : Loc Cert.CatIn.nD Cert.CatIn.τ Cert.CatIn.sig) → Buf (Elt Bits) ℓ) : Prop :=
  True

def Pre_CatInIdeal (m : (ℓ : Loc Cert.CatInIdeal.nD Cert.CatInIdeal.τ Cert.CatInIdeal.sig) → Buf (Elt Ideal) ℓ) : Prop :=
  True

def Pre_CatInRefIdeal (m : (ℓ : Loc Cert.CatInRefIdeal.nD Cert.CatInRefIdeal.τ Cert.CatInRefIdeal.sig) → Buf (Elt Ideal) ℓ) : Prop :=
  True

def Pre_BranchOut (m : (ℓ : Loc Cert.BranchOut.nD Cert.BranchOut.τ Cert.BranchOut.sig) → Buf (Elt Bits) ℓ) : Prop :=
  True

def Pre_BranchOutIdeal (m : (ℓ : Loc Cert.BranchOutIdeal.nD Cert.BranchOutIdeal.τ Cert.BranchOutIdeal.sig) → Buf (Elt Ideal) ℓ) : Prop :=
  True

def Pre_BranchOutRefIdeal (m : (ℓ : Loc Cert.BranchOutRefIdeal.nD Cert.BranchOutRefIdeal.τ Cert.BranchOutRefIdeal.sig) → Buf (Elt Ideal) ℓ) : Prop :=
  True

def Pre_DownOut (m : (ℓ : Loc Cert.DownOut.nD Cert.DownOut.τ Cert.DownOut.sig) → Buf (Elt Bits) ℓ) : Prop :=
  True

def Pre_DownOutIdeal (m : (ℓ : Loc Cert.DownOutIdeal.nD Cert.DownOutIdeal.τ Cert.DownOutIdeal.sig) → Buf (Elt Ideal) ℓ) : Prop :=
  True

def Pre_DownOutRefIdeal (m : (ℓ : Loc Cert.DownOutRefIdeal.nD Cert.DownOutRefIdeal.τ Cert.DownOutRefIdeal.sig) → Buf (Elt Ideal) ℓ) : Prop :=
  True

def Pre_QueryIn (m : (ℓ : Loc Cert.QueryIn.nD Cert.QueryIn.τ Cert.QueryIn.sig) → Buf (Elt Bits) ℓ) : Prop :=
  True

def Pre_QueryInIdeal (m : (ℓ : Loc Cert.QueryInIdeal.nD Cert.QueryInIdeal.τ Cert.QueryInIdeal.sig) → Buf (Elt Ideal) ℓ) : Prop :=
  True

def Pre_QueryInRefIdeal (m : (ℓ : Loc Cert.QueryInRefIdeal.nD Cert.QueryInRefIdeal.τ Cert.QueryInRefIdeal.sig) → Buf (Elt Ideal) ℓ) : Prop :=
  True

def Pre_RowsIn (m : (ℓ : Loc Cert.RowsIn.nD Cert.RowsIn.τ Cert.RowsIn.sig) → Buf (Elt Bits) ℓ) : Prop :=
  True

def Pre_RowsInIdeal (m : (ℓ : Loc Cert.RowsInIdeal.nD Cert.RowsInIdeal.τ Cert.RowsInIdeal.sig) → Buf (Elt Ideal) ℓ) : Prop :=
  True

def Pre_RowsInRefIdeal (m : (ℓ : Loc Cert.RowsInRefIdeal.nD Cert.RowsInRefIdeal.τ Cert.RowsInRefIdeal.sig) → Buf (Elt Ideal) ℓ) : Prop :=
  True

def Pre_Reads (m : (ℓ : Loc Cert.Reads.nD Cert.Reads.τ Cert.Reads.sig) → Buf (Elt Bits) ℓ) : Prop :=
  True

def Pre_ReadsIdeal (m : (ℓ : Loc Cert.ReadsIdeal.nD Cert.ReadsIdeal.τ Cert.ReadsIdeal.sig) → Buf (Elt Ideal) ℓ) : Prop :=
  True

def Pre_ReadsRefIdeal (m : (ℓ : Loc Cert.ReadsRefIdeal.nD Cert.ReadsRefIdeal.τ Cert.ReadsRefIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysRefIdeal (m : (ℓ : Loc Cert.KeysRefIdeal.nD Cert.KeysRefIdeal.τ Cert.KeysRefIdeal.sig) → Buf (Elt Ideal) ℓ) : Prop :=
  True

def Pre_KeyGrad (m : (ℓ : Loc Cert.KeyGrad.nD Cert.KeyGrad.τ Cert.KeyGrad.sig) → Buf (Elt Bits) ℓ) : Prop :=
  True

def Pre_KeyGradIdeal (m : (ℓ : Loc Cert.KeyGradIdeal.nD Cert.KeyGradIdeal.τ Cert.KeyGradIdeal.sig) → Buf (Elt Ideal) ℓ) : Prop :=
  True

def Pre_KeyGradRefIdeal (m : (ℓ : Loc Cert.KeyGradRefIdeal.nD Cert.KeyGradRefIdeal.τ Cert.KeyGradRefIdeal.sig) → Buf (Elt Ideal) ℓ) : Prop :=
  True

def Pre_MemIn (m : (ℓ : Loc Cert.MemIn.nD Cert.MemIn.τ Cert.MemIn.sig) → Buf (Elt Bits) ℓ) : Prop :=
  True

def Pre_MemInIdeal (m : (ℓ : Loc Cert.MemInIdeal.nD Cert.MemInIdeal.τ Cert.MemInIdeal.sig) → Buf (Elt Ideal) ℓ) : Prop :=
  True

def Pre_MemInRefIdeal (m : (ℓ : Loc Cert.MemInRefIdeal.nD Cert.MemInRefIdeal.τ Cert.MemInRefIdeal.sig) → Buf (Elt Ideal) ℓ) : Prop :=
  True

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_MemGain (m : (ℓ : Loc Cert.MemGain.nD Cert.MemGain.τ Cert.MemGain.sig) → Buf (Elt Bits) ℓ) : Prop :=
  True

def Pre_MemGainIdeal (m : (ℓ : Loc Cert.MemGainIdeal.nD Cert.MemGainIdeal.τ Cert.MemGainIdeal.sig) → Buf (Elt Ideal) ℓ) : Prop :=
  True

def Pre_MemGainRefIdeal (m : (ℓ : Loc Cert.MemGainRefIdeal.nD Cert.MemGainRefIdeal.τ Cert.MemGainRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_scores_finite [hAttnIdeal : Cert.AttnIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_scores_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_scores_finite [hAttnRefIdeal : Cert.AttnRefIdeal.Facts] [hPre_scores_finite : Cert.Pre_scores_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_scores_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ r.2.sem = fun _ => 0)

def quiescent_UpGradRefIdeal [hUpGradRefIdeal : Cert.UpGradRefIdeal.Facts] : Prop :=
  ∀ (m : (ℓ : Loc Cert.UpGradRefIdeal.nD Cert.UpGradRefIdeal.τ Cert.UpGradRefIdeal.sig) → Buf (Elt Ideal) ℓ) (g : Dev Cert.UpGradRefIdeal.nD → PrngReg), Pre_UpGradRefIdeal m →
    θ_run (Cert.UpGradRefIdeal.defs (F := Ideal)) (onTc (τ := Cert.UpGradRefIdeal.τ) (Cert.UpGradRefIdeal.main (F := Ideal))) ⟨m, fun _ => 0, g⟩ (fun r => (∀ c : Dev Cert.UpGradRefIdeal.nD,
      r.2.mem ((c.tc : Thread Cert.UpGradRefIdeal.nD Cert.UpGradRefIdeal.τ).loc Cert.UpGradRefIdeal.main_arg0) = m ((c.tc : Thread Cert.UpGradRefIdeal.nD Cert.UpGradRefIdeal.τ).loc Cert.UpGradRefIdeal.main_arg0)
      ∧ r.2.mem ((c.tc : Thread Cert.UpGradRefIdeal.nD Cert.UpGradRefIdeal.τ).loc Cert.UpGradRefIdeal.main_arg1) = m ((c.tc : Thread Cert.UpGradRefIdeal.nD Cert.UpGradRefIdeal.τ).loc Cert.UpGradRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_DownIn [hDownIn : Cert.DownIn.Facts] : Prop :=
  ∀ (m : (ℓ : Loc Cert.DownIn.nD Cert.DownIn.τ Cert.DownIn.sig) → Buf (Elt Bits) ℓ) (g : Dev Cert.DownIn.nD → PrngReg), Pre_DownIn m →
    θ_run (Cert.DownIn.defs (F := Bits)) (onTc (τ := Cert.DownIn.τ) (Cert.DownIn.main (F := Bits))) ⟨m, fun _ => 0, g⟩ (fun r => (∀ c : Dev Cert.DownIn.nD,
      r.2.mem ((c.tc : Thread Cert.DownIn.nD Cert.DownIn.τ).loc Cert.DownIn.main_arg0) = m ((c.tc : Thread Cert.DownIn.nD Cert.DownIn.τ).loc Cert.DownIn.main_arg0)
      ∧ r.2.mem ((c.tc : Thread Cert.DownIn.nD Cert.DownIn.τ).loc Cert.DownIn.main_arg1) = m ((c.tc : Thread Cert.DownIn.nD Cert.DownIn.τ).loc Cert.DownIn.main_arg1))
      ∧ r.2.sem = fun _ => 0)

def quiescent_DownInIdeal [hDownInIdeal : Cert.DownInIdeal.Facts] : Prop :=
  ∀ (m : (ℓ : Loc Cert.DownInIdeal.nD Cert.DownInIdeal.τ Cert.DownInIdeal.sig) → Buf (Elt Ideal) ℓ) (g : Dev Cert.DownInIdeal.nD → PrngReg), Pre_DownInIdeal m →
    θ_run (Cert.DownInIdeal.defs (F := Ideal)) (onTc (τ := Cert.DownInIdeal.τ) (Cert.DownInIdeal.main (F := Ideal))) ⟨m, fun _ => 0, g⟩ (fun r => (∀ c : Dev Cert.DownInIdeal.nD,
      r.2.mem ((c.tc : Thread Cert.DownInIdeal.nD Cert.DownInIdeal.τ).loc Cert.DownInIdeal.main_arg0) = m ((c.tc : Thread Cert.DownInIdeal.nD Cert.DownInIdeal.τ).loc Cert.DownInIdeal.main_arg0)
      ∧ r.2.mem ((c.tc : Thread Cert.DownInIdeal.nD Cert.DownInIdeal.τ).loc Cert.DownInIdeal.main_arg1) = m ((c.tc : Thread Cert.DownInIdeal.nD Cert.DownInIdeal.τ).loc Cert.DownInIdeal.main_arg1))
      ∧ r.2.sem = fun _ => 0)

def quiescent_DownInRefIdeal [hDownInRefIdeal : Cert.DownInRefIdeal.Facts] : Prop :=
  ∀ (m : (ℓ : Loc Cert.DownInRefIdeal.nD Cert.DownInRefIdeal.τ Cert.DownInRefIdeal.sig) → Buf (Elt Ideal) ℓ) (g : Dev Cert.DownInRefIdeal.nD → PrngReg), Pre_DownInRefIdeal m →
    θ_run (Cert.DownInRefIdeal.defs (F := Ideal)) (onTc (τ := Cert.DownInRefIdeal.τ) (Cert.DownInRefIdeal.main (F := Ideal))) ⟨m, fun _ => 0, g⟩ (fun r => (∀ c : Dev Cert.DownInRefIdeal.nD,
      r.2.mem ((c.tc : Thread Cert.DownInRefIdeal.nD Cert.DownInRefIdeal.τ).loc Cert.DownInRefIdeal.main_arg0) = m ((c.tc : Thread Cert.DownInRefIdeal.nD Cert.DownInRefIdeal.τ).loc Cert.DownInRefIdeal.main_arg0)
      ∧ r.2.mem ((c.tc : Thread Cert.DownInRefIdeal.nD Cert.DownInRefIdeal.τ).loc Cert.DownInRefIdeal.main_arg1) = m ((c.tc : Thread Cert.DownInRefIdeal.nD Cert.DownInRefIdeal.τ).loc Cert.DownInRefIdeal.main_arg1))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_MixGrad [hMixGrad : Cert.MixGrad.Facts] : Prop :=
  ∀ (m : (ℓ : Loc Cert.MixGrad.nD Cert.MixGrad.τ Cert.MixGrad.sig) → Buf (Elt Bits) ℓ) (g : Dev Cert.MixGrad.nD → PrngReg), Pre_MixGrad m →
    θ_run (Cert.MixGrad.defs (F := Bits)) (onTc (τ := Cert.MixGrad.τ) (Cert.MixGrad.main (F := Bits))) ⟨m, fun _ => 0, g⟩ (fun r => (∀ c : Dev Cert.MixGrad.nD,
      r.2.mem ((c.tc : Thread Cert.MixGrad.nD Cert.MixGrad.τ).loc Cert.MixGrad.main_arg0) = m ((c.tc : Thread Cert.MixGrad.nD Cert.MixGrad.τ).loc Cert.MixGrad.main_arg0)
      ∧ r.2.mem ((c.tc : Thread Cert.MixGrad.nD Cert.MixGrad.τ).loc Cert.MixGrad.main_arg1) = m ((c.tc : Thread Cert.MixGrad.nD Cert.MixGrad.τ).loc Cert.MixGrad.main_arg1))
      ∧ r.2.sem = fun _ => 0)

def quiescent_MixGradIdeal [hMixGradIdeal : Cert.MixGradIdeal.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1))
      ∧ r.2.sem = fun _ => 0)

def quiescent_MixGradRefIdeal [hMixGradRefIdeal : Cert.MixGradRefIdeal.Facts] : Prop :=
  ∀ (m : (ℓ : Loc Cert.MixGradRefIdeal.nD Cert.MixGradRefIdeal.τ Cert.MixGradRefIdeal.sig) → Buf (Elt Ideal) ℓ) (g : Dev Cert.MixGradRefIdeal.nD → PrngReg), Pre_MixGradRefIdeal m →
    θ_run (Cert.MixGradRefIdeal.defs (F := Ideal)) (onTc (τ := Cert.MixGradRefIdeal.τ) (Cert.MixGradRefIdeal.main (F := Ideal))) ⟨m, fun _ => 0, g⟩ (fun r => (∀ c : Dev Cert.MixGradRefIdeal.nD,
      r.2.mem ((c.tc : Thread Cert.MixGradRefIdeal.nD Cert.MixGradRefIdeal.τ).loc Cert.MixGradRefIdeal.main_arg0) = m ((c.tc : Thread Cert.MixGradRefIdeal.nD Cert.MixGradRefIdeal.τ).loc Cert.MixGradRefIdeal.main_arg0)
      ∧ r.2.mem ((c.tc : Thread Cert.MixGradRefIdeal.nD Cert.MixGradRefIdeal.τ).loc Cert.MixGradRefIdeal.main_arg1) = m ((c.tc : Thread Cert.MixGradRefIdeal.nD Cert.MixGradRefIdeal.τ).loc Cert.MixGradRefIdeal.main_arg1))
      ∧ r.2.sem = fun _ => 0)

def quiescent_OutIn [hOutIn : Cert.OutIn.Facts] : Prop :=
  ∀ (m : (ℓ : Loc Cert.OutIn.nD Cert.OutIn.τ Cert.OutIn.sig) → Buf (Elt Bits) ℓ) (g : Dev Cert.OutIn.nD → PrngReg), Pre_OutIn m →
    θ_run (Cert.OutIn.defs (F := Bits)) (onTc (τ := Cert.OutIn.τ) (Cert.OutIn.main (F := Bits))) ⟨m, fun _ => 0, g⟩ (fun r => (∀ c : Dev Cert.OutIn.nD,
      r.2.mem ((c.tc : Thread Cert.OutIn.nD Cert.OutIn.τ).loc Cert.OutIn.main_arg0) = m ((c.tc : Thread Cert.OutIn.nD Cert.OutIn.τ).loc Cert.OutIn.main_arg0)
      ∧ r.2.mem ((c.tc : Thread Cert.OutIn.nD Cert.OutIn.τ).loc Cert.OutIn.main_arg1) = m ((c.tc : Thread Cert.OutIn.nD Cert.OutIn.τ).loc Cert.OutIn.main_arg1))
      ∧ r.2.sem = fun _ => 0)

def quiescent_OutInIdeal [hOutInIdeal : Cert.OutInIdeal.Facts] : Prop :=
  ∀ (m : (ℓ : Loc Cert.OutInIdeal.nD Cert.OutInIdeal.τ Cert.OutInIdeal.sig) → Buf (Elt Ideal) ℓ) (g : Dev Cert.OutInIdeal.nD → PrngReg), Pre_OutInIdeal m →
    θ_run (Cert.OutInIdeal.defs (F := Ideal)) (onTc (τ := Cert.OutInIdeal.τ) (Cert.OutInIdeal.main (F := Ideal))) ⟨m, fun _ => 0, g⟩ (fun r => (∀ c : Dev Cert.OutInIdeal.nD,
      r.2.mem ((c.tc : Thread Cert.OutInIdeal.nD Cert.OutInIdeal.τ).loc Cert.OutInIdeal.main_arg0) = m ((c.tc : Thread Cert.OutInIdeal.nD Cert.OutInIdeal.τ).loc Cert.OutInIdeal.main_arg0)
      ∧ r.2.mem ((c.tc : Thread Cert.OutInIdeal.nD Cert.OutInIdeal.τ).loc Cert.OutInIdeal.main_arg1) = m ((c.tc : Thread Cert.OutInIdeal.nD Cert.OutInIdeal.τ).loc Cert.OutInIdeal.main_arg1))
      ∧ r.2.sem = fun _ => 0)

def quiescent_OutInRefIdeal [hOutInRefIdeal : Cert.OutInRefIdeal.Facts] : Prop :=
  ∀ (m : (ℓ : Loc Cert.OutInRefIdeal.nD Cert.OutInRefIdeal.τ Cert.OutInRefIdeal.sig) → Buf (Elt Ideal) ℓ) (g : Dev Cert.OutInRefIdeal.nD → PrngReg), Pre_OutInRefIdeal m →
    θ_run (Cert.OutInRefIdeal.defs (F := Ideal)) (onTc (τ := Cert.OutInRefIdeal.τ) (Cert.OutInRefIdeal.main (F := Ideal))) ⟨m, fun _ => 0, g⟩ (fun r => (∀ c : Dev Cert.OutInRefIdeal.nD,
      r.2.mem ((c.tc : Thread Cert.OutInRefIdeal.nD Cert.OutInRefIdeal.τ).loc Cert.OutInRefIdeal.main_arg0) = m ((c.tc : Thread Cert.OutInRefIdeal.nD Cert.OutInRefIdeal.τ).loc Cert.OutInRefIdeal.main_arg0)
      ∧ r.2.mem ((c.tc : Thread Cert.OutInRefIdeal.nD Cert.OutInRefIdeal.τ).loc Cert.OutInRefIdeal.main_arg1) = m ((c.tc : Thread Cert.OutInRefIdeal.nD Cert.OutInRefIdeal.τ).loc Cert.OutInRefIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_GradRows [hGradRows : Cert.GradRows.Facts] : Prop :=
  ∀ (m : (ℓ : Loc Cert.GradRows.nD Cert.GradRows.τ Cert.GradRows.sig) → Buf (Elt Bits) ℓ) (g : Dev Cert.GradRows.nD → PrngReg), Pre_GradRows m →
    θ_run (Cert.GradRows.defs (F := Bits)) (onTc (τ := Cert.GradRows.τ) (Cert.GradRows.main (F := Bits))) ⟨m, fun _ => 0, g⟩ (fun r => (∀ c : Dev Cert.GradRows.nD,
      r.2.mem ((c.tc : Thread Cert.GradRows.nD Cert.GradRows.τ).loc Cert.GradRows.main_arg0) = m ((c.tc : Thread Cert.GradRows.nD Cert.GradRows.τ).loc Cert.GradRows.main_arg0)
      ∧ r.2.mem ((c.tc : Thread Cert.GradRows.nD Cert.GradRows.τ).loc Cert.GradRows.main_arg1) = m ((c.tc : Thread Cert.GradRows.nD Cert.GradRows.τ).loc Cert.GradRows.main_arg1)
      ∧ r.2.mem ((c.tc : Thread Cert.GradRows.nD Cert.GradRows.τ).loc Cert.GradRows.main_arg2) = m ((c.tc : Thread Cert.GradRows.nD Cert.GradRows.τ).loc Cert.GradRows.main_arg2)
      ∧ r.2.mem ((c.tc : Thread Cert.GradRows.nD Cert.GradRows.τ).loc Cert.GradRows.main_arg3) = m ((c.tc : Thread Cert.GradRows.nD Cert.GradRows.τ).loc Cert.GradRows.main_arg3)
      ∧ r.2.mem ((c.tc : Thread Cert.GradRows.nD Cert.GradRows.τ).loc Cert.GradRows.main_arg4) = m ((c.tc : Thread Cert.GradRows.nD Cert.GradRows.τ).loc Cert.GradRows.main_arg4))
      ∧ r.2.sem = fun _ => 0)

def quiescent_GradRowsIdeal [hGradRowsIdeal : Cert.GradRowsIdeal.Facts] : Prop :=
  ∀ (m : (ℓ : Loc Cert.GradRowsIdeal.nD Cert.GradRowsIdeal.τ Cert.GradRowsIdeal.sig) → Buf (Elt Ideal) ℓ) (g : Dev Cert.GradRowsIdeal.nD → PrngReg), Pre_GradRowsIdeal m →
    θ_run (Cert.GradRowsIdeal.defs (F := Ideal)) (onTc (τ := Cert.GradRowsIdeal.τ) (Cert.GradRowsIdeal.main (F := Ideal))) ⟨m, fun _ => 0, g⟩ (fun r => (∀ c : Dev Cert.GradRowsIdeal.nD,
      r.2.mem ((c.tc : Thread Cert.GradRowsIdeal.nD Cert.GradRowsIdeal.τ).loc Cert.GradRowsIdeal.main_arg0) = m ((c.tc : Thread Cert.GradRowsIdeal.nD Cert.GradRowsIdeal.τ).loc Cert.GradRowsIdeal.main_arg0)
      ∧ r.2.mem ((c.tc : Thread Cert.GradRowsIdeal.nD Cert.GradRowsIdeal.τ).loc Cert.GradRowsIdeal.main_arg1) = m ((c.tc : Thread Cert.GradRowsIdeal.nD Cert.GradRowsIdeal.τ).loc Cert.GradRowsIdeal.main_arg1)
      ∧ r.2.mem ((c.tc : Thread Cert.GradRowsIdeal.nD Cert.GradRowsIdeal.τ).loc Cert.GradRowsIdeal.main_arg2) = m ((c.tc : Thread Cert.GradRowsIdeal.nD Cert.GradRowsIdeal.τ).loc Cert.GradRowsIdeal.main_arg2)
      ∧ r.2.mem ((c.tc : Thread Cert.GradRowsIdeal.nD Cert.GradRowsIdeal.τ).loc Cert.GradRowsIdeal.main_arg3) = m ((c.tc : Thread Cert.GradRowsIdeal.nD Cert.GradRowsIdeal.τ).loc Cert.GradRowsIdeal.main_arg3)
      ∧ r.2.mem ((c.tc : Thread Cert.GradRowsIdeal.nD Cert.GradRowsIdeal.τ).loc Cert.GradRowsIdeal.main_arg4) = m ((c.tc : Thread Cert.GradRowsIdeal.nD Cert.GradRowsIdeal.τ).loc Cert.GradRowsIdeal.main_arg4))
      ∧ r.2.sem = fun _ => 0)

def quiescent_GradRowsRefIdeal [hGradRowsRefIdeal : Cert.GradRowsRefIdeal.Facts] : Prop :=
  ∀ (m : (ℓ : Loc Cert.GradRowsRefIdeal.nD Cert.GradRowsRefIdeal.τ Cert.GradRowsRefIdeal.sig) → Buf (Elt Ideal) ℓ) (g : Dev Cert.GradRowsRefIdeal.nD → PrngReg), Pre_GradRowsRefIdeal m →
    θ_run (Cert.GradRowsRefIdeal.defs (F := Ideal)) (onTc (τ := Cert.GradRowsRefIdeal.τ) (Cert.GradRowsRefIdeal.main (F := Ideal))) ⟨m, fun _ => 0, g⟩ (fun r => (∀ c : Dev Cert.GradRowsRefIdeal.nD,
      r.2.mem ((c.tc : Thread Cert.GradRowsRefIdeal.nD Cert.GradRowsRefIdeal.τ).loc Cert.GradRowsRefIdeal.main_arg0) = m ((c.tc : Thread Cert.GradRowsRefIdeal.nD Cert.GradRowsRefIdeal.τ).loc Cert.GradRowsRefIdeal.main_arg0)
      ∧ r.2.mem ((c.tc : Thread Cert.GradRowsRefIdeal.nD Cert.GradRowsRefIdeal.τ).loc Cert.GradRowsRefIdeal.main_arg1) = m ((c.tc : Thread Cert.GradRowsRefIdeal.nD Cert.GradRowsRefIdeal.τ).loc Cert.GradRowsRefIdeal.main_arg1)
      ∧ r.2.mem ((c.tc : Thread Cert.GradRowsRefIdeal.nD Cert.GradRowsRefIdeal.τ).loc Cert.GradRowsRefIdeal.main_arg2) = m ((c.tc : Thread Cert.GradRowsRefIdeal.nD Cert.GradRowsRefIdeal.τ).loc Cert.GradRowsRefIdeal.main_arg2)
      ∧ r.2.mem ((c.tc : Thread Cert.GradRowsRefIdeal.nD Cert.GradRowsRefIdeal.τ).loc Cert.GradRowsRefIdeal.main_arg3) = m ((c.tc : Thread Cert.GradRowsRefIdeal.nD Cert.GradRowsRefIdeal.τ).loc Cert.GradRowsRefIdeal.main_arg3)
      ∧ r.2.mem ((c.tc : Thread Cert.GradRowsRefIdeal.nD Cert.GradRowsRefIdeal.τ).loc Cert.GradRowsRefIdeal.main_arg4) = m ((c.tc : Thread Cert.GradRowsRefIdeal.nD Cert.GradRowsRefIdeal.τ).loc Cert.GradRowsRefIdeal.main_arg4))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3)
      ∧ r.2.mem ((c.tc : Thread Cert.AdamSquare.nD Cert.AdamSquare.τ).loc Cert.AdamSquare.main_arg4) = m ((c.tc : Thread Cert.AdamSquare.nD Cert.AdamSquare.τ).loc Cert.AdamSquare.main_arg4))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
      ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3)
      ∧ r.2.mem ((c.tc : Thread Cert.AdamSquareRefIdeal.nD Cert.AdamSquareRefIdeal.τ).loc Cert.AdamSquareRefIdeal.main_arg4) = m ((c.tc : Thread Cert.AdamSquareRefIdeal.nD Cert.AdamSquareRefIdeal.τ).loc Cert.AdamSquareRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_CatIn [hCatIn : Cert.CatIn.Facts] : Prop :=
  ∀ (m : (ℓ : Loc Cert.CatIn.nD Cert.CatIn.τ Cert.CatIn.sig) → Buf (Elt Bits) ℓ) (g : Dev Cert.CatIn.nD → PrngReg), Pre_CatIn m →
    θ_run (Cert.CatIn.defs (F := Bits)) (onTc (τ := Cert.CatIn.τ) (Cert.CatIn.main (F := Bits))) ⟨m, fun _ => 0, g⟩ (fun r => (∀ c : Dev Cert.CatIn.nD,
      r.2.mem ((c.tc : Thread Cert.CatIn.nD Cert.CatIn.τ).loc Cert.CatIn.main_arg0) = m ((c.tc : Thread Cert.CatIn.nD Cert.CatIn.τ).loc Cert.CatIn.main_arg0)
      ∧ r.2.mem ((c.tc : Thread Cert.CatIn.nD Cert.CatIn.τ).loc Cert.CatIn.main_arg1) = m ((c.tc : Thread Cert.CatIn.nD Cert.CatIn.τ).loc Cert.CatIn.main_arg1))
      ∧ r.2.sem = fun _ => 0)

def quiescent_CatInIdeal [hCatInIdeal : Cert.CatInIdeal.Facts] : Prop :=
  ∀ (m : (ℓ : Loc Cert.CatInIdeal.nD Cert.CatInIdeal.τ Cert.CatInIdeal.sig) → Buf (Elt Ideal) ℓ) (g : Dev Cert.CatInIdeal.nD → PrngReg), Pre_CatInIdeal m →
    θ_run (Cert.CatInIdeal.defs (F := Ideal)) (onTc (τ := Cert.CatInIdeal.τ) (Cert.CatInIdeal.main (F := Ideal))) ⟨m, fun _ => 0, g⟩ (fun r => (∀ c : Dev Cert.CatInIdeal.nD,
      r.2.mem ((c.tc : Thread Cert.CatInIdeal.nD Cert.CatInIdeal.τ).loc Cert.CatInIdeal.main_arg0) = m ((c.tc : Thread Cert.CatInIdeal.nD Cert.CatInIdeal.τ).loc Cert.CatInIdeal.main_arg0)
      ∧ r.2.mem ((c.tc : Thread Cert.CatInIdeal.nD Cert.CatInIdeal.τ).loc Cert.CatInIdeal.main_arg1) = m ((c.tc : Thread Cert.CatInIdeal.nD Cert.CatInIdeal.τ).loc Cert.CatInIdeal.main_arg1))
      ∧ r.2.sem = fun _ => 0)

def quiescent_CatInRefIdeal [hCatInRefIdeal : Cert.CatInRefIdeal.Facts] : Prop :=
  ∀ (m : (ℓ : Loc Cert.CatInRefIdeal.nD Cert.CatInRefIdeal.τ Cert.CatInRefIdeal.sig) → Buf (Elt Ideal) ℓ) (g : Dev Cert.CatInRefIdeal.nD → PrngReg), Pre_CatInRefIdeal m →
    θ_run (Cert.CatInRefIdeal.defs (F := Ideal)) (onTc (τ := Cert.CatInRefIdeal.τ) (Cert.CatInRefIdeal.main (F := Ideal))) ⟨m, fun _ => 0, g⟩ (fun r => (∀ c : Dev Cert.CatInRefIdeal.nD,
      r.2.mem ((c.tc : Thread Cert.CatInRefIdeal.nD Cert.CatInRefIdeal.τ).loc Cert.CatInRefIdeal.main_arg0) = m ((c.tc : Thread Cert.CatInRefIdeal.nD Cert.CatInRefIdeal.τ).loc Cert.CatInRefIdeal.main_arg0)
      ∧ r.2.mem ((c.tc : Thread Cert.CatInRefIdeal.nD Cert.CatInRefIdeal.τ).loc Cert.CatInRefIdeal.main_arg1) = m ((c.tc : Thread Cert.CatInRefIdeal.nD Cert.CatInRefIdeal.τ).loc Cert.CatInRefIdeal.main_arg1))
      ∧ r.2.sem = fun _ => 0)

def quiescent_BranchOut [hBranchOut : Cert.BranchOut.Facts] : Prop :=
  ∀ (m : (ℓ : Loc Cert.BranchOut.nD Cert.BranchOut.τ Cert.BranchOut.sig) → Buf (Elt Bits) ℓ) (g : Dev Cert.BranchOut.nD → PrngReg), Pre_BranchOut m →
    θ_run (Cert.BranchOut.defs (F := Bits)) (onTc (τ := Cert.BranchOut.τ) (Cert.BranchOut.main (F := Bits))) ⟨m, fun _ => 0, g⟩ (fun r => (∀ c : Dev Cert.BranchOut.nD,
      r.2.mem ((c.tc : Thread Cert.BranchOut.nD Cert.BranchOut.τ).loc Cert.BranchOut.main_arg0) = m ((c.tc : Thread Cert.BranchOut.nD Cert.BranchOut.τ).loc Cert.BranchOut.main_arg0)
      ∧ r.2.mem ((c.tc : Thread Cert.BranchOut.nD Cert.BranchOut.τ).loc Cert.BranchOut.main_arg1) = m ((c.tc : Thread Cert.BranchOut.nD Cert.BranchOut.τ).loc Cert.BranchOut.main_arg1)
      ∧ r.2.mem ((c.tc : Thread Cert.BranchOut.nD Cert.BranchOut.τ).loc Cert.BranchOut.main_arg2) = m ((c.tc : Thread Cert.BranchOut.nD Cert.BranchOut.τ).loc Cert.BranchOut.main_arg2)
      ∧ r.2.mem ((c.tc : Thread Cert.BranchOut.nD Cert.BranchOut.τ).loc Cert.BranchOut.main_arg3) = m ((c.tc : Thread Cert.BranchOut.nD Cert.BranchOut.τ).loc Cert.BranchOut.main_arg3)
      ∧ r.2.mem ((c.tc : Thread Cert.BranchOut.nD Cert.BranchOut.τ).loc Cert.BranchOut.main_arg4) = m ((c.tc : Thread Cert.BranchOut.nD Cert.BranchOut.τ).loc Cert.BranchOut.main_arg4))
      ∧ r.2.sem = fun _ => 0)

def quiescent_BranchOutIdeal [hBranchOutIdeal : Cert.BranchOutIdeal.Facts] : Prop :=
  ∀ (m : (ℓ : Loc Cert.BranchOutIdeal.nD Cert.BranchOutIdeal.τ Cert.BranchOutIdeal.sig) → Buf (Elt Ideal) ℓ) (g : Dev Cert.BranchOutIdeal.nD → PrngReg), Pre_BranchOutIdeal m →
    θ_run (Cert.BranchOutIdeal.defs (F := Ideal)) (onTc (τ := Cert.BranchOutIdeal.τ) (Cert.BranchOutIdeal.main (F := Ideal))) ⟨m, fun _ => 0, g⟩ (fun r => (∀ c : Dev Cert.BranchOutIdeal.nD,
      r.2.mem ((c.tc : Thread Cert.BranchOutIdeal.nD Cert.BranchOutIdeal.τ).loc Cert.BranchOutIdeal.main_arg0) = m ((c.tc : Thread Cert.BranchOutIdeal.nD Cert.BranchOutIdeal.τ).loc Cert.BranchOutIdeal.main_arg0)
      ∧ r.2.mem ((c.tc : Thread Cert.BranchOutIdeal.nD Cert.BranchOutIdeal.τ).loc Cert.BranchOutIdeal.main_arg1) = m ((c.tc : Thread Cert.BranchOutIdeal.nD Cert.BranchOutIdeal.τ).loc Cert.BranchOutIdeal.main_arg1)
      ∧ r.2.mem ((c.tc : Thread Cert.BranchOutIdeal.nD Cert.BranchOutIdeal.τ).loc Cert.BranchOutIdeal.main_arg2) = m ((c.tc : Thread Cert.BranchOutIdeal.nD Cert.BranchOutIdeal.τ).loc Cert.BranchOutIdeal.main_arg2)
      ∧ r.2.mem ((c.tc : Thread Cert.BranchOutIdeal.nD Cert.BranchOutIdeal.τ).loc Cert.BranchOutIdeal.main_arg3) = m ((c.tc : Thread Cert.BranchOutIdeal.nD Cert.BranchOutIdeal.τ).loc Cert.BranchOutIdeal.main_arg3)
      ∧ r.2.mem ((c.tc : Thread Cert.BranchOutIdeal.nD Cert.BranchOutIdeal.τ).loc Cert.BranchOutIdeal.main_arg4) = m ((c.tc : Thread Cert.BranchOutIdeal.nD Cert.BranchOutIdeal.τ).loc Cert.BranchOutIdeal.main_arg4))
      ∧ r.2.sem = fun _ => 0)

def quiescent_BranchOutRefIdeal [hBranchOutRefIdeal : Cert.BranchOutRefIdeal.Facts] : Prop :=
  ∀ (m : (ℓ : Loc Cert.BranchOutRefIdeal.nD Cert.BranchOutRefIdeal.τ Cert.BranchOutRefIdeal.sig) → Buf (Elt Ideal) ℓ) (g : Dev Cert.BranchOutRefIdeal.nD → PrngReg), Pre_BranchOutRefIdeal m →
    θ_run (Cert.BranchOutRefIdeal.defs (F := Ideal)) (onTc (τ := Cert.BranchOutRefIdeal.τ) (Cert.BranchOutRefIdeal.main (F := Ideal))) ⟨m, fun _ => 0, g⟩ (fun r => (∀ c : Dev Cert.BranchOutRefIdeal.nD,
      r.2.mem ((c.tc : Thread Cert.BranchOutRefIdeal.nD Cert.BranchOutRefIdeal.τ).loc Cert.BranchOutRefIdeal.main_arg0) = m ((c.tc : Thread Cert.BranchOutRefIdeal.nD Cert.BranchOutRefIdeal.τ).loc Cert.BranchOutRefIdeal.main_arg0)
      ∧ r.2.mem ((c.tc : Thread Cert.BranchOutRefIdeal.nD Cert.BranchOutRefIdeal.τ).loc Cert.BranchOutRefIdeal.main_arg1) = m ((c.tc : Thread Cert.BranchOutRefIdeal.nD Cert.BranchOutRefIdeal.τ).loc Cert.BranchOutRefIdeal.main_arg1)
      ∧ r.2.mem ((c.tc : Thread Cert.BranchOutRefIdeal.nD Cert.BranchOutRefIdeal.τ).loc Cert.BranchOutRefIdeal.main_arg2) = m ((c.tc : Thread Cert.BranchOutRefIdeal.nD Cert.BranchOutRefIdeal.τ).loc Cert.BranchOutRefIdeal.main_arg2)
      ∧ r.2.mem ((c.tc : Thread Cert.BranchOutRefIdeal.nD Cert.BranchOutRefIdeal.τ).loc Cert.BranchOutRefIdeal.main_arg3) = m ((c.tc : Thread Cert.BranchOutRefIdeal.nD Cert.BranchOutRefIdeal.τ).loc Cert.BranchOutRefIdeal.main_arg3)
      ∧ r.2.mem ((c.tc : Thread Cert.BranchOutRefIdeal.nD Cert.BranchOutRefIdeal.τ).loc Cert.BranchOutRefIdeal.main_arg4) = m ((c.tc : Thread Cert.BranchOutRefIdeal.nD Cert.BranchOutRefIdeal.τ).loc Cert.BranchOutRefIdeal.main_arg4))
      ∧ r.2.sem = fun _ => 0)

def quiescent_DownOut [hDownOut : Cert.DownOut.Facts] : Prop :=
  ∀ (m : (ℓ : Loc Cert.DownOut.nD Cert.DownOut.τ Cert.DownOut.sig) → Buf (Elt Bits) ℓ) (g : Dev Cert.DownOut.nD → PrngReg), Pre_DownOut m →
    θ_run (Cert.DownOut.defs (F := Bits)) (onTc (τ := Cert.DownOut.τ) (Cert.DownOut.main (F := Bits))) ⟨m, fun _ => 0, g⟩ (fun r => (∀ c : Dev Cert.DownOut.nD,
      r.2.mem ((c.tc : Thread Cert.DownOut.nD Cert.DownOut.τ).loc Cert.DownOut.main_arg0) = m ((c.tc : Thread Cert.DownOut.nD Cert.DownOut.τ).loc Cert.DownOut.main_arg0)
      ∧ r.2.mem ((c.tc : Thread Cert.DownOut.nD Cert.DownOut.τ).loc Cert.DownOut.main_arg1) = m ((c.tc : Thread Cert.DownOut.nD Cert.DownOut.τ).loc Cert.DownOut.main_arg1)
      ∧ r.2.mem ((c.tc : Thread Cert.DownOut.nD Cert.DownOut.τ).loc Cert.DownOut.main_arg2) = m ((c.tc : Thread Cert.DownOut.nD Cert.DownOut.τ).loc Cert.DownOut.main_arg2)
      ∧ r.2.mem ((c.tc : Thread Cert.DownOut.nD Cert.DownOut.τ).loc Cert.DownOut.main_arg3) = m ((c.tc : Thread Cert.DownOut.nD Cert.DownOut.τ).loc Cert.DownOut.main_arg3)
      ∧ r.2.mem ((c.tc : Thread Cert.DownOut.nD Cert.DownOut.τ).loc Cert.DownOut.main_arg4) = m ((c.tc : Thread Cert.DownOut.nD Cert.DownOut.τ).loc Cert.DownOut.main_arg4))
      ∧ r.2.sem = fun _ => 0)

def quiescent_DownOutIdeal [hDownOutIdeal : Cert.DownOutIdeal.Facts] : Prop :=
  ∀ (m : (ℓ : Loc Cert.DownOutIdeal.nD Cert.DownOutIdeal.τ Cert.DownOutIdeal.sig) → Buf (Elt Ideal) ℓ) (g : Dev Cert.DownOutIdeal.nD → PrngReg), Pre_DownOutIdeal m →
    θ_run (Cert.DownOutIdeal.defs (F := Ideal)) (onTc (τ := Cert.DownOutIdeal.τ) (Cert.DownOutIdeal.main (F := Ideal))) ⟨m, fun _ => 0, g⟩ (fun r => (∀ c : Dev Cert.DownOutIdeal.nD,
      r.2.mem ((c.tc : Thread Cert.DownOutIdeal.nD Cert.DownOutIdeal.τ).loc Cert.DownOutIdeal.main_arg0) = m ((c.tc : Thread Cert.DownOutIdeal.nD Cert.DownOutIdeal.τ).loc Cert.DownOutIdeal.main_arg0)
      ∧ r.2.mem ((c.tc : Thread Cert.DownOutIdeal.nD Cert.DownOutIdeal.τ).loc Cert.DownOutIdeal.main_arg1) = m ((c.tc : Thread Cert.DownOutIdeal.nD Cert.DownOutIdeal.τ).loc Cert.DownOutIdeal.main_arg1)
      ∧ r.2.mem ((c.tc : Thread Cert.DownOutIdeal.nD Cert.DownOutIdeal.τ).loc Cert.DownOutIdeal.main_arg2) = m ((c.tc : Thread Cert.DownOutIdeal.nD Cert.DownOutIdeal.τ).loc Cert.DownOutIdeal.main_arg2)
      ∧ r.2.mem ((c.tc : Thread Cert.DownOutIdeal.nD Cert.DownOutIdeal.τ).loc Cert.DownOutIdeal.main_arg3) = m ((c.tc : Thread Cert.DownOutIdeal.nD Cert.DownOutIdeal.τ).loc Cert.DownOutIdeal.main_arg3)
      ∧ r.2.mem ((c.tc : Thread Cert.DownOutIdeal.nD Cert.DownOutIdeal.τ).loc Cert.DownOutIdeal.main_arg4) = m ((c.tc : Thread Cert.DownOutIdeal.nD Cert.DownOutIdeal.τ).loc Cert.DownOutIdeal.main_arg4))
      ∧ r.2.sem = fun _ => 0)

def quiescent_DownOutRefIdeal [hDownOutRefIdeal : Cert.DownOutRefIdeal.Facts] : Prop :=
  ∀ (m : (ℓ : Loc Cert.DownOutRefIdeal.nD Cert.DownOutRefIdeal.τ Cert.DownOutRefIdeal.sig) → Buf (Elt Ideal) ℓ) (g : Dev Cert.DownOutRefIdeal.nD → PrngReg), Pre_DownOutRefIdeal m →
    θ_run (Cert.DownOutRefIdeal.defs (F := Ideal)) (onTc (τ := Cert.DownOutRefIdeal.τ) (Cert.DownOutRefIdeal.main (F := Ideal))) ⟨m, fun _ => 0, g⟩ (fun r => (∀ c : Dev Cert.DownOutRefIdeal.nD,
      r.2.mem ((c.tc : Thread Cert.DownOutRefIdeal.nD Cert.DownOutRefIdeal.τ).loc Cert.DownOutRefIdeal.main_arg0) = m ((c.tc : Thread Cert.DownOutRefIdeal.nD Cert.DownOutRefIdeal.τ).loc Cert.DownOutRefIdeal.main_arg0)
      ∧ r.2.mem ((c.tc : Thread Cert.DownOutRefIdeal.nD Cert.DownOutRefIdeal.τ).loc Cert.DownOutRefIdeal.main_arg1) = m ((c.tc : Thread Cert.DownOutRefIdeal.nD Cert.DownOutRefIdeal.τ).loc Cert.DownOutRefIdeal.main_arg1)
      ∧ r.2.mem ((c.tc : Thread Cert.DownOutRefIdeal.nD Cert.DownOutRefIdeal.τ).loc Cert.DownOutRefIdeal.main_arg2) = m ((c.tc : Thread Cert.DownOutRefIdeal.nD Cert.DownOutRefIdeal.τ).loc Cert.DownOutRefIdeal.main_arg2)
      ∧ r.2.mem ((c.tc : Thread Cert.DownOutRefIdeal.nD Cert.DownOutRefIdeal.τ).loc Cert.DownOutRefIdeal.main_arg3) = m ((c.tc : Thread Cert.DownOutRefIdeal.nD Cert.DownOutRefIdeal.τ).loc Cert.DownOutRefIdeal.main_arg3)
      ∧ r.2.mem ((c.tc : Thread Cert.DownOutRefIdeal.nD Cert.DownOutRefIdeal.τ).loc Cert.DownOutRefIdeal.main_arg4) = m ((c.tc : Thread Cert.DownOutRefIdeal.nD Cert.DownOutRefIdeal.τ).loc Cert.DownOutRefIdeal.main_arg4))
      ∧ r.2.sem = fun _ => 0)

def quiescent_QueryIn [hQueryIn : Cert.QueryIn.Facts] : Prop :=
  ∀ (m : (ℓ : Loc Cert.QueryIn.nD Cert.QueryIn.τ Cert.QueryIn.sig) → Buf (Elt Bits) ℓ) (g : Dev Cert.QueryIn.nD → PrngReg), Pre_QueryIn m →
    θ_run (Cert.QueryIn.defs (F := Bits)) (onTc (τ := Cert.QueryIn.τ) (Cert.QueryIn.main (F := Bits))) ⟨m, fun _ => 0, g⟩ (fun r => (∀ c : Dev Cert.QueryIn.nD,
      r.2.mem ((c.tc : Thread Cert.QueryIn.nD Cert.QueryIn.τ).loc Cert.QueryIn.main_arg0) = m ((c.tc : Thread Cert.QueryIn.nD Cert.QueryIn.τ).loc Cert.QueryIn.main_arg0)
      ∧ r.2.mem ((c.tc : Thread Cert.QueryIn.nD Cert.QueryIn.τ).loc Cert.QueryIn.main_arg1) = m ((c.tc : Thread Cert.QueryIn.nD Cert.QueryIn.τ).loc Cert.QueryIn.main_arg1)
      ∧ r.2.mem ((c.tc : Thread Cert.QueryIn.nD Cert.QueryIn.τ).loc Cert.QueryIn.main_arg2) = m ((c.tc : Thread Cert.QueryIn.nD Cert.QueryIn.τ).loc Cert.QueryIn.main_arg2)
      ∧ r.2.mem ((c.tc : Thread Cert.QueryIn.nD Cert.QueryIn.τ).loc Cert.QueryIn.main_arg3) = m ((c.tc : Thread Cert.QueryIn.nD Cert.QueryIn.τ).loc Cert.QueryIn.main_arg3)
      ∧ r.2.mem ((c.tc : Thread Cert.QueryIn.nD Cert.QueryIn.τ).loc Cert.QueryIn.main_arg4) = m ((c.tc : Thread Cert.QueryIn.nD Cert.QueryIn.τ).loc Cert.QueryIn.main_arg4)
      ∧ r.2.mem ((c.tc : Thread Cert.QueryIn.nD Cert.QueryIn.τ).loc Cert.QueryIn.main_arg5) = m ((c.tc : Thread Cert.QueryIn.nD Cert.QueryIn.τ).loc Cert.QueryIn.main_arg5)
      ∧ r.2.mem ((c.tc : Thread Cert.QueryIn.nD Cert.QueryIn.τ).loc Cert.QueryIn.main_arg6) = m ((c.tc : Thread Cert.QueryIn.nD Cert.QueryIn.τ).loc Cert.QueryIn.main_arg6))
      ∧ r.2.sem = fun _ => 0)

def quiescent_QueryInIdeal [hQueryInIdeal : Cert.QueryInIdeal.Facts] : Prop :=
  ∀ (m : (ℓ : Loc Cert.QueryInIdeal.nD Cert.QueryInIdeal.τ Cert.QueryInIdeal.sig) → Buf (Elt Ideal) ℓ) (g : Dev Cert.QueryInIdeal.nD → PrngReg), Pre_QueryInIdeal m →
    θ_run (Cert.QueryInIdeal.defs (F := Ideal)) (onTc (τ := Cert.QueryInIdeal.τ) (Cert.QueryInIdeal.main (F := Ideal))) ⟨m, fun _ => 0, g⟩ (fun r => (∀ c : Dev Cert.QueryInIdeal.nD,
      r.2.mem ((c.tc : Thread Cert.QueryInIdeal.nD Cert.QueryInIdeal.τ).loc Cert.QueryInIdeal.main_arg0) = m ((c.tc : Thread Cert.QueryInIdeal.nD Cert.QueryInIdeal.τ).loc Cert.QueryInIdeal.main_arg0)
      ∧ r.2.mem ((c.tc : Thread Cert.QueryInIdeal.nD Cert.QueryInIdeal.τ).loc Cert.QueryInIdeal.main_arg1) = m ((c.tc : Thread Cert.QueryInIdeal.nD Cert.QueryInIdeal.τ).loc Cert.QueryInIdeal.main_arg1)
      ∧ r.2.mem ((c.tc : Thread Cert.QueryInIdeal.nD Cert.QueryInIdeal.τ).loc Cert.QueryInIdeal.main_arg2) = m ((c.tc : Thread Cert.QueryInIdeal.nD Cert.QueryInIdeal.τ).loc Cert.QueryInIdeal.main_arg2)
      ∧ r.2.mem ((c.tc : Thread Cert.QueryInIdeal.nD Cert.QueryInIdeal.τ).loc Cert.QueryInIdeal.main_arg3) = m ((c.tc : Thread Cert.QueryInIdeal.nD Cert.QueryInIdeal.τ).loc Cert.QueryInIdeal.main_arg3)
      ∧ r.2.mem ((c.tc : Thread Cert.QueryInIdeal.nD Cert.QueryInIdeal.τ).loc Cert.QueryInIdeal.main_arg4) = m ((c.tc : Thread Cert.QueryInIdeal.nD Cert.QueryInIdeal.τ).loc Cert.QueryInIdeal.main_arg4)
      ∧ r.2.mem ((c.tc : Thread Cert.QueryInIdeal.nD Cert.QueryInIdeal.τ).loc Cert.QueryInIdeal.main_arg5) = m ((c.tc : Thread Cert.QueryInIdeal.nD Cert.QueryInIdeal.τ).loc Cert.QueryInIdeal.main_arg5)
      ∧ r.2.mem ((c.tc : Thread Cert.QueryInIdeal.nD Cert.QueryInIdeal.τ).loc Cert.QueryInIdeal.main_arg6) = m ((c.tc : Thread Cert.QueryInIdeal.nD Cert.QueryInIdeal.τ).loc Cert.QueryInIdeal.main_arg6))
      ∧ r.2.sem = fun _ => 0)

def quiescent_QueryInRefIdeal [hQueryInRefIdeal : Cert.QueryInRefIdeal.Facts] : Prop :=
  ∀ (m : (ℓ : Loc Cert.QueryInRefIdeal.nD Cert.QueryInRefIdeal.τ Cert.QueryInRefIdeal.sig) → Buf (Elt Ideal) ℓ) (g : Dev Cert.QueryInRefIdeal.nD → PrngReg), Pre_QueryInRefIdeal m →
    θ_run (Cert.QueryInRefIdeal.defs (F := Ideal)) (onTc (τ := Cert.QueryInRefIdeal.τ) (Cert.QueryInRefIdeal.main (F := Ideal))) ⟨m, fun _ => 0, g⟩ (fun r => (∀ c : Dev Cert.QueryInRefIdeal.nD,
      r.2.mem ((c.tc : Thread Cert.QueryInRefIdeal.nD Cert.QueryInRefIdeal.τ).loc Cert.QueryInRefIdeal.main_arg0) = m ((c.tc : Thread Cert.QueryInRefIdeal.nD Cert.QueryInRefIdeal.τ).loc Cert.QueryInRefIdeal.main_arg0)
      ∧ r.2.mem ((c.tc : Thread Cert.QueryInRefIdeal.nD Cert.QueryInRefIdeal.τ).loc Cert.QueryInRefIdeal.main_arg1) = m ((c.tc : Thread Cert.QueryInRefIdeal.nD Cert.QueryInRefIdeal.τ).loc Cert.QueryInRefIdeal.main_arg1)
      ∧ r.2.mem ((c.tc : Thread Cert.QueryInRefIdeal.nD Cert.QueryInRefIdeal.τ).loc Cert.QueryInRefIdeal.main_arg2) = m ((c.tc : Thread Cert.QueryInRefIdeal.nD Cert.QueryInRefIdeal.τ).loc Cert.QueryInRefIdeal.main_arg2)
      ∧ r.2.mem ((c.tc : Thread Cert.QueryInRefIdeal.nD Cert.QueryInRefIdeal.τ).loc Cert.QueryInRefIdeal.main_arg3) = m ((c.tc : Thread Cert.QueryInRefIdeal.nD Cert.QueryInRefIdeal.τ).loc Cert.QueryInRefIdeal.main_arg3)
      ∧ r.2.mem ((c.tc : Thread Cert.QueryInRefIdeal.nD Cert.QueryInRefIdeal.τ).loc Cert.QueryInRefIdeal.main_arg4) = m ((c.tc : Thread Cert.QueryInRefIdeal.nD Cert.QueryInRefIdeal.τ).loc Cert.QueryInRefIdeal.main_arg4)
      ∧ r.2.mem ((c.tc : Thread Cert.QueryInRefIdeal.nD Cert.QueryInRefIdeal.τ).loc Cert.QueryInRefIdeal.main_arg5) = m ((c.tc : Thread Cert.QueryInRefIdeal.nD Cert.QueryInRefIdeal.τ).loc Cert.QueryInRefIdeal.main_arg5)
      ∧ r.2.mem ((c.tc : Thread Cert.QueryInRefIdeal.nD Cert.QueryInRefIdeal.τ).loc Cert.QueryInRefIdeal.main_arg6) = m ((c.tc : Thread Cert.QueryInRefIdeal.nD Cert.QueryInRefIdeal.τ).loc Cert.QueryInRefIdeal.main_arg6))
      ∧ r.2.sem = fun _ => 0)

def quiescent_RowsIn [hRowsIn : Cert.RowsIn.Facts] : Prop :=
  ∀ (m : (ℓ : Loc Cert.RowsIn.nD Cert.RowsIn.τ Cert.RowsIn.sig) → Buf (Elt Bits) ℓ) (g : Dev Cert.RowsIn.nD → PrngReg), Pre_RowsIn m →
    θ_run (Cert.RowsIn.defs (F := Bits)) (onTc (τ := Cert.RowsIn.τ) (Cert.RowsIn.main (F := Bits))) ⟨m, fun _ => 0, g⟩ (fun r => (∀ c : Dev Cert.RowsIn.nD,
      r.2.mem ((c.tc : Thread Cert.RowsIn.nD Cert.RowsIn.τ).loc Cert.RowsIn.main_arg0) = m ((c.tc : Thread Cert.RowsIn.nD Cert.RowsIn.τ).loc Cert.RowsIn.main_arg0)
      ∧ r.2.mem ((c.tc : Thread Cert.RowsIn.nD Cert.RowsIn.τ).loc Cert.RowsIn.main_arg1) = m ((c.tc : Thread Cert.RowsIn.nD Cert.RowsIn.τ).loc Cert.RowsIn.main_arg1)
      ∧ r.2.mem ((c.tc : Thread Cert.RowsIn.nD Cert.RowsIn.τ).loc Cert.RowsIn.main_arg2) = m ((c.tc : Thread Cert.RowsIn.nD Cert.RowsIn.τ).loc Cert.RowsIn.main_arg2)
      ∧ r.2.mem ((c.tc : Thread Cert.RowsIn.nD Cert.RowsIn.τ).loc Cert.RowsIn.main_arg3) = m ((c.tc : Thread Cert.RowsIn.nD Cert.RowsIn.τ).loc Cert.RowsIn.main_arg3)
      ∧ r.2.mem ((c.tc : Thread Cert.RowsIn.nD Cert.RowsIn.τ).loc Cert.RowsIn.main_arg4) = m ((c.tc : Thread Cert.RowsIn.nD Cert.RowsIn.τ).loc Cert.RowsIn.main_arg4)
      ∧ r.2.mem ((c.tc : Thread Cert.RowsIn.nD Cert.RowsIn.τ).loc Cert.RowsIn.main_arg5) = m ((c.tc : Thread Cert.RowsIn.nD Cert.RowsIn.τ).loc Cert.RowsIn.main_arg5)
      ∧ r.2.mem ((c.tc : Thread Cert.RowsIn.nD Cert.RowsIn.τ).loc Cert.RowsIn.main_arg6) = m ((c.tc : Thread Cert.RowsIn.nD Cert.RowsIn.τ).loc Cert.RowsIn.main_arg6))
      ∧ r.2.sem = fun _ => 0)

def quiescent_RowsInIdeal [hRowsInIdeal : Cert.RowsInIdeal.Facts] : Prop :=
  ∀ (m : (ℓ : Loc Cert.RowsInIdeal.nD Cert.RowsInIdeal.τ Cert.RowsInIdeal.sig) → Buf (Elt Ideal) ℓ) (g : Dev Cert.RowsInIdeal.nD → PrngReg), Pre_RowsInIdeal m →
    θ_run (Cert.RowsInIdeal.defs (F := Ideal)) (onTc (τ := Cert.RowsInIdeal.τ) (Cert.RowsInIdeal.main (F := Ideal))) ⟨m, fun _ => 0, g⟩ (fun r => (∀ c : Dev Cert.RowsInIdeal.nD,
      r.2.mem ((c.tc : Thread Cert.RowsInIdeal.nD Cert.RowsInIdeal.τ).loc Cert.RowsInIdeal.main_arg0) = m ((c.tc : Thread Cert.RowsInIdeal.nD Cert.RowsInIdeal.τ).loc Cert.RowsInIdeal.main_arg0)
      ∧ r.2.mem ((c.tc : Thread Cert.RowsInIdeal.nD Cert.RowsInIdeal.τ).loc Cert.RowsInIdeal.main_arg1) = m ((c.tc : Thread Cert.RowsInIdeal.nD Cert.RowsInIdeal.τ).loc Cert.RowsInIdeal.main_arg1)
      ∧ r.2.mem ((c.tc : Thread Cert.RowsInIdeal.nD Cert.RowsInIdeal.τ).loc Cert.RowsInIdeal.main_arg2) = m ((c.tc : Thread Cert.RowsInIdeal.nD Cert.RowsInIdeal.τ).loc Cert.RowsInIdeal.main_arg2)
      ∧ r.2.mem ((c.tc : Thread Cert.RowsInIdeal.nD Cert.RowsInIdeal.τ).loc Cert.RowsInIdeal.main_arg3) = m ((c.tc : Thread Cert.RowsInIdeal.nD Cert.RowsInIdeal.τ).loc Cert.RowsInIdeal.main_arg3)
      ∧ r.2.mem ((c.tc : Thread Cert.RowsInIdeal.nD Cert.RowsInIdeal.τ).loc Cert.RowsInIdeal.main_arg4) = m ((c.tc : Thread Cert.RowsInIdeal.nD Cert.RowsInIdeal.τ).loc Cert.RowsInIdeal.main_arg4)
      ∧ r.2.mem ((c.tc : Thread Cert.RowsInIdeal.nD Cert.RowsInIdeal.τ).loc Cert.RowsInIdeal.main_arg5) = m ((c.tc : Thread Cert.RowsInIdeal.nD Cert.RowsInIdeal.τ).loc Cert.RowsInIdeal.main_arg5)
      ∧ r.2.mem ((c.tc : Thread Cert.RowsInIdeal.nD Cert.RowsInIdeal.τ).loc Cert.RowsInIdeal.main_arg6) = m ((c.tc : Thread Cert.RowsInIdeal.nD Cert.RowsInIdeal.τ).loc Cert.RowsInIdeal.main_arg6))
      ∧ r.2.sem = fun _ => 0)

def quiescent_RowsInRefIdeal [hRowsInRefIdeal : Cert.RowsInRefIdeal.Facts] : Prop :=
  ∀ (m : (ℓ : Loc Cert.RowsInRefIdeal.nD Cert.RowsInRefIdeal.τ Cert.RowsInRefIdeal.sig) → Buf (Elt Ideal) ℓ) (g : Dev Cert.RowsInRefIdeal.nD → PrngReg), Pre_RowsInRefIdeal m →
    θ_run (Cert.RowsInRefIdeal.defs (F := Ideal)) (onTc (τ := Cert.RowsInRefIdeal.τ) (Cert.RowsInRefIdeal.main (F := Ideal))) ⟨m, fun _ => 0, g⟩ (fun r => (∀ c : Dev Cert.RowsInRefIdeal.nD,
      r.2.mem ((c.tc : Thread Cert.RowsInRefIdeal.nD Cert.RowsInRefIdeal.τ).loc Cert.RowsInRefIdeal.main_arg0) = m ((c.tc : Thread Cert.RowsInRefIdeal.nD Cert.RowsInRefIdeal.τ).loc Cert.RowsInRefIdeal.main_arg0)
      ∧ r.2.mem ((c.tc : Thread Cert.RowsInRefIdeal.nD Cert.RowsInRefIdeal.τ).loc Cert.RowsInRefIdeal.main_arg1) = m ((c.tc : Thread Cert.RowsInRefIdeal.nD Cert.RowsInRefIdeal.τ).loc Cert.RowsInRefIdeal.main_arg1)
      ∧ r.2.mem ((c.tc : Thread Cert.RowsInRefIdeal.nD Cert.RowsInRefIdeal.τ).loc Cert.RowsInRefIdeal.main_arg2) = m ((c.tc : Thread Cert.RowsInRefIdeal.nD Cert.RowsInRefIdeal.τ).loc Cert.RowsInRefIdeal.main_arg2)
      ∧ r.2.mem ((c.tc : Thread Cert.RowsInRefIdeal.nD Cert.RowsInRefIdeal.τ).loc Cert.RowsInRefIdeal.main_arg3) = m ((c.tc : Thread Cert.RowsInRefIdeal.nD Cert.RowsInRefIdeal.τ).loc Cert.RowsInRefIdeal.main_arg3)
      ∧ r.2.mem ((c.tc : Thread Cert.RowsInRefIdeal.nD Cert.RowsInRefIdeal.τ).loc Cert.RowsInRefIdeal.main_arg4) = m ((c.tc : Thread Cert.RowsInRefIdeal.nD Cert.RowsInRefIdeal.τ).loc Cert.RowsInRefIdeal.main_arg4)
      ∧ r.2.mem ((c.tc : Thread Cert.RowsInRefIdeal.nD Cert.RowsInRefIdeal.τ).loc Cert.RowsInRefIdeal.main_arg5) = m ((c.tc : Thread Cert.RowsInRefIdeal.nD Cert.RowsInRefIdeal.τ).loc Cert.RowsInRefIdeal.main_arg5)
      ∧ r.2.mem ((c.tc : Thread Cert.RowsInRefIdeal.nD Cert.RowsInRefIdeal.τ).loc Cert.RowsInRefIdeal.main_arg6) = m ((c.tc : Thread Cert.RowsInRefIdeal.nD Cert.RowsInRefIdeal.τ).loc Cert.RowsInRefIdeal.main_arg6))
      ∧ r.2.sem = fun _ => 0)

def quiescent_Reads [hReads : Cert.Reads.Facts] : Prop :=
  ∀ (m : (ℓ : Loc Cert.Reads.nD Cert.Reads.τ Cert.Reads.sig) → Buf (Elt Bits) ℓ) (g : Dev Cert.Reads.nD → PrngReg), Pre_Reads m →
    θ_run (Cert.Reads.defs (F := Bits)) (onTc (τ := Cert.Reads.τ) (Cert.Reads.main (F := Bits))) ⟨m, fun _ => 0, g⟩ (fun r => (∀ c : Dev Cert.Reads.nD,
      r.2.mem ((c.tc : Thread Cert.Reads.nD Cert.Reads.τ).loc Cert.Reads.main_arg0) = m ((c.tc : Thread Cert.Reads.nD Cert.Reads.τ).loc Cert.Reads.main_arg0)
      ∧ r.2.mem ((c.tc : Thread Cert.Reads.nD Cert.Reads.τ).loc Cert.Reads.main_arg1) = m ((c.tc : Thread Cert.Reads.nD Cert.Reads.τ).loc Cert.Reads.main_arg1)
      ∧ r.2.mem ((c.tc : Thread Cert.Reads.nD Cert.Reads.τ).loc Cert.Reads.main_arg2) = m ((c.tc : Thread Cert.Reads.nD Cert.Reads.τ).loc Cert.Reads.main_arg2))
      ∧ r.2.sem = fun _ => 0)

def quiescent_ReadsIdeal [hReadsIdeal : Cert.ReadsIdeal.Facts] : Prop :=
  ∀ (m : (ℓ : Loc Cert.ReadsIdeal.nD Cert.ReadsIdeal.τ Cert.ReadsIdeal.sig) → Buf (Elt Ideal) ℓ) (g : Dev Cert.ReadsIdeal.nD → PrngReg), Pre_ReadsIdeal m →
    θ_run (Cert.ReadsIdeal.defs (F := Ideal)) (onTc (τ := Cert.ReadsIdeal.τ) (Cert.ReadsIdeal.main (F := Ideal))) ⟨m, fun _ => 0, g⟩ (fun r => (∀ c : Dev Cert.ReadsIdeal.nD,
      r.2.mem ((c.tc : Thread Cert.ReadsIdeal.nD Cert.ReadsIdeal.τ).loc Cert.ReadsIdeal.main_arg0) = m ((c.tc : Thread Cert.ReadsIdeal.nD Cert.ReadsIdeal.τ).loc Cert.ReadsIdeal.main_arg0)
      ∧ r.2.mem ((c.tc : Thread Cert.ReadsIdeal.nD Cert.ReadsIdeal.τ).loc Cert.ReadsIdeal.main_arg1) = m ((c.tc : Thread Cert.ReadsIdeal.nD Cert.ReadsIdeal.τ).loc Cert.ReadsIdeal.main_arg1)
      ∧ r.2.mem ((c.tc : Thread Cert.ReadsIdeal.nD Cert.ReadsIdeal.τ).loc Cert.ReadsIdeal.main_arg2) = m ((c.tc : Thread Cert.ReadsIdeal.nD Cert.ReadsIdeal.τ).loc Cert.ReadsIdeal.main_arg2))
      ∧ r.2.sem = fun _ => 0)

def quiescent_ReadsRefIdeal [hReadsRefIdeal : Cert.ReadsRefIdeal.Facts] : Prop :=
  ∀ (m : (ℓ : Loc Cert.ReadsRefIdeal.nD Cert.ReadsRefIdeal.τ Cert.ReadsRefIdeal.sig) → Buf (Elt Ideal) ℓ) (g : Dev Cert.ReadsRefIdeal.nD → PrngReg), Pre_ReadsRefIdeal m →
    θ_run (Cert.ReadsRefIdeal.defs (F := Ideal)) (onTc (τ := Cert.ReadsRefIdeal.τ) (Cert.ReadsRefIdeal.main (F := Ideal))) ⟨m, fun _ => 0, g⟩ (fun r => (∀ c : Dev Cert.ReadsRefIdeal.nD,
      r.2.mem ((c.tc : Thread Cert.ReadsRefIdeal.nD Cert.ReadsRefIdeal.τ).loc Cert.ReadsRefIdeal.main_arg0) = m ((c.tc : Thread Cert.ReadsRefIdeal.nD Cert.ReadsRefIdeal.τ).loc Cert.ReadsRefIdeal.main_arg0)
      ∧ r.2.mem ((c.tc : Thread Cert.ReadsRefIdeal.nD Cert.ReadsRefIdeal.τ).loc Cert.ReadsRefIdeal.main_arg1) = m ((c.tc : Thread Cert.ReadsRefIdeal.nD Cert.ReadsRefIdeal.τ).loc Cert.ReadsRefIdeal.main_arg1)
      ∧ r.2.mem ((c.tc : Thread Cert.ReadsRefIdeal.nD Cert.ReadsRefIdeal.τ).loc Cert.ReadsRefIdeal.main_arg2) = m ((c.tc : Thread Cert.ReadsRefIdeal.nD Cert.ReadsRefIdeal.τ).loc Cert.ReadsRefIdeal.main_arg2))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ r.2.sem = fun _ => 0)

def quiescent_KeysRefIdeal [hKeysRefIdeal : Cert.KeysRefIdeal.Facts] : Prop :=
  ∀ (m : (ℓ : Loc Cert.KeysRefIdeal.nD Cert.KeysRefIdeal.τ Cert.KeysRefIdeal.sig) → Buf (Elt Ideal) ℓ) (g : Dev Cert.KeysRefIdeal.nD → PrngReg), Pre_KeysRefIdeal m →
    θ_run (Cert.KeysRefIdeal.defs (F := Ideal)) (onTc (τ := Cert.KeysRefIdeal.τ) (Cert.KeysRefIdeal.main (F := Ideal))) ⟨m, fun _ => 0, g⟩ (fun r => (∀ c : Dev Cert.KeysRefIdeal.nD,
      r.2.mem ((c.tc : Thread Cert.KeysRefIdeal.nD Cert.KeysRefIdeal.τ).loc Cert.KeysRefIdeal.main_arg0) = m ((c.tc : Thread Cert.KeysRefIdeal.nD Cert.KeysRefIdeal.τ).loc Cert.KeysRefIdeal.main_arg0)
      ∧ r.2.mem ((c.tc : Thread Cert.KeysRefIdeal.nD Cert.KeysRefIdeal.τ).loc Cert.KeysRefIdeal.main_arg1) = m ((c.tc : Thread Cert.KeysRefIdeal.nD Cert.KeysRefIdeal.τ).loc Cert.KeysRefIdeal.main_arg1))
      ∧ r.2.sem = fun _ => 0)

def quiescent_KeyGrad [hKeyGrad : Cert.KeyGrad.Facts] : Prop :=
  ∀ (m : (ℓ : Loc Cert.KeyGrad.nD Cert.KeyGrad.τ Cert.KeyGrad.sig) → Buf (Elt Bits) ℓ) (g : Dev Cert.KeyGrad.nD → PrngReg), Pre_KeyGrad m →
    θ_run (Cert.KeyGrad.defs (F := Bits)) (onTc (τ := Cert.KeyGrad.τ) (Cert.KeyGrad.main (F := Bits))) ⟨m, fun _ => 0, g⟩ (fun r => (∀ c : Dev Cert.KeyGrad.nD,
      r.2.mem ((c.tc : Thread Cert.KeyGrad.nD Cert.KeyGrad.τ).loc Cert.KeyGrad.main_arg0) = m ((c.tc : Thread Cert.KeyGrad.nD Cert.KeyGrad.τ).loc Cert.KeyGrad.main_arg0)
      ∧ r.2.mem ((c.tc : Thread Cert.KeyGrad.nD Cert.KeyGrad.τ).loc Cert.KeyGrad.main_arg1) = m ((c.tc : Thread Cert.KeyGrad.nD Cert.KeyGrad.τ).loc Cert.KeyGrad.main_arg1))
      ∧ r.2.sem = fun _ => 0)

def quiescent_KeyGradIdeal [hKeyGradIdeal : Cert.KeyGradIdeal.Facts] : Prop :=
  ∀ (m : (ℓ : Loc Cert.KeyGradIdeal.nD Cert.KeyGradIdeal.τ Cert.KeyGradIdeal.sig) → Buf (Elt Ideal) ℓ) (g : Dev Cert.KeyGradIdeal.nD → PrngReg), Pre_KeyGradIdeal m →
    θ_run (Cert.KeyGradIdeal.defs (F := Ideal)) (onTc (τ := Cert.KeyGradIdeal.τ) (Cert.KeyGradIdeal.main (F := Ideal))) ⟨m, fun _ => 0, g⟩ (fun r => (∀ c : Dev Cert.KeyGradIdeal.nD,
      r.2.mem ((c.tc : Thread Cert.KeyGradIdeal.nD Cert.KeyGradIdeal.τ).loc Cert.KeyGradIdeal.main_arg0) = m ((c.tc : Thread Cert.KeyGradIdeal.nD Cert.KeyGradIdeal.τ).loc Cert.KeyGradIdeal.main_arg0)
      ∧ r.2.mem ((c.tc : Thread Cert.KeyGradIdeal.nD Cert.KeyGradIdeal.τ).loc Cert.KeyGradIdeal.main_arg1) = m ((c.tc : Thread Cert.KeyGradIdeal.nD Cert.KeyGradIdeal.τ).loc Cert.KeyGradIdeal.main_arg1))
      ∧ r.2.sem = fun _ => 0)

def quiescent_KeyGradRefIdeal [hKeyGradRefIdeal : Cert.KeyGradRefIdeal.Facts] : Prop :=
  ∀ (m : (ℓ : Loc Cert.KeyGradRefIdeal.nD Cert.KeyGradRefIdeal.τ Cert.KeyGradRefIdeal.sig) → Buf (Elt Ideal) ℓ) (g : Dev Cert.KeyGradRefIdeal.nD → PrngReg), Pre_KeyGradRefIdeal m →
    θ_run (Cert.KeyGradRefIdeal.defs (F := Ideal)) (onTc (τ := Cert.KeyGradRefIdeal.τ) (Cert.KeyGradRefIdeal.main (F := Ideal))) ⟨m, fun _ => 0, g⟩ (fun r => (∀ c : Dev Cert.KeyGradRefIdeal.nD,
      r.2.mem ((c.tc : Thread Cert.KeyGradRefIdeal.nD Cert.KeyGradRefIdeal.τ).loc Cert.KeyGradRefIdeal.main_arg0) = m ((c.tc : Thread Cert.KeyGradRefIdeal.nD Cert.KeyGradRefIdeal.τ).loc Cert.KeyGradRefIdeal.main_arg0)
      ∧ r.2.mem ((c.tc : Thread Cert.KeyGradRefIdeal.nD Cert.KeyGradRefIdeal.τ).loc Cert.KeyGradRefIdeal.main_arg1) = m ((c.tc : Thread Cert.KeyGradRefIdeal.nD Cert.KeyGradRefIdeal.τ).loc Cert.KeyGradRefIdeal.main_arg1))
      ∧ r.2.sem = fun _ => 0)

def quiescent_MemIn [hMemIn : Cert.MemIn.Facts] : Prop :=
  ∀ (m : (ℓ : Loc Cert.MemIn.nD Cert.MemIn.τ Cert.MemIn.sig) → Buf (Elt Bits) ℓ) (g : Dev Cert.MemIn.nD → PrngReg), Pre_MemIn m →
    θ_run (Cert.MemIn.defs (F := Bits)) (onTc (τ := Cert.MemIn.τ) (Cert.MemIn.main (F := Bits))) ⟨m, fun _ => 0, g⟩ (fun r => (∀ c : Dev Cert.MemIn.nD,
      r.2.mem ((c.tc : Thread Cert.MemIn.nD Cert.MemIn.τ).loc Cert.MemIn.main_arg0) = m ((c.tc : Thread Cert.MemIn.nD Cert.MemIn.τ).loc Cert.MemIn.main_arg0)
      ∧ r.2.mem ((c.tc : Thread Cert.MemIn.nD Cert.MemIn.τ).loc Cert.MemIn.main_arg1) = m ((c.tc : Thread Cert.MemIn.nD Cert.MemIn.τ).loc Cert.MemIn.main_arg1))
      ∧ r.2.sem = fun _ => 0)

def quiescent_MemInIdeal [hMemInIdeal : Cert.MemInIdeal.Facts] : Prop :=
  ∀ (m : (ℓ : Loc Cert.MemInIdeal.nD Cert.MemInIdeal.τ Cert.MemInIdeal.sig) → Buf (Elt Ideal) ℓ) (g : Dev Cert.MemInIdeal.nD → PrngReg), Pre_MemInIdeal m →
    θ_run (Cert.MemInIdeal.defs (F := Ideal)) (onTc (τ := Cert.MemInIdeal.τ) (Cert.MemInIdeal.main (F := Ideal))) ⟨m, fun _ => 0, g⟩ (fun r => (∀ c : Dev Cert.MemInIdeal.nD,
      r.2.mem ((c.tc : Thread Cert.MemInIdeal.nD Cert.MemInIdeal.τ).loc Cert.MemInIdeal.main_arg0) = m ((c.tc : Thread Cert.MemInIdeal.nD Cert.MemInIdeal.τ).loc Cert.MemInIdeal.main_arg0)
      ∧ r.2.mem ((c.tc : Thread Cert.MemInIdeal.nD Cert.MemInIdeal.τ).loc Cert.MemInIdeal.main_arg1) = m ((c.tc : Thread Cert.MemInIdeal.nD Cert.MemInIdeal.τ).loc Cert.MemInIdeal.main_arg1))
      ∧ r.2.sem = fun _ => 0)

def quiescent_MemInRefIdeal [hMemInRefIdeal : Cert.MemInRefIdeal.Facts] : Prop :=
  ∀ (m : (ℓ : Loc Cert.MemInRefIdeal.nD Cert.MemInRefIdeal.τ Cert.MemInRefIdeal.sig) → Buf (Elt Ideal) ℓ) (g : Dev Cert.MemInRefIdeal.nD → PrngReg), Pre_MemInRefIdeal m →
    θ_run (Cert.MemInRefIdeal.defs (F := Ideal)) (onTc (τ := Cert.MemInRefIdeal.τ) (Cert.MemInRefIdeal.main (F := Ideal))) ⟨m, fun _ => 0, g⟩ (fun r => (∀ c : Dev Cert.MemInRefIdeal.nD,
      r.2.mem ((c.tc : Thread Cert.MemInRefIdeal.nD Cert.MemInRefIdeal.τ).loc Cert.MemInRefIdeal.main_arg0) = m ((c.tc : Thread Cert.MemInRefIdeal.nD Cert.MemInRefIdeal.τ).loc Cert.MemInRefIdeal.main_arg0)
      ∧ r.2.mem ((c.tc : Thread Cert.MemInRefIdeal.nD Cert.MemInRefIdeal.τ).loc Cert.MemInRefIdeal.main_arg1) = m ((c.tc : Thread Cert.MemInRefIdeal.nD Cert.MemInRefIdeal.τ).loc Cert.MemInRefIdeal.main_arg1))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def quiescent_MemGain [hMemGain : Cert.MemGain.Facts] : Prop :=
  ∀ (m : (ℓ : Loc Cert.MemGain.nD Cert.MemGain.τ Cert.MemGain.sig) → Buf (Elt Bits) ℓ) (g : Dev Cert.MemGain.nD → PrngReg), Pre_MemGain m →
    θ_run (Cert.MemGain.defs (F := Bits)) (onTc (τ := Cert.MemGain.τ) (Cert.MemGain.main (F := Bits))) ⟨m, fun _ => 0, g⟩ (fun r => (∀ c : Dev Cert.MemGain.nD,
      r.2.mem ((c.tc : Thread Cert.MemGain.nD Cert.MemGain.τ).loc Cert.MemGain.main_arg0) = m ((c.tc : Thread Cert.MemGain.nD Cert.MemGain.τ).loc Cert.MemGain.main_arg0)
      ∧ r.2.mem ((c.tc : Thread Cert.MemGain.nD Cert.MemGain.τ).loc Cert.MemGain.main_arg1) = m ((c.tc : Thread Cert.MemGain.nD Cert.MemGain.τ).loc Cert.MemGain.main_arg1)
      ∧ r.2.mem ((c.tc : Thread Cert.MemGain.nD Cert.MemGain.τ).loc Cert.MemGain.main_arg2) = m ((c.tc : Thread Cert.MemGain.nD Cert.MemGain.τ).loc Cert.MemGain.main_arg2))
      ∧ r.2.sem = fun _ => 0)

def quiescent_MemGainIdeal [hMemGainIdeal : Cert.MemGainIdeal.Facts] : Prop :=
  ∀ (m : (ℓ : Loc Cert.MemGainIdeal.nD Cert.MemGainIdeal.τ Cert.MemGainIdeal.sig) → Buf (Elt Ideal) ℓ) (g : Dev Cert.MemGainIdeal.nD → PrngReg), Pre_MemGainIdeal m →
    θ_run (Cert.MemGainIdeal.defs (F := Ideal)) (onTc (τ := Cert.MemGainIdeal.τ) (Cert.MemGainIdeal.main (F := Ideal))) ⟨m, fun _ => 0, g⟩ (fun r => (∀ c : Dev Cert.MemGainIdeal.nD,
      r.2.mem ((c.tc : Thread Cert.MemGainIdeal.nD Cert.MemGainIdeal.τ).loc Cert.MemGainIdeal.main_arg0) = m ((c.tc : Thread Cert.MemGainIdeal.nD Cert.MemGainIdeal.τ).loc Cert.MemGainIdeal.main_arg0)
      ∧ r.2.mem ((c.tc : Thread Cert.MemGainIdeal.nD Cert.MemGainIdeal.τ).loc Cert.MemGainIdeal.main_arg1) = m ((c.tc : Thread Cert.MemGainIdeal.nD Cert.MemGainIdeal.τ).loc Cert.MemGainIdeal.main_arg1)
      ∧ r.2.mem ((c.tc : Thread Cert.MemGainIdeal.nD Cert.MemGainIdeal.τ).loc Cert.MemGainIdeal.main_arg2) = m ((c.tc : Thread Cert.MemGainIdeal.nD Cert.MemGainIdeal.τ).loc Cert.MemGainIdeal.main_arg2))
      ∧ r.2.sem = fun _ => 0)

def quiescent_MemGainRefIdeal [hMemGainRefIdeal : Cert.MemGainRefIdeal.Facts] : Prop :=
  ∀ (m : (ℓ : Loc Cert.MemGainRefIdeal.nD Cert.MemGainRefIdeal.τ Cert.MemGainRefIdeal.sig) → Buf (Elt Ideal) ℓ) (g : Dev Cert.MemGainRefIdeal.nD → PrngReg), Pre_MemGainRefIdeal m →
    θ_run (Cert.MemGainRefIdeal.defs (F := Ideal)) (onTc (τ := Cert.MemGainRefIdeal.τ) (Cert.MemGainRefIdeal.main (F := Ideal))) ⟨m, fun _ => 0, g⟩ (fun r => (∀ c : Dev Cert.MemGainRefIdeal.nD,
      r.2.mem ((c.tc : Thread Cert.MemGainRefIdeal.nD Cert.MemGainRefIdeal.τ).loc Cert.MemGainRefIdeal.main_arg0) = m ((c.tc : Thread Cert.MemGainRefIdeal.nD Cert.MemGainRefIdeal.τ).loc Cert.MemGainRefIdeal.main_arg0)
      ∧ r.2.mem ((c.tc : Thread Cert.MemGainRefIdeal.nD Cert.MemGainRefIdeal.τ).loc Cert.MemGainRefIdeal.main_arg1) = m ((c.tc : Thread Cert.MemGainRefIdeal.nD Cert.MemGainRefIdeal.τ).loc Cert.MemGainRefIdeal.main_arg1)
      ∧ r.2.mem ((c.tc : Thread Cert.MemGainRefIdeal.nD Cert.MemGainRefIdeal.τ).loc Cert.MemGainRefIdeal.main_arg2) = m ((c.tc : Thread Cert.MemGainRefIdeal.nD Cert.MemGainRefIdeal.τ).loc Cert.MemGainRefIdeal.main_arg2))
      ∧ r.2.sem = fun _ => 0)

def preserves_Attn_AttnIdeal : Prop :=
  True

def algebraic_AttnIdeal_AttnRefIdeal_pre_scores_finite [hAttnIdeal : Cert.AttnIdeal.Facts] [hAttnRefIdeal : Cert.AttnRefIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_scores_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v0_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v67) = v0 c
          ∧ r.2.mem ((c.tc : Thread Cert.AttnRefIdeal.nD Cert.AttnRefIdeal.τ).loc Cert.AttnRefIdeal.main_v65) = v1 c
          ∧ r.2.mem ((c.tc : Thread Cert.AttnRefIdeal.nD Cert.AttnRefIdeal.τ).loc Cert.AttnRefIdeal.main_v64) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)) (v2 : (c : Dev Cert.FfnInIdeal.nD) → Buf (Elt Ideal) ((c.tc : Thread Cert.FfnInIdeal.nD Cert.FfnInIdeal.τ).loc Cert.FfnInIdeal.main_v0_2)) (v3 : (c : Dev Cert.FfnInIdeal.nD) → Buf (Elt Ideal) ((c.tc : Thread Cert.FfnInIdeal.nD Cert.FfnInIdeal.τ).loc Cert.FfnInIdeal.main_v0_3)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_v0_2) = v2 c
          ∧ r.2.mem ((c.tc : Thread Cert.FfnInIdeal.nD Cert.FfnInIdeal.τ).loc Cert.FfnInIdeal.main_v0_3) = v3 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v41) = v0 c
          ∧ r.2.mem ((c.tc : Thread Cert.FfnInRefIdeal.nD Cert.FfnInRefIdeal.τ).loc Cert.FfnInRefIdeal.main_v24) = v1 c
          ∧ r.2.mem ((c.tc : Thread Cert.FfnInRefIdeal.nD Cert.FfnInRefIdeal.τ).loc Cert.FfnInRefIdeal.main_v78) = v2 c
          ∧ r.2.mem ((c.tc : Thread Cert.FfnInRefIdeal.nD Cert.FfnInRefIdeal.τ).loc Cert.FfnInRefIdeal.main_v61) = v3 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6))

def preserves_UpGrad_UpGradIdeal : Prop :=
  True

def algebraic_UpGradIdeal_UpGradRefIdeal [hUpGradIdeal : Cert.UpGradIdeal.Facts] [hUpGradRefIdeal : Cert.UpGradRefIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradRefIdeal.nD Cert.UpGradRefIdeal.τ Cert.UpGradRefIdeal.sig) → Buf (Elt Ideal) ℓ) (g' : Dev Cert.UpGradRefIdeal.nD → PrngReg), Pre_UpGradIdeal m →
    (∀ c : Dev Cert.UpGradIdeal.nD,
      m' ((c.tc : Thread Cert.UpGradRefIdeal.nD Cert.UpGradRefIdeal.τ).loc Cert.UpGradRefIdeal.main_arg0) = m ((c.tc : Thread Cert.UpGradIdeal.nD Cert.UpGradIdeal.τ).loc Cert.UpGradIdeal.main_arg0)
      ∧ m' ((c.tc : Thread Cert.UpGradRefIdeal.nD Cert.UpGradRefIdeal.τ).loc Cert.UpGradRefIdeal.main_arg1) = m ((c.tc : Thread Cert.UpGradIdeal.nD Cert.UpGradIdeal.τ).loc Cert.UpGradIdeal.main_arg1)) →
    ∃ (v0 : (c : Dev Cert.UpGradIdeal.nD) → Buf (Elt Ideal) ((c.tc : Thread Cert.UpGradIdeal.nD Cert.UpGradIdeal.τ).loc Cert.UpGradIdeal.main_v0)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v0) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ θ_run (Cert.UpGradRefIdeal.defs (F := Ideal)) (onTc (τ := Cert.UpGradRefIdeal.τ) (Cert.UpGradRefIdeal.main (F := Ideal))) ⟨m', fun _ => 0, g'⟩ (fun r => ∀ c : Dev Cert.UpGradRefIdeal.nD,
          r.2.mem ((c.tc : Thread Cert.UpGradRefIdeal.nD Cert.UpGradRefIdeal.τ).loc Cert.UpGradRefIdeal.main_v8) = v0 c
          ∧ r.2.mem ((c.tc : Thread Cert.UpGradRefIdeal.nD Cert.UpGradRefIdeal.τ).loc Cert.UpGradRefIdeal.main_arg0) = m' ((c.tc : Thread Cert.UpGradRefIdeal.nD Cert.UpGradRefIdeal.τ).loc Cert.UpGradRefIdeal.main_arg0)
          ∧ r.2.mem ((c.tc : Thread Cert.UpGradRefIdeal.nD Cert.UpGradRefIdeal.τ).loc Cert.UpGradRefIdeal.main_arg1) = m' ((c.tc : Thread Cert.UpGradRefIdeal.nD Cert.UpGradRefIdeal.τ).loc Cert.UpGradRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_DownIn_DownInIdeal : Prop :=
  True

def algebraic_DownInIdeal_DownInRefIdeal [hDownInIdeal : Cert.DownInIdeal.Facts] [hDownInRefIdeal : Cert.DownInRefIdeal.Facts] : Prop :=
  ∀ (m : (ℓ : Loc Cert.DownInIdeal.nD Cert.DownInIdeal.τ Cert.DownInIdeal.sig) → Buf (Elt Ideal) ℓ) (g : Dev Cert.DownInIdeal.nD → PrngReg)
    (m' : (ℓ : Loc Cert.DownInRefIdeal.nD Cert.DownInRefIdeal.τ Cert.DownInRefIdeal.sig) → Buf (Elt Ideal) ℓ) (g' : Dev Cert.DownInRefIdeal.nD → PrngReg), Pre_DownInIdeal m →
    (∀ c : Dev Cert.DownInIdeal.nD,
      m' ((c.tc : Thread Cert.DownInRefIdeal.nD Cert.DownInRefIdeal.τ).loc Cert.DownInRefIdeal.main_arg0) = m ((c.tc : Thread Cert.DownInIdeal.nD Cert.DownInIdeal.τ).loc Cert.DownInIdeal.main_arg0)
      ∧ m' ((c.tc : Thread Cert.DownInRefIdeal.nD Cert.DownInRefIdeal.τ).loc Cert.DownInRefIdeal.main_arg1) = m ((c.tc : Thread Cert.DownInIdeal.nD Cert.DownInIdeal.τ).loc Cert.DownInIdeal.main_arg1)) →
    ∃ (v0 : (c : Dev Cert.DownInIdeal.nD) → Buf (Elt Ideal) ((c.tc : Thread Cert.DownInIdeal.nD Cert.DownInIdeal.τ).loc Cert.DownInIdeal.main_v0)),
      θ_run (Cert.DownInIdeal.defs (F := Ideal)) (onTc (τ := Cert.DownInIdeal.τ) (Cert.DownInIdeal.main (F := Ideal))) ⟨m, fun _ => 0, g⟩ (fun r => ∀ c : Dev Cert.DownInIdeal.nD,
          r.2.mem ((c.tc : Thread Cert.DownInIdeal.nD Cert.DownInIdeal.τ).loc Cert.DownInIdeal.main_v0) = v0 c
          ∧ r.2.mem ((c.tc : Thread Cert.DownInIdeal.nD Cert.DownInIdeal.τ).loc Cert.DownInIdeal.main_arg0) = m ((c.tc : Thread Cert.DownInIdeal.nD Cert.DownInIdeal.τ).loc Cert.DownInIdeal.main_arg0)
          ∧ r.2.mem ((c.tc : Thread Cert.DownInIdeal.nD Cert.DownInIdeal.τ).loc Cert.DownInIdeal.main_arg1) = m ((c.tc : Thread Cert.DownInIdeal.nD Cert.DownInIdeal.τ).loc Cert.DownInIdeal.main_arg1))
      ∧ θ_run (Cert.DownInRefIdeal.defs (F := Ideal)) (onTc (τ := Cert.DownInRefIdeal.τ) (Cert.DownInRefIdeal.main (F := Ideal))) ⟨m', fun _ => 0, g'⟩ (fun r => ∀ c : Dev Cert.DownInRefIdeal.nD,
          r.2.mem ((c.tc : Thread Cert.DownInRefIdeal.nD Cert.DownInRefIdeal.τ).loc Cert.DownInRefIdeal.main_v4) = v0 c
          ∧ r.2.mem ((c.tc : Thread Cert.DownInRefIdeal.nD Cert.DownInRefIdeal.τ).loc Cert.DownInRefIdeal.main_arg0) = m' ((c.tc : Thread Cert.DownInRefIdeal.nD Cert.DownInRefIdeal.τ).loc Cert.DownInRefIdeal.main_arg0)
          ∧ r.2.mem ((c.tc : Thread Cert.DownInRefIdeal.nD Cert.DownInRefIdeal.τ).loc Cert.DownInRefIdeal.main_arg1) = m' ((c.tc : Thread Cert.DownInRefIdeal.nD Cert.DownInRefIdeal.τ).loc Cert.DownInRefIdeal.main_arg1))

def preserves_DownGrad_DownGradIdeal : Prop :=
  True

def algebraic_DownGradIdeal_DownGradRefIdeal [hDownGradIdeal : Cert.DownGradIdeal.Facts] [hDownGradRefIdeal : Cert.DownGradRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v6) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v3) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_MixGrad_MixGradIdeal : Prop :=
  True

def algebraic_MixGradIdeal_MixGradRefIdeal [hMixGradIdeal : Cert.MixGradIdeal.Facts] [hMixGradRefIdeal : Cert.MixGradRefIdeal.Facts] : Prop :=
  ∀ (m : (ℓ : Loc Cert.MixGradIdeal.nD Cert.MixGradIdeal.τ Cert.MixGradIdeal.sig) → Buf (Elt Ideal) ℓ) (g : Dev Cert.MixGradIdeal.nD → PrngReg)
    (m' : (ℓ : Loc Cert.MixGradRefIdeal.nD Cert.MixGradRefIdeal.τ Cert.MixGradRefIdeal.sig) → Buf (Elt Ideal) ℓ) (g' : Dev Cert.MixGradRefIdeal.nD → PrngReg), Pre_MixGradIdeal m →
    (∀ c : Dev Cert.MixGradIdeal.nD,
      m' ((c.tc : Thread Cert.MixGradRefIdeal.nD Cert.MixGradRefIdeal.τ).loc Cert.MixGradRefIdeal.main_arg0) = m ((c.tc : Thread Cert.MixGradIdeal.nD Cert.MixGradIdeal.τ).loc Cert.MixGradIdeal.main_arg0)
      ∧ m' ((c.tc : Thread Cert.MixGradRefIdeal.nD Cert.MixGradRefIdeal.τ).loc Cert.MixGradRefIdeal.main_arg1) = m ((c.tc : Thread Cert.MixGradIdeal.nD Cert.MixGradIdeal.τ).loc Cert.MixGradIdeal.main_arg1)) →
    ∃ (v0 : (c : Dev Cert.MixGradIdeal.nD) → Buf (Elt Ideal) ((c.tc : Thread Cert.MixGradIdeal.nD Cert.MixGradIdeal.τ).loc Cert.MixGradIdeal.main_v0)),
      θ_run (Cert.MixGradIdeal.defs (F := Ideal)) (onTc (τ := Cert.MixGradIdeal.τ) (Cert.MixGradIdeal.main (F := Ideal))) ⟨m, fun _ => 0, g⟩ (fun r => ∀ c : Dev Cert.MixGradIdeal.nD,
          r.2.mem ((c.tc : Thread Cert.MixGradIdeal.nD Cert.MixGradIdeal.τ).loc Cert.MixGradIdeal.main_v0) = v0 c
          ∧ r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
          ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1))
      ∧ θ_run (Cert.MixGradRefIdeal.defs (F := Ideal)) (onTc (τ := Cert.MixGradRefIdeal.τ) (Cert.MixGradRefIdeal.main (F := Ideal))) ⟨m', fun _ => 0, g'⟩ (fun r => ∀ c : Dev Cert.MixGradRefIdeal.nD,
          r.2.mem ((c.tc : Thread Cert.MixGradRefIdeal.nD Cert.MixGradRefIdeal.τ).loc Cert.MixGradRefIdeal.main_v8) = v0 c
          ∧ r.2.mem ((c.tc : Thread Cert.MixGradRefIdeal.nD Cert.MixGradRefIdeal.τ).loc Cert.MixGradRefIdeal.main_arg0) = m' ((c.tc : Thread Cert.MixGradRefIdeal.nD Cert.MixGradRefIdeal.τ).loc Cert.MixGradRefIdeal.main_arg0)
          ∧ r.2.mem ((c.tc : Thread Cert.MixGradRefIdeal.nD Cert.MixGradRefIdeal.τ).loc Cert.MixGradRefIdeal.main_arg1) = m' ((c.tc : Thread Cert.MixGradRefIdeal.nD Cert.MixGradRefIdeal.τ).loc Cert.MixGradRefIdeal.main_arg1))

def preserves_OutIn_OutInIdeal : Prop :=
  True

def algebraic_OutInIdeal_OutInRefIdeal [hOutInIdeal : Cert.OutInIdeal.Facts] [hOutInRefIdeal : Cert.OutInRefIdeal.Facts] : Prop :=
  ∀ (m : (ℓ : Loc Cert.OutInIdeal.nD Cert.OutInIdeal.τ Cert.OutInIdeal.sig) → Buf (Elt Ideal) ℓ) (g : Dev Cert.OutInIdeal.nD → PrngReg)
    (m' : (ℓ : Loc Cert.OutInRefIdeal.nD Cert.OutInRefIdeal.τ Cert.OutInRefIdeal.sig) → Buf (Elt Ideal) ℓ) (g' : Dev Cert.OutInRefIdeal.nD → PrngReg), Pre_OutInIdeal m →
    (∀ c : Dev Cert.OutInIdeal.nD,
      m' ((c.tc : Thread Cert.OutInRefIdeal.nD Cert.OutInRefIdeal.τ).loc Cert.OutInRefIdeal.main_arg0) = m ((c.tc : Thread Cert.OutInIdeal.nD Cert.OutInIdeal.τ).loc Cert.OutInIdeal.main_arg0)
      ∧ m' ((c.tc : Thread Cert.OutInRefIdeal.nD Cert.OutInRefIdeal.τ).loc Cert.OutInRefIdeal.main_arg1) = m ((c.tc : Thread Cert.OutInIdeal.nD Cert.OutInIdeal.τ).loc Cert.OutInIdeal.main_arg1)) →
    ∃ (v0 : (c : Dev Cert.OutInIdeal.nD) → Buf (Elt Ideal) ((c.tc : Thread Cert.OutInIdeal.nD Cert.OutInIdeal.τ).loc Cert.OutInIdeal.main_v0)),
      θ_run (Cert.OutInIdeal.defs (F := Ideal)) (onTc (τ := Cert.OutInIdeal.τ) (Cert.OutInIdeal.main (F := Ideal))) ⟨m, fun _ => 0, g⟩ (fun r => ∀ c : Dev Cert.OutInIdeal.nD,
          r.2.mem ((c.tc : Thread Cert.OutInIdeal.nD Cert.OutInIdeal.τ).loc Cert.OutInIdeal.main_v0) = v0 c
          ∧ r.2.mem ((c.tc : Thread Cert.OutInIdeal.nD Cert.OutInIdeal.τ).loc Cert.OutInIdeal.main_arg0) = m ((c.tc : Thread Cert.OutInIdeal.nD Cert.OutInIdeal.τ).loc Cert.OutInIdeal.main_arg0)
          ∧ r.2.mem ((c.tc : Thread Cert.OutInIdeal.nD Cert.OutInIdeal.τ).loc Cert.OutInIdeal.main_arg1) = m ((c.tc : Thread Cert.OutInIdeal.nD Cert.OutInIdeal.τ).loc Cert.OutInIdeal.main_arg1))
      ∧ θ_run (Cert.OutInRefIdeal.defs (F := Ideal)) (onTc (τ := Cert.OutInRefIdeal.τ) (Cert.OutInRefIdeal.main (F := Ideal))) ⟨m', fun _ => 0, g'⟩ (fun r => ∀ c : Dev Cert.OutInRefIdeal.nD,
          r.2.mem ((c.tc : Thread Cert.OutInRefIdeal.nD Cert.OutInRefIdeal.τ).loc Cert.OutInRefIdeal.main_v5) = v0 c
          ∧ r.2.mem ((c.tc : Thread Cert.OutInRefIdeal.nD Cert.OutInRefIdeal.τ).loc Cert.OutInRefIdeal.main_arg0) = m' ((c.tc : Thread Cert.OutInRefIdeal.nD Cert.OutInRefIdeal.τ).loc Cert.OutInRefIdeal.main_arg0)
          ∧ r.2.mem ((c.tc : Thread Cert.OutInRefIdeal.nD Cert.OutInRefIdeal.τ).loc Cert.OutInRefIdeal.main_arg1) = m' ((c.tc : Thread Cert.OutInRefIdeal.nD Cert.OutInRefIdeal.τ).loc Cert.OutInRefIdeal.main_arg1))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v6) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v3) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_GradRows_GradRowsIdeal : Prop :=
  True

def algebraic_GradRowsIdeal_GradRowsRefIdeal [hGradRowsIdeal : Cert.GradRowsIdeal.Facts] [hGradRowsRefIdeal : Cert.GradRowsRefIdeal.Facts] : Prop :=
  ∀ (m : (ℓ : Loc Cert.GradRowsIdeal.nD Cert.GradRowsIdeal.τ Cert.GradRowsIdeal.sig) → Buf (Elt Ideal) ℓ) (g : Dev Cert.GradRowsIdeal.nD → PrngReg)
    (m' : (ℓ : Loc Cert.GradRowsRefIdeal.nD Cert.GradRowsRefIdeal.τ Cert.GradRowsRefIdeal.sig) → Buf (Elt Ideal) ℓ) (g' : Dev Cert.GradRowsRefIdeal.nD → PrngReg), Pre_GradRowsIdeal m →
    (∀ c : Dev Cert.GradRowsIdeal.nD,
      m' ((c.tc : Thread Cert.GradRowsRefIdeal.nD Cert.GradRowsRefIdeal.τ).loc Cert.GradRowsRefIdeal.main_arg0) = m ((c.tc : Thread Cert.GradRowsIdeal.nD Cert.GradRowsIdeal.τ).loc Cert.GradRowsIdeal.main_arg0)
      ∧ m' ((c.tc : Thread Cert.GradRowsRefIdeal.nD Cert.GradRowsRefIdeal.τ).loc Cert.GradRowsRefIdeal.main_arg1) = m ((c.tc : Thread Cert.GradRowsIdeal.nD Cert.GradRowsIdeal.τ).loc Cert.GradRowsIdeal.main_arg1)
      ∧ m' ((c.tc : Thread Cert.GradRowsRefIdeal.nD Cert.GradRowsRefIdeal.τ).loc Cert.GradRowsRefIdeal.main_arg2) = m ((c.tc : Thread Cert.GradRowsIdeal.nD Cert.GradRowsIdeal.τ).loc Cert.GradRowsIdeal.main_arg2)
      ∧ m' ((c.tc : Thread Cert.GradRowsRefIdeal.nD Cert.GradRowsRefIdeal.τ).loc Cert.GradRowsRefIdeal.main_arg3) = m ((c.tc : Thread Cert.GradRowsIdeal.nD Cert.GradRowsIdeal.τ).loc Cert.GradRowsIdeal.main_arg3)
      ∧ m' ((c.tc : Thread Cert.GradRowsRefIdeal.nD Cert.GradRowsRefIdeal.τ).loc Cert.GradRowsRefIdeal.main_arg4) = m ((c.tc : Thread Cert.GradRowsIdeal.nD Cert.GradRowsIdeal.τ).loc Cert.GradRowsIdeal.main_arg4)) →
    ∃ (v0 : (c : Dev Cert.GradRowsIdeal.nD) → Buf (Elt Ideal) ((c.tc : Thread Cert.GradRowsIdeal.nD Cert.GradRowsIdeal.τ).loc Cert.GradRowsIdeal.main_v0_0)) (v1 : (c : Dev Cert.GradRowsIdeal.nD) → Buf (Elt Ideal) ((c.tc : Thread Cert.GradRowsIdeal.nD Cert.GradRowsIdeal.τ).loc Cert.GradRowsIdeal.main_v0_1)),
      θ_run (Cert.GradRowsIdeal.defs (F := Ideal)) (onTc (τ := Cert.GradRowsIdeal.τ) (Cert.GradRowsIdeal.main (F := Ideal))) ⟨m, fun _ => 0, g⟩ (fun r => ∀ c : Dev Cert.GradRowsIdeal.nD,
          r.2.mem ((c.tc : Thread Cert.GradRowsIdeal.nD Cert.GradRowsIdeal.τ).loc Cert.GradRowsIdeal.main_v0_0) = v0 c
          ∧ r.2.mem ((c.tc : Thread Cert.GradRowsIdeal.nD Cert.GradRowsIdeal.τ).loc Cert.GradRowsIdeal.main_v0_1) = v1 c
          ∧ r.2.mem ((c.tc : Thread Cert.GradRowsIdeal.nD Cert.GradRowsIdeal.τ).loc Cert.GradRowsIdeal.main_arg0) = m ((c.tc : Thread Cert.GradRowsIdeal.nD Cert.GradRowsIdeal.τ).loc Cert.GradRowsIdeal.main_arg0)
          ∧ r.2.mem ((c.tc : Thread Cert.GradRowsIdeal.nD Cert.GradRowsIdeal.τ).loc Cert.GradRowsIdeal.main_arg1) = m ((c.tc : Thread Cert.GradRowsIdeal.nD Cert.GradRowsIdeal.τ).loc Cert.GradRowsIdeal.main_arg1)
          ∧ r.2.mem ((c.tc : Thread Cert.GradRowsIdeal.nD Cert.GradRowsIdeal.τ).loc Cert.GradRowsIdeal.main_arg2) = m ((c.tc : Thread Cert.GradRowsIdeal.nD Cert.GradRowsIdeal.τ).loc Cert.GradRowsIdeal.main_arg2)
          ∧ r.2.mem ((c.tc : Thread Cert.GradRowsIdeal.nD Cert.GradRowsIdeal.τ).loc Cert.GradRowsIdeal.main_arg3) = m ((c.tc : Thread Cert.GradRowsIdeal.nD Cert.GradRowsIdeal.τ).loc Cert.GradRowsIdeal.main_arg3)
          ∧ r.2.mem ((c.tc : Thread Cert.GradRowsIdeal.nD Cert.GradRowsIdeal.τ).loc Cert.GradRowsIdeal.main_arg4) = m ((c.tc : Thread Cert.GradRowsIdeal.nD Cert.GradRowsIdeal.τ).loc Cert.GradRowsIdeal.main_arg4))
      ∧ θ_run (Cert.GradRowsRefIdeal.defs (F := Ideal)) (onTc (τ := Cert.GradRowsRefIdeal.τ) (Cert.GradRowsRefIdeal.main (F := Ideal))) ⟨m', fun _ => 0, g'⟩ (fun r => ∀ c : Dev Cert.GradRowsRefIdeal.nD,
          r.2.mem ((c.tc : Thread Cert.GradRowsRefIdeal.nD Cert.GradRowsRefIdeal.τ).loc Cert.GradRowsRefIdeal.main_v41) = v0 c
          ∧ r.2.mem ((c.tc : Thread Cert.GradRowsRefIdeal.nD Cert.GradRowsRefIdeal.τ).loc Cert.GradRowsRefIdeal.main_v24) = v1 c
          ∧ r.2.mem ((c.tc : Thread Cert.GradRowsRefIdeal.nD Cert.GradRowsRefIdeal.τ).loc Cert.GradRowsRefIdeal.main_arg0) = m' ((c.tc : Thread Cert.GradRowsRefIdeal.nD Cert.GradRowsRefIdeal.τ).loc Cert.GradRowsRefIdeal.main_arg0)
          ∧ r.2.mem ((c.tc : Thread Cert.GradRowsRefIdeal.nD Cert.GradRowsRefIdeal.τ).loc Cert.GradRowsRefIdeal.main_arg1) = m' ((c.tc : Thread Cert.GradRowsRefIdeal.nD Cert.GradRowsRefIdeal.τ).loc Cert.GradRowsRefIdeal.main_arg1)
          ∧ r.2.mem ((c.tc : Thread Cert.GradRowsRefIdeal.nD Cert.GradRowsRefIdeal.τ).loc Cert.GradRowsRefIdeal.main_arg2) = m' ((c.tc : Thread Cert.GradRowsRefIdeal.nD Cert.GradRowsRefIdeal.τ).loc Cert.GradRowsRefIdeal.main_arg2)
          ∧ r.2.mem ((c.tc : Thread Cert.GradRowsRefIdeal.nD Cert.GradRowsRefIdeal.τ).loc Cert.GradRowsRefIdeal.main_arg3) = m' ((c.tc : Thread Cert.GradRowsRefIdeal.nD Cert.GradRowsRefIdeal.τ).loc Cert.GradRowsRefIdeal.main_arg3)
          ∧ r.2.mem ((c.tc : Thread Cert.GradRowsRefIdeal.nD Cert.GradRowsRefIdeal.τ).loc Cert.GradRowsRefIdeal.main_arg4) = m' ((c.tc : Thread Cert.GradRowsRefIdeal.nD Cert.GradRowsRefIdeal.τ).loc Cert.GradRowsRefIdeal.main_arg4))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)
      ∧ m' ((c.tc : Thread Cert.AdamSquareRefIdeal.nD Cert.AdamSquareRefIdeal.τ).loc Cert.AdamSquareRefIdeal.main_arg4) = m ((c.tc : Thread Cert.AdamSquareIdeal.nD Cert.AdamSquareIdeal.τ).loc Cert.AdamSquareIdeal.main_arg4)) →
    ∃ (v0 : (c : Dev Cert.AdamSquareIdeal.nD) → Buf (Elt Ideal) ((c.tc : Thread Cert.AdamSquareIdeal.nD Cert.AdamSquareIdeal.τ).loc Cert.AdamSquareIdeal.main_v1_0)) (v1 : (c : Dev Cert.AdamSquareIdeal.nD) → Buf (Elt Ideal) ((c.tc : Thread Cert.AdamSquareIdeal.nD Cert.AdamSquareIdeal.τ).loc Cert.AdamSquareIdeal.main_v1_1)) (v2 : (c : Dev Cert.AdamSquareIdeal.nD) → Buf (Elt Ideal) ((c.tc : Thread Cert.AdamSquareIdeal.nD Cert.AdamSquareIdeal.τ).loc Cert.AdamSquareIdeal.main_v1_2)) (v3 : (c : Dev Cert.AdamSquareIdeal.nD) → Buf (Elt Ideal) ((c.tc : Thread Cert.AdamSquareIdeal.nD Cert.AdamSquareIdeal.τ).loc Cert.AdamSquareIdeal.main_v1_3)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v1_0) = v0 c
          ∧ r.2.mem ((c.tc : Thread Cert.AdamSquareIdeal.nD Cert.AdamSquareIdeal.τ).loc Cert.AdamSquareIdeal.main_v1_1) = v1 c
          ∧ r.2.mem ((c.tc : Thread Cert.AdamSquareIdeal.nD Cert.AdamSquareIdeal.τ).loc Cert.AdamSquareIdeal.main_v1_2) = v2 c
          ∧ r.2.mem ((c.tc : Thread Cert.AdamSquareIdeal.nD Cert.AdamSquareIdeal.τ).loc Cert.AdamSquareIdeal.main_v1_3) = v3 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
          ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v2) = v0 c
          ∧ r.2.mem ((c.tc : Thread Cert.AdamSquareRefIdeal.nD Cert.AdamSquareRefIdeal.τ).loc Cert.AdamSquareRefIdeal.main_v26) = v1 c
          ∧ r.2.mem ((c.tc : Thread Cert.AdamSquareRefIdeal.nD Cert.AdamSquareRefIdeal.τ).loc Cert.AdamSquareRefIdeal.main_v7) = v2 c
          ∧ r.2.mem ((c.tc : Thread Cert.AdamSquareRefIdeal.nD Cert.AdamSquareRefIdeal.τ).loc Cert.AdamSquareRefIdeal.main_v13) = v3 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3)
          ∧ r.2.mem ((c.tc : Thread Cert.AdamSquareRefIdeal.nD Cert.AdamSquareRefIdeal.τ).loc Cert.AdamSquareRefIdeal.main_arg4) = m' ((c.tc : Thread Cert.AdamSquareRefIdeal.nD Cert.AdamSquareRefIdeal.τ).loc Cert.AdamSquareRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v1_0)) (v1 : (c : Dev Cert.AdamInIdeal.nD) → Buf (Elt Ideal) ((c.tc : Thread Cert.AdamInIdeal.nD Cert.AdamInIdeal.τ).loc Cert.AdamInIdeal.main_v1_1)) (v2 : (c : Dev Cert.AdamInIdeal.nD) → Buf (Elt Ideal) ((c.tc : Thread Cert.AdamInIdeal.nD Cert.AdamInIdeal.τ).loc Cert.AdamInIdeal.main_v1_2)) (v3 : (c : Dev Cert.AdamInIdeal.nD) → Buf (Elt Ideal) ((c.tc : Thread Cert.AdamInIdeal.nD Cert.AdamInIdeal.τ).loc Cert.AdamInIdeal.main_v1_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v1_0) = v0 c
          ∧ r.2.mem ((c.tc : Thread Cert.AdamInIdeal.nD Cert.AdamInIdeal.τ).loc Cert.AdamInIdeal.main_v1_1) = v1 c
          ∧ r.2.mem ((c.tc : Thread Cert.AdamInIdeal.nD Cert.AdamInIdeal.τ).loc Cert.AdamInIdeal.main_v1_2) = v2 c
          ∧ r.2.mem ((c.tc : Thread Cert.AdamInIdeal.nD Cert.AdamInIdeal.τ).loc Cert.AdamInIdeal.main_v1_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v2) = v0 c
          ∧ r.2.mem ((c.tc : Thread Cert.AdamInRefIdeal.nD Cert.AdamInRefIdeal.τ).loc Cert.AdamInRefIdeal.main_v26) = v1 c
          ∧ r.2.mem ((c.tc : Thread Cert.AdamInRefIdeal.nD Cert.AdamInRefIdeal.τ).loc Cert.AdamInRefIdeal.main_v7) = v2 c
          ∧ r.2.mem ((c.tc : Thread Cert.AdamInRefIdeal.nD Cert.AdamInRefIdeal.τ).loc Cert.AdamInRefIdeal.main_v13) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v1_0)) (v1 : (c : Dev Cert.AdamDownIdeal.nD) → Buf (Elt Ideal) ((c.tc : Thread Cert.AdamDownIdeal.nD Cert.AdamDownIdeal.τ).loc Cert.AdamDownIdeal.main_v1_1)) (v2 : (c : Dev Cert.AdamDownIdeal.nD) → Buf (Elt Ideal) ((c.tc : Thread Cert.AdamDownIdeal.nD Cert.AdamDownIdeal.τ).loc Cert.AdamDownIdeal.main_v1_2)) (v3 : (c : Dev Cert.AdamDownIdeal.nD) → Buf (Elt Ideal) ((c.tc : Thread Cert.AdamDownIdeal.nD Cert.AdamDownIdeal.τ).loc Cert.AdamDownIdeal.main_v1_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v1_0) = v0 c
          ∧ r.2.mem ((c.tc : Thread Cert.AdamDownIdeal.nD Cert.AdamDownIdeal.τ).loc Cert.AdamDownIdeal.main_v1_1) = v1 c
          ∧ r.2.mem ((c.tc : Thread Cert.AdamDownIdeal.nD Cert.AdamDownIdeal.τ).loc Cert.AdamDownIdeal.main_v1_2) = v2 c
          ∧ r.2.mem ((c.tc : Thread Cert.AdamDownIdeal.nD Cert.AdamDownIdeal.τ).loc Cert.AdamDownIdeal.main_v1_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v2) = v0 c
          ∧ r.2.mem ((c.tc : Thread Cert.AdamDownRefIdeal.nD Cert.AdamDownRefIdeal.τ).loc Cert.AdamDownRefIdeal.main_v26) = v1 c
          ∧ r.2.mem ((c.tc : Thread Cert.AdamDownRefIdeal.nD Cert.AdamDownRefIdeal.τ).loc Cert.AdamDownRefIdeal.main_v7) = v2 c
          ∧ r.2.mem ((c.tc : Thread Cert.AdamDownRefIdeal.nD Cert.AdamDownRefIdeal.τ).loc Cert.AdamDownRefIdeal.main_v13) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v1_0)) (v1 : (c : Dev Cert.AdamUpIdeal.nD) → Buf (Elt Ideal) ((c.tc : Thread Cert.AdamUpIdeal.nD Cert.AdamUpIdeal.τ).loc Cert.AdamUpIdeal.main_v1_1)) (v2 : (c : Dev Cert.AdamUpIdeal.nD) → Buf (Elt Ideal) ((c.tc : Thread Cert.AdamUpIdeal.nD Cert.AdamUpIdeal.τ).loc Cert.AdamUpIdeal.main_v1_2)) (v3 : (c : Dev Cert.AdamUpIdeal.nD) → Buf (Elt Ideal) ((c.tc : Thread Cert.AdamUpIdeal.nD Cert.AdamUpIdeal.τ).loc Cert.AdamUpIdeal.main_v1_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v1_0) = v0 c
          ∧ r.2.mem ((c.tc : Thread Cert.AdamUpIdeal.nD Cert.AdamUpIdeal.τ).loc Cert.AdamUpIdeal.main_v1_1) = v1 c
          ∧ r.2.mem ((c.tc : Thread Cert.AdamUpIdeal.nD Cert.AdamUpIdeal.τ).loc Cert.AdamUpIdeal.main_v1_2) = v2 c
          ∧ r.2.mem ((c.tc : Thread Cert.AdamUpIdeal.nD Cert.AdamUpIdeal.τ).loc Cert.AdamUpIdeal.main_v1_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v2) = v0 c
          ∧ r.2.mem ((c.tc : Thread Cert.AdamUpRefIdeal.nD Cert.AdamUpRefIdeal.τ).loc Cert.AdamUpRefIdeal.main_v26) = v1 c
          ∧ r.2.mem ((c.tc : Thread Cert.AdamUpRefIdeal.nD Cert.AdamUpRefIdeal.τ).loc Cert.AdamUpRefIdeal.main_v7) = v2 c
          ∧ r.2.mem ((c.tc : Thread Cert.AdamUpRefIdeal.nD Cert.AdamUpRefIdeal.τ).loc Cert.AdamUpRefIdeal.main_v13) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)
      ∧ m' ((c.tc : Thread Cert.LossHeadRefIdeal.nD Cert.LossHeadRefIdeal.τ).loc Cert.LossHeadRefIdeal.main_arg4) = m ((c.tc : Thread Cert.LossHeadIdeal.nD Cert.LossHeadIdeal.τ).loc Cert.LossHeadIdeal.main_arg4)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v35) = v0 c
          ∧ r.2.mem ((c.tc : Thread Cert.LossHeadRefIdeal.nD Cert.LossHeadRefIdeal.τ).loc Cert.LossHeadRefIdeal.main_v55) = v1 c
          ∧ r.2.mem ((c.tc : Thread Cert.LossHeadRefIdeal.nD Cert.LossHeadRefIdeal.τ).loc Cert.LossHeadRefIdeal.main_v38) = v2 c
          ∧ r.2.mem ((c.tc : Thread Cert.LossHeadRefIdeal.nD Cert.LossHeadRefIdeal.τ).loc Cert.LossHeadRefIdeal.main_v56) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3)
          ∧ r.2.mem ((c.tc : Thread Cert.LossHeadRefIdeal.nD Cert.LossHeadRefIdeal.τ).loc Cert.LossHeadRefIdeal.main_arg4) = m' ((c.tc : Thread Cert.LossHeadRefIdeal.nD Cert.LossHeadRefIdeal.τ).loc Cert.LossHeadRefIdeal.main_arg4))

def preserves_CatIn_CatInIdeal : Prop :=
  True

def algebraic_CatInIdeal_CatInRefIdeal [hCatInIdeal : Cert.CatInIdeal.Facts] [hCatInRefIdeal : Cert.CatInRefIdeal.Facts] : Prop :=
  ∀ (m : (ℓ : Loc Cert.CatInIdeal.nD Cert.CatInIdeal.τ Cert.CatInIdeal.sig) → Buf (Elt Ideal) ℓ) (g : Dev Cert.CatInIdeal.nD → PrngReg)
    (m' : (ℓ : Loc Cert.CatInRefIdeal.nD Cert.CatInRefIdeal.τ Cert.CatInRefIdeal.sig) → Buf (Elt Ideal) ℓ) (g' : Dev Cert.CatInRefIdeal.nD → PrngReg), Pre_CatInIdeal m →
    (∀ c : Dev Cert.CatInIdeal.nD,
      m' ((c.tc : Thread Cert.CatInRefIdeal.nD Cert.CatInRefIdeal.τ).loc Cert.CatInRefIdeal.main_arg0) = m ((c.tc : Thread Cert.CatInIdeal.nD Cert.CatInIdeal.τ).loc Cert.CatInIdeal.main_arg0)
      ∧ m' ((c.tc : Thread Cert.CatInRefIdeal.nD Cert.CatInRefIdeal.τ).loc Cert.CatInRefIdeal.main_arg1) = m ((c.tc : Thread Cert.CatInIdeal.nD Cert.CatInIdeal.τ).loc Cert.CatInIdeal.main_arg1)) →
    ∃ (v0 : (c : Dev Cert.CatInIdeal.nD) → Buf (Elt Ideal) ((c.tc : Thread Cert.CatInIdeal.nD Cert.CatInIdeal.τ).loc Cert.CatInIdeal.main_v0)),
      θ_run (Cert.CatInIdeal.defs (F := Ideal)) (onTc (τ := Cert.CatInIdeal.τ) (Cert.CatInIdeal.main (F := Ideal))) ⟨m, fun _ => 0, g⟩ (fun r => ∀ c : Dev Cert.CatInIdeal.nD,
          r.2.mem ((c.tc : Thread Cert.CatInIdeal.nD Cert.CatInIdeal.τ).loc Cert.CatInIdeal.main_v0) = v0 c
          ∧ r.2.mem ((c.tc : Thread Cert.CatInIdeal.nD Cert.CatInIdeal.τ).loc Cert.CatInIdeal.main_arg0) = m ((c.tc : Thread Cert.CatInIdeal.nD Cert.CatInIdeal.τ).loc Cert.CatInIdeal.main_arg0)
          ∧ r.2.mem ((c.tc : Thread Cert.CatInIdeal.nD Cert.CatInIdeal.τ).loc Cert.CatInIdeal.main_arg1) = m ((c.tc : Thread Cert.CatInIdeal.nD Cert.CatInIdeal.τ).loc Cert.CatInIdeal.main_arg1))
      ∧ θ_run (Cert.CatInRefIdeal.defs (F := Ideal)) (onTc (τ := Cert.CatInRefIdeal.τ) (Cert.CatInRefIdeal.main (F := Ideal))) ⟨m', fun _ => 0, g'⟩ (fun r => ∀ c : Dev Cert.CatInRefIdeal.nD,
          r.2.mem ((c.tc : Thread Cert.CatInRefIdeal.nD Cert.CatInRefIdeal.τ).loc Cert.CatInRefIdeal.main_v4) = v0 c
          ∧ r.2.mem ((c.tc : Thread Cert.CatInRefIdeal.nD Cert.CatInRefIdeal.τ).loc Cert.CatInRefIdeal.main_arg0) = m' ((c.tc : Thread Cert.CatInRefIdeal.nD Cert.CatInRefIdeal.τ).loc Cert.CatInRefIdeal.main_arg0)
          ∧ r.2.mem ((c.tc : Thread Cert.CatInRefIdeal.nD Cert.CatInRefIdeal.τ).loc Cert.CatInRefIdeal.main_arg1) = m' ((c.tc : Thread Cert.CatInRefIdeal.nD Cert.CatInRefIdeal.τ).loc Cert.CatInRefIdeal.main_arg1))

def preserves_BranchOut_BranchOutIdeal : Prop :=
  True

def algebraic_BranchOutIdeal_BranchOutRefIdeal [hBranchOutIdeal : Cert.BranchOutIdeal.Facts] [hBranchOutRefIdeal : Cert.BranchOutRefIdeal.Facts] : Prop :=
  ∀ (m : (ℓ : Loc Cert.BranchOutIdeal.nD Cert.BranchOutIdeal.τ Cert.BranchOutIdeal.sig) → Buf (Elt Ideal) ℓ) (g : Dev Cert.BranchOutIdeal.nD → PrngReg)
    (m' : (ℓ : Loc Cert.BranchOutRefIdeal.nD Cert.BranchOutRefIdeal.τ Cert.BranchOutRefIdeal.sig) → Buf (Elt Ideal) ℓ) (g' : Dev Cert.BranchOutRefIdeal.nD → PrngReg), Pre_BranchOutIdeal m →
    (∀ c : Dev Cert.BranchOutIdeal.nD,
      m' ((c.tc : Thread Cert.BranchOutRefIdeal.nD Cert.BranchOutRefIdeal.τ).loc Cert.BranchOutRefIdeal.main_arg0) = m ((c.tc : Thread Cert.BranchOutIdeal.nD Cert.BranchOutIdeal.τ).loc Cert.BranchOutIdeal.main_arg0)
      ∧ m' ((c.tc : Thread Cert.BranchOutRefIdeal.nD Cert.BranchOutRefIdeal.τ).loc Cert.BranchOutRefIdeal.main_arg1) = m ((c.tc : Thread Cert.BranchOutIdeal.nD Cert.BranchOutIdeal.τ).loc Cert.BranchOutIdeal.main_arg1)
      ∧ m' ((c.tc : Thread Cert.BranchOutRefIdeal.nD Cert.BranchOutRefIdeal.τ).loc Cert.BranchOutRefIdeal.main_arg2) = m ((c.tc : Thread Cert.BranchOutIdeal.nD Cert.BranchOutIdeal.τ).loc Cert.BranchOutIdeal.main_arg2)
      ∧ m' ((c.tc : Thread Cert.BranchOutRefIdeal.nD Cert.BranchOutRefIdeal.τ).loc Cert.BranchOutRefIdeal.main_arg3) = m ((c.tc : Thread Cert.BranchOutIdeal.nD Cert.BranchOutIdeal.τ).loc Cert.BranchOutIdeal.main_arg3)
      ∧ m' ((c.tc : Thread Cert.BranchOutRefIdeal.nD Cert.BranchOutRefIdeal.τ).loc Cert.BranchOutRefIdeal.main_arg4) = m ((c.tc : Thread Cert.BranchOutIdeal.nD Cert.BranchOutIdeal.τ).loc Cert.BranchOutIdeal.main_arg4)) →
    ∃ (v0 : (c : Dev Cert.BranchOutIdeal.nD) → Buf (Elt Ideal) ((c.tc : Thread Cert.BranchOutIdeal.nD Cert.BranchOutIdeal.τ).loc Cert.BranchOutIdeal.main_v0_0)) (v1 : (c : Dev Cert.BranchOutIdeal.nD) → Buf (Elt Ideal) ((c.tc : Thread Cert.BranchOutIdeal.nD Cert.BranchOutIdeal.τ).loc Cert.BranchOutIdeal.main_v0_1)) (v2 : (c : Dev Cert.BranchOutIdeal.nD) → Buf (Elt Ideal) ((c.tc : Thread Cert.BranchOutIdeal.nD Cert.BranchOutIdeal.τ).loc Cert.BranchOutIdeal.main_v0_2)),
      θ_run (Cert.BranchOutIdeal.defs (F := Ideal)) (onTc (τ := Cert.BranchOutIdeal.τ) (Cert.BranchOutIdeal.main (F := Ideal))) ⟨m, fun _ => 0, g⟩ (fun r => ∀ c : Dev Cert.BranchOutIdeal.nD,
          r.2.mem ((c.tc : Thread Cert.BranchOutIdeal.nD Cert.BranchOutIdeal.τ).loc Cert.BranchOutIdeal.main_v0_0) = v0 c
          ∧ r.2.mem ((c.tc : Thread Cert.BranchOutIdeal.nD Cert.BranchOutIdeal.τ).loc Cert.BranchOutIdeal.main_v0_1) = v1 c
          ∧ r.2.mem ((c.tc : Thread Cert.BranchOutIdeal.nD Cert.BranchOutIdeal.τ).loc Cert.BranchOutIdeal.main_v0_2) = v2 c
          ∧ r.2.mem ((c.tc : Thread Cert.BranchOutIdeal.nD Cert.BranchOutIdeal.τ).loc Cert.BranchOutIdeal.main_arg0) = m ((c.tc : Thread Cert.BranchOutIdeal.nD Cert.BranchOutIdeal.τ).loc Cert.BranchOutIdeal.main_arg0)
          ∧ r.2.mem ((c.tc : Thread Cert.BranchOutIdeal.nD Cert.BranchOutIdeal.τ).loc Cert.BranchOutIdeal.main_arg1) = m ((c.tc : Thread Cert.BranchOutIdeal.nD Cert.BranchOutIdeal.τ).loc Cert.BranchOutIdeal.main_arg1)
          ∧ r.2.mem ((c.tc : Thread Cert.BranchOutIdeal.nD Cert.BranchOutIdeal.τ).loc Cert.BranchOutIdeal.main_arg2) = m ((c.tc : Thread Cert.BranchOutIdeal.nD Cert.BranchOutIdeal.τ).loc Cert.BranchOutIdeal.main_arg2)
          ∧ r.2.mem ((c.tc : Thread Cert.BranchOutIdeal.nD Cert.BranchOutIdeal.τ).loc Cert.BranchOutIdeal.main_arg3) = m ((c.tc : Thread Cert.BranchOutIdeal.nD Cert.BranchOutIdeal.τ).loc Cert.BranchOutIdeal.main_arg3)
          ∧ r.2.mem ((c.tc : Thread Cert.BranchOutIdeal.nD Cert.BranchOutIdeal.τ).loc Cert.BranchOutIdeal.main_arg4) = m ((c.tc : Thread Cert.BranchOutIdeal.nD Cert.BranchOutIdeal.τ).loc Cert.BranchOutIdeal.main_arg4))
      ∧ θ_run (Cert.BranchOutRefIdeal.defs (F := Ideal)) (onTc (τ := Cert.BranchOutRefIdeal.τ) (Cert.BranchOutRefIdeal.main (F := Ideal))) ⟨m', fun _ => 0, g'⟩ (fun r => ∀ c : Dev Cert.BranchOutRefIdeal.nD,
          r.2.mem ((c.tc : Thread Cert.BranchOutRefIdeal.nD Cert.BranchOutRefIdeal.τ).loc Cert.BranchOutRefIdeal.main_v2) = v0 c
          ∧ r.2.mem ((c.tc : Thread Cert.BranchOutRefIdeal.nD Cert.BranchOutRefIdeal.τ).loc Cert.BranchOutRefIdeal.main_v17) = v1 c
          ∧ r.2.mem ((c.tc : Thread Cert.BranchOutRefIdeal.nD Cert.BranchOutRefIdeal.τ).loc Cert.BranchOutRefIdeal.main_v32) = v2 c
          ∧ r.2.mem ((c.tc : Thread Cert.BranchOutRefIdeal.nD Cert.BranchOutRefIdeal.τ).loc Cert.BranchOutRefIdeal.main_arg0) = m' ((c.tc : Thread Cert.BranchOutRefIdeal.nD Cert.BranchOutRefIdeal.τ).loc Cert.BranchOutRefIdeal.main_arg0)
          ∧ r.2.mem ((c.tc : Thread Cert.BranchOutRefIdeal.nD Cert.BranchOutRefIdeal.τ).loc Cert.BranchOutRefIdeal.main_arg1) = m' ((c.tc : Thread Cert.BranchOutRefIdeal.nD Cert.BranchOutRefIdeal.τ).loc Cert.BranchOutRefIdeal.main_arg1)
          ∧ r.2.mem ((c.tc : Thread Cert.BranchOutRefIdeal.nD Cert.BranchOutRefIdeal.τ).loc Cert.BranchOutRefIdeal.main_arg2) = m' ((c.tc : Thread Cert.BranchOutRefIdeal.nD Cert.BranchOutRefIdeal.τ).loc Cert.BranchOutRefIdeal.main_arg2)
          ∧ r.2.mem ((c.tc : Thread Cert.BranchOutRefIdeal.nD Cert.BranchOutRefIdeal.τ).loc Cert.BranchOutRefIdeal.main_arg3) = m' ((c.tc : Thread Cert.BranchOutRefIdeal.nD Cert.BranchOutRefIdeal.τ).loc Cert.BranchOutRefIdeal.main_arg3)
          ∧ r.2.mem ((c.tc : Thread Cert.BranchOutRefIdeal.nD Cert.BranchOutRefIdeal.τ).loc Cert.BranchOutRefIdeal.main_arg4) = m' ((c.tc : Thread Cert.BranchOutRefIdeal.nD Cert.BranchOutRefIdeal.τ).loc Cert.BranchOutRefIdeal.main_arg4))

def preserves_DownOut_DownOutIdeal : Prop :=
  True

def algebraic_DownOutIdeal_DownOutRefIdeal [hDownOutIdeal : Cert.DownOutIdeal.Facts] [hDownOutRefIdeal : Cert.DownOutRefIdeal.Facts] : Prop :=
  ∀ (m : (ℓ : Loc Cert.DownOutIdeal.nD Cert.DownOutIdeal.τ Cert.DownOutIdeal.sig) → Buf (Elt Ideal) ℓ) (g : Dev Cert.DownOutIdeal.nD → PrngReg)
    (m' : (ℓ : Loc Cert.DownOutRefIdeal.nD Cert.DownOutRefIdeal.τ Cert.DownOutRefIdeal.sig) → Buf (Elt Ideal) ℓ) (g' : Dev Cert.DownOutRefIdeal.nD → PrngReg), Pre_DownOutIdeal m →
    (∀ c : Dev Cert.DownOutIdeal.nD,
      m' ((c.tc : Thread Cert.DownOutRefIdeal.nD Cert.DownOutRefIdeal.τ).loc Cert.DownOutRefIdeal.main_arg0) = m ((c.tc : Thread Cert.DownOutIdeal.nD Cert.DownOutIdeal.τ).loc Cert.DownOutIdeal.main_arg0)
      ∧ m' ((c.tc : Thread Cert.DownOutRefIdeal.nD Cert.DownOutRefIdeal.τ).loc Cert.DownOutRefIdeal.main_arg1) = m ((c.tc : Thread Cert.DownOutIdeal.nD Cert.DownOutIdeal.τ).loc Cert.DownOutIdeal.main_arg1)
      ∧ m' ((c.tc : Thread Cert.DownOutRefIdeal.nD Cert.DownOutRefIdeal.τ).loc Cert.DownOutRefIdeal.main_arg2) = m ((c.tc : Thread Cert.DownOutIdeal.nD Cert.DownOutIdeal.τ).loc Cert.DownOutIdeal.main_arg2)
      ∧ m' ((c.tc : Thread Cert.DownOutRefIdeal.nD Cert.DownOutRefIdeal.τ).loc Cert.DownOutRefIdeal.main_arg3) = m ((c.tc : Thread Cert.DownOutIdeal.nD Cert.DownOutIdeal.τ).loc Cert.DownOutIdeal.main_arg3)
      ∧ m' ((c.tc : Thread Cert.DownOutRefIdeal.nD Cert.DownOutRefIdeal.τ).loc Cert.DownOutRefIdeal.main_arg4) = m ((c.tc : Thread Cert.DownOutIdeal.nD Cert.DownOutIdeal.τ).loc Cert.DownOutIdeal.main_arg4)) →
    ∃ (v0 : (c : Dev Cert.DownOutIdeal.nD) → Buf (Elt Ideal) ((c.tc : Thread Cert.DownOutIdeal.nD Cert.DownOutIdeal.τ).loc Cert.DownOutIdeal.main_v0_0)) (v1 : (c : Dev Cert.DownOutIdeal.nD) → Buf (Elt Ideal) ((c.tc : Thread Cert.DownOutIdeal.nD Cert.DownOutIdeal.τ).loc Cert.DownOutIdeal.main_v0_1)) (v2 : (c : Dev Cert.DownOutIdeal.nD) → Buf (Elt Ideal) ((c.tc : Thread Cert.DownOutIdeal.nD Cert.DownOutIdeal.τ).loc Cert.DownOutIdeal.main_v0_2)),
      θ_run (Cert.DownOutIdeal.defs (F := Ideal)) (onTc (τ := Cert.DownOutIdeal.τ) (Cert.DownOutIdeal.main (F := Ideal))) ⟨m, fun _ => 0, g⟩ (fun r => ∀ c : Dev Cert.DownOutIdeal.nD,
          r.2.mem ((c.tc : Thread Cert.DownOutIdeal.nD Cert.DownOutIdeal.τ).loc Cert.DownOutIdeal.main_v0_0) = v0 c
          ∧ r.2.mem ((c.tc : Thread Cert.DownOutIdeal.nD Cert.DownOutIdeal.τ).loc Cert.DownOutIdeal.main_v0_1) = v1 c
          ∧ r.2.mem ((c.tc : Thread Cert.DownOutIdeal.nD Cert.DownOutIdeal.τ).loc Cert.DownOutIdeal.main_v0_2) = v2 c
          ∧ r.2.mem ((c.tc : Thread Cert.DownOutIdeal.nD Cert.DownOutIdeal.τ).loc Cert.DownOutIdeal.main_arg0) = m ((c.tc : Thread Cert.DownOutIdeal.nD Cert.DownOutIdeal.τ).loc Cert.DownOutIdeal.main_arg0)
          ∧ r.2.mem ((c.tc : Thread Cert.DownOutIdeal.nD Cert.DownOutIdeal.τ).loc Cert.DownOutIdeal.main_arg1) = m ((c.tc : Thread Cert.DownOutIdeal.nD Cert.DownOutIdeal.τ).loc Cert.DownOutIdeal.main_arg1)
          ∧ r.2.mem ((c.tc : Thread Cert.DownOutIdeal.nD Cert.DownOutIdeal.τ).loc Cert.DownOutIdeal.main_arg2) = m ((c.tc : Thread Cert.DownOutIdeal.nD Cert.DownOutIdeal.τ).loc Cert.DownOutIdeal.main_arg2)
          ∧ r.2.mem ((c.tc : Thread Cert.DownOutIdeal.nD Cert.DownOutIdeal.τ).loc Cert.DownOutIdeal.main_arg3) = m ((c.tc : Thread Cert.DownOutIdeal.nD Cert.DownOutIdeal.τ).loc Cert.DownOutIdeal.main_arg3)
          ∧ r.2.mem ((c.tc : Thread Cert.DownOutIdeal.nD Cert.DownOutIdeal.τ).loc Cert.DownOutIdeal.main_arg4) = m ((c.tc : Thread Cert.DownOutIdeal.nD Cert.DownOutIdeal.τ).loc Cert.DownOutIdeal.main_arg4))
      ∧ θ_run (Cert.DownOutRefIdeal.defs (F := Ideal)) (onTc (τ := Cert.DownOutRefIdeal.τ) (Cert.DownOutRefIdeal.main (F := Ideal))) ⟨m', fun _ => 0, g'⟩ (fun r => ∀ c : Dev Cert.DownOutRefIdeal.nD,
          r.2.mem ((c.tc : Thread Cert.DownOutRefIdeal.nD Cert.DownOutRefIdeal.τ).loc Cert.DownOutRefIdeal.main_v2) = v0 c
          ∧ r.2.mem ((c.tc : Thread Cert.DownOutRefIdeal.nD Cert.DownOutRefIdeal.τ).loc Cert.DownOutRefIdeal.main_v17) = v1 c
          ∧ r.2.mem ((c.tc : Thread Cert.DownOutRefIdeal.nD Cert.DownOutRefIdeal.τ).loc Cert.DownOutRefIdeal.main_v32) = v2 c
          ∧ r.2.mem ((c.tc : Thread Cert.DownOutRefIdeal.nD Cert.DownOutRefIdeal.τ).loc Cert.DownOutRefIdeal.main_arg0) = m' ((c.tc : Thread Cert.DownOutRefIdeal.nD Cert.DownOutRefIdeal.τ).loc Cert.DownOutRefIdeal.main_arg0)
          ∧ r.2.mem ((c.tc : Thread Cert.DownOutRefIdeal.nD Cert.DownOutRefIdeal.τ).loc Cert.DownOutRefIdeal.main_arg1) = m' ((c.tc : Thread Cert.DownOutRefIdeal.nD Cert.DownOutRefIdeal.τ).loc Cert.DownOutRefIdeal.main_arg1)
          ∧ r.2.mem ((c.tc : Thread Cert.DownOutRefIdeal.nD Cert.DownOutRefIdeal.τ).loc Cert.DownOutRefIdeal.main_arg2) = m' ((c.tc : Thread Cert.DownOutRefIdeal.nD Cert.DownOutRefIdeal.τ).loc Cert.DownOutRefIdeal.main_arg2)
          ∧ r.2.mem ((c.tc : Thread Cert.DownOutRefIdeal.nD Cert.DownOutRefIdeal.τ).loc Cert.DownOutRefIdeal.main_arg3) = m' ((c.tc : Thread Cert.DownOutRefIdeal.nD Cert.DownOutRefIdeal.τ).loc Cert.DownOutRefIdeal.main_arg3)
          ∧ r.2.mem ((c.tc : Thread Cert.DownOutRefIdeal.nD Cert.DownOutRefIdeal.τ).loc Cert.DownOutRefIdeal.main_arg4) = m' ((c.tc : Thread Cert.DownOutRefIdeal.nD Cert.DownOutRefIdeal.τ).loc Cert.DownOutRefIdeal.main_arg4))

def preserves_QueryIn_QueryInIdeal : Prop :=
  True

def algebraic_QueryInIdeal_QueryInRefIdeal [hQueryInIdeal : Cert.QueryInIdeal.Facts] [hQueryInRefIdeal : Cert.QueryInRefIdeal.Facts] : Prop :=
  ∀ (m : (ℓ : Loc Cert.QueryInIdeal.nD Cert.QueryInIdeal.τ Cert.QueryInIdeal.sig) → Buf (Elt Ideal) ℓ) (g : Dev Cert.QueryInIdeal.nD → PrngReg)
    (m' : (ℓ : Loc Cert.QueryInRefIdeal.nD Cert.QueryInRefIdeal.τ Cert.QueryInRefIdeal.sig) → Buf (Elt Ideal) ℓ) (g' : Dev Cert.QueryInRefIdeal.nD → PrngReg), Pre_QueryInIdeal m →
    (∀ c : Dev Cert.QueryInIdeal.nD,
      m' ((c.tc : Thread Cert.QueryInRefIdeal.nD Cert.QueryInRefIdeal.τ).loc Cert.QueryInRefIdeal.main_arg0) = m ((c.tc : Thread Cert.QueryInIdeal.nD Cert.QueryInIdeal.τ).loc Cert.QueryInIdeal.main_arg0)
      ∧ m' ((c.tc : Thread Cert.QueryInRefIdeal.nD Cert.QueryInRefIdeal.τ).loc Cert.QueryInRefIdeal.main_arg1) = m ((c.tc : Thread Cert.QueryInIdeal.nD Cert.QueryInIdeal.τ).loc Cert.QueryInIdeal.main_arg1)
      ∧ m' ((c.tc : Thread Cert.QueryInRefIdeal.nD Cert.QueryInRefIdeal.τ).loc Cert.QueryInRefIdeal.main_arg2) = m ((c.tc : Thread Cert.QueryInIdeal.nD Cert.QueryInIdeal.τ).loc Cert.QueryInIdeal.main_arg2)
      ∧ m' ((c.tc : Thread Cert.QueryInRefIdeal.nD Cert.QueryInRefIdeal.τ).loc Cert.QueryInRefIdeal.main_arg3) = m ((c.tc : Thread Cert.QueryInIdeal.nD Cert.QueryInIdeal.τ).loc Cert.QueryInIdeal.main_arg3)
      ∧ m' ((c.tc : Thread Cert.QueryInRefIdeal.nD Cert.QueryInRefIdeal.τ).loc Cert.QueryInRefIdeal.main_arg4) = m ((c.tc : Thread Cert.QueryInIdeal.nD Cert.QueryInIdeal.τ).loc Cert.QueryInIdeal.main_arg4)
      ∧ m' ((c.tc : Thread Cert.QueryInRefIdeal.nD Cert.QueryInRefIdeal.τ).loc Cert.QueryInRefIdeal.main_arg5) = m ((c.tc : Thread Cert.QueryInIdeal.nD Cert.QueryInIdeal.τ).loc Cert.QueryInIdeal.main_arg5)
      ∧ m' ((c.tc : Thread Cert.QueryInRefIdeal.nD Cert.QueryInRefIdeal.τ).loc Cert.QueryInRefIdeal.main_arg6) = m ((c.tc : Thread Cert.QueryInIdeal.nD Cert.QueryInIdeal.τ).loc Cert.QueryInIdeal.main_arg6)) →
    ∃ (v0 : (c : Dev Cert.QueryInIdeal.nD) → Buf (Elt Ideal) ((c.tc : Thread Cert.QueryInIdeal.nD Cert.QueryInIdeal.τ).loc Cert.QueryInIdeal.main_v0_0)) (v1 : (c : Dev Cert.QueryInIdeal.nD) → Buf (Elt Ideal) ((c.tc : Thread Cert.QueryInIdeal.nD Cert.QueryInIdeal.τ).loc Cert.QueryInIdeal.main_v0_1)) (v2 : (c : Dev Cert.QueryInIdeal.nD) → Buf (Elt Ideal) ((c.tc : Thread Cert.QueryInIdeal.nD Cert.QueryInIdeal.τ).loc Cert.QueryInIdeal.main_v0_2)) (v3 : (c : Dev Cert.QueryInIdeal.nD) → Buf (Elt Ideal) ((c.tc : Thread Cert.QueryInIdeal.nD Cert.QueryInIdeal.τ).loc Cert.QueryInIdeal.main_v0_3)),
      θ_run (Cert.QueryInIdeal.defs (F := Ideal)) (onTc (τ := Cert.QueryInIdeal.τ) (Cert.QueryInIdeal.main (F := Ideal))) ⟨m, fun _ => 0, g⟩ (fun r => ∀ c : Dev Cert.QueryInIdeal.nD,
          r.2.mem ((c.tc : Thread Cert.QueryInIdeal.nD Cert.QueryInIdeal.τ).loc Cert.QueryInIdeal.main_v0_0) = v0 c
          ∧ r.2.mem ((c.tc : Thread Cert.QueryInIdeal.nD Cert.QueryInIdeal.τ).loc Cert.QueryInIdeal.main_v0_1) = v1 c
          ∧ r.2.mem ((c.tc : Thread Cert.QueryInIdeal.nD Cert.QueryInIdeal.τ).loc Cert.QueryInIdeal.main_v0_2) = v2 c
          ∧ r.2.mem ((c.tc : Thread Cert.QueryInIdeal.nD Cert.QueryInIdeal.τ).loc Cert.QueryInIdeal.main_v0_3) = v3 c
          ∧ r.2.mem ((c.tc : Thread Cert.QueryInIdeal.nD Cert.QueryInIdeal.τ).loc Cert.QueryInIdeal.main_arg0) = m ((c.tc : Thread Cert.QueryInIdeal.nD Cert.QueryInIdeal.τ).loc Cert.QueryInIdeal.main_arg0)
          ∧ r.2.mem ((c.tc : Thread Cert.QueryInIdeal.nD Cert.QueryInIdeal.τ).loc Cert.QueryInIdeal.main_arg1) = m ((c.tc : Thread Cert.QueryInIdeal.nD Cert.QueryInIdeal.τ).loc Cert.QueryInIdeal.main_arg1)
          ∧ r.2.mem ((c.tc : Thread Cert.QueryInIdeal.nD Cert.QueryInIdeal.τ).loc Cert.QueryInIdeal.main_arg2) = m ((c.tc : Thread Cert.QueryInIdeal.nD Cert.QueryInIdeal.τ).loc Cert.QueryInIdeal.main_arg2)
          ∧ r.2.mem ((c.tc : Thread Cert.QueryInIdeal.nD Cert.QueryInIdeal.τ).loc Cert.QueryInIdeal.main_arg3) = m ((c.tc : Thread Cert.QueryInIdeal.nD Cert.QueryInIdeal.τ).loc Cert.QueryInIdeal.main_arg3)
          ∧ r.2.mem ((c.tc : Thread Cert.QueryInIdeal.nD Cert.QueryInIdeal.τ).loc Cert.QueryInIdeal.main_arg4) = m ((c.tc : Thread Cert.QueryInIdeal.nD Cert.QueryInIdeal.τ).loc Cert.QueryInIdeal.main_arg4)
          ∧ r.2.mem ((c.tc : Thread Cert.QueryInIdeal.nD Cert.QueryInIdeal.τ).loc Cert.QueryInIdeal.main_arg5) = m ((c.tc : Thread Cert.QueryInIdeal.nD Cert.QueryInIdeal.τ).loc Cert.QueryInIdeal.main_arg5)
          ∧ r.2.mem ((c.tc : Thread Cert.QueryInIdeal.nD Cert.QueryInIdeal.τ).loc Cert.QueryInIdeal.main_arg6) = m ((c.tc : Thread Cert.QueryInIdeal.nD Cert.QueryInIdeal.τ).loc Cert.QueryInIdeal.main_arg6))
      ∧ θ_run (Cert.QueryInRefIdeal.defs (F := Ideal)) (onTc (τ := Cert.QueryInRefIdeal.τ) (Cert.QueryInRefIdeal.main (F := Ideal))) ⟨m', fun _ => 0, g'⟩ (fun r => ∀ c : Dev Cert.QueryInRefIdeal.nD,
          r.2.mem ((c.tc : Thread Cert.QueryInRefIdeal.nD Cert.QueryInRefIdeal.τ).loc Cert.QueryInRefIdeal.main_v40) = v0 c
          ∧ r.2.mem ((c.tc : Thread Cert.QueryInRefIdeal.nD Cert.QueryInRefIdeal.τ).loc Cert.QueryInRefIdeal.main_v23) = v1 c
          ∧ r.2.mem ((c.tc : Thread Cert.QueryInRefIdeal.nD Cert.QueryInRefIdeal.τ).loc Cert.QueryInRefIdeal.main_v77) = v2 c
          ∧ r.2.mem ((c.tc : Thread Cert.QueryInRefIdeal.nD Cert.QueryInRefIdeal.τ).loc Cert.QueryInRefIdeal.main_v60) = v3 c
          ∧ r.2.mem ((c.tc : Thread Cert.QueryInRefIdeal.nD Cert.QueryInRefIdeal.τ).loc Cert.QueryInRefIdeal.main_arg0) = m' ((c.tc : Thread Cert.QueryInRefIdeal.nD Cert.QueryInRefIdeal.τ).loc Cert.QueryInRefIdeal.main_arg0)
          ∧ r.2.mem ((c.tc : Thread Cert.QueryInRefIdeal.nD Cert.QueryInRefIdeal.τ).loc Cert.QueryInRefIdeal.main_arg1) = m' ((c.tc : Thread Cert.QueryInRefIdeal.nD Cert.QueryInRefIdeal.τ).loc Cert.QueryInRefIdeal.main_arg1)
          ∧ r.2.mem ((c.tc : Thread Cert.QueryInRefIdeal.nD Cert.QueryInRefIdeal.τ).loc Cert.QueryInRefIdeal.main_arg2) = m' ((c.tc : Thread Cert.QueryInRefIdeal.nD Cert.QueryInRefIdeal.τ).loc Cert.QueryInRefIdeal.main_arg2)
          ∧ r.2.mem ((c.tc : Thread Cert.QueryInRefIdeal.nD Cert.QueryInRefIdeal.τ).loc Cert.QueryInRefIdeal.main_arg3) = m' ((c.tc : Thread Cert.QueryInRefIdeal.nD Cert.QueryInRefIdeal.τ).loc Cert.QueryInRefIdeal.main_arg3)
          ∧ r.2.mem ((c.tc : Thread Cert.QueryInRefIdeal.nD Cert.QueryInRefIdeal.τ).loc Cert.QueryInRefIdeal.main_arg4) = m' ((c.tc : Thread Cert.QueryInRefIdeal.nD Cert.QueryInRefIdeal.τ).loc Cert.QueryInRefIdeal.main_arg4)
          ∧ r.2.mem ((c.tc : Thread Cert.QueryInRefIdeal.nD Cert.QueryInRefIdeal.τ).loc Cert.QueryInRefIdeal.main_arg5) = m' ((c.tc : Thread Cert.QueryInRefIdeal.nD Cert.QueryInRefIdeal.τ).loc Cert.QueryInRefIdeal.main_arg5)
          ∧ r.2.mem ((c.tc : Thread Cert.QueryInRefIdeal.nD Cert.QueryInRefIdeal.τ).loc Cert.QueryInRefIdeal.main_arg6) = m' ((c.tc : Thread Cert.QueryInRefIdeal.nD Cert.QueryInRefIdeal.τ).loc Cert.QueryInRefIdeal.main_arg6))

def preserves_RowsIn_RowsInIdeal : Prop :=
  True

def algebraic_RowsInIdeal_RowsInRefIdeal [hRowsInIdeal : Cert.RowsInIdeal.Facts] [hRowsInRefIdeal : Cert.RowsInRefIdeal.Facts] : Prop :=
  ∀ (m : (ℓ : Loc Cert.RowsInIdeal.nD Cert.RowsInIdeal.τ Cert.RowsInIdeal.sig) → Buf (Elt Ideal) ℓ) (g : Dev Cert.RowsInIdeal.nD → PrngReg)
    (m' : (ℓ : Loc Cert.RowsInRefIdeal.nD Cert.RowsInRefIdeal.τ Cert.RowsInRefIdeal.sig) → Buf (Elt Ideal) ℓ) (g' : Dev Cert.RowsInRefIdeal.nD → PrngReg), Pre_RowsInIdeal m →
    (∀ c : Dev Cert.RowsInIdeal.nD,
      m' ((c.tc : Thread Cert.RowsInRefIdeal.nD Cert.RowsInRefIdeal.τ).loc Cert.RowsInRefIdeal.main_arg0) = m ((c.tc : Thread Cert.RowsInIdeal.nD Cert.RowsInIdeal.τ).loc Cert.RowsInIdeal.main_arg0)
      ∧ m' ((c.tc : Thread Cert.RowsInRefIdeal.nD Cert.RowsInRefIdeal.τ).loc Cert.RowsInRefIdeal.main_arg1) = m ((c.tc : Thread Cert.RowsInIdeal.nD Cert.RowsInIdeal.τ).loc Cert.RowsInIdeal.main_arg1)
      ∧ m' ((c.tc : Thread Cert.RowsInRefIdeal.nD Cert.RowsInRefIdeal.τ).loc Cert.RowsInRefIdeal.main_arg2) = m ((c.tc : Thread Cert.RowsInIdeal.nD Cert.RowsInIdeal.τ).loc Cert.RowsInIdeal.main_arg2)
      ∧ m' ((c.tc : Thread Cert.RowsInRefIdeal.nD Cert.RowsInRefIdeal.τ).loc Cert.RowsInRefIdeal.main_arg3) = m ((c.tc : Thread Cert.RowsInIdeal.nD Cert.RowsInIdeal.τ).loc Cert.RowsInIdeal.main_arg3)
      ∧ m' ((c.tc : Thread Cert.RowsInRefIdeal.nD Cert.RowsInRefIdeal.τ).loc Cert.RowsInRefIdeal.main_arg4) = m ((c.tc : Thread Cert.RowsInIdeal.nD Cert.RowsInIdeal.τ).loc Cert.RowsInIdeal.main_arg4)
      ∧ m' ((c.tc : Thread Cert.RowsInRefIdeal.nD Cert.RowsInRefIdeal.τ).loc Cert.RowsInRefIdeal.main_arg5) = m ((c.tc : Thread Cert.RowsInIdeal.nD Cert.RowsInIdeal.τ).loc Cert.RowsInIdeal.main_arg5)
      ∧ m' ((c.tc : Thread Cert.RowsInRefIdeal.nD Cert.RowsInRefIdeal.τ).loc Cert.RowsInRefIdeal.main_arg6) = m ((c.tc : Thread Cert.RowsInIdeal.nD Cert.RowsInIdeal.τ).loc Cert.RowsInIdeal.main_arg6)) →
    ∃ (v0 : (c : Dev Cert.RowsInIdeal.nD) → Buf (Elt Ideal) ((c.tc : Thread Cert.RowsInIdeal.nD Cert.RowsInIdeal.τ).loc Cert.RowsInIdeal.main_v0_0)) (v1 : (c : Dev Cert.RowsInIdeal.nD) → Buf (Elt Ideal) ((c.tc : Thread Cert.RowsInIdeal.nD Cert.RowsInIdeal.τ).loc Cert.RowsInIdeal.main_v0_1)) (v2 : (c : Dev Cert.RowsInIdeal.nD) → Buf (Elt Ideal) ((c.tc : Thread Cert.RowsInIdeal.nD Cert.RowsInIdeal.τ).loc Cert.RowsInIdeal.main_v0_2)) (v3 : (c : Dev Cert.RowsInIdeal.nD) → Buf (Elt Ideal) ((c.tc : Thread Cert.RowsInIdeal.nD Cert.RowsInIdeal.τ).loc Cert.RowsInIdeal.main_v0_3)),
      θ_run (Cert.RowsInIdeal.defs (F := Ideal)) (onTc (τ := Cert.RowsInIdeal.τ) (Cert.RowsInIdeal.main (F := Ideal))) ⟨m, fun _ => 0, g⟩ (fun r => ∀ c : Dev Cert.RowsInIdeal.nD,
          r.2.mem ((c.tc : Thread Cert.RowsInIdeal.nD Cert.RowsInIdeal.τ).loc Cert.RowsInIdeal.main_v0_0) = v0 c
          ∧ r.2.mem ((c.tc : Thread Cert.RowsInIdeal.nD Cert.RowsInIdeal.τ).loc Cert.RowsInIdeal.main_v0_1) = v1 c
          ∧ r.2.mem ((c.tc : Thread Cert.RowsInIdeal.nD Cert.RowsInIdeal.τ).loc Cert.RowsInIdeal.main_v0_2) = v2 c
          ∧ r.2.mem ((c.tc : Thread Cert.RowsInIdeal.nD Cert.RowsInIdeal.τ).loc Cert.RowsInIdeal.main_v0_3) = v3 c
          ∧ r.2.mem ((c.tc : Thread Cert.RowsInIdeal.nD Cert.RowsInIdeal.τ).loc Cert.RowsInIdeal.main_arg0) = m ((c.tc : Thread Cert.RowsInIdeal.nD Cert.RowsInIdeal.τ).loc Cert.RowsInIdeal.main_arg0)
          ∧ r.2.mem ((c.tc : Thread Cert.RowsInIdeal.nD Cert.RowsInIdeal.τ).loc Cert.RowsInIdeal.main_arg1) = m ((c.tc : Thread Cert.RowsInIdeal.nD Cert.RowsInIdeal.τ).loc Cert.RowsInIdeal.main_arg1)
          ∧ r.2.mem ((c.tc : Thread Cert.RowsInIdeal.nD Cert.RowsInIdeal.τ).loc Cert.RowsInIdeal.main_arg2) = m ((c.tc : Thread Cert.RowsInIdeal.nD Cert.RowsInIdeal.τ).loc Cert.RowsInIdeal.main_arg2)
          ∧ r.2.mem ((c.tc : Thread Cert.RowsInIdeal.nD Cert.RowsInIdeal.τ).loc Cert.RowsInIdeal.main_arg3) = m ((c.tc : Thread Cert.RowsInIdeal.nD Cert.RowsInIdeal.τ).loc Cert.RowsInIdeal.main_arg3)
          ∧ r.2.mem ((c.tc : Thread Cert.RowsInIdeal.nD Cert.RowsInIdeal.τ).loc Cert.RowsInIdeal.main_arg4) = m ((c.tc : Thread Cert.RowsInIdeal.nD Cert.RowsInIdeal.τ).loc Cert.RowsInIdeal.main_arg4)
          ∧ r.2.mem ((c.tc : Thread Cert.RowsInIdeal.nD Cert.RowsInIdeal.τ).loc Cert.RowsInIdeal.main_arg5) = m ((c.tc : Thread Cert.RowsInIdeal.nD Cert.RowsInIdeal.τ).loc Cert.RowsInIdeal.main_arg5)
          ∧ r.2.mem ((c.tc : Thread Cert.RowsInIdeal.nD Cert.RowsInIdeal.τ).loc Cert.RowsInIdeal.main_arg6) = m ((c.tc : Thread Cert.RowsInIdeal.nD Cert.RowsInIdeal.τ).loc Cert.RowsInIdeal.main_arg6))
      ∧ θ_run (Cert.RowsInRefIdeal.defs (F := Ideal)) (onTc (τ := Cert.RowsInRefIdeal.τ) (Cert.RowsInRefIdeal.main (F := Ideal))) ⟨m', fun _ => 0, g'⟩ (fun r => ∀ c : Dev Cert.RowsInRefIdeal.nD,
          r.2.mem ((c.tc : Thread Cert.RowsInRefIdeal.nD Cert.RowsInRefIdeal.τ).loc Cert.RowsInRefIdeal.main_v41) = v0 c
          ∧ r.2.mem ((c.tc : Thread Cert.RowsInRefIdeal.nD Cert.RowsInRefIdeal.τ).loc Cert.RowsInRefIdeal.main_v24) = v1 c
          ∧ r.2.mem ((c.tc : Thread Cert.RowsInRefIdeal.nD Cert.RowsInRefIdeal.τ).loc Cert.RowsInRefIdeal.main_v78) = v2 c
          ∧ r.2.mem ((c.tc : Thread Cert.RowsInRefIdeal.nD Cert.RowsInRefIdeal.τ).loc Cert.RowsInRefIdeal.main_v61) = v3 c
          ∧ r.2.mem ((c.tc : Thread Cert.RowsInRefIdeal.nD Cert.RowsInRefIdeal.τ).loc Cert.RowsInRefIdeal.main_arg0) = m' ((c.tc : Thread Cert.RowsInRefIdeal.nD Cert.RowsInRefIdeal.τ).loc Cert.RowsInRefIdeal.main_arg0)
          ∧ r.2.mem ((c.tc : Thread Cert.RowsInRefIdeal.nD Cert.RowsInRefIdeal.τ).loc Cert.RowsInRefIdeal.main_arg1) = m' ((c.tc : Thread Cert.RowsInRefIdeal.nD Cert.RowsInRefIdeal.τ).loc Cert.RowsInRefIdeal.main_arg1)
          ∧ r.2.mem ((c.tc : Thread Cert.RowsInRefIdeal.nD Cert.RowsInRefIdeal.τ).loc Cert.RowsInRefIdeal.main_arg2) = m' ((c.tc : Thread Cert.RowsInRefIdeal.nD Cert.RowsInRefIdeal.τ).loc Cert.RowsInRefIdeal.main_arg2)
          ∧ r.2.mem ((c.tc : Thread Cert.RowsInRefIdeal.nD Cert.RowsInRefIdeal.τ).loc Cert.RowsInRefIdeal.main_arg3) = m' ((c.tc : Thread Cert.RowsInRefIdeal.nD Cert.RowsInRefIdeal.τ).loc Cert.RowsInRefIdeal.main_arg3)
          ∧ r.2.mem ((c.tc : Thread Cert.RowsInRefIdeal.nD Cert.RowsInRefIdeal.τ).loc Cert.RowsInRefIdeal.main_arg4) = m' ((c.tc : Thread Cert.RowsInRefIdeal.nD Cert.RowsInRefIdeal.τ).loc Cert.RowsInRefIdeal.main_arg4)
          ∧ r.2.mem ((c.tc : Thread Cert.RowsInRefIdeal.nD Cert.RowsInRefIdeal.τ).loc Cert.RowsInRefIdeal.main_arg5) = m' ((c.tc : Thread Cert.RowsInRefIdeal.nD Cert.RowsInRefIdeal.τ).loc Cert.RowsInRefIdeal.main_arg5)
          ∧ r.2.mem ((c.tc : Thread Cert.RowsInRefIdeal.nD Cert.RowsInRefIdeal.τ).loc Cert.RowsInRefIdeal.main_arg6) = m' ((c.tc : Thread Cert.RowsInRefIdeal.nD Cert.RowsInRefIdeal.τ).loc Cert.RowsInRefIdeal.main_arg6))

def preserves_Reads_ReadsIdeal : Prop :=
  True

def algebraic_ReadsIdeal_ReadsRefIdeal [hReadsIdeal : Cert.ReadsIdeal.Facts] [hReadsRefIdeal : Cert.ReadsRefIdeal.Facts] : Prop :=
  ∀ (m : (ℓ : Loc Cert.ReadsIdeal.nD Cert.ReadsIdeal.τ Cert.ReadsIdeal.sig) → Buf (Elt Ideal) ℓ) (g : Dev Cert.ReadsIdeal.nD → PrngReg)
    (m' : (ℓ : Loc Cert.ReadsRefIdeal.nD Cert.ReadsRefIdeal.τ Cert.ReadsRefIdeal.sig) → Buf (Elt Ideal) ℓ) (g' : Dev Cert.ReadsRefIdeal.nD → PrngReg), Pre_ReadsIdeal m →
    (∀ c : Dev Cert.ReadsIdeal.nD,
      m' ((c.tc : Thread Cert.ReadsRefIdeal.nD Cert.ReadsRefIdeal.τ).loc Cert.ReadsRefIdeal.main_arg0) = m ((c.tc : Thread Cert.ReadsIdeal.nD Cert.ReadsIdeal.τ).loc Cert.ReadsIdeal.main_arg0)
      ∧ m' ((c.tc : Thread Cert.ReadsRefIdeal.nD Cert.ReadsRefIdeal.τ).loc Cert.ReadsRefIdeal.main_arg1) = m ((c.tc : Thread Cert.ReadsIdeal.nD Cert.ReadsIdeal.τ).loc Cert.ReadsIdeal.main_arg1)
      ∧ m' ((c.tc : Thread Cert.ReadsRefIdeal.nD Cert.ReadsRefIdeal.τ).loc Cert.ReadsRefIdeal.main_arg2) = m ((c.tc : Thread Cert.ReadsIdeal.nD Cert.ReadsIdeal.τ).loc Cert.ReadsIdeal.main_arg2)) →
    ∃ (v0 : (c : Dev Cert.ReadsIdeal.nD) → Buf (Elt Ideal) ((c.tc : Thread Cert.ReadsIdeal.nD Cert.ReadsIdeal.τ).loc Cert.ReadsIdeal.main_v0)),
      θ_run (Cert.ReadsIdeal.defs (F := Ideal)) (onTc (τ := Cert.ReadsIdeal.τ) (Cert.ReadsIdeal.main (F := Ideal))) ⟨m, fun _ => 0, g⟩ (fun r => ∀ c : Dev Cert.ReadsIdeal.nD,
          r.2.mem ((c.tc : Thread Cert.ReadsIdeal.nD Cert.ReadsIdeal.τ).loc Cert.ReadsIdeal.main_v0) = v0 c
          ∧ r.2.mem ((c.tc : Thread Cert.ReadsIdeal.nD Cert.ReadsIdeal.τ).loc Cert.ReadsIdeal.main_arg0) = m ((c.tc : Thread Cert.ReadsIdeal.nD Cert.ReadsIdeal.τ).loc Cert.ReadsIdeal.main_arg0)
          ∧ r.2.mem ((c.tc : Thread Cert.ReadsIdeal.nD Cert.ReadsIdeal.τ).loc Cert.ReadsIdeal.main_arg1) = m ((c.tc : Thread Cert.ReadsIdeal.nD Cert.ReadsIdeal.τ).loc Cert.ReadsIdeal.main_arg1)
          ∧ r.2.mem ((c.tc : Thread Cert.ReadsIdeal.nD Cert.ReadsIdeal.τ).loc Cert.ReadsIdeal.main_arg2) = m ((c.tc : Thread Cert.ReadsIdeal.nD Cert.ReadsIdeal.τ).loc Cert.ReadsIdeal.main_arg2))
      ∧ θ_run (Cert.ReadsRefIdeal.defs (F := Ideal)) (onTc (τ := Cert.ReadsRefIdeal.τ) (Cert.ReadsRefIdeal.main (F := Ideal))) ⟨m', fun _ => 0, g'⟩ (fun r => ∀ c : Dev Cert.ReadsRefIdeal.nD,
          r.2.mem ((c.tc : Thread Cert.ReadsRefIdeal.nD Cert.ReadsRefIdeal.τ).loc Cert.ReadsRefIdeal.main_v23) = v0 c
          ∧ r.2.mem ((c.tc : Thread Cert.ReadsRefIdeal.nD Cert.ReadsRefIdeal.τ).loc Cert.ReadsRefIdeal.main_arg0) = m' ((c.tc : Thread Cert.ReadsRefIdeal.nD Cert.ReadsRefIdeal.τ).loc Cert.ReadsRefIdeal.main_arg0)
          ∧ r.2.mem ((c.tc : Thread Cert.ReadsRefIdeal.nD Cert.ReadsRefIdeal.τ).loc Cert.ReadsRefIdeal.main_arg1) = m' ((c.tc : Thread Cert.ReadsRefIdeal.nD Cert.ReadsRefIdeal.τ).loc Cert.ReadsRefIdeal.main_arg1)
          ∧ r.2.mem ((c.tc : Thread Cert.ReadsRefIdeal.nD Cert.ReadsRefIdeal.τ).loc Cert.ReadsRefIdeal.main_arg2) = m' ((c.tc : Thread Cert.ReadsRefIdeal.nD Cert.ReadsRefIdeal.τ).loc Cert.ReadsRefIdeal.main_arg2))

def preserves_Keys_KeysIdeal : Prop :=
  True

def algebraic_KeysIdeal_KeysRefIdeal [hKeysIdeal : Cert.KeysIdeal.Facts] [hKeysRefIdeal : Cert.KeysRefIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysRefIdeal.nD Cert.KeysRefIdeal.τ Cert.KeysRefIdeal.sig) → Buf (Elt Ideal) ℓ) (g' : Dev Cert.KeysRefIdeal.nD → PrngReg), Pre_KeysIdeal m →
    (∀ c : Dev Cert.KeysIdeal.nD,
      m' ((c.tc : Thread Cert.KeysRefIdeal.nD Cert.KeysRefIdeal.τ).loc Cert.KeysRefIdeal.main_arg0) = m ((c.tc : Thread Cert.KeysIdeal.nD Cert.KeysIdeal.τ).loc Cert.KeysIdeal.main_arg0)
      ∧ m' ((c.tc : Thread Cert.KeysRefIdeal.nD Cert.KeysRefIdeal.τ).loc Cert.KeysRefIdeal.main_arg1) = m ((c.tc : Thread Cert.KeysIdeal.nD Cert.KeysIdeal.τ).loc Cert.KeysIdeal.main_arg1)) →
    ∃ (v0 : (c : Dev Cert.KeysIdeal.nD) → Buf (Elt Ideal) ((c.tc : Thread Cert.KeysIdeal.nD Cert.KeysIdeal.τ).loc Cert.KeysIdeal.main_v0)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v0) = v0 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ θ_run (Cert.KeysRefIdeal.defs (F := Ideal)) (onTc (τ := Cert.KeysRefIdeal.τ) (Cert.KeysRefIdeal.main (F := Ideal))) ⟨m', fun _ => 0, g'⟩ (fun r => ∀ c : Dev Cert.KeysRefIdeal.nD,
          r.2.mem ((c.tc : Thread Cert.KeysRefIdeal.nD Cert.KeysRefIdeal.τ).loc Cert.KeysRefIdeal.main_v3) = v0 c
          ∧ r.2.mem ((c.tc : Thread Cert.KeysRefIdeal.nD Cert.KeysRefIdeal.τ).loc Cert.KeysRefIdeal.main_arg0) = m' ((c.tc : Thread Cert.KeysRefIdeal.nD Cert.KeysRefIdeal.τ).loc Cert.KeysRefIdeal.main_arg0)
          ∧ r.2.mem ((c.tc : Thread Cert.KeysRefIdeal.nD Cert.KeysRefIdeal.τ).loc Cert.KeysRefIdeal.main_arg1) = m' ((c.tc : Thread Cert.KeysRefIdeal.nD Cert.KeysRefIdeal.τ).loc Cert.KeysRefIdeal.main_arg1))

def preserves_KeyGrad_KeyGradIdeal : Prop :=
  True

def algebraic_KeyGradIdeal_KeyGradRefIdeal [hKeyGradIdeal : Cert.KeyGradIdeal.Facts] [hKeyGradRefIdeal : Cert.KeyGradRefIdeal.Facts] : Prop :=
  ∀ (m : (ℓ : Loc Cert.KeyGradIdeal.nD Cert.KeyGradIdeal.τ Cert.KeyGradIdeal.sig) → Buf (Elt Ideal) ℓ) (g : Dev Cert.KeyGradIdeal.nD → PrngReg)
    (m' : (ℓ : Loc Cert.KeyGradRefIdeal.nD Cert.KeyGradRefIdeal.τ Cert.KeyGradRefIdeal.sig) → Buf (Elt Ideal) ℓ) (g' : Dev Cert.KeyGradRefIdeal.nD → PrngReg), Pre_KeyGradIdeal m →
    (∀ c : Dev Cert.KeyGradIdeal.nD,
      m' ((c.tc : Thread Cert.KeyGradRefIdeal.nD Cert.KeyGradRefIdeal.τ).loc Cert.KeyGradRefIdeal.main_arg0) = m ((c.tc : Thread Cert.KeyGradIdeal.nD Cert.KeyGradIdeal.τ).loc Cert.KeyGradIdeal.main_arg0)
      ∧ m' ((c.tc : Thread Cert.KeyGradRefIdeal.nD Cert.KeyGradRefIdeal.τ).loc Cert.KeyGradRefIdeal.main_arg1) = m ((c.tc : Thread Cert.KeyGradIdeal.nD Cert.KeyGradIdeal.τ).loc Cert.KeyGradIdeal.main_arg1)) →
    ∃ (v0 : (c : Dev Cert.KeyGradIdeal.nD) → Buf (Elt Ideal) ((c.tc : Thread Cert.KeyGradIdeal.nD Cert.KeyGradIdeal.τ).loc Cert.KeyGradIdeal.main_v0)),
      θ_run (Cert.KeyGradIdeal.defs (F := Ideal)) (onTc (τ := Cert.KeyGradIdeal.τ) (Cert.KeyGradIdeal.main (F := Ideal))) ⟨m, fun _ => 0, g⟩ (fun r => ∀ c : Dev Cert.KeyGradIdeal.nD,
          r.2.mem ((c.tc : Thread Cert.KeyGradIdeal.nD Cert.KeyGradIdeal.τ).loc Cert.KeyGradIdeal.main_v0) = v0 c
          ∧ r.2.mem ((c.tc : Thread Cert.KeyGradIdeal.nD Cert.KeyGradIdeal.τ).loc Cert.KeyGradIdeal.main_arg0) = m ((c.tc : Thread Cert.KeyGradIdeal.nD Cert.KeyGradIdeal.τ).loc Cert.KeyGradIdeal.main_arg0)
          ∧ r.2.mem ((c.tc : Thread Cert.KeyGradIdeal.nD Cert.KeyGradIdeal.τ).loc Cert.KeyGradIdeal.main_arg1) = m ((c.tc : Thread Cert.KeyGradIdeal.nD Cert.KeyGradIdeal.τ).loc Cert.KeyGradIdeal.main_arg1))
      ∧ θ_run (Cert.KeyGradRefIdeal.defs (F := Ideal)) (onTc (τ := Cert.KeyGradRefIdeal.τ) (Cert.KeyGradRefIdeal.main (F := Ideal))) ⟨m', fun _ => 0, g'⟩ (fun r => ∀ c : Dev Cert.KeyGradRefIdeal.nD,
          r.2.mem ((c.tc : Thread Cert.KeyGradRefIdeal.nD Cert.KeyGradRefIdeal.τ).loc Cert.KeyGradRefIdeal.main_v6) = v0 c
          ∧ r.2.mem ((c.tc : Thread Cert.KeyGradRefIdeal.nD Cert.KeyGradRefIdeal.τ).loc Cert.KeyGradRefIdeal.main_arg0) = m' ((c.tc : Thread Cert.KeyGradRefIdeal.nD Cert.KeyGradRefIdeal.τ).loc Cert.KeyGradRefIdeal.main_arg0)
          ∧ r.2.mem ((c.tc : Thread Cert.KeyGradRefIdeal.nD Cert.KeyGradRefIdeal.τ).loc Cert.KeyGradRefIdeal.main_arg1) = m' ((c.tc : Thread Cert.KeyGradRefIdeal.nD Cert.KeyGradRefIdeal.τ).loc Cert.KeyGradRefIdeal.main_arg1))

def preserves_MemIn_MemInIdeal : Prop :=
  True

def algebraic_MemInIdeal_MemInRefIdeal [hMemInIdeal : Cert.MemInIdeal.Facts] [hMemInRefIdeal : Cert.MemInRefIdeal.Facts] : Prop :=
  ∀ (m : (ℓ : Loc Cert.MemInIdeal.nD Cert.MemInIdeal.τ Cert.MemInIdeal.sig) → Buf (Elt Ideal) ℓ) (g : Dev Cert.MemInIdeal.nD → PrngReg)
    (m' : (ℓ : Loc Cert.MemInRefIdeal.nD Cert.MemInRefIdeal.τ Cert.MemInRefIdeal.sig) → Buf (Elt Ideal) ℓ) (g' : Dev Cert.MemInRefIdeal.nD → PrngReg), Pre_MemInIdeal m →
    (∀ c : Dev Cert.MemInIdeal.nD,
      m' ((c.tc : Thread Cert.MemInRefIdeal.nD Cert.MemInRefIdeal.τ).loc Cert.MemInRefIdeal.main_arg0) = m ((c.tc : Thread Cert.MemInIdeal.nD Cert.MemInIdeal.τ).loc Cert.MemInIdeal.main_arg0)
      ∧ m' ((c.tc : Thread Cert.MemInRefIdeal.nD Cert.MemInRefIdeal.τ).loc Cert.MemInRefIdeal.main_arg1) = m ((c.tc : Thread Cert.MemInIdeal.nD Cert.MemInIdeal.τ).loc Cert.MemInIdeal.main_arg1)) →
    ∃ (v0 : (c : Dev Cert.MemInIdeal.nD) → Buf (Elt Ideal) ((c.tc : Thread Cert.MemInIdeal.nD Cert.MemInIdeal.τ).loc Cert.MemInIdeal.main_v0)),
      θ_run (Cert.MemInIdeal.defs (F := Ideal)) (onTc (τ := Cert.MemInIdeal.τ) (Cert.MemInIdeal.main (F := Ideal))) ⟨m, fun _ => 0, g⟩ (fun r => ∀ c : Dev Cert.MemInIdeal.nD,
          r.2.mem ((c.tc : Thread Cert.MemInIdeal.nD Cert.MemInIdeal.τ).loc Cert.MemInIdeal.main_v0) = v0 c
          ∧ r.2.mem ((c.tc : Thread Cert.MemInIdeal.nD Cert.MemInIdeal.τ).loc Cert.MemInIdeal.main_arg0) = m ((c.tc : Thread Cert.MemInIdeal.nD Cert.MemInIdeal.τ).loc Cert.MemInIdeal.main_arg0)
          ∧ r.2.mem ((c.tc : Thread Cert.MemInIdeal.nD Cert.MemInIdeal.τ).loc Cert.MemInIdeal.main_arg1) = m ((c.tc : Thread Cert.MemInIdeal.nD Cert.MemInIdeal.τ).loc Cert.MemInIdeal.main_arg1))
      ∧ θ_run (Cert.MemInRefIdeal.defs (F := Ideal)) (onTc (τ := Cert.MemInRefIdeal.τ) (Cert.MemInRefIdeal.main (F := Ideal))) ⟨m', fun _ => 0, g'⟩ (fun r => ∀ c : Dev Cert.MemInRefIdeal.nD,
          r.2.mem ((c.tc : Thread Cert.MemInRefIdeal.nD Cert.MemInRefIdeal.τ).loc Cert.MemInRefIdeal.main_v4) = v0 c
          ∧ r.2.mem ((c.tc : Thread Cert.MemInRefIdeal.nD Cert.MemInRefIdeal.τ).loc Cert.MemInRefIdeal.main_arg0) = m' ((c.tc : Thread Cert.MemInRefIdeal.nD Cert.MemInRefIdeal.τ).loc Cert.MemInRefIdeal.main_arg0)
          ∧ r.2.mem ((c.tc : Thread Cert.MemInRefIdeal.nD Cert.MemInRefIdeal.τ).loc Cert.MemInRefIdeal.main_arg1) = m' ((c.tc : Thread Cert.MemInRefIdeal.nD Cert.MemInRefIdeal.τ).loc Cert.MemInRefIdeal.main_arg1))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)) →
    ∃ (v0 : (c : Dev Cert.PreNormIdeal.nD) → Buf (Elt Ideal) ((c.tc : Thread Cert.PreNormIdeal.nD Cert.PreNormIdeal.τ).loc Cert.PreNormIdeal.main_v0)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v0) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v14) = v0 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v0)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v0) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v13) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def preserves_MemGain_MemGainIdeal : Prop :=
  True

def algebraic_MemGainIdeal_MemGainRefIdeal [hMemGainIdeal : Cert.MemGainIdeal.Facts] [hMemGainRefIdeal : Cert.MemGainRefIdeal.Facts] : Prop :=
  ∀ (m : (ℓ : Loc Cert.MemGainIdeal.nD Cert.MemGainIdeal.τ Cert.MemGainIdeal.sig) → Buf (Elt Ideal) ℓ) (g : Dev Cert.MemGainIdeal.nD → PrngReg)
    (m' : (ℓ : Loc Cert.MemGainRefIdeal.nD Cert.MemGainRefIdeal.τ Cert.MemGainRefIdeal.sig) → Buf (Elt Ideal) ℓ) (g' : Dev Cert.MemGainRefIdeal.nD → PrngReg), Pre_MemGainIdeal m →
    (∀ c : Dev Cert.MemGainIdeal.nD,
      m' ((c.tc : Thread Cert.MemGainRefIdeal.nD Cert.MemGainRefIdeal.τ).loc Cert.MemGainRefIdeal.main_arg0) = m ((c.tc : Thread Cert.MemGainIdeal.nD Cert.MemGainIdeal.τ).loc Cert.MemGainIdeal.main_arg0)
      ∧ m' ((c.tc : Thread Cert.MemGainRefIdeal.nD Cert.MemGainRefIdeal.τ).loc Cert.MemGainRefIdeal.main_arg1) = m ((c.tc : Thread Cert.MemGainIdeal.nD Cert.MemGainIdeal.τ).loc Cert.MemGainIdeal.main_arg1)
      ∧ m' ((c.tc : Thread Cert.MemGainRefIdeal.nD Cert.MemGainRefIdeal.τ).loc Cert.MemGainRefIdeal.main_arg2) = m ((c.tc : Thread Cert.MemGainIdeal.nD Cert.MemGainIdeal.τ).loc Cert.MemGainIdeal.main_arg2)) →
    ∃ (v0 : (c : Dev Cert.MemGainIdeal.nD) → Buf (Elt Ideal) ((c.tc : Thread Cert.MemGainIdeal.nD Cert.MemGainIdeal.τ).loc Cert.MemGainIdeal.main_v1_0)) (v1 : (c : Dev Cert.MemGainIdeal.nD) → Buf (Elt Ideal) ((c.tc : Thread Cert.MemGainIdeal.nD Cert.MemGainIdeal.τ).loc Cert.MemGainIdeal.main_v1_1)),
      θ_run (Cert.MemGainIdeal.defs (F := Ideal)) (onTc (τ := Cert.MemGainIdeal.τ) (Cert.MemGainIdeal.main (F := Ideal))) ⟨m, fun _ => 0, g⟩ (fun r => ∀ c : Dev Cert.MemGainIdeal.nD,
          r.2.mem ((c.tc : Thread Cert.MemGainIdeal.nD Cert.MemGainIdeal.τ).loc Cert.MemGainIdeal.main_v1_0) = v0 c
          ∧ r.2.mem ((c.tc : Thread Cert.MemGainIdeal.nD Cert.MemGainIdeal.τ).loc Cert.MemGainIdeal.main_v1_1) = v1 c
          ∧ r.2.mem ((c.tc : Thread Cert.MemGainIdeal.nD Cert.MemGainIdeal.τ).loc Cert.MemGainIdeal.main_arg0) = m ((c.tc : Thread Cert.MemGainIdeal.nD Cert.MemGainIdeal.τ).loc Cert.MemGainIdeal.main_arg0)
          ∧ r.2.mem ((c.tc : Thread Cert.MemGainIdeal.nD Cert.MemGainIdeal.τ).loc Cert.MemGainIdeal.main_arg1) = m ((c.tc : Thread Cert.MemGainIdeal.nD Cert.MemGainIdeal.τ).loc Cert.MemGainIdeal.main_arg1)
          ∧ r.2.mem ((c.tc : Thread Cert.MemGainIdeal.nD Cert.MemGainIdeal.τ).loc Cert.MemGainIdeal.main_arg2) = m ((c.tc : Thread Cert.MemGainIdeal.nD Cert.MemGainIdeal.τ).loc Cert.MemGainIdeal.main_arg2))
      ∧ θ_run (Cert.MemGainRefIdeal.defs (F := Ideal)) (onTc (τ := Cert.MemGainRefIdeal.τ) (Cert.MemGainRefIdeal.main (F := Ideal))) ⟨m', fun _ => 0, g'⟩ (fun r => ∀ c : Dev Cert.MemGainRefIdeal.nD,
          r.2.mem ((c.tc : Thread Cert.MemGainRefIdeal.nD Cert.MemGainRefIdeal.τ).loc Cert.MemGainRefIdeal.main_v34) = v0 c
          ∧ r.2.mem ((c.tc : Thread Cert.MemGainRefIdeal.nD Cert.MemGainRefIdeal.τ).loc Cert.MemGainRefIdeal.main_v18) = v1 c
          ∧ r.2.mem ((c.tc : Thread Cert.MemGainRefIdeal.nD Cert.MemGainRefIdeal.τ).loc Cert.MemGainRefIdeal.main_arg0) = m' ((c.tc : Thread Cert.MemGainRefIdeal.nD Cert.MemGainRefIdeal.τ).loc Cert.MemGainRefIdeal.main_arg0)
          ∧ r.2.mem ((c.tc : Thread Cert.MemGainRefIdeal.nD Cert.MemGainRefIdeal.τ).loc Cert.MemGainRefIdeal.main_arg1) = m' ((c.tc : Thread Cert.MemGainRefIdeal.nD Cert.MemGainRefIdeal.τ).loc Cert.MemGainRefIdeal.main_arg1)
          ∧ r.2.mem ((c.tc : Thread Cert.MemGainRefIdeal.nD Cert.MemGainRefIdeal.τ).loc Cert.MemGainRefIdeal.main_arg2) = m' ((c.tc : Thread Cert.MemGainRefIdeal.nD Cert.MemGainRefIdeal.τ).loc Cert.MemGainRefIdeal.main_arg2))

def Claim : Prop :=
  ∃ (hAttn : Cert.Attn.Facts) (hAttnIdeal : Cert.AttnIdeal.Facts) (hAttnRefIdeal : Cert.AttnRefIdeal.Facts) (hFfnIn : Cert.FfnIn.Facts) (hFfnInIdeal : Cert.FfnInIdeal.Facts) (hFfnInRefIdeal : Cert.FfnInRefIdeal.Facts) (hUpGrad : Cert.UpGrad.Facts) (hUpGradIdeal : Cert.UpGradIdeal.Facts) (hUpGradRefIdeal : Cert.UpGradRefIdeal.Facts) (hUp : Cert.Up.Facts) (hUpIdeal : Cert.UpIdeal.Facts) (hUpRefIdeal : Cert.UpRefIdeal.Facts) (hDownIn : Cert.DownIn.Facts) (hDownInIdeal : Cert.DownInIdeal.Facts) (hDownInRefIdeal : Cert.DownInRefIdeal.Facts) (hDownGrad : Cert.DownGrad.Facts) (hDownGradIdeal : Cert.DownGradIdeal.Facts) (hDownGradRefIdeal : Cert.DownGradRefIdeal.Facts) (hMixIn : Cert.MixIn.Facts) (hMixInIdeal : Cert.MixInIdeal.Facts) (hMixInRefIdeal : Cert.MixInRefIdeal.Facts) (hMixGrad : Cert.MixGrad.Facts) (hMixGradIdeal : Cert.MixGradIdeal.Facts) (hMixGradRefIdeal : Cert.MixGradRefIdeal.Facts) (hOutIn : Cert.OutIn.Facts) (hOutInIdeal : Cert.OutInIdeal.Facts) (hOutInRefIdeal : Cert.OutInRefIdeal.Facts) (hOutGrad : Cert.OutGrad.Facts) (hOutGradIdeal : Cert.OutGradIdeal.Facts) (hOutGradRefIdeal : Cert.OutGradRefIdeal.Facts) (hQuery : Cert.Query.Facts) (hQueryIdeal : Cert.QueryIdeal.Facts) (hQueryRefIdeal : Cert.QueryRefIdeal.Facts) (hAdamSmall : Cert.AdamSmall.Facts) (hAdamSmallIdeal : Cert.AdamSmallIdeal.Facts) (hAdamSmallRefIdeal : Cert.AdamSmallRefIdeal.Facts) (hSumSmall : Cert.SumSmall.Facts) (hSumSmallIdeal : Cert.SumSmallIdeal.Facts) (hSumSmallRefIdeal : Cert.SumSmallRefIdeal.Facts) (hGradRows : Cert.GradRows.Facts) (hGradRowsIdeal : Cert.GradRowsIdeal.Facts) (hGradRowsRefIdeal : Cert.GradRowsRefIdeal.Facts) (hAdamSquare : Cert.AdamSquare.Facts) (hAdamSquareIdeal : Cert.AdamSquareIdeal.Facts) (hAdamSquareRefIdeal : Cert.AdamSquareRefIdeal.Facts) (hAdamIn : Cert.AdamIn.Facts) (hAdamInIdeal : Cert.AdamInIdeal.Facts) (hAdamInRefIdeal : Cert.AdamInRefIdeal.Facts) (hAdamDown : Cert.AdamDown.Facts) (hAdamDownIdeal : Cert.AdamDownIdeal.Facts) (hAdamDownRefIdeal : Cert.AdamDownRefIdeal.Facts) (hAdamUp : Cert.AdamUp.Facts) (hAdamUpIdeal : Cert.AdamUpIdeal.Facts) (hAdamUpRefIdeal : Cert.AdamUpRefIdeal.Facts) (hLossHead : Cert.LossHead.Facts) (hLossHeadIdeal : Cert.LossHeadIdeal.Facts) (hLossHeadRefIdeal : Cert.LossHeadRefIdeal.Facts) (hCatIn : Cert.CatIn.Facts) (hCatInIdeal : Cert.CatInIdeal.Facts) (hCatInRefIdeal : Cert.CatInRefIdeal.Facts) (hBranchOut : Cert.BranchOut.Facts) (hBranchOutIdeal : Cert.BranchOutIdeal.Facts) (hBranchOutRefIdeal : Cert.BranchOutRefIdeal.Facts) (hDownOut : Cert.DownOut.Facts) (hDownOutIdeal : Cert.DownOutIdeal.Facts) (hDownOutRefIdeal : Cert.DownOutRefIdeal.Facts) (hQueryIn : Cert.QueryIn.Facts) (hQueryInIdeal : Cert.QueryInIdeal.Facts) (hQueryInRefIdeal : Cert.QueryInRefIdeal.Facts) (hRowsIn : Cert.RowsIn.Facts) (hRowsInIdeal : Cert.RowsInIdeal.Facts) (hRowsInRefIdeal : Cert.RowsInRefIdeal.Facts) (hReads : Cert.Reads.Facts) (hReadsIdeal : Cert.ReadsIdeal.Facts) (hReadsRefIdeal : Cert.ReadsRefIdeal.Facts) (hKeys : Cert.Keys.Facts) (hKeysIdeal : Cert.KeysIdeal.Facts) (hKeysRefIdeal : Cert.KeysRefIdeal.Facts) (hKeyGrad : Cert.KeyGrad.Facts) (hKeyGradIdeal : Cert.KeyGradIdeal.Facts) (hKeyGradRefIdeal : Cert.KeyGradRefIdeal.Facts) (hMemIn : Cert.MemIn.Facts) (hMemInIdeal : Cert.MemInIdeal.Facts) (hMemInRefIdeal : Cert.MemInRefIdeal.Facts) (hPreNorm : Cert.PreNorm.Facts) (hPreNormIdeal : Cert.PreNormIdeal.Facts) (hPreNormRefIdeal : Cert.PreNormRefIdeal.Facts) (hMemNorm : Cert.MemNorm.Facts) (hMemNormIdeal : Cert.MemNormIdeal.Facts) (hMemNormRefIdeal : Cert.MemNormRefIdeal.Facts) (hMemGain : Cert.MemGain.Facts) (hMemGainIdeal : Cert.MemGainIdeal.Facts) (hMemGainRefIdeal : Cert.MemGainRefIdeal.Facts) (hPre_scores_finite : Cert.Pre_scores_finite.Facts),
    quiescent_Attn (hAttn := hAttn)
    ∧ quiescent_AttnIdeal (hAttnIdeal := hAttnIdeal)
    ∧ quiescent_AttnIdeal_pre_scores_finite (hAttnIdeal := hAttnIdeal) (hPre_scores_finite := hPre_scores_finite)
    ∧ quiescent_AttnRefIdeal (hAttnRefIdeal := hAttnRefIdeal)
    ∧ quiescent_AttnRefIdeal_pre_scores_finite (hAttnRefIdeal := hAttnRefIdeal) (hPre_scores_finite := hPre_scores_finite)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_UpGrad (hUpGrad := hUpGrad)
    ∧ quiescent_UpGradIdeal (hUpGradIdeal := hUpGradIdeal)
    ∧ quiescent_UpGradRefIdeal (hUpGradRefIdeal := hUpGradRefIdeal)
    ∧ quiescent_Up (hUp := hUp)
    ∧ quiescent_UpIdeal (hUpIdeal := hUpIdeal)
    ∧ quiescent_UpRefIdeal (hUpRefIdeal := hUpRefIdeal)
    ∧ quiescent_DownIn (hDownIn := hDownIn)
    ∧ quiescent_DownInIdeal (hDownInIdeal := hDownInIdeal)
    ∧ quiescent_DownInRefIdeal (hDownInRefIdeal := hDownInRefIdeal)
    ∧ quiescent_DownGrad (hDownGrad := hDownGrad)
    ∧ quiescent_DownGradIdeal (hDownGradIdeal := hDownGradIdeal)
    ∧ quiescent_DownGradRefIdeal (hDownGradRefIdeal := hDownGradRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixGrad (hMixGrad := hMixGrad)
    ∧ quiescent_MixGradIdeal (hMixGradIdeal := hMixGradIdeal)
    ∧ quiescent_MixGradRefIdeal (hMixGradRefIdeal := hMixGradRefIdeal)
    ∧ quiescent_OutIn (hOutIn := hOutIn)
    ∧ quiescent_OutInIdeal (hOutInIdeal := hOutInIdeal)
    ∧ quiescent_OutInRefIdeal (hOutInRefIdeal := hOutInRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_Query (hQuery := hQuery)
    ∧ quiescent_QueryIdeal (hQueryIdeal := hQueryIdeal)
    ∧ quiescent_QueryRefIdeal (hQueryRefIdeal := hQueryRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_GradRows (hGradRows := hGradRows)
    ∧ quiescent_GradRowsIdeal (hGradRowsIdeal := hGradRowsIdeal)
    ∧ quiescent_GradRowsRefIdeal (hGradRowsRefIdeal := hGradRowsRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_CatIn (hCatIn := hCatIn)
    ∧ quiescent_CatInIdeal (hCatInIdeal := hCatInIdeal)
    ∧ quiescent_CatInRefIdeal (hCatInRefIdeal := hCatInRefIdeal)
    ∧ quiescent_BranchOut (hBranchOut := hBranchOut)
    ∧ quiescent_BranchOutIdeal (hBranchOutIdeal := hBranchOutIdeal)
    ∧ quiescent_BranchOutRefIdeal (hBranchOutRefIdeal := hBranchOutRefIdeal)
    ∧ quiescent_DownOut (hDownOut := hDownOut)
    ∧ quiescent_DownOutIdeal (hDownOutIdeal := hDownOutIdeal)
    ∧ quiescent_DownOutRefIdeal (hDownOutRefIdeal := hDownOutRefIdeal)
    ∧ quiescent_QueryIn (hQueryIn := hQueryIn)
    ∧ quiescent_QueryInIdeal (hQueryInIdeal := hQueryInIdeal)
    ∧ quiescent_QueryInRefIdeal (hQueryInRefIdeal := hQueryInRefIdeal)
    ∧ quiescent_RowsIn (hRowsIn := hRowsIn)
    ∧ quiescent_RowsInIdeal (hRowsInIdeal := hRowsInIdeal)
    ∧ quiescent_RowsInRefIdeal (hRowsInRefIdeal := hRowsInRefIdeal)
    ∧ quiescent_Reads (hReads := hReads)
    ∧ quiescent_ReadsIdeal (hReadsIdeal := hReadsIdeal)
    ∧ quiescent_ReadsRefIdeal (hReadsRefIdeal := hReadsRefIdeal)
    ∧ quiescent_Keys (hKeys := hKeys)
    ∧ quiescent_KeysIdeal (hKeysIdeal := hKeysIdeal)
    ∧ quiescent_KeysRefIdeal (hKeysRefIdeal := hKeysRefIdeal)
    ∧ quiescent_KeyGrad (hKeyGrad := hKeyGrad)
    ∧ quiescent_KeyGradIdeal (hKeyGradIdeal := hKeyGradIdeal)
    ∧ quiescent_KeyGradRefIdeal (hKeyGradRefIdeal := hKeyGradRefIdeal)
    ∧ quiescent_MemIn (hMemIn := hMemIn)
    ∧ quiescent_MemInIdeal (hMemInIdeal := hMemInIdeal)
    ∧ quiescent_MemInRefIdeal (hMemInRefIdeal := hMemInRefIdeal)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_MemGain (hMemGain := hMemGain)
    ∧ quiescent_MemGainIdeal (hMemGainIdeal := hMemGainIdeal)
    ∧ quiescent_MemGainRefIdeal (hMemGainRefIdeal := hMemGainRefIdeal)
    ∧ preserves_Attn_AttnIdeal
    ∧ algebraic_AttnIdeal_AttnRefIdeal_pre_scores_finite (hAttnIdeal := hAttnIdeal) (hAttnRefIdeal := hAttnRefIdeal) (hPre_scores_finite := hPre_scores_finite)
    ∧ preserves_FfnIn_FfnInIdeal
    ∧ algebraic_FfnInIdeal_FfnInRefIdeal (hFfnInIdeal := hFfnInIdeal) (hFfnInRefIdeal := hFfnInRefIdeal)
    ∧ preserves_UpGrad_UpGradIdeal
    ∧ algebraic_UpGradIdeal_UpGradRefIdeal (hUpGradIdeal := hUpGradIdeal) (hUpGradRefIdeal := hUpGradRefIdeal)
    ∧ preserves_Up_UpIdeal
    ∧ algebraic_UpIdeal_UpRefIdeal (hUpIdeal := hUpIdeal) (hUpRefIdeal := hUpRefIdeal)
    ∧ preserves_DownIn_DownInIdeal
    ∧ algebraic_DownInIdeal_DownInRefIdeal (hDownInIdeal := hDownInIdeal) (hDownInRefIdeal := hDownInRefIdeal)
    ∧ preserves_DownGrad_DownGradIdeal
    ∧ algebraic_DownGradIdeal_DownGradRefIdeal (hDownGradIdeal := hDownGradIdeal) (hDownGradRefIdeal := hDownGradRefIdeal)
    ∧ preserves_MixIn_MixInIdeal
    ∧ algebraic_MixInIdeal_MixInRefIdeal (hMixInIdeal := hMixInIdeal) (hMixInRefIdeal := hMixInRefIdeal)
    ∧ preserves_MixGrad_MixGradIdeal
    ∧ algebraic_MixGradIdeal_MixGradRefIdeal (hMixGradIdeal := hMixGradIdeal) (hMixGradRefIdeal := hMixGradRefIdeal)
    ∧ preserves_OutIn_OutInIdeal
    ∧ algebraic_OutInIdeal_OutInRefIdeal (hOutInIdeal := hOutInIdeal) (hOutInRefIdeal := hOutInRefIdeal)
    ∧ preserves_OutGrad_OutGradIdeal
    ∧ algebraic_OutGradIdeal_OutGradRefIdeal (hOutGradIdeal := hOutGradIdeal) (hOutGradRefIdeal := hOutGradRefIdeal)
    ∧ preserves_Query_QueryIdeal
    ∧ algebraic_QueryIdeal_QueryRefIdeal (hQueryIdeal := hQueryIdeal) (hQueryRefIdeal := hQueryRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumSmall_SumSmallIdeal
    ∧ algebraic_SumSmallIdeal_SumSmallRefIdeal (hSumSmallIdeal := hSumSmallIdeal) (hSumSmallRefIdeal := hSumSmallRefIdeal)
    ∧ preserves_GradRows_GradRowsIdeal
    ∧ algebraic_GradRowsIdeal_GradRowsRefIdeal (hGradRowsIdeal := hGradRowsIdeal) (hGradRowsRefIdeal := hGradRowsRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamIn_AdamInIdeal
    ∧ algebraic_AdamInIdeal_AdamInRefIdeal (hAdamInIdeal := hAdamInIdeal) (hAdamInRefIdeal := hAdamInRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamUp_AdamUpIdeal
    ∧ algebraic_AdamUpIdeal_AdamUpRefIdeal (hAdamUpIdeal := hAdamUpIdeal) (hAdamUpRefIdeal := hAdamUpRefIdeal)
    ∧ preserves_LossHead_LossHeadIdeal
    ∧ algebraic_LossHeadIdeal_LossHeadRefIdeal (hLossHeadIdeal := hLossHeadIdeal) (hLossHeadRefIdeal := hLossHeadRefIdeal)
    ∧ preserves_CatIn_CatInIdeal
    ∧ algebraic_CatInIdeal_CatInRefIdeal (hCatInIdeal := hCatInIdeal) (hCatInRefIdeal := hCatInRefIdeal)
    ∧ preserves_BranchOut_BranchOutIdeal
    ∧ algebraic_BranchOutIdeal_BranchOutRefIdeal (hBranchOutIdeal := hBranchOutIdeal) (hBranchOutRefIdeal := hBranchOutRefIdeal)
    ∧ preserves_DownOut_DownOutIdeal
    ∧ algebraic_DownOutIdeal_DownOutRefIdeal (hDownOutIdeal := hDownOutIdeal) (hDownOutRefIdeal := hDownOutRefIdeal)
    ∧ preserves_QueryIn_QueryInIdeal
    ∧ algebraic_QueryInIdeal_QueryInRefIdeal (hQueryInIdeal := hQueryInIdeal) (hQueryInRefIdeal := hQueryInRefIdeal)
    ∧ preserves_RowsIn_RowsInIdeal
    ∧ algebraic_RowsInIdeal_RowsInRefIdeal (hRowsInIdeal := hRowsInIdeal) (hRowsInRefIdeal := hRowsInRefIdeal)
    ∧ preserves_Reads_ReadsIdeal
    ∧ algebraic_ReadsIdeal_ReadsRefIdeal (hReadsIdeal := hReadsIdeal) (hReadsRefIdeal := hReadsRefIdeal)
    ∧ preserves_Keys_KeysIdeal
    ∧ algebraic_KeysIdeal_KeysRefIdeal (hKeysIdeal := hKeysIdeal) (hKeysRefIdeal := hKeysRefIdeal)
    ∧ preserves_KeyGrad_KeyGradIdeal
    ∧ algebraic_KeyGradIdeal_KeyGradRefIdeal (hKeyGradIdeal := hKeyGradIdeal) (hKeyGradRefIdeal := hKeyGradRefIdeal)
    ∧ preserves_MemIn_MemInIdeal
    ∧ algebraic_MemInIdeal_MemInRefIdeal (hMemInIdeal := hMemInIdeal) (hMemInRefIdeal := hMemInRefIdeal)
    ∧ preserves_PreNorm_PreNormIdeal
    ∧ algebraic_PreNormIdeal_PreNormRefIdeal (hPreNormIdeal := hPreNormIdeal) (hPreNormRefIdeal := hPreNormRefIdeal)
    ∧ preserves_MemNorm_MemNormIdeal
    ∧ algebraic_MemNormIdeal_MemNormRefIdeal (hMemNormIdeal := hMemNormIdeal) (hMemNormRefIdeal := hMemNormRefIdeal)
    ∧ preserves_MemGain_MemGainIdeal
    ∧ algebraic_MemGainIdeal_MemGainRefIdeal (hMemGainIdeal := hMemGainIdeal) (hMemGainRefIdeal := hMemGainRefIdeal)
-- ==== Pre_scores_finite.lean ====
abbrev S8192x1024 : Shape := ⟨2, ![8192, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  bcast_S_S256x1024 : S_.BroadcastsInDim S256x1024 (![] : Fin 0 → Fin S256x1024.rank)

variable [Facts]

def fn {F : FTy → Type} [FloatOps F] (main_arg0 : FVec F S8192x1024 .bf16) (main_arg1 : FVec F S256x1024 .bf16) (main_arg2 : FVec F S256x1024 .bf16) (main_arg3 : FVec F S8192x1024 .bf16) : IVec S8192x1024 1 × IVec S256x1024 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S256x1024 .bf16 := Host.absf main_arg1
  let main_cst_0 : FVec F S_ .bf16 := constant S_ .bf16 0x7F80#16
  let main_v4 : FVec F S256x1024 .bf16 := broadcastInDim S256x1024 ![] bcast_S_S256x1024 main_cst_0
  let main_v5 : IVec S256x1024 1 := cmpf .olt main_v3 main_v4
  (main_v2, main_v5)
-- ==== Attn.lean ====
abbrev S8192x1024 : Shape := ⟨2, ![8192, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .bf16⟩
  | .hbm, ⟨4, _⟩ => ⟨S8192x1024, .bf16⟩
  | .hbm, ⟨5, _⟩ => ⟨S256x1024, .f32⟩
  | .hbm, ⟨6, _⟩ => ⟨S256x1024, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S256x1024, .f32⟩
  | .local _ .vmem, ⟨9, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttnRefIdeal.lean ====
abbrev S8192x1024 : Shape := ⟨2, ![8192, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .bf16⟩
  | .hbm, ⟨4, _⟩ => ⟨S8192x1024, .f32⟩
  | .hbm, ⟨5, _⟩ => ⟨S256x1024, .f32⟩
  | .hbm, ⟨6, _⟩ => ⟨S256x1024, .f32⟩
  | .hbm, ⟨7, _⟩ => ⟨S8192x1024, .f32⟩
  | .hbm, ⟨8, _⟩ => ⟨S8192x4x256, .f32⟩
  | .hbm, ⟨9, _⟩ => ⟨S256x4x256, .f32⟩
  | .hbm, ⟨10, _⟩ => ⟨S256x4x256, .f32⟩
  | .hbm, ⟨11, _⟩ => ⟨S4x8192x256, .f32⟩
  | .hbm, ⟨12, _⟩ => ⟨S_, .f32⟩
  | .hbm, ⟨13, _⟩ => ⟨S4x8192x256, .f32⟩
  | .hbm, ⟨14, _⟩ => ⟨S4x8192x256, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .i1⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S_, .f32⟩
  | .hbm, ⟨27, _⟩ => ⟨S4x8192, .f32⟩
  | .hbm, ⟨28, _⟩ => ⟨S4x8192, .i1⟩
  | .hbm, ⟨29, _⟩ => ⟨S_, .f32⟩
  | .hbm, ⟨30, _⟩ => ⟨S4x8192, .f32⟩
  | .hbm, ⟨31, _⟩ => ⟨S4x8192, .i1⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S4x8192, .f32⟩
  | .hbm, ⟨39, _⟩ => ⟨S4x8192, .f32⟩
  | .hbm, ⟨40, _⟩ => ⟨S4x8192x1, .f32⟩
  | .hbm, ⟨41, _⟩ => ⟨S4x8192x256, .f32⟩
  | .hbm, ⟨42, _⟩ => ⟨S4x8192x256, .f32⟩
  | .hbm, ⟨43, _⟩ => ⟨S4x8192x256, .f32⟩
  | .hbm, ⟨44, _⟩ => ⟨S_, .f32⟩
  | .hbm, ⟨45, _⟩ => ⟨S4x8192, .f32⟩
  | .hbm, ⟨46, _⟩ => ⟨S4x8192x1, .f32⟩
  | .hbm, ⟨47, _⟩ => ⟨S4x8192x256, .f32⟩
  | .hbm, ⟨48, _⟩ => ⟨S4x8192x256, .f32⟩
  | .hbm, ⟨49, _⟩ => ⟨S4x8192x1, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S4x256x8192, .f32⟩
  | .hbm, ⟨54, _⟩ => ⟨S8192x4x256, .f32⟩
  | .hbm, ⟨55, _⟩ => ⟨S8192x1024, .f32⟩
  | .hbm, ⟨56, _⟩ => ⟨S8192x4x256, .f32⟩
  | .hbm, ⟨57, _⟩ => ⟨S4x256x8192, .f32⟩
  | .hbm, ⟨58, _⟩ => ⟨S4x8192x256, .f32⟩
  | .hbm, ⟨59, _⟩ => ⟨S4x256x256, .f32⟩
  | .hbm, ⟨60, _⟩ => ⟨S256x4x256, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x1, .f32⟩
  | .hbm, ⟨68, _⟩ => ⟨S4x8192x256, .f32⟩
  | .hbm, ⟨69, _⟩ => ⟨S4x8192x256, .f32⟩
  | .hbm, ⟨70, _⟩ => ⟨S_, .f32⟩
  | .hbm, ⟨71, _⟩ => ⟨S4x8192, .f32⟩
  | .hbm, ⟨72, _⟩ => ⟨S4x8192x256, .f32⟩
  | .hbm, ⟨73, _⟩ => ⟨S4x8192x256, .f32⟩
  | .hbm, ⟨74, _⟩ => ⟨S4x8192x256, .f32⟩
  | .hbm, ⟨75, _⟩ => ⟨S_, .f32⟩
  | .hbm, ⟨76, _⟩ => ⟨S4x8192x256, .f32⟩
  | .hbm, ⟨77, _⟩ => ⟨S4x8192x256, .f32⟩
  | .hbm, ⟨78, _⟩ => ⟨S4x256x256, .f32⟩
  | .hbm, ⟨79, _⟩ => ⟨S256x4x256, .f32⟩
  | .hbm, ⟨80, _⟩ => ⟨S4x8192x256, .f32⟩
  | .hbm, ⟨81, _⟩ => ⟨S8192x4x256, .f32⟩
  | .hbm, ⟨82, _⟩ => ⟨S256x1024, .f32⟩
  | .hbm, ⟨83, _⟩ => ⟨S256x1024, .f32⟩
  | .hbm, ⟨84, _⟩ => ⟨S8192x1024, .f32⟩
  | .hbm, ⟨85, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== FfnIn.lean ====
abbrev S8192x5632 : Shape := ⟨2, ![8192, 5632]⟩
abbrev S5632x1024 : Shape := ⟨2, ![5632, 1024]⟩
abbrev S8192x1024 : Shape := ⟨2, ![8192, 1024]⟩
abbrev S4x1x1024 : Shape := ⟨3, ![4, 1, 1024]⟩
abbrev S1x1024 : Shape := ⟨2, ![1, 1024]⟩
abbrev S512x5632 : Shape := ⟨2, ![512, 5632]⟩
abbrev S512x1024 : Shape := ⟨2, ![512, 1024]⟩
abbrev S1x1x1024 : Shape := ⟨3, ![1, 1, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S8192x1024, .f32⟩
  | .hbm, ⟨3, _⟩ => ⟨S8192x1024, .f32⟩
  | .hbm, ⟨4, _⟩ => ⟨S4x1x1024, .f32⟩
  | .hbm, ⟨5, _⟩ => ⟨S8192x1024, .f32⟩
  | .hbm, ⟨6, _⟩ => ⟨S4x1x1024, .f32⟩
  | .hbm, ⟨7, _⟩ => ⟨S8192x1024, .f32⟩
  | .hbm, ⟨8, _⟩ => ⟨S1x1024, .f32⟩
  | .hbm, ⟨9, _⟩ => ⟨S8192x1024, .bf16⟩
  | .hbm, ⟨10, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnInRefIdeal.lean ====
abbrev S8192x5632 : Shape := ⟨2, ![8192, 5632]⟩
abbrev S5632x1024 : Shape := ⟨2, ![5632, 1024]⟩
abbrev S8192x1024 : Shape := ⟨2, ![8192, 1024]⟩
abbrev S4x1x1024 : Shape := ⟨3, ![4, 1, 1024]⟩
abbrev S1x1x1024 : Shape := ⟨3, ![1, 1, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S1024 : Shape := ⟨1, ![1024]⟩

abbrev nBuf : Space → Nat
  | .hbm => 102
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S8192x1024, .f32⟩
  | .hbm, ⟨3, _⟩ => ⟨S8192x1024, .f32⟩
  | .hbm, ⟨4, _⟩ => ⟨S4x1x1024, .f32⟩
  | .hbm, ⟨5, _⟩ => ⟨S8192x1024, .f32⟩
  | .hbm, ⟨6, _⟩ => ⟨S4x1x1024, .f32⟩
  | .hbm, ⟨7, _⟩ => ⟨S1x1x1024, .f32⟩
  | .hbm, ⟨8, _⟩ => ⟨S1x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S5632x1024, .f32⟩
  | .hbm, ⟨29, _⟩ => ⟨S1024x5632, .f32⟩
  | .hbm, ⟨30, _⟩ => ⟨S8192x5632, .f32⟩
  | .hbm, ⟨31, _⟩ => ⟨S8192x5632, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1x1024, .f32⟩
  | .hbm, ⟨58, _⟩ => ⟨S1x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x1024, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_13 : Ref sig .tc := ⟨.hbm, 91, rfl⟩
abbrev main_v70 : Ref sig .tc := ⟨.hbm, 92, rfl⟩
abbrev main_v71 : Ref sig .tc := ⟨.hbm, 93, rfl⟩
abbrev main_cst_14 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩

abbrev nD : Nat := 1
abbrev τ : Topo := Topo.v7x

variable {F : FTy → Type} [FloatOps F]
-- ==== UpGrad.lean ====
abbrev S8192x5632 : Shape := ⟨2, ![8192, 5632]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradRefIdeal.lean ====
abbrev S8192x5632 : Shape := ⟨2, ![8192, 5632]⟩
abbrev S8192x1024 : Shape := ⟨2, ![8192, 1024]⟩
abbrev S_ : Shape := ⟨0, ![]⟩
abbrev S5632x1024 : Shape := ⟨2, ![5632, 1024]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S_, .f32⟩
  | .hbm, ⟨3, _⟩ => ⟨S5632x1024, .f32⟩
  | .hbm, ⟨4, _⟩ => ⟨S8192x1024, .f32⟩
  | .hbm, ⟨5, _⟩ => ⟨S1024x5632, .f32⟩
  | .hbm, ⟨6, _⟩ => ⟨S8192x5632, .f32⟩
  | .hbm, ⟨7, _⟩ => ⟨S8192x5632, .f32⟩
  | .hbm, ⟨8, _⟩ => ⟨S5632x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Up.lean ====
abbrev S8192x1024 : Shape := ⟨2, ![8192, 1024]⟩
abbrev S5632x1024 : Shape := ⟨2, ![5632, 1024]⟩
abbrev S8192x5632 : Shape := ⟨2, ![8192, 5632]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x5632, .f32⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .f32⟩
  | .local _ .vmem, ⟨5, _⟩ => ⟨S2048x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x1024, .f32⟩
  | .hbm, ⟨3, _⟩ => ⟨S5632x1024, .f32⟩
  | .hbm, ⟨4, _⟩ => ⟨S1024x5632, .f32⟩
  | .hbm, ⟨5, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownIn.lean ====
abbrev S8192x1024 : Shape := ⟨2, ![8192, 1024]⟩
abbrev S2816x1024 : Shape := ⟨2, ![2816, 1024]⟩
abbrev S8192x2816 : Shape := ⟨2, ![8192, 2816]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .f32⟩
  | .local _ .vmem, ⟨5, _⟩ => ⟨S2048x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownInRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownGrad.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixIn.lean ====
abbrev S8192x1024 : Shape := ⟨2, ![8192, 1024]⟩
abbrev S2176x1024 : Shape := ⟨2, ![2176, 1024]⟩
abbrev S8192x2176 : Shape := ⟨2, ![8192, 2176]⟩
abbrev S1024x1024 : Shape := ⟨2, ![1024, 1024]⟩
abbrev S1024x2176 : Shape := ⟨2, ![1024, 2176]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2176x1024, .bf16⟩
  | .hbm, ⟨2, _⟩ => ⟨S8192x2176, .f32⟩
  | .local _ .vmem, ⟨0, _⟩ => ⟨S1024x1024, .bf16⟩
  | .local _ .vmem, ⟨1, _⟩ => ⟨S1024x1024, .bf16⟩
  | .local _ .vmem, ⟨2, _⟩ => ⟨S2176x1024, .bf16⟩
  | .local _ .vmem, ⟨3, _⟩ => ⟨S1024x2176, .f32⟩
  | .local _ .vmem, ⟨4, _⟩ => ⟨S1024x2176, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S8192x1024 : Shape := ⟨2, ![8192, 1024]⟩
abbrev S2176x1024 : Shape := ⟨2, ![2176, 1024]⟩
abbrev S1024x2176 : Shape := ⟨2, ![1024, 2176]⟩
abbrev S8192x2176 : Shape := ⟨2, ![8192, 2176]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2176x1024, .bf16⟩
  | .hbm, ⟨2, _⟩ => ⟨S8192x1024, .f32⟩
  | .hbm, ⟨3, _⟩ => ⟨S2176x1024, .f32⟩
  | .hbm, ⟨4, _⟩ => ⟨S1024x2176, .f32⟩
  | .hbm, ⟨5, _⟩ => ⟨S8192x2176, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixGrad.lean ====
abbrev S8192x2176 : Shape := ⟨2, ![8192, 2176]⟩
abbrev S8192x1024 : Shape := ⟨2, ![8192, 1024]⟩
abbrev S2176x1024 : Shape := ⟨2, ![2176, 1024]⟩
abbrev S2048x2176 : Shape := ⟨2, ![2048, 2176]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2176, .bf16⟩
  | .hbm, ⟨1, _⟩ => ⟨S8192x1024, .bf16⟩
  | .hbm, ⟨2, _⟩ => ⟨S2176x1024, .bf16⟩
  | .local _ .vmem, ⟨0, _⟩ => ⟨S2048x2176, .bf16⟩
  | .local _ .vmem, ⟨1, _⟩ => ⟨S2048x2176, .bf16⟩
  | .local _ .vmem, ⟨2, _⟩ => ⟨S2048x1024, .bf16⟩
  | .local _ .vmem, ⟨3, _⟩ => ⟨S2048x1024, .bf16⟩
  | .local _ .vmem, ⟨4, _⟩ => ⟨S2176x1024, .bf16⟩
  | .local _ .vmem, ⟨5, _⟩ => ⟨S2176x1024, .f32⟩
  | _, _ => ⟨S8192x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2176x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixGradRefIdeal.lean ====
abbrev S8192x2176 : Shape := ⟨2, ![8192, 2176]⟩
abbrev S8192x1024 : Shape := ⟨2, ![8192, 1024]⟩
abbrev S_ : Shape := ⟨0, ![]⟩
abbrev S2176x1024 : Shape := ⟨2, ![2176, 1024]⟩
abbrev S1024x2176 : Shape := ⟨2, ![1024, 2176]⟩

abbrev nBuf : Space → Nat
  | .hbm => 12
  | .vmem => 0
  | .smem => 0
  | _ => 0

abbrev bufTy : (tb : Table) → Fin (tcTables nBuf tb) → BufTy
  | .hbm, ⟨0, _⟩ => ⟨S8192x2176, .bf16⟩
  | .hbm, ⟨1, _⟩ => ⟨S8192x1024, .bf16⟩
  | .hbm, ⟨2, _⟩ => ⟨S_, .f32⟩
  | .hbm, ⟨3, _⟩ => ⟨S2176x1024, .f32⟩
  | .hbm, ⟨4, _⟩ => ⟨S8192x1024, .f32⟩
  | .hbm, ⟨5, _⟩ => ⟨S1024x2176, .f32⟩
  | .hbm, ⟨6, _⟩ => ⟨S8192x2176, .f32⟩
  | .hbm, ⟨7, _⟩ => ⟨S8192x2176, .f32⟩
  | .hbm, ⟨8, _⟩ => ⟨S2176x1024, .f32⟩
  | .hbm, ⟨9, _⟩ => ⟨S1024x2176, .f32⟩
  | .hbm, ⟨10, _⟩ => ⟨S2176x1024, .f32⟩
  | .hbm, ⟨11, _⟩ => ⟨S2176x1024, .bf16⟩
  | _, _ => ⟨S8192x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutIn.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutInRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutGrad.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutGradRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Query.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AdamSmall.lean ====
abbrev S880x128 : Shape := ⟨2, ![880, 128]⟩

abbrev nBuf : Space → Nat
  | .hbm => 7
  | .vmem => 7
  | .smem => 0
  | _ => 0

abbrev bufTy : (tb : Table) → Fin (tcTables nBuf tb) → BufTy
  | .hbm, ⟨0, _⟩ => ⟨S880x128, .f32⟩
  | .hbm, ⟨1, _⟩ => ⟨S880x128, .f32⟩
  | .hbm, ⟨2, _⟩ => ⟨S880x128, .f32⟩
  | .hbm, ⟨3, _⟩ => ⟨S880x128, .f32⟩
  | .hbm, ⟨4, _⟩ => ⟨S880x128, .f32⟩
  | .hbm, ⟨5, _⟩ => ⟨S880x128, .f32⟩
  | .hbm, ⟨6, _⟩ => ⟨S880x128, .f32⟩
  | .local _ .vmem, ⟨0, _⟩ => ⟨S880x128, .f32⟩
  | .local _ .vmem, ⟨1, _⟩ => ⟨S880x128, .f32⟩
  | .local _ .vmem, ⟨2, _⟩ => ⟨S880x128, .f32⟩
  | .local _ .vmem, ⟨3, _⟩ => ⟨S880x128, .f32⟩
  | .local _ .vmem, ⟨4, _⟩ => ⟨S880x128, .f32⟩
  | .local _ .vmem, ⟨5, _⟩ => ⟨S880x128, .f32⟩
  | .local _ .vmem, ⟨6, _⟩ => ⟨S880x128, .f32⟩
  | _, _ => ⟨S880x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S880x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S880x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S880x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S880x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S880x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S880x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S880x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamSmallRefIdeal.lean ====
abbrev S880x128 : Shape := ⟨2, ![880, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S880x128, .f32⟩
  | .hbm, ⟨1, _⟩ => ⟨S880x128, .f32⟩
  | .hbm, ⟨2, _⟩ => ⟨S880x128, .f32⟩
  | .hbm, ⟨3, _⟩ => ⟨S880x128, .f32⟩
  | .hbm, ⟨4, _⟩ => ⟨S_, .f32⟩
  | .hbm, ⟨5, _⟩ => ⟨S880x128, .f32⟩
  | .hbm, ⟨6, _⟩ => ⟨S880x128, .f32⟩
  | .hbm, ⟨7, _⟩ => ⟨S_, .f32⟩
  | .hbm, ⟨8, _⟩ => ⟨S880x128, .f32⟩
  | .hbm, ⟨9, _⟩ => ⟨S880x128, .f32⟩
  | .hbm, ⟨10, _⟩ => ⟨S880x128, .f32⟩
  | .hbm, ⟨11, _⟩ => ⟨S_, .f32⟩
  | .hbm, ⟨12, _⟩ => ⟨S880x128, .f32⟩
  | .hbm, ⟨13, _⟩ => ⟨S880x128, .f32⟩
  | .hbm, ⟨14, _⟩ => ⟨S880x128, .f32⟩
  | .hbm, ⟨15, _⟩ => ⟨S_, .f32⟩
  | .hbm, ⟨16, _⟩ => ⟨S880x128, .f32⟩
  | .hbm, ⟨17, _⟩ => ⟨S880x128, .f32⟩
  | .hbm, ⟨18, _⟩ => ⟨S880x128, .f32⟩
  | .hbm, ⟨19, _⟩ => ⟨S_, .f32⟩
  | .hbm, ⟨20, _⟩ => ⟨S880x128, .f32⟩
  | .hbm, ⟨21, _⟩ => ⟨S880x128, .f32⟩
  | .hbm, ⟨22, _⟩ => ⟨S_, .f32⟩
  | .hbm, ⟨23, _⟩ => ⟨S880x128, .f32⟩
  | .hbm, ⟨24, _⟩ => ⟨S880x128, .f32⟩
  | .hbm, ⟨25, _⟩ => ⟨S880x128, .f32⟩
  | .hbm, ⟨26, _⟩ => ⟨S_, .f32⟩
  | .hbm, ⟨27, _⟩ => ⟨S880x128, .f32⟩
  | .hbm, ⟨28, _⟩ => ⟨S880x128, .f32⟩
  | .hbm, ⟨29, _⟩ => ⟨S880x128, .f32⟩
  | .hbm, ⟨30, _⟩ => ⟨S_, .f32⟩
  | .hbm, ⟨31, _⟩ => ⟨S880x128, .f32⟩
  | .hbm, ⟨32, _⟩ => ⟨S880x128, .f32⟩
  | .hbm, ⟨33, _⟩ => ⟨S880x128, .f32⟩
  | .hbm, ⟨34, _⟩ => ⟨S_, .f32⟩
  | .hbm, ⟨35, _⟩ => ⟨S880x128, .f32⟩
  | .hbm, ⟨36, _⟩ => ⟨S880x128, .f32⟩
  | _, _ => ⟨S880x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSmall.lean ====
abbrev S8x1696x128 : Shape := ⟨3, ![8, 1696, 128]⟩
abbrev S1696x128 : Shape := ⟨2, ![1696, 128]⟩
abbrev S1x1696x128 : Shape := ⟨3, ![1, 1696, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1696x128, .f32⟩
  | .hbm, ⟨1, _⟩ => ⟨S1696x128, .f32⟩
  | .local _ .vmem, ⟨0, _⟩ => ⟨S8x1696x128, .f32⟩
  | .local _ .vmem, ⟨1, _⟩ => ⟨S1696x128, .f32⟩
  | _, _ => ⟨S8x1696x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1696x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1696x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SumSmallRefIdeal.lean ====
abbrev S8x1696x128 : Shape := ⟨3, ![8, 1696, 128]⟩
abbrev S_ : Shape := ⟨0, ![]⟩
abbrev S1696x128 : Shape := ⟨2, ![1696, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1696x128, .f32⟩
  | .hbm, ⟨1, _⟩ => ⟨S_, .f32⟩
  | .hbm, ⟨2, _⟩ => ⟨S1696x128, .f32⟩
  | _, _ => ⟨S8x1696x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GradRows.lean ====
abbrev S8192x2176 : Shape := ⟨2, ![8192, 2176]⟩
abbrev S2176x1024 : Shape := ⟨2, ![2176, 1024]⟩
abbrev S8192x1024 : Shape := ⟨2, ![8192, 1024]⟩
abbrev S4x1x1024 : Shape := ⟨3, ![4, 1, 1024]⟩
abbrev S1x1024 : Shape := ⟨2, ![1, 1024]⟩
abbrev S512x2176 : Shape := ⟨2, ![512, 2176]⟩
abbrev S512x1024 : Shape := ⟨2, ![512, 1024]⟩
abbrev S1x1x1024 : Shape := ⟨3, ![1, 1, 1024]⟩
abbrev S256x2176 : Shape := ⟨2, ![256, 2176]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x2176, .bf16⟩
  | .hbm, ⟨1, _⟩ => ⟨S2176x1024, .bf16⟩
  | .hbm, ⟨2, _⟩ => ⟨S8192x1024, .f32⟩
  | .hbm, ⟨3, _⟩ => ⟨S8192x1024, .f32⟩
  | .hbm, ⟨4, _⟩ => ⟨S4x1x1024, .f32⟩
  | .hbm, ⟨5, _⟩ => ⟨S8192x1024, .f32⟩
  | .hbm, ⟨6, _⟩ => ⟨S1x1024, .f32⟩
  | .local _ .vmem, ⟨0, _⟩ => ⟨S512x2176, .bf16⟩
  | .local _ .vmem, ⟨1, _⟩ => ⟨S512x2176, .bf16⟩
  | .local _ .vmem, ⟨2, _⟩ => ⟨S2176x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GradRowsRefIdeal.lean ====
abbrev S8192x2176 : Shape := ⟨2, ![8192, 2176]⟩
abbrev S2176x1024 : Shape := ⟨2, ![2176, 1024]⟩
abbrev S8192x1024 : Shape := ⟨2, ![8192, 1024]⟩
abbrev S4x1x1024 : Shape := ⟨3, ![4, 1, 1024]⟩
abbrev S1x1x1024 : Shape := ⟨3, ![1, 1, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x2176 : Shape := ⟨2, ![1024, 2176]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x2176, .bf16⟩
  | .hbm, ⟨1, _⟩ => ⟨S2176x1024, .bf16⟩
  | .hbm, ⟨2, _⟩ => ⟨S8192x1024, .f32⟩
  | .hbm, ⟨3, _⟩ => ⟨S8192x1024, .f32⟩
  | .hbm, ⟨4, _⟩ => ⟨S4x1x1024, .f32⟩
  | .hbm, ⟨5, _⟩ => ⟨S1x1x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S2176x1024, .f32⟩
  | .hbm, ⟨27, _⟩ => ⟨S1024x2176, .f32⟩
  | .hbm, ⟨28, _⟩ => ⟨S8192x2176, .f32⟩
  | .hbm, ⟨29, _⟩ => ⟨S8192x2176, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | _, _ => ⟨S8192x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== AdamSquare.lean ====
abbrev S1x8x128x1024 : Shape := ⟨4, ![1, 8, 128, 1024]⟩
abbrev S3x8x128x1024 : Shape := ⟨4, ![3, 8, 128, 1024]⟩
abbrev S4x128x1024 : Shape := ⟨3, ![4, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 13
  | .vmem => 24
  | .smem => 0
  | _ => 0

abbrev bufTy : (tb : Table) → Fin (tcTables nBuf tb) → BufTy
  | .hbm, ⟨0, _⟩ => ⟨S1x8x128x1024, .bf16⟩
  | .hbm, ⟨1, _⟩ => ⟨S3x8x128x1024, .bf16⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .hbm, ⟨12, _⟩ => ⟨S4x128x1024, .f32⟩
  | .local _ .vmem, ⟨0, _⟩ => ⟨S1x8x128x1024, .bf16⟩
  | .local _ .vmem, ⟨1, _⟩ => ⟨S1x8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x8x128x1024, .bf16⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | .local _ .vmem, ⟨22, _⟩ => ⟨S1x128x1024, .f32⟩
  | .local _ .vmem, ⟨23, _⟩ => ⟨S1x128x1024, .f32⟩
  | _, _ => ⟨S1x8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23

abbrev nD : Nat := 1
abbrev τ : Topo := Topo.v7x

variable {F : FTy → Type} [FloatOps F]

abbrev grid0 : Pipeline.Grid := ⟨2, ![3, 1], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c1_i32_0 : BitVec 32 := 1#32
  let v1 : BitVec 32 := Scalar.subi v0 c1_i32_0
  let c0_i32 : BitVec 32 := 0#32
  let c0_i32_1 : BitVec 32 := 0#32
  let c0_i32_2 : BitVec 32 := 0#32
  ![v1.toNat, c0_i32.toNat, arg1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

abbrev stage0_0 : Fin 2 → Memref sig .tc .vmem S1x8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 1], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let v1 : BitVec 32 := Scalar.subi v0 c0_i32_0
  let c0_i32_1 : BitVec 32 := 0#32
  let c0_i32_2 : BitVec 32 := 0#32
  let c0_i32_3 : BitVec 32 := 0#32
  ![v1.toNat, c0_i32_1.toNat, arg1.toNat, c0_i32_2.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage1_0 : Fin 1 → Memref sig .tc .vmem S1x8x128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x128x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x128x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]
-- ==== AdamSquareIdeal.lean ====
abbrev S1x8x128x1024 : Shape := ⟨4, ![1, 8, 128, 1024]⟩
abbrev S3x8x128x1024 : Shape := ⟨4, ![3, 8, 128, 1024]⟩
abbrev S4x128x1024 : Shape := ⟨3, ![4, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 13
  | .vmem => 24
  | .smem => 0
  | _ => 0

abbrev bufTy : (tb : Table) → Fin (tcTables nBuf tb) → BufTy
  | .hbm, ⟨0, _⟩ => ⟨S1x8x128x1024, .bf16⟩
  | .hbm, ⟨1, _⟩ => ⟨S3x8x128x1024, .bf16⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .hbm, ⟨12, _⟩ => ⟨S4x128x1024, .f32⟩
  | .local _ .vmem, ⟨0, _⟩ => ⟨S1x8x128x1024, .bf16⟩
  | .local _ .vmem, ⟨1, _⟩ => ⟨S1x8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x8x128x1024, .bf16⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | .local _ .vmem, ⟨22, _⟩ => ⟨S1x128x1024, .f32⟩
  | .local _ .vmem, ⟨23, _⟩ => ⟨S1x128x1024, .f32⟩
  | _, _ => ⟨S1x8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23

abbrev nD : Nat := 1
abbrev τ : Topo := Topo.v7x

variable {F : FTy → Type} [FloatOps F]

abbrev grid0 : Pipeline.Grid := ⟨2, ![3, 1], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c1_i32_0 : BitVec 32 := 1#32
  let v1 : BitVec 32 := Scalar.subi v0 c1_i32_0
  let c0_i32 : BitVec 32 := 0#32
  let c0_i32_1 : BitVec 32 := 0#32
  let c0_i32_2 : BitVec 32 := 0#32
  ![v1.toNat, c0_i32.toNat, arg1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

abbrev stage0_0 : Fin 2 → Memref sig .tc .vmem S1x8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 1], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let v1 : BitVec 32 := Scalar.subi v0 c0_i32_0
  let c0_i32_1 : BitVec 32 := 0#32
  let c0_i32_2 : BitVec 32 := 0#32
  let c0_i32_3 : BitVec 32 := 0#32
  ![v1.toNat, c0_i32_1.toNat, arg1.toNat, c0_i32_2.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage1_0 : Fin 1 → Memref sig .tc .vmem S1x8x128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x128x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x128x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]
-- ==== AdamSquareRefIdeal.lean ====
abbrev S1x8x128x1024 : Shape := ⟨4, ![1, 8, 128, 1024]⟩
abbrev S3x8x128x1024 : Shape := ⟨4, ![3, 8, 128, 1024]⟩
abbrev S4x128x1024 : Shape := ⟨3, ![4, 128, 1024]⟩
abbrev S4x8x128x1024 : Shape := ⟨4, ![4, 8, 128, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1x8x128x1024, .bf16⟩
  | .hbm, ⟨1, _⟩ => ⟨S3x8x128x1024, .bf16⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x8x128x1024, .bf16⟩
  | .hbm, ⟨6, _⟩ => ⟨S4x8x128x1024, .f32⟩
  | .hbm, ⟨7, _⟩ => ⟨S_, .f32⟩
  | .hbm, ⟨8, _⟩ => ⟨S4x128x1024, .f32⟩
  | .hbm, ⟨9, _⟩ => ⟨S_, .f32⟩
  | .hbm, ⟨10, _⟩ => ⟨S4x128x1024, .f32⟩
  | .hbm, ⟨11, _⟩ => ⟨S4x128x1024, .f32⟩
  | .hbm, ⟨12, _⟩ => ⟨S_, .f32⟩
  | .hbm, ⟨13, _⟩ => ⟨S4x128x1024, .f32⟩
  | .hbm, ⟨14, _⟩ => ⟨S4x128x1024, .f32⟩
  | .hbm, ⟨15, _⟩ => ⟨S4x128x1024, .f32⟩
  | .hbm, ⟨16, _⟩ => ⟨S_, .f32⟩
  | .hbm, ⟨17, _⟩ => ⟨S4x128x1024, .f32⟩
  | .hbm, ⟨18, _⟩ => ⟨S4x128x1024, .f32⟩
  | .hbm, ⟨19, _⟩ => ⟨S4x128x1024, .f32⟩
  | .hbm, ⟨20, _⟩ => ⟨S_, .f32⟩
  | .hbm, ⟨21, _⟩ => ⟨S4x128x1024, .f32⟩
  | .hbm, ⟨22, _⟩ => ⟨S4x128x1024, .f32⟩
  | .hbm, ⟨23, _⟩ => ⟨S4x128x1024, .f32⟩
  | .hbm, ⟨24, _⟩ => ⟨S_, .f32⟩
  | .hbm, ⟨25, _⟩ => ⟨S4x128x1024, .f32⟩
  | .hbm, ⟨26, _⟩ => ⟨S4x128x1024, .f32⟩
  | .hbm, ⟨27, _⟩ => ⟨S_, .f32⟩
  | .hbm, ⟨28, _⟩ => ⟨S4x128x1024, .f32⟩
  | .hbm, ⟨29, _⟩ => ⟨S4x128x1024, .f32⟩
  | .hbm, ⟨30, _⟩ => ⟨S4x128x1024, .f32⟩
  | .hbm, ⟨31, _⟩ => ⟨S_, .f32⟩
  | .hbm, ⟨32, _⟩ => ⟨S4x128x1024, .f32⟩
  | .hbm, ⟨33, _⟩ => ⟨S4x128x1024, .f32⟩
  | .hbm, ⟨34, _⟩ => ⟨S4x128x1024, .f32⟩
  | .hbm, ⟨35, _⟩ => ⟨S_, .f32⟩
  | .hbm, ⟨36, _⟩ => ⟨S4x128x1024, .f32⟩
  | .hbm, ⟨37, _⟩ => ⟨S4x128x1024, .f32⟩
  | .hbm, ⟨38, _⟩ => ⟨S4x128x1024, .f32⟩
  | .hbm, ⟨39, _⟩ => ⟨S_, .f32⟩
  | .hbm, ⟨40, _⟩ => ⟨S4x128x1024, .f32⟩
  | .hbm, ⟨41, _⟩ => ⟨S4x128x1024, .f32⟩
  | _, _ => ⟨S1x8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamIn.lean ====
abbrev S1x8x272x1024 : Shape := ⟨4, ![1, 8, 272, 1024]⟩
abbrev S3x8x272x1024 : Shape := ⟨4, ![3, 8, 272, 1024]⟩
abbrev S4x272x1024 : Shape := ⟨3, ![4, 272, 1024]⟩
abbrev S1x272x1024 : Shape := ⟨3, ![1, 272, 1024]⟩
abbrev S1x1x272x1024 : Shape := ⟨4, ![1, 1, 272, 1024]⟩
abbrev S272x1024 : Shape := ⟨2, ![272, 1024]⟩

abbrev nBuf : Space → Nat
  | .hbm => 13
  | .vmem => 24
  | .smem => 0
  | _ => 0

abbrev bufTy : (tb : Table) → Fin (tcTables nBuf tb) → BufTy
  | .hbm, ⟨0, _⟩ => ⟨S1x8x272x1024, .bf16⟩
  | .hbm, ⟨1, _⟩ => ⟨S3x8x272x1024, .bf16⟩
  | .hbm, ⟨2, _⟩ => ⟨S4x272x1024, .f32⟩
  | .hbm, ⟨3, _⟩ => ⟨S4x272x1024, .f32⟩
  | .hbm, ⟨4, _⟩ => ⟨S4x272x1024, .f32⟩
  | .hbm, ⟨5, _⟩ => ⟨S4x272x1024, .f32⟩
  | .hbm, ⟨6, _⟩ => ⟨S4x272x1024, .f32⟩
  | .hbm, ⟨7, _⟩ => ⟨S4x272x1024, .f32⟩
  | .hbm, ⟨8, _⟩ => ⟨S4x272x1024, .f32⟩
  | .hbm, ⟨9, _⟩ => ⟨S4x272x1024, .f32⟩
  | .hbm, ⟨10, _⟩ => ⟨S4x272x1024, .f32⟩
  | .hbm, ⟨11, _⟩ => ⟨S4x272x1024, .f32⟩
  | .hbm, ⟨12, _⟩ => ⟨S4x272x1024, .f32⟩
  | .local _ .vmem, ⟨0, _⟩ => ⟨S1x8x272x1024, .bf16⟩
  | .local _ .vmem, ⟨1, _⟩ => ⟨S1x8x272x1024, .bf16⟩
  | .local _ .vmem, ⟨2, _⟩ => ⟨S1x272x1024, .f32⟩
  | .local _ .vmem, ⟨3, _⟩ => ⟨S1x272x1024, .f32⟩
  | .local _ .vmem, ⟨4, _⟩ => ⟨S1x272x1024, .f32⟩
  | .local _ .vmem, ⟨5, _⟩ => ⟨S1x272x1024, .f32⟩
  | .local _ .vmem, ⟨6, _⟩ => ⟨S1x272x1024, .f32⟩
  | .local _ .vmem, ⟨7, _⟩ => ⟨S1x272x1024, .f32⟩
  | .local _ .vmem, ⟨8, _⟩ => ⟨S1x272x1024, .f32⟩
  | .local _ .vmem, ⟨9, _⟩ => ⟨S1x272x1024, .f32⟩
  | .local _ .vmem, ⟨10, _⟩ => ⟨S1x272x1024, .f32⟩
  | .local _ .vmem, ⟨11, _⟩ => ⟨S1x272x1024, .f32⟩
  | .local _ .vmem, ⟨12, _⟩ => ⟨S1x272x1024, .f32⟩
  | .local _ .vmem, ⟨13, _⟩ => ⟨S1x272x1024, .f32⟩
  | .local _ .vmem, ⟨14, _⟩ => ⟨S1x272x1024, .f32⟩
  | .local _ .vmem, ⟨15, _⟩ => ⟨S1x272x1024, .f32⟩
  | .local _ .vmem, ⟨16, _⟩ => ⟨S1x8x272x1024, .bf16⟩
  | .local _ .vmem, ⟨17, _⟩ => ⟨S1x272x1024, .f32⟩
  | .local _ .vmem, ⟨18, _⟩ => ⟨S1x272x1024, .f32⟩
  | .local _ .vmem, ⟨19, _⟩ => ⟨S1x272x1024, .f32⟩
  | .local _ .vmem, ⟨20, _⟩ => ⟨S1x272x1024, .f32⟩
  | .local _ .vmem, ⟨21, _⟩ => ⟨S1x272x1024, .f32⟩
  | .local _ .vmem, ⟨22, _⟩ => ⟨S1x272x1024, .f32⟩
  | .local _ .vmem, ⟨23, _⟩ => ⟨S1x272x1024, .f32⟩
  | _, _ => ⟨S1x8x272x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23

abbrev nD : Nat := 1
abbrev τ : Topo := Topo.v7x

variable {F : FTy → Type} [FloatOps F]

abbrev grid0 : Pipeline.Grid := ⟨2, ![3, 1], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c1_i32_0 : BitVec 32 := 1#32
  let v1 : BitVec 32 := Scalar.subi v0 c1_i32_0
  let c0_i32 : BitVec 32 := 0#32
  let c0_i32_1 : BitVec 32 := 0#32
  let c0_i32_2 : BitVec 32 := 0#32
  ![v1.toNat, c0_i32.toNat, arg1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

abbrev stage0_0 : Fin 2 → Memref sig .tc .vmem S1x8x272x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x272x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x272x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x272x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 1], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let v1 : BitVec 32 := Scalar.subi v0 c0_i32_0
  let c0_i32_1 : BitVec 32 := 0#32
  let c0_i32_2 : BitVec 32 := 0#32
  let c0_i32_3 : BitVec 32 := 0#32
  ![v1.toNat, c0_i32_1.toNat, arg1.toNat, c0_i32_2.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage1_0 : Fin 1 → Memref sig .tc .vmem S1x8x272x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x272x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x272x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x272x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x272x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x272x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x272x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x272x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]
-- ==== AdamInIdeal.lean ====
abbrev S1x8x272x1024 : Shape := ⟨4, ![1, 8, 272, 1024]⟩
abbrev S3x8x272x1024 : Shape := ⟨4, ![3, 8, 272, 1024]⟩
abbrev S4x272x1024 : Shape := ⟨3, ![4, 272, 1024]⟩
abbrev S1x272x1024 : Shape := ⟨3, ![1, 272, 1024]⟩
abbrev S1x1x272x1024 : Shape := ⟨4, ![1, 1, 272, 1024]⟩
abbrev S272x1024 : Shape := ⟨2, ![272, 1024]⟩

abbrev nBuf : Space → Nat
  | .hbm => 13
  | .vmem => 24
  | .smem => 0
  | _ => 0

abbrev bufTy : (tb : Table) → Fin (tcTables nBuf tb) → BufTy
  | .hbm, ⟨0, _⟩ => ⟨S1x8x272x1024, .bf16⟩
  | .hbm, ⟨1, _⟩ => ⟨S3x8x272x1024, .bf16⟩
  | .hbm, ⟨2, _⟩ => ⟨S4x272x1024, .f32⟩
  | .hbm, ⟨3, _⟩ => ⟨S4x272x1024, .f32⟩
  | .hbm, ⟨4, _⟩ => ⟨S4x272x1024, .f32⟩
  | .hbm, ⟨5, _⟩ => ⟨S4x272x1024, .f32⟩
  | .hbm, ⟨6, _⟩ => ⟨S4x272x1024, .f32⟩
  | .hbm, ⟨7, _⟩ => ⟨S4x272x1024, .f32⟩
  | .hbm, ⟨8, _⟩ => ⟨S4x272x1024, .f32⟩
  | .hbm, ⟨9, _⟩ => ⟨S4x272x1024, .f32⟩
  | .hbm, ⟨10, _⟩ => ⟨S4x272x1024, .f32⟩
  | .hbm, ⟨11, _⟩ => ⟨S4x272x1024, .f32⟩
  | .hbm, ⟨12, _⟩ => ⟨S4x272x1024, .f32⟩
  | .local _ .vmem, ⟨0, _⟩ => ⟨S1x8x272x1024, .bf16⟩
  | .local _ .vmem, ⟨1, _⟩ => ⟨S1x8x272x1024, .bf16⟩
  | .local _ .vmem, ⟨2, _⟩ => ⟨S1x272x1024, .f32⟩
  | .local _ .vmem, ⟨3, _⟩ => ⟨S1x272x1024, .f32⟩
  | .local _ .vmem, ⟨4, _⟩ => ⟨S1x272x1024, .f32⟩
  | .local _ .vmem, ⟨5, _⟩ => ⟨S1x272x1024, .f32⟩
  | .local _ .vmem, ⟨6, _⟩ => ⟨S1x272x1024, .f32⟩
  | .local _ .vmem, ⟨7, _⟩ => ⟨S1x272x1024, .f32⟩
  | .local _ .vmem, ⟨8, _⟩ => ⟨S1x272x1024, .f32⟩
  | .local _ .vmem, ⟨9, _⟩ => ⟨S1x272x1024, .f32⟩
  | .local _ .vmem, ⟨10, _⟩ => ⟨S1x272x1024, .f32⟩
  | .local _ .vmem, ⟨11, _⟩ => ⟨S1x272x1024, .f32⟩
  | .local _ .vmem, ⟨12, _⟩ => ⟨S1x272x1024, .f32⟩
  | .local _ .vmem, ⟨13, _⟩ => ⟨S1x272x1024, .f32⟩
  | .local _ .vmem, ⟨14, _⟩ => ⟨S1x272x1024, .f32⟩
  | .local _ .vmem, ⟨15, _⟩ => ⟨S1x272x1024, .f32⟩
  | .local _ .vmem, ⟨16, _⟩ => ⟨S1x8x272x1024, .bf16⟩
  | .local _ .vmem, ⟨17, _⟩ => ⟨S1x272x1024, .f32⟩
  | .local _ .vmem, ⟨18, _⟩ => ⟨S1x272x1024, .f32⟩
  | .local _ .vmem, ⟨19, _⟩ => ⟨S1x272x1024, .f32⟩
  | .local _ .vmem, ⟨20, _⟩ => ⟨S1x272x1024, .f32⟩
  | .local _ .vmem, ⟨21, _⟩ => ⟨S1x272x1024, .f32⟩
  | .local _ .vmem, ⟨22, _⟩ => ⟨S1x272x1024, .f32⟩
  | .local _ .vmem, ⟨23, _⟩ => ⟨S1x272x1024, .f32⟩
  | _, _ => ⟨S1x8x272x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23

abbrev nD : Nat := 1
abbrev τ : Topo := Topo.v7x

variable {F : FTy → Type} [FloatOps F]

abbrev grid0 : Pipeline.Grid := ⟨2, ![3, 1], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c1_i32_0 : BitVec 32 := 1#32
  let v1 : BitVec 32 := Scalar.subi v0 c1_i32_0
  let c0_i32 : BitVec 32 := 0#32
  let c0_i32_1 : BitVec 32 := 0#32
  let c0_i32_2 : BitVec 32 := 0#32
  ![v1.toNat, c0_i32.toNat, arg1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

abbrev stage0_0 : Fin 2 → Memref sig .tc .vmem S1x8x272x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x272x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x272x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x272x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 1], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let v1 : BitVec 32 := Scalar.subi v0 c0_i32_0
  let c0_i32_1 : BitVec 32 := 0#32
  let c0_i32_2 : BitVec 32 := 0#32
  let c0_i32_3 : BitVec 32 := 0#32
  ![v1.toNat, c0_i32_1.toNat, arg1.toNat, c0_i32_2.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage1_0 : Fin 1 → Memref sig .tc .vmem S1x8x272x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x272x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x272x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x272x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x272x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x272x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x272x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x272x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]
-- ==== AdamInRefIdeal.lean ====
abbrev S1x8x272x1024 : Shape := ⟨4, ![1, 8, 272, 1024]⟩
abbrev S3x8x272x1024 : Shape := ⟨4, ![3, 8, 272, 1024]⟩
abbrev S4x272x1024 : Shape := ⟨3, ![4, 272, 1024]⟩
abbrev S4x8x272x1024 : Shape := ⟨4, ![4, 8, 272, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1x8x272x1024, .bf16⟩
  | .hbm, ⟨1, _⟩ => ⟨S3x8x272x1024, .bf16⟩
  | .hbm, ⟨2, _⟩ => ⟨S4x272x1024, .f32⟩
  | .hbm, ⟨3, _⟩ => ⟨S4x272x1024, .f32⟩
  | .hbm, ⟨4, _⟩ => ⟨S4x272x1024, .f32⟩
  | .hbm, ⟨5, _⟩ => ⟨S4x8x272x1024, .bf16⟩
  | .hbm, ⟨6, _⟩ => ⟨S4x8x272x1024, .f32⟩
  | .hbm, ⟨7, _⟩ => ⟨S_, .f32⟩
  | .hbm, ⟨8, _⟩ => ⟨S4x272x1024, .f32⟩
  | .hbm, ⟨9, _⟩ => ⟨S_, .f32⟩
  | .hbm, ⟨10, _⟩ => ⟨S4x272x1024, .f32⟩
  | .hbm, ⟨11, _⟩ => ⟨S4x272x1024, .f32⟩
  | .hbm, ⟨12, _⟩ => ⟨S_, .f32⟩
  | .hbm, ⟨13, _⟩ => ⟨S4x272x1024, .f32⟩
  | .hbm, ⟨14, _⟩ => ⟨S4x272x1024, .f32⟩
  | .hbm, ⟨15, _⟩ => ⟨S4x272x1024, .f32⟩
  | .hbm, ⟨16, _⟩ => ⟨S_, .f32⟩
  | .hbm, ⟨17, _⟩ => ⟨S4x272x1024, .f32⟩
  | .hbm, ⟨18, _⟩ => ⟨S4x272x1024, .f32⟩
  | .hbm, ⟨19, _⟩ => ⟨S4x272x1024, .f32⟩
  | .hbm, ⟨20, _⟩ => ⟨S_, .f32⟩
  | .hbm, ⟨21, _⟩ => ⟨S4x272x1024, .f32⟩
  | .hbm, ⟨22, _⟩ => ⟨S4x272x1024, .f32⟩
  | .hbm, ⟨23, _⟩ => ⟨S4x272x1024, .f32⟩
  | .hbm, ⟨24, _⟩ => ⟨S_, .f32⟩
  | .hbm, ⟨25, _⟩ => ⟨S4x272x1024, .f32⟩
  | .hbm, ⟨26, _⟩ => ⟨S4x272x1024, .f32⟩
  | .hbm, ⟨27, _⟩ => ⟨S_, .f32⟩
  | .hbm, ⟨28, _⟩ => ⟨S4x272x1024, .f32⟩
  | .hbm, ⟨29, _⟩ => ⟨S4x272x1024, .f32⟩
  | .hbm, ⟨30, _⟩ => ⟨S4x272x1024, .f32⟩
  | .hbm, ⟨31, _⟩ => ⟨S_, .f32⟩
  | .hbm, ⟨32, _⟩ => ⟨S4x272x1024, .f32⟩
  | .hbm, ⟨33, _⟩ => ⟨S4x272x1024, .f32⟩
  | .hbm, ⟨34, _⟩ => ⟨S4x272x1024, .f32⟩
  | .hbm, ⟨35, _⟩ => ⟨S_, .f32⟩
  | .hbm, ⟨36, _⟩ => ⟨S4x272x1024, .f32⟩
  | .hbm, ⟨37, _⟩ => ⟨S4x272x1024, .f32⟩
  | .hbm, ⟨38, _⟩ => ⟨S4x272x1024, .f32⟩
  | .hbm, ⟨39, _⟩ => ⟨S_, .f32⟩
  | .hbm, ⟨40, _⟩ => ⟨S4x272x1024, .f32⟩
  | .hbm, ⟨41, _⟩ => ⟨S4x272x1024, .f32⟩
  | _, _ => ⟨S1x8x272x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamDown.lean ====
abbrev S1x8x352x1024 : Shape := ⟨4, ![1, 8, 352, 1024]⟩
abbrev S3x8x352x1024 : Shape := ⟨4, ![3, 8, 352, 1024]⟩
abbrev S4x352x1024 : Shape := ⟨3, ![4, 352, 1024]⟩
abbrev S1x352x1024 : Shape := ⟨3, ![1, 352, 1024]⟩
abbrev S1x1x352x1024 : Shape := ⟨4, ![1, 1, 352, 1024]⟩
abbrev S352x1024 : Shape := ⟨2, ![352, 1024]⟩

abbrev nBuf : Space → Nat
  | .hbm => 13
  | .vmem => 24
  | .smem => 0
  | _ => 0

abbrev bufTy : (tb : Table) → Fin (tcTables nBuf tb) → BufTy
  | .hbm, ⟨0, _⟩ => ⟨S1x8x352x1024, .bf16⟩
  | .hbm, ⟨1, _⟩ => ⟨S3x8x352x1024, .bf16⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .hbm, ⟨12, _⟩ => ⟨S4x352x1024, .f32⟩
  | .local _ .vmem, ⟨0, _⟩ => ⟨S1x8x352x1024, .bf16⟩
  | .local _ .vmem, ⟨1, _⟩ => ⟨S1x8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x8x352x1024, .bf16⟩
  | .local _ .vmem, ⟨17, _⟩ => ⟨S1x352x1024, .f32⟩
  | .local _ .vmem, ⟨18, _⟩ => ⟨S1x352x1024, .f32⟩
  | .local _ .vmem, ⟨19, _⟩ => ⟨S1x352x1024, .f32⟩
  | .local _ .vmem, ⟨20, _⟩ => ⟨S1x352x1024, .f32⟩
  | .local _ .vmem, ⟨21, _⟩ => ⟨S1x352x1024, .f32⟩
  | .local _ .vmem, ⟨22, _⟩ => ⟨S1x352x1024, .f32⟩
  | .local _ .vmem, ⟨23, _⟩ => ⟨S1x352x1024, .f32⟩
  | _, _ => ⟨S1x8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23

abbrev nD : Nat := 1
abbrev τ : Topo := Topo.v7x

variable {F : FTy → Type} [FloatOps F]

abbrev grid0 : Pipeline.Grid := ⟨2, ![3, 1], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c1_i32_0 : BitVec 32 := 1#32
  let v1 : BitVec 32 := Scalar.subi v0 c1_i32_0
  let c0_i32 : BitVec 32 := 0#32
  let c0_i32_1 : BitVec 32 := 0#32
  let c0_i32_2 : BitVec 32 := 0#32
  ![v1.toNat, c0_i32.toNat, arg1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

abbrev stage0_0 : Fin 2 → Memref sig .tc .vmem S1x8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 1], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let v1 : BitVec 32 := Scalar.subi v0 c0_i32_0
  let c0_i32_1 : BitVec 32 := 0#32
  let c0_i32_2 : BitVec 32 := 0#32
  let c0_i32_3 : BitVec 32 := 0#32
  ![v1.toNat, c0_i32_1.toNat, arg1.toNat, c0_i32_2.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage1_0 : Fin 1 → Memref sig .tc .vmem S1x8x352x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x352x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x352x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x352x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x352x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x352x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x352x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x352x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]
-- ==== AdamDownIdeal.lean ====
abbrev S1x8x352x1024 : Shape := ⟨4, ![1, 8, 352, 1024]⟩
abbrev S3x8x352x1024 : Shape := ⟨4, ![3, 8, 352, 1024]⟩
abbrev S4x352x1024 : Shape := ⟨3, ![4, 352, 1024]⟩
abbrev S1x352x1024 : Shape := ⟨3, ![1, 352, 1024]⟩
abbrev S1x1x352x1024 : Shape := ⟨4, ![1, 1, 352, 1024]⟩
abbrev S352x1024 : Shape := ⟨2, ![352, 1024]⟩

abbrev nBuf : Space → Nat
  | .hbm => 13
  | .vmem => 24
  | .smem => 0
  | _ => 0

abbrev bufTy : (tb : Table) → Fin (tcTables nBuf tb) → BufTy
  | .hbm, ⟨0, _⟩ => ⟨S1x8x352x1024, .bf16⟩
  | .hbm, ⟨1, _⟩ => ⟨S3x8x352x1024, .bf16⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .hbm, ⟨12, _⟩ => ⟨S4x352x1024, .f32⟩
  | .local _ .vmem, ⟨0, _⟩ => ⟨S1x8x352x1024, .bf16⟩
  | .local _ .vmem, ⟨1, _⟩ => ⟨S1x8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x8x352x1024, .bf16⟩
  | .local _ .vmem, ⟨17, _⟩ => ⟨S1x352x1024, .f32⟩
  | .local _ .vmem, ⟨18, _⟩ => ⟨S1x352x1024, .f32⟩
  | .local _ .vmem, ⟨19, _⟩ => ⟨S1x352x1024, .f32⟩
  | .local _ .vmem, ⟨20, _⟩ => ⟨S1x352x1024, .f32⟩
  | .local _ .vmem, ⟨21, _⟩ => ⟨S1x352x1024, .f32⟩
  | .local _ .vmem, ⟨22, _⟩ => ⟨S1x352x1024, .f32⟩
  | .local _ .vmem, ⟨23, _⟩ => ⟨S1x352x1024, .f32⟩
  | _, _ => ⟨S1x8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23

abbrev nD : Nat := 1
abbrev τ : Topo := Topo.v7x

variable {F : FTy → Type} [FloatOps F]

abbrev grid0 : Pipeline.Grid := ⟨2, ![3, 1], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c1_i32_0 : BitVec 32 := 1#32
  let v1 : BitVec 32 := Scalar.subi v0 c1_i32_0
  let c0_i32 : BitVec 32 := 0#32
  let c0_i32_1 : BitVec 32 := 0#32
  let c0_i32_2 : BitVec 32 := 0#32
  ![v1.toNat, c0_i32.toNat, arg1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

abbrev stage0_0 : Fin 2 → Memref sig .tc .vmem S1x8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 1], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let v1 : BitVec 32 := Scalar.subi v0 c0_i32_0
  let c0_i32_1 : BitVec 32 := 0#32
  let c0_i32_2 : BitVec 32 := 0#32
  let c0_i32_3 : BitVec 32 := 0#32
  ![v1.toNat, c0_i32_1.toNat, arg1.toNat, c0_i32_2.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage1_0 : Fin 1 → Memref sig .tc .vmem S1x8x352x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x352x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x352x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x352x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x352x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x352x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x352x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x352x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]
-- ==== AdamDownRefIdeal.lean ====
abbrev S1x8x352x1024 : Shape := ⟨4, ![1, 8, 352, 1024]⟩
abbrev S3x8x352x1024 : Shape := ⟨4, ![3, 8, 352, 1024]⟩
abbrev S4x352x1024 : Shape := ⟨3, ![4, 352, 1024]⟩
abbrev S4x8x352x1024 : Shape := ⟨4, ![4, 8, 352, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1x8x352x1024, .bf16⟩
  | .hbm, ⟨1, _⟩ => ⟨S3x8x352x1024, .bf16⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x8x352x1024, .bf16⟩
  | .hbm, ⟨6, _⟩ => ⟨S4x8x352x1024, .f32⟩
  | .hbm, ⟨7, _⟩ => ⟨S_, .f32⟩
  | .hbm, ⟨8, _⟩ => ⟨S4x352x1024, .f32⟩
  | .hbm, ⟨9, _⟩ => ⟨S_, .f32⟩
  | .hbm, ⟨10, _⟩ => ⟨S4x352x1024, .f32⟩
  | .hbm, ⟨11, _⟩ => ⟨S4x352x1024, .f32⟩
  | .hbm, ⟨12, _⟩ => ⟨S_, .f32⟩
  | .hbm, ⟨13, _⟩ => ⟨S4x352x1024, .f32⟩
  | .hbm, ⟨14, _⟩ => ⟨S4x352x1024, .f32⟩
  | .hbm, ⟨15, _⟩ => ⟨S4x352x1024, .f32⟩
  | .hbm, ⟨16, _⟩ => ⟨S_, .f32⟩
  | .hbm, ⟨17, _⟩ => ⟨S4x352x1024, .f32⟩
  | .hbm, ⟨18, _⟩ => ⟨S4x352x1024, .f32⟩
  | .hbm, ⟨19, _⟩ => ⟨S4x352x1024, .f32⟩
  | .hbm, ⟨20, _⟩ => ⟨S_, .f32⟩
  | .hbm, ⟨21, _⟩ => ⟨S4x352x1024, .f32⟩
  | .hbm, ⟨22, _⟩ => ⟨S4x352x1024, .f32⟩
  | .hbm, ⟨23, _⟩ => ⟨S4x352x1024, .f32⟩
  | .hbm, ⟨24, _⟩ => ⟨S_, .f32⟩
  | .hbm, ⟨25, _⟩ => ⟨S4x352x1024, .f32⟩
  | .hbm, ⟨26, _⟩ => ⟨S4x352x1024, .f32⟩
  | .hbm, ⟨27, _⟩ => ⟨S_, .f32⟩
  | .hbm, ⟨28, _⟩ => ⟨S4x352x1024, .f32⟩
  | .hbm, ⟨29, _⟩ => ⟨S4x352x1024, .f32⟩
  | .hbm, ⟨30, _⟩ => ⟨S4x352x1024, .f32⟩
  | .hbm, ⟨31, _⟩ => ⟨S_, .f32⟩
  | .hbm, ⟨32, _⟩ => ⟨S4x352x1024, .f32⟩
  | .hbm, ⟨33, _⟩ => ⟨S4x352x1024, .f32⟩
  | .hbm, ⟨34, _⟩ => ⟨S4x352x1024, .f32⟩
  | .hbm, ⟨35, _⟩ => ⟨S_, .f32⟩
  | .hbm, ⟨36, _⟩ => ⟨S4x352x1024, .f32⟩
  | .hbm, ⟨37, _⟩ => ⟨S4x352x1024, .f32⟩
  | .hbm, ⟨38, _⟩ => ⟨S4x352x1024, .f32⟩
  | .hbm, ⟨39, _⟩ => ⟨S_, .f32⟩
  | .hbm, ⟨40, _⟩ => ⟨S4x352x1024, .f32⟩
  | .hbm, ⟨41, _⟩ => ⟨S4x352x1024, .f32⟩
  | _, _ => ⟨S1x8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamUp.lean ====
abbrev S1x8x704x1024 : Shape := ⟨4, ![1, 8, 704, 1024]⟩
abbrev S3x8x704x1024 : Shape := ⟨4, ![3, 8, 704, 1024]⟩
abbrev S4x704x1024 : Shape := ⟨3, ![4, 704, 1024]⟩
abbrev S1x8x352x1024 : Shape := ⟨4, ![1, 8, 352, 1024]⟩
abbrev S1x352x1024 : Shape := ⟨3, ![1, 352, 1024]⟩
abbrev S1x1x352x1024 : Shape := ⟨4, ![1, 1, 352, 1024]⟩
abbrev S352x1024 : Shape := ⟨2, ![352, 1024]⟩

abbrev nBuf : Space → Nat
  | .hbm => 13
  | .vmem => 32
  | .smem => 0
  | _ => 0

abbrev bufTy : (tb : Table) → Fin (tcTables nBuf tb) → BufTy
  | .hbm, ⟨0, _⟩ => ⟨S1x8x704x1024, .bf16⟩
  | .hbm, ⟨1, _⟩ => ⟨S3x8x704x1024, .bf16⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S4x704x1024, .f32⟩
  | .hbm, ⟨12, _⟩ => ⟨S4x704x1024, .f32⟩
  | .local _ .vmem, ⟨0, _⟩ => ⟨S1x8x352x1024, .bf16⟩
  | .local _ .vmem, ⟨1, _⟩ => ⟨S1x8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x8x352x1024, .bf16⟩
  | .local _ .vmem, ⟨17, _⟩ => ⟨S1x8x352x1024, .bf16⟩
  | .local _ .vmem, ⟨18, _⟩ => ⟨S1x352x1024, .f32⟩
  | .local _ .vmem, ⟨19, _⟩ => ⟨S1x352x1024, .f32⟩
  | .local _ .vmem, ⟨20, _⟩ => ⟨S1x352x1024, .f32⟩
  | .local _ .vmem, ⟨21, _⟩ => ⟨S1x352x1024, .f32⟩
  | .local _ .vmem, ⟨22, _⟩ => ⟨S1x352x1024, .f32⟩
  | .local _ .vmem, ⟨23, _⟩ => ⟨S1x352x1024, .f32⟩
  | .local _ .vmem, ⟨24, _⟩ => ⟨S1x352x1024, .f32⟩
  | .local _ .vmem, ⟨25, _⟩ => ⟨S1x352x1024, .f32⟩
  | .local _ .vmem, ⟨26, _⟩ => ⟨S1x352x1024, .f32⟩
  | .local _ .vmem, ⟨27, _⟩ => ⟨S1x352x1024, .f32⟩
  | .local _ .vmem, ⟨28, _⟩ => ⟨S1x352x1024, .f32⟩
  | .local _ .vmem, ⟨29, _⟩ => ⟨S1x352x1024, .f32⟩
  | .local _ .vmem, ⟨30, _⟩ => ⟨S1x352x1024, .f32⟩
  | .local _ .vmem, ⟨31, _⟩ => ⟨S1x352x1024, .f32⟩
  | _, _ => ⟨S1x8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨2, ![3, 2], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c1_i32_0 : BitVec 32 := 1#32
  let v1 : BitVec 32 := Scalar.subi v0 c1_i32_0
  let c0_i32 : BitVec 32 := 0#32
  let c0_i32_1 : BitVec 32 := 0#32
  let c0_i32_2 : BitVec 32 := 0#32
  ![v1.toNat, c0_i32.toNat, arg1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

abbrev stage0_0 : Fin 2 → Memref sig .tc .vmem S1x8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let v1 : BitVec 32 := Scalar.subi v0 c0_i32_0
  let c0_i32_1 : BitVec 32 := 0#32
  let c0_i32_2 : BitVec 32 := 0#32
  let c0_i32_3 : BitVec 32 := 0#32
  ![v1.toNat, c0_i32_1.toNat, arg1.toNat, c0_i32_2.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage1_0 : Fin 2 → Memref sig .tc .vmem S1x8x352x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x352x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x352x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x352x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x352x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x352x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x352x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x352x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== AdamUpRefIdeal.lean ====
abbrev S1x8x704x1024 : Shape := ⟨4, ![1, 8, 704, 1024]⟩
abbrev S3x8x704x1024 : Shape := ⟨4, ![3, 8, 704, 1024]⟩
abbrev S4x704x1024 : Shape := ⟨3, ![4, 704, 1024]⟩
abbrev S4x8x704x1024 : Shape := ⟨4, ![4, 8, 704, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1x8x704x1024, .bf16⟩
  | .hbm, ⟨1, _⟩ => ⟨S3x8x704x1024, .bf16⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x8x704x1024, .bf16⟩
  | .hbm, ⟨6, _⟩ => ⟨S4x8x704x1024, .f32⟩
  | .hbm, ⟨7, _⟩ => ⟨S_, .f32⟩
  | .hbm, ⟨8, _⟩ => ⟨S4x704x1024, .f32⟩
  | .hbm, ⟨9, _⟩ => ⟨S_, .f32⟩
  | .hbm, ⟨10, _⟩ => ⟨S4x704x1024, .f32⟩
  | .hbm, ⟨11, _⟩ => ⟨S4x704x1024, .f32⟩
  | .hbm, ⟨12, _⟩ => ⟨S_, .f32⟩
  | .hbm, ⟨13, _⟩ => ⟨S4x704x1024, .f32⟩
  | .hbm, ⟨14, _⟩ => ⟨S4x704x1024, .f32⟩
  | .hbm, ⟨15, _⟩ => ⟨S4x704x1024, .f32⟩
  | .hbm, ⟨16, _⟩ => ⟨S_, .f32⟩
  | .hbm, ⟨17, _⟩ => ⟨S4x704x1024, .f32⟩
  | .hbm, ⟨18, _⟩ => ⟨S4x704x1024, .f32⟩
  | .hbm, ⟨19, _⟩ => ⟨S4x704x1024, .f32⟩
  | .hbm, ⟨20, _⟩ => ⟨S_, .f32⟩
  | .hbm, ⟨21, _⟩ => ⟨S4x704x1024, .f32⟩
  | .hbm, ⟨22, _⟩ => ⟨S4x704x1024, .f32⟩
  | .hbm, ⟨23, _⟩ => ⟨S4x704x1024, .f32⟩
  | .hbm, ⟨24, _⟩ => ⟨S_, .f32⟩
  | .hbm, ⟨25, _⟩ => ⟨S4x704x1024, .f32⟩
  | .hbm, ⟨26, _⟩ => ⟨S4x704x1024, .f32⟩
  | .hbm, ⟨27, _⟩ => ⟨S_, .f32⟩
  | .hbm, ⟨28, _⟩ => ⟨S4x704x1024, .f32⟩
  | .hbm, ⟨29, _⟩ => ⟨S4x704x1024, .f32⟩
  | .hbm, ⟨30, _⟩ => ⟨S4x704x1024, .f32⟩
  | .hbm, ⟨31, _⟩ => ⟨S_, .f32⟩
  | .hbm, ⟨32, _⟩ => ⟨S4x704x1024, .f32⟩
  | .hbm, ⟨33, _⟩ => ⟨S4x704x1024, .f32⟩
  | .hbm, ⟨34, _⟩ => ⟨S4x704x1024, .f32⟩
  | .hbm, ⟨35, _⟩ => ⟨S_, .f32⟩
  | .hbm, ⟨36, _⟩ => ⟨S4x704x1024, .f32⟩
  | .hbm, ⟨37, _⟩ => ⟨S4x704x1024, .f32⟩
  | .hbm, ⟨38, _⟩ => ⟨S4x704x1024, .f32⟩
  | .hbm, ⟨39, _⟩ => ⟨S_, .f32⟩
  | .hbm, ⟨40, _⟩ => ⟨S4x704x1024, .f32⟩
  | .hbm, ⟨41, _⟩ => ⟨S4x704x1024, .f32⟩
  | _, _ => ⟨S1x8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== LossHead.lean ====
abbrev S8192x2816 : Shape := ⟨2, ![8192, 2816]⟩
abbrev S2816x1024 : Shape := ⟨2, ![2816, 1024]⟩
abbrev S8192x1024 : Shape := ⟨2, ![8192, 1024]⟩
abbrev S4x1x1024 : Shape := ⟨3, ![4, 1, 1024]⟩
abbrev S1x1024 : Shape := ⟨2, ![1, 1024]⟩
abbrev S1x128 : Shape := ⟨2, ![1, 128]⟩
abbrev S1024x2816 : Shape := ⟨2, ![1024, 2816]⟩
abbrev S1024x1024 : Shape := ⟨2, ![1024, 1024]⟩
abbrev S1x1x1024 : Shape := ⟨3, ![1, 1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S4x1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x128, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x128, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossHeadRefIdeal.lean ====
abbrev S8192x2816 : Shape := ⟨2, ![8192, 2816]⟩
abbrev S2816x1024 : Shape := ⟨2, ![2816, 1024]⟩
abbrev S8192x1024 : Shape := ⟨2, ![8192, 1024]⟩
abbrev S4x1x1024 : Shape := ⟨3, ![4, 1, 1024]⟩
abbrev S1x1x1024 : Shape := ⟨3, ![1, 1, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S4x1x1024, .f32⟩
  | .hbm, ⟨4, _⟩ => ⟨S8192x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S1x1x1024, .f32⟩
  | .hbm, ⟨9, _⟩ => ⟨S1x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .bf16⟩
  | .hbm, ⟨77, _⟩ => ⟨S1x128, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== CatIn.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CatInRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchOut.lean ====
abbrev S8192x1024 : Shape := ⟨2, ![8192, 1024]⟩
abbrev S1024x1024 : Shape := ⟨2, ![1024, 1024]⟩
abbrev S4x1x1024 : Shape := ⟨3, ![4, 1, 1024]⟩
abbrev S1x1x1024 : Shape := ⟨3, ![1, 1, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S4x1x1024, .f32⟩
  | .hbm, ⟨4, _⟩ => ⟨S4x1x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BranchOutRefIdeal.lean ====
abbrev S8192x1024 : Shape := ⟨2, ![8192, 1024]⟩
abbrev S1024x1024 : Shape := ⟨2, ![1024, 1024]⟩
abbrev S4x1x1024 : Shape := ⟨3, ![4, 1, 1024]⟩
abbrev S1x1x1024 : Shape := ⟨3, ![1, 1, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S4x1x1024, .f32⟩
  | .hbm, ⟨4, _⟩ => ⟨S4x1x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S1x1x1024, .f32⟩
  | .hbm, ⟨9, _⟩ => ⟨S1x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1x1x1024, .f32⟩
  | .hbm, ⟨27, _⟩ => ⟨S1x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== DownOut.lean ====
abbrev S8192x2816 : Shape := ⟨2, ![8192, 2816]⟩
abbrev S2816x1024 : Shape := ⟨2, ![2816, 1024]⟩
abbrev S8192x1024 : Shape := ⟨2, ![8192, 1024]⟩
abbrev S4x1x1024 : Shape := ⟨3, ![4, 1, 1024]⟩
abbrev S1024x2816 : Shape := ⟨2, ![1024, 2816]⟩
abbrev S1024x1024 : Shape := ⟨2, ![1024, 1024]⟩
abbrev S1x1x1024 : Shape := ⟨3, ![1, 1, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S4x1x1024, .f32⟩
  | .hbm, ⟨4, _⟩ => ⟨S4x1x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownOutRefIdeal.lean ====
abbrev S8192x2816 : Shape := ⟨2, ![8192, 2816]⟩
abbrev S2816x1024 : Shape := ⟨2, ![2816, 1024]⟩
abbrev S8192x1024 : Shape := ⟨2, ![8192, 1024]⟩
abbrev S4x1x1024 : Shape := ⟨3, ![4, 1, 1024]⟩
abbrev S1x1x1024 : Shape := ⟨3, ![1, 1, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S4x1x1024, .f32⟩
  | .hbm, ⟨4, _⟩ => ⟨S4x1x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S1x1x1024, .f32⟩
  | .hbm, ⟨9, _⟩ => ⟨S1x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1x1x1024, .f32⟩
  | .hbm, ⟨27, _⟩ => ⟨S1x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== QueryIn.lean ====
abbrev S8192x1024 : Shape := ⟨2, ![8192, 1024]⟩
abbrev S1024x1024 : Shape := ⟨2, ![1024, 1024]⟩
abbrev S4x1x1024 : Shape := ⟨3, ![4, 1, 1024]⟩
abbrev S1x1024 : Shape := ⟨2, ![1, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S4x1x1024, .f32⟩
  | .hbm, ⟨5, _⟩ => ⟨S8192x1024, .f32⟩
  | .hbm, ⟨6, _⟩ => ⟨S4x1x1024, .f32⟩
  | .hbm, ⟨7, _⟩ => ⟨S8192x1024, .f32⟩
  | .hbm, ⟨8, _⟩ => ⟨S1x1024, .f32⟩
  | .hbm, ⟨9, _⟩ => ⟨S8192x1024, .bf16⟩
  | .hbm, ⟨10, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== QueryInRefIdeal.lean ====
abbrev S8192x1024 : Shape := ⟨2, ![8192, 1024]⟩
abbrev S1024x1024 : Shape := ⟨2, ![1024, 1024]⟩
abbrev S4x1x1024 : Shape := ⟨3, ![4, 1, 1024]⟩
abbrev S1x1x1024 : Shape := ⟨3, ![1, 1, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 101
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S4x1x1024, .f32⟩
  | .hbm, ⟨5, _⟩ => ⟨S8192x1024, .f32⟩
  | .hbm, ⟨6, _⟩ => ⟨S4x1x1024, .f32⟩
  | .hbm, ⟨7, _⟩ => ⟨S1x1x1024, .f32⟩
  | .hbm, ⟨8, _⟩ => ⟨S1x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1024x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1x1024, .f32⟩
  | .hbm, ⟨57, _⟩ => ⟨S1x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_13 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩

abbrev nD : Nat := 1
abbrev τ : Topo := Topo.v7x

variable {F : FTy → Type} [FloatOps F]
-- ==== RowsIn.lean ====
abbrev S8192x2176 : Shape := ⟨2, ![8192, 2176]⟩
abbrev S2176x1024 : Shape := ⟨2, ![2176, 1024]⟩
abbrev S8192x1024 : Shape := ⟨2, ![8192, 1024]⟩
abbrev S4x1x1024 : Shape := ⟨3, ![4, 1, 1024]⟩
abbrev S1x1024 : Shape := ⟨2, ![1, 1024]⟩
abbrev S512x2176 : Shape := ⟨2, ![512, 2176]⟩
abbrev S512x1024 : Shape := ⟨2, ![512, 1024]⟩
abbrev S1x1x1024 : Shape := ⟨3, ![1, 1, 1024]⟩
abbrev S256x2176 : Shape := ⟨2, ![256, 2176]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S8192x2176, .bf16⟩
  | .hbm, ⟨1, _⟩ => ⟨S2176x1024, .bf16⟩
  | .hbm, ⟨2, _⟩ => ⟨S8192x1024, .f32⟩
  | .hbm, ⟨3, _⟩ => ⟨S8192x1024, .f32⟩
  | .hbm, ⟨4, _⟩ => ⟨S4x1x1024, .f32⟩
  | .hbm, ⟨5, _⟩ => ⟨S8192x1024, .f32⟩
  | .hbm, ⟨6, _⟩ => ⟨S4x1x1024, .f32⟩
  | .hbm, ⟨7, _⟩ => ⟨S8192x1024, .f32⟩
  | .hbm, ⟨8, _⟩ => ⟨S1x1024, .f32⟩
  | .hbm, ⟨9, _⟩ => ⟨S8192x1024, .bf16⟩
  | .hbm, ⟨10, _⟩ => ⟨S1x1024, .f32⟩
  | .local _ .vmem, ⟨0, _⟩ => ⟨S512x2176, .bf16⟩
  | .local _ .vmem, ⟨1, _⟩ => ⟨S512x2176, .bf16⟩
  | .local _ .vmem, ⟨2, _⟩ => ⟨S2176x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S8192x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== RowsInRefIdeal.lean ====
abbrev S8192x2176 : Shape := ⟨2, ![8192, 2176]⟩
abbrev S2176x1024 : Shape := ⟨2, ![2176, 1024]⟩
abbrev S8192x1024 : Shape := ⟨2, ![8192, 1024]⟩
abbrev S4x1x1024 : Shape := ⟨3, ![4, 1, 1024]⟩
abbrev S1x1x1024 : Shape := ⟨3, ![1, 1, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x2176 : Shape := ⟨2, ![1024, 2176]⟩
abbrev S1024 : Shape := ⟨1, ![1024]⟩

abbrev nBuf : Space → Nat
  | .hbm => 102
  | .vmem => 0
  | .smem => 0
  | _ => 0

abbrev bufTy : (tb : Table) → Fin (tcTables nBuf tb) → BufTy
  | .hbm, ⟨0, _⟩ => ⟨S8192x2176, .bf16⟩
  | .hbm, ⟨1, _⟩ => ⟨S2176x1024, .bf16⟩
  | .hbm, ⟨2, _⟩ => ⟨S8192x1024, .f32⟩
  | .hbm, ⟨3, _⟩ => ⟨S8192x1024, .f32⟩
  | .hbm, ⟨4, _⟩ => ⟨S4x1x1024, .f32⟩
  | .hbm, ⟨5, _⟩ => ⟨S8192x1024, .f32⟩
  | .hbm, ⟨6, _⟩ => ⟨S4x1x1024, .f32⟩
  | .hbm, ⟨7, _⟩ => ⟨S1x1x1024, .f32⟩
  | .hbm, ⟨8, _⟩ => ⟨S1x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S2176x1024, .f32⟩
  | .hbm, ⟨29, _⟩ => ⟨S1024x2176, .f32⟩
  | .hbm, ⟨30, _⟩ => ⟨S8192x2176, .f32⟩
  | .hbm, ⟨31, _⟩ => ⟨S8192x2176, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1x1024, .f32⟩
  | .hbm, ⟨58, _⟩ => ⟨S1x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x1024, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .bf16⟩
  | _, _ => ⟨S8192x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_13 : Ref sig .tc := ⟨.hbm, 91, rfl⟩
abbrev main_v70 : Ref sig .tc := ⟨.hbm, 92, rfl⟩
abbrev main_v71 : Ref sig .tc := ⟨.hbm, 93, rfl⟩
abbrev main_cst_14 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩

abbrev nD : Nat := 1
abbrev τ : Topo := Topo.v7x

variable {F : FTy → Type} [FloatOps F]
-- ==== Reads.lean ====
abbrev S8192x1024 : Shape := ⟨2, ![8192, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReadsRefIdeal.lean ====
abbrev S8192x1024 : Shape := ⟨2, ![8192, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .f32⟩
  | .hbm, ⟨4, _⟩ => ⟨S256x1024, .f32⟩
  | .hbm, ⟨5, _⟩ => ⟨S256x1024, .f32⟩
  | .hbm, ⟨6, _⟩ => ⟨S8192x4x256, .f32⟩
  | .hbm, ⟨7, _⟩ => ⟨S256x4x256, .f32⟩
  | .hbm, ⟨8, _⟩ => ⟨S256x4x256, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S_, .f32⟩
  | .hbm, ⟨16, _⟩ => ⟨S4x8192, .f32⟩
  | .hbm, ⟨17, _⟩ => ⟨S4x8192, .f32⟩
  | .hbm, ⟨18, _⟩ => ⟨S4x8192x1, .f32⟩
  | .hbm, ⟨19, _⟩ => ⟨S4x8192x256, .f32⟩
  | .hbm, ⟨20, _⟩ => ⟨S4x8192x256, .f32⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x256, .f32⟩
  | .hbm, ⟨26, _⟩ => ⟨S4x8192x256, .f32⟩
  | .hbm, ⟨27, _⟩ => ⟨S4x256x8192, .f32⟩
  | .hbm, ⟨28, _⟩ => ⟨S8192x4x256, .f32⟩
  | .hbm, ⟨29, _⟩ => ⟨S8192x1024, .f32⟩
  | .hbm, ⟨30, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Keys.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .bf16⟩
  | .local _ .vmem, ⟨0, _⟩ => ⟨S256x1024, .bf16⟩
  | .local _ .vmem, ⟨1, _⟩ => ⟨S1024x1024, .bf16⟩
  | .local _ .vmem, ⟨2, _⟩ => ⟨S256x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KeysRefIdeal.lean ====
abbrev S256x1024 : Shape := ⟨2, ![256, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .hbm, ⟨3, _⟩ => ⟨S1024x1024, .f32⟩
  | .hbm, ⟨4, _⟩ => ⟨S256x1024, .f32⟩
  | .hbm, ⟨5, _⟩ => ⟨S256x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KeyGrad.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S1024x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KeyGradRefIdeal.lean ====
abbrev S256x1024 : Shape := ⟨2, ![256, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S_, .f32⟩
  | .hbm, ⟨3, _⟩ => ⟨S1024x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MemIn.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemInRefIdeal.lean ====
abbrev S256x1024 : Shape := ⟨2, ![256, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S_, .f32⟩
  | .hbm, ⟨3, _⟩ => ⟨S256x1024, .f32⟩
  | .hbm, ⟨4, _⟩ => ⟨S1024x1024, .f32⟩
  | .hbm, ⟨5, _⟩ => ⟨S256x1024, .f32⟩
  | .hbm, ⟨6, _⟩ => ⟨S256x1024, .f32⟩
  | .hbm, ⟨7, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PreNorm.lean ====
abbrev S8192x1024 : Shape := ⟨2, ![8192, 1024]⟩
abbrev S4x1x1024 : Shape := ⟨3, ![4, 1, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S4x1x1024, .f32⟩
  | .hbm, ⟨2, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S256x1024, .bf16⟩
  | .local _ .vmem, ⟨4, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PreNormRefIdeal.lean ====
abbrev S8192x1024 : Shape := ⟨2, ![8192, 1024]⟩
abbrev S4x1x1024 : Shape := ⟨3, ![4, 1, 1024]⟩
abbrev S1x1x1024 : Shape := ⟨3, ![1, 1, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1x1024, .f32⟩
  | .hbm, ⟨2, _⟩ => ⟨S1x1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MemNorm.lean ====
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1x1024 : Shape := ⟨2, ![1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1x1024, .f32⟩
  | .hbm, ⟨2, _⟩ => ⟨S256x1024, .bf16⟩
  | .local _ .vmem, ⟨0, _⟩ => ⟨S256x1024, .f32⟩
  | .local _ .vmem, ⟨1, _⟩ => ⟨S1x1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNormRefIdeal.lean ====
abbrev S256x1024 : Shape := ⟨2, ![256, 1024]⟩
abbrev S1x1x1024 : Shape := ⟨3, ![1, 1, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1x1024, .f32⟩
  | .hbm, ⟨2, _⟩ => ⟨S1x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MemGain.lean ====
abbrev S256x1024 : Shape := ⟨2, ![256, 1024]⟩
abbrev S1x1x1024 : Shape := ⟨3, ![1, 1, 1024]⟩
abbrev S_ : Shape := ⟨0, ![]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1x1x1024, .f32⟩
  | .hbm, ⟨3, _⟩ => ⟨S_, .f32⟩
  | .hbm, ⟨4, _⟩ => ⟨S256x1024, .f32⟩
  | .hbm, ⟨5, _⟩ => ⟨S256x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1x1024, .f32⟩
  | .local _ .vmem, ⟨4, _⟩ => ⟨S256x1024, .f32⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemGainRefIdeal.lean ====
abbrev S256x1024 : Shape := ⟨2, ![256, 1024]⟩
abbrev S1x1x1024 : Shape := ⟨3, ![1, 1, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1x1x1024, .f32⟩
  | .hbm, ⟨3, _⟩ => ⟨S1x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256, .f32⟩
  | .hbm, ⟨32, _⟩ => ⟨S256x1, .f32⟩
  | .hbm, ⟨33, _⟩ => ⟨S256x1024, .f32⟩
  | .hbm, ⟨34, _⟩ => ⟨S256x1024, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S_, .f32⟩
  | .hbm, ⟨40, _⟩ => ⟨S256, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.At.lean ====
/-
  Where an array is read: an index is known by its coordinates, and a coordinate in a block is the block's offset and the
  place in the block.
-/
module

public import Idealize.ShloMosaic.Lib.ValueIdx

@[expose] public section

namespace Cert.At

open Idealize.ShloMosaic Idealize.ShloMosaic.ValueIdx

/-- A matrix at an index of these coordinates. -/
theorem entry2 {α : Type} {a b : ℕ} (f : (⟨2, ![a, b]⟩ : Shape).Idx → α) (i : (⟨2, ![a, b]⟩ : Shape).Idx) {p : Fin a} {q : Fin b}
    (h0 : (i 0).val = p.val) (h1 : (i 1).val = q.val) : f i = f (ix2 p q) :=
  congrArg f (funext fun x => Fin.ext (match x with | ⟨0, _⟩ => h0 | ⟨1, _⟩ => h1))

/-- A matrix at an index with the same coordinates as another. -/
theorem same2 {α : Type} {a b : ℕ} (f : (⟨2, ![a, b]⟩ : Shape).Idx → α) (i j : (⟨2, ![a, b]⟩ : Shape).Idx)
    (h0 : (i 0).val = (j 0).val) (h1 : (i 1).val = (j 1).val) : f i = f j :=
  congrArg f (funext fun x => Fin.ext (match x with | ⟨0, _⟩ => h0 | ⟨1, _⟩ => h1))

/-- A stack of matrices at an index of these coordinates. -/
theorem entry3 {α : Type} {a b c : ℕ} (f : (⟨3, ![a, b, c]⟩ : Shape).Idx → α) (i : (⟨3, ![a, b, c]⟩ : Shape).Idx) {p : Fin a} {q : Fin b} {r : Fin c}
    (h0 : (i 0).val = p.val) (h1 : (i 1).val = q.val) (h2 : (i 2).val = r.val) : f i = f (ix3 p q r) :=
  congrArg f (funext fun x => Fin.ext (match x with | ⟨0, _⟩ => h0 | ⟨1, _⟩ => h1 | ⟨2, _⟩ => h2))

/-- A stack of matrices at an index with the same coordinates as another. -/
theorem same3 {α : Type} {a b c : ℕ} (f : (⟨3, ![a, b, c]⟩ : Shape).Idx → α) (i j : (⟨3, ![a, b, c]⟩ : Shape).Idx)
    (h0 : (i 0).val = (j 0).val) (h1 : (i 1).val = (j 1).val) (h2 : (i 2).val = (j 2).val) : f i = f j :=
  congrArg f (funext fun x => Fin.ext (match x with | ⟨0, _⟩ => h0 | ⟨1, _⟩ => h1 | ⟨2, _⟩ => h2))

/-- A place in the only block. -/
theorem whole {n : ℕ} (e : n = 0) (b r : ℕ) : n * b + 1 * r = r := by rw [e]; omega

/-- A place in block `t`. -/
theorem block {n t : ℕ} (e : n = t) (b r : ℕ) : n * b + 1 * r = b * t + r := by rw [e, Nat.mul_comm]; omega

end Cert.At
-- ==== Proof.Soft.lean ====
/-
  The arithmetic of one row of a softmax and of its gradient, over the extended reals: a row of scores that are numbers
  has a largest score that is a number, exponentials between zero and one that are numbers, and a sum of them that is a
  positive number. So a division by that sum is a product with a positive number, which distributes over every sum, and
  the gradient written from the normalised row equals the one written from the unnormalised row.
-/
module

public import Idealize.ShloMosaic.PureOps.Ideal
public import Idealize.ShloMosaic.PureOps.Ideal.Laws

@[expose] public section

noncomputable section

namespace Cert.Rows

open Idealize.ShloMosaic
open scoped BigOperators

/-! ### Sums and factors -/

/-- A number that is not negative distributes over a sum of any extended reals. -/
theorem sum_mul_coe {ι : Type*} (s : Finset ι) (f : ι → EReal) {a : ℝ} (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi,
      EReal.right_distrib_of_nonneg_of_ne_top (by exact_mod_cast ha) (EReal.coe_ne_top _), ih]

/-- The same over a difference. -/
theorem sub_mul_coe (x y : EReal) {a : ℝ} (ha : 0 ≤ a) : (x - y) * (a : EReal) = x * a + -(y * a) := by
  rw [sub_eq_add_neg, EReal.right_distrib_of_nonneg_of_ne_top (by exact_mod_cast ha) (EReal.coe_ne_top _), EReal.neg_mul]

/-- A sum of numbers is a number. -/
theorem sum_coe {ι : Type*} (s : Finset ι) (f : ι → ℝ) : (∑ i ∈ s, (f i : EReal)) = ((∑ i ∈ s, f i : ℝ) : EReal) := by
  classical
  induction s using Finset.induction_on with
  | empty => simp
  | insert i s hi ih => rw [Finset.sum_insert hi, Finset.sum_insert hi, ih, EReal.coe_add]

/-! ### One row -/

section Row
variable {n : ℕ}

/-- The largest score of a row. -/
def top (s : Fin n → EReal) : EReal := (Finset.univ : Finset (Fin n)).fold max ⊥ s
/-- The exponential of a score less the largest. -/
def ex (s : Fin n → EReal) (j : Fin n) : EReal := Ideal.exp (s j - top s)
/-- Their sum over the row. -/
def mass (s : Fin n → EReal) : EReal := ∑ j, ex s j
/-- The softmax of the row. -/
def prob (s : Fin n → EReal) (j : Fin n) : EReal := Ideal.div (ex s j) (mass s)
/-- The gradient of the row's scores, from the gradient `g` of its softmax, times a scale. -/
def dscore (s g : Fin n → EReal) (c : EReal) (j : Fin n) : EReal := prob s j * (g j - ∑ l, g l * prob s l) * c

/-- Of a row of numbers the largest is one of them. -/
theorem top_mem [NeZero n] (s : Fin n → EReal) : ∃ j, top s = s j := by
  obtain ⟨j, -, h⟩ := Finset.exists_mem_eq_sup (Finset.univ : Finset (Fin n)) ⟨0, Finset.mem_univ _⟩ s
  exact ⟨j, h⟩

/-- The exponentials of a row of numbers are positive numbers. -/
theorem ex_coe [NeZero n] {s : Fin n → EReal} {r : Fin n → ℝ} (hs : ∀ j, s j = (r j : EReal)) :
    ∃ e : Fin n → ℝ, (∀ j, 0 < e j) ∧ ∀ j, ex s j = (e j : EReal) := by
  obtain ⟨i, hi⟩ := top_mem s
  refine ⟨fun j => Real.exp (r j - r i), fun j => Real.exp_pos _, fun j => ?_⟩
  rw [ex, hi, hs j, hs i, ← EReal.coe_sub]
  rfl

/-- Their sum is a positive number. -/
theorem mass_coe [NeZero n] {s : Fin n → EReal} {r : Fin n → ℝ} (hs : ∀ j, s j = (r j : EReal)) :
    ∃ S : ℝ, 0 < S ∧ mass s = (S : EReal) := by
  obtain ⟨e, he, h⟩ := ex_coe hs
  refine ⟨∑ j, e j, Finset.sum_pos (fun j _ => he j) ⟨0, Finset.mem_univ _⟩, ?_⟩
  rw [mass, ← sum_coe]
  exact Finset.sum_congr rfl fun j _ => h j

/-- The gradient of a row of scores that are numbers, written with the exponentials and their sum, is the one written
    with the softmax. -/
theorem dscore_eq [NeZero n] {s : Fin n → EReal} {r : Fin n → ℝ} (hs : ∀ j, s j = (r j : EReal)) (g : Fin n → EReal)
    (c : EReal) (j : Fin n) :
    (Ideal.div (g j) (mass s) + -(∑ l, g l * Ideal.div 1 (mass s * mass s) * ex s l)) * ex s j * c = dscore s g c j := by
  obtain ⟨S, hS, hm⟩ := mass_coe hs
  have hS' : S ≠ 0 := hS.ne'
  have ha : (0 : ℝ) ≤ 1 / S := by positivity
  have hd : ∀ x : EReal, Ideal.div x (mass s) = x * ((1 / S : ℝ) : EReal) := fun x => by rw [hm, Ideal.div_coe hS']
  have h1 : Ideal.div 1 (mass s * mass s) = ((1 / S : ℝ) : EReal) * ((1 / S : ℝ) : EReal) := by
    rw [hm, ← EReal.coe_mul, Ideal.div_coe (mul_ne_zero hS' hS'), one_mul, ← EReal.coe_mul]
    congr 1; field_simp
  have hsum : (∑ l, g l * Ideal.div 1 (mass s * mass s) * ex s l) = (∑ l, g l * prob s l) * ((1 / S : ℝ) : EReal) := by
    rw [sum_mul_coe _ _ ha]
    refine Finset.sum_congr rfl fun l _ => ?_
    rw [h1, prob, hd]
    ac_rfl
  rw [hsum, hd, ← sub_mul_coe _ _ ha, dscore, prob, hd]
  ac_rfl

end Row

end Cert.Rows

end
-- ==== Proof.AttnPay.lean ====
/-
  The gradient of the attention, one head of one block of rows at a time: what the kernel's five stored values are, element
  by element, as functions of the head's columns of the four operands. The kernel writes its body out once per head, so
  the printed payloads of the heads are the same functions under different names.
-/
module

public import proofs.«01_k».proof.Proof.Gen.AttnIdeal.Value
public import proofs.«01_k».proof.Proof.Soft
public import Idealize.ShloMosaic.Lib.ValueIdx
public import Idealize.ShloMosaic.Lib.Pipeline.Value

@[expose] public section

set_option maxRecDepth 16384

noncomputable section

namespace Cert.AttnIdeal.RefValue

open Cert.AttnIdeal Cert.AttnIdeal.Gen Cert.Rows Idealize.ShloMosaic Idealize.ShloMosaic.TcCoe Idealize.SL.Sem Idealize.ShloMosaic.ValueIdx
open scoped BigOperators

/-- The factor one sixteenth, that is one over the root of a head's 256 columns. -/
abbrev c16 : EReal := Ideal.ofBits .f32 0x3D800000#32

/-! ### The three products -/

theorem nt_apply (a : FVec Ideal S512x256 .bf16) (b : FVec Ideal S256x256 .bf16) (r : Fin 512) (j : Fin 256) :
    matmul dot_S512x256_S256x256_S512x256_1_1_0_0_n_n none a b (constant S512x256 .f32 0x00000000#32) (ix2 r j)
      = ∑ k : Fin 256, a (ix2 r k) * b (ix2 j k) := by
  simp only [matmul]
  rw [Ideal.matmul_constant_zero_apply, ← Equiv.sum_comp (contrEquiv1 dot_S512x256_S256x256_S512x256_1_1_0_0_n_n 256 rfl rfl).symm]
  refine Finset.sum_congr rfl fun k _ => ?_
  have hk := contrEquiv1_symm_val dot_S512x256_S256x256_S512x256_1_1_0_0_n_n 256 rfl rfl k
  congr 2 <;> funext x <;> apply Fin.ext <;> match x with
    | ⟨0, _⟩ => rfl
    | ⟨1, _⟩ => exact hk

theorem nn_apply (a : FVec Ideal S512x256 .bf16) (b : FVec Ideal S256x256 .bf16) (r : Fin 512) (j : Fin 256) :
    matmul dot_S512x256_S256x256_S512x256_1_0_0_1_n_n none a b (constant S512x256 .f32 0x00000000#32) (ix2 r j)
      = ∑ k : Fin 256, a (ix2 r k) * b (ix2 k j) := by
  simp only [matmul]
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  congr 2 <;> funext x <;> apply Fin.ext <;> match x with
    | ⟨0, _⟩ => first | exact hk | rfl
    | ⟨1, _⟩ => first | exact hk | rfl

theorem tn_apply (a : FVec Ideal S512x256 .bf16) (b : FVec Ideal S512x256 .bf16) (r : Fin 256) (j : Fin 256) :
    matmul dot_S512x256_S512x256_S256x256_0_0_1_1_n_n none a b (constant S256x256 .f32 0x00000000#32) (ix2 r j)
      = ∑ k : Fin 512, a (ix2 k r) * b (ix2 k j) := by
  simp only [matmul]
  rw [Ideal.matmul_constant_zero_apply, ← Equiv.sum_comp (contrEquiv1 dot_S512x256_S512x256_S256x256_0_0_1_1_n_n 512 rfl rfl).symm]
  refine Finset.sum_congr rfl fun k _ => ?_
  have hk := contrEquiv1_symm_val dot_S512x256_S512x256_S256x256_0_0_1_1_n_n 512 rfl rfl k
  congr 2 <;> funext x <;> apply Fin.ext <;> match x with
    | ⟨0, _⟩ => first | exact hk | rfl
    | ⟨1, _⟩ => first | exact hk | rfl

/-! ### A row's sum and maximum, spread over the row -/

theorem lift_row (r : Fin 512) (k : Fin 256) : reduces_S512x256_S512.lift (ix1 r) k = ix2 r k := by
  funext x; apply Fin.ext; match x with
    | ⟨0, _⟩ => rfl
    | ⟨1, _⟩ => rfl

theorem spread_apply (v : FVec Ideal S512 .f32) (r : Fin 512) (j : Fin 256) :
    broadcastTo S512x256 (shapeCast S512x1 v shapeCasts_S512_S512x1) broadcasts_S512x1_S512x256 (ix2 r j) = v (ix1 r) := by
  rw [broadcastTo_apply _ _ _ (ix2 r (0 : Fin 1)) (by intro a; match a with | ⟨0, _⟩ => rfl | ⟨1, _⟩ => rfl)]
  exact shapeCast_apply _ _ _ (ix1 r) (by rw [Shape.rowMajor_val_one, Shape.rowMajor_val_two]; show r.val = r.val * 1 + 0; omega)

theorem rowsum_apply (v : FVec Ideal S512x256 .f32) (r : Fin 512) (j : Fin 256) :
    broadcastTo S512x256 (shapeCast S512x1 (multiReduction .add [1] S512 v 0x00000000#32 reduces_S512x256_S512 (.inl rfl) rfl) shapeCasts_S512_S512x1) broadcasts_S512x1_S512x256 (ix2 r j)
      = ∑ l : Fin 256, v (ix2 r l) := by
  rw [spread_apply]
  refine (Ideal.multiReduction_add_single (a := 1) v 0x00000000#32 reduces_S512x256_S512 (.inl rfl) rfl (ix1 r)).trans ?_
  exact Finset.sum_congr rfl fun l _ => congrArg v (lift_row r l)

theorem rowtop_apply (v : FVec Ideal S512x256 .f32) (r : Fin 512) (j : Fin 256) :
    broadcastTo S512x256 (shapeCast S512x1 (multiReduction .maximumf [1] S512 v 0xFF800000#32 reduces_S512x256_S512 (.inl rfl) rfl) shapeCasts_S512_S512x1) broadcasts_S512x1_S512x256 (ix2 r j)
      = top fun l : Fin 256 => v (ix2 r l) := by
  rw [spread_apply]
  refine (Ideal.multiReduction_maximumf_single (a := 1) v 0xFF800000#32 reduces_S512x256_S512 (.inl rfl) rfl (ix1 r)).trans ?_
  have e : Ideal.ofBits .f32 0xFF800000#32 = ⊥ := by simp [Ideal.ofBits, Ideal.ieee]
  rw [top, ← e]
  exact congrArg (fun f => Finset.fold max (Ideal.ofBits .f32 0xFF800000#32) f (Finset.univ : Finset (Fin 256)))
    (funext fun l => congrArg v (lift_row r l))

/-! ### The payloads of one head -/

/-- The scores of row `r`. -/
abbrev srow (q : FVec Ideal S512x256 .bf16) (k : FVec Ideal S256x256 .bf16) (r : Fin 512) (j : Fin 256) : EReal :=
  (∑ d : Fin 256, q (ix2 r d) * k (ix2 j d)) * c16
/-- The gradient of row `r`'s softmax. -/
abbrev grow (v : FVec Ideal S256x256 .bf16) (g : FVec Ideal S512x256 .bf16) (r : Fin 512) (j : Fin 256) : EReal :=
  ∑ d : Fin 256, g (ix2 r d) * v (ix2 j d)

/-- The softmax of the head's scores. -/
theorem pay8_apply (q : FVec Ideal S512x256 .bf16) (k : FVec Ideal S256x256 .bf16) (r : Fin 512) (j : Fin 256) :
    k0_pay8 (F := Ideal) q k (ix2 r j) = prob (srow q k r) j := by
  unfold k0_pay8
  dsimp only
  have hs : ∀ l : Fin 256, mulf (matmul dot_S512x256_S256x256_S512x256_1_1_0_0_n_n none q k (constant S512x256 .f32 0x00000000#32))
      (broadcast S512x256 (Scalar.ofBits (F := Ideal) .f32 0x3D800000#32)) (ix2 r l) = srow q k r l := fun l => by
    rw [mulf_apply, nt_apply]; rfl
  have he : ∀ l : Fin 256, exp (subf (mulf (matmul dot_S512x256_S256x256_S512x256_1_1_0_0_n_n none q k (constant S512x256 .f32 0x00000000#32))
      (broadcast S512x256 (Scalar.ofBits (F := Ideal) .f32 0x3D800000#32))) (broadcastTo S512x256 (shapeCast S512x1 (multiReduction .maximumf [1] S512
      (mulf (matmul dot_S512x256_S256x256_S512x256_1_1_0_0_n_n none q k (constant S512x256 .f32 0x00000000#32))
      (broadcast S512x256 (Scalar.ofBits (F := Ideal) .f32 0x3D800000#32))) 0xFF800000#32 reduces_S512x256_S512 (.inl rfl) rfl) shapeCasts_S512_S512x1) broadcasts_S512x1_S512x256)) (ix2 r l)
      = ex (srow q k r) l := fun l => by
    show Ideal.exp _ = _
    rw [subf_apply, rowtop_apply, hs, ex]
    simp only [hs]
  rw [divf_apply, rowsum_apply, he, prob, mass]
  simp only [he]

/-- The gradient of the head's scores. -/
theorem pay10_apply (q : FVec Ideal S512x256 .bf16) (k v : FVec Ideal S256x256 .bf16) (g : FVec Ideal S512x256 .bf16) (r : Fin 512) (j : Fin 256) :
    k0_pay10 (F := Ideal) q k v g (ix2 r j) = dscore (srow q k r) (grow v g r) c16 j := by
  unfold k0_pay10
  dsimp only
  rw [truncf_apply, mulf_apply, mulf_apply, subf_apply, rowsum_apply, nt_apply, pay8_apply, dscore]
  simp only [mulf_apply, nt_apply, pay8_apply]
  rfl

/-- The gradient of the head's queries. -/
theorem pay11_apply (k : FVec Ideal S256x256 .bf16) (ds : FVec Ideal S512x256 .bf16) (r : Fin 512) (j : Fin 256) :
    k0_pay11 (F := Ideal) k ds (ix2 r j) = ∑ l : Fin 256, ds (ix2 r l) * k (ix2 l j) := by
  unfold k0_pay11
  rw [truncf_apply, nn_apply]

/-- The block's part of the gradient of the head's keys, added to what was there. -/
theorem pay12_apply (q : FVec Ideal S512x256 .bf16) (ds : FVec Ideal S512x256 .bf16) (acc : FVec Ideal S256x256 .f32) (j d : Fin 256) :
    k0_pay12 (F := Ideal) q ds acc (ix2 j d) = acc (ix2 j d) + ∑ r : Fin 512, ds (ix2 r j) * q (ix2 r d) := by
  unfold k0_pay12
  rw [addf_apply, tn_apply, shapeCast_self]

/-- The block's part of the gradient of the head's values, added to what was there. -/
theorem pay9_apply (q : FVec Ideal S512x256 .bf16) (k : FVec Ideal S256x256 .bf16) (g : FVec Ideal S512x256 .bf16) (acc : FVec Ideal S256x256 .f32) (j d : Fin 256) :
    k0_pay9 (F := Ideal) q k g acc (ix2 j d) = acc (ix2 j d) + ∑ r : Fin 512, prob (srow q k r) j * g (ix2 r d) := by
  unfold k0_pay9
  rw [addf_apply, tn_apply, shapeCast_self]
  simp only [truncf_apply, pay8_apply]

end Cert.AttnIdeal.RefValue

end
-- ==== Proof.AttnOut.lean ====
/-
  What one grid point of the gradient of the attention leaves in the three result blocks: the block of the queries'
  gradient, and the whole gradients of the keys and of the values with this point's part added (at the first point,
  added to zero). The four heads' stores are four bands of 256 columns.
-/
module

public import proofs.«01_k».proof.Proof.AttnPay
public import Idealize.ShloMosaic.Lib.Pipeline.ValueKit.Tiles

@[expose] public section

set_option maxRecDepth 16384

noncomputable section

namespace Cert.Rows

open Idealize.ShloMosaic Idealize.ShloMosaic.ValueIdx

/-- Column `d` of head `h`. -/
def col (h : Fin 4) (d : Fin 256) : Fin 1024 := ⟨256 * h.val + d.val, by omega⟩

/-- Every column is a head's. -/
theorem col_surj (c : Fin 1024) : ∃ h d, col h d = c :=
  ⟨⟨c.val / 256, by omega⟩, ⟨c.val % 256, Nat.mod_lt _ (by decide)⟩, Fin.ext (Nat.div_add_mod c.val 256)⟩

section Bands
variable {m : ℕ} {Val : EltTy → Type} {e : EltTy}

/-- A load of a band of columns, at an index. -/
theorem ld_band (X : (⟨2, ![m, 1024]⟩ : Shape).Idx → Val e) (o : ℕ) (inb) (r : Fin m) (k : Fin 256) (c : Fin 1024) (hc : c.val = o + k.val) :
    View.ld X (Rect.unit (s := ⟨2, ![m, 1024]⟩) ![0, o] ![m, 256] inb) (ix2 r k) = X (ix2 r c) :=
  View.ld_unit_apply_of X _ _ inb _ _ fun a => match a with
    | ⟨0, _⟩ => (Nat.zero_add _).symm
    | ⟨1, _⟩ => hc

/-- In the band stored last the contents are that store's. -/
theorem canon_hit [∀ e, Nonempty (Val e)] (o : ℕ) (inb) (w : (⟨2, ![m, 256]⟩ : Shape).Idx → Val e) (L) (r : Fin m) (k : Fin 256) (c : Fin 1024)
    (hc : c.val = o + k.val) :
    View.canon (⟨Rect.unit (s := ⟨2, ![m, 1024]⟩) ![0, o] ![m, 256] inb, w⟩ :: L) (ix2 r c) = w (ix2 r k) := by
  have : (ix2 r c : (⟨2, ![m, 1024]⟩ : Shape).Idx) = (Rect.unit (s := ⟨2, ![m, 1024]⟩) ![0, o] ![m, 256] inb).emb (ix2 r k) :=
    funext fun a => Fin.ext (by
      refine Eq.trans ?_ (Rect.idx_unit_val _ _ inb (ix2 r k) a).symm
      match a with
      | ⟨0, _⟩ => exact (Nat.zero_add _).symm
      | ⟨1, _⟩ => exact hc)
  rw [this]
  exact View.canon_cons_emb (Rect.unit (s := ⟨2, ![m, 1024]⟩) ![0, o] ![m, 256] inb) w L (ix2 r k)

/-- Outside it they are what the earlier stores left. -/
theorem canon_skip [∀ e, Nonempty (Val e)] (o : ℕ) (inb) (w : (⟨2, ![m, 256]⟩ : Shape).Idx → Val e) (L) (r : Fin m) (c : Fin 1024)
    (hc : c.val < o ∨ o + 256 ≤ c.val) :
    View.canon (⟨Rect.unit (s := ⟨2, ![m, 1024]⟩) ![0, o] ![m, 256] inb, w⟩ :: L) (ix2 r c) = View.canon L (ix2 r c) := by
  refine View.canon_cons_of_not_mem _ L fun h => ?_
  rw [Rect.mem_set_unit] at h
  have h1 : o ≤ c.val ∧ c.val < o + 256 := h 1
  omega

/-- Four bands, stored from the first to the last, read back. -/
theorem canon_four [∀ e, Nonempty (Val e)] (i0 i1 i2 i3) (w0 w1 w2 w3 : (⟨2, ![m, 256]⟩ : Shape).Idx → Val e) (L) (h : Fin 4) (r : Fin m) (k : Fin 256) :
    View.canon (⟨Rect.unit (s := ⟨2, ![m, 1024]⟩) ![0, 768] ![m, 256] i3, w3⟩ :: ⟨Rect.unit (s := ⟨2, ![m, 1024]⟩) ![0, 512] ![m, 256] i2, w2⟩
      :: ⟨Rect.unit (s := ⟨2, ![m, 1024]⟩) ![0, 256] ![m, 256] i1, w1⟩ :: ⟨Rect.unit (s := ⟨2, ![m, 1024]⟩) ![0, 0] ![m, 256] i0, w0⟩ :: L) (ix2 r (col h k))
      = (match h with | 0 => w0 | 1 => w1 | 2 => w2 | 3 => w3) (ix2 r k) := by
  match h with
  | 0 => rw [canon_skip 768 i3 _ _ _ _ (by simp only [col]; omega), canon_skip 512 i2 _ _ _ _ (by simp only [col]; omega), canon_skip 256 i1 _ _ _ _ (by simp only [col]; omega), canon_hit 0 i0 _ _ _ k _ (by simp only [col]; omega)]
  | 1 => rw [canon_skip 768 i3 _ _ _ _ (by simp only [col]; omega), canon_skip 512 i2 _ _ _ _ (by simp only [col]; omega), canon_hit 256 i1 _ _ _ k _ (by simp only [col]; omega)]
  | 2 => rw [canon_skip 768 i3 _ _ _ _ (by simp only [col]; omega), canon_hit 512 i2 _ _ _ k _ (by simp only [col]; omega)]
  | 3 => rw [canon_hit 768 i3 _ _ _ k _ (by simp only [col]; omega)]

end Bands

end Cert.Rows

namespace Cert.AttnIdeal.RefValue

open Cert.AttnIdeal Cert.AttnIdeal.Gen Cert.Rows Idealize.ShloMosaic Idealize.ShloMosaic.TcCoe Idealize.SL.Sem Idealize.ShloMosaic.ValueIdx
open scoped BigOperators

/-! ### The heads' payloads are the first head's -/

section Names
variable (q : Vec Ideal S512x256 .bf16) (k v : Vec Ideal S256x256 .bf16) (g : Vec Ideal S512x256 .bf16) (acc : Vec Ideal S256x256 .f32)
theorem q1 : k0_pay17 (F := Ideal) k (k0_pay13 q k) (k0_pay15 v g) = k0_pay11 k (k0_pay10 q k v g) := rfl
theorem q2 : k0_pay22 (F := Ideal) k v g (k0_pay19 q k) = k0_pay11 k (k0_pay10 q k v g) := rfl
theorem q3 : k0_pay4 (F := Ideal) k v g (k0_pay24 q k) (k0_pay25 q k) = k0_pay11 k (k0_pay10 q k v g) := rfl
theorem k1 : k0_pay18 (F := Ideal) q (k0_pay13 q k) (k0_pay15 v g) acc = k0_pay12 q (k0_pay10 q k v g) acc := rfl
theorem k2 : k0_pay23 (F := Ideal) q v g (k0_pay19 q k) acc = k0_pay12 q (k0_pay10 q k v g) acc := rfl
theorem k3 : k0_pay5 (F := Ideal) q v g (k0_pay24 q k) (k0_pay25 q k) acc = k0_pay12 q (k0_pay10 q k v g) acc := rfl
theorem v1 : k0_pay14 (F := Ideal) q k g acc = k0_pay9 q k g acc := rfl
theorem v2 : k0_pay20 (F := Ideal) g (k0_pay19 q k) acc = k0_pay9 q k g acc := rfl
theorem v3 : k0_pay2 (F := Ideal) g (k0_pay24 q k) (k0_pay25 q k) acc = k0_pay9 q k g acc := rfl
end Names

/-! ### One block -/

section Block
variable {n : ℕ}

/-- Row `r`'s scores in head `h`. -/
abbrev score (Q : (⟨2, ![n, 1024]⟩ : Shape).Idx → EReal) (K : S256x1024.Idx → EReal) (h : Fin 4) (r : Fin n) (j : Fin 256) : EReal :=
  (∑ d : Fin 256, Q (ix2 r (col h d)) * K (ix2 j (col h d))) * c16
/-- The gradient of row `r`'s softmax in head `h`. -/
abbrev gprob (V : S256x1024.Idx → EReal) (G : (⟨2, ![n, 1024]⟩ : Shape).Idx → EReal) (h : Fin 4) (r : Fin n) (j : Fin 256) : EReal :=
  ∑ d : Fin 256, G (ix2 r (col h d)) * V (ix2 j (col h d))
/-- The gradient of row `r`'s scores in head `h`. -/
abbrev ds (Q : (⟨2, ![n, 1024]⟩ : Shape).Idx → EReal) (K V : S256x1024.Idx → EReal) (G : (⟨2, ![n, 1024]⟩ : Shape).Idx → EReal)
    (h : Fin 4) (r : Fin n) (j : Fin 256) : EReal := dscore (score Q K h r) (gprob V G h r) c16 j
end Block

variable (x0 : Vec Ideal S512x1024 .bf16) (x1 x2 : Vec Ideal S256x1024 .bf16) (x3 : Vec Ideal S512x1024 .bf16)

/-- A head's columns of a block of rows. -/
abbrev hd5 (x : Vec Ideal S512x1024 .bf16) (o : ℕ) (inb : ∀ a, (![0, o] : Fin 2 → ℕ) a + (![512, 256] : Fin 2 → ℕ) a ≤ S512x1024.size a) : Vec Ideal S512x256 .bf16 := View.ld x (Rect.unit (s := S512x1024) ![0, o] ![512, 256] inb)
/-- A head's columns of the keys or of the values. -/
abbrev hd2 (x : Vec Ideal S256x1024 .bf16) (o : ℕ) (inb : ∀ a, (![0, o] : Fin 2 → ℕ) a + (![256, 256] : Fin 2 → ℕ) a ≤ S256x1024.size a) : Vec Ideal S256x256 .bf16 := View.ld x (Rect.unit (s := S256x1024) ![0, o] ![256, 256] inb)

theorem srow_hd (o : ℕ) (i j) (h : Fin 4) (ho : o = 256 * h.val) (r : Fin 512) : srow (hd5 x0 o i) (hd2 x1 o j) r = score x0 x1 h r := by
  funext l
  refine congrArg (· * c16) (Finset.sum_congr rfl fun d _ => ?_)
  exact congrArg₂ (· * ·) (ld_band x0 o i r d (col h d) (by rw [ho]; rfl)) (ld_band x1 o j l d (col h d) (by rw [ho]; rfl))

theorem grow_hd (o : ℕ) (i j) (h : Fin 4) (ho : o = 256 * h.val) (r : Fin 512) : grow (hd2 x2 o j) (hd5 x3 o i) r = gprob x2 x3 h r := by
  funext l
  refine Finset.sum_congr rfl fun d _ => ?_
  exact congrArg₂ (· * ·) (ld_band x3 o i r d (col h d) (by rw [ho]; rfl)) (ld_band x2 o j l d (col h d) (by rw [ho]; rfl))

/-- The queries' gradient, in a head's band. -/
theorem band4 (o : ℕ) (i j) (h : Fin 4) (ho : o = 256 * h.val) (r : Fin 512) (d : Fin 256) :
    k0_pay11 (F := Ideal) (hd2 x1 o j) (k0_pay10 (hd5 x0 o i) (hd2 x1 o j) (hd2 x2 o j) (hd5 x3 o i)) (ix2 r d)
      = ∑ l : Fin 256, ds x0 x1 x2 x3 h r l * x1 (ix2 l (col h d)) := by
  rw [pay11_apply]
  refine Finset.sum_congr rfl fun l _ => ?_
  rw [pay10_apply, srow_hd x0 x1 o i j h ho, grow_hd x2 x3 o i j h ho]
  exact congrArg _ (ld_band x1 o j l d (col h d) (by rw [ho]; rfl))

/-- The keys' gradient, in a head's band. -/
theorem band5 (o : ℕ) (i j) (h : Fin 4) (ho : o = 256 * h.val) (acc : Vec Ideal S256x256 .f32) (l d : Fin 256) :
    k0_pay12 (F := Ideal) (hd5 x0 o i) (k0_pay10 (hd5 x0 o i) (hd2 x1 o j) (hd2 x2 o j) (hd5 x3 o i)) acc (ix2 l d)
      = acc (ix2 l d) + ∑ r : Fin 512, ds x0 x1 x2 x3 h r l * x0 (ix2 r (col h d)) := by
  rw [pay12_apply]
  refine congrArg (acc (ix2 l d) + ·) (Finset.sum_congr rfl fun r _ => ?_)
  rw [pay10_apply, srow_hd x0 x1 o i j h ho, grow_hd x2 x3 o i j h ho]
  exact congrArg _ (ld_band x0 o i r d (col h d) (by rw [ho]; rfl))

/-- The values' gradient, in a head's band. -/
theorem band6 (o : ℕ) (i j) (h : Fin 4) (ho : o = 256 * h.val) (acc : Vec Ideal S256x256 .f32) (l d : Fin 256) :
    k0_pay9 (F := Ideal) (hd5 x0 o i) (hd2 x1 o j) (hd5 x3 o i) acc (ix2 l d)
      = acc (ix2 l d) + ∑ r : Fin 512, prob (score x0 x1 h r) l * x3 (ix2 r (col h d)) := by
  rw [pay9_apply]
  refine congrArg (acc (ix2 l d) + ·) (Finset.sum_congr rfl fun r _ => ?_)
  rw [srow_hd x0 x1 o i j h ho]
  exact congrArg _ (ld_band x3 o i r d (col h d) (by rw [ho]; rfl))

/-! ### The blocks after a point -/

section Points
variable (c : Dev nD) (i : grid0.Coords) (a1 : Memref sig .tc .vmem S512x1024 .bf16) (h1 : a1.IsWhole) (a2 : Memref sig .tc .vmem S256x1024 .bf16) (h2 : a2.IsWhole) (a3 : Memref sig .tc .vmem S256x1024 .bf16) (h3 : a3.IsWhole) (a4 : Memref sig .tc .vmem S512x1024 .bf16) (h4 : a4.IsWhole) (a5 : Memref sig .tc .vmem S512x1024 .bf16) (h5 : a5.IsWhole) (a6 : Memref sig .tc .vmem S256x1024 .f32) (h6 : a6.IsWhole) (a7 : Memref sig .tc .vmem S256x1024 .f32) (h7 : a7.IsWhole)
  (y5 y6 : Vec Ideal S256x1024 .f32)

/-- The zero block. -/
theorem pay6_apply (y) : k0_pay6 (F := Ideal) y = 0 := by
  unfold k0_pay6; exact Ideal.ofBits_zero_f32
theorem pay7_apply (y) : k0_pay7 (F := Ideal) y = 0 := by
  unfold k0_pay7; exact Ideal.ofBits_zero_f32

theorem hz : (![0, 0] : Fin 2 → Nat) = fun _ => 0 := funext fun a => by fin_cases a <;> rfl

theorem out_B_4 (hc : ¬cond0_0 i) (h : Fin 4) (r : Fin 512) (d : Fin 256) :
    out0_B_4 c i a1 h1 a2 h2 a3 h3 a4 h4 a5 h5 a6 h6 a7 h7 hc x0 x1 x2 x3 y5 y6 (ix2 r (col h d))
      = ∑ l : Fin 256, ds x0 x1 x2 x3 h r l * x1 (ix2 l (col h d)) := by
  unfold out0_B_4
  rw [View.read_writes_eq_canon _ _ _ (cover0_B_4 c i a1 h1 a2 h2 a3 h3 a4 h4 a5 h5 a6 h6 a7 h7 hc x0 x1 x2 x3 y5 y6)]
  unfold kernelRun0_B
  dsimp only
  sl_unfold_words
  simp only [View.readAt_eq_ld, h1.read_unread, h2.read_unread, h3.read_unread, h4.read_unread, q1, q2, q3]
  refine (canon_four _ _ _ _ _ _ _ _ _ h r d).trans ?_
  match h with
  | 0 => exact band4 x0 x1 x2 x3 0 _ _ 0 rfl r d
  | 1 => exact band4 x0 x1 x2 x3 256 _ _ 1 rfl r d
  | 2 => exact band4 x0 x1 x2 x3 512 _ _ 2 rfl r d
  | 3 => exact band4 x0 x1 x2 x3 768 _ _ 3 rfl r d

theorem out_A_4 (hc : cond0_0 i) (h : Fin 4) (r : Fin 512) (d : Fin 256) :
    out0_A_4 c i a1 h1 a2 h2 a3 h3 a4 h4 a5 h5 a6 h6 a7 h7 hc x0 x1 x2 x3 (ix2 r (col h d))
      = ∑ l : Fin 256, ds x0 x1 x2 x3 h r l * x1 (ix2 l (col h d)) := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  simp only [View.readAt_eq_ld, h1.read_unread, h2.read_unread, h3.read_unread, h4.read_unread, q1, q2, q3]
  refine (canon_four _ _ _ _ _ _ _ _ _ h r d).trans ?_
  match h with
  | 0 => exact band4 x0 x1 x2 x3 0 _ _ 0 rfl r d
  | 1 => exact band4 x0 x1 x2 x3 256 _ _ 1 rfl r d
  | 2 => exact band4 x0 x1 x2 x3 512 _ _ 2 rfl r d
  | 3 => exact band4 x0 x1 x2 x3 768 _ _ 3 rfl r d

theorem out_B_5 (hc : ¬cond0_0 i) (h : Fin 4) (l d : Fin 256) :
    out0_B_5 c i a1 h1 a2 h2 a3 h3 a4 h4 a5 h5 a6 h6 a7 h7 hc x0 x1 x2 x3 y5 y6 (ix2 l (col h d))
      = y5 (ix2 l (col h d)) + ∑ r : Fin 512, ds x0 x1 x2 x3 h r l * x0 (ix2 r (col h d)) := by
  unfold out0_B_5
  rw [View.read_writes_eq_canon _ _ _ (cover0_B_5 c i a1 h1 a2 h2 a3 h3 a4 h4 a5 h5 a6 h6 a7 h7 hc x0 x1 x2 x3 y5 y6)]
  unfold kernelRun0_B
  dsimp only
  sl_unfold_words
  simp only [View.readAt_eq_ld, h1.read_unread, h2.read_unread, h3.read_unread, h4.read_unread, h6.read_unread, k1, k2, k3]
  refine (canon_four _ _ _ _ _ _ _ _ _ h l d).trans ?_
  match h with
  | 0 => exact (band5 x0 x1 x2 x3 0 _ _ 0 rfl _ l d).trans (congrArg (· + _) (ld_band y5 0 _ l d _ rfl))
  | 1 => exact (band5 x0 x1 x2 x3 256 _ _ 1 rfl _ l d).trans (congrArg (· + _) (ld_band y5 256 _ l d _ rfl))
  | 2 => exact (band5 x0 x1 x2 x3 512 _ _ 2 rfl _ l d).trans (congrArg (· + _) (ld_band y5 512 _ l d _ rfl))
  | 3 => exact (band5 x0 x1 x2 x3 768 _ _ 3 rfl _ l d).trans (congrArg (· + _) (ld_band y5 768 _ l d _ rfl))

theorem out_B_6 (hc : ¬cond0_0 i) (h : Fin 4) (l d : Fin 256) :
    out0_B_6 c i a1 h1 a2 h2 a3 h3 a4 h4 a5 h5 a6 h6 a7 h7 hc x0 x1 x2 x3 y5 y6 (ix2 l (col h d))
      = y6 (ix2 l (col h d)) + ∑ r : Fin 512, prob (score x0 x1 h r) l * x3 (ix2 r (col h d)) := by
  unfold out0_B_6
  rw [View.read_writes_eq_canon _ _ _ (cover0_B_6 c i a1 h1 a2 h2 a3 h3 a4 h4 a5 h5 a6 h6 a7 h7 hc x0 x1 x2 x3 y5 y6)]
  unfold kernelRun0_B
  dsimp only
  sl_unfold_words
  simp only [View.readAt_eq_ld, h1.read_unread, h2.read_unread, h3.read_unread, h4.read_unread, h7.read_unread, v1, v2, v3]
  refine (canon_four _ _ _ _ _ _ _ _ _ h l d).trans ?_
  match h with
  | 0 => exact (band6 x0 x1 x3 0 _ _ 0 rfl _ l d).trans (congrArg (· + _) (ld_band y6 0 _ l d _ rfl))
  | 1 => exact (band6 x0 x1 x3 256 _ _ 1 rfl _ l d).trans (congrArg (· + _) (ld_band y6 256 _ l d _ rfl))
  | 2 => exact (band6 x0 x1 x3 512 _ _ 2 rfl _ l d).trans (congrArg (· + _) (ld_band y6 512 _ l d _ rfl))
  | 3 => exact (band6 x0 x1 x3 768 _ _ 3 rfl _ l d).trans (congrArg (· + _) (ld_band y6 768 _ l d _ rfl))

/-- A band read back where only the zero block was stored under it. -/
theorem readCov_band (v : View sig .tc .vmem S256x1024 .f32) (L : List (View.Piece (Elt Ideal) S256x1024 .f32)) (o : ℕ) (inb) (l d : Fin 256) (cc : Fin 1024)
    (hc : cc.val = o + d.val) (hL : View.canon L (ix2 l cc) = (0 : EReal)) :
    v.readCov L (Rect.unit (s := S256x1024) ![0, o] ![256, 256] inb).toLoadRect (ix2 l d) = (0 : EReal) := by
  rw [View.readCov_eq_canon']
  exact (ld_band (View.canon L) o inb l d cc hc).trans hL

theorem out_A_5 (hc : cond0_0 i) (h : Fin 4) (l d : Fin 256) :
    out0_A_5 c i a1 h1 a2 h2 a3 h3 a4 h4 a5 h5 a6 h6 a7 h7 hc x0 x1 x2 x3 (ix2 l (col h d))
      = 0 + ∑ r : Fin 512, ds x0 x1 x2 x3 h r l * x0 (ix2 r (col h d)) := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  simp only [View.readAt_eq_ld, h1.read_unread, h2.read_unread, h3.read_unread, h4.read_unread, k1, k2, k3]
  refine (canon_four _ _ _ _ _ _ _ _ _ h l d).trans ?_
  have hf : ∀ cc, View.canon [(⟨Rect.unit ![0, 0] ![256, 1024] inb_S256x1024_S256x1024_0_0, k0_pay6 (F := Ideal)⟩ : View.Piece (Elt Ideal) S256x1024 .f32)] (ix2 l cc) = (0 : EReal) := fun cc => by
    rw [View.canon_unit_zero (S := S256x1024) hz]; exact pay6_apply _
  match h with
  | 0 => exact (band5 x0 x1 x2 x3 0 _ _ 0 rfl _ l d).trans (congrArg (· + _) (readCov_band _ _ 0 _ l d (col 0 d) rfl (hf _)))
  | 1 => exact (band5 x0 x1 x2 x3 256 _ _ 1 rfl _ l d).trans (congrArg (· + _) (readCov_band _ _ 256 _ l d (col 1 d) rfl
      ((canon_skip 0 _ _ _ _ _ (by simp only [col]; omega)).trans (hf _))))
  | 2 => exact (band5 x0 x1 x2 x3 512 _ _ 2 rfl _ l d).trans (congrArg (· + _) (readCov_band _ _ 512 _ l d (col 2 d) rfl
      ((canon_skip 256 _ _ _ _ _ (by simp only [col]; omega)).trans ((canon_skip 0 _ _ _ _ _ (by simp only [col]; omega)).trans (hf _)))))
  | 3 => exact (band5 x0 x1 x2 x3 768 _ _ 3 rfl _ l d).trans (congrArg (· + _) (readCov_band _ _ 768 _ l d (col 3 d) rfl
      ((canon_skip 512 _ _ _ _ _ (by simp only [col]; omega)).trans ((canon_skip 256 _ _ _ _ _ (by simp only [col]; omega)).trans ((canon_skip 0 _ _ _ _ _ (by simp only [col]; omega)).trans (hf _))))))

theorem out_A_6 (hc : cond0_0 i) (h : Fin 4) (l d : Fin 256) :
    out0_A_6 c i a1 h1 a2 h2 a3 h3 a4 h4 a5 h5 a6 h6 a7 h7 hc x0 x1 x2 x3 (ix2 l (col h d))
      = 0 + ∑ r : Fin 512, prob (score x0 x1 h r) l * x3 (ix2 r (col h d)) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  simp only [View.readAt_eq_ld, h1.read_unread, h2.read_unread, h3.read_unread, h4.read_unread, v1, v2, v3]
  refine (canon_four _ _ _ _ _ _ _ _ _ h l d).trans ?_
  have hf : ∀ cc, View.canon [(⟨Rect.unit ![0, 0] ![256, 1024] inb_S256x1024_S256x1024_0_0, k0_pay7 (F := Ideal)⟩ : View.Piece (Elt Ideal) S256x1024 .f32)] (ix2 l cc) = (0 : EReal) := fun cc => by
    rw [View.canon_unit_zero (S := S256x1024) hz]; exact pay7_apply _
  match h with
  | 0 => exact (band6 x0 x1 x3 0 _ _ 0 rfl _ l d).trans (congrArg (· + _) (readCov_band _ _ 0 _ l d (col 0 d) rfl (hf _)))
  | 1 => exact (band6 x0 x1 x3 256 _ _ 1 rfl _ l d).trans (congrArg (· + _) (readCov_band _ _ 256 _ l d (col 1 d) rfl
      ((canon_skip 0 _ _ _ _ _ (by simp only [col]; omega)).trans (hf _))))
  | 2 => exact (band6 x0 x1 x3 512 _ _ 2 rfl _ l d).trans (congrArg (· + _) (readCov_band _ _ 512 _ l d (col 2 d) rfl
      ((canon_skip 256 _ _ _ _ _ (by simp only [col]; omega)).trans ((canon_skip 0 _ _ _ _ _ (by simp only [col]; omega)).trans (hf _)))))
  | 3 => exact (band6 x0 x1 x3 768 _ _ 3 rfl _ l d).trans (congrArg (· + _) (readCov_band _ _ 768 _ l d (col 3 d) rfl
      ((canon_skip 512 _ _ _ _ _ (by simp only [col]; omega)).trans ((canon_skip 256 _ _ _ _ _ (by simp only [col]; omega)).trans ((canon_skip 0 _ _ _ _ _ (by simp only [col]; omega)).trans (hf _))))))

end Points

end Cert.AttnIdeal.RefValue

end
-- ==== Proof.Upto.lean ====
/-
  A sum over many rows taken some rows at a time.
-/
module

public import proofs.«01_k».proof.Proof.Soft

@[expose] public section

noncomputable section

namespace Cert.Rows

open scoped BigOperators

/-- The sum of the first `n` terms. -/
def upto {N : ℕ} (f : Fin N → EReal) (n : ℕ) : EReal := ∑ i ∈ Finset.range n, if h : i < N then f ⟨i, h⟩ else 0

/-- Of no terms it is zero. -/
theorem upto_zero {N : ℕ} (f : Fin N → EReal) : upto f 0 = 0 := by
  simp [upto]

/-- Of all terms it is their sum. -/
theorem upto_all {N : ℕ} (f : Fin N → EReal) : upto f N = ∑ i, f i := by
  unfold upto
  rw [Finset.sum_range]
  exact Finset.sum_congr rfl fun i _ => dif_pos i.isLt

/-- `b` more terms. -/
theorem upto_add {N : ℕ} (f : Fin N → EReal) (n b : ℕ) (h : n + b ≤ N) :
    upto f (n + b) = upto f n + ∑ r : Fin b, f ⟨n + r.val, by omega⟩ := by
  unfold upto
  rw [Finset.sum_range_add, Finset.sum_range (n := b)]
  exact congrArg _ (Finset.sum_congr rfl fun r _ => dif_pos (by omega))

end Cert.Rows

end
-- ==== Proof.AttnArr.lean ====
/-
  The three results of the attention's gradient after the run, element by element, as functions of the four operands.
-/
module

public import proofs.«01_k».proof.Proof.At
public import proofs.«01_k».proof.Proof.AttnOut
public import proofs.«01_k».proof.Proof.Upto

@[expose] public section

set_option maxRecDepth 16384

noncomputable section

namespace Cert.AttnIdeal.RefValue

open Cert.At (entry2 same2 entry3 whole block)
open Cert.AttnIdeal Cert.AttnIdeal.Gen Cert.Rows Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg) (c : Dev nD)

/-- The queries, the keys, the values and the gradient of the attention's result. -/
abbrev argQ : S8192x1024.Idx → EReal := m ((c : Thread nD τ).loc main_arg0)
abbrev argK : S256x1024.Idx → EReal := m ((c : Thread nD τ).loc main_arg1)
abbrev argV : S256x1024.Idx → EReal := m ((c : Thread nD τ).loc main_arg2)
abbrev argG : S8192x1024.Idx → EReal := m ((c : Thread nD τ).loc main_arg3)

theorem lt16 (t : Fin cfg0.N) : t.val < 16 := by have hN : cfg0.N = 16 := N_0; have := t.isLt; omega

/-- Row `r` of point `t`'s block. -/
def row (t : Fin cfg0.N) (r : Fin 512) : Fin 8192 := ⟨512 * t.val + r.val, by have := lt16 t; omega⟩

theorem index_rows : ∀ t : Fin cfg0.N, (win0_0.index t 0 = t.val ∧ win0_0.index t 1 = 0) ∧ (win0_3.index t 0 = t.val ∧ win0_3.index t 1 = 0) ∧ (win0_4.index t 0 = t.val ∧ win0_4.index t 1 = 0) :=
  (by decide +kernel : ∀ t : Fin grid0.N, (win0_0.index t 0 = t.val ∧ win0_0.index t 1 = 0) ∧ (win0_3.index t 0 = t.val ∧ win0_3.index t 1 = 0) ∧ (win0_4.index t 0 = t.val ∧ win0_4.index t 1 = 0))

theorem index_whole : ∀ t : Fin cfg0.N, (win0_1.index t 0 = 0 ∧ win0_1.index t 1 = 0) ∧ (win0_2.index t 0 = 0 ∧ win0_2.index t 1 = 0) ∧ (win0_5.index t 0 = 0 ∧ win0_5.index t 1 = 0) ∧ (win0_6.index t 0 = 0 ∧ win0_6.index t 1 = 0) :=
  (by decide +kernel : ∀ t : Fin grid0.N, (win0_1.index t 0 = 0 ∧ win0_1.index t 1 = 0) ∧ (win0_2.index t 0 = 0 ∧ win0_2.index t 1 = 0) ∧ (win0_5.index t 0 = 0 ∧ win0_5.index t 1 = 0) ∧ (win0_6.index t 0 = 0 ∧ win0_6.index t 1 = 0))

/-! ### The blocks of the operands -/

theorem blk0 (t : Fin cfg0.N) (r : Fin 512) (d : Fin 1024) : (iblk m c 0 t : Vec Ideal S512x1024 .bf16) (ix2 r d) = argQ m c (ix2 (row t r) d) :=
  entry2 (argQ m c) _ (block (index_rows t).1.1 512 r.val) (whole (index_rows t).1.2 1024 d.val)

theorem blk3 (t : Fin cfg0.N) (r : Fin 512) (d : Fin 1024) : (iblk m c 3 t : Vec Ideal S512x1024 .bf16) (ix2 r d) = argG m c (ix2 (row t r) d) :=
  entry2 (argG m c) _ (block (index_rows t).2.1.1 512 r.val) (whole (index_rows t).2.1.2 1024 d.val)

theorem blk1 (t : Fin cfg0.N) : (iblk m c 1 t : Vec Ideal S256x1024 .bf16) = argK m c :=
  funext fun j => same2 (argK m c) _ j (whole (index_whole t).1.1 256 (j 0).val) (whole (index_whole t).1.2 1024 (j 1).val)

theorem blk2 (t : Fin cfg0.N) : (iblk m c 2 t : Vec Ideal S256x1024 .bf16) = argV m c :=
  funext fun j => same2 (argV m c) _ j (whole (index_whole t).2.1.1 256 (j 0).val) (whole (index_whole t).2.1.2 1024 (j 1).val)

theorem score_blk (t : Fin cfg0.N) (h : Fin 4) (r : Fin 512) :
    score (iblk m c 0 t : Vec Ideal S512x1024 .bf16) (iblk m c 1 t : Vec Ideal S256x1024 .bf16) h r = score (argQ m c) (argK m c) h (row t r) := by
  funext j
  rw [blk1]
  exact congrArg (· * c16) (Finset.sum_congr rfl fun d _ => congrArg (· * _) (blk0 m c t r _))

theorem gprob_blk (t : Fin cfg0.N) (h : Fin 4) (r : Fin 512) :
    gprob (iblk m c 2 t : Vec Ideal S256x1024 .bf16) (iblk m c 3 t : Vec Ideal S512x1024 .bf16) h r = gprob (argV m c) (argG m c) h (row t r) := by
  funext j
  rw [blk2]
  exact Finset.sum_congr rfl fun d _ => congrArg (· * _) (blk3 m c t r _)

theorem ds_blk (t : Fin cfg0.N) (h : Fin 4) (r : Fin 512) (l : Fin 256) :
    ds (iblk m c 0 t : Vec Ideal S512x1024 .bf16) (iblk m c 1 t : Vec Ideal S256x1024 .bf16) (iblk m c 2 t : Vec Ideal S256x1024 .bf16) (iblk m c 3 t : Vec Ideal S512x1024 .bf16) h r l
      = ds (argQ m c) (argK m c) (argV m c) (argG m c) h (row t r) l := by
  unfold ds
  rw [score_blk, gprob_blk]

/-! ### After each point -/

/-- Row `p`'s term of the keys' gradient. -/
abbrev term5 (h : Fin 4) (l d : Fin 256) (p : Fin 8192) : EReal :=
  ds (argQ m c) (argK m c) (argV m c) (argG m c) h p l * argQ m c (ix2 p (col h d))
/-- Row `p`'s term of the values' gradient. -/
abbrev term6 (h : Fin 4) (l d : Fin 256) (p : Fin 8192) : EReal :=
  prob (score (argQ m c) (argK m c) h p) l * argG m c (ix2 p (col h d))

theorem add5 (t : Fin cfg0.N) (h : Fin 4) (l d : Fin 256) :
    ∑ r : Fin 512, ds (iblk m c 0 t : Vec Ideal S512x1024 .bf16) (iblk m c 1 t : Vec Ideal S256x1024 .bf16) (iblk m c 2 t : Vec Ideal S256x1024 .bf16) (iblk m c 3 t : Vec Ideal S512x1024 .bf16) h r l
        * (iblk m c 0 t : Vec Ideal S512x1024 .bf16) (ix2 r (col h d))
      = ∑ r : Fin 512, term5 m c h l d (row t r) :=
  Finset.sum_congr rfl fun r _ => congrArg₂ (· * ·) (ds_blk m c t h r l) (blk0 m c t r _)

theorem add6 (t : Fin cfg0.N) (h : Fin 4) (l d : Fin 256) :
    ∑ r : Fin 512, prob (score (iblk m c 0 t : Vec Ideal S512x1024 .bf16) (iblk m c 1 t : Vec Ideal S256x1024 .bf16) h r) l
        * (iblk m c 3 t : Vec Ideal S512x1024 .bf16) (ix2 r (col h d))
      = ∑ r : Fin 512, term6 m c h l d (row t r) :=
  Finset.sum_congr rfl fun r _ => congrArg₂ (· * ·) (congrArg (fun s => prob s l) (score_blk m c t h r)) (blk3 m c t r _)

/-- The queries' block after point `t`. -/
theorem outs4 (t : Fin cfg0.N) (h : Fin 4) (r : Fin 512) (d : Fin 256) :
    (outsAt0 m c t.val t.isLt).1 (ix2 r (col h d)) = ∑ l : Fin 256, ds (argQ m c) (argK m c) (argV m c) (argG m c) h (row t r) l * argK m c (ix2 l (col h d)) := by
  have hs : ∑ l : Fin 256, ds (iblk m c 0 t : Vec Ideal S512x1024 .bf16) (iblk m c 1 t : Vec Ideal S256x1024 .bf16) (iblk m c 2 t : Vec Ideal S256x1024 .bf16) (iblk m c 3 t : Vec Ideal S512x1024 .bf16) h r l
        * (iblk m c 1 t : Vec Ideal S256x1024 .bf16) (ix2 l (col h d))
      = ∑ l : Fin 256, ds (argQ m c) (argK m c) (argV m c) (argG m c) h (row t r) l * argK m c (ix2 l (col h d)) :=
    Finset.sum_congr rfl fun l _ => congrArg₂ (· * ·) (ds_blk m c t h r l) (congrFun (blk1 m c t) _)
  by_cases h0 : t.val % 16 = 0
  · have e := congrFun (congrArg Prod.fst (outsAt0_A m c t h0)) (ix2 r (col h d))
    dsimp only at e
    exact e.trans ((out_A_4 (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) h r d).trans hs)
  · have e := congrFun (congrArg Prod.fst (outsAt0_B m c t h0)) (ix2 r (col h d))
    dsimp only at e
    exact e.trans ((out_B_4 (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) h r d).trans hs)

/-- The first point leaves its own rows' part of the keys' gradient. -/
theorem first5 (t : Fin cfg0.N) (h0 : t.val % 16 = 0) (h : Fin 4) (l d : Fin 256) :
    (outsAt0 m c t.val t.isLt).2.1 (ix2 l (col h d)) = 0 + ∑ r : Fin 512, term5 m c h l d (row t r) := by
  have e := congrFun (congrArg (fun x => x.2.1) (outsAt0_A m c t h0)) (ix2 l (col h d))
  dsimp only at e
  exact e.trans ((out_A_5 (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) h l d).trans (congrArg (0 + ·) (add5 m c t h l d)))

/-- Each later point adds its rows' part. -/
theorem next5 (t : Fin cfg0.N) (h0 : ¬t.val % 16 = 0) (h : Fin 4) (l d : Fin 256) :
    (outsAt0 m c t.val t.isLt).2.1 (ix2 l (col h d)) = (outsAt0 m c (t.val - 1) (Nat.lt_of_le_of_lt (Nat.sub_le _ _) t.isLt)).2.1 (ix2 l (col h d)) + ∑ r : Fin 512, term5 m c h l d (row t r) := by
  have e := congrFun (congrArg (fun x => x.2.1) (outsAt0_B m c t h0)) (ix2 l (col h d))
  dsimp only at e
  exact e.trans ((out_B_5 (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) h l d).trans (congrArg (_ + ·) (add5 m c t h l d)))

/-- The keys' gradient after point `n` is the sum over the rows so far. -/
theorem outs5 (h : Fin 4) (l d : Fin 256) : ∀ (n : ℕ) (hn : n < cfg0.N), (outsAt0 m c n hn).2.1 (ix2 l (col h d)) = upto (term5 m c h l d) (512 * n + 512)
  | 0, hn => by
    refine (first5 m c ⟨0, hn⟩ rfl h l d).trans ?_
    rw [upto_add (term5 m c h l d) (512 * 0) 512 (by omega), show upto (term5 m c h l d) (512 * 0) = 0 from upto_zero _]
    rfl
  | n + 1, hn => by
    have hN : cfg0.N = 16 := N_0
    refine (next5 m c ⟨n + 1, hn⟩ (by dsimp only; omega) h l d).trans ?_
    rw [upto_add (term5 m c h l d) (512 * (n + 1)) 512 (by omega)]
    exact congrArg (· + _) (outs5 h l d n (Nat.lt_of_succ_lt hn))

/-- The first point leaves its own rows' part of the values' gradient. -/
theorem first6 (t : Fin cfg0.N) (h0 : t.val % 16 = 0) (h : Fin 4) (l d : Fin 256) :
    (outsAt0 m c t.val t.isLt).2.2 (ix2 l (col h d)) = 0 + ∑ r : Fin 512, term6 m c h l d (row t r) := by
  have e := congrFun (congrArg (fun x => x.2.2) (outsAt0_A m c t h0)) (ix2 l (col h d))
  dsimp only at e
  exact e.trans ((out_A_6 (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) h l d).trans (congrArg (0 + ·) (add6 m c t h l d)))

/-- Each later point adds its rows' part. -/
theorem next6 (t : Fin cfg0.N) (h0 : ¬t.val % 16 = 0) (h : Fin 4) (l d : Fin 256) :
    (outsAt0 m c t.val t.isLt).2.2 (ix2 l (col h d)) = (outsAt0 m c (t.val - 1) (Nat.lt_of_le_of_lt (Nat.sub_le _ _) t.isLt)).2.2 (ix2 l (col h d)) + ∑ r : Fin 512, term6 m c h l d (row t r) := by
  have e := congrFun (congrArg (fun x => x.2.2) (outsAt0_B m c t h0)) (ix2 l (col h d))
  dsimp only at e
  exact e.trans ((out_B_6 (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) h l d).trans (congrArg (_ + ·) (add6 m c t h l d)))

/-- The values' gradient after point `n`. -/
theorem outs6 (h : Fin 4) (l d : Fin 256) : ∀ (n : ℕ) (hn : n < cfg0.N), (outsAt0 m c n hn).2.2 (ix2 l (col h d)) = upto (term6 m c h l d) (512 * n + 512)
  | 0, hn => by
    refine (first6 m c ⟨0, hn⟩ rfl h l d).trans ?_
    rw [upto_add (term6 m c h l d) (512 * 0) 512 (by omega), show upto (term6 m c h l d) (512 * 0) = 0 from upto_zero _]
    rfl
  | n + 1, hn => by
    have hN : cfg0.N = 16 := N_0
    refine (next6 m c ⟨n + 1, hn⟩ (by dsimp only; omega) h l d).trans ?_
    rw [upto_add (term6 m c h l d) (512 * (n + 1)) 512 (by omega)]
    exact congrArg (· + _) (outs6 h l d n (Nat.lt_of_succ_lt hn))

/-! ### The arrays after the run -/

theorem last : 15 < cfg0.N := by rw [show cfg0.N = 16 from N_0]; decide

/-- The queries' gradient. -/
theorem arr4 (p : Fin 8192) (h : Fin 4) (d : Fin 256) :
    (dats m 0 c).arrAt 4 cfg0.N (ix2 p (col h d)) = ∑ l : Fin 256, ds (argQ m c) (argK m c) (argV m c) (argG m c) h p l * argK m c (ix2 l (col h d)) := by
  have hN : cfg0.N = 16 := N_0
  let t : Fin cfg0.N := ⟨p.val / 512, by omega⟩
  let r : Fin 512 := ⟨p.val % 512, Nat.mod_lt _ (by decide)⟩
  have hp : row t r = p := Fin.ext (Nat.div_add_mod p.val 512)
  have hb := congrFun (Value.blocks4 m c t (flush0_4 t)) (ix2 r (col h d))
  rw [View.read_apply] at hb
  have hi : ((cfg0.win 4).blk t).view.emb (ix2 r (col h d)) = (ix2 p (col h d) : S8192x1024.Idx) :=
    entry2 id _ (block (index_rows t).2.2.1 512 r.val |>.trans (congrArg Fin.val hp)) (whole (index_rows t).2.2.2 1024 (col h d).val)
  rw [hi] at hb
  refine hb.trans ?_
  rw [Value.flushed4]
  exact (outs4 m c t h r d).trans (by rw [hp])

theorem flushed5_eq (t : Fin cfg0.N) (hf : (cfg0.win 5).flush t = true) :
    (dats m 0 c).flushed 5 t = ((cfg0.win 5).blk t).view.read (Elt Ideal) ((outsAt0 m c 15 last).2.1 : Buf (Elt Ideal) ((c : Thread nD τ).loc main_v0_1)) := by
  have ht : t.val = 15 := by have := (flush0_5 t).mp hf; have := lt16 t; omega
  obtain rfl : t = ⟨15, last⟩ := Fin.ext ht
  rw [Value.flushed5]
  have hz' : (fun a => win0_5.index (⟨15, last⟩ : Fin cfg0.N) a * main_v0_1.ty.shape.size a) = fun _ => 0 := funext fun a => by fin_cases a <;> decide +kernel
  exact (Memref.read_access_unit_zero (Elt Ideal) main_v0_1 hz' (fun a => by rw [congrFun hz' a]; simp) ((outsAt0 m c 15 last).2.1 : Buf (Elt Ideal) ((c : Thread nD τ).loc main_v0_1))).symm

theorem final5 : (dats m 0 c).arrAt 5 cfg0.N = ((outsAt0 m c 15 last).2.1 : Buf (Elt Ideal) ((c : Thread nD τ).loc main_v0_1)) :=
  (dats m 0 c).arrAt_eq_of_cover 5 _ (flushed5_eq m c) fun i =>
    ⟨⟨15, last⟩, (flush0_5 _).mpr rfl, by
      show i ∈ ((View.whole main_v0_1).slice (win0_5.rect ⟨15, last⟩)).set
      rw [View.set_slice_whole, Rect.mem_set_unit]
      intro a
      have h0 : (i 0 : Nat) < 256 := (i 0).isLt
      have h1 : (i 1 : Nat) < 1024 := (i 1).isLt
      match a with
      | ⟨0, _⟩ => show win0_5.index ⟨15, last⟩ 0 * 256 ≤ (i 0 : Nat) ∧ (i 0 : Nat) < win0_5.index ⟨15, last⟩ 0 * 256 + 256
                  rw [(index_whole _).2.2.1.1]; omega
      | ⟨1, _⟩ => show win0_5.index ⟨15, last⟩ 1 * 1024 ≤ (i 1 : Nat) ∧ (i 1 : Nat) < win0_5.index ⟨15, last⟩ 1 * 1024 + 1024
                  rw [(index_whole _).2.2.1.2]; omega⟩

theorem flushed6_eq (t : Fin cfg0.N) (hf : (cfg0.win 6).flush t = true) :
    (dats m 0 c).flushed 6 t = ((cfg0.win 6).blk t).view.read (Elt Ideal) ((outsAt0 m c 15 last).2.2 : Buf (Elt Ideal) ((c : Thread nD τ).loc main_v0_2)) := by
  have ht : t.val = 15 := by have := (flush0_6 t).mp hf; have := lt16 t; omega
  obtain rfl : t = ⟨15, last⟩ := Fin.ext ht
  rw [Value.flushed6]
  have hz' : (fun a => win0_6.index (⟨15, last⟩ : Fin cfg0.N) a * main_v0_2.ty.shape.size a) = fun _ => 0 := funext fun a => by fin_cases a <;> decide +kernel
  exact (Memref.read_access_unit_zero (Elt Ideal) main_v0_2 hz' (fun a => by rw [congrFun hz' a]; simp) ((outsAt0 m c 15 last).2.2 : Buf (Elt Ideal) ((c : Thread nD τ).loc main_v0_2))).symm

theorem final6 : (dats m 0 c).arrAt 6 cfg0.N = ((outsAt0 m c 15 last).2.2 : Buf (Elt Ideal) ((c : Thread nD τ).loc main_v0_2)) :=
  (dats m 0 c).arrAt_eq_of_cover 6 _ (flushed6_eq m c) fun i =>
    ⟨⟨15, last⟩, (flush0_6 _).mpr rfl, by
      show i ∈ ((View.whole main_v0_2).slice (win0_6.rect ⟨15, last⟩)).set
      rw [View.set_slice_whole, Rect.mem_set_unit]
      intro a
      have h0 : (i 0 : Nat) < 256 := (i 0).isLt
      have h1 : (i 1 : Nat) < 1024 := (i 1).isLt
      match a with
      | ⟨0, _⟩ => show win0_6.index ⟨15, last⟩ 0 * 256 ≤ (i 0 : Nat) ∧ (i 0 : Nat) < win0_6.index ⟨15, last⟩ 0 * 256 + 256
                  rw [(index_whole _).2.2.2.1]; omega
      | ⟨1, _⟩ => show win0_6.index ⟨15, last⟩ 1 * 1024 ≤ (i 1 : Nat) ∧ (i 1 : Nat) < win0_6.index ⟨15, last⟩ 1 * 1024 + 1024
                  rw [(index_whole _).2.2.2.2]; omega⟩

/-- The keys' gradient. -/
theorem arr5 (h : Fin 4) (l d : Fin 256) : (dats m 0 c).arrAt 5 cfg0.N (ix2 l (col h d)) = ∑ p : Fin 8192, term5 m c h l d p := by
  rw [final5]
  exact (outs5 m c h l d 15 last).trans (upto_all _)

/-- The values' gradient. -/
theorem arr6 (h : Fin 4) (l d : Fin 256) : (dats m 0 c).arrAt 6 cfg0.N (ix2 l (col h d)) = ∑ p : Fin 8192, term6 m c h l d p := by
  rw [final6]
  exact (outs6 m c h l d 15 last).trans (upto_all _)

end Cert.AttnIdeal.RefValue

end
-- ==== Proof.AttnRef.lean ====
/-
  The reference's three results, element by element: the same functions of the operands as the kernel's.
-/
module

public import proofs.«01_k».proof.Proof.AttnOut
public import proofs.«01_k».proof.Proof.Gen.AttnRefIdeal.Read

@[expose] public section

set_option maxRecDepth 16384

noncomputable section

namespace Cert.AttnRefIdeal.RefValue

open Cert.AttnRefIdeal Cert.AttnRefIdeal.Gen Cert.AttnRefIdeal.Read Cert.Rows Idealize.ShloMosaic Idealize.ShloMosaic.TcCoe Idealize.SL.Sem Idealize.ShloMosaic.ValueIdx
open Cert.AttnIdeal.RefValue (score gprob ds c16)
open scoped BigOperators

variable (x0 : (⟨S8192x1024, .bf16⟩ : BufTy).Contents (Elt Ideal)) (x1 x2 : (⟨S256x1024, .bf16⟩ : BufTy).Contents (Elt Ideal))
  (x3 : (⟨S8192x1024, .bf16⟩ : BufTy).Contents (Elt Ideal))

/-! ### The heads of the operands -/

theorem ref4 (p : Fin 8192) (h : Fin 4) (d : Fin 256) : val_main_v4 (F := Ideal) x0 (ix3 p h d) = x0 (ix2 p (col h d)) := by
  rw [val_main_v4_apply, val_main_v0_apply]
  refine congrArg x0 (funext fun a => Fin.ext ?_)
  match a with
  | ⟨0, _⟩ => show ((p.val * 4 + h.val) * 256 + d.val) / 1024 = p.val; omega
  | ⟨1, _⟩ => show ((p.val * 4 + h.val) * 256 + d.val) % 1024 = 256 * h.val + d.val; omega

theorem ref5 (p : Fin 256) (h : Fin 4) (d : Fin 256) : val_main_v5 (F := Ideal) x1 (ix3 p h d) = x1 (ix2 p (col h d)) := by
  rw [val_main_v5_apply, val_main_v1_apply]
  refine congrArg x1 (funext fun a => Fin.ext ?_)
  match a with
  | ⟨0, _⟩ => show ((p.val * 4 + h.val) * 256 + d.val) / 1024 = p.val; omega
  | ⟨1, _⟩ => show ((p.val * 4 + h.val) * 256 + d.val) % 1024 = 256 * h.val + d.val; omega

theorem ref6 (p : Fin 256) (h : Fin 4) (d : Fin 256) : val_main_v6 (F := Ideal) x2 (ix3 p h d) = x2 (ix2 p (col h d)) := by
  rw [val_main_v6_apply, val_main_v2_apply]
  refine congrArg x2 (funext fun a => Fin.ext ?_)
  match a with
  | ⟨0, _⟩ => show ((p.val * 4 + h.val) * 256 + d.val) / 1024 = p.val; omega
  | ⟨1, _⟩ => show ((p.val * 4 + h.val) * 256 + d.val) % 1024 = 256 * h.val + d.val; omega

theorem ref42 (p : Fin 8192) (h : Fin 4) (d : Fin 256) : val_main_v42 (F := Ideal) x3 (ix3 h d p) = x3 (ix2 p (col h d)) := by
  rw [val_main_v42_apply, val_main_v41_apply, val_main_v3_apply]
  refine congrArg x3 (funext fun a => Fin.ext ?_)
  match a with
  | ⟨0, _⟩ => show ((p.val * 4 + h.val) * 256 + d.val) / 1024 = p.val; omega
  | ⟨1, _⟩ => show ((p.val * 4 + h.val) * 256 + d.val) % 1024 = 256 * h.val + d.val; omega

/-! ### The softmax -/

theorem ref9 (h : Fin 4) (p : Fin 8192) (l : Fin 256) : val_main_v9 (F := Ideal) x0 x1 (ix3 h p l) = score x0 x1 h p l := by
  rw [val_main_v9_apply, val_main_v7_apply, val_main_v8_apply]
  refine congrArg (· * c16) (Finset.sum_congr rfl fun d _ => ?_)
  refine congrArg₂ (· * ·) ((congrArg _ ?_).trans (ref4 x0 p h d)) ((congrArg _ ?_).trans (ref5 x1 l h d)) <;>
    exact funext fun a => match a with | ⟨0, _⟩ => rfl | ⟨1, _⟩ => rfl | ⟨2, _⟩ => rfl

theorem ref10 (h : Fin 4) (p : Fin 8192) : val_main_v10 (F := Ideal) x0 x1 (ix2 h p) = top (score x0 x1 h p) := by
  unfold val_main_v10
  refine (Host.reduce_eq_fold_single (a := 2) (FloatOps.maximumf (F := Ideal) (φ := .f32)) (val_main_v9 (F := Ideal) x0 x1) (val_main_cst_0 (F := Ideal))
    reducesTo_S4x8192x256_S4x8192_d2 (by decide) h_S_ (ix2 h p)).trans ?_
  have e : Ideal.ofBits .f32 0xFF800000#32 = ⊥ := by simp [Ideal.ofBits, Ideal.ieee]
  rw [top, ← e]
  refine congrArg (fun f => Finset.fold max (Ideal.ofBits .f32 0xFF800000#32) f (Finset.univ : Finset (Fin 256))) (funext fun l => ?_)
  refine (congrArg (val_main_v9 (F := Ideal) x0 x1) ?_).trans (ref9 x0 x1 h p l)
  exact funext fun a => Fin.ext (by match a with | ⟨0, _⟩ => rfl | ⟨1, _⟩ => rfl | ⟨2, _⟩ => rfl)

theorem ref28 (h : Fin 4) (p : Fin 8192) (l : Fin 256) : val_main_v28 (F := Ideal) x0 x1 (ix3 h p l) = top (score x0 x1 h p) := by
  rw [val_main_v28_apply, val_main_v27_apply, val_main_v17_apply, val_main_v16_apply]
  have e : Ideal.ofBits .f32 0xFF800000#32 = ⊥ := by simp [Ideal.ofBits, Ideal.ieee]
  refine Eq.trans (b := max (Ideal.ofBits .f32 0xFF800000#32) (top (score x0 x1 h p))) (congrArg (max _) ((congrArg _ ?_).trans (ref10 x0 x1 h p))) ?_
  · exact funext fun a => match a with | ⟨0, _⟩ => rfl | ⟨1, _⟩ => rfl
  · rw [e]; exact max_eq_right bot_le

theorem ref30 (h : Fin 4) (p : Fin 8192) (l : Fin 256) : val_main_v30 (F := Ideal) x0 x1 (ix3 h p l) = ex (score x0 x1 h p) l := by
  rw [val_main_v30_apply, val_main_v29_apply, ref9, ref28]
  rfl

theorem ref31 (h : Fin 4) (p : Fin 8192) : val_main_v31 (F := Ideal) x0 x1 (ix2 h p) = mass (score x0 x1 h p) := by
  rw [val_main_v31_apply, val_main_cst_8_apply]
  refine (congrArg₂ (· + ·) Ideal.ofBits_zero_f32 (Finset.sum_congr rfl fun l _ => ?_)).trans (zero_add _)
  refine (congrArg _ ?_).trans (ref30 x0 x1 h p l)
  exact funext fun a => match a with | ⟨0, _⟩ => rfl | ⟨1, _⟩ => rfl | ⟨2, _⟩ => rfl

theorem ref32 (h : Fin 4) (p : Fin 8192) (z : Fin 1) : val_main_v32 (F := Ideal) x0 x1 (ix3 h p z) = mass (score x0 x1 h p) := by
  rw [val_main_v32_apply]
  refine (congrArg _ ?_).trans (ref31 x0 x1 h p)
  exact funext fun a => match a with | ⟨0, _⟩ => rfl | ⟨1, _⟩ => rfl

theorem ref34 (h : Fin 4) (p : Fin 8192) (l : Fin 256) : val_main_v34 (F := Ideal) x0 x1 (ix3 h p l) = prob (score x0 x1 h p) l := by
  rw [val_main_v34_apply, val_main_v33_apply, ref30]
  refine congrArg (Ideal.div _) ((congrArg _ ?_).trans (ref32 x0 x1 h p 0))
  exact funext fun a => match a with | ⟨0, _⟩ => rfl | ⟨1, _⟩ => rfl | ⟨2, _⟩ => rfl

/-! ### The gradients -/

theorem ref43 (h : Fin 4) (p : Fin 8192) (l : Fin 256) : val_main_v43 (F := Ideal) x2 x3 (ix3 h p l) = gprob x2 x3 h p l := by
  rw [val_main_v43_apply]
  refine Finset.sum_congr rfl fun d _ => ?_
  refine congrArg₂ (· * ·) ((congrArg _ ?_).trans (ref42 x3 p h d)) ((congrArg _ ?_).trans (ref6 x2 l h d)) <;>
    exact funext fun a => match a with | ⟨0, _⟩ => rfl | ⟨1, _⟩ => rfl | ⟨2, _⟩ => rfl

theorem ref46 (h : Fin 4) (p : Fin 8192) (l : Fin 256) :
    val_main_v46 (F := Ideal) x0 x1 (ix3 h p l) = Ideal.div 1 (mass (score x0 x1 h p) * mass (score x0 x1 h p)) := by
  have e : Ideal.ofBits .f32 0x3F800000#32 = 1 := by
    simp [Ideal.ofBits, Ideal.ieee]; rw [← EReal.coe_mul]; norm_num
  rw [val_main_v46_apply, val_main_v37_apply, val_main_v36_apply, val_main_v35_apply]
  have hi : idx_main_v46 (ix3 h p l) = ix3 h p 0 := funext fun a => match a with | ⟨0, _⟩ => rfl | ⟨1, _⟩ => rfl | ⟨2, _⟩ => rfl
  rw [hi, ref32]
  exact congrArg (Ideal.div · _) e

theorem ref48 (h : Fin 4) (p : Fin 8192) (l : Fin 256) : val_main_v48 (F := Ideal) x0 x1 x2 x3 (ix3 h p l)
    = gprob x2 x3 h p l * Ideal.div 1 (mass (score x0 x1 h p) * mass (score x0 x1 h p)) * ex (score x0 x1 h p) l := by
  rw [val_main_v48_apply, val_main_v47_apply, ref43, ref46, ref30]
  rfl

theorem ref51 (h : Fin 4) (p : Fin 8192) (z : Fin 1) : val_main_v51 (F := Ideal) x0 x1 x2 x3 (ix3 h p z)
    = -∑ l : Fin 256, gprob x2 x3 h p l * Ideal.div 1 (mass (score x0 x1 h p) * mass (score x0 x1 h p)) * ex (score x0 x1 h p) l := by
  rw [val_main_v51_apply, val_main_v50_apply, val_main_v49_apply, val_main_cst_10_apply]
  refine congrArg (fun x : EReal => -x) ((congrArg₂ (· + ·) Ideal.ofBits_zero_f32 (Finset.sum_congr rfl fun l _ => ?_)).trans (zero_add _))
  refine (congrArg _ ?_).trans (ref48 x0 x1 x2 x3 h p l)
  have hz : z.val = 0 := by omega
  refine funext fun a => Fin.ext ?_
  match a with
  | ⟨0, _⟩ => show ((h.val * 8192 + p.val) * 1 + z.val) / 8192 = h.val; omega
  | ⟨1, _⟩ => show ((h.val * 8192 + p.val) * 1 + z.val) % 8192 = p.val; omega
  | ⟨2, _⟩ => rfl

theorem ref55 (h : Fin 4) (p : Fin 8192) (l : Fin 256) : val_main_v55 (F := Ideal) x0 x1 x2 x3 (ix3 h p l)
    = -∑ l : Fin 256, gprob x2 x3 h p l * Ideal.div 1 (mass (score x0 x1 h p) * mass (score x0 x1 h p)) * ex (score x0 x1 h p) l := by
  rw [val_main_v55_apply, val_main_v54_apply, val_main_cst_11_apply]
  refine (congrArg₂ (· + ·) Ideal.ofBits_zero_f32 (Fin.sum_univ_one _)).trans ((zero_add _).trans ((congrArg _ ?_).trans (ref51 x0 x1 x2 x3 h p 0)))
  exact funext fun a => match a with | ⟨0, _⟩ => rfl | ⟨1, _⟩ => rfl | ⟨2, _⟩ => rfl

theorem ref53 (h : Fin 4) (p : Fin 8192) (l : Fin 256) : val_main_v53 (F := Ideal) x0 x1 x2 x3 (ix3 h p l)
    = Ideal.div (gprob x2 x3 h p l) (mass (score x0 x1 h p)) := by
  rw [val_main_v53_apply, val_main_v52_apply, ref43]
  refine congrArg (Ideal.div _) ((congrArg _ ?_).trans (ref32 x0 x1 h p 0))
  exact funext fun a => match a with | ⟨0, _⟩ => rfl | ⟨1, _⟩ => rfl | ⟨2, _⟩ => rfl

/-- The gradient of the scores, where the queries and the keys are numbers. -/
theorem ref59 (hq : ∀ i, ∃ r : ℝ, x0 i = (r : EReal)) (hk : ∀ i, ∃ r : ℝ, x1 i = (r : EReal)) (h : Fin 4) (p : Fin 8192) (l : Fin 256) :
    val_main_v59 (F := Ideal) x0 x1 x2 x3 (ix3 h p l) = ds x0 x1 x2 x3 h p l := by
  rw [val_main_v59_apply, val_main_v58_apply, val_main_v57_apply, val_main_v56_apply, ref53, ref55, ref30]
  choose rq hq using hq
  choose rk hk using hk
  have hc : c16 = ((1 / 16 : ℝ) : EReal) := by
    simp [c16, Ideal.ofBits, Ideal.ieee]; rw [← EReal.coe_mul]; norm_num
  have hs : ∀ j, score x0 x1 h p j = (((∑ d : Fin 256, rq (ix2 p (col h d)) * rk (ix2 j (col h d))) * (1 / 16) : ℝ) : EReal) := fun j => by
    rw [EReal.coe_mul, ← sum_coe, ← hc]
    refine congrArg (· * c16) (Finset.sum_congr rfl fun d _ => ?_)
    rw [EReal.coe_mul, ← hq, ← hk]
  exact dscore_eq hs (gprob x2 x3 h p) c16 l

section Results
variable (hq : ∀ i, ∃ r : ℝ, x0 i = (r : EReal)) (hk : ∀ i, ∃ r : ℝ, x1 i = (r : EReal))
include hq hk

theorem ref67 (h : Fin 4) (p : Fin 8192) (d : Fin 256) : val_main_v67 (F := Ideal) x0 x1 x2 x3 (ix2 p (col h d))
    = ∑ l : Fin 256, ds x0 x1 x2 x3 h p l * x1 (ix2 l (col h d)) := by
  rw [val_main_v67_apply, val_main_v66_apply, val_main_v63_apply, val_main_v62_apply]
  refine Finset.sum_congr rfl fun l _ => ?_
  refine congrArg₂ (· * ·) ((congrArg _ ?_).trans (ref59 x0 x1 x2 x3 hq hk h p l)) ((congrArg _ ?_).trans (ref5 x1 l h d))
  all_goals
    have hh := h.isLt
    have hd := d.isLt
    refine funext fun a => Fin.ext ?_
    match a with
    | ⟨0, _⟩ => simp only [lidx_main_v62, ridx_main_v62, idx_main_v63, idx_main_v66, ix2, ix3, col] <;> first | rfl | omega
    | ⟨1, _⟩ => simp only [lidx_main_v62, ridx_main_v62, idx_main_v63, idx_main_v66, ix2, ix3, col] <;> first | rfl | omega
    | ⟨2, _⟩ => simp only [lidx_main_v62, ridx_main_v62, idx_main_v63, idx_main_v66, ix2, ix3, col] <;> first | rfl | omega

theorem ref65 (h : Fin 4) (l d : Fin 256) : val_main_v65 (F := Ideal) x0 x1 x2 x3 (ix2 l (col h d))
    = ∑ p : Fin 8192, ds x0 x1 x2 x3 h p l * x0 (ix2 p (col h d)) := by
  rw [val_main_v65_apply, val_main_v61_apply, val_main_v60_apply]
  refine Finset.sum_congr rfl fun p _ => ?_
  refine congrArg₂ (· * ·) ((congrArg _ ?_).trans (ref59 x0 x1 x2 x3 hq hk h p l)) ((congrArg _ ?_).trans (ref4 x0 p h d))
  all_goals
    have hh := h.isLt
    have hd := d.isLt
    refine funext fun a => Fin.ext ?_
    match a with
    | ⟨0, _⟩ => simp only [lidx_main_v60, ridx_main_v60, idx_main_v61, idx_main_v65, ix2, ix3, col] <;> first | rfl | omega
    | ⟨1, _⟩ => simp only [lidx_main_v60, ridx_main_v60, idx_main_v61, idx_main_v65, ix2, ix3, col] <;> first | rfl | omega
    | ⟨2, _⟩ => simp only [lidx_main_v60, ridx_main_v60, idx_main_v61, idx_main_v65, ix2, ix3, col] <;> first | rfl | omega

omit hq hk in
theorem ref64 (h : Fin 4) (l d : Fin 256) : val_main_v64 (F := Ideal) x0 x1 x3 (ix2 l (col h d))
    = ∑ p : Fin 8192, prob (score x0 x1 h p) l * x3 (ix2 p (col h d)) := by
  rw [val_main_v64_apply, val_main_v45_apply, val_main_v44_apply]
  refine Finset.sum_congr rfl fun p _ => ?_
  refine (congrArg₂ (· * ·) ((congrArg _ ?_).trans (ref42 x3 p h d)) ((congrArg _ ?_).trans (ref34 x0 x1 h p l))).trans (mul_comm _ _)
  all_goals
    have hh := h.isLt
    have hd := d.isLt
    refine funext fun a => Fin.ext ?_
    match a with
    | ⟨0, _⟩ => simp only [lidx_main_v44, ridx_main_v44, idx_main_v45, idx_main_v64, ix2, ix3, col] <;> first | rfl | omega
    | ⟨1, _⟩ => simp only [lidx_main_v44, ridx_main_v44, idx_main_v45, idx_main_v64, ix2, ix3, col] <;> first | rfl | omega
    | ⟨2, _⟩ => simp only [lidx_main_v44, ridx_main_v44, idx_main_v45, idx_main_v64, ix2, ix3, col] <;> first | rfl | omega

end Results

end Cert.AttnRefIdeal.RefValue

end
-- ==== Proof.AttnEq.lean ====
/-
  The attention's backward call and its reference leave the same three gradients.
-/
module

public import proofs.«01_k».proof.Proof.AttnArr
public import proofs.«01_k».proof.Proof.AttnRef
public import proofs.«01_k».proof.Proof.Gen.Attn.Frame
public import proofs.«01_k».proof.Defs

@[expose] public section

set_option maxRecDepth 16384

noncomputable section

namespace Cert.AttnEq

open Cert.Rows Idealize.ShloMosaic Idealize.ShloMosaic.TcCoe Idealize.SL.Sem Idealize.ShloMosaic.ValueIdx
open Cert.AttnIdeal.RefValue (score gprob ds argQ argK argV argG arr4 arr5 arr6)
open scoped BigOperators

/-- The shape relations of the precondition. -/
instance finiteFacts : Cert.Pre_scores_finite.Facts where
  bcast_S_S8192x1024 := by decide
  bcast_S_S256x1024 := by decide

/-- A value whose absolute value lies below infinity is a number. -/
theorem real_of_lt {x : EReal} (h : FloatOps.cmpf (F := Ideal) (φ := .bf16) .olt (FloatOps.absf (F := Ideal) (φ := .bf16) x) (Ideal.ofBits .bf16 0x7F80#16) = 1#1) :
    ∃ r : ℝ, x = (r : EReal) := by
  have e : Ideal.ofBits .bf16 0x7F80#16 = ⊤ := by simp [Ideal.ofBits, Ideal.ieee]
  rw [e] at h
  induction x using EReal.rec with
  | coe r => exact ⟨r, rfl⟩
  | bot => simp [FloatOps.cmpf, FloatOps.absf, Ideal.cmp] at h
  | top => simp [FloatOps.cmpf, FloatOps.absf, Ideal.cmp] at h

section
open Cert.AttnIdeal
variable (m : (ℓ : Loc nD τ sig) → Buf (Elt Ideal) ℓ) (c : Dev nD)

/-- Under the precondition the queries are numbers. -/
theorem real_q (h : Pre_AttnIdeal_scores_finite m) (i : S8192x1024.Idx) : ∃ r : ℝ, argQ m c i = (r : EReal) :=
  real_of_lt (congrFun (h c).1 i)

/-- Under the precondition the keys are numbers. -/
theorem real_k (h : Pre_AttnIdeal_scores_finite m) (i : S256x1024.Idx) : ∃ r : ℝ, argK m c i = (r : EReal) :=
  real_of_lt (congrFun (h c).2 i)

variable (hm : Pre_AttnIdeal_scores_finite m)
include hm

/-- The gradient of the queries. -/
theorem same4 : (Gen.dats m 0 c).arrAt 4 cfg0.N = Cert.AttnRefIdeal.Read.val_main_v67 (F := Ideal) (argQ m c) (argK m c) (argV m c) (argG m c) := by
  refine funext fun i => ?_
  obtain ⟨p, j, rfl⟩ : ∃ (p : Fin 8192) (j : Fin 1024), i = ix2 p j := ⟨i 0, i 1, eq_ix2 i⟩
  obtain ⟨h, d, rfl⟩ := col_surj j
  exact (arr4 m c p h d).trans (Cert.AttnRefIdeal.RefValue.ref67 (argQ m c) (argK m c) (argV m c) (argG m c) (real_q m c hm) (real_k m c hm) h p d).symm

/-- The gradient of the keys. -/
theorem same5 : (Gen.dats m 0 c).arrAt 5 cfg0.N = Cert.AttnRefIdeal.Read.val_main_v65 (F := Ideal) (argQ m c) (argK m c) (argV m c) (argG m c) := by
  refine funext fun i => ?_
  obtain ⟨l, j, rfl⟩ : ∃ (l : Fin 256) (j : Fin 1024), i = ix2 l j := ⟨i 0, i 1, eq_ix2 i⟩
  obtain ⟨h, d, rfl⟩ := col_surj j
  exact (arr5 m c h l d).trans (Cert.AttnRefIdeal.RefValue.ref65 (argQ m c) (argK m c) (argV m c) (argG m c) (real_q m c hm) (real_k m c hm) h l d).symm

omit hm in
/-- The gradient of the values. -/
theorem same6 : (Gen.dats m 0 c).arrAt 6 cfg0.N = Cert.AttnRefIdeal.Read.val_main_v64 (F := Ideal) (argQ m c) (argK m c) (argG m c) := by
  refine funext fun i => ?_
  obtain ⟨l, j, rfl⟩ : ∃ (l : Fin 256) (j : Fin 1024), i = ix2 l j := ⟨i 0, i 1, eq_ix2 i⟩
  obtain ⟨h, d, rfl⟩ := col_surj j
  exact (arr6 m c h l d).trans (Cert.AttnRefIdeal.RefValue.ref64 (argQ m c) (argK m c) (argG m c) h l d).symm

end

/-! ### The frames -/

/-- The frame of the kernel. -/
theorem frame_p : quiescent_Attn := fun m ρ _ => Cert.Attn.Gen.frame m ρ

/-- The frame of the idealized kernel. -/
theorem frame_pi : quiescent_AttnIdeal := fun m ρ _ => Cert.AttnIdeal.Gen.frame m ρ

/-- The same under the precondition, which it does not use. -/
theorem frame_pi_pre : quiescent_AttnIdeal_pre_scores_finite := fun m ρ _ => Cert.AttnIdeal.Gen.frame m ρ

/-- The frame of the reference: its run ends with its arguments as they were, and it declares no semaphore. -/
theorem frame_ri : quiescent_AttnRefIdeal := fun m ρ _ =>
  (θ_run Cert.AttnRefIdeal.defs _ _).mono (fun r h => ⟨fun c => (h c).2.2.2, sem_eq_zero_of_no_sems (by decide) r.2⟩)
    (Cert.AttnRefIdeal.Value.run (F := Ideal) m ρ)

/-- The same under the precondition, which it does not use. -/
theorem frame_ri_pre : quiescent_AttnRefIdeal_pre_scores_finite := fun m ρ _ => frame_ri m ρ trivial

/-- The backward call of the attention computes the gradients of the plain softmax attention. -/
theorem same : algebraic_AttnIdeal_AttnRefIdeal_pre_scores_finite := by
  intro m g m' g' hm ha
  refine ⟨fun c => (Cert.AttnIdeal.Gen.dats m 0 c).arrAt 4 Cert.AttnIdeal.cfg0.N, fun c => (Cert.AttnIdeal.Gen.dats m 0 c).arrAt 5 Cert.AttnIdeal.cfg0.N,
    fun c => (Cert.AttnIdeal.Gen.dats m 0 c).arrAt 6 Cert.AttnIdeal.cfg0.N, Cert.AttnIdeal.Value.run_blocks m g, ?_⟩
  refine (θ_run Cert.AttnRefIdeal.defs _ _).mono (fun r h c => ?_) (Cert.AttnRefIdeal.Value.run (F := Ideal) m' g')
  obtain ⟨h67, h65, h64, h0, h1, h2, h3⟩ := h c
  obtain ⟨a0, a1, a2, a3⟩ := ha c
  refine ⟨h67.trans ?_, h65.trans ?_, h64.trans ?_, h0, h1, h2, h3⟩
  · rw [Cert.AttnRefIdeal.Read.val_main_v67_eq, a0, a1, a2, a3]
    exact (same4 m c hm).symm
  · rw [Cert.AttnRefIdeal.Read.val_main_v65_eq, a0, a1, a2, a3]
    exact (same5 m c hm).symm
  · rw [Cert.AttnRefIdeal.Read.val_main_v64_eq, a0, a1, a3]
    exact (same6 m c).symm

end Cert.AttnEq

end
-- ==== Proof.Norm.lean ====
/-
  The gradient of a row's normalisation, in the kernel's form and in the form the chain rule gives.
-/
module

public import proofs.«01_k».proof.Proof.Soft

@[expose] public section

noncomputable section

namespace Cert.Rows

open Idealize.ShloMosaic
open scoped BigOperators

variable {n : ℕ}

/-- The number of columns, 1024. -/
abbrev width : EReal := Ideal.ofBits .f32 0x44800000#32
/-- The number added to the mean of the squares. -/
abbrev eps : EReal := Ideal.ofBits .f32 0x358637BD#32
/-- Minus one half. -/
abbrev mhalf : EReal := Ideal.ofBits .f32 0xBF000000#32

theorem width_eq : width = ((1024 : ℝ) : EReal) := by
  simp [width, Ideal.ofBits, Ideal.ieee]; rw [← EReal.coe_mul]; norm_num

theorem eps_eq : ∃ e : ℝ, 0 < e ∧ eps = (e : EReal) := by
  refine ⟨8796093 * ((2 : ℝ) ^ 43)⁻¹, by positivity, ?_⟩
  simp [eps, Ideal.ofBits, Ideal.ieee]

theorem mhalf_eq : mhalf = ((-(1 / 2) : ℝ) : EReal) := by
  simp [mhalf, Ideal.ofBits, Ideal.ieee]; rw [← EReal.coe_mul]; norm_num

/-- The mean of the squares of a row, with `eps` added. -/
def msq (a : Fin n → EReal) : EReal := Ideal.div (∑ k, a k * a k) width + eps
/-- One over the root of it. -/
def rt (a : Fin n → EReal) : EReal := Ideal.rsqrt (msq a)
/-- The gradient of the row from the gradient `d` of the normalised row. -/
def back (a d : Fin n → EReal) (j : Fin n) : EReal :=
  rt a * (d j - a j * rt a * Ideal.div (∑ k, d k * (a k * rt a)) width)

theorem div_width (x : EReal) : Ideal.div x width = x * ((1 / 1024 : ℝ) : EReal) := by
  rw [width_eq, Ideal.div_coe (by norm_num)]

theorem sq_nonneg (x : EReal) : 0 ≤ x * x := by
  induction x using EReal.rec with
  | bot => simp
  | coe r => rw [← EReal.coe_mul]; exact_mod_cast mul_self_nonneg r
  | top => simp

/-- A row with an infinite mean square is scaled by 0; in any other row every element is a number, and the factor is a
    positive number whose square is one over the mean square. -/
theorem rt_cases (a : Fin n → EReal) :
    (msq a = ⊤ ∧ rt a = 0) ∨
      ∃ (r : Fin n → ℝ) (s p : ℝ), (∀ k, a k = (r k : EReal)) ∧ 0 < s ∧ 0 < p ∧ msq a = (s : EReal) ∧ rt a = (p : EReal) ∧ p * p = 1 / s := by
  obtain ⟨e, he, hee⟩ := eps_eq
  have h0 : 0 ≤ ∑ k, a k * a k := Finset.sum_nonneg fun k _ => sq_nonneg (a k)
  by_cases ht : ∃ k, a k = ⊤ ∨ a k = ⊥
  · left
    obtain ⟨k, hk⟩ := ht
    have hkk : a k * a k = ⊤ := by rcases hk with h | h <;> rw [h] <;> rfl
    have hs : ∑ k, a k * a k = ⊤ :=
      top_le_iff.mp (hkk ▸ Finset.single_le_sum (f := fun k => a k * a k) (fun i _ => sq_nonneg (a i)) (Finset.mem_univ k))
    have hm : msq a = ⊤ := by
      rw [msq, hs, div_width, hee, EReal.top_mul_coe_of_pos (by norm_num), EReal.top_add_coe]
    exact ⟨hm, by rw [rt, hm]; rfl⟩
  · right
    have hr : ∀ k, ∃ r : ℝ, a k = (r : EReal) := fun k => by
      have : ¬(a k = ⊤ ∨ a k = ⊥) := fun h => ht ⟨k, h⟩
      exact ⟨(a k).toReal, (EReal.coe_toReal (fun h => this (.inl h)) (fun h => this (.inr h))).symm⟩
    choose r hr using hr
    have hs : ∑ k, a k * a k = ((∑ k, r k * r k : ℝ) : EReal) := by
      rw [← sum_coe]; exact Finset.sum_congr rfl fun k _ => by rw [hr, EReal.coe_mul]
    have hm : msq a = (((∑ k, r k * r k) * (1 / 1024) + e : ℝ) : EReal) := by
      rw [msq, hs, div_width, hee, ← EReal.coe_mul, ← EReal.coe_add]
    have hpos : 0 < (∑ k, r k * r k) * (1 / 1024) + e := by
      have : 0 ≤ ∑ k, r k * r k := Finset.sum_nonneg fun k _ => mul_self_nonneg _
      positivity
    refine ⟨r, _, (Real.sqrt ((∑ k, r k * r k) * (1 / 1024) + e))⁻¹, hr, hpos, by positivity, hm, ?_, ?_⟩
    · rw [rt, hm]
      show (if _ < (0 : ℝ) then _ else if _ = (0 : ℝ) then _ else _) = _
      rw [if_neg (not_lt.mpr hpos.le), if_neg hpos.ne']
    · rw [← mul_inv, Real.mul_self_sqrt hpos.le, ← one_div]

/-- Adding a value to itself doubles it. -/
theorem add_self (x : EReal) : x + x = x * ((2 : ℝ) : EReal) := by
  induction x using EReal.rec with
  | bot => rw [EReal.bot_mul_coe_of_pos (by norm_num)]; rfl
  | coe r => rw [← EReal.coe_add, ← EReal.coe_mul, mul_two]
  | top => rw [EReal.top_mul_coe_of_pos (by norm_num)]; rfl

/-- The chain rule's form of a row's gradient is the kernel's. -/
theorem back_eq (a d : Fin n → EReal) (j : Fin n) (z : EReal) :
    z + d j * rt a + a j * Ideal.div ((∑ k, a k * d k) * (mhalf * Ideal.div (rt a) (msq a))) width
      + Ideal.div ((∑ k, a k * d k) * (mhalf * Ideal.div (rt a) (msq a))) width * a j = z + back a d j := by
  rw [mul_comm _ (a j), add_assoc, add_self, add_assoc]
  refine congrArg (z + ·) ?_
  rw [back, div_width, div_width]
  rcases rt_cases a with ⟨hm, hr⟩ | ⟨r, s, p, ha, hs, hp, hm, hr, hps⟩
  · rw [hr, hm]
    have h0 : Ideal.div 0 ⊤ = 0 := by simp [Ideal.div]
    rw [h0]
    simp
  · rw [hr, hm, Ideal.div_coe hs.ne', ← EReal.coe_mul, mhalf_eq, ← EReal.coe_mul]
    have hd : ∑ k, d k * (a k * (p : EReal)) = (∑ k, a k * d k) * (p : EReal) := by
      rw [sum_mul_coe _ _ hp.le]
      exact Finset.sum_congr rfl fun k _ => by rw [mul_comm (a k) (d k), mul_assoc]
    rw [hd, mul_comm (p : EReal) (d j - _), sub_mul_coe _ _ hp.le, ha j]
    refine congrArg (d j * (p : EReal) + ·) ?_
    generalize ∑ k, a k * d k = S
    have e : ∀ x y : ℝ, x = -y → S * (x : EReal) = -(S * (y : EReal)) := fun x y h => by
      rw [h, EReal.coe_neg, mul_comm, EReal.neg_mul, mul_comm]
    have e1 : (r j : EReal) * (S * ((-(1 / 2) * (p * (1 / s)) : ℝ) : EReal) * ((1 / 1024 : ℝ) : EReal)) * ((2 : ℝ) : EReal)
        = S * ((r j * (-(1 / 2) * (p * (1 / s))) * (1 / 1024) * 2 : ℝ) : EReal) := by
      simp only [EReal.coe_mul]; ac_rfl
    have e2 : (r j : EReal) * (p : EReal) * (S * (p : EReal) * ((1 / 1024 : ℝ) : EReal)) * (p : EReal)
        = S * ((r j * p * p * (1 / 1024) * p : ℝ) : EReal) := by
      simp only [EReal.coe_mul]; ac_rfl
    rw [e1, e2]
    apply e
    rw [← hps]; ring

end Cert.Rows

end
-- ==== Proof.FfnPay.lean ====
/-
  The product with the two normalisations' gradients, one half of one block of rows at a time: what the kernel's stored
  values are, element by element. The kernel writes its body out once per half, so the printed payloads of the halves
  are the same functions under different names.
-/
module

public import proofs.«01_k».proof.Proof.Gen.FfnInIdeal.Value
public import proofs.«01_k».proof.Proof.Norm
public import Idealize.ShloMosaic.Lib.ValueIdx
public import Idealize.ShloMosaic.Lib.Pipeline.Value

@[expose] public section

set_option maxRecDepth 16384

noncomputable section

namespace Cert.FfnInIdeal.RefValue

open Cert.FfnInIdeal Cert.FfnInIdeal.Gen Cert.Rows Idealize.ShloMosaic Idealize.ShloMosaic.TcCoe Idealize.SL.Sem Idealize.ShloMosaic.ValueIdx
open scoped BigOperators

/-- Row `r` of a matrix of 1024 columns. -/
abbrev rowOf {n : ℕ} (X : (⟨2, ![n, 1024]⟩ : Shape).Idx → EReal) (r : Fin n) : Fin 1024 → EReal := fun k => X (ix2 r k)

/-- A column of one number per row, spread over the columns. -/
theorem over_cols (v : FVec Ideal S256x1 .f32) (r : Fin 256) (j : Fin 1024) :
    broadcastTo S256x1024 v broadcasts_S256x1_S256x1024 (ix2 r j) = v (ix2 r (0 : Fin 1)) :=
  broadcastTo_apply _ _ _ (ix2 r (0 : Fin 1)) (by intro a; match a with | ⟨0, _⟩ => rfl | ⟨1, _⟩ => rfl)

/-- A row of one number per column, spread over the rows. -/
theorem over_rows (v : FVec Ideal S1x1024 .f32) (r : Fin 256) (j : Fin 1024) :
    broadcastTo S256x1024 v broadcasts_S1x1024_S256x1024 (ix2 r j) = v (ix2 (0 : Fin 1) j) :=
  broadcastTo_apply _ _ _ (ix2 (0 : Fin 1) j) (by intro a; match a with | ⟨0, _⟩ => rfl | ⟨1, _⟩ => rfl)

/-- The sums of the rows, as a column. -/
theorem rowsum (v : FVec Ideal S256x1024 .f32) (r : Fin 256) :
    shapeCast S256x1 (multiReduction .add [1] S256 v 0x00000000#32 reduces_S256x1024_S256 (.inl rfl) rfl) shapeCasts_S256_S256x1 (ix2 r (0 : Fin 1))
      = ∑ l : Fin 1024, v (ix2 r l) := by
  rw [shapeCast_apply _ _ _ (ix1 r) (by rw [Shape.rowMajor_val_one, Shape.rowMajor_val_two]; show r.val = r.val * 1 + 0; omega)]
  refine (Ideal.multiReduction_add_single (a := 1) v 0x00000000#32 reduces_S256x1024_S256 (.inl rfl) rfl (ix1 r)).trans ?_
  refine Finset.sum_congr rfl fun l _ => congrArg v ?_
  funext x; apply Fin.ext; match x with
    | ⟨0, _⟩ => rfl
    | ⟨1, _⟩ => rfl

/-- The sums of the columns, as a row. -/
theorem colsum (v : FVec Ideal S256x1024 .f32) (j : Fin 1024) :
    shapeCast S1x1024 (multiReduction .add [0] S1024 v 0x00000000#32 reduces_S256x1024_S1024 (.inl rfl) rfl) shapeCasts_S1024_S1x1024 (ix2 (0 : Fin 1) j)
      = ∑ r : Fin 256, v (ix2 r j) := by
  rw [shapeCast_apply _ _ _ (ix1 j) (by rw [Shape.rowMajor_val_one, Shape.rowMajor_val_two]; show j.val = 0 * 1024 + j.val; omega)]
  refine (Ideal.multiReduction_add_single (a := 0) v 0x00000000#32 reduces_S256x1024_S1024 (.inl rfl) rfl (ix1 j)).trans ?_
  refine Finset.sum_congr rfl fun l _ => congrArg v ?_
  funext x; apply Fin.ext; match x with
    | ⟨0, _⟩ => rfl
    | ⟨1, _⟩ => rfl

/-- The factor of each row. -/
theorem pay1_apply (x : Vec Ideal S256x1024 .f32) (r : Fin 256) : k0_pay1 (F := Ideal) x (ix2 r (0 : Fin 1)) = rt (rowOf x r) := by
  unfold k0_pay1
  dsimp only
  show Ideal.rsqrt (Ideal.div _ _ + _) = _
  rw [rowsum]
  rfl

/-- The normalised rows. -/
theorem pay2_apply (x : Vec Ideal S256x1024 .f32) (r : Fin 256) (j : Fin 1024) : k0_pay2 (F := Ideal) x (ix2 r j) = x (ix2 r j) * rt (rowOf x r) := by
  unfold k0_pay2
  rw [mulf_apply, over_cols, pay1_apply]

/-- The gain, as a row. -/
theorem pay7_apply (g : Vec Ideal S1x1x1024 .f32) (j : Fin 1024) : k0_pay7 (F := Ideal) g (ix2 (0 : Fin 1) j) = g (ix3 (0 : Fin 1) (0 : Fin 1) j) := by
  unfold k0_pay7
  exact shapeCast_apply _ _ _ (ix3 (0 : Fin 1) (0 : Fin 1) j) (by rw [Shape.rowMajor_val_two, Shape.rowMajor_val_three]; rfl)

/-- The gradient of the rows from the gradient of the normalised rows with their gain. -/
theorem pay3_apply (d : FVec Ideal S256x1024 .f32) (x : Vec Ideal S256x1024 .f32) (g : Vec Ideal S1x1x1024 .f32) (r : Fin 256) (j : Fin 1024) :
    k0_pay3 (F := Ideal) d x g (ix2 r j) = back (rowOf x r) (fun k => d (ix2 r k) * g (ix3 (0 : Fin 1) (0 : Fin 1) k)) j := by
  have hg : ∀ k, shapeCast S1x1024 g shapeCasts_S1x1x1024_S1x1024 (ix2 (0 : Fin 1) k) = g (ix3 (0 : Fin 1) (0 : Fin 1) k) := pay7_apply g
  unfold k0_pay3
  dsimp only
  rw [truncf_apply, mulf_apply, subf_apply, mulf_apply, mulf_apply, over_cols, over_cols, over_rows, pay1_apply, pay2_apply, hg, divf_apply, rowsum]
  simp only [mulf_apply, over_rows, pay2_apply, hg]
  rfl

/-- The product. -/
theorem pay8_apply (w : Vec Ideal S5632x1024 .bf16) (a : Vec Ideal S256x5632 .bf16) (r : Fin 256) (j : Fin 1024) :
    k0_pay8 (F := Ideal) w a (ix2 r j) = ∑ k : Fin 5632, a (ix2 r k) * w (ix2 k j) := by
  unfold k0_pay8
  simp only [matmul]
  rw [Ideal.matmul_constant_zero_apply, ← Equiv.sum_comp (contrEquiv1 dot_S256x5632_S5632x1024_S256x1024_1_0_0_1_n_n 5632 rfl rfl).symm]
  refine Finset.sum_congr rfl fun k _ => ?_
  have hk := contrEquiv1_symm_val dot_S256x5632_S5632x1024_S256x1024_1_0_0_1_n_n 5632 rfl rfl k
  congr 2 <;> funext x <;> apply Fin.ext <;> match x with
    | ⟨0, _⟩ => first | exact hk | rfl
    | ⟨1, _⟩ => first | exact hk | rfl

/-- The first gradient of the rows, with the gradient that came past the branch. -/
theorem pay11_apply (w : Vec Ideal S5632x1024 .bf16) (g : Vec Ideal S1x1x1024 .f32) (a : Vec Ideal S256x5632 .bf16) (x z : Vec Ideal S256x1024 .f32) (r : Fin 256) (j : Fin 1024) :
    k0_pay11 (F := Ideal) w g a x z (ix2 r j)
      = z (ix2 r j) + back (rowOf x r) (fun k => (∑ l : Fin 5632, a (ix2 r l) * w (ix2 l k)) * g (ix3 (0 : Fin 1) (0 : Fin 1) k)) j := by
  have h10 : k0_pay10 (F := Ideal) x = k0_pay2 x := rfl
  have h9 : k0_pay9 (F := Ideal) x = k0_pay1 x := rfl
  unfold k0_pay11
  dsimp only
  rw [h10, h9, addf_apply, mulf_apply, subf_apply, mulf_apply, mulf_apply, over_cols, over_cols, over_rows, pay1_apply, pay2_apply, pay7_apply, divf_apply, rowsum]
  simp only [mulf_apply, over_rows, pay2_apply, pay7_apply, pay8_apply]
  rfl

/-- The rows' part of a gain's gradient, added to what was there. -/
theorem pay4_apply (d : FVec Ideal S256x1024 .f32) (x : Vec Ideal S256x1024 .f32) (acc : Vec Ideal S1x1024 .f32) (j : Fin 1024) :
    k0_pay4 (F := Ideal) d x acc (ix2 (0 : Fin 1) j) = acc (ix2 (0 : Fin 1) j) + ∑ r : Fin 256, d (ix2 r j) * (x (ix2 r j) * rt (rowOf x r)) := by
  unfold k0_pay4
  dsimp only
  rw [addf_apply, shapeCast_self, colsum]
  simp only [mulf_apply, pay2_apply]

/-- The zero rows. -/
theorem pay5_apply (y) : k0_pay5 (F := Ideal) y = 0 := by
  unfold k0_pay5; exact Ideal.ofBits_zero_f32
/-- The zero rows. -/
theorem pay6_apply (y) : k0_pay6 (F := Ideal) y = 0 := by
  unfold k0_pay6; exact Ideal.ofBits_zero_f32

/-! ### The halves' payloads are the same -/

section Names
variable (w : Vec Ideal S5632x1024 .bf16) (g : Vec Ideal S1x1x1024 .f32) (a : Vec Ideal S256x5632 .bf16) (d : FVec Ideal S256x1024 .f32)
  (x z : Vec Ideal S256x1024 .f32) (acc : Vec Ideal S1x1024 .f32)
/-- The second gradient in the first half. -/
theorem e15 : k0_pay15 (F := Ideal) d x g = k0_pay3 d x g := rfl
/-- The second gain's part in the first half. -/
theorem e16 : k0_pay16 (F := Ideal) d x acc = k0_pay4 d x acc := rfl
/-- The first gradient in the second half. -/
theorem e20 : k0_pay20 (F := Ideal) w (k0_pay7 g) a x z = k0_pay11 w g a x z := rfl
/-- The first gain's part in the first half. -/
theorem e12 : k0_pay12 (F := Ideal) (k0_pay8 w a) (k0_pay10 x) acc = k0_pay4 (k0_pay8 w a) x acc := rfl
/-- The first gain's part in the second half. -/
theorem e21 : k0_pay21 (F := Ideal) w a x acc = k0_pay4 (k0_pay8 w a) x acc := rfl
end Names

end Cert.FfnInIdeal.RefValue

end
-- ==== Proof.FfnOut.lean ====
/-
  What one grid point of the product with the two normalisations' gradients leaves in the four result blocks: the blocks
  of the two gradients of the rows, and the two gains' gradients with this point's part added (at the first point, added
  to zero). The two halves' stores are two bands of 256 rows.
-/
module

public import proofs.«01_k».proof.Proof.FfnPay
public import Idealize.ShloMosaic.Lib.Pipeline.ValueKit.Tiles

@[expose] public section

set_option maxRecDepth 16384

noncomputable section

namespace Cert.Rows

open Idealize.ShloMosaic Idealize.ShloMosaic.ValueIdx
open scoped BigOperators

/-! ### The formulas, over any number of rows and any depth of the product -/

section Formulas
variable {n K : ℕ} (A : (⟨2, ![n, K]⟩ : Shape).Idx → EReal) (W : (⟨2, ![K, 1024]⟩ : Shape).Idx → EReal)
  (D X : (⟨2, ![n, 1024]⟩ : Shape).Idx → EReal) (G G2 : Fin 1024 → EReal) (Y : (⟨2, ![n, 1024]⟩ : Shape).Idx → EReal)

/-- Row `r` of a matrix of 1024 columns. -/
abbrev row (X : (⟨2, ![n, 1024]⟩ : Shape).Idx → EReal) (r : Fin n) : Fin 1024 → EReal := fun k => X (ix2 r k)
/-- The product: the gradient of the first norm's result. -/
abbrev dhf (r : Fin n) (j : Fin 1024) : EReal := ∑ l : Fin K, A (ix2 r l) * W (ix2 l j)
/-- The gradient of the first norm's rows, with the gradient that came past the branch. -/
abbrev dxf (r : Fin n) (j : Fin 1024) : EReal := D (ix2 r j) + back (row X r) (fun k => dhf A W r k * G k) j
/-- A row's part of the first gain's gradient. -/
abbrev g1f (r : Fin n) (j : Fin 1024) : EReal := dhf A W r j * (X (ix2 r j) * rt (row X r))
/-- The gradient of the second norm's rows. -/
abbrev dyf (r : Fin n) (j : Fin 1024) : EReal := back (row Y r) (fun k => dxf A W D X G r k * G2 k) j
/-- A row's part of the second gain's gradient. -/
abbrev g2f (r : Fin n) (j : Fin 1024) : EReal := dxf A W D X G r j * (Y (ix2 r j) * rt (row Y r))
end Formulas

/-! ### Bands of 256 rows in a block of 512 -/

/-- Row `k` of half `h`. -/
def half (h : Fin 2) (k : Fin 256) : Fin 512 := ⟨256 * h.val + k.val, by omega⟩

/-- Every row is in a half. -/
theorem half_surj (r : Fin 512) : ∃ h k, half h k = r :=
  ⟨⟨r.val / 256, by omega⟩, ⟨r.val % 256, Nat.mod_lt _ (by decide)⟩, Fin.ext (Nat.div_add_mod r.val 256)⟩

/-- A sum over the rows is the halves' sums added. -/
theorem sum_halves (f : Fin 512 → EReal) : ∑ r, f r = ∑ k, f (half 0 k) + ∑ k, f (half 1 k) := by
  refine (Fin.sum_univ_add (a := 256) (b := 256) f).trans ?_
  exact congrArg₂ (· + ·) (Finset.sum_congr rfl fun k _ => congrArg f (Fin.ext (Nat.zero_add _).symm)) (Finset.sum_congr rfl fun k _ => congrArg f (Fin.ext rfl))

section Bands
variable {w : ℕ} {Val : EltTy → Type} {e : EltTy}

/-- A load of a band of rows, at an index. -/
theorem ld_rows (X : (⟨2, ![512, w]⟩ : Shape).Idx → Val e) (o : ℕ) (inb) (k : Fin 256) (j : Fin w) (r : Fin 512) (hr : r.val = o + k.val) :
    View.ld X (Rect.unit (s := ⟨2, ![512, w]⟩) ![o, 0] ![256, w] inb) (ix2 k j) = X (ix2 r j) :=
  View.ld_unit_apply_of X _ _ inb _ _ fun a => match a with
    | ⟨0, _⟩ => hr
    | ⟨1, _⟩ => (Nat.zero_add _).symm

/-- In the band stored last the contents are that store's. -/
theorem canon_rows_hit [∀ e, Nonempty (Val e)] (o : ℕ) (inb) (v : (⟨2, ![256, w]⟩ : Shape).Idx → Val e) (L) (k : Fin 256) (j : Fin w) (r : Fin 512)
    (hr : r.val = o + k.val) :
    View.canon (⟨Rect.unit (s := ⟨2, ![512, w]⟩) ![o, 0] ![256, w] inb, v⟩ :: L) (ix2 r j) = v (ix2 k j) := by
  have : (ix2 r j : (⟨2, ![512, w]⟩ : Shape).Idx) = (Rect.unit (s := ⟨2, ![512, w]⟩) ![o, 0] ![256, w] inb).emb (ix2 k j) :=
    funext fun a => Fin.ext (by
      refine Eq.trans ?_ (Rect.idx_unit_val _ _ inb (ix2 k j) a).symm
      match a with
      | ⟨0, _⟩ => exact hr
      | ⟨1, _⟩ => exact (Nat.zero_add _).symm)
  rw [this]
  exact View.canon_cons_emb (Rect.unit (s := ⟨2, ![512, w]⟩) ![o, 0] ![256, w] inb) v L (ix2 k j)

/-- Outside it they are what the earlier stores left. -/
theorem canon_rows_skip [∀ e, Nonempty (Val e)] (o : ℕ) (inb) (v : (⟨2, ![256, w]⟩ : Shape).Idx → Val e) (L) (j : Fin w) (r : Fin 512)
    (hr : r.val < o ∨ o + 256 ≤ r.val) :
    View.canon (⟨Rect.unit (s := ⟨2, ![512, w]⟩) ![o, 0] ![256, w] inb, v⟩ :: L) (ix2 r j) = View.canon L (ix2 r j) := by
  refine View.canon_cons_of_not_mem _ L fun h => ?_
  rw [Rect.mem_set_unit] at h
  have h1 : o ≤ r.val ∧ r.val < o + 256 := h 0
  omega

/-- Two bands, stored from the first to the second, read back. -/
theorem canon_halves [∀ e, Nonempty (Val e)] (i0 i1) (v0 v1 : (⟨2, ![256, w]⟩ : Shape).Idx → Val e) (L) (h : Fin 2) (k : Fin 256) (j : Fin w) :
    View.canon (⟨Rect.unit (s := ⟨2, ![512, w]⟩) ![256, 0] ![256, w] i1, v1⟩ :: ⟨Rect.unit (s := ⟨2, ![512, w]⟩) ![0, 0] ![256, w] i0, v0⟩ :: L) (ix2 (half h k) j)
      = (match h with | 0 => v0 | 1 => v1) (ix2 k j) := by
  match h with
  | 0 => rw [canon_rows_skip 256 i1 _ _ _ _ (by simp only [half]; omega), canon_rows_hit 0 i0 _ _ k _ _ (by simp only [half]; omega)]
  | 1 => rw [canon_rows_hit 256 i1 _ _ k _ _ (by simp only [half]; omega)]

end Bands

end Cert.Rows

namespace Cert.FfnInIdeal.RefValue

open Cert.FfnInIdeal Cert.FfnInIdeal.Gen Cert.Rows Idealize.ShloMosaic Idealize.ShloMosaic.TcCoe Idealize.SL.Sem Idealize.ShloMosaic.ValueIdx
open scoped BigOperators

/-! ### One half of a block -/

/-- A gain, as a function of the column. -/
abbrev gain (g : Vec Ideal S1x1x1024 .f32) : Fin 1024 → EReal := fun k => g (ix3 (0 : Fin 1) (0 : Fin 1) k)

variable (x0 : Vec Ideal S512x5632 .bf16) (x1 : Vec Ideal S5632x1024 .bf16) (x2 x3 : Vec Ideal S512x1024 .f32) (x4 : Vec Ideal S1x1x1024 .f32)
  (x5 : Vec Ideal S512x1024 .f32) (x6 : Vec Ideal S1x1x1024 .f32)

/-- A half's rows of a block of the product's left side. -/
abbrev wide (x : Vec Ideal S512x5632 .bf16) (o : ℕ) (inb : ∀ a, (![o, 0] : Fin 2 → ℕ) a + (![256, 5632] : Fin 2 → ℕ) a ≤ S512x5632.size a) : Vec Ideal S256x5632 .bf16 := View.ld x (Rect.unit (s := S512x5632) ![o, 0] ![256, 5632] inb)
/-- A half's rows of a block of rows. -/
abbrev rows (x : Vec Ideal S512x1024 .f32) (o : ℕ) (inb : ∀ a, (![o, 0] : Fin 2 → ℕ) a + (![256, 1024] : Fin 2 → ℕ) a ≤ S512x1024.size a) : Vec Ideal S256x1024 .f32 := View.ld x (Rect.unit (s := S512x1024) ![o, 0] ![256, 1024] inb)

/-- A half's row is the block's. -/
theorem row_rows (x : Vec Ideal S512x1024 .f32) (o : ℕ) (i) (h : Fin 2) (ho : o = 256 * h.val) (k : Fin 256) : rowOf (rows x o i) k = row x (half h k) :=
  funext fun l => ld_rows x o i k l (half h k) (by rw [ho]; rfl)

/-- A half's product is the block's. -/
theorem dh_rows (o : ℕ) (i) (h : Fin 2) (ho : o = 256 * h.val) (k : Fin 256) (j : Fin 1024) :
    ∑ l : Fin 5632, wide x0 o i (ix2 k l) * x1 (ix2 l j) = dhf x0 x1 (half h k) j :=
  Finset.sum_congr rfl fun l _ => congrArg (· * x1 (ix2 l j)) (ld_rows x0 o i k l (half h k) (by rw [ho]; rfl))

/-- The first gradient, in a half. -/
theorem half7 (o : ℕ) (i i') (h : Fin 2) (ho : o = 256 * h.val) (k : Fin 256) (j : Fin 1024) :
    k0_pay11 (F := Ideal) x1 x4 (wide x0 o i) (rows x3 o i') (rows x2 o i') (ix2 k j) = dxf x0 x1 x2 x3 (gain x4) (half h k) j := by
  rw [pay11_apply, row_rows x3 o i' h ho]
  simp only [dh_rows x0 x1 o i h ho]
  exact congrArg (· + _) (ld_rows x2 o i' k j (half h k) (by rw [ho]; rfl))

/-- The first gain's part, in a half. -/
theorem half8 (o : ℕ) (i i') (h : Fin 2) (ho : o = 256 * h.val) (acc : Vec Ideal S1x1024 .f32) (j : Fin 1024) :
    k0_pay4 (F := Ideal) (k0_pay8 x1 (wide x0 o i)) (rows x3 o i') acc (ix2 (0 : Fin 1) j) = acc (ix2 (0 : Fin 1) j) + ∑ k, g1f x0 x1 x3 (half h k) j := by
  rw [pay4_apply]
  refine congrArg (acc (ix2 (0 : Fin 1) j) + ·) (Finset.sum_congr rfl fun k _ => ?_)
  rw [pay8_apply, row_rows x3 o i' h ho, dh_rows x0 x1 o i h ho]
  exact congrArg (fun a => _ * (a * _)) (ld_rows x3 o i' k j (half h k) (by rw [ho]; rfl))

/-- The second gradient, in a half. -/
theorem half9 (o : ℕ) (i i') (h : Fin 2) (ho : o = 256 * h.val) (k : Fin 256) (j : Fin 1024) :
    k0_pay3 (F := Ideal) (k0_pay11 x1 x4 (wide x0 o i) (rows x3 o i') (rows x2 o i')) (rows x5 o i') x6 (ix2 k j)
      = dyf x0 x1 x2 x3 (gain x4) (gain x6) x5 (half h k) j := by
  rw [pay3_apply, row_rows x5 o i' h ho]
  simp only [half7 x0 x1 x2 x3 x4 o i i' h ho]

/-- The second gain's part, in a half. -/
theorem half10 (o : ℕ) (i i') (h : Fin 2) (ho : o = 256 * h.val) (acc : Vec Ideal S1x1024 .f32) (j : Fin 1024) :
    k0_pay4 (F := Ideal) (k0_pay11 x1 x4 (wide x0 o i) (rows x3 o i') (rows x2 o i')) (rows x5 o i') acc (ix2 (0 : Fin 1) j)
      = acc (ix2 (0 : Fin 1) j) + ∑ k, g2f x0 x1 x2 x3 (gain x4) x5 (half h k) j := by
  rw [pay4_apply]
  refine congrArg (acc (ix2 (0 : Fin 1) j) + ·) (Finset.sum_congr rfl fun k _ => ?_)
  rw [half7 x0 x1 x2 x3 x4 o i i' h ho, row_rows x5 o i' h ho]
  exact congrArg (fun a => _ * (a * _)) (ld_rows x5 o i' k j (half h k) (by rw [ho]; rfl))

/-! ### The blocks after a point -/

section Points
variable {x0 x1 x2 x3 x4 x5 x6}
variable {c : Dev nD} {i : grid0.Coords} {a1 : Memref sig .tc .vmem S512x5632 .bf16} {h1 : a1.IsWhole} {a2 : Memref sig .tc .vmem S5632x1024 .bf16} {h2 : a2.IsWhole} {a3 : Memref sig .tc .vmem S512x1024 .f32} {h3 : a3.IsWhole} {a4 : Memref sig .tc .vmem S512x1024 .f32} {h4 : a4.IsWhole} {a5 : Memref sig .tc .vmem S1x1x1024 .f32} {h5 : a5.IsWhole} {a6 : Memref sig .tc .vmem S512x1024 .f32} {h6 : a6.IsWhole} {a7 : Memref sig .tc .vmem S1x1x1024 .f32} {h7 : a7.IsWhole} {a8 : Memref sig .tc .vmem S512x1024 .f32} {h8 : a8.IsWhole} {a9 : Memref sig .tc .vmem S1x1024 .f32} {h9 : a9.IsWhole} {a10 : Memref sig .tc .vmem S512x1024 .bf16} {h10 : a10.IsWhole} {a11 : Memref sig .tc .vmem S1x1024 .f32} {h11 : a11.IsWhole} {y8 y10 : Vec Ideal S1x1024 .f32}

/-- Zero offsets, of two axes. -/
theorem hz : (![0, 0] : Fin 2 → Nat) = fun _ => 0 := funext fun a => by fin_cases a <;> rfl
/-- Zero offsets, of three axes. -/
theorem hz3 : (![0, 0, 0] : Fin 3 → Nat) = fun _ => 0 := funext fun a => by fin_cases a <;> rfl

/-- A whole row read back is what was stored last. -/
theorem readCov_last (v : View sig .tc .vmem S1x1024 .f32) (inb inb') (u : Vec Ideal S1x1024 .f32) (L : List (View.Piece (Elt Ideal) S1x1024 .f32)) :
    v.readCov (⟨Rect.unit (s := S1x1024) ![0, 0] ![1, 1024] inb', u⟩ :: L) (Rect.unit (s := S1x1024) ![0, 0] ![1, 1024] inb).toLoadRect = u := by
  rw [View.readCov_eq_canon', View.canon_cons_unit_zero (S := S1x1024) hz]
  exact View.ld_unit_zero (S := S1x1024) hz inb u

/-- The block of the first gradient, after a later point. -/
theorem out_B_7 {hc : ¬cond0_0 i} (r : Fin 512) (j : Fin 1024) :
    out0_B_7 c i a1 h1 a2 h2 a3 h3 a4 h4 a5 h5 a6 h6 a7 h7 a8 h8 a9 h9 a10 h10 a11 h11 hc x0 x1 x2 x3 x4 x5 x6 y8 y10 (ix2 r j)
      = dxf x0 x1 x2 x3 (gain x4) r j := by
  unfold out0_B_7
  rw [View.read_writes_eq_canon _ _ _ (cover0_B_7 c i a1 h1 a2 h2 a3 h3 a4 h4 a5 h5 a6 h6 a7 h7 a8 h8 a9 h9 a10 h10 a11 h11 hc x0 x1 x2 x3 x4 x5 x6 y8 y10)]
  unfold kernelRun0_B
  dsimp only
  sl_unfold_words
  simp only [View.readAt_eq_ld, h1.read_unread, h2.read_unread, h3.read_unread, h4.read_unread, h5.read_unread, h6.read_unread, h7.read_unread, h9.read_unread, h11.read_unread, e15, e16, e20, e12, e21,
    View.ld_unit_zero (S := S5632x1024) hz, View.ld_unit_zero (S := S1x1x1024) hz3, View.ld_unit_zero (S := S1x1024) hz]
  obtain ⟨h, k, rfl⟩ := half_surj r
  refine (canon_halves _ _ _ _ _ h k j).trans ?_
  match h with
  | 0 => exact half7 x0 x1 x2 x3 x4 0 _ _ 0 rfl k j
  | 1 => exact half7 x0 x1 x2 x3 x4 256 _ _ 1 rfl k j

/-- The first gain's gradient, after a later point. -/
theorem out_B_8 {hc : ¬cond0_0 i} (j : Fin 1024) :
    out0_B_8 c i a1 h1 a2 h2 a3 h3 a4 h4 a5 h5 a6 h6 a7 h7 a8 h8 a9 h9 a10 h10 a11 h11 hc x0 x1 x2 x3 x4 x5 x6 y8 y10 (ix2 (0 : Fin 1) j)
      = y8 (ix2 (0 : Fin 1) j) + ∑ r : Fin 512, g1f x0 x1 x3 r j := by
  unfold out0_B_8
  rw [View.read_writes_eq_canon _ _ _ (cover0_B_8 c i a1 h1 a2 h2 a3 h3 a4 h4 a5 h5 a6 h6 a7 h7 a8 h8 a9 h9 a10 h10 a11 h11 hc x0 x1 x2 x3 x4 x5 x6 y8 y10)]
  unfold kernelRun0_B
  dsimp only
  sl_unfold_words
  simp only [View.readAt_eq_ld, h1.read_unread, h2.read_unread, h3.read_unread, h4.read_unread, h5.read_unread, h6.read_unread, h7.read_unread, h9.read_unread, h11.read_unread, e15, e16, e20, e12, e21,
    View.ld_unit_zero (S := S5632x1024) hz, View.ld_unit_zero (S := S1x1x1024) hz3, View.ld_unit_zero (S := S1x1024) hz]
  rw [View.canon_cons_unit_zero (S := S1x1024) hz]
  refine (half8 x0 x1 x3 256 _ _ 1 rfl _ j).trans ?_
  rw [readCov_last]
  refine (congrArg (· + _) (half8 x0 x1 x3 0 _ _ 0 rfl _ j)).trans ?_
  rw [sum_halves, add_assoc]

/-- The block of the second gradient, after a later point. -/
theorem out_B_9 {hc : ¬cond0_0 i} (r : Fin 512) (j : Fin 1024) :
    out0_B_9 c i a1 h1 a2 h2 a3 h3 a4 h4 a5 h5 a6 h6 a7 h7 a8 h8 a9 h9 a10 h10 a11 h11 hc x0 x1 x2 x3 x4 x5 x6 y8 y10 (ix2 r j)
      = dyf x0 x1 x2 x3 (gain x4) (gain x6) x5 r j := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 x6 y8 y10)]
  unfold kernelRun0_B
  dsimp only
  sl_unfold_words
  simp only [View.readAt_eq_ld, h1.read_unread, h2.read_unread, h3.read_unread, h4.read_unread, h5.read_unread, h6.read_unread, h7.read_unread, h9.read_unread, h11.read_unread, e15, e16, e20, e12, e21,
    View.ld_unit_zero (S := S5632x1024) hz, View.ld_unit_zero (S := S1x1x1024) hz3, View.ld_unit_zero (S := S1x1024) hz]
  obtain ⟨h, k, rfl⟩ := half_surj r
  refine (canon_halves _ _ _ _ _ h k j).trans ?_
  match h with
  | 0 => exact half9 x0 x1 x2 x3 x4 x5 x6 0 _ _ 0 rfl k j
  | 1 => exact half9 x0 x1 x2 x3 x4 x5 x6 256 _ _ 1 rfl k j

/-- The second gain's gradient, after a later point. -/
theorem out_B_10 {hc : ¬cond0_0 i} (j : Fin 1024) :
    out0_B_10 c i a1 h1 a2 h2 a3 h3 a4 h4 a5 h5 a6 h6 a7 h7 a8 h8 a9 h9 a10 h10 a11 h11 hc x0 x1 x2 x3 x4 x5 x6 y8 y10 (ix2 (0 : Fin 1) j)
      = y10 (ix2 (0 : Fin 1) j) + ∑ r : Fin 512, g2f x0 x1 x2 x3 (gain x4) x5 r j := by
  unfold out0_B_10
  rw [View.read_writes_eq_canon _ _ _ (cover0_B_10 c i a1 h1 a2 h2 a3 h3 a4 h4 a5 h5 a6 h6 a7 h7 a8 h8 a9 h9 a10 h10 a11 h11 hc x0 x1 x2 x3 x4 x5 x6 y8 y10)]
  unfold kernelRun0_B
  dsimp only
  sl_unfold_words
  simp only [View.readAt_eq_ld, h1.read_unread, h2.read_unread, h3.read_unread, h4.read_unread, h5.read_unread, h6.read_unread, h7.read_unread, h9.read_unread, h11.read_unread, e15, e16, e20, e12, e21,
    View.ld_unit_zero (S := S5632x1024) hz, View.ld_unit_zero (S := S1x1x1024) hz3, View.ld_unit_zero (S := S1x1024) hz]
  rw [View.canon_cons_unit_zero (S := S1x1024) hz]
  refine (half10 x0 x1 x2 x3 x4 x5 256 _ _ 1 rfl _ j).trans ?_
  rw [readCov_last]
  refine (congrArg (· + _) (half10 x0 x1 x2 x3 x4 x5 0 _ _ 0 rfl _ j)).trans ?_
  rw [sum_halves, add_assoc]

/-- The block of the first gradient, after the first point. -/
theorem out_A_7 {hc : cond0_0 i} (r : Fin 512) (j : Fin 1024) :
    out0_A_7 c i a1 h1 a2 h2 a3 h3 a4 h4 a5 h5 a6 h6 a7 h7 a8 h8 a9 h9 a10 h10 a11 h11 hc x0 x1 x2 x3 x4 x5 x6 (ix2 r j)
      = dxf x0 x1 x2 x3 (gain x4) r j := by
  unfold out0_A_7
  rw [View.read_writes_eq_canon _ _ _ (cover0_A_7 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h9.read_unread, h11.read_unread, e15, e16, e20, e12, e21,
    View.ld_unit_zero (S := S5632x1024) hz, View.ld_unit_zero (S := S1x1x1024) hz3, View.ld_unit_zero (S := S1x1024) hz]
  obtain ⟨h, k, rfl⟩ := half_surj r
  refine (canon_halves _ _ _ _ _ h k j).trans ?_
  match h with
  | 0 => exact half7 x0 x1 x2 x3 x4 0 _ _ 0 rfl k j
  | 1 => exact half7 x0 x1 x2 x3 x4 256 _ _ 1 rfl k j

/-- The first gain's gradient, after the first point. -/
theorem out_A_8 {hc : cond0_0 i} (j : Fin 1024) :
    out0_A_8 c i a1 h1 a2 h2 a3 h3 a4 h4 a5 h5 a6 h6 a7 h7 a8 h8 a9 h9 a10 h10 a11 h11 hc x0 x1 x2 x3 x4 x5 x6 (ix2 (0 : Fin 1) j)
      = 0 + ∑ r : Fin 512, g1f x0 x1 x3 r j := by
  unfold out0_A_8
  rw [View.read_writes_eq_canon _ _ _ (cover0_A_8 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h9.read_unread, h11.read_unread, e15, e16, e20, e12, e21,
    View.ld_unit_zero (S := S5632x1024) hz, View.ld_unit_zero (S := S1x1x1024) hz3, View.ld_unit_zero (S := S1x1024) hz]
  rw [View.canon_cons_unit_zero (S := S1x1024) hz]
  refine (half8 x0 x1 x3 256 _ _ 1 rfl _ j).trans ?_
  rw [readCov_last]
  refine (congrArg (· + _) (half8 x0 x1 x3 0 _ _ 0 rfl _ j)).trans ?_
  rw [sum_halves, add_assoc]
  rw [readCov_last, show k0_pay5 (F := Ideal) (ix2 (0 : Fin 1) j) = 0 from pay5_apply _]

/-- The block of the second gradient, after the first point. -/
theorem out_A_9 {hc : cond0_0 i} (r : Fin 512) (j : Fin 1024) :
    out0_A_9 c i a1 h1 a2 h2 a3 h3 a4 h4 a5 h5 a6 h6 a7 h7 a8 h8 a9 h9 a10 h10 a11 h11 hc x0 x1 x2 x3 x4 x5 x6 (ix2 r j)
      = dyf x0 x1 x2 x3 (gain x4) (gain x6) x5 r j := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h9.read_unread, h11.read_unread, e15, e16, e20, e12, e21,
    View.ld_unit_zero (S := S5632x1024) hz, View.ld_unit_zero (S := S1x1x1024) hz3, View.ld_unit_zero (S := S1x1024) hz]
  obtain ⟨h, k, rfl⟩ := half_surj r
  refine (canon_halves _ _ _ _ _ h k j).trans ?_
  match h with
  | 0 => exact half9 x0 x1 x2 x3 x4 x5 x6 0 _ _ 0 rfl k j
  | 1 => exact half9 x0 x1 x2 x3 x4 x5 x6 256 _ _ 1 rfl k j

/-- The second gain's gradient, after the first point. -/
theorem out_A_10 {hc : cond0_0 i} (j : Fin 1024) :
    out0_A_10 c i a1 h1 a2 h2 a3 h3 a4 h4 a5 h5 a6 h6 a7 h7 a8 h8 a9 h9 a10 h10 a11 h11 hc x0 x1 x2 x3 x4 x5 x6 (ix2 (0 : Fin 1) j)
      = 0 + ∑ r : Fin 512, g2f x0 x1 x2 x3 (gain x4) x5 r j := by
  unfold out0_A_10
  rw [View.read_writes_eq_canon _ _ _ (cover0_A_10 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h9.read_unread, h11.read_unread, e15, e16, e20, e12, e21,
    View.ld_unit_zero (S := S5632x1024) hz, View.ld_unit_zero (S := S1x1x1024) hz3, View.ld_unit_zero (S := S1x1024) hz]
  rw [View.canon_cons_unit_zero (S := S1x1024) hz]
  refine (half10 x0 x1 x2 x3 x4 x5 256 _ _ 1 rfl _ j).trans ?_
  rw [readCov_last]
  refine (congrArg (· + _) (half10 x0 x1 x2 x3 x4 x5 0 _ _ 0 rfl _ j)).trans ?_
  rw [sum_halves, add_assoc]
  rw [readCov_last, show k0_pay6 (F := Ideal) (ix2 (0 : Fin 1) j) = 0 from pay6_apply _]

end Points

end Cert.FfnInIdeal.RefValue

end
-- ==== Proof.FfnArr.lean ====
/-
  The four results of the product with the two normalisations' gradients after the run, element by element, as functions
  of the seven operands.
-/
module

public import proofs.«01_k».proof.Proof.At
public import proofs.«01_k».proof.Proof.FfnOut
public import proofs.«01_k».proof.Proof.Upto

@[expose] public section

set_option maxRecDepth 16384

noncomputable section

namespace Cert.Rows

open Idealize.ShloMosaic Idealize.ShloMosaic.ValueIdx
open scoped BigOperators

/-- Row `r` of the `n`-th block of 512 of 8192 rows. -/
def blockRow (n : ℕ) (hn : n < 16) (r : Fin 512) : Fin 8192 := ⟨512 * n + r.val, by omega⟩

/-- Contents that start at the first block's sum, and to which each further block's sum is added, are the sum of all
    blocks. -/
theorem chain {N : ℕ} (hN : N = 16) (f : Fin 8192 → EReal) (a : (n : ℕ) → n < N → EReal)
    (h0 : ∀ hn, a 0 hn = 0 + ∑ r, f (blockRow 0 (by decide) r))
    (hs : ∀ n hn, a (n + 1) hn = a n (Nat.lt_of_succ_lt hn) + ∑ r, f (blockRow (n + 1) (by omega) r)) (h15 : 15 < N) :
    a 15 h15 = ∑ p, f p := by
  have : ∀ n hn, a n hn = upto f (512 * n + 512) := by
    intro n
    induction n with
    | zero =>
      intro hn
      rw [h0, upto_add f (512 * 0) 512 (by omega), show upto f (512 * 0) = 0 from upto_zero _]
      rfl
    | succ n ih =>
      intro hn
      rw [hs, ih, upto_add f (512 * (n + 1)) 512 (by omega)]
      rfl
  exact (this 15 h15).trans (upto_all f)

section Blocks
variable {n n' K : ℕ} {A : (⟨2, ![n, K]⟩ : Shape).Idx → EReal} {A' : (⟨2, ![n', K]⟩ : Shape).Idx → EReal} (W : (⟨2, ![K, 1024]⟩ : Shape).Idx → EReal)
  {D X Y : (⟨2, ![n, 1024]⟩ : Shape).Idx → EReal} {D' X' Y' : (⟨2, ![n', 1024]⟩ : Shape).Idx → EReal} (G G2 : Fin 1024 → EReal) {r : Fin n} {p : Fin n'}

/-- Equal rows are equal functions. -/
theorem row_congr {X : (⟨2, ![n, 1024]⟩ : Shape).Idx → EReal} {X' : (⟨2, ![n', 1024]⟩ : Shape).Idx → EReal} (hX : ∀ l, X (ix2 r l) = X' (ix2 p l)) : row X r = row X' p := funext hX

/-- Equal rows have equal products. -/
theorem dhf_congr (hA : ∀ l, A (ix2 r l) = A' (ix2 p l)) (j) : dhf A W r j = dhf A' W p j :=
  Finset.sum_congr rfl fun l _ => congrArg (· * W (ix2 l j)) (hA l)

/-- Equal rows have equal first gradients. -/
theorem dxf_congr (hA : ∀ l, A (ix2 r l) = A' (ix2 p l)) (hD : ∀ l, D (ix2 r l) = D' (ix2 p l)) (hX : ∀ l, X (ix2 r l) = X' (ix2 p l)) (j) :
    dxf A W D X G r j = dxf A' W D' X' G p j := by
  simp only [dxf, dhf_congr W hA, hD, row_congr hX]

/-- Equal rows have equal parts in the first gain's gradient. -/
theorem g1f_congr (hA : ∀ l, A (ix2 r l) = A' (ix2 p l)) (hX : ∀ l, X (ix2 r l) = X' (ix2 p l)) (j) : g1f A W X r j = g1f A' W X' p j := by
  simp only [g1f, dhf_congr W hA, row_congr hX, hX]

/-- Equal rows have equal second gradients. -/
theorem dyf_congr (hA : ∀ l, A (ix2 r l) = A' (ix2 p l)) (hD : ∀ l, D (ix2 r l) = D' (ix2 p l)) (hX : ∀ l, X (ix2 r l) = X' (ix2 p l)) (hY : ∀ l, Y (ix2 r l) = Y' (ix2 p l)) (j) :
    dyf A W D X G G2 Y r j = dyf A' W D' X' G G2 Y' p j := by
  simp only [dyf, dxf_congr W G hA hD hX, row_congr hY]

/-- Equal rows have equal parts in the second gain's gradient. -/
theorem g2f_congr (hA : ∀ l, A (ix2 r l) = A' (ix2 p l)) (hD : ∀ l, D (ix2 r l) = D' (ix2 p l)) (hX : ∀ l, X (ix2 r l) = X' (ix2 p l)) (hY : ∀ l, Y (ix2 r l) = Y' (ix2 p l)) (j) :
    g2f A W D X G Y r j = g2f A' W D' X' G Y' p j := by
  simp only [g2f, dxf_congr W G hA hD hX, row_congr hY, hY]
end Blocks

end Cert.Rows

namespace Cert.FfnInIdeal.RefValue

open Cert.At (entry2 same2 entry3 whole block)
open Cert.FfnInIdeal Cert.FfnInIdeal.Gen Cert.Rows Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg) (c : Dev nD)

/-- The product's left side. -/
abbrev argA : S8192x5632.Idx → EReal := m ((c : Thread nD τ).loc main_arg0)
/-- The weights. -/
abbrev argW : S5632x1024.Idx → EReal := m ((c : Thread nD τ).loc main_arg1)
/-- The gradient that came past the branch. -/
abbrev argD : S8192x1024.Idx → EReal := m ((c : Thread nD τ).loc main_arg2)
/-- The first norm's rows. -/
abbrev argX : S8192x1024.Idx → EReal := m ((c : Thread nD τ).loc main_arg3)
/-- The first norm's gain. -/
abbrev argG : Fin 1024 → EReal := fun k => (m ((c : Thread nD τ).loc main_arg4) : S4x1x1024.Idx → EReal) (ix3 (0 : Fin 4) (0 : Fin 1) k)
/-- The second norm's rows. -/
abbrev argY : S8192x1024.Idx → EReal := m ((c : Thread nD τ).loc main_arg5)
/-- The second norm's gain. -/
abbrev argG2 : Fin 1024 → EReal := fun k => (m ((c : Thread nD τ).loc main_arg6) : S4x1x1024.Idx → EReal) (ix3 (0 : Fin 4) (0 : Fin 1) k)

/-- There are sixteen points. -/
theorem lt16 (t : Fin cfg0.N) : t.val < 16 := by have hN : cfg0.N = 16 := N_0; have := t.isLt; omega

/-- Row `r` of point `t`'s block. -/
abbrev prow (t : Fin cfg0.N) (r : Fin 512) : Fin 8192 := blockRow t.val (lt16 t) r

/-- The windows over rows are at the point's block of rows. -/
theorem index_rows : ∀ t : Fin cfg0.N, (win0_0.index t 0 = t.val ∧ win0_0.index t 1 = 0) ∧ (win0_2.index t 0 = t.val ∧ win0_2.index t 1 = 0) ∧ (win0_3.index t 0 = t.val ∧ win0_3.index t 1 = 0) ∧ (win0_5.index t 0 = t.val ∧ win0_5.index t 1 = 0) ∧ (win0_7.index t 0 = t.val ∧ win0_7.index t 1 = 0) ∧ (win0_9.index t 0 = t.val ∧ win0_9.index t 1 = 0) :=
  (by decide +kernel : ∀ t : Fin grid0.N, (win0_0.index t 0 = t.val ∧ win0_0.index t 1 = 0) ∧ (win0_2.index t 0 = t.val ∧ win0_2.index t 1 = 0) ∧ (win0_3.index t 0 = t.val ∧ win0_3.index t 1 = 0) ∧ (win0_5.index t 0 = t.val ∧ win0_5.index t 1 = 0) ∧ (win0_7.index t 0 = t.val ∧ win0_7.index t 1 = 0) ∧ (win0_9.index t 0 = t.val ∧ win0_9.index t 1 = 0))

/-- The other windows stand still. -/
theorem index_whole : ∀ t : Fin cfg0.N, (win0_1.index t 0 = 0 ∧ win0_1.index t 1 = 0) ∧ (win0_4.index t 0 = 0 ∧ win0_4.index t 1 = 0 ∧ win0_4.index t 2 = 0) ∧ (win0_6.index t 0 = 0 ∧ win0_6.index t 1 = 0 ∧ win0_6.index t 2 = 0) ∧ (win0_8.index t 0 = 0 ∧ win0_8.index t 1 = 0) ∧ (win0_10.index t 0 = 0 ∧ win0_10.index t 1 = 0) :=
  (by decide +kernel : ∀ t : Fin grid0.N, (win0_1.index t 0 = 0 ∧ win0_1.index t 1 = 0) ∧ (win0_4.index t 0 = 0 ∧ win0_4.index t 1 = 0 ∧ win0_4.index t 2 = 0) ∧ (win0_6.index t 0 = 0 ∧ win0_6.index t 1 = 0 ∧ win0_6.index t 2 = 0) ∧ (win0_8.index t 0 = 0 ∧ win0_8.index t 1 = 0) ∧ (win0_10.index t 0 = 0 ∧ win0_10.index t 1 = 0))

/-! ### The blocks of the operands -/

/-- The left side's block. -/
theorem blk0 (t : Fin cfg0.N) (r : Fin 512) (d : Fin 5632) : (iblk m c 0 t : Vec Ideal S512x5632 .bf16) (ix2 r d) = argA m c (ix2 (prow t r) d) :=
  entry2 (argA m c) _ (block (index_rows t).1.1 512 r.val) (whole (index_rows t).1.2 5632 d.val)

/-- The past gradient's block. -/
theorem blk2 (t : Fin cfg0.N) (r : Fin 512) (d : Fin 1024) : (iblk m c 2 t : Vec Ideal S512x1024 .f32) (ix2 r d) = argD m c (ix2 (prow t r) d) :=
  entry2 (argD m c) _ (block (index_rows t).2.1.1 512 r.val) (whole (index_rows t).2.1.2 1024 d.val)

/-- The first rows' block. -/
theorem blk3 (t : Fin cfg0.N) (r : Fin 512) (d : Fin 1024) : (iblk m c 3 t : Vec Ideal S512x1024 .f32) (ix2 r d) = argX m c (ix2 (prow t r) d) :=
  entry2 (argX m c) _ (block (index_rows t).2.2.1.1 512 r.val) (whole (index_rows t).2.2.1.2 1024 d.val)

/-- The second rows' block. -/
theorem blk5 (t : Fin cfg0.N) (r : Fin 512) (d : Fin 1024) : (iblk m c 5 t : Vec Ideal S512x1024 .f32) (ix2 r d) = argY m c (ix2 (prow t r) d) :=
  entry2 (argY m c) _ (block (index_rows t).2.2.2.1.1 512 r.val) (whole (index_rows t).2.2.2.1.2 1024 d.val)

/-- The weights' block is the weights. -/
theorem blk1 (t : Fin cfg0.N) : (iblk m c 1 t : Vec Ideal S5632x1024 .bf16) = argW m c :=
  funext fun j => same2 (argW m c) _ j (whole (index_whole t).1.1 5632 (j 0).val) (whole (index_whole t).1.2 1024 (j 1).val)

/-- The first gain's block is the first layer's gain. -/
theorem blk4 (t : Fin cfg0.N) : gain (iblk m c 4 t : Vec Ideal S1x1x1024 .f32) = argG m c :=
  funext fun k => entry3 (m ((c : Thread nD τ).loc main_arg4) : S4x1x1024.Idx → EReal) _ (whole (index_whole t).2.1.1 1 0) (whole (index_whole t).2.1.2.1 1 0) (whole (index_whole t).2.1.2.2 1024 k.val)

/-- The second gain's block is the first layer's gain. -/
theorem blk6 (t : Fin cfg0.N) : gain (iblk m c 6 t : Vec Ideal S1x1x1024 .f32) = argG2 m c :=
  funext fun k => entry3 (m ((c : Thread nD τ).loc main_arg6) : S4x1x1024.Idx → EReal) _ (whole (index_whole t).2.2.1.1 1 0) (whole (index_whole t).2.2.1.2.1 1 0) (whole (index_whole t).2.2.1.2.2 1024 k.val)

/-! ### After each point -/

/-- The block of the first gradient after point `t`. -/
theorem outs7 (t : Fin cfg0.N) (r : Fin 512) (j : Fin 1024) :
    (outsAt0 m c t.val t.isLt).1 (ix2 r j) = dxf (argA m c) (argW m c) (argD m c) (argX m c) (argG m c) (prow t r) j := by
  by_cases h0 : t.val % 16 = 0
  · have e := congrFun (congrArg (fun x => x.1) (outsAt0_A m c t h0)) (ix2 r j)
    dsimp only at e
    refine e.trans ((out_A_7 r j).trans ?_)
    rw [blk1, blk4]
    exact dxf_congr _ _ (blk0 m c t r) (blk2 m c t r) (blk3 m c t r) j
  · have e := congrFun (congrArg (fun x => x.1) (outsAt0_B m c t h0)) (ix2 r j)
    dsimp only at e
    refine e.trans ((out_B_7 r j).trans ?_)
    rw [blk1, blk4]
    exact dxf_congr _ _ (blk0 m c t r) (blk2 m c t r) (blk3 m c t r) j

/-- The block of the second gradient after point `t`. -/
theorem outs9 (t : Fin cfg0.N) (r : Fin 512) (j : Fin 1024) :
    (outsAt0 m c t.val t.isLt).2.2.1 (ix2 r j) = dyf (argA m c) (argW m c) (argD m c) (argX m c) (argG m c) (argG2 m c) (argY m c) (prow t r) j := by
  by_cases h0 : t.val % 16 = 0
  · have e := congrFun (congrArg (fun x => x.2.2.1) (outsAt0_A m c t h0)) (ix2 r j)
    dsimp only at e
    refine e.trans ((out_A_9 r j).trans ?_)
    rw [blk1, blk4, blk6]
    exact dyf_congr _ _ _ (blk0 m c t r) (blk2 m c t r) (blk3 m c t r) (blk5 m c t r) j
  · have e := congrFun (congrArg (fun x => x.2.2.1) (outsAt0_B m c t h0)) (ix2 r j)
    dsimp only at e
    refine e.trans ((out_B_9 r j).trans ?_)
    rw [blk1, blk4, blk6]
    exact dyf_congr _ _ _ (blk0 m c t r) (blk2 m c t r) (blk3 m c t r) (blk5 m c t r) j

/-- The first point leaves its own rows' part of the first gain's gradient. -/
theorem first8 (t : Fin cfg0.N) (h0 : t.val % 16 = 0) (j : Fin 1024) :
    (outsAt0 m c t.val t.isLt).2.1 (ix2 (0 : Fin 1) j) = 0 + ∑ r, g1f (argA m c) (argW m c) (argX m c) (prow t r) j := by
  have e := congrFun (congrArg (fun x => x.2.1) (outsAt0_A m c t h0)) (ix2 (0 : Fin 1) j)
  dsimp only at e
  refine e.trans ((out_A_8 j).trans ?_)
  rw [blk1]
  exact congrArg (0 + ·) (Finset.sum_congr rfl fun r _ => g1f_congr _ (blk0 m c t r) (blk3 m c t r) j)

/-- Each later point adds its rows' part. -/
theorem next8 (t : Fin cfg0.N) (h0 : ¬t.val % 16 = 0) (j : Fin 1024) :
    (outsAt0 m c t.val t.isLt).2.1 (ix2 (0 : Fin 1) j)
      = (outsAt0 m c (t.val - 1) (Nat.lt_of_le_of_lt (Nat.sub_le _ _) t.isLt)).2.1 (ix2 (0 : Fin 1) j) + ∑ r, g1f (argA m c) (argW m c) (argX m c) (prow t r) j := by
  have e := congrFun (congrArg (fun x => x.2.1) (outsAt0_B m c t h0)) (ix2 (0 : Fin 1) j)
  dsimp only at e
  refine e.trans ((out_B_8 j).trans ?_)
  rw [blk1]
  exact congrArg ((outsAt0 m c (t.val - 1) (Nat.lt_of_le_of_lt (Nat.sub_le _ _) t.isLt)).2.1 (ix2 (0 : Fin 1) j) + ·) (Finset.sum_congr rfl fun r _ => g1f_congr _ (blk0 m c t r) (blk3 m c t r) j)

/-- The first point leaves its own rows' part of the second gain's gradient. -/
theorem first10 (t : Fin cfg0.N) (h0 : t.val % 16 = 0) (j : Fin 1024) :
    (outsAt0 m c t.val t.isLt).2.2.2 (ix2 (0 : Fin 1) j) = 0 + ∑ r, g2f (argA m c) (argW m c) (argD m c) (argX m c) (argG m c) (argY m c) (prow t r) j := by
  have e := congrFun (congrArg (fun x => x.2.2.2) (outsAt0_A m c t h0)) (ix2 (0 : Fin 1) j)
  dsimp only at e
  refine e.trans ((out_A_10 j).trans ?_)
  rw [blk1, blk4]
  exact congrArg (0 + ·) (Finset.sum_congr rfl fun r _ => g2f_congr _ _ (blk0 m c t r) (blk2 m c t r) (blk3 m c t r) (blk5 m c t r) j)

/-- Each later point adds its rows' part. -/
theorem next10 (t : Fin cfg0.N) (h0 : ¬t.val % 16 = 0) (j : Fin 1024) :
    (outsAt0 m c t.val t.isLt).2.2.2 (ix2 (0 : Fin 1) j)
      = (outsAt0 m c (t.val - 1) (Nat.lt_of_le_of_lt (Nat.sub_le _ _) t.isLt)).2.2.2 (ix2 (0 : Fin 1) j) + ∑ r, g2f (argA m c) (argW m c) (argD m c) (argX m c) (argG m c) (argY m c) (prow t r) j := by
  have e := congrFun (congrArg (fun x => x.2.2.2) (outsAt0_B m c t h0)) (ix2 (0 : Fin 1) j)
  dsimp only at e
  refine e.trans ((out_B_10 j).trans ?_)
  rw [blk1, blk4]
  exact congrArg ((outsAt0 m c (t.val - 1) (Nat.lt_of_le_of_lt (Nat.sub_le _ _) t.isLt)).2.2.2 (ix2 (0 : Fin 1) j) + ·) (Finset.sum_congr rfl fun r _ => g2f_congr _ _ (blk0 m c t r) (blk2 m c t r) (blk3 m c t r) (blk5 m c t r) j)

/-! ### The arrays after the run -/

/-- The last point. -/
theorem last : 15 < cfg0.N := by rw [show cfg0.N = 16 from N_0]; decide

/-- The first gradient. -/
theorem arr7 (p : Fin 8192) (j : Fin 1024) :
    (dats m 0 c).arrAt 7 cfg0.N (ix2 p j) = dxf (argA m c) (argW m c) (argD m c) (argX m c) (argG m c) p j := by
  have hN : cfg0.N = 16 := N_0
  let t : Fin cfg0.N := ⟨p.val / 512, by omega⟩
  let r : Fin 512 := ⟨p.val % 512, Nat.mod_lt _ (by decide)⟩
  have hp : prow t r = p := Fin.ext (Nat.div_add_mod p.val 512)
  have hb := congrFun (Value.blocks7 m c t (flush0_7 t)) (ix2 r j)
  rw [View.read_apply] at hb
  have hi : ((cfg0.win 7).blk t).view.emb (ix2 r j) = (ix2 p j : S8192x1024.Idx) :=
    entry2 id _ (block (index_rows t).2.2.2.2.1.1 512 r.val |>.trans (congrArg Fin.val hp)) (whole (index_rows t).2.2.2.2.1.2 1024 j.val)
  rw [hi] at hb
  refine hb.trans ?_
  rw [Value.flushed7]
  exact (outs7 m c t r j).trans (by rw [hp])

/-- The second gradient. -/
theorem arr9 (p : Fin 8192) (j : Fin 1024) :
    (dats m 0 c).arrAt 9 cfg0.N (ix2 p j) = dyf (argA m c) (argW m c) (argD m c) (argX m c) (argG m c) (argG2 m c) (argY m c) p j := by
  have hN : cfg0.N = 16 := N_0
  let t : Fin cfg0.N := ⟨p.val / 512, by omega⟩
  let r : Fin 512 := ⟨p.val % 512, Nat.mod_lt _ (by decide)⟩
  have hp : prow t r = p := Fin.ext (Nat.div_add_mod p.val 512)
  have hb := congrFun (Value.blocks9 m c t (flush0_9 t)) (ix2 r j)
  rw [View.read_apply] at hb
  have hi : ((cfg0.win 9).blk t).view.emb (ix2 r j) = (ix2 p j : S8192x1024.Idx) :=
    entry2 id _ (block (index_rows t).2.2.2.2.2.1 512 r.val |>.trans (congrArg Fin.val hp)) (whole (index_rows t).2.2.2.2.2.2 1024 j.val)
  rw [hi] at hb
  refine hb.trans ?_
  rw [Value.flushed9]
  exact (outs9 m c t r j).trans (by rw [hp])

/-- The first gain's gradient is written back after the last point. -/
theorem flushed8_eq (t : Fin cfg0.N) (hf : (cfg0.win 8).flush t = true) :
    (dats m 0 c).flushed 8 t = ((cfg0.win 8).blk t).view.read (Elt Ideal) ((outsAt0 m c 15 last).2.1 : Buf (Elt Ideal) ((c : Thread nD τ).loc main_v0_1)) := by
  have ht : t.val = 15 := by have := (flush0_8 t).mp hf; have := lt16 t; omega
  obtain rfl : t = ⟨15, last⟩ := Fin.ext ht
  rw [Value.flushed8]
  have hz' : (fun a => win0_8.index (⟨15, last⟩ : Fin cfg0.N) a * main_v0_1.ty.shape.size a) = fun _ => 0 := funext fun a => by fin_cases a <;> decide +kernel
  exact (Memref.read_access_unit_zero (Elt Ideal) main_v0_1 hz' (fun a => by rw [congrFun hz' a]; simp) ((outsAt0 m c 15 last).2.1 : Buf (Elt Ideal) ((c : Thread nD τ).loc main_v0_1))).symm

/-- The first gain's gradient in the array is what the last point left. -/
theorem final8 : (dats m 0 c).arrAt 8 cfg0.N = ((outsAt0 m c 15 last).2.1 : Buf (Elt Ideal) ((c : Thread nD τ).loc main_v0_1)) :=
  (dats m 0 c).arrAt_eq_of_cover 8 _ (flushed8_eq m c) fun i =>
    ⟨⟨15, last⟩, (flush0_8 _).mpr rfl, by
      show i ∈ ((View.whole main_v0_1).slice (win0_8.rect ⟨15, last⟩)).set
      rw [View.set_slice_whole, Rect.mem_set_unit]
      intro a
      have h0 : (i 0 : Nat) < 1 := (i 0).isLt
      have h1 : (i 1 : Nat) < 1024 := (i 1).isLt
      match a with
      | ⟨0, _⟩ => show win0_8.index ⟨15, last⟩ 0 * 1 ≤ (i 0 : Nat) ∧ (i 0 : Nat) < win0_8.index ⟨15, last⟩ 0 * 1 + 1
                  rw [(index_whole _).2.2.2.1.1]; omega
      | ⟨1, _⟩ => show win0_8.index ⟨15, last⟩ 1 * 1024 ≤ (i 1 : Nat) ∧ (i 1 : Nat) < win0_8.index ⟨15, last⟩ 1 * 1024 + 1024
                  rw [(index_whole _).2.2.2.1.2]; omega⟩

/-- The first gain's gradient. -/
theorem arr8 (j : Fin 1024) : (dats m 0 c).arrAt 8 cfg0.N (ix2 (0 : Fin 1) j) = ∑ p, g1f (argA m c) (argW m c) (argX m c) p j := by
  have hN : cfg0.N = 16 := N_0
  rw [final8]
  exact chain hN (fun p => g1f (argA m c) (argW m c) (argX m c) p j) (fun n hn => (outsAt0 m c n hn).2.1 (ix2 (0 : Fin 1) j))
    (fun hn => first8 m c ⟨0, hn⟩ rfl j) (fun n hn => next8 m c ⟨n + 1, hn⟩ (by dsimp only; omega) j) last

/-- The second gain's gradient is written back after the last point. -/
theorem flushed10_eq (t : Fin cfg0.N) (hf : (cfg0.win 10).flush t = true) :
    (dats m 0 c).flushed 10 t = ((cfg0.win 10).blk t).view.read (Elt Ideal) ((outsAt0 m c 15 last).2.2.2 : Buf (Elt Ideal) ((c : Thread nD τ).loc main_v0_3)) := by
  have ht : t.val = 15 := by have := (flush0_10 t).mp hf; have := lt16 t; omega
  obtain rfl : t = ⟨15, last⟩ := Fin.ext ht
  rw [Value.flushed10]
  have hz' : (fun a => win0_10.index (⟨15, last⟩ : Fin cfg0.N) a * main_v0_3.ty.shape.size a) = fun _ => 0 := funext fun a => by fin_cases a <;> decide +kernel
  exact (Memref.read_access_unit_zero (Elt Ideal) main_v0_3 hz' (fun a => by rw [congrFun hz' a]; simp) ((outsAt0 m c 15 last).2.2.2 : Buf (Elt Ideal) ((c : Thread nD τ).loc main_v0_3))).symm

/-- The second gain's gradient in the array is what the last point left. -/
theorem final10 : (dats m 0 c).arrAt 10 cfg0.N = ((outsAt0 m c 15 last).2.2.2 : Buf (Elt Ideal) ((c : Thread nD τ).loc main_v0_3)) :=
  (dats m 0 c).arrAt_eq_of_cover 10 _ (flushed10_eq m c) fun i =>
    ⟨⟨15, last⟩, (flush0_10 _).mpr rfl, by
      show i ∈ ((View.whole main_v0_3).slice (win0_10.rect ⟨15, last⟩)).set
      rw [View.set_slice_whole, Rect.mem_set_unit]
      intro a
      have h0 : (i 0 : Nat) < 1 := (i 0).isLt
      have h1 : (i 1 : Nat) < 1024 := (i 1).isLt
      match a with
      | ⟨0, _⟩ => show win0_10.index ⟨15, last⟩ 0 * 1 ≤ (i 0 : Nat) ∧ (i 0 : Nat) < win0_10.index ⟨15, last⟩ 0 * 1 + 1
                  rw [(index_whole _).2.2.2.2.1]; omega
      | ⟨1, _⟩ => show win0_10.index ⟨15, last⟩ 1 * 1024 ≤ (i 1 : Nat) ∧ (i 1 : Nat) < win0_10.index ⟨15, last⟩ 1 * 1024 + 1024
                  rw [(index_whole _).2.2.2.2.2]; omega⟩

/-- The second gain's gradient. -/
theorem arr10 (j : Fin 1024) : (dats m 0 c).arrAt 10 cfg0.N (ix2 (0 : Fin 1) j) = ∑ p, g2f (argA m c) (argW m c) (argD m c) (argX m c) (argG m c) (argY m c) p j := by
  have hN : cfg0.N = 16 := N_0
  rw [final10]
  exact chain hN (fun p => g2f (argA m c) (argW m c) (argD m c) (argX m c) (argG m c) (argY m c) p j) (fun n hn => (outsAt0 m c n hn).2.2.2 (ix2 (0 : Fin 1) j))
    (fun hn => first10 m c ⟨0, hn⟩ rfl j) (fun n hn => next10 m c ⟨n + 1, hn⟩ (by dsimp only; omega) j) last

end Cert.FfnInIdeal.RefValue

end
-- ==== Proof.FfnRef.lean ====
/-
  The reference's four results for the product with the two normalisations' gradients, element by element: the same
  functions of the operands as the kernel's.
-/
module

public import proofs.«01_k».proof.Proof.FfnOut
public import proofs.«01_k».proof.Proof.Gen.FfnInRefIdeal.Read

@[expose] public section

set_option maxRecDepth 16384

noncomputable section

namespace Cert.FfnInRefIdeal.RefValue

open Cert.FfnInRefIdeal Cert.FfnInRefIdeal.Gen Cert.FfnInRefIdeal.Read Cert.Rows Idealize.ShloMosaic Idealize.ShloMosaic.TcCoe Idealize.SL.Sem Idealize.ShloMosaic.ValueIdx
open scoped BigOperators

variable (x0 : (⟨S8192x5632, .bf16⟩ : BufTy).Contents (Elt Ideal)) (x1 : (⟨S5632x1024, .bf16⟩ : BufTy).Contents (Elt Ideal))
  (x2 x3 : (⟨S8192x1024, .f32⟩ : BufTy).Contents (Elt Ideal)) (x4 : (⟨S4x1x1024, .f32⟩ : BufTy).Contents (Elt Ideal))
  (x5 : (⟨S8192x1024, .f32⟩ : BufTy).Contents (Elt Ideal)) (x6 : (⟨S4x1x1024, .f32⟩ : BufTy).Contents (Elt Ideal))

/-- The first layer's gain. -/
abbrev layer (x : (⟨S4x1x1024, .f32⟩ : BufTy).Contents (Elt Ideal)) : Fin 1024 → EReal := fun k => x (ix3 (0 : Fin 4) (0 : Fin 1) k)

/-! ### The norm and the gain -/

/-- The mean square of a row, with the small constant. -/
theorem ref8 (x : (⟨S8192x1024, .f32⟩ : BufTy).Contents (Elt Ideal)) (p : Fin 8192) (z : Fin 1) : val_main_v8 (F := Ideal) x (ix2 p z) = msq (row x p) := by
  rw [val_main_v8_apply, val_main_v6_apply, val_main_v4_apply, val_main_v3_apply, val_main_cst_apply, val_main_v5_apply, val_main_v7_apply]
  refine congrArg (fun s => Ideal.div s width + eps) ((congrArg₂ (· + ·) Ideal.ofBits_zero_f32 (Finset.sum_congr rfl fun l _ => ?_)).trans (zero_add _))
  rw [val_main_v2_apply]
  have hi : idx_main_v3 (idx_main_v4 (ix2 p z)) l = ix2 p l := funext fun a => match a with | ⟨0, _⟩ => rfl | ⟨1, _⟩ => rfl
  rw [hi]
  rfl

/-- The factor of a row. -/
theorem ref9 (x : (⟨S8192x1024, .f32⟩ : BufTy).Contents (Elt Ideal)) (p : Fin 8192) (z : Fin 1) : val_main_v9 (F := Ideal) x (ix2 p z) = rt (row x p) := by
  rw [val_main_v9_apply, ref8]
  rfl

/-- The factor over the mean square, times minus one half. -/
theorem ref12 (x : (⟨S8192x1024, .f32⟩ : BufTy).Contents (Elt Ideal)) (p : Fin 8192) (z : Fin 1) :
    val_main_v12 (F := Ideal) x (ix2 p z) = mhalf * Ideal.div (rt (row x p)) (msq (row x p)) := by
  rw [val_main_v12_apply, val_main_v11_apply, val_main_v10_apply, ref9, ref8]
  rfl

/-- The factor, spread over the columns. -/
theorem ref13 (x : (⟨S8192x1024, .f32⟩ : BufTy).Contents (Elt Ideal)) (p : Fin 8192) (j : Fin 1024) : val_main_v13 (F := Ideal) x (ix2 p j) = rt (row x p) := by
  rw [val_main_v13_apply]
  refine (congrArg _ ?_).trans (ref9 x p 0)
  exact funext fun a => match a with | ⟨0, _⟩ => rfl | ⟨1, _⟩ => rfl

/-- The gain, spread over the rows. -/
theorem ref25 (p : Fin 8192) (j : Fin 1024) : val_main_v25 (F := Ideal) x4 (ix2 p j) = layer x4 j := by
  rw [val_main_v25_apply, val_main_v1_apply, val_main_v0_apply]
  refine congrArg x4 (funext fun a => Fin.ext ?_)
  match a with
  | ⟨0, _⟩ => rfl
  | ⟨1, _⟩ => rfl
  | ⟨2, _⟩ => show (0 * 1024 + j.val) % 1024 = j.val; omega

/-! ### The first norm -/

/-- The product. -/
theorem ref21 (p : Fin 8192) (j : Fin 1024) : val_main_v21 (F := Ideal) x0 x1 (ix2 p j) = dhf x0 x1 p j := by
  rw [val_main_v21_apply]
  refine Finset.sum_congr rfl fun l _ => ?_
  rw [val_main_v20_apply, val_main_v18_apply, val_main_v17_apply]
  refine congrArg₂ (· * ·) (congrArg x0 ?_) (congrArg x1 ?_) <;>
    exact funext fun a => match a with | ⟨0, _⟩ => rfl | ⟨1, _⟩ => rfl

/-- The first gain's gradient. -/
theorem ref24 (j : Fin 1024) : val_main_v24 (F := Ideal) x0 x1 x3 (ix2 (0 : Fin 1) j) = ∑ p, g1f x0 x1 x3 p j := by
  rw [val_main_v24_apply, val_main_v23_apply, val_main_cst_3_apply]
  refine (congrArg₂ (· + ·) Ideal.ofBits_zero_f32 (Finset.sum_congr rfl fun p _ => ?_)).trans (zero_add _)
  have hi : idx_main_v23 (idx_main_v24 (ix2 (0 : Fin 1) j)) p = ix2 p j := funext fun a => Fin.ext (match a with
    | ⟨0, _⟩ => rfl
    | ⟨1, _⟩ => by show 0 * 1024 + j.val = j.val; omega)
  rw [hi, val_main_v22_apply, val_main_v14_apply, ref13, ref21]
  exact mul_comm _ _

/-- The gradient with the gain. -/
theorem ref26 (p : Fin 8192) (j : Fin 1024) : val_main_v26 (F := Ideal) x0 x1 x4 (ix2 p j) = dhf x0 x1 p j * layer x4 j := by
  rw [val_main_v26_apply, ref21, ref25]
  rfl

/-- The share of the first norm's factor in the gradient, spread over the columns. -/
theorem ref37 (p : Fin 8192) (j : Fin 1024) : val_main_v37 (F := Ideal) x0 x1 x3 x4 (ix2 p j)
    = Ideal.div ((∑ k, x3 (ix2 p k) * (dhf x0 x1 p k * layer x4 k)) * (mhalf * Ideal.div (rt (row x3 p)) (msq (row x3 p)))) width := by
  rw [val_main_v37_apply, val_main_v36_apply, val_main_cst_6_apply]
  refine (congrArg₂ (· + ·) Ideal.ofBits_zero_f32 (Fin.sum_univ_one _)).trans ((zero_add _).trans ?_)
  have hi : idx_main_v36 (idx_main_v37 (ix2 p j)) 0 = ix2 p (0 : Fin 1) := funext fun a => match a with | ⟨0, _⟩ => rfl | ⟨1, _⟩ => rfl
  rw [hi, val_main_v35_apply, val_main_v33_apply, val_main_v34_apply, ref12, val_main_v29_apply, val_main_v28_apply, val_main_cst_4_apply]
  refine congrArg (fun s => Ideal.div (s * (mhalf * Ideal.div (rt (row x3 p)) (msq (row x3 p)))) width) ((congrArg₂ (· + ·) Ideal.ofBits_zero_f32 (Finset.sum_congr rfl fun l _ => ?_)).trans (zero_add _))
  have hj : idx_main_v28 (idx_main_v29 (ix2 p (0 : Fin 1))) l = ix2 p l := funext fun a => Fin.ext (match a with
    | ⟨0, _⟩ => by show p.val * 1 + 0 = p.val; omega
    | ⟨1, _⟩ => rfl)
  rw [hj, val_main_v27_apply, ref26]
  rfl

/-- The gradient of the first norm's rows, with the gradient that came past the branch. -/
theorem ref41 (p : Fin 8192) (j : Fin 1024) : val_main_v41 (F := Ideal) x0 x1 x2 x3 x4 (ix2 p j) = dxf x0 x1 x2 x3 (layer x4) p j := by
  rw [val_main_v41_apply, val_main_v39_apply, val_main_v32_apply, val_main_v31_apply, val_main_v38_apply, val_main_v40_apply, ref37, ref26, val_main_v30_apply]
  have hi : idx_main_v30 (ix2 p j) = ix2 p (0 : Fin 1) := funext fun a => match a with | ⟨0, _⟩ => rfl | ⟨1, _⟩ => rfl
  rw [hi, ref9]
  exact back_eq (row x3 p) (fun k => dhf x0 x1 p k * layer x4 k) j (x2 (ix2 p j))

/-! ### The second norm -/

/-- The factor of the second norm's rows is the same function. -/
theorem ref51 (p : Fin 8192) (z : Fin 1) : val_main_v51 (F := Ideal) x5 (ix2 p z) = rt (row x5 p) := ref9 x5 p z

/-- So is the factor over the mean square. -/
theorem ref54 (p : Fin 8192) (z : Fin 1) : val_main_v54 (F := Ideal) x5 (ix2 p z) = mhalf * Ideal.div (rt (row x5 p)) (msq (row x5 p)) := ref12 x5 p z

/-- The second gain's gradient. -/
theorem ref61 (j : Fin 1024) : val_main_v61 (F := Ideal) x0 x1 x2 x3 x4 x5 (ix2 (0 : Fin 1) j) = ∑ p, g2f x0 x1 x2 x3 (layer x4) x5 p j := by
  rw [val_main_v61_apply, val_main_v60_apply, val_main_cst_11_apply]
  refine (congrArg₂ (· + ·) Ideal.ofBits_zero_f32 (Finset.sum_congr rfl fun p _ => ?_)).trans (zero_add _)
  have hi : idx_main_v60 (idx_main_v61 (ix2 (0 : Fin 1) j)) p = ix2 p j := funext fun a => Fin.ext (match a with
    | ⟨0, _⟩ => rfl
    | ⟨1, _⟩ => by show 0 * 1024 + j.val = j.val; omega)
  rw [hi, val_main_v59_apply, val_main_v56_apply, ref41, show val_main_v55 (F := Ideal) x5 (ix2 p j) = rt (row x5 p) from ref13 x5 p j]
  exact mul_comm _ _

/-- The first gradient with the second gain. -/
theorem ref63 (p : Fin 8192) (j : Fin 1024) : val_main_v63 (F := Ideal) x0 x1 x2 x3 x4 x6 (ix2 p j) = dxf x0 x1 x2 x3 (layer x4) p j * layer x6 j := by
  rw [val_main_v63_apply, ref41, show val_main_v62 (F := Ideal) x6 (ix2 p j) = layer x6 j from ref25 x6 p j]
  rfl

/-- The share of the second norm's factor in the gradient, spread over the columns. -/
theorem ref73 (p : Fin 8192) (j : Fin 1024) : val_main_v73 (F := Ideal) x0 x1 x2 x3 x4 x5 x6 (ix2 p j)
    = Ideal.div ((∑ k, x5 (ix2 p k) * (dxf x0 x1 x2 x3 (layer x4) p k * layer x6 k)) * (mhalf * Ideal.div (rt (row x5 p)) (msq (row x5 p)))) width := by
  rw [val_main_v73_apply, val_main_v72_apply, val_main_cst_14_apply]
  refine (congrArg₂ (· + ·) Ideal.ofBits_zero_f32 (Fin.sum_univ_one _)).trans ((zero_add _).trans ?_)
  have hi : idx_main_v72 (idx_main_v73 (ix2 p j)) 0 = ix2 p (0 : Fin 1) := funext fun a => match a with | ⟨0, _⟩ => rfl | ⟨1, _⟩ => rfl
  rw [hi, val_main_v71_apply, val_main_v69_apply, val_main_v70_apply, ref54, val_main_v66_apply, val_main_v65_apply, val_main_cst_12_apply]
  refine congrArg (fun s => Ideal.div (s * (mhalf * Ideal.div (rt (row x5 p)) (msq (row x5 p)))) width) ((congrArg₂ (· + ·) Ideal.ofBits_zero_f32 (Finset.sum_congr rfl fun l _ => ?_)).trans (zero_add _))
  have hj : idx_main_v65 (idx_main_v66 (ix2 p (0 : Fin 1))) l = ix2 p l := funext fun a => Fin.ext (match a with
    | ⟨0, _⟩ => by show p.val * 1 + 0 = p.val; omega
    | ⟨1, _⟩ => rfl)
  rw [hj, val_main_v64_apply, ref63]
  rfl

/-- The gradient of the second norm's rows. -/
theorem ref78 (p : Fin 8192) (j : Fin 1024) : val_main_v78 (F := Ideal) x0 x1 x2 x3 x4 x5 x6 (ix2 p j) = dyf x0 x1 x2 x3 (layer x4) (layer x6) x5 p j := by
  rw [val_main_v78_apply, val_main_v77_apply, val_main_v75_apply, val_main_v68_apply, val_main_v74_apply, val_main_v76_apply, ref73, ref63,
    show val_main_v67 (F := Ideal) x5 (ix2 p j) = rt (row x5 p) from ref13 x5 p j]
  have e := back_eq (row x5 p) (fun k => dxf x0 x1 x2 x3 (layer x4) p k * layer x6 k) j 0
  rw [zero_add, zero_add] at e
  exact e

end Cert.FfnInRefIdeal.RefValue

end
-- ==== Proof.FfnEq.lean ====
/-
  The product with the two normalisations' gradients and its reference leave the same four results.
-/
module

public import proofs.«01_k».proof.Proof.FfnArr
public import proofs.«01_k».proof.Proof.FfnRef
public import proofs.«01_k».proof.Proof.Gen.FfnIn.Frame
public import proofs.«01_k».proof.Defs

@[expose] public section

set_option maxRecDepth 16384

noncomputable section

namespace Cert.FfnEq

open Cert.Rows Idealize.ShloMosaic Idealize.ShloMosaic.TcCoe Idealize.SL.Sem Idealize.ShloMosaic.ValueIdx
open Cert.FfnInIdeal.RefValue (argA argW argD argX argG argY argG2 arr7 arr8 arr9 arr10)
open scoped BigOperators

section
open Cert.FfnInIdeal
variable (m : (ℓ : Loc nD τ sig) → Buf (Elt Ideal) ℓ) (c : Dev nD)

/-- The first gain, as the operand holds it. -/
abbrev gains : S4x1x1024.Idx → EReal := m ((c : Thread nD τ).loc main_arg4)
/-- The second gain, as the operand holds it. -/
abbrev gains2 : S4x1x1024.Idx → EReal := m ((c : Thread nD τ).loc main_arg6)

/-- The first gradient of the rows. -/
theorem same7 : (Gen.dats m 0 c).arrAt 7 cfg0.N = Cert.FfnInRefIdeal.Read.val_main_v41 (F := Ideal) (argA m c) (argW m c) (argD m c) (argX m c) (gains m c) := by
  refine funext fun i => ?_
  obtain ⟨p, j, rfl⟩ : ∃ (p : Fin 8192) (j : Fin 1024), i = ix2 p j := ⟨i 0, i 1, eq_ix2 i⟩
  exact (arr7 m c p j).trans (Cert.FfnInRefIdeal.RefValue.ref41 (argA m c) (argW m c) (argD m c) (argX m c) (gains m c) p j).symm

/-- The first gain's gradient. -/
theorem same8 : (Gen.dats m 0 c).arrAt 8 cfg0.N = Cert.FfnInRefIdeal.Read.val_main_v24 (F := Ideal) (argA m c) (argW m c) (argX m c) := by
  refine funext fun i => ?_
  obtain ⟨z, j, rfl⟩ : ∃ (z : Fin 1) (j : Fin 1024), i = ix2 z j := ⟨i 0, i 1, eq_ix2 i⟩
  obtain rfl : z = 0 := Subsingleton.elim _ _
  exact (arr8 m c j).trans (Cert.FfnInRefIdeal.RefValue.ref24 (argA m c) (argW m c) (argX m c) j).symm

/-- The second gradient of the rows. -/
theorem same9 : (Gen.dats m 0 c).arrAt 9 cfg0.N
    = Cert.FfnInRefIdeal.Read.val_main_v78 (F := Ideal) (argA m c) (argW m c) (argD m c) (argX m c) (gains m c) (argY m c) (gains2 m c) := by
  refine funext fun i => ?_
  obtain ⟨p, j, rfl⟩ : ∃ (p : Fin 8192) (j : Fin 1024), i = ix2 p j := ⟨i 0, i 1, eq_ix2 i⟩
  exact (arr9 m c p j).trans (Cert.FfnInRefIdeal.RefValue.ref78 (argA m c) (argW m c) (argD m c) (argX m c) (gains m c) (argY m c) (gains2 m c) p j).symm

/-- The second gain's gradient. -/
theorem same10 : (Gen.dats m 0 c).arrAt 10 cfg0.N
    = Cert.FfnInRefIdeal.Read.val_main_v61 (F := Ideal) (argA m c) (argW m c) (argD m c) (argX m c) (gains m c) (argY m c) := by
  refine funext fun i => ?_
  obtain ⟨z, j, rfl⟩ : ∃ (z : Fin 1) (j : Fin 1024), i = ix2 z j := ⟨i 0, i 1, eq_ix2 i⟩
  obtain rfl : z = 0 := Subsingleton.elim _ _
  exact (arr10 m c j).trans (Cert.FfnInRefIdeal.RefValue.ref61 (argA m c) (argW m c) (argD m c) (argX m c) (gains m c) (argY m c) j).symm

end

/-! ### The frames -/

/-- The frame of the kernel. -/
theorem frame_p : quiescent_FfnIn := fun m ρ _ => Cert.FfnIn.Gen.frame m ρ

/-- The frame of the idealized kernel. -/
theorem frame_pi : quiescent_FfnInIdeal := fun m ρ _ => Cert.FfnInIdeal.Gen.frame m ρ

/-- The frame of the reference: its run ends with its arguments as they were, and it declares no semaphore. -/
theorem frame_ri : quiescent_FfnInRefIdeal := fun m ρ _ =>
  (θ_run Cert.FfnInRefIdeal.defs _ _).mono (fun r h => ⟨fun c => (h c).2.2.2.2, sem_eq_zero_of_no_sems (by decide) r.2⟩)
    (Cert.FfnInRefIdeal.Value.run (F := Ideal) m ρ)

/-- The call computes the gradients of the plain normalisations, the product and the branch. -/
theorem same : algebraic_FfnInIdeal_FfnInRefIdeal := by
  intro m g m' g' hm ha
  refine ⟨fun c => (Cert.FfnInIdeal.Gen.dats m 0 c).arrAt 7 Cert.FfnInIdeal.cfg0.N, fun c => (Cert.FfnInIdeal.Gen.dats m 0 c).arrAt 8 Cert.FfnInIdeal.cfg0.N,
    fun c => (Cert.FfnInIdeal.Gen.dats m 0 c).arrAt 9 Cert.FfnInIdeal.cfg0.N, fun c => (Cert.FfnInIdeal.Gen.dats m 0 c).arrAt 10 Cert.FfnInIdeal.cfg0.N,
    Cert.FfnInIdeal.Value.run_blocks m g, ?_⟩
  refine (θ_run Cert.FfnInRefIdeal.defs _ _).mono (fun r h c => ?_) (Cert.FfnInRefIdeal.Value.run (F := Ideal) m' g')
  obtain ⟨h41, h24, h78, h61, hrest⟩ := h c
  obtain ⟨a0, a1, a2, a3, a4, a5, a6⟩ := ha c
  refine ⟨h41.trans ?_, h24.trans ?_, h78.trans ?_, h61.trans ?_, hrest⟩
  · rw [Cert.FfnInRefIdeal.Read.val_main_v41_eq, a0, a1, a2, a3, a4]
    exact (same7 m c).symm
  · rw [Cert.FfnInRefIdeal.Read.val_main_v24_eq, a0, a1, a3]
    exact (same8 m c).symm
  · rw [Cert.FfnInRefIdeal.Read.val_main_v78_eq, a0, a1, a2, a3, a4, a5, a6]
    exact (same9 m c).symm
  · rw [Cert.FfnInRefIdeal.Read.val_main_v61_eq, a0, a1, a2, a3, a4, a5]
    exact (same10 m c).symm

end Cert.FfnEq

end
-- ==== Proof.Prod.lean ====
/-
  Products of matrices over the extended reals, element by element: what the matrix unit's operation and the host's each
  give, and a sum over many rows taken block of rows by block of rows.
-/
module

public import Idealize.ShloMosaic.Lib.ValueIdx
public import Idealize.ShloMosaic.Lib.KernelVsHost
public import Idealize.ShloMosaic.PureOps.Ideal.Laws
public import Idealize.ShloMosaic.Lib.Pipeline.ValueKit.Tiles
public import proofs.«01_k».proof.Proof.Upto

@[expose] public section

set_option maxRecDepth 16384

noncomputable section

namespace Cert.Prod

open Cert.Rows Idealize.ShloMosaic Idealize.ShloMosaic.ValueIdx
open scoped BigOperators

section
variable {K M N : ℕ} {φ₁ φ₂ : FTy} (prec : Option ContractPrecision)

/-- The host's product of one matrix's columns with another's columns. -/
theorem host_tn (w : DotDims.WF (⟨2, ![K, M]⟩ : Shape) (⟨2, ![K, N]⟩ : Shape) (⟨2, ![M, N]⟩ : Shape) [0] [0] [1] [1] [] [])
    (A : FVec Ideal ⟨2, ![K, M]⟩ φ₁) (B : FVec Ideal ⟨2, ![K, N]⟩ φ₂) (i : Fin M) (j : Fin N) :
    Host.dotGeneral (⟨[0], [0], [1], [1], [], [], w⟩ : DotDims _ _ _) prec A B (ix2 i j) = ∑ k : Fin K, A (ix2 k i) * B (ix2 k j) := by
  show FloatOps.dotGeneral _ prec _ A B (ix2 i j) = _
  rw [Ideal.dotGeneral_apply, ← Equiv.sum_comp (contrEquiv1 (⟨[0], [0], [1], [1], [], [], w⟩ : DotDims _ _ _) K rfl rfl).symm]
  refine Finset.sum_congr rfl fun k _ => ?_
  have hk := contrEquiv1_symm_val (⟨[0], [0], [1], [1], [], [], w⟩ : DotDims _ _ _) K rfl rfl k
  congr 2 <;> funext x <;> apply Fin.ext <;> match x with
    | ⟨0, _⟩ => first | exact hk | rfl
    | ⟨1, _⟩ => first | exact hk | rfl

/-- The host's product of one matrix's rows with another's rows. -/
theorem host_nt (w : DotDims.WF (⟨2, ![M, K]⟩ : Shape) (⟨2, ![N, K]⟩ : Shape) (⟨2, ![M, N]⟩ : Shape) [1] [1] [0] [0] [] [])
    (A : FVec Ideal ⟨2, ![M, K]⟩ φ₁) (B : FVec Ideal ⟨2, ![N, K]⟩ φ₂) (i : Fin M) (j : Fin N) :
    Host.dotGeneral (⟨[1], [1], [0], [0], [], [], w⟩ : DotDims _ _ _) prec A B (ix2 i j) = ∑ k : Fin K, A (ix2 i k) * B (ix2 j k) := by
  show FloatOps.dotGeneral _ prec _ A B (ix2 i j) = _
  rw [Ideal.dotGeneral_apply, ← Equiv.sum_comp (contrEquiv1 (⟨[1], [1], [0], [0], [], [], w⟩ : DotDims _ _ _) K rfl rfl).symm]
  refine Finset.sum_congr rfl fun k _ => ?_
  have hk := contrEquiv1_symm_val (⟨[1], [1], [0], [0], [], [], w⟩ : DotDims _ _ _) K rfl rfl k
  congr 2 <;> funext x <;> apply Fin.ext <;> match x with
    | ⟨0, _⟩ => first | exact hk | rfl
    | ⟨1, _⟩ => first | exact hk | rfl

/-- The host's product of one matrix's rows with another's columns. -/
theorem host_nn (w : DotDims.WF (⟨2, ![M, K]⟩ : Shape) (⟨2, ![K, N]⟩ : Shape) (⟨2, ![M, N]⟩ : Shape) [1] [0] [0] [1] [] [])
    (A : FVec Ideal ⟨2, ![M, K]⟩ φ₁) (B : FVec Ideal ⟨2, ![K, N]⟩ φ₂) (i : Fin M) (j : Fin N) :
    Host.dotGeneral (⟨[1], [0], [0], [1], [], [], w⟩ : DotDims _ _ _) prec A B (ix2 i j) = ∑ k : Fin K, A (ix2 i k) * B (ix2 k j) := by
  show FloatOps.dotGeneral _ prec _ A B (ix2 i j) = _
  rw [Ideal.dotGeneral_apply, ← Equiv.sum_comp (contrEquiv1 (⟨[1], [0], [0], [1], [], [], w⟩ : DotDims _ _ _) K rfl rfl).symm]
  refine Finset.sum_congr rfl fun k _ => ?_
  have hk := contrEquiv1_symm_val (⟨[1], [0], [0], [1], [], [], w⟩ : DotDims _ _ _) K rfl rfl k
  congr 2 <;> funext x <;> apply Fin.ext <;> match x with
    | ⟨0, _⟩ => first | exact hk | rfl
    | ⟨1, _⟩ => first | exact hk | rfl

/-- The matrix unit's product of columns with columns. -/
theorem unit_tn (w : DotDims.WF (⟨2, ![K, M]⟩ : Shape) (⟨2, ![K, N]⟩ : Shape) (⟨2, ![M, N]⟩ : Shape) [0] [0] [1] [1] [] [])
    (A : FVec Ideal ⟨2, ![K, M]⟩ φ₁) (B : FVec Ideal ⟨2, ![K, N]⟩ φ₂) (i : Fin M) (j : Fin N) :
    matmul (⟨[0], [0], [1], [1], [], [], w⟩ : DotDims _ _ _) prec A B (constant ⟨2, ![M, N]⟩ .f32 0x00000000#32) (ix2 i j)
      = ∑ k : Fin K, A (ix2 k i) * B (ix2 k j) := by
  rw [matmul_zero_eq_dotGeneral, host_tn]

/-- The matrix unit's product of rows with rows. -/
theorem unit_nt (w : DotDims.WF (⟨2, ![M, K]⟩ : Shape) (⟨2, ![N, K]⟩ : Shape) (⟨2, ![M, N]⟩ : Shape) [1] [1] [0] [0] [] [])
    (A : FVec Ideal ⟨2, ![M, K]⟩ φ₁) (B : FVec Ideal ⟨2, ![N, K]⟩ φ₂) (i : Fin M) (j : Fin N) :
    matmul (⟨[1], [1], [0], [0], [], [], w⟩ : DotDims _ _ _) prec A B (constant ⟨2, ![M, N]⟩ .f32 0x00000000#32) (ix2 i j)
      = ∑ k : Fin K, A (ix2 i k) * B (ix2 j k) := by
  rw [matmul_zero_eq_dotGeneral, host_nt]

/-- The matrix unit's product of rows with columns. -/
theorem unit_nn (w : DotDims.WF (⟨2, ![M, K]⟩ : Shape) (⟨2, ![K, N]⟩ : Shape) (⟨2, ![M, N]⟩ : Shape) [1] [0] [0] [1] [] [])
    (A : FVec Ideal ⟨2, ![M, K]⟩ φ₁) (B : FVec Ideal ⟨2, ![K, N]⟩ φ₂) (i : Fin M) (j : Fin N) :
    matmul (⟨[1], [0], [0], [1], [], [], w⟩ : DotDims _ _ _) prec A B (constant ⟨2, ![M, N]⟩ .f32 0x00000000#32) (ix2 i j)
      = ∑ k : Fin K, A (ix2 i k) * B (ix2 k j) := by
  rw [matmul_zero_eq_dotGeneral, host_nn]
end

/-- Rows and columns exchanged, at an index. -/
theorem swap_apply {α : Type} {M N : ℕ} (x : (⟨2, ![M, N]⟩ : Shape).Idx → α) (h : (⟨2, ![M, N]⟩ : Shape).Transposes [1, 0] ⟨2, ![N, M]⟩) (i : Fin M) (j : Fin N) :
    transpose ⟨2, ![N, M]⟩ [1, 0] x h (ix2 j i) = x (ix2 i j) :=
  transpose_apply _ x h (ix2 j i) (ix2 i j) fun b => match b with
    | ⟨0, _⟩ => rfl
    | ⟨1, _⟩ => rfl

/-- Zero offsets. -/
theorem hz : (![0, 0] : Fin 2 → Nat) = fun _ => 0 := funext fun a => by fin_cases a <;> rfl

/-- A whole block read back is what was stored last. -/
theorem readCov_last {sig : RefSig} {Val : EltTy → Type} [∀ e, Nonempty (Val e)] {e : EltTy} {M N : ℕ} (v : View sig .tc .vmem ⟨2, ![M, N]⟩ e) (inb inb')
    (u : (⟨2, ![M, N]⟩ : Shape).Idx → Val e) (L : List (View.Piece Val ⟨2, ![M, N]⟩ e)) :
    v.readCov (⟨Rect.unit (s := ⟨2, ![M, N]⟩) ![0, 0] ![M, N] inb', u⟩ :: L) (Rect.unit (s := ⟨2, ![M, N]⟩) ![0, 0] ![M, N] inb).toLoadRect = u := by
  rw [View.readCov_eq_canon', View.canon_cons_unit_zero (S := ⟨2, ![M, N]⟩) hz]
  exact View.ld_unit_zero (S := ⟨2, ![M, N]⟩) hz inb u

/-- Contents that start at the first block's sum, and to which each of `g` blocks adds its own, are after the last the sum of
    all terms. -/
theorem chain {K b g : ℕ} (hK : g * b = K) (hg : 0 < g) (f : Fin K → EReal) (a : (n : ℕ) → n < g → EReal)
    (h0 : a 0 hg = ∑ r : Fin b, f ⟨b * 0 + r.val, by have := Nat.le_mul_of_pos_left b hg; omega⟩)
    (hs : ∀ n (hn : n + 1 < g), a (n + 1) hn = a n (Nat.lt_of_succ_lt hn)
      + ∑ r : Fin b, f ⟨b * (n + 1) + r.val, by have h := Nat.mul_le_mul_right b hn; have := r.isLt; rw [Nat.mul_comm b]; rw [Nat.succ_mul] at h; omega⟩)
    (hl : g - 1 < g) : a (g - 1) hl = ∑ k, f k := by
  have key : ∀ n (hn : n < g), a n hn = upto f (b * n + b) := by
    intro n
    induction n with
    | zero =>
      intro hn
      rw [h0, upto_add f (b * 0) b (by have := Nat.le_mul_of_pos_left b hg; omega), show upto f (b * 0) = 0 from upto_zero _, zero_add]
    | succ n ih =>
      intro hn
      have h := Nat.mul_le_mul_right b hn
      rw [hs, ih, upto_add f (b * (n + 1)) b (by rw [Nat.mul_comm b]; rw [Nat.succ_mul] at h; omega)]
      rfl
  have e : b * (g - 1) + b = K := by rw [← hK, ← Nat.mul_succ, Nat.succ_eq_add_one, Nat.sub_add_cancel hg, Nat.mul_comm]
  rw [key, e, upto_all]

end Cert.Prod

end
-- ==== Proof.UpGradEq.lean ====
/-
  The gradient of the up projection's weights: four blocks of 1408 of its rows, each summed over four blocks of 2048
  tokens in a scratch the points carry, is the product over all 8192 tokens.
-/
module

public import proofs.«01_k».proof.Proof.At
public import proofs.«01_k».proof.Proof.Prod
public import proofs.«01_k».proof.Proof.Gen.UpGradIdeal.Value
public import proofs.«01_k».proof.Proof.Gen.UpGrad.Frame
public import proofs.«01_k».proof.Proof.Gen.UpGradRefIdeal.Run
public import Idealize.ShloMosaic.Lib.Pipeline.ValueKit.Tiles
public import proofs.«01_k».proof.Defs

@[expose] public section

set_option maxRecDepth 16384

noncomputable section

namespace Cert.UpGradIdeal.RefValue

open Cert.At (entry2 same2 entry3 whole block)
open Cert.UpGradIdeal Cert.UpGradIdeal.Gen Cert.Prod Idealize.ShloMosaic Idealize.ShloMosaic.TcCoe Idealize.SL.Sem Idealize.ShloMosaic.ValueIdx
open scoped BigOperators

/-! ### One point -/

section Point
variable (c : Dev nD) (i : grid0.Coords) (a3 : Memref sig .tc .vmem S2048x1408 .bf16) (h3 : a3.IsWhole) (a4 : Memref sig .tc .vmem S2048x1024 .bf16) (h4 : a4.IsWhole)
  (a5 : Memref sig .tc .vmem S1408x1024 .bf16) (h5 : a5.IsWhole) (a6 : Memref sig .tc .vmem S1408x1024 .f32) (h6 : a6.IsWhole)
  (x0 : Vec Ideal S2048x1408 .bf16) (x1 : Vec Ideal S2048x1024 .bf16) (xs : Vec Ideal S1408x1024 .f32)

/-- The product of two blocks. -/
theorem pay1_apply (p : Fin 1408) (q : Fin 1024) : k0_pay1 x0 x1 (ix2 p q) = ∑ r : Fin 2048, x0 (ix2 r p) * x1 (ix2 r q) := by
  unfold k0_pay1
  exact Cert.Prod.unit_tn _ _ x0 x1 p q

/-- The first point of a run leaves the product in the scratch. -/
theorem sout_A (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  simp only [View.readAt_eq_ld, h3.read_unread, h4.read_unread, View.ld_unit_zero (S := S2048x1408) hz, View.ld_unit_zero (S := S2048x1024) hz]
  rw [View.canon_unit_zero hz]
  unfold k0_pay2
  exact shapeCast_self _ _

/-- A middle point adds its product. -/
theorem sout_B (hc0 : ¬cond0_0 i) (hc1 : cond0_1 i) (hc2 : ¬cond0_2 i) : sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  simp only [View.readAt_eq_ld, h3.read_unread, h4.read_unread, h6.read_unread, View.ld_unit_zero (S := S2048x1408) hz, View.ld_unit_zero (S := S2048x1024) hz, View.ld_unit_zero (S := S1408x1024) hz]
  rw [View.canon_unit_zero hz]
  unfold k0_pay3
  exact shapeCast_self _ _

/-- The last point writes the sum with its product to the result's block. -/
theorem out_C (hc0 : ¬cond0_0 i) (hc1 : cond0_1 i) (hc2 : cond0_2 i) : out0_C_2 c i a3 h3 a4 h4 a5 h5 a6 h6 hc0 hc1 hc2 x0 x1 xs = addf (F := Ideal) (φ := .f32) xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  simp only [View.readAt_eq_ld, h3.read_unread, h4.read_unread, h6.read_unread, View.ld_unit_zero (S := S2048x1408) hz, View.ld_unit_zero (S := S2048x1024) hz, View.ld_unit_zero (S := S1408x1024) hz]
  rw [View.canon_unit_zero hz, readCov_last]
  unfold k0_pay4 k0_pay3
  dsimp only
  rw [shapeCast_self]
  rfl

end Point

/-! ### The points' blocks of the operands -/

variable (m : (ℓ : Loc nD τ sig) → Buf (Elt Ideal) ℓ) (ρ : Dev nD → PrngReg) (c : Dev nD)

/-- The gradient of the projection's result. -/
abbrev argD : S8192x5632.Idx → EReal := m ((c : Thread nD τ).loc main_arg0)
/-- The rows projected. -/
abbrev argH : S8192x1024.Idx → EReal := m ((c : Thread nD τ).loc main_arg1)

/-- Which block each point takes. -/
theorem index_at : ∀ t : Fin cfg0.N, (win0_0.index t 0 = t.val % 4 ∧ win0_0.index t 1 = t.val / 4) ∧ win0_1.index t 0 = t.val % 4 ∧ win0_1.index t 1 = 0 :=
  (by decide +kernel : ∀ t : Fin grid0.N, (win0_0.index t 0 = t.val % 4 ∧ win0_0.index t 1 = t.val / 4) ∧ win0_1.index t 0 = t.val % 4 ∧ win0_1.index t 1 = 0)

/-- Token `r` of the block of tokens that point `t` takes. -/
abbrev tok (t : Fin cfg0.N) (r : Fin 2048) : Fin 8192 := ⟨2048 * (t.val % 4) + r.val, by omega⟩
/-- Column `p` of the block of columns that point `t` takes. -/
abbrev col (t : Fin cfg0.N) (p : Fin 1408) : Fin 5632 := ⟨1408 * (t.val / 4) + p.val, by have := t.isLt; have h : cfg0.N = 16 := N_0; omega⟩

/-- The block of the gradient. -/
theorem blk0 (t : Fin cfg0.N) (r : Fin 2048) (p : Fin 1408) : (iblk m c 0 t : Vec Ideal S2048x1408 .bf16) (ix2 r p) = argD m c (ix2 (tok t r) (col t p)) :=
  entry2 (argD m c) _ (block (index_at t).1.1 2048 r.val) (block (index_at t).1.2 1408 p.val)

/-- The block of the rows. -/
theorem blk1 (t : Fin cfg0.N) (r : Fin 2048) (q : Fin 1024) : (iblk m c 1 t : Vec Ideal S2048x1024 .bf16) (ix2 r q) = argH m c (ix2 (tok t r) q) :=
  entry2 (argH m c) _ (block (index_at t).2.1 2048 r.val) (whole (index_at t).2.2 1024 q.val)

/-- A point's product, of the operands. -/
theorem part (t : Fin cfg0.N) (p : Fin 1408) (q : Fin 1024) :
    k0_pay1 (iblk m c 0 t : Vec Ideal S2048x1408 .bf16) (iblk m c 1 t) (ix2 p q) = ∑ r : Fin 2048, argD m c (ix2 (tok t r) (col t p)) * argH m c (ix2 (tok t r) q) := by
  rw [pay1_apply]
  exact Finset.sum_congr rfl fun r _ => congrArg₂ (· * ·) (blk0 m c t r p) (blk1 m c t r q)

/-! ### The run of four points of a block of columns -/

/-- After the first point. -/
theorem first (t : Fin cfg0.N) (h : t.val % 4 = 0) (y : S1408x1024.Idx) : (outsAt0 m c t.val t.isLt).2 y = k0_pay1 (iblk m c 0 t : Vec Ideal S2048x1408 .bf16) (iblk m c 1 t) y := by
  have e := congrFun (congrArg (fun x => x.2) (outsAt0_A m c t h (by omega) (by omega))) y
  dsimp only at e
  refine e.trans ?_
  rw [sout_A]

/-- After a middle point. -/
theorem next (t : Fin cfg0.N) (h : 1 ≤ t.val % 4) (h' : t.val % 4 ≠ 3) (y : S1408x1024.Idx) :
    (outsAt0 m c t.val t.isLt).2 y = (outsAt0 m c (t.val - 1) (lt_of_le_of_lt (Nat.sub_le _ _) t.isLt)).2 y + k0_pay1 (iblk m c 0 t : Vec Ideal S2048x1408 .bf16) (iblk m c 1 t) y := by
  have e := congrFun (congrArg (fun x => x.2) (outsAt0_B m c t (by omega) h h')) y
  dsimp only at e
  refine e.trans ?_
  rw [sout_B, addf_apply]

/-- In the result's block after the last point. -/
theorem done (t : Fin cfg0.N) (h : t.val % 4 = 3) (y : S1408x1024.Idx) :
    (outsAt0 m c t.val t.isLt).1 y = (outsAt0 m c (t.val - 1) (lt_of_le_of_lt (Nat.sub_le _ _) t.isLt)).2 y + k0_pay1 (iblk m c 0 t : Vec Ideal S2048x1408 .bf16) (iblk m c 1 t) y := by
  have e := congrFun (congrArg (fun x => x.1) (outsAt0_C m c t (by omega) (by omega) h)) y
  dsimp only at e
  refine e.trans ?_
  rw [out_C, addf_apply]

/-- What the `n`-th point of run `g` holds: the last its result's block, the others the scratch. -/
def held (g n : ℕ) (h : 4 * g + n < cfg0.N) : S1408x1024.Idx → EReal :=
  if n = 3 then (outsAt0 m c (4 * g + n) h).1 else (outsAt0 m c (4 * g + n) h).2

/-- The result's block after a run. -/
theorem swept (g : ℕ) (hg : g < 4) (h : 4 * g + 3 < cfg0.N) (p : Fin 1408) (q : Fin 1024) :
    (outsAt0 m c (4 * g + 3) h).1 (ix2 p q) = ∑ k : Fin 8192, argD m c (ix2 k ⟨1408 * g + p.val, by omega⟩) * argH m c (ix2 k q) := by
  have hN : cfg0.N = 16 := N_0
  have hb : ∀ n, n < 4 → 4 * g + n < cfg0.N := fun n hn => by omega
  have part' : ∀ n (hn : n < 4) (hK : ∀ r : Fin 2048, 2048 * n + r.val < 8192), k0_pay1 (iblk m c 0 ⟨4 * g + n, hb n hn⟩ : Vec Ideal S2048x1408 .bf16) (iblk m c 1 ⟨4 * g + n, hb n hn⟩) (ix2 p q)
      = ∑ r : Fin 2048, argD m c (ix2 ⟨2048 * n + r.val, hK r⟩ ⟨1408 * g + p.val, by omega⟩) * argH m c (ix2 ⟨2048 * n + r.val, hK r⟩ q) := fun n hn hK => by
    refine (part m c ⟨4 * g + n, hb n hn⟩ p q).trans (Finset.sum_congr rfl fun r _ => ?_)
    have e1 : tok ⟨4 * g + n, hb n hn⟩ r = ⟨2048 * n + r.val, hK r⟩ := Fin.ext (by show 2048 * ((4 * g + n) % 4) + r.val = 2048 * n + r.val; omega)
    have e2 : col ⟨4 * g + n, hb n hn⟩ p = ⟨1408 * g + p.val, by omega⟩ := Fin.ext (by show 1408 * ((4 * g + n) / 4) + p.val = 1408 * g + p.val; omega)
    rw [e1, e2]
  refine Eq.trans (b := held m c g 3 h (ix2 p q)) rfl ?_
  refine Cert.Prod.chain (K := 8192) (b := 2048) (g := 4) rfl (by decide) (fun k => argD m c (ix2 k ⟨1408 * g + p.val, by omega⟩) * argH m c (ix2 k q))
    (fun n hn => held m c g n (hb n hn) (ix2 p q)) ?_ ?_ (by decide)
  · exact (first m c ⟨4 * g + 0, hb 0 (by decide)⟩ (by show (4 * g + 0) % 4 = 0; omega) (ix2 p q)).trans (part' 0 (by decide) _)
  · intro n hn
    have hn' : held m c g n (hb n (by omega)) = (outsAt0 m c (4 * g + n) (hb n (by omega))).2 := if_neg (by omega)
    rw [hn', ← part' (n + 1) hn]
    by_cases e : n + 1 = 3
    · rw [held, if_pos e]
      exact done m c ⟨4 * g + (n + 1), hb _ hn⟩ (by show (4 * g + (n + 1)) % 4 = 3; omega) (ix2 p q)
    · rw [held, if_neg e]
      exact next m c ⟨4 * g + (n + 1), hb _ hn⟩ (by show 1 ≤ (4 * g + (n + 1)) % 4; omega) (by show (4 * g + (n + 1)) % 4 ≠ 3; omega) (ix2 p q)

/-- The gradient of the weights after the run. -/
theorem arr (i : Fin 5632) (j : Fin 1024) : (dats m 0 c).arrAt 2 cfg0.N (ix2 i j) = ∑ k : Fin 8192, argD m c (ix2 k i) * argH m c (ix2 k j) := by
  have hN : cfg0.N = 16 := N_0
  rw [Value.final2]
  have hp : Value.pt2Of (ix2 i j) = 4 * (i.val / 1408) + 3 := by
    show 4 * (1 * (i.val / 1408 - 0) + 1 * (j.val / 1024 - 0)) + 3 = _
    omega
  have hl : Value.pt2Of (ix2 i j) < cfg0.N := by omega
  unfold Value.G2
  rw [dif_pos hl, ← Value.outsAt0_sweep m c _ hl]
  have hloc : Value.loc2Of (ix2 i j) = ix2 ⟨i.val % 1408, Nat.mod_lt _ (by decide)⟩ j := by
    funext a
    apply Fin.ext
    match a with
    | ⟨0, _⟩ => rfl
    | ⟨1, _⟩ => exact Nat.mod_eq_of_lt j.isLt
  have key := swept m c (i.val / 1408) (by omega) (by omega) ⟨i.val % 1408, Nat.mod_lt _ (by decide)⟩ j
  have hi : (⟨1408 * (i.val / 1408) + i.val % 1408, by omega⟩ : Fin 5632) = i := Fin.ext (by show 1408 * (i.val / 1408) + i.val % 1408 = i.val; omega)
  dsimp only at key
  rw [hi] at key
  rw [hloc, ← key]
  have at_eq : ∀ (a b : ℕ) (ha : a < cfg0.N) (hb : b < cfg0.N), a = b → (outsAt0 m c a ha).1 = (outsAt0 m c b hb).1 := by
    rintro a _ _ _ rfl; rfl
  rw [at_eq _ _ hl (by omega) hp]

end Cert.UpGradIdeal.RefValue

namespace Cert.UpGradEq

open Idealize.ShloMosaic Idealize.ShloMosaic.TcCoe Idealize.SL.Sem Idealize.ShloMosaic.ValueIdx

/-- The frame of the kernel. -/
theorem frame_p : quiescent_UpGrad := fun m ρ _ => Cert.UpGrad.Gen.frame m ρ

/-- The frame of the idealized kernel. -/
theorem frame_pi : quiescent_UpGradIdeal := fun m ρ _ => Cert.UpGradIdeal.Gen.frame m ρ

/-- The frame of the reference: its run ends with its arguments as they were, and it declares no semaphore. -/
theorem frame_ri : quiescent_UpGradRefIdeal := fun m ρ _ =>
  (θ_run Cert.UpGradRefIdeal.defs _ _).mono (fun r h => ⟨fun c => (h c).2, sem_eq_zero_of_no_sems (by decide) r.2⟩)
    (Cert.UpGradRefIdeal.Value.run (F := Ideal) m ρ)

/-- The reference's result, element by element. -/
theorem ref_apply (D : FVec Ideal Cert.UpGradRefIdeal.S8192x5632 .bf16) (H : FVec Ideal Cert.UpGradRefIdeal.S8192x1024 .bf16) (hb ht1 ht2) (i : Fin 5632) (j : Fin 1024) :
    (truncf .bf16 (transpose Cert.UpGradRefIdeal.S5632x1024 [1, 0] (transpose Cert.UpGradRefIdeal.S1024x5632 [1, 0]
      (Host.dotGeneral Cert.UpGradRefIdeal.dot_S8192x5632_S8192x1024_S5632x1024_0_0_1_1_n_n none (extf .f32 D hb) (extf .f32 H hb)) ht1) ht2) hb : FVec Ideal Cert.UpGradRefIdeal.S5632x1024 .bf16) (ix2 i j)
      = ∑ k : Fin 8192, D (ix2 k i) * H (ix2 k j) := by
  rw [truncf_apply]
  refine (Cert.Prod.swap_apply _ ht2 j i).trans ((Cert.Prod.swap_apply _ ht1 i j).trans ?_)
  exact Cert.Prod.host_tn _ _ _ _ i j

/-- The call computes the gradient of the weights. -/
theorem same : algebraic_UpGradIdeal_UpGradRefIdeal := by
  intro m g m' g' hm ha
  refine ⟨fun c => (Cert.UpGradIdeal.Gen.dats m 0 c).arrAt 2 Cert.UpGradIdeal.cfg0.N, Cert.UpGradIdeal.Value.run_blocks m g, ?_⟩
  refine (θ_run Cert.UpGradRefIdeal.defs _ _).mono (fun r h c => ?_) (Cert.UpGradRefIdeal.Value.run (F := Ideal) m' g')
  obtain ⟨h8, hrest⟩ := h c
  obtain ⟨a0, a1⟩ := ha c
  refine ⟨h8.trans ?_, hrest⟩
  rw [a0, a1]
  refine funext fun i => ?_
  obtain ⟨p, j, rfl⟩ : ∃ (p : Fin 5632) (j : Fin 1024), i = ix2 p j := ⟨i 0, i 1, eq_ix2 i⟩
  exact (ref_apply _ _ _ _ _ p j).trans (Cert.UpGradIdeal.RefValue.arr m c p j).symm

end Cert.UpGradEq

end
-- ==== Proof.UpEq.lean ====
/-
  The up projection: each point's block of the result is the product of a block of rows with a block of the weights' rows,
  so the whole is the product with the weights transposed.
-/
module

public import proofs.«01_k».proof.Proof.At
public import proofs.«01_k».proof.Proof.Prod
public import proofs.«01_k».proof.Proof.Gen.UpIdeal.Value
public import proofs.«01_k».proof.Proof.Gen.Up.Frame
public import proofs.«01_k».proof.Proof.Gen.UpRefIdeal.Run
public import proofs.«01_k».proof.Defs

@[expose] public section

set_option maxRecDepth 16384

noncomputable section

namespace Cert.UpIdeal.RefValue

open Cert.At (entry2 same2 entry3 whole block)
open Cert.UpIdeal Cert.UpIdeal.Gen Cert.Prod Idealize.ShloMosaic Idealize.ShloMosaic.TcCoe Idealize.SL.Sem Idealize.ShloMosaic.ValueIdx
open scoped BigOperators

/-- A point's block of the result. -/
theorem out_apply (x0 : Vec Ideal S2048x1024 .bf16) (x1 : Vec Ideal S1408x1024 .bf16) (p : Fin 2048) (q : Fin 1408) :
    out0_2 x0 x1 (ix2 p q) = ∑ k : Fin 1024, x0 (ix2 p k) * x1 (ix2 q k) := by
  unfold out0_2
  have e0 : View.ld x0 r0_0 = x0 := View.ld_unit_zero (S := S2048x1024) hz _ x0
  have e1 : View.ld x1 r0_1 = x1 := View.ld_unit_zero (S := S1408x1024) hz _ x1
  rw [View.canon_unit_zero hz, e0, e1]
  unfold k0_pay1
  exact unit_nt _ _ x0 x1 p q

variable (m : (ℓ : Loc nD τ sig) → Buf (Elt Ideal) ℓ) (ρ : Dev nD → PrngReg) (c : Dev nD)

/-- The rows projected. -/
abbrev argH : S8192x1024.Idx → EReal := m ((c : Thread nD τ).loc main_arg0)
/-- The weights. -/
abbrev argW : S5632x1024.Idx → EReal := m ((c : Thread nD τ).loc main_arg1)

/-- Which block each point takes. -/
theorem index_at : ∀ t : Fin cfg0.N, (win0_0.index t 0 = t.val % 4 ∧ win0_0.index t 1 = 0) ∧ (win0_1.index t 0 = t.val / 4 ∧ win0_1.index t 1 = 0)
    ∧ win0_2.index t 0 = t.val % 4 ∧ win0_2.index t 1 = t.val / 4 :=
  (by decide +kernel : ∀ t : Fin grid0.N, (win0_0.index t 0 = t.val % 4 ∧ win0_0.index t 1 = 0) ∧ (win0_1.index t 0 = t.val / 4 ∧ win0_1.index t 1 = 0)
    ∧ win0_2.index t 0 = t.val % 4 ∧ win0_2.index t 1 = t.val / 4)

/-- Token `r` of the block of tokens that point `t` takes. -/
abbrev tok (t : Fin cfg0.N) (r : Fin 2048) : Fin 8192 := ⟨2048 * (t.val % 4) + r.val, by omega⟩
/-- Column `p` of the block of columns that point `t` takes. -/
abbrev col (t : Fin cfg0.N) (p : Fin 1408) : Fin 5632 := ⟨1408 * (t.val / 4) + p.val, by have := t.isLt; have h : cfg0.N = 16 := N_0; omega⟩

/-- The block of the rows. -/
theorem blk0 (t : Fin cfg0.N) (r : Fin 2048) (k : Fin 1024) : (iblk m c 0 t : Vec Ideal S2048x1024 .bf16) (ix2 r k) = argH m c (ix2 (tok t r) k) :=
  entry2 (argH m c) _ (block (index_at t).1.1 2048 r.val) (whole (index_at t).1.2 1024 k.val)

/-- The block of the weights. -/
theorem blk1 (t : Fin cfg0.N) (p : Fin 1408) (k : Fin 1024) : (iblk m c 1 t : Vec Ideal S1408x1024 .bf16) (ix2 p k) = argW m c (ix2 (col t p) k) :=
  entry2 (argW m c) _ (block (index_at t).2.1.1 1408 p.val) (whole (index_at t).2.1.2 1024 k.val)

/-- The block of the array that point `t` wrote. -/
theorem arr_blk (t : Fin cfg0.N) (r : Fin 2048) (p : Fin 1408) :
    (dats m 0 c).arrAt 2 cfg0.N (ix2 (tok t r) (col t p)) = ∑ k : Fin 1024, argH m c (ix2 (tok t r) k) * argW m c (ix2 (col t p) k) := by
  have e := congrFun (Value.blocks2 m c t (flush0_2 t)) (ix2 r p)
  rw [View.read_apply, Value.flushed2] at e
  have hi : ((cfg0.win 2).blk t).view.emb (ix2 r p) = ix2 (tok t r) (col t p) :=
    entry2 id _ (block (index_at t).2.2.1 2048 r.val) (block (index_at t).2.2.2 1408 p.val)
  rw [hi] at e
  refine e.trans ((out_apply (iblk m c 0 t) (iblk m c 1 t) r p).trans (Finset.sum_congr rfl fun k _ => ?_))
  rw [blk0, blk1]

/-- The product after the run. -/
theorem arr (i : Fin 8192) (j : Fin 5632) : (dats m 0 c).arrAt 2 cfg0.N (ix2 i j) = ∑ k : Fin 1024, argH m c (ix2 i k) * argW m c (ix2 j k) := by
  have hN : cfg0.N = 16 := N_0
  have e := arr_blk m c ⟨4 * (j.val / 1408) + i.val / 2048, by omega⟩ ⟨i.val % 2048, Nat.mod_lt _ (by decide)⟩ ⟨j.val % 1408, Nat.mod_lt _ (by decide)⟩
  have e1 : tok ⟨4 * (j.val / 1408) + i.val / 2048, by omega⟩ ⟨i.val % 2048, Nat.mod_lt _ (by decide)⟩ = i := Fin.ext (by dsimp only [tok]; omega)
  have e2 : col ⟨4 * (j.val / 1408) + i.val / 2048, by omega⟩ ⟨j.val % 1408, Nat.mod_lt _ (by decide)⟩ = j := Fin.ext (by dsimp only [col]; omega)
  rw [e1, e2] at e
  exact e

end Cert.UpIdeal.RefValue

namespace Cert.UpEq

open Idealize.ShloMosaic Idealize.ShloMosaic.TcCoe Idealize.SL.Sem Idealize.ShloMosaic.ValueIdx

/-- The frame of the kernel. -/
theorem frame_p : quiescent_Up := fun m ρ _ => Cert.Up.Gen.frame m ρ

/-- The frame of the idealized kernel. -/
theorem frame_pi : quiescent_UpIdeal := fun m ρ _ => Cert.UpIdeal.Gen.frame m ρ

/-- The frame of the reference: its run ends with its arguments as they were, and it declares no semaphore. -/
theorem frame_ri : quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

/-- The reference's result, element by element. -/
theorem ref_apply (H : FVec Ideal Cert.UpRefIdeal.S8192x1024 .bf16) (W : FVec Ideal Cert.UpRefIdeal.S5632x1024 .bf16) (hb ht) (i : Fin 8192) (j : Fin 5632) :
    (Host.dotGeneral Cert.UpRefIdeal.dot_S8192x1024_S1024x5632_S8192x5632_1_0_0_1_n_n none (extf .f32 H hb)
      (transpose Cert.UpRefIdeal.S1024x5632 [1, 0] (extf .f32 W hb) ht) : FVec Ideal Cert.UpRefIdeal.S8192x5632 .f32) (ix2 i j)
      = ∑ k : Fin 1024, H (ix2 i k) * W (ix2 j k) :=
  (Cert.Prod.host_nn _ _ _ _ i j).trans (Finset.sum_congr rfl fun k _ => congrArg (H (ix2 i k) * ·) (Cert.Prod.swap_apply _ ht j k))

/-- The call computes the product with the weights transposed. -/
theorem same : algebraic_UpIdeal_UpRefIdeal := by
  intro m g m' g' hm ha
  refine ⟨fun c => (Cert.UpIdeal.Gen.dats m 0 c).arrAt 2 Cert.UpIdeal.cfg0.N, Cert.UpIdeal.Value.run_blocks m g, ?_⟩
  refine (θ_run Cert.UpRefIdeal.defs _ _).mono (fun r h c => ?_) (Cert.UpRefIdeal.Value.run (F := Ideal) m' g')
  obtain ⟨h3, hrest⟩ := h c
  obtain ⟨a0, a1⟩ := ha c
  refine ⟨h3.trans ?_, hrest⟩
  rw [a0, a1]
  refine funext fun i => ?_
  obtain ⟨p, j, rfl⟩ : ∃ (p : Fin 8192) (j : Fin 5632), i = ix2 p j := ⟨i 0, i 1, eq_ix2 i⟩
  exact (ref_apply _ _ _ _ p j).trans (Cert.UpIdeal.RefValue.arr m c p j).symm

end Cert.UpEq

end
-- ==== Proof.DownInEq.lean ====
/-
  The gradient going into the down projection: each point's block of it is the product of a block of the rows of the
  gradient with a block of the weights' rows, so the whole is the product with the weights transposed.
-/
module

public import proofs.«01_k».proof.Proof.At
public import proofs.«01_k».proof.Proof.Prod
public import proofs.«01_k».proof.Proof.Gen.DownInIdeal.Value
public import proofs.«01_k».proof.Proof.Gen.DownIn.Frame
public import proofs.«01_k».proof.Proof.Gen.DownInRefIdeal.Run
public import proofs.«01_k».proof.Defs

@[expose] public section

set_option maxRecDepth 16384

noncomputable section

namespace Cert.DownInIdeal.RefValue

open Cert.At (entry2 same2 entry3 whole block)
open Cert.DownInIdeal Cert.DownInIdeal.Gen Cert.Prod Idealize.ShloMosaic Idealize.ShloMosaic.TcCoe Idealize.SL.Sem Idealize.ShloMosaic.ValueIdx
open scoped BigOperators

/-- A point's block of the result. -/
theorem out_apply (x0 : Vec Ideal S2048x1024 .bf16) (x1 : Vec Ideal S1408x1024 .bf16) (p : Fin 2048) (q : Fin 1408) :
    out0_2 x0 x1 (ix2 p q) = ∑ k : Fin 1024, x0 (ix2 p k) * x1 (ix2 q k) := by
  unfold out0_2
  have e0 : View.ld x0 r0_0 = x0 := View.ld_unit_zero (S := S2048x1024) hz _ x0
  have e1 : View.ld x1 r0_1 = x1 := View.ld_unit_zero (S := S1408x1024) hz _ x1
  rw [View.canon_unit_zero hz, e0, e1]
  unfold k0_pay1
  exact unit_nt _ _ x0 x1 p q

variable (m : (ℓ : Loc nD τ sig) → Buf (Elt Ideal) ℓ) (ρ : Dev nD → PrngReg) (c : Dev nD)

/-- The gradient of the projection's result. -/
abbrev argD : S8192x1024.Idx → EReal := m ((c : Thread nD τ).loc main_arg0)
/-- The weights. -/
abbrev argW : S2816x1024.Idx → EReal := m ((c : Thread nD τ).loc main_arg1)

/-- Which block each point takes. -/
theorem index_at : ∀ t : Fin cfg0.N, (win0_0.index t 0 = t.val % 4 ∧ win0_0.index t 1 = 0) ∧ (win0_1.index t 0 = t.val / 4 ∧ win0_1.index t 1 = 0)
    ∧ win0_2.index t 0 = t.val % 4 ∧ win0_2.index t 1 = t.val / 4 :=
  (by decide +kernel : ∀ t : Fin grid0.N, (win0_0.index t 0 = t.val % 4 ∧ win0_0.index t 1 = 0) ∧ (win0_1.index t 0 = t.val / 4 ∧ win0_1.index t 1 = 0)
    ∧ win0_2.index t 0 = t.val % 4 ∧ win0_2.index t 1 = t.val / 4)

/-- Token `r` of the block of tokens that point `t` takes. -/
abbrev tok (t : Fin cfg0.N) (r : Fin 2048) : Fin 8192 := ⟨2048 * (t.val % 4) + r.val, by omega⟩
/-- Column `p` of the block of columns that point `t` takes. -/
abbrev col (t : Fin cfg0.N) (p : Fin 1408) : Fin 2816 := ⟨1408 * (t.val / 4) + p.val, by have := t.isLt; have h : cfg0.N = 8 := N_0; omega⟩

/-- The block of the gradient. -/
theorem blk0 (t : Fin cfg0.N) (r : Fin 2048) (k : Fin 1024) : (iblk m c 0 t : Vec Ideal S2048x1024 .bf16) (ix2 r k) = argD m c (ix2 (tok t r) k) :=
  entry2 (argD m c) _ (block (index_at t).1.1 2048 r.val) (whole (index_at t).1.2 1024 k.val)

/-- The block of the weights. -/
theorem blk1 (t : Fin cfg0.N) (p : Fin 1408) (k : Fin 1024) : (iblk m c 1 t : Vec Ideal S1408x1024 .bf16) (ix2 p k) = argW m c (ix2 (col t p) k) :=
  entry2 (argW m c) _ (block (index_at t).2.1.1 1408 p.val) (whole (index_at t).2.1.2 1024 k.val)

/-- The block of the array that point `t` wrote. -/
theorem arr_blk (t : Fin cfg0.N) (r : Fin 2048) (p : Fin 1408) :
    (dats m 0 c).arrAt 2 cfg0.N (ix2 (tok t r) (col t p)) = ∑ k : Fin 1024, argD m c (ix2 (tok t r) k) * argW m c (ix2 (col t p) k) := by
  have e := congrFun (Value.blocks2 m c t (flush0_2 t)) (ix2 r p)
  rw [View.read_apply, Value.flushed2] at e
  have hi : ((cfg0.win 2).blk t).view.emb (ix2 r p) = ix2 (tok t r) (col t p) :=
    entry2 id _ (block (index_at t).2.2.1 2048 r.val) (block (index_at t).2.2.2 1408 p.val)
  rw [hi] at e
  refine e.trans ((out_apply (iblk m c 0 t) (iblk m c 1 t) r p).trans (Finset.sum_congr rfl fun k _ => ?_))
  rw [blk0, blk1]

/-- The product after the run. -/
theorem arr (i : Fin 8192) (j : Fin 2816) : (dats m 0 c).arrAt 2 cfg0.N (ix2 i j) = ∑ k : Fin 1024, argD m c (ix2 i k) * argW m c (ix2 j k) := by
  have hN : cfg0.N = 8 := N_0
  have e := arr_blk m c ⟨4 * (j.val / 1408) + i.val / 2048, by omega⟩ ⟨i.val % 2048, Nat.mod_lt _ (by decide)⟩ ⟨j.val % 1408, Nat.mod_lt _ (by decide)⟩
  have e1 : tok ⟨4 * (j.val / 1408) + i.val / 2048, by omega⟩ ⟨i.val % 2048, Nat.mod_lt _ (by decide)⟩ = i := Fin.ext (by dsimp only [tok]; omega)
  have e2 : col ⟨4 * (j.val / 1408) + i.val / 2048, by omega⟩ ⟨j.val % 1408, Nat.mod_lt _ (by decide)⟩ = j := Fin.ext (by dsimp only [col]; omega)
  rw [e1, e2] at e
  exact e

end Cert.DownInIdeal.RefValue

namespace Cert.DownInEq

open Idealize.ShloMosaic Idealize.ShloMosaic.TcCoe Idealize.SL.Sem Idealize.ShloMosaic.ValueIdx

/-- The frame of the kernel. -/
theorem frame_p : quiescent_DownIn := fun m ρ _ => Cert.DownIn.Gen.frame m ρ

/-- The frame of the idealized kernel. -/
theorem frame_pi : quiescent_DownInIdeal := fun m ρ _ => Cert.DownInIdeal.Gen.frame m ρ

/-- The frame of the reference: its run ends with its arguments as they were, and it declares no semaphore. -/
theorem frame_ri : quiescent_DownInRefIdeal := fun m ρ _ =>
  (θ_run Cert.DownInRefIdeal.defs _ _).mono (fun r h => ⟨fun c => (h c).2, sem_eq_zero_of_no_sems (by decide) r.2⟩)
    (Cert.DownInRefIdeal.Value.run (F := Ideal) m ρ)

/-- The reference's result, element by element. -/
theorem ref_apply (D : FVec Ideal Cert.DownInRefIdeal.S8192x1024 .bf16) (W : FVec Ideal Cert.DownInRefIdeal.S2816x1024 .bf16) (hb) (i : Fin 8192) (j : Fin 2816) :
    (Host.dotGeneral Cert.DownInRefIdeal.dot_S8192x1024_S2816x1024_S8192x2816_1_1_0_0_n_n none (extf .f32 D hb) (extf .f32 W hb) : FVec Ideal Cert.DownInRefIdeal.S8192x2816 .f32) (ix2 i j)
      = ∑ k : Fin 1024, D (ix2 i k) * W (ix2 j k) :=
  Cert.Prod.host_nt _ _ _ _ i j

/-- The call computes the gradient of the rows projected. -/
theorem same : algebraic_DownInIdeal_DownInRefIdeal := by
  intro m g m' g' hm ha
  refine ⟨fun c => (Cert.DownInIdeal.Gen.dats m 0 c).arrAt 2 Cert.DownInIdeal.cfg0.N, Cert.DownInIdeal.Value.run_blocks m g, ?_⟩
  refine (θ_run Cert.DownInRefIdeal.defs _ _).mono (fun r h c => ?_) (Cert.DownInRefIdeal.Value.run (F := Ideal) m' g')
  obtain ⟨h3, hrest⟩ := h c
  obtain ⟨a0, a1⟩ := ha c
  refine ⟨h3.trans ?_, hrest⟩
  rw [a0, a1]
  refine funext fun i => ?_
  obtain ⟨p, j, rfl⟩ : ∃ (p : Fin 8192) (j : Fin 2816), i = ix2 p j := ⟨i 0, i 1, eq_ix2 i⟩
  exact (ref_apply _ _ _ p j).trans (Cert.DownInIdeal.RefValue.arr m c p j).symm

end Cert.DownInEq

end
-- ==== Proof.DownGradEq.lean ====
/-
  The gradient of the down projection's weights: two blocks of 1408 of its rows, each summed over four blocks of 2048
  tokens in a scratch the points carry, is the product over all 8192 tokens.
-/
module

public import proofs.«01_k».proof.Proof.At
public import proofs.«01_k».proof.Proof.Prod
public import proofs.«01_k».proof.Proof.Gen.DownGradIdeal.Value
public import proofs.«01_k».proof.Proof.Gen.DownGrad.Frame
public import proofs.«01_k».proof.Proof.Gen.DownGradRefIdeal.Run
public import Idealize.ShloMosaic.Lib.Pipeline.ValueKit.Tiles
public import proofs.«01_k».proof.Defs

@[expose] public section

set_option maxRecDepth 16384

noncomputable section

namespace Cert.DownGradIdeal.RefValue

open Cert.At (entry2 same2 entry3 whole block)
open Cert.DownGradIdeal Cert.DownGradIdeal.Gen Cert.Prod Idealize.ShloMosaic Idealize.ShloMosaic.TcCoe Idealize.SL.Sem Idealize.ShloMosaic.ValueIdx
open scoped BigOperators

/-! ### One point -/

section Point
variable (c : Dev nD) (i : grid0.Coords) (a3 : Memref sig .tc .vmem S2048x1408 .bf16) (h3 : a3.IsWhole) (a4 : Memref sig .tc .vmem S2048x1024 .bf16) (h4 : a4.IsWhole)
  (a5 : Memref sig .tc .vmem S1408x1024 .bf16) (h5 : a5.IsWhole) (a6 : Memref sig .tc .vmem S1408x1024 .f32) (h6 : a6.IsWhole)
  (x0 : Vec Ideal S2048x1408 .bf16) (x1 : Vec Ideal S2048x1024 .bf16) (xs : Vec Ideal S1408x1024 .f32)

/-- The product of two blocks. -/
theorem pay1_apply (p : Fin 1408) (q : Fin 1024) : k0_pay1 x0 x1 (ix2 p q) = ∑ r : Fin 2048, x0 (ix2 r p) * x1 (ix2 r q) := by
  unfold k0_pay1
  exact Cert.Prod.unit_tn _ _ x0 x1 p q

/-- The first point of a run leaves the product in the scratch. -/
theorem sout_A (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  simp only [View.readAt_eq_ld, h3.read_unread, h4.read_unread, View.ld_unit_zero (S := S2048x1408) hz, View.ld_unit_zero (S := S2048x1024) hz]
  rw [View.canon_unit_zero hz]
  unfold k0_pay2
  exact shapeCast_self _ _

/-- A middle point adds its product. -/
theorem sout_B (hc0 : ¬cond0_0 i) (hc1 : cond0_1 i) (hc2 : ¬cond0_2 i) : sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  simp only [View.readAt_eq_ld, h3.read_unread, h4.read_unread, h6.read_unread, View.ld_unit_zero (S := S2048x1408) hz, View.ld_unit_zero (S := S2048x1024) hz, View.ld_unit_zero (S := S1408x1024) hz]
  rw [View.canon_unit_zero hz]
  unfold k0_pay3
  exact shapeCast_self _ _

/-- The last point writes the sum with its product to the result's block. -/
theorem out_C (hc0 : ¬cond0_0 i) (hc1 : cond0_1 i) (hc2 : cond0_2 i) : out0_C_2 c i a3 h3 a4 h4 a5 h5 a6 h6 hc0 hc1 hc2 x0 x1 xs = addf (F := Ideal) (φ := .f32) xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  simp only [View.readAt_eq_ld, h3.read_unread, h4.read_unread, h6.read_unread, View.ld_unit_zero (S := S2048x1408) hz, View.ld_unit_zero (S := S2048x1024) hz, View.ld_unit_zero (S := S1408x1024) hz]
  rw [View.canon_unit_zero hz, readCov_last]
  unfold k0_pay4 k0_pay3
  dsimp only
  rw [shapeCast_self]
  rfl

end Point

/-! ### The points' blocks of the operands -/

variable (m : (ℓ : Loc nD τ sig) → Buf (Elt Ideal) ℓ) (ρ : Dev nD → PrngReg) (c : Dev nD)

/-- The rows projected. -/
abbrev argA : S8192x2816.Idx → EReal := m ((c : Thread nD τ).loc main_arg0)
/-- The gradient of the projection's result. -/
abbrev argD : S8192x1024.Idx → EReal := m ((c : Thread nD τ).loc main_arg1)

/-- Which block each point takes. -/
theorem index_at : ∀ t : Fin cfg0.N, (win0_0.index t 0 = t.val % 4 ∧ win0_0.index t 1 = t.val / 4) ∧ win0_1.index t 0 = t.val % 4 ∧ win0_1.index t 1 = 0 :=
  (by decide +kernel : ∀ t : Fin grid0.N, (win0_0.index t 0 = t.val % 4 ∧ win0_0.index t 1 = t.val / 4) ∧ win0_1.index t 0 = t.val % 4 ∧ win0_1.index t 1 = 0)

/-- Token `r` of the block of tokens that point `t` takes. -/
abbrev tok (t : Fin cfg0.N) (r : Fin 2048) : Fin 8192 := ⟨2048 * (t.val % 4) + r.val, by omega⟩
/-- Column `p` of the block of columns that point `t` takes. -/
abbrev col (t : Fin cfg0.N) (p : Fin 1408) : Fin 2816 := ⟨1408 * (t.val / 4) + p.val, by have := t.isLt; have h : cfg0.N = 8 := N_0; omega⟩

/-- The block of the rows projected. -/
theorem blk0 (t : Fin cfg0.N) (r : Fin 2048) (p : Fin 1408) : (iblk m c 0 t : Vec Ideal S2048x1408 .bf16) (ix2 r p) = argA m c (ix2 (tok t r) (col t p)) :=
  entry2 (argA m c) _ (block (index_at t).1.1 2048 r.val) (block (index_at t).1.2 1408 p.val)

/-- The block of the gradient. -/
theorem blk1 (t : Fin cfg0.N) (r : Fin 2048) (q : Fin 1024) : (iblk m c 1 t : Vec Ideal S2048x1024 .bf16) (ix2 r q) = argD m c (ix2 (tok t r) q) :=
  entry2 (argD m c) _ (block (index_at t).2.1 2048 r.val) (whole (index_at t).2.2 1024 q.val)

/-- A point's product, of the operands. -/
theorem part (t : Fin cfg0.N) (p : Fin 1408) (q : Fin 1024) :
    k0_pay1 (iblk m c 0 t : Vec Ideal S2048x1408 .bf16) (iblk m c 1 t) (ix2 p q) = ∑ r : Fin 2048, argA m c (ix2 (tok t r) (col t p)) * argD m c (ix2 (tok t r) q) := by
  rw [pay1_apply]
  exact Finset.sum_congr rfl fun r _ => congrArg₂ (· * ·) (blk0 m c t r p) (blk1 m c t r q)

/-! ### The run of four points of a block of columns -/

/-- After the first point. -/
theorem first (t : Fin cfg0.N) (h : t.val % 4 = 0) (y : S1408x1024.Idx) : (outsAt0 m c t.val t.isLt).2 y = k0_pay1 (iblk m c 0 t : Vec Ideal S2048x1408 .bf16) (iblk m c 1 t) y := by
  have e := congrFun (congrArg (fun x => x.2) (outsAt0_A m c t h (by omega) (by omega))) y
  dsimp only at e
  refine e.trans ?_
  rw [sout_A]

/-- After a middle point. -/
theorem next (t : Fin cfg0.N) (h : 1 ≤ t.val % 4) (h' : t.val % 4 ≠ 3) (y : S1408x1024.Idx) :
    (outsAt0 m c t.val t.isLt).2 y = (outsAt0 m c (t.val - 1) (lt_of_le_of_lt (Nat.sub_le _ _) t.isLt)).2 y + k0_pay1 (iblk m c 0 t : Vec Ideal S2048x1408 .bf16) (iblk m c 1 t) y := by
  have e := congrFun (congrArg (fun x => x.2) (outsAt0_B m c t (by omega) h h')) y
  dsimp only at e
  refine e.trans ?_
  rw [sout_B, addf_apply]

/-- In the result's block after the last point. -/
theorem done (t : Fin cfg0.N) (h : t.val % 4 = 3) (y : S1408x1024.Idx) :
    (outsAt0 m c t.val t.isLt).1 y = (outsAt0 m c (t.val - 1) (lt_of_le_of_lt (Nat.sub_le _ _) t.isLt)).2 y + k0_pay1 (iblk m c 0 t : Vec Ideal S2048x1408 .bf16) (iblk m c 1 t) y := by
  have e := congrFun (congrArg (fun x => x.1) (outsAt0_C m c t (by omega) (by omega) h)) y
  dsimp only at e
  refine e.trans ?_
  rw [out_C, addf_apply]

/-- What the `n`-th point of run `g` holds: the last its result's block, the others the scratch. -/
def held (g n : ℕ) (h : 4 * g + n < cfg0.N) : S1408x1024.Idx → EReal :=
  if n = 3 then (outsAt0 m c (4 * g + n) h).1 else (outsAt0 m c (4 * g + n) h).2

/-- The result's block after a run. -/
theorem swept (g : ℕ) (hg : g < 2) (h : 4 * g + 3 < cfg0.N) (p : Fin 1408) (q : Fin 1024) :
    (outsAt0 m c (4 * g + 3) h).1 (ix2 p q) = ∑ k : Fin 8192, argA m c (ix2 k ⟨1408 * g + p.val, by omega⟩) * argD m c (ix2 k q) := by
  have hN : cfg0.N = 8 := N_0
  have hb : ∀ n, n < 4 → 4 * g + n < cfg0.N := fun n hn => by omega
  have part' : ∀ n (hn : n < 4) (hK : ∀ r : Fin 2048, 2048 * n + r.val < 8192), k0_pay1 (iblk m c 0 ⟨4 * g + n, hb n hn⟩ : Vec Ideal S2048x1408 .bf16) (iblk m c 1 ⟨4 * g + n, hb n hn⟩) (ix2 p q)
      = ∑ r : Fin 2048, argA m c (ix2 ⟨2048 * n + r.val, hK r⟩ ⟨1408 * g + p.val, by omega⟩) * argD m c (ix2 ⟨2048 * n + r.val, hK r⟩ q) := fun n hn hK => by
    refine (part m c ⟨4 * g + n, hb n hn⟩ p q).trans (Finset.sum_congr rfl fun r _ => ?_)
    have e1 : tok ⟨4 * g + n, hb n hn⟩ r = ⟨2048 * n + r.val, hK r⟩ := Fin.ext (by show 2048 * ((4 * g + n) % 4) + r.val = 2048 * n + r.val; omega)
    have e2 : col ⟨4 * g + n, hb n hn⟩ p = ⟨1408 * g + p.val, by omega⟩ := Fin.ext (by show 1408 * ((4 * g + n) / 4) + p.val = 1408 * g + p.val; omega)
    rw [e1, e2]
  refine Eq.trans (b := held m c g 3 h (ix2 p q)) rfl ?_
  refine Cert.Prod.chain (K := 8192) (b := 2048) (g := 4) rfl (by decide) (fun k => argA m c (ix2 k ⟨1408 * g + p.val, by omega⟩) * argD m c (ix2 k q))
    (fun n hn => held m c g n (hb n hn) (ix2 p q)) ?_ ?_ (by decide)
  · exact (first m c ⟨4 * g + 0, hb 0 (by decide)⟩ (by show (4 * g + 0) % 4 = 0; omega) (ix2 p q)).trans (part' 0 (by decide) _)
  · intro n hn
    have hn' : held m c g n (hb n (by omega)) = (outsAt0 m c (4 * g + n) (hb n (by omega))).2 := if_neg (by omega)
    rw [hn', ← part' (n + 1) hn]
    by_cases e : n + 1 = 3
    · rw [held, if_pos e]
      exact done m c ⟨4 * g + (n + 1), hb _ hn⟩ (by show (4 * g + (n + 1)) % 4 = 3; omega) (ix2 p q)
    · rw [held, if_neg e]
      exact next m c ⟨4 * g + (n + 1), hb _ hn⟩ (by show 1 ≤ (4 * g + (n + 1)) % 4; omega) (by show (4 * g + (n + 1)) % 4 ≠ 3; omega) (ix2 p q)

/-- The gradient of the weights after the run. -/
theorem arr (i : Fin 2816) (j : Fin 1024) : (dats m 0 c).arrAt 2 cfg0.N (ix2 i j) = ∑ k : Fin 8192, argA m c (ix2 k i) * argD m c (ix2 k j) := by
  have hN : cfg0.N = 8 := N_0
  rw [Value.final2]
  have hp : Value.pt2Of (ix2 i j) = 4 * (i.val / 1408) + 3 := by
    show 4 * (1 * (i.val / 1408 - 0) + 1 * (j.val / 1024 - 0)) + 3 = _
    omega
  have hl : Value.pt2Of (ix2 i j) < cfg0.N := by omega
  unfold Value.G2
  rw [dif_pos hl, ← Value.outsAt0_sweep m c _ hl]
  have hloc : Value.loc2Of (ix2 i j) = ix2 ⟨i.val % 1408, Nat.mod_lt _ (by decide)⟩ j := by
    funext a
    apply Fin.ext
    match a with
    | ⟨0, _⟩ => rfl
    | ⟨1, _⟩ => exact Nat.mod_eq_of_lt j.isLt
  have key := swept m c (i.val / 1408) (by omega) (by omega) ⟨i.val % 1408, Nat.mod_lt _ (by decide)⟩ j
  have hi : (⟨1408 * (i.val / 1408) + i.val % 1408, by omega⟩ : Fin 2816) = i := Fin.ext (by show 1408 * (i.val / 1408) + i.val % 1408 = i.val; omega)
  dsimp only at key
  rw [hi] at key
  rw [hloc, ← key]
  have at_eq : ∀ (a b : ℕ) (ha : a < cfg0.N) (hb : b < cfg0.N), a = b → (outsAt0 m c a ha).1 = (outsAt0 m c b hb).1 := by
    rintro a _ _ _ rfl; rfl
  rw [at_eq _ _ hl (by omega) hp]

end Cert.DownGradIdeal.RefValue

namespace Cert.DownGradEq

open Idealize.ShloMosaic Idealize.ShloMosaic.TcCoe Idealize.SL.Sem Idealize.ShloMosaic.ValueIdx

/-- The frame of the kernel. -/
theorem frame_p : quiescent_DownGrad := fun m ρ _ => Cert.DownGrad.Gen.frame m ρ

/-- The frame of the idealized kernel. -/
theorem frame_pi : quiescent_DownGradIdeal := fun m ρ _ => Cert.DownGradIdeal.Gen.frame m ρ

/-- The frame of the reference: its run ends with its arguments as they were, and it declares no semaphore. -/
theorem frame_ri : quiescent_DownGradRefIdeal := fun m ρ _ =>
  (θ_run Cert.DownGradRefIdeal.defs _ _).mono (fun r h => ⟨fun c => (h c).2, sem_eq_zero_of_no_sems (by decide) r.2⟩)
    (Cert.DownGradRefIdeal.Value.run (F := Ideal) m ρ)

/-- The reference's result, element by element: there the factors stand the other way round. -/
theorem ref_apply (A : FVec Ideal Cert.DownGradRefIdeal.S8192x2816 .bf16) (D : FVec Ideal Cert.DownGradRefIdeal.S8192x1024 .bf16) (hb ht) (i : Fin 2816) (j : Fin 1024) :
    (truncf .bf16 (transpose Cert.DownGradRefIdeal.S2816x1024 [1, 0]
      (Host.dotGeneral Cert.DownGradRefIdeal.dot_S8192x1024_S8192x2816_S1024x2816_0_0_1_1_n_n none (extf .f32 D hb) (extf .f32 A hb)) ht) hb : FVec Ideal Cert.DownGradRefIdeal.S2816x1024 .bf16) (ix2 i j)
      = ∑ k : Fin 8192, A (ix2 k i) * D (ix2 k j) := by
  rw [truncf_apply]
  refine (Cert.Prod.swap_apply _ ht j i).trans ((Cert.Prod.host_tn _ _ _ _ j i).trans ?_)
  exact Finset.sum_congr rfl fun k _ => mul_comm _ _

/-- The call computes the gradient of the weights. -/
theorem same : algebraic_DownGradIdeal_DownGradRefIdeal := by
  intro m g m' g' hm ha
  refine ⟨fun c => (Cert.DownGradIdeal.Gen.dats m 0 c).arrAt 2 Cert.DownGradIdeal.cfg0.N, Cert.DownGradIdeal.Value.run_blocks m g, ?_⟩
  refine (θ_run Cert.DownGradRefIdeal.defs _ _).mono (fun r h c => ?_) (Cert.DownGradRefIdeal.Value.run (F := Ideal) m' g')
  obtain ⟨h8, hrest⟩ := h c
  obtain ⟨a0, a1⟩ := ha c
  refine ⟨h8.trans ?_, hrest⟩
  rw [a0, a1]
  refine funext fun i => ?_
  obtain ⟨p, j, rfl⟩ : ∃ (p : Fin 2816) (j : Fin 1024), i = ix2 p j := ⟨i 0, i 1, eq_ix2 i⟩
  exact (ref_apply _ _ _ _ p j).trans (Cert.DownGradIdeal.RefValue.arr m c p j).symm

end Cert.DownGradEq

end
-- ==== Proof.MixInEq.lean ====
/-
  The projection into the mixers: each point's block of the result is the product of a block of rows with the weights' rows,
  so the whole is the product with the weights transposed.
-/
module

public import proofs.«01_k».proof.Proof.At
public import proofs.«01_k».proof.Proof.Prod
public import proofs.«01_k».proof.Proof.Gen.MixInIdeal.Value
public import proofs.«01_k».proof.Proof.Gen.MixIn.Frame
public import proofs.«01_k».proof.Proof.Gen.MixInRefIdeal.Run
public import proofs.«01_k».proof.Defs

@[expose] public section

set_option maxRecDepth 16384

noncomputable section

namespace Cert.MixInIdeal.RefValue

open Cert.At (entry2 same2 entry3 whole block)
open Cert.MixInIdeal Cert.MixInIdeal.Gen Cert.Prod Idealize.ShloMosaic Idealize.ShloMosaic.TcCoe Idealize.SL.Sem Idealize.ShloMosaic.ValueIdx
open scoped BigOperators

/-- A point's block of the result. -/
theorem out_apply (x0 : Vec Ideal S1024x1024 .bf16) (x1 : Vec Ideal S2176x1024 .bf16) (p : Fin 1024) (q : Fin 2176) :
    out0_2 x0 x1 (ix2 p q) = ∑ k : Fin 1024, x0 (ix2 p k) * x1 (ix2 q k) := by
  unfold out0_2
  have e0 : View.ld x0 r0_0 = x0 := View.ld_unit_zero (S := S1024x1024) hz _ x0
  have e1 : View.ld x1 r0_1 = x1 := View.ld_unit_zero (S := S2176x1024) hz _ x1
  rw [View.canon_unit_zero hz, e0, e1]
  unfold k0_pay1
  exact unit_nt _ _ x0 x1 p q

variable (m : (ℓ : Loc nD τ sig) → Buf (Elt Ideal) ℓ) (ρ : Dev nD → PrngReg) (c : Dev nD)

/-- The rows projected. -/
abbrev argH : S8192x1024.Idx → EReal := m ((c : Thread nD τ).loc main_arg0)
/-- The weights. -/
abbrev argW : S2176x1024.Idx → EReal := m ((c : Thread nD τ).loc main_arg1)

/-- Which block each point takes: its rows, and the whole of the weights. -/
theorem index_at : ∀ t : Fin cfg0.N, (win0_0.index t 0 = t.val ∧ win0_0.index t 1 = 0) ∧ (win0_1.index t 0 = 0 ∧ win0_1.index t 1 = 0)
    ∧ win0_2.index t 0 = t.val ∧ win0_2.index t 1 = 0 :=
  (by decide +kernel : ∀ t : Fin grid0.N, (win0_0.index t 0 = t.val ∧ win0_0.index t 1 = 0) ∧ (win0_1.index t 0 = 0 ∧ win0_1.index t 1 = 0)
    ∧ win0_2.index t 0 = t.val ∧ win0_2.index t 1 = 0)

/-- Row `r` of the block of rows that point `t` takes. -/
abbrev tok (t : Fin cfg0.N) (r : Fin 1024) : Fin 8192 := ⟨1024 * t.val + r.val, by have := t.isLt; have h : cfg0.N = 8 := N_0; omega⟩

/-- The block of the rows. -/
theorem blk0 (t : Fin cfg0.N) (r : Fin 1024) (k : Fin 1024) : (iblk m c 0 t : Vec Ideal S1024x1024 .bf16) (ix2 r k) = argH m c (ix2 (tok t r) k) :=
  entry2 (argH m c) _ (block (index_at t).1.1 1024 r.val) (whole (index_at t).1.2 1024 k.val)

/-- The block of the weights. -/
theorem blk1 (t : Fin cfg0.N) (p : Fin 2176) (k : Fin 1024) : (iblk m c 1 t : Vec Ideal S2176x1024 .bf16) (ix2 p k) = argW m c (ix2 p k) :=
  entry2 (argW m c) _ (whole (index_at t).2.1.1 2176 p.val) (whole (index_at t).2.1.2 1024 k.val)

/-- The block of the array that point `t` wrote. -/
theorem arr_blk (t : Fin cfg0.N) (r : Fin 1024) (p : Fin 2176) :
    (dats m 0 c).arrAt 2 cfg0.N (ix2 (tok t r) p) = ∑ k : Fin 1024, argH m c (ix2 (tok t r) k) * argW m c (ix2 p k) := by
  have e := congrFun (Value.blocks2 m c t (flush0_2 t)) (ix2 r p)
  rw [View.read_apply, Value.flushed2] at e
  have hi : ((cfg0.win 2).blk t).view.emb (ix2 r p) = ix2 (tok t r) p :=
    entry2 id _ (block (index_at t).2.2.1 1024 r.val) (whole (index_at t).2.2.2 2176 p.val)
  rw [hi] at e
  refine e.trans ((out_apply (iblk m c 0 t) (iblk m c 1 t) r p).trans (Finset.sum_congr rfl fun k _ => ?_))
  rw [blk0, blk1]

/-- The product after the run. -/
theorem arr (i : Fin 8192) (j : Fin 2176) : (dats m 0 c).arrAt 2 cfg0.N (ix2 i j) = ∑ k : Fin 1024, argH m c (ix2 i k) * argW m c (ix2 j k) := by
  have hN : cfg0.N = 8 := N_0
  have e := arr_blk m c ⟨i.val / 1024, by omega⟩ ⟨i.val % 1024, Nat.mod_lt _ (by decide)⟩ j
  have e1 : tok ⟨i.val / 1024, by omega⟩ ⟨i.val % 1024, Nat.mod_lt _ (by decide)⟩ = i := Fin.ext (by dsimp only [tok]; omega)
  rw [e1] at e
  exact e

end Cert.MixInIdeal.RefValue

namespace Cert.MixInEq

open Idealize.ShloMosaic Idealize.ShloMosaic.TcCoe Idealize.SL.Sem Idealize.ShloMosaic.ValueIdx

/-- The frame of the kernel. -/
theorem frame_p : quiescent_MixIn := fun m ρ _ => Cert.MixIn.Gen.frame m ρ

/-- The frame of the idealized kernel. -/
theorem frame_pi : quiescent_MixInIdeal := fun m ρ _ => Cert.MixInIdeal.Gen.frame m ρ

/-- The frame of the reference: its run ends with its arguments as they were, and it declares no semaphore. -/
theorem frame_ri : quiescent_MixInRefIdeal := fun m ρ _ =>
  (θ_run Cert.MixInRefIdeal.defs _ _).mono (fun r h => ⟨fun c => (h c).2, sem_eq_zero_of_no_sems (by decide) r.2⟩)
    (Cert.MixInRefIdeal.Value.run (F := Ideal) m ρ)

/-- The reference's result, element by element. -/
theorem ref_apply (H : FVec Ideal Cert.MixInRefIdeal.S8192x1024 .bf16) (W : FVec Ideal Cert.MixInRefIdeal.S2176x1024 .bf16) (hb ht) (i : Fin 8192) (j : Fin 2176) :
    (Host.dotGeneral Cert.MixInRefIdeal.dot_S8192x1024_S1024x2176_S8192x2176_1_0_0_1_n_n none (extf .f32 H hb)
      (transpose Cert.MixInRefIdeal.S1024x2176 [1, 0] (extf .f32 W hb) ht) : FVec Ideal Cert.MixInRefIdeal.S8192x2176 .f32) (ix2 i j)
      = ∑ k : Fin 1024, H (ix2 i k) * W (ix2 j k) :=
  (Cert.Prod.host_nn _ _ _ _ i j).trans (Finset.sum_congr rfl fun k _ => congrArg (H (ix2 i k) * ·) (Cert.Prod.swap_apply _ ht j k))

/-- The call computes the product with the weights transposed. -/
theorem same : algebraic_MixInIdeal_MixInRefIdeal := by
  intro m g m' g' hm ha
  refine ⟨fun c => (Cert.MixInIdeal.Gen.dats m 0 c).arrAt 2 Cert.MixInIdeal.cfg0.N, Cert.MixInIdeal.Value.run_blocks m g, ?_⟩
  refine (θ_run Cert.MixInRefIdeal.defs _ _).mono (fun r h c => ?_) (Cert.MixInRefIdeal.Value.run (F := Ideal) m' g')
  obtain ⟨h3, hrest⟩ := h c
  obtain ⟨a0, a1⟩ := ha c
  refine ⟨h3.trans ?_, hrest⟩
  rw [a0, a1]
  refine funext fun i => ?_
  obtain ⟨p, j, rfl⟩ : ∃ (p : Fin 8192) (j : Fin 2176), i = ix2 p j := ⟨i 0, i 1, eq_ix2 i⟩
  exact (ref_apply _ _ _ _ p j).trans (Cert.MixInIdeal.RefValue.arr m c p j).symm

end Cert.MixInEq

end
-- ==== Proof.MixGradEq.lean ====
/-
  The gradient of the weights of the projection into the mixers: summed over four blocks of 2048 tokens in a scratch the points
  carry, it is the product over all 8192 tokens.
-/
module

public import proofs.«01_k».proof.Proof.At
public import proofs.«01_k».proof.Proof.Prod
public import proofs.«01_k».proof.Proof.Gen.MixGradIdeal.Value
public import proofs.«01_k».proof.Proof.Gen.MixGrad.Frame
public import proofs.«01_k».proof.Proof.Gen.MixGradRefIdeal.Run
public import Idealize.ShloMosaic.Lib.Pipeline.ValueKit.Tiles
public import proofs.«01_k».proof.Defs

@[expose] public section

set_option maxRecDepth 16384

noncomputable section

namespace Cert.MixGradIdeal.RefValue

open Cert.At (entry2 same2 entry3 whole block)
open Cert.MixGradIdeal Cert.MixGradIdeal.Gen Cert.Prod Idealize.ShloMosaic Idealize.ShloMosaic.TcCoe Idealize.SL.Sem Idealize.ShloMosaic.ValueIdx
open scoped BigOperators

/-! ### One point -/

section Point
variable (c : Dev nD) (i : grid0.Coords) (a3 : Memref sig .tc .vmem S2048x2176 .bf16) (h3 : a3.IsWhole) (a4 : Memref sig .tc .vmem S2048x1024 .bf16) (h4 : a4.IsWhole)
  (a5 : Memref sig .tc .vmem S2176x1024 .bf16) (h5 : a5.IsWhole) (a6 : Memref sig .tc .vmem S2176x1024 .f32) (h6 : a6.IsWhole)
  (x0 : Vec Ideal S2048x2176 .bf16) (x1 : Vec Ideal S2048x1024 .bf16) (xs : Vec Ideal S2176x1024 .f32)

/-- The product of two blocks. -/
theorem pay1_apply (p : Fin 2176) (q : Fin 1024) : k0_pay1 x0 x1 (ix2 p q) = ∑ r : Fin 2048, x0 (ix2 r p) * x1 (ix2 r q) := by
  unfold k0_pay1
  exact Cert.Prod.unit_tn _ _ x0 x1 p q

/-- The first point of a run leaves the product in the scratch. -/
theorem sout_A (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  simp only [View.readAt_eq_ld, h3.read_unread, h4.read_unread, View.ld_unit_zero (S := S2048x2176) hz, View.ld_unit_zero (S := S2048x1024) hz]
  rw [View.canon_unit_zero hz]
  unfold k0_pay2
  exact shapeCast_self _ _

/-- A middle point adds its product. -/
theorem sout_B (hc0 : ¬cond0_0 i) (hc1 : cond0_1 i) (hc2 : ¬cond0_2 i) : sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  simp only [View.readAt_eq_ld, h3.read_unread, h4.read_unread, h6.read_unread, View.ld_unit_zero (S := S2048x2176) hz, View.ld_unit_zero (S := S2048x1024) hz, View.ld_unit_zero (S := S2176x1024) hz]
  rw [View.canon_unit_zero hz]
  unfold k0_pay3
  exact shapeCast_self _ _

/-- The last point writes the sum with its product to the result's block. -/
theorem out_C (hc0 : ¬cond0_0 i) (hc1 : cond0_1 i) (hc2 : cond0_2 i) : out0_C_2 c i a3 h3 a4 h4 a5 h5 a6 h6 hc0 hc1 hc2 x0 x1 xs = addf (F := Ideal) (φ := .f32) xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  simp only [View.readAt_eq_ld, h3.read_unread, h4.read_unread, h6.read_unread, View.ld_unit_zero (S := S2048x2176) hz, View.ld_unit_zero (S := S2048x1024) hz, View.ld_unit_zero (S := S2176x1024) hz]
  rw [View.canon_unit_zero hz, readCov_last]
  unfold k0_pay4 k0_pay3
  dsimp only
  rw [shapeCast_self]
  rfl

end Point

/-! ### The points' blocks of the operands -/

variable (m : (ℓ : Loc nD τ sig) → Buf (Elt Ideal) ℓ) (ρ : Dev nD → PrngReg) (c : Dev nD)

/-- The gradient of the projection's result. -/
abbrev argD : S8192x2176.Idx → EReal := m ((c : Thread nD τ).loc main_arg0)
/-- The rows projected. -/
abbrev argH : S8192x1024.Idx → EReal := m ((c : Thread nD τ).loc main_arg1)

/-- Which block each point takes. -/
theorem index_at : ∀ t : Fin cfg0.N, (win0_0.index t 0 = t.val ∧ win0_0.index t 1 = 0) ∧ win0_1.index t 0 = t.val ∧ win0_1.index t 1 = 0 :=
  (by decide +kernel : ∀ t : Fin grid0.N, (win0_0.index t 0 = t.val ∧ win0_0.index t 1 = 0) ∧ win0_1.index t 0 = t.val ∧ win0_1.index t 1 = 0)

/-- Token `r` of the block of tokens that point `t` takes. -/
abbrev tok (t : Fin cfg0.N) (r : Fin 2048) : Fin 8192 := ⟨2048 * t.val + r.val, by have := t.isLt; have h : cfg0.N = 4 := N_0; omega⟩

/-- The block of the gradient. -/
theorem blk0 (t : Fin cfg0.N) (r : Fin 2048) (p : Fin 2176) : (iblk m c 0 t : Vec Ideal S2048x2176 .bf16) (ix2 r p) = argD m c (ix2 (tok t r) p) :=
  entry2 (argD m c) _ (block (index_at t).1.1 2048 r.val) (whole (index_at t).1.2 2176 p.val)

/-- The block of the rows projected. -/
theorem blk1 (t : Fin cfg0.N) (r : Fin 2048) (q : Fin 1024) : (iblk m c 1 t : Vec Ideal S2048x1024 .bf16) (ix2 r q) = argH m c (ix2 (tok t r) q) :=
  entry2 (argH m c) _ (block (index_at t).2.1 2048 r.val) (whole (index_at t).2.2 1024 q.val)

/-- A point's product, of the operands. -/
theorem part (t : Fin cfg0.N) (p : Fin 2176) (q : Fin 1024) :
    k0_pay1 (iblk m c 0 t : Vec Ideal S2048x2176 .bf16) (iblk m c 1 t) (ix2 p q) = ∑ r : Fin 2048, argD m c (ix2 (tok t r) p) * argH m c (ix2 (tok t r) q) := by
  rw [pay1_apply]
  exact Finset.sum_congr rfl fun r _ => congrArg₂ (· * ·) (blk0 m c t r p) (blk1 m c t r q)

/-! ### The run of the four points -/

/-- After the first point. -/
theorem first (t : Fin cfg0.N) (h : t.val = 0) (y : S2176x1024.Idx) : (outsAt0 m c t.val t.isLt).2 y = k0_pay1 (iblk m c 0 t : Vec Ideal S2048x2176 .bf16) (iblk m c 1 t) y := by
  have e := congrFun (congrArg (fun x => x.2) (outsAt0_A m c t (by omega) (by omega) (by omega))) y
  dsimp only at e
  refine e.trans ?_
  rw [sout_A]

/-- After a middle point. -/
theorem next (t : Fin cfg0.N) (h : 1 ≤ t.val) (h' : t.val < 3) (y : S2176x1024.Idx) :
    (outsAt0 m c t.val t.isLt).2 y = (outsAt0 m c (t.val - 1) (lt_of_le_of_lt (Nat.sub_le _ _) t.isLt)).2 y + k0_pay1 (iblk m c 0 t : Vec Ideal S2048x2176 .bf16) (iblk m c 1 t) y := by
  have e := congrFun (congrArg (fun x => x.2) (outsAt0_B m c t (by omega) h (by omega))) y
  dsimp only at e
  refine e.trans ?_
  rw [sout_B, addf_apply]

/-- In the result's block after the last point. -/
theorem done (t : Fin cfg0.N) (h : t.val = 3) (y : S2176x1024.Idx) :
    (outsAt0 m c t.val t.isLt).1 y = (outsAt0 m c (t.val - 1) (lt_of_le_of_lt (Nat.sub_le _ _) t.isLt)).2 y + k0_pay1 (iblk m c 0 t : Vec Ideal S2048x2176 .bf16) (iblk m c 1 t) y := by
  have e := congrFun (congrArg (fun x => x.1) (outsAt0_C m c t (by omega) (by omega) (by omega))) y
  dsimp only at e
  refine e.trans ?_
  rw [out_C, addf_apply]

/-- What the `n`-th point holds: the last its result's block, the others the scratch. -/
def held (n : ℕ) (h : n < cfg0.N) : S2176x1024.Idx → EReal :=
  if n = 3 then (outsAt0 m c n h).1 else (outsAt0 m c n h).2

/-- The gradient of the weights after the run. -/
theorem arr (i : Fin 2176) (j : Fin 1024) : (dats m 0 c).arrAt 2 cfg0.N (ix2 i j) = ∑ k : Fin 8192, argD m c (ix2 k i) * argH m c (ix2 k j) := by
  have hN : cfg0.N = 4 := N_0
  have hb : ∀ n, n < 4 → n < cfg0.N := fun n hn => by omega
  rw [Value.final2, Value.G2_last, ← congrArg Prod.fst (Value.outsAt0_sweep m c 3 (hb 3 (by decide)))]
  refine Eq.trans (b := held m c 3 (hb 3 (by decide)) (ix2 i j)) rfl ?_
  refine Cert.Prod.chain (K := 8192) (b := 2048) (g := 4) rfl (by decide) (fun k => argD m c (ix2 k i) * argH m c (ix2 k j))
    (fun n hn => held m c n (hb n hn) (ix2 i j)) ?_ ?_ (by decide)
  · exact (first m c ⟨0, hb 0 (by decide)⟩ rfl (ix2 i j)).trans (part m c ⟨0, hb 0 (by decide)⟩ i j)
  · intro n hn
    have hn' : held m c n (hb n (by omega)) = (outsAt0 m c n (hb n (by omega))).2 := if_neg (by omega)
    rw [hn']
    refine Eq.trans ?_ (congrArg ((outsAt0 m c n (hb n (by omega))).2 (ix2 i j) + ·) (part m c ⟨n + 1, hb _ hn⟩ i j))
    by_cases e : n + 1 = 3
    · rw [held, if_pos e]
      exact done m c ⟨n + 1, hb _ hn⟩ e (ix2 i j)
    · rw [held, if_neg e]
      exact next m c ⟨n + 1, hb _ hn⟩ (by show 1 ≤ n + 1; omega) (by show n + 1 < 3; omega) (ix2 i j)

end Cert.MixGradIdeal.RefValue

namespace Cert.MixGradEq

open Idealize.ShloMosaic Idealize.ShloMosaic.TcCoe Idealize.SL.Sem Idealize.ShloMosaic.ValueIdx

/-- The frame of the kernel. -/
theorem frame_p : quiescent_MixGrad := fun m ρ _ => Cert.MixGrad.Gen.frame m ρ

/-- The frame of the idealized kernel. -/
theorem frame_pi : quiescent_MixGradIdeal := fun m ρ _ => Cert.MixGradIdeal.Gen.frame m ρ

/-- The frame of the reference: its run ends with its arguments as they were, and it declares no semaphore. -/
theorem frame_ri : quiescent_MixGradRefIdeal := fun m ρ _ =>
  (θ_run Cert.MixGradRefIdeal.defs _ _).mono (fun r h => ⟨fun c => (h c).2, sem_eq_zero_of_no_sems (by decide) r.2⟩)
    (Cert.MixGradRefIdeal.Value.run (F := Ideal) m ρ)

/-- The reference's result, element by element: it is transposed there and back. -/
theorem ref_apply (D : FVec Ideal Cert.MixGradRefIdeal.S8192x2176 .bf16) (H : FVec Ideal Cert.MixGradRefIdeal.S8192x1024 .bf16) (hb ht hs) (i : Fin 2176) (j : Fin 1024) :
    (truncf .bf16 (transpose Cert.MixGradRefIdeal.S2176x1024 [1, 0] (transpose Cert.MixGradRefIdeal.S1024x2176 [1, 0]
      (Host.dotGeneral Cert.MixGradRefIdeal.dot_S8192x2176_S8192x1024_S2176x1024_0_0_1_1_n_n none (extf .f32 D hb) (extf .f32 H hb)) ht) hs) hb
        : FVec Ideal Cert.MixGradRefIdeal.S2176x1024 .bf16) (ix2 i j)
      = ∑ k : Fin 8192, D (ix2 k i) * H (ix2 k j) := by
  rw [truncf_apply]
  exact (Cert.Prod.swap_apply _ hs j i).trans ((Cert.Prod.swap_apply _ ht i j).trans (Cert.Prod.host_tn _ _ _ _ i j))

/-- The call computes the gradient of the weights. -/
theorem same : algebraic_MixGradIdeal_MixGradRefIdeal := by
  intro m g m' g' hm ha
  refine ⟨fun c => (Cert.MixGradIdeal.Gen.dats m 0 c).arrAt 2 Cert.MixGradIdeal.cfg0.N, Cert.MixGradIdeal.Value.run_blocks m g, ?_⟩
  refine (θ_run Cert.MixGradRefIdeal.defs _ _).mono (fun r h c => ?_) (Cert.MixGradRefIdeal.Value.run (F := Ideal) m' g')
  obtain ⟨h8, hrest⟩ := h c
  obtain ⟨a0, a1⟩ := ha c
  refine ⟨h8.trans ?_, hrest⟩
  rw [a0, a1]
  refine funext fun i => ?_
  obtain ⟨p, j, rfl⟩ : ∃ (p : Fin 2176) (j : Fin 1024), i = ix2 p j := ⟨i 0, i 1, eq_ix2 i⟩
  exact (ref_apply _ _ _ _ _ p j).trans (Cert.MixGradIdeal.RefValue.arr m c p j).symm

end Cert.MixGradEq

end
-- ==== Proof.OutInEq.lean ====
/-
  The gradient going into the attention's output projection: each point's block of it is the product of a block of the rows
  of the gradient with the weights' rows, so the whole is the product with the weights transposed.
-/
module

public import proofs.«01_k».proof.Proof.At
public import proofs.«01_k».proof.Proof.Prod
public import proofs.«01_k».proof.Proof.Gen.OutInIdeal.Value
public import proofs.«01_k».proof.Proof.Gen.OutIn.Frame
public import proofs.«01_k».proof.Proof.Gen.OutInRefIdeal.Run
public import proofs.«01_k».proof.Defs

@[expose] public section

set_option maxRecDepth 16384

noncomputable section

namespace Cert.OutInIdeal.RefValue

open Cert.At (entry2 same2 entry3 whole block)
open Cert.OutInIdeal Cert.OutInIdeal.Gen Cert.Prod Idealize.ShloMosaic Idealize.ShloMosaic.TcCoe Idealize.SL.Sem Idealize.ShloMosaic.ValueIdx
open scoped BigOperators

/-- A point's block of the result. -/
theorem out_apply (x0 : Vec Ideal S2048x1024 .bf16) (x1 : Vec Ideal S1024x1024 .bf16) (p : Fin 2048) (q : Fin 1024) :
    out0_2 x0 x1 (ix2 p q) = ∑ k : Fin 1024, x0 (ix2 p k) * x1 (ix2 q k) := by
  unfold out0_2
  have e0 : View.ld x0 r0_0 = x0 := View.ld_unit_zero (S := S2048x1024) hz _ x0
  have e1 : View.ld x1 r0_1 = x1 := View.ld_unit_zero (S := S1024x1024) hz _ x1
  rw [View.canon_unit_zero hz, e0, e1]
  unfold k0_pay1
  rw [truncf_apply]
  exact unit_nt _ _ x0 x1 p q

variable (m : (ℓ : Loc nD τ sig) → Buf (Elt Ideal) ℓ) (ρ : Dev nD → PrngReg) (c : Dev nD)

/-- The gradient of the projection's result. -/
abbrev argH : S8192x1024.Idx → EReal := m ((c : Thread nD τ).loc main_arg0)
/-- The weights. -/
abbrev argW : S1024x1024.Idx → EReal := m ((c : Thread nD τ).loc main_arg1)

/-- Which block each point takes: its rows, and the whole of the weights. -/
theorem index_at : ∀ t : Fin cfg0.N, (win0_0.index t 0 = t.val ∧ win0_0.index t 1 = 0) ∧ (win0_1.index t 0 = 0 ∧ win0_1.index t 1 = 0)
    ∧ win0_2.index t 0 = t.val ∧ win0_2.index t 1 = 0 :=
  (by decide +kernel : ∀ t : Fin grid0.N, (win0_0.index t 0 = t.val ∧ win0_0.index t 1 = 0) ∧ (win0_1.index t 0 = 0 ∧ win0_1.index t 1 = 0)
    ∧ win0_2.index t 0 = t.val ∧ win0_2.index t 1 = 0)

/-- Row `r` of the block of rows that point `t` takes. -/
abbrev tok (t : Fin cfg0.N) (r : Fin 2048) : Fin 8192 := ⟨2048 * t.val + r.val, by have := t.isLt; have h : cfg0.N = 4 := N_0; omega⟩

/-- The block of the rows. -/
theorem blk0 (t : Fin cfg0.N) (r : Fin 2048) (k : Fin 1024) : (iblk m c 0 t : Vec Ideal S2048x1024 .bf16) (ix2 r k) = argH m c (ix2 (tok t r) k) :=
  entry2 (argH m c) _ (block (index_at t).1.1 2048 r.val) (whole (index_at t).1.2 1024 k.val)

/-- The block of the weights. -/
theorem blk1 (t : Fin cfg0.N) (p : Fin 1024) (k : Fin 1024) : (iblk m c 1 t : Vec Ideal S1024x1024 .bf16) (ix2 p k) = argW m c (ix2 p k) :=
  entry2 (argW m c) _ (whole (index_at t).2.1.1 1024 p.val) (whole (index_at t).2.1.2 1024 k.val)

/-- The block of the array that point `t` wrote. -/
theorem arr_blk (t : Fin cfg0.N) (r : Fin 2048) (p : Fin 1024) :
    (dats m 0 c).arrAt 2 cfg0.N (ix2 (tok t r) p) = ∑ k : Fin 1024, argH m c (ix2 (tok t r) k) * argW m c (ix2 p k) := by
  have e := congrFun (Value.blocks2 m c t (flush0_2 t)) (ix2 r p)
  rw [View.read_apply, Value.flushed2] at e
  have hi : ((cfg0.win 2).blk t).view.emb (ix2 r p) = ix2 (tok t r) p :=
    entry2 id _ (block (index_at t).2.2.1 2048 r.val) (whole (index_at t).2.2.2 1024 p.val)
  rw [hi] at e
  refine e.trans ((out_apply (iblk m c 0 t) (iblk m c 1 t) r p).trans (Finset.sum_congr rfl fun k _ => ?_))
  rw [blk0, blk1]

/-- The product after the run. -/
theorem arr (i : Fin 8192) (j : Fin 1024) : (dats m 0 c).arrAt 2 cfg0.N (ix2 i j) = ∑ k : Fin 1024, argH m c (ix2 i k) * argW m c (ix2 j k) := by
  have hN : cfg0.N = 4 := N_0
  have e := arr_blk m c ⟨i.val / 2048, by omega⟩ ⟨i.val % 2048, Nat.mod_lt _ (by decide)⟩ j
  have e1 : tok ⟨i.val / 2048, by omega⟩ ⟨i.val % 2048, Nat.mod_lt _ (by decide)⟩ = i := Fin.ext (by dsimp only [tok]; omega)
  rw [e1] at e
  exact e

end Cert.OutInIdeal.RefValue

namespace Cert.OutInEq

open Idealize.ShloMosaic Idealize.ShloMosaic.TcCoe Idealize.SL.Sem Idealize.ShloMosaic.ValueIdx

/-- The frame of the kernel. -/
theorem frame_p : quiescent_OutIn := fun m ρ _ => Cert.OutIn.Gen.frame m ρ

/-- The frame of the idealized kernel. -/
theorem frame_pi : quiescent_OutInIdeal := fun m ρ _ => Cert.OutInIdeal.Gen.frame m ρ

/-- The frame of the reference: its run ends with its arguments as they were, and it declares no semaphore. -/
theorem frame_ri : quiescent_OutInRefIdeal := fun m ρ _ =>
  (θ_run Cert.OutInRefIdeal.defs _ _).mono (fun r h => ⟨fun c => (h c).2, sem_eq_zero_of_no_sems (by decide) r.2⟩)
    (Cert.OutInRefIdeal.Value.run (F := Ideal) m ρ)

/-- The reference's result, element by element. -/
theorem ref_apply (H : FVec Ideal Cert.OutInRefIdeal.S8192x1024 .bf16) (W : FVec Ideal Cert.OutInRefIdeal.S1024x1024 .bf16) (hb) (i : Fin 8192) (j : Fin 1024) :
    (truncf .bf16 (Host.dotGeneral Cert.OutInRefIdeal.dot_S8192x1024_S1024x1024_S8192x1024_1_1_0_0_n_n none (extf .f32 H hb) (extf .f32 W hb)) hb
      : FVec Ideal Cert.OutInRefIdeal.S8192x1024 .bf16) (ix2 i j)
      = ∑ k : Fin 1024, H (ix2 i k) * W (ix2 j k) := by
  rw [truncf_apply]
  exact Cert.Prod.host_nt _ _ _ _ i j

/-- The call computes the product with the weights transposed. -/
theorem same : algebraic_OutInIdeal_OutInRefIdeal := by
  intro m g m' g' hm ha
  refine ⟨fun c => (Cert.OutInIdeal.Gen.dats m 0 c).arrAt 2 Cert.OutInIdeal.cfg0.N, Cert.OutInIdeal.Value.run_blocks m g, ?_⟩
  refine (θ_run Cert.OutInRefIdeal.defs _ _).mono (fun r h c => ?_) (Cert.OutInRefIdeal.Value.run (F := Ideal) m' g')
  obtain ⟨h3, hrest⟩ := h c
  obtain ⟨a0, a1⟩ := ha c
  refine ⟨h3.trans ?_, hrest⟩
  rw [a0, a1]
  refine funext fun i => ?_
  obtain ⟨p, j, rfl⟩ : ∃ (p : Fin 8192) (j : Fin 1024), i = ix2 p j := ⟨i 0, i 1, eq_ix2 i⟩
  exact (ref_apply _ _ _ p j).trans (Cert.OutInIdeal.RefValue.arr m c p j).symm

end Cert.OutInEq

end
-- ==== Proof.OutGradEq.lean ====
/-
  The gradient of a square projection's weights: the sum over two blocks of 4096 tokens, the first's kept in a scratch, is the
  product over all 8192 tokens.
-/
module

public import proofs.«01_k».proof.Proof.At
public import proofs.«01_k».proof.Proof.Prod
public import proofs.«01_k».proof.Proof.Gen.OutGradIdeal.Value
public import proofs.«01_k».proof.Proof.Gen.OutGrad.Frame
public import proofs.«01_k».proof.Proof.Gen.OutGradRefIdeal.Run
public import Idealize.ShloMosaic.Lib.Pipeline.ValueKit.Tiles
public import proofs.«01_k».proof.Defs

@[expose] public section

set_option maxRecDepth 16384

noncomputable section

namespace Cert.OutGradIdeal.RefValue

open Cert.At (entry2 same2 entry3 whole block)
open Cert.OutGradIdeal Cert.OutGradIdeal.Gen Cert.Prod Idealize.ShloMosaic Idealize.ShloMosaic.TcCoe Idealize.SL.Sem Idealize.ShloMosaic.ValueIdx
open scoped BigOperators

/-! ### One point -/

section Point
variable (c : Dev nD) (i : grid0.Coords) (a3 : Memref sig .tc .vmem S4096x1024 .bf16) (h3 : a3.IsWhole) (a4 : Memref sig .tc .vmem S4096x1024 .bf16) (h4 : a4.IsWhole)
  (a5 : Memref sig .tc .vmem S1024x1024 .bf16) (h5 : a5.IsWhole) (a6 : Memref sig .tc .vmem S1024x1024 .f32) (h6 : a6.IsWhole)
  (x0 : Vec Ideal S4096x1024 .bf16) (x1 : Vec Ideal S4096x1024 .bf16) (xs : Vec Ideal S1024x1024 .f32)

/-- The product of two blocks. -/
theorem pay1_apply (p : Fin 1024) (q : Fin 1024) : k0_pay1 x0 x1 (ix2 p q) = ∑ r : Fin 4096, x0 (ix2 r p) * x1 (ix2 r q) := by
  unfold k0_pay1
  exact Cert.Prod.unit_tn _ _ x0 x1 p q

/-- The first point of a run leaves the product in the scratch. -/
theorem sout_A (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  simp only [View.readAt_eq_ld, h3.read_unread, h4.read_unread, View.ld_unit_zero (S := S4096x1024) hz]
  rw [View.canon_unit_zero hz]
  unfold k0_pay2
  exact shapeCast_self _ _

/-- The last point writes the sum with its product to the result's block. -/
theorem out_B (hc0 : ¬cond0_0 i) (hc1 : cond0_1 i) (hc2 : cond0_2 i) : out0_B_2 c i a3 h3 a4 h4 a5 h5 a6 h6 hc0 hc1 hc2 x0 x1 xs = addf (F := Ideal) (φ := .f32) xs (k0_pay1 x0 x1) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  simp only [View.readAt_eq_ld, h3.read_unread, h4.read_unread, h6.read_unread, View.ld_unit_zero (S := S4096x1024) hz, View.ld_unit_zero (S := S1024x1024) hz]
  rw [View.canon_unit_zero hz, readCov_last]
  unfold k0_pay4 k0_pay3
  dsimp only
  rw [shapeCast_self]
  rfl

end Point

/-! ### The points' blocks of the operands -/

variable (m : (ℓ : Loc nD τ sig) → Buf (Elt Ideal) ℓ) (ρ : Dev nD → PrngReg) (c : Dev nD)

/-- The rows projected. -/
abbrev argA : S8192x1024.Idx → EReal := m ((c : Thread nD τ).loc main_arg0)
/-- The gradient of the projection's result. -/
abbrev argD : S8192x1024.Idx → EReal := m ((c : Thread nD τ).loc main_arg1)

/-- Which block each point takes. -/
theorem index_at : ∀ t : Fin cfg0.N, (win0_0.index t 0 = t.val ∧ win0_0.index t 1 = 0) ∧ win0_1.index t 0 = t.val ∧ win0_1.index t 1 = 0 :=
  (by decide +kernel : ∀ t : Fin grid0.N, (win0_0.index t 0 = t.val ∧ win0_0.index t 1 = 0) ∧ win0_1.index t 0 = t.val ∧ win0_1.index t 1 = 0)

/-- Token `r` of the block of tokens that point `t` takes. -/
abbrev tok (t : Fin cfg0.N) (r : Fin 4096) : Fin 8192 := ⟨4096 * t.val + r.val, by have := t.isLt; have h : cfg0.N = 2 := N_0; omega⟩

/-- The block of the rows projected. -/
theorem blk0 (t : Fin cfg0.N) (r : Fin 4096) (p : Fin 1024) : (iblk m c 0 t : Vec Ideal S4096x1024 .bf16) (ix2 r p) = argA m c (ix2 (tok t r) p) :=
  entry2 (argA m c) _ (block (index_at t).1.1 4096 r.val) (whole (index_at t).1.2 1024 p.val)

/-- The block of the gradient. -/
theorem blk1 (t : Fin cfg0.N) (r : Fin 4096) (q : Fin 1024) : (iblk m c 1 t : Vec Ideal S4096x1024 .bf16) (ix2 r q) = argD m c (ix2 (tok t r) q) :=
  entry2 (argD m c) _ (block (index_at t).2.1 4096 r.val) (whole (index_at t).2.2 1024 q.val)

/-- A point's product, of the operands. -/
theorem part (t : Fin cfg0.N) (p : Fin 1024) (q : Fin 1024) :
    k0_pay1 (iblk m c 0 t : Vec Ideal S4096x1024 .bf16) (iblk m c 1 t) (ix2 p q) = ∑ r : Fin 4096, argA m c (ix2 (tok t r) p) * argD m c (ix2 (tok t r) q) := by
  rw [pay1_apply]
  exact Finset.sum_congr rfl fun r _ => congrArg₂ (· * ·) (blk0 m c t r p) (blk1 m c t r q)

/-! ### The two points -/

/-- After the first point. -/
theorem first (t : Fin cfg0.N) (h : t.val = 0) (y : S1024x1024.Idx) : (outsAt0 m c t.val t.isLt).2 y = k0_pay1 (iblk m c 0 t : Vec Ideal S4096x1024 .bf16) (iblk m c 1 t) y := by
  have e := congrFun (congrArg (fun x => x.2) (outsAt0_A m c t (by omega) (by omega) (by omega))) y
  dsimp only at e
  refine e.trans ?_
  rw [sout_A]

/-- In the result's block after the last point. -/
theorem done (t : Fin cfg0.N) (h : t.val = 1) (y : S1024x1024.Idx) :
    (outsAt0 m c t.val t.isLt).1 y = (outsAt0 m c (t.val - 1) (lt_of_le_of_lt (Nat.sub_le _ _) t.isLt)).2 y + k0_pay1 (iblk m c 0 t : Vec Ideal S4096x1024 .bf16) (iblk m c 1 t) y := by
  have e := congrFun (congrArg (fun x => x.1) (outsAt0_B m c t (by omega) (by omega) (by omega))) y
  dsimp only at e
  refine e.trans ?_
  rw [out_B, addf_apply]

/-- What the `n`-th point holds: the last its result's block, the first the scratch. -/
def held (n : ℕ) (h : n < cfg0.N) : S1024x1024.Idx → EReal :=
  if n = 1 then (outsAt0 m c n h).1 else (outsAt0 m c n h).2

/-- The gradient of the weights after the run. -/
theorem arr (i : Fin 1024) (j : Fin 1024) : (dats m 0 c).arrAt 2 cfg0.N (ix2 i j) = ∑ k : Fin 8192, argA m c (ix2 k i) * argD m c (ix2 k j) := by
  have hN : cfg0.N = 2 := N_0
  have hb : ∀ n, n < 2 → n < cfg0.N := fun n hn => by omega
  rw [Value.final2, Value.G2_last, ← congrArg Prod.fst (Value.outsAt0_sweep m c 1 (hb 1 (by decide)))]
  refine Eq.trans (b := held m c 1 (hb 1 (by decide)) (ix2 i j)) rfl ?_
  refine Cert.Prod.chain (K := 8192) (b := 4096) (g := 2) rfl (by decide) (fun k => argA m c (ix2 k i) * argD m c (ix2 k j))
    (fun n hn => held m c n (hb n hn) (ix2 i j)) ?_ ?_ (by decide)
  · exact (first m c ⟨0, hb 0 (by decide)⟩ rfl (ix2 i j)).trans (part m c ⟨0, hb 0 (by decide)⟩ i j)
  · intro n hn
    obtain rfl : n = 0 := by omega
    exact (done m c ⟨1, hb _ hn⟩ rfl (ix2 i j)).trans (congrArg ((outsAt0 m c 0 (hb 0 (by omega))).2 (ix2 i j) + ·) (part m c ⟨1, hb _ hn⟩ i j))

end Cert.OutGradIdeal.RefValue

namespace Cert.OutGradEq

open Idealize.ShloMosaic Idealize.ShloMosaic.TcCoe Idealize.SL.Sem Idealize.ShloMosaic.ValueIdx

/-- The frame of the kernel. -/
theorem frame_p : quiescent_OutGrad := fun m ρ _ => Cert.OutGrad.Gen.frame m ρ

/-- The frame of the idealized kernel. -/
theorem frame_pi : quiescent_OutGradIdeal := fun m ρ _ => Cert.OutGradIdeal.Gen.frame m ρ

/-- The frame of the reference: its run ends with its arguments as they were, and it declares no semaphore. -/
theorem frame_ri : quiescent_OutGradRefIdeal := fun m ρ _ =>
  (θ_run Cert.OutGradRefIdeal.defs _ _).mono (fun r h => ⟨fun c => (h c).2, sem_eq_zero_of_no_sems (by decide) r.2⟩)
    (Cert.OutGradRefIdeal.Value.run (F := Ideal) m ρ)

/-- The reference's result, element by element: there the factors stand the other way round. -/
theorem ref_apply (A : FVec Ideal Cert.OutGradRefIdeal.S8192x1024 .bf16) (D : FVec Ideal Cert.OutGradRefIdeal.S8192x1024 .bf16) (hb ht) (i : Fin 1024) (j : Fin 1024) :
    (truncf .bf16 (transpose Cert.OutGradRefIdeal.S1024x1024 [1, 0]
      (Host.dotGeneral Cert.OutGradRefIdeal.dot_S8192x1024_S8192x1024_S1024x1024_0_0_1_1_n_n none (extf .f32 D hb) (extf .f32 A hb)) ht) hb : FVec Ideal Cert.OutGradRefIdeal.S1024x1024 .bf16) (ix2 i j)
      = ∑ k : Fin 8192, A (ix2 k i) * D (ix2 k j) := by
  rw [truncf_apply]
  refine (Cert.Prod.swap_apply _ ht j i).trans ((Cert.Prod.host_tn _ _ _ _ j i).trans ?_)
  exact Finset.sum_congr rfl fun k _ => mul_comm _ _

/-- The call computes the gradient of the weights. -/
theorem same : algebraic_OutGradIdeal_OutGradRefIdeal := by
  intro m g m' g' hm ha
  refine ⟨fun c => (Cert.OutGradIdeal.Gen.dats m 0 c).arrAt 2 Cert.OutGradIdeal.cfg0.N, Cert.OutGradIdeal.Value.run_blocks m g, ?_⟩
  refine (θ_run Cert.OutGradRefIdeal.defs _ _).mono (fun r h c => ?_) (Cert.OutGradRefIdeal.Value.run (F := Ideal) m' g')
  obtain ⟨h8, hrest⟩ := h c
  obtain ⟨a0, a1⟩ := ha c
  refine ⟨h8.trans ?_, hrest⟩
  rw [a0, a1]
  refine funext fun i => ?_
  obtain ⟨p, j, rfl⟩ : ∃ (p : Fin 1024) (j : Fin 1024), i = ix2 p j := ⟨i 0, i 1, eq_ix2 i⟩
  exact (ref_apply _ _ _ _ p j).trans (Cert.OutGradIdeal.RefValue.arr m c p j).symm

end Cert.OutGradEq

end
-- ==== Proof.QueryEq.lean ====
/-
  The projection to the queries: each point's block of the result is the product of a block of rows with the weights, so the
  whole is the product with the weights.
-/
module

public import proofs.«01_k».proof.Proof.At
public import proofs.«01_k».proof.Proof.Prod
public import proofs.«01_k».proof.Proof.Gen.QueryIdeal.Value
public import proofs.«01_k».proof.Proof.Gen.Query.Frame
public import proofs.«01_k».proof.Proof.Gen.QueryRefIdeal.Run
public import proofs.«01_k».proof.Defs

@[expose] public section

set_option maxRecDepth 16384

noncomputable section

namespace Cert.QueryIdeal.RefValue

open Cert.At (entry2 same2 entry3 whole block)
open Cert.QueryIdeal Cert.QueryIdeal.Gen Cert.Prod Idealize.ShloMosaic Idealize.ShloMosaic.TcCoe Idealize.SL.Sem Idealize.ShloMosaic.ValueIdx
open scoped BigOperators

/-- A point's block of the result. -/
theorem out_apply (x0 : Vec Ideal S2048x1024 .bf16) (x1 : Vec Ideal S1024x1024 .bf16) (p : Fin 2048) (q : Fin 1024) :
    out0_2 x0 x1 (ix2 p q) = ∑ k : Fin 1024, x0 (ix2 p k) * x1 (ix2 k q) := by
  unfold out0_2
  have e0 : View.ld x0 r0_0 = x0 := View.ld_unit_zero (S := S2048x1024) hz _ x0
  have e1 : View.ld x1 r0_1 = x1 := View.ld_unit_zero (S := S1024x1024) hz _ x1
  rw [View.canon_unit_zero hz, e0, e1]
  unfold k0_pay1
  rw [truncf_apply]
  exact unit_nn _ _ x0 x1 p q

variable (m : (ℓ : Loc nD τ sig) → Buf (Elt Ideal) ℓ) (ρ : Dev nD → PrngReg) (c : Dev nD)

/-- The rows projected. -/
abbrev argH : S8192x1024.Idx → EReal := m ((c : Thread nD τ).loc main_arg0)
/-- The weights. -/
abbrev argW : S1024x1024.Idx → EReal := m ((c : Thread nD τ).loc main_arg1)

/-- Which block each point takes: its rows, and the whole of the weights. -/
theorem index_at : ∀ t : Fin cfg0.N, (win0_0.index t 0 = t.val ∧ win0_0.index t 1 = 0) ∧ (win0_1.index t 0 = 0 ∧ win0_1.index t 1 = 0)
    ∧ win0_2.index t 0 = t.val ∧ win0_2.index t 1 = 0 :=
  (by decide +kernel : ∀ t : Fin grid0.N, (win0_0.index t 0 = t.val ∧ win0_0.index t 1 = 0) ∧ (win0_1.index t 0 = 0 ∧ win0_1.index t 1 = 0)
    ∧ win0_2.index t 0 = t.val ∧ win0_2.index t 1 = 0)

/-- Row `r` of the block of rows that point `t` takes. -/
abbrev tok (t : Fin cfg0.N) (r : Fin 2048) : Fin 8192 := ⟨2048 * t.val + r.val, by have := t.isLt; have h : cfg0.N = 4 := N_0; omega⟩

/-- The block of the rows. -/
theorem blk0 (t : Fin cfg0.N) (r : Fin 2048) (k : Fin 1024) : (iblk m c 0 t : Vec Ideal S2048x1024 .bf16) (ix2 r k) = argH m c (ix2 (tok t r) k) :=
  entry2 (argH m c) _ (block (index_at t).1.1 2048 r.val) (whole (index_at t).1.2 1024 k.val)

/-- The block of the weights. -/
theorem blk1 (t : Fin cfg0.N) (p : Fin 1024) (k : Fin 1024) : (iblk m c 1 t : Vec Ideal S1024x1024 .bf16) (ix2 k p) = argW m c (ix2 k p) :=
  entry2 (argW m c) _ (whole (index_at t).2.1.1 1024 k.val) (whole (index_at t).2.1.2 1024 p.val)

/-- The block of the array that point `t` wrote. -/
theorem arr_blk (t : Fin cfg0.N) (r : Fin 2048) (p : Fin 1024) :
    (dats m 0 c).arrAt 2 cfg0.N (ix2 (tok t r) p) = ∑ k : Fin 1024, argH m c (ix2 (tok t r) k) * argW m c (ix2 k p) := by
  have e := congrFun (Value.blocks2 m c t (flush0_2 t)) (ix2 r p)
  rw [View.read_apply, Value.flushed2] at e
  have hi : ((cfg0.win 2).blk t).view.emb (ix2 r p) = ix2 (tok t r) p :=
    entry2 id _ (block (index_at t).2.2.1 2048 r.val) (whole (index_at t).2.2.2 1024 p.val)
  rw [hi] at e
  refine e.trans ((out_apply (iblk m c 0 t) (iblk m c 1 t) r p).trans (Finset.sum_congr rfl fun k _ => ?_))
  rw [blk0, blk1]

/-- The product after the run. -/
theorem arr (i : Fin 8192) (j : Fin 1024) : (dats m 0 c).arrAt 2 cfg0.N (ix2 i j) = ∑ k : Fin 1024, argH m c (ix2 i k) * argW m c (ix2 k j) := by
  have hN : cfg0.N = 4 := N_0
  have e := arr_blk m c ⟨i.val / 2048, by omega⟩ ⟨i.val % 2048, Nat.mod_lt _ (by decide)⟩ j
  have e1 : tok ⟨i.val / 2048, by omega⟩ ⟨i.val % 2048, Nat.mod_lt _ (by decide)⟩ = i := Fin.ext (by dsimp only [tok]; omega)
  rw [e1] at e
  exact e

end Cert.QueryIdeal.RefValue

namespace Cert.QueryEq

open Idealize.ShloMosaic Idealize.ShloMosaic.TcCoe Idealize.SL.Sem Idealize.ShloMosaic.ValueIdx

/-- The frame of the kernel. -/
theorem frame_p : quiescent_Query := fun m ρ _ => Cert.Query.Gen.frame m ρ

/-- The frame of the idealized kernel. -/
theorem frame_pi : quiescent_QueryIdeal := fun m ρ _ => Cert.QueryIdeal.Gen.frame m ρ

/-- The frame of the reference: its run ends with its arguments as they were, and it declares no semaphore. -/
theorem frame_ri : quiescent_QueryRefIdeal := fun m ρ _ =>
  (θ_run Cert.QueryRefIdeal.defs _ _).mono (fun r h => ⟨fun c => (h c).2, sem_eq_zero_of_no_sems (by decide) r.2⟩)
    (Cert.QueryRefIdeal.Value.run (F := Ideal) m ρ)

/-- The reference's result, element by element. -/
theorem ref_apply (H : FVec Ideal Cert.QueryRefIdeal.S8192x1024 .bf16) (W : FVec Ideal Cert.QueryRefIdeal.S1024x1024 .bf16) (hb) (i : Fin 8192) (j : Fin 1024) :
    (truncf .bf16 (Host.dotGeneral Cert.QueryRefIdeal.dot_S8192x1024_S1024x1024_S8192x1024_1_0_0_1_n_n none (extf .f32 H hb) (extf .f32 W hb)) hb
      : FVec Ideal Cert.QueryRefIdeal.S8192x1024 .bf16) (ix2 i j)
      = ∑ k : Fin 1024, H (ix2 i k) * W (ix2 k j) := by
  rw [truncf_apply]
  exact Cert.Prod.host_nn _ _ _ _ i j

/-- The call computes the product with the weights. -/
theorem same : algebraic_QueryIdeal_QueryRefIdeal := by
  intro m g m' g' hm ha
  refine ⟨fun c => (Cert.QueryIdeal.Gen.dats m 0 c).arrAt 2 Cert.QueryIdeal.cfg0.N, Cert.QueryIdeal.Value.run_blocks m g, ?_⟩
  refine (θ_run Cert.QueryRefIdeal.defs _ _).mono (fun r h c => ?_) (Cert.QueryRefIdeal.Value.run (F := Ideal) m' g')
  obtain ⟨h3, hrest⟩ := h c
  obtain ⟨a0, a1⟩ := ha c
  refine ⟨h3.trans ?_, hrest⟩
  rw [a0, a1]
  refine funext fun i => ?_
  obtain ⟨p, j, rfl⟩ : ∃ (p : Fin 8192) (j : Fin 1024), i = ix2 p j := ⟨i 0, i 1, eq_ix2 i⟩
  exact (ref_apply _ _ _ p j).trans (Cert.QueryIdeal.RefValue.arr m c p j).symm

end Cert.QueryEq

end
-- ==== Proof.AdamSmallEq.lean ====
/-
  The optimiser's step on the packed small weights and the plain formula leave the same three results.
-/
module

public import proofs.«01_k».proof.Proof.Prod
public import proofs.«01_k».proof.Proof.Gen.AdamSmallIdeal.Value
public import proofs.«01_k».proof.Proof.Gen.AdamSmall.Frame
public import proofs.«01_k».proof.Proof.Gen.AdamSmallRefIdeal.Run
public import proofs.«01_k».proof.Defs

@[expose] public section

set_option maxRecDepth 16384

noncomputable section

namespace Cert.AdamSmallEq

open Idealize.ShloMosaic Idealize.ShloMosaic.TcCoe Idealize.SL.Sem Idealize.ShloMosaic.ValueIdx

/-- The frame of the kernel. -/
theorem frame_p : quiescent_AdamSmall := fun m ρ _ => Cert.AdamSmall.Gen.frame m ρ

/-- The frame of the idealized kernel. -/
theorem frame_pi : quiescent_AdamSmallIdeal := fun m ρ _ => Cert.AdamSmallIdeal.Gen.frame m ρ

/-- The frame of the reference: its run ends with its arguments as they were, and it declares no semaphore. -/
theorem frame_ri : quiescent_AdamSmallRefIdeal := fun m ρ _ =>
  (θ_run Cert.AdamSmallRefIdeal.defs _ _).mono (fun r h => ⟨fun c => (h c).2.2.2, sem_eq_zero_of_no_sems (by decide) r.2⟩)
    (Cert.AdamSmallRefIdeal.Value.run (F := Ideal) m ρ)

/-- The call computes the plain update: the delta, and the two moving averages. Entry by entry the two are
    the same term of the weight, the gradient and the averages. -/
theorem same : algebraic_AdamSmallIdeal_AdamSmallRefIdeal := by
  intro m g m' g' hm ha
  refine ⟨fun c => Cert.AdamSmallIdeal.Value.G4 (F := Ideal) _ _ _ _, fun c => Cert.AdamSmallIdeal.Value.G5 (F := Ideal) _ _,
    fun c => Cert.AdamSmallIdeal.Value.G6 (F := Ideal) _ _, Cert.AdamSmallIdeal.Value.run m g, ?_⟩
  refine (θ_run Cert.AdamSmallRefIdeal.defs _ _).mono (fun r h c => ?_) (Cert.AdamSmallRefIdeal.Value.run (F := Ideal) m' g')
  obtain ⟨h4, h5, h6, hrest⟩ := h c
  obtain ⟨a0, a1, a2, a3⟩ := ha c
  refine ⟨h4.trans ?_, h5.trans ?_, h6.trans ?_, hrest⟩
  · rw [a0, a1, a2, a3]
    exact funext fun i => rfl
  · rw [a1, a2]
    exact funext fun i => rfl
  · rw [a1, a3]
    exact funext fun i => rfl

end Cert.AdamSmallEq

end
-- ==== Proof.Sums.lean ====
/-
  Sums of eight slabs: the host's sum over an axis and the kernel's eight additions, entry by entry.
-/
module

public import proofs.«01_k».proof.Proof.Prod
public import Idealize.ShloMosaic.Lib.Pointwise.Reduce

@[expose] public section

set_option maxRecDepth 16384

noncomputable section

namespace Cert.Sums

open Idealize.ShloMosaic hiding ix1 ix2 ix3 ix4
open Idealize.ShloMosaic.ValueIdx
open scoped BigOperators

/-- The host's sum over the first of three axes, from zero. -/
theorem host3 {n a b : ℕ} {u : Shape} (x : (⟨3, ![n, a, b]⟩ : Shape).Idx → EReal) (hr : (⟨3, ![n, a, b]⟩ : Shape).ReducesTo [0] (⟨2, ![a, b]⟩ : Shape))
    (hu : 0 < u.numel) (p : Fin a) (q : Fin b) :
    Host.reduceAdd (F := Ideal) (φ := .f32) x (constant u .f32 0x00000000#32) hr hu (ix2 p q) = ∑ k : Fin n, x (ix3 k p q) := by
  show Ideal.hostReduceAdd hr x (constant (F := Ideal) u .f32 0x00000000#32 (Shape.Idx.first hu)) (ix2 p q) = _
  rw [Ideal.hostReduceAdd_r3_a0]
  exact (congrArg (· + _) Ideal.ofBits_zero_f32).trans (zero_add _)

/-- The host's sum over the second of four axes, from zero. -/
theorem host4 {l n a b : ℕ} {u : Shape} (x : (⟨4, ![l, n, a, b]⟩ : Shape).Idx → EReal) (hr : (⟨4, ![l, n, a, b]⟩ : Shape).ReducesTo [1] (⟨3, ![l, a, b]⟩ : Shape))
    (hu : 0 < u.numel) (z : Fin l) (p : Fin a) (q : Fin b) :
    Host.reduceAdd (F := Ideal) (φ := .f32) x (constant u .f32 0x00000000#32) hr hu (ix3 z p q) = ∑ k : Fin n, x (ix4 z k p q) := by
  show Ideal.hostReduceAdd hr x (constant (F := Ideal) u .f32 0x00000000#32 (Shape.Idx.first hu)) (ix3 z p q) = _
  rw [Ideal.hostReduceAdd_r4_a1]
  exact (congrArg (· + _) Ideal.ofBits_zero_f32).trans (zero_add _)

/-- A slab of a stack, loaded and read as a matrix. -/
theorem slab {Val : EltTy → Type} {e : EltTy} {n a b : ℕ} (x : (⟨3, ![n, a, b]⟩ : Shape).Idx → Val e) (o : ℕ) (inb) (ho : o < n)
    (hs : (⟨3, ![1, a, b]⟩ : Shape).ShapeCasts (⟨2, ![a, b]⟩ : Shape)) (p : Fin a) (q : Fin b) :
    shapeCast (⟨2, ![a, b]⟩ : Shape) (View.ld x (Rect.unit (s := ⟨3, ![n, a, b]⟩) ![o, 0, 0] ![1, a, b] inb)) hs (ix2 p q) = x (ix3 ⟨o, ho⟩ p q) := by
  rw [shapeCast_apply _ _ _ (ix3 (0 : Fin 1) p q) (by rw [Shape.rowMajor_val_two, Shape.rowMajor_val_three]; show (0 * a + p.val) * b + q.val = p.val * b + q.val; simp)]
  exact View.ld_unit_apply_of x _ _ inb _ _ fun c => match c with
    | ⟨0, _⟩ => rfl
    | ⟨1, _⟩ => (Nat.zero_add _).symm
    | ⟨2, _⟩ => (Nat.zero_add _).symm

/-- Eight terms added from the first to the last are their sum. -/
theorem eight (f : Fin 8 → EReal) : f 0 + f 1 + f 2 + f 3 + f 4 + f 5 + f 6 + f 7 = ∑ k, f k := (Fin.sum_univ_eight f).symm

end Cert.Sums

end
-- ==== Proof.SumSmallEq.lean ====
/-
  The sum of the devices' parts of the packed small gradients and the plain sum leave the same result.
-/
module

public import proofs.«01_k».proof.Proof.Sums
public import proofs.«01_k».proof.Proof.Gen.SumSmallIdeal.Value
public import proofs.«01_k».proof.Proof.Gen.SumSmall.Frame
public import proofs.«01_k».proof.Proof.Gen.SumSmallRefIdeal.Run
public import proofs.«01_k».proof.Defs

@[expose] public section

set_option maxRecDepth 16384

noncomputable section

namespace Cert.SumSmallEq

open Idealize.ShloMosaic hiding ix1 ix2 ix3 ix4 eq_ix2
open Idealize.ShloMosaic.TcCoe Idealize.SL.Sem Idealize.ShloMosaic.ValueIdx

/-- The frame of the kernel. -/
theorem frame_p : quiescent_SumSmall := fun m ρ _ => Cert.SumSmall.Gen.frame m ρ

/-- The frame of the idealized kernel. -/
theorem frame_pi : quiescent_SumSmallIdeal := fun m ρ _ => Cert.SumSmallIdeal.Gen.frame m ρ

/-- The frame of the reference: its run ends with its arguments as they were, and it declares no semaphore. -/
theorem frame_ri : quiescent_SumSmallRefIdeal := fun m ρ _ =>
  (θ_run Cert.SumSmallRefIdeal.defs _ _).mono (fun r h => ⟨fun c => (h c).2, sem_eq_zero_of_no_sems (by decide) r.2⟩)
    (Cert.SumSmallRefIdeal.Value.run (F := Ideal) m ρ)

section
open Cert.SumSmallIdeal
/-- The eight slabs added, entry by entry. -/
theorem pay_apply (x : Vec Ideal S8x1696x128 .f32) (p : Fin 1696) (q : Fin 128) : Value.G1 (F := Ideal) x (ix2 p q) = ∑ k : Fin 8, x (ix3 k p q) := by
  refine Eq.trans ?_ (Cert.Sums.eight fun k => x (ix3 k p q))
  unfold Value.G1 Gen.k0_pay1
  simp only [addf_apply]
  exact congrArg₂ (· + ·) (congrArg₂ (· + ·) (congrArg₂ (· + ·) (congrArg₂ (· + ·) (congrArg₂ (· + ·) (congrArg₂ (· + ·) (congrArg₂ (· + ·)
    (Cert.Sums.slab x 0 _ (by decide) _ p q) (Cert.Sums.slab x 1 _ (by decide) _ p q)) (Cert.Sums.slab x 2 _ (by decide) _ p q)) (Cert.Sums.slab x 3 _ (by decide) _ p q))
    (Cert.Sums.slab x 4 _ (by decide) _ p q)) (Cert.Sums.slab x 5 _ (by decide) _ p q)) (Cert.Sums.slab x 6 _ (by decide) _ p q)) (Cert.Sums.slab x 7 _ (by decide) _ p q)
end

/-- The call computes the plain sum of the eight devices' parts. -/
theorem same : algebraic_SumSmallIdeal_SumSmallRefIdeal := by
  intro m g m' g' hm ha
  refine ⟨fun c => Cert.SumSmallIdeal.Value.G1 (F := Ideal) _, Cert.SumSmallIdeal.Value.run m g, ?_⟩
  refine (θ_run Cert.SumSmallRefIdeal.defs _ _).mono (fun r h c => ?_) (Cert.SumSmallRefIdeal.Value.run (F := Ideal) m' g')
  obtain ⟨h1, hrest⟩ := h c
  refine ⟨h1.trans ?_, hrest⟩
  rw [ha c]
  refine funext fun i => ?_
  obtain ⟨p, q, rfl⟩ : ∃ (p : Fin 1696) (q : Fin 128), i = ix2 p q := ⟨i 0, i 1, eq_ix2 i⟩
  refine (Cert.Sums.host3 _ _ _ p q).trans ?_
  exact (pay_apply _ p q).symm

end Cert.SumSmallEq

end
-- ==== Proof.GradRowsOut.lean ====
/-
  What one grid point of the step's last product with a normalisation's gradient leaves in the two result blocks: the
  block of the gradient of the rows, and the gain's gradient with this point's part added (at the first point, added to
  zero). The norm's payloads are those of the product with two norms; only the depth of the product is another.
-/
module

public import proofs.«01_k».proof.Proof.FfnOut
public import proofs.«01_k».proof.Proof.Gen.GradRowsIdeal.Value

@[expose] public section

set_option maxRecDepth 16384

noncomputable section

namespace Cert.GradRowsIdeal.RefValue

open Cert.GradRowsIdeal Cert.GradRowsIdeal.Gen Cert.Rows Idealize.ShloMosaic Idealize.ShloMosaic.TcCoe Idealize.SL.Sem Idealize.ShloMosaic.ValueIdx
open Cert.FfnInIdeal.RefValue (rowOf over_cols over_rows rowsum colsum pay1_apply pay2_apply pay4_apply pay7_apply rows row_rows gain hz hz3)
open scoped BigOperators

/-- The product. -/
theorem prod_apply (w : Vec Ideal S2176x1024 .bf16) (a : Vec Ideal S256x2176 .bf16) (r : Fin 256) (j : Fin 1024) :
    k0_pay4 (F := Ideal) w a (ix2 r j) = ∑ k : Fin 2176, a (ix2 r k) * w (ix2 k j) := by
  unfold k0_pay4
  simp only [matmul]
  rw [Ideal.matmul_constant_zero_apply, ← Equiv.sum_comp (contrEquiv1 dot_S256x2176_S2176x1024_S256x1024_1_0_0_1_n_n 2176 rfl rfl).symm]
  refine Finset.sum_congr rfl fun k _ => ?_
  have hk := contrEquiv1_symm_val dot_S256x2176_S2176x1024_S256x1024_1_0_0_1_n_n 2176 rfl rfl k
  congr 2 <;> funext x <;> apply Fin.ext <;> match x with
    | ⟨0, _⟩ => first | exact hk | rfl
    | ⟨1, _⟩ => first | exact hk | rfl

/-! ### The payloads that do not see the product are those of the product with two norms -/

section Names
variable (w : Vec Ideal S2176x1024 .bf16) (g : Vec Ideal S1x1x1024 .f32) (a : Vec Ideal S256x2176 .bf16) (d : FVec Ideal S256x1024 .f32)
  (x z : Vec Ideal S256x1024 .f32) (acc : Vec Ideal S1x1024 .f32)
/-- The factor of each row. -/
theorem n5 : k0_pay5 (F := Ideal) x = Cert.FfnInIdeal.Gen.k0_pay1 x := rfl
/-- The normalised rows. -/
theorem n6 : k0_pay6 (F := Ideal) x = Cert.FfnInIdeal.Gen.k0_pay2 x := rfl
/-- The gain as a row. -/
theorem n3 : k0_pay3 (F := Ideal) g = Cert.FfnInIdeal.Gen.k0_pay7 g := rfl
/-- The gain's part in the first half. -/
theorem n8 : k0_pay8 (F := Ideal) d (k0_pay6 x) acc = Cert.FfnInIdeal.Gen.k0_pay4 d x acc := rfl
/-- The gain's part in the second half. -/
theorem n1 : k0_pay1 (F := Ideal) (k0_pay13 acc) (k0_pay14 w a x) = Cert.FfnInIdeal.Gen.k0_pay4 (k0_pay4 w a) x acc := rfl
/-- The gradient in the second half. -/
theorem n12 : k0_pay12 (F := Ideal) w (k0_pay3 g) a x z = k0_pay7 w g a x z := rfl
end Names

/-- The zero rows. -/
theorem zero_apply (y) : k0_pay2 (F := Ideal) y = 0 := by
  unfold k0_pay2; exact Ideal.ofBits_zero_f32

/-- The gradient of the rows, with the gradient that came past the branch. -/
theorem back_apply (w : Vec Ideal S2176x1024 .bf16) (g : Vec Ideal S1x1x1024 .f32) (a : Vec Ideal S256x2176 .bf16) (x z : Vec Ideal S256x1024 .f32) (r : Fin 256) (j : Fin 1024) :
    k0_pay7 (F := Ideal) w g a x z (ix2 r j)
      = z (ix2 r j) + back (rowOf x r) (fun k => (∑ l : Fin 2176, a (ix2 r l) * w (ix2 l k)) * g (ix3 (0 : Fin 1) (0 : Fin 1) k)) j := by
  unfold k0_pay7
  dsimp only
  rw [n5, n6, n3, addf_apply, mulf_apply, subf_apply, mulf_apply, mulf_apply]
  refine congrArg (z (ix2 r j) + ·) ?_
  have hc : ∀ v k, broadcastTo S256x1024 v broadcasts_S256x1_S256x1024 (ix2 r k) = v (ix2 r (0 : Fin 1)) := fun v k => over_cols v r k
  have hr : ∀ v k, broadcastTo S256x1024 v broadcasts_S1x1024_S256x1024 (ix2 r k) = v (ix2 (0 : Fin 1) k) := fun v k => over_rows v r k
  have hs : ∀ v : FVec Ideal S256x1024 .f32, shapeCast S256x1 (multiReduction .add [1] S256 v 0x00000000#32 reduces_S256x1024_S256 (.inl rfl) rfl) shapeCasts_S256_S256x1 (ix2 r (0 : Fin 1))
      = ∑ l : Fin 1024, v (ix2 r l) := fun v => rowsum v r
  have h1 := pay1_apply x r
  have h2 : ∀ k, Cert.FfnInIdeal.Gen.k0_pay2 (F := Ideal) x (ix2 r k) = x (ix2 r k) * rt (rowOf x r) := fun k => pay2_apply x r k
  have h7 : ∀ k, Cert.FfnInIdeal.Gen.k0_pay7 (F := Ideal) g (ix2 (0 : Fin 1) k) = g (ix3 (0 : Fin 1) (0 : Fin 1) k) := pay7_apply g
  rw [hc, hc, hr, h1, h2, h7, divf_apply, hs]
  simp only [mulf_apply, hr, h2, h7, prod_apply]
  rfl

/-! ### One half of a block -/

variable (x0 : Vec Ideal S512x2176 .bf16) (x1 : Vec Ideal S2176x1024 .bf16) (x2 x3 : Vec Ideal S512x1024 .f32) (x4 : Vec Ideal S1x1x1024 .f32)

/-- A half's rows of a block of the product's left side. -/
abbrev wide (x : Vec Ideal S512x2176 .bf16) (o : ℕ) (inb : ∀ a, (![o, 0] : Fin 2 → ℕ) a + (![256, 2176] : Fin 2 → ℕ) a ≤ S512x2176.size a) : Vec Ideal S256x2176 .bf16 := View.ld x (Rect.unit (s := S512x2176) ![o, 0] ![256, 2176] inb)

/-- A half's product is the block's. -/
theorem dh_rows (o : ℕ) (i) (h : Fin 2) (ho : o = 256 * h.val) (k : Fin 256) (j : Fin 1024) :
    ∑ l : Fin 2176, wide x0 o i (ix2 k l) * x1 (ix2 l j) = dhf x0 x1 (half h k) j :=
  Finset.sum_congr rfl fun l _ => congrArg (· * x1 (ix2 l j)) (ld_rows x0 o i k l (half h k) (by rw [ho]; rfl))

/-- The gradient of the rows, in a half. -/
theorem half5 (o : ℕ) (i i') (h : Fin 2) (ho : o = 256 * h.val) (k : Fin 256) (j : Fin 1024) :
    k0_pay7 (F := Ideal) x1 x4 (wide x0 o i) (rows x3 o i') (rows x2 o i') (ix2 k j) = dxf x0 x1 x2 x3 (gain x4) (half h k) j := by
  rw [back_apply, row_rows x3 o i' h ho]
  simp only [dh_rows x0 x1 o i h ho]
  exact congrArg (· + _) (ld_rows x2 o i' k j (half h k) (by rw [ho]; rfl))

/-- The gain's part, in a half. -/
theorem half6 (o : ℕ) (i i') (h : Fin 2) (ho : o = 256 * h.val) (acc : Vec Ideal S1x1024 .f32) (j : Fin 1024) :
    Cert.FfnInIdeal.Gen.k0_pay4 (F := Ideal) (k0_pay4 x1 (wide x0 o i)) (rows x3 o i') acc (ix2 (0 : Fin 1) j) = acc (ix2 (0 : Fin 1) j) + ∑ k, g1f x0 x1 x3 (half h k) j := by
  refine (pay4_apply _ _ _ j).trans (congrArg (acc (ix2 (0 : Fin 1) j) + ·) (Finset.sum_congr rfl fun k _ => ?_))
  rw [prod_apply, row_rows x3 o i' h ho, dh_rows x0 x1 o i h ho]
  exact congrArg (fun a => _ * (a * _)) (ld_rows x3 o i' k j (half h k) (by rw [ho]; rfl))

/-! ### The blocks after a point -/

section Points
variable {x0 x1 x2 x3 x4}
variable {c : Dev nD} {i : grid0.Coords} {a1 : Memref sig .tc .vmem S512x2176 .bf16} {h1 : a1.IsWhole} {a2 : Memref sig .tc .vmem S2176x1024 .bf16} {h2 : a2.IsWhole} {a3 : Memref sig .tc .vmem S512x1024 .f32} {h3 : a3.IsWhole} {a4 : Memref sig .tc .vmem S512x1024 .f32} {h4 : a4.IsWhole} {a5 : Memref sig .tc .vmem S1x1x1024 .f32} {h5 : a5.IsWhole} {a6 : Memref sig .tc .vmem S512x1024 .f32} {h6 : a6.IsWhole} {a7 : Memref sig .tc .vmem S1x1024 .f32} {h7 : a7.IsWhole} {y6 : Vec Ideal S1x1024 .f32}

/-- A whole row read back is what was stored last. -/
theorem readCov_last (v : View sig .tc .vmem S1x1024 .f32) (inb inb') (u : Vec Ideal S1x1024 .f32) (L : List (View.Piece (Elt Ideal) S1x1024 .f32)) :
    v.readCov (⟨Rect.unit (s := S1x1024) ![0, 0] ![1, 1024] inb', u⟩ :: L) (Rect.unit (s := S1x1024) ![0, 0] ![1, 1024] inb).toLoadRect = u := by
  rw [View.readCov_eq_canon', View.canon_cons_unit_zero (S := S1x1024) hz]
  exact View.ld_unit_zero (S := S1x1024) hz inb u

/-- The block of the rows' gradient, after a later point. -/
theorem out_B_5 {hc : ¬cond0_0 i} (r : Fin 512) (j : Fin 1024) :
    out0_B_5 c i a1 h1 a2 h2 a3 h3 a4 h4 a5 h5 a6 h6 a7 h7 hc x0 x1 x2 x3 x4 y6 (ix2 r j)
      = dxf x0 x1 x2 x3 (gain x4) r j := by
  unfold out0_B_5
  rw [View.read_writes_eq_canon _ _ _ (cover0_B_5 c i a1 h1 a2 h2 a3 h3 a4 h4 a5 h5 a6 h6 a7 h7 hc x0 x1 x2 x3 x4 y6)]
  unfold kernelRun0_B
  dsimp only
  sl_unfold_words
  simp only [View.readAt_eq_ld, h1.read_unread, h2.read_unread, h3.read_unread, h4.read_unread, h5.read_unread, h7.read_unread, n12, n8, n1,
    View.ld_unit_zero (S := S2176x1024) hz, View.ld_unit_zero (S := S1x1x1024) hz3, View.ld_unit_zero (S := S1x1024) hz]
  obtain ⟨h, k, rfl⟩ := half_surj r
  refine (canon_halves _ _ _ _ _ h k j).trans ?_
  match h with
  | 0 => exact half5 x0 x1 x2 x3 x4 0 _ _ 0 rfl k j
  | 1 => exact half5 x0 x1 x2 x3 x4 256 _ _ 1 rfl k j

/-- The gain's gradient, after a later point. -/
theorem out_B_6 {hc : ¬cond0_0 i} (j : Fin 1024) :
    out0_B_6 c i a1 h1 a2 h2 a3 h3 a4 h4 a5 h5 a6 h6 a7 h7 hc x0 x1 x2 x3 x4 y6 (ix2 (0 : Fin 1) j)
      = y6 (ix2 (0 : Fin 1) j) + ∑ r : Fin 512, g1f x0 x1 x3 r j := by
  unfold out0_B_6
  rw [View.read_writes_eq_canon _ _ _ (cover0_B_6 c i a1 h1 a2 h2 a3 h3 a4 h4 a5 h5 a6 h6 a7 h7 hc x0 x1 x2 x3 x4 y6)]
  unfold kernelRun0_B
  dsimp only
  sl_unfold_words
  simp only [View.readAt_eq_ld, h1.read_unread, h2.read_unread, h3.read_unread, h4.read_unread, h5.read_unread, h7.read_unread, n12, n8, n1,
    View.ld_unit_zero (S := S2176x1024) hz, View.ld_unit_zero (S := S1x1x1024) hz3, View.ld_unit_zero (S := S1x1024) hz]
  rw [View.canon_cons_unit_zero (S := S1x1024) hz]
  refine (half6 x0 x1 x3 256 _ _ 1 rfl _ j).trans ?_
  rw [readCov_last]
  refine (congrArg (· + _) (half6 x0 x1 x3 0 _ _ 0 rfl _ j)).trans ?_
  rw [sum_halves, add_assoc]

/-- The block of the rows' gradient, after the first point. -/
theorem out_A_5 {hc : cond0_0 i} (r : Fin 512) (j : Fin 1024) :
    out0_A_5 c i a1 h1 a2 h2 a3 h3 a4 h4 a5 h5 a6 h6 a7 h7 hc x0 x1 x2 x3 x4 (ix2 r j)
      = dxf x0 x1 x2 x3 (gain x4) r j := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  simp only [View.readAt_eq_ld, h1.read_unread, h2.read_unread, h3.read_unread, h4.read_unread, h5.read_unread, h7.read_unread, n12, n8, n1,
    View.ld_unit_zero (S := S2176x1024) hz, View.ld_unit_zero (S := S1x1x1024) hz3, View.ld_unit_zero (S := S1x1024) hz]
  obtain ⟨h, k, rfl⟩ := half_surj r
  refine (canon_halves _ _ _ _ _ h k j).trans ?_
  match h with
  | 0 => exact half5 x0 x1 x2 x3 x4 0 _ _ 0 rfl k j
  | 1 => exact half5 x0 x1 x2 x3 x4 256 _ _ 1 rfl k j

/-- The gain's gradient, after the first point. -/
theorem out_A_6 {hc : cond0_0 i} (j : Fin 1024) :
    out0_A_6 c i a1 h1 a2 h2 a3 h3 a4 h4 a5 h5 a6 h6 a7 h7 hc x0 x1 x2 x3 x4 (ix2 (0 : Fin 1) j)
      = 0 + ∑ r : Fin 512, g1f x0 x1 x3 r j := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  simp only [View.readAt_eq_ld, h1.read_unread, h2.read_unread, h3.read_unread, h4.read_unread, h5.read_unread, h7.read_unread, n12, n8, n1,
    View.ld_unit_zero (S := S2176x1024) hz, View.ld_unit_zero (S := S1x1x1024) hz3, View.ld_unit_zero (S := S1x1024) hz]
  rw [View.canon_cons_unit_zero (S := S1x1024) hz]
  refine (half6 x0 x1 x3 256 _ _ 1 rfl _ j).trans ?_
  rw [readCov_last]
  refine (congrArg (· + _) (half6 x0 x1 x3 0 _ _ 0 rfl _ j)).trans ?_
  rw [sum_halves, add_assoc]
  rw [readCov_last, show k0_pay2 (F := Ideal) (ix2 (0 : Fin 1) j) = 0 from zero_apply _]

end Points

end Cert.GradRowsIdeal.RefValue

end
-- ==== Proof.GradRowsRef.lean ====
/-
  The reference of the step's last product with a normalisation's gradient, entry by entry. The norm's own terms are those
  of the reference of the product with two norms.
-/
module

public import proofs.«01_k».proof.Proof.FfnRef
public import proofs.«01_k».proof.Proof.Gen.GradRowsRefIdeal.Read

@[expose] public section

set_option maxRecDepth 16384

noncomputable section

namespace Cert.GradRowsRefIdeal.RefValue

open Cert.GradRowsRefIdeal Cert.GradRowsRefIdeal.Gen Cert.GradRowsRefIdeal.Read Cert.Rows Idealize.ShloMosaic Idealize.ShloMosaic.TcCoe Idealize.SL.Sem Idealize.ShloMosaic.ValueIdx
open Cert.FfnInRefIdeal.RefValue (layer)
open scoped BigOperators

variable (x0 : (⟨S8192x2176, .bf16⟩ : BufTy).Contents (Elt Ideal)) (x1 : (⟨S2176x1024, .bf16⟩ : BufTy).Contents (Elt Ideal))
  (x2 x3 : (⟨S8192x1024, .f32⟩ : BufTy).Contents (Elt Ideal)) (x4 : (⟨S4x1x1024, .f32⟩ : BufTy).Contents (Elt Ideal))

/-! ### The norm and the gain -/

/-- The factor of a row. -/
theorem ref9 (p : Fin 8192) (z : Fin 1) : val_main_v9 (F := Ideal) x3 (ix2 p z) = rt (row x3 p) := Cert.FfnInRefIdeal.RefValue.ref9 x3 p z

/-- The factor over the mean square, times minus one half. -/
theorem ref12 (p : Fin 8192) (z : Fin 1) : val_main_v12 (F := Ideal) x3 (ix2 p z) = mhalf * Ideal.div (rt (row x3 p)) (msq (row x3 p)) :=
  Cert.FfnInRefIdeal.RefValue.ref12 x3 p z

/-- The factor, spread over the columns. -/
theorem ref13 (p : Fin 8192) (j : Fin 1024) : val_main_v13 (F := Ideal) x3 (ix2 p j) = rt (row x3 p) := Cert.FfnInRefIdeal.RefValue.ref13 x3 p j

/-- The gain, spread over the rows. -/
theorem ref25 (p : Fin 8192) (j : Fin 1024) : val_main_v25 (F := Ideal) x4 (ix2 p j) = layer x4 j := Cert.FfnInRefIdeal.RefValue.ref25 x4 p j

/-! ### The gradients -/

/-- The product. -/
theorem ref21 (p : Fin 8192) (j : Fin 1024) : val_main_v21 (F := Ideal) x0 x1 (ix2 p j) = dhf x0 x1 p j := by
  rw [val_main_v21_apply]
  refine Finset.sum_congr rfl fun l _ => ?_
  rw [val_main_v20_apply, val_main_v18_apply, val_main_v17_apply]
  refine congrArg₂ (· * ·) (congrArg x0 ?_) (congrArg x1 ?_) <;>
    exact funext fun a => match a with | ⟨0, _⟩ => rfl | ⟨1, _⟩ => rfl

/-- The gain's gradient. -/
theorem ref24 (j : Fin 1024) : val_main_v24 (F := Ideal) x0 x1 x3 (ix2 (0 : Fin 1) j) = ∑ p, g1f x0 x1 x3 p j := by
  rw [val_main_v24_apply, val_main_v23_apply, val_main_cst_3_apply]
  refine (congrArg₂ (· + ·) Ideal.ofBits_zero_f32 (Finset.sum_congr rfl fun p _ => ?_)).trans (zero_add _)
  have hi : idx_main_v23 (idx_main_v24 (ix2 (0 : Fin 1) j)) p = ix2 p j := funext fun a => Fin.ext (match a with
    | ⟨0, _⟩ => rfl
    | ⟨1, _⟩ => by show 0 * 1024 + j.val = j.val; omega)
  rw [hi, val_main_v22_apply, val_main_v14_apply, ref13, ref21]
  exact mul_comm _ _

/-- The gradient with the gain. -/
theorem ref26 (p : Fin 8192) (j : Fin 1024) : val_main_v26 (F := Ideal) x0 x1 x4 (ix2 p j) = dhf x0 x1 p j * layer x4 j := by
  rw [val_main_v26_apply, ref21, ref25]
  rfl

/-- The share of the norm's factor in the gradient, spread over the columns. -/
theorem ref37 (p : Fin 8192) (j : Fin 1024) : val_main_v37 (F := Ideal) x0 x1 x3 x4 (ix2 p j)
    = Ideal.div ((∑ k, x3 (ix2 p k) * (dhf x0 x1 p k * layer x4 k)) * (mhalf * Ideal.div (rt (row x3 p)) (msq (row x3 p)))) width := by
  rw [val_main_v37_apply, val_main_v36_apply, val_main_cst_6_apply]
  refine (congrArg₂ (· + ·) Ideal.ofBits_zero_f32 (Fin.sum_univ_one _)).trans ((zero_add _).trans ?_)
  have hi : idx_main_v36 (idx_main_v37 (ix2 p j)) 0 = ix2 p (0 : Fin 1) := funext fun a => match a with | ⟨0, _⟩ => rfl | ⟨1, _⟩ => rfl
  rw [hi, val_main_v35_apply, val_main_v33_apply, val_main_v34_apply, ref12, val_main_v29_apply, val_main_v28_apply, val_main_cst_4_apply]
  refine congrArg (fun s => Ideal.div (s * (mhalf * Ideal.div (rt (row x3 p)) (msq (row x3 p)))) width) ((congrArg₂ (· + ·) Ideal.ofBits_zero_f32 (Finset.sum_congr rfl fun l _ => ?_)).trans (zero_add _))
  have hj : idx_main_v28 (idx_main_v29 (ix2 p (0 : Fin 1))) l = ix2 p l := funext fun a => Fin.ext (match a with
    | ⟨0, _⟩ => by show p.val * 1 + 0 = p.val; omega
    | ⟨1, _⟩ => rfl)
  rw [hj, val_main_v27_apply, ref26]
  rfl

/-- The gradient of the norm's rows, with the gradient that came past the branch. -/
theorem ref41 (p : Fin 8192) (j : Fin 1024) : val_main_v41 (F := Ideal) x0 x1 x2 x3 x4 (ix2 p j) = dxf x0 x1 x2 x3 (layer x4) p j := by
  rw [val_main_v41_apply, val_main_v39_apply, val_main_v32_apply, val_main_v31_apply, val_main_v38_apply, val_main_v40_apply, ref37, ref26, val_main_v30_apply]
  have hi : idx_main_v30 (ix2 p j) = ix2 p (0 : Fin 1) := funext fun a => match a with | ⟨0, _⟩ => rfl | ⟨1, _⟩ => rfl
  rw [hi, ref9]
  exact back_eq (row x3 p) (fun k => dhf x0 x1 p k * layer x4 k) j (x2 (ix2 p j))

end Cert.GradRowsRefIdeal.RefValue

end
-- ==== Proof.GradRowsEq.lean ====
/-
  The two results of the step's last product with a normalisation's gradient after the run, element by element, as
  functions of the five operands; and the program's claims.
-/
module

public import proofs.«01_k».proof.Proof.At
public import proofs.«01_k».proof.Proof.FfnArr
public import proofs.«01_k».proof.Proof.GradRowsOut
public import proofs.«01_k».proof.Proof.GradRowsRef
public import proofs.«01_k».proof.Proof.Gen.GradRows.Frame
public import proofs.«01_k».proof.Defs

@[expose] public section

set_option maxRecDepth 16384

noncomputable section

namespace Cert.GradRowsIdeal.RefValue

open Cert.GradRowsIdeal Cert.GradRowsIdeal.Gen Cert.Rows Idealize.ShloMosaic Idealize.ShloMosaic.TcCoe Idealize.SL.Sem Idealize.ShloMosaic.ValueIdx
open Cert.At (entry2 same2 entry3 whole block)
open Cert.FfnInIdeal.RefValue (gain)
open Idealize.ShloMosaic.Pipeline (Dat)
open scoped BigOperators

variable (m : (ℓ : Loc nD τ sig) → Buf (Elt Ideal) ℓ) (ρ : Dev nD → PrngReg) (c : Dev nD)

/-- The product's left side. -/
abbrev argA : S8192x2176.Idx → EReal := m ((c : Thread nD τ).loc main_arg0)
/-- The weights. -/
abbrev argW : S2176x1024.Idx → EReal := m ((c : Thread nD τ).loc main_arg1)
/-- The gradient that came past the branch. -/
abbrev argD : S8192x1024.Idx → EReal := m ((c : Thread nD τ).loc main_arg2)
/-- The norm's rows. -/
abbrev argX : S8192x1024.Idx → EReal := m ((c : Thread nD τ).loc main_arg3)
/-- The norm's gain. -/
abbrev argG : Fin 1024 → EReal := fun k => (m ((c : Thread nD τ).loc main_arg4) : S4x1x1024.Idx → EReal) (ix3 (0 : Fin 4) (0 : Fin 1) k)

/-- There are sixteen points. -/
theorem lt16 (t : Fin cfg0.N) : t.val < 16 := by have hN : cfg0.N = 16 := N_0; have := t.isLt; omega

/-- Row `r` of point `t`'s block. -/
abbrev prow (t : Fin cfg0.N) (r : Fin 512) : Fin 8192 := blockRow t.val (lt16 t) r

/-- The windows over rows are at the point's block of rows. -/
theorem index_rows : ∀ t : Fin cfg0.N, (win0_0.index t 0 = t.val ∧ win0_0.index t 1 = 0) ∧ (win0_2.index t 0 = t.val ∧ win0_2.index t 1 = 0) ∧ (win0_3.index t 0 = t.val ∧ win0_3.index t 1 = 0) ∧ (win0_5.index t 0 = t.val ∧ win0_5.index t 1 = 0) :=
  (by decide +kernel : ∀ t : Fin grid0.N, (win0_0.index t 0 = t.val ∧ win0_0.index t 1 = 0) ∧ (win0_2.index t 0 = t.val ∧ win0_2.index t 1 = 0) ∧ (win0_3.index t 0 = t.val ∧ win0_3.index t 1 = 0) ∧ (win0_5.index t 0 = t.val ∧ win0_5.index t 1 = 0))

/-- The other windows stand still. -/
theorem index_whole : ∀ t : Fin cfg0.N, (win0_1.index t 0 = 0 ∧ win0_1.index t 1 = 0) ∧ (win0_4.index t 0 = 0 ∧ win0_4.index t 1 = 0 ∧ win0_4.index t 2 = 0) ∧ (win0_6.index t 0 = 0 ∧ win0_6.index t 1 = 0) :=
  (by decide +kernel : ∀ t : Fin grid0.N, (win0_1.index t 0 = 0 ∧ win0_1.index t 1 = 0) ∧ (win0_4.index t 0 = 0 ∧ win0_4.index t 1 = 0 ∧ win0_4.index t 2 = 0) ∧ (win0_6.index t 0 = 0 ∧ win0_6.index t 1 = 0))

/-! ### The blocks of the operands -/

/-- The left side's block. -/
theorem blk0 (t : Fin cfg0.N) (r : Fin 512) (d : Fin 2176) : (iblk m c 0 t : Vec Ideal S512x2176 .bf16) (ix2 r d) = argA m c (ix2 (prow t r) d) :=
  entry2 (argA m c) _ (block (index_rows t).1.1 512 r.val) (whole (index_rows t).1.2 2176 d.val)

/-- The past gradient's block. -/
theorem blk2 (t : Fin cfg0.N) (r : Fin 512) (d : Fin 1024) : (iblk m c 2 t : Vec Ideal S512x1024 .f32) (ix2 r d) = argD m c (ix2 (prow t r) d) :=
  entry2 (argD m c) _ (block (index_rows t).2.1.1 512 r.val) (whole (index_rows t).2.1.2 1024 d.val)

/-- The rows' block. -/
theorem blk3 (t : Fin cfg0.N) (r : Fin 512) (d : Fin 1024) : (iblk m c 3 t : Vec Ideal S512x1024 .f32) (ix2 r d) = argX m c (ix2 (prow t r) d) :=
  entry2 (argX m c) _ (block (index_rows t).2.2.1.1 512 r.val) (whole (index_rows t).2.2.1.2 1024 d.val)

/-- The weights' block is the weights. -/
theorem blk1 (t : Fin cfg0.N) : (iblk m c 1 t : Vec Ideal S2176x1024 .bf16) = argW m c :=
  funext fun j => same2 (argW m c) _ j (whole (index_whole t).1.1 2176 (j 0).val) (whole (index_whole t).1.2 1024 (j 1).val)

/-- The gain's block is the first layer's gain. -/
theorem blk4 (t : Fin cfg0.N) : gain (iblk m c 4 t : Vec Ideal S1x1x1024 .f32) = argG m c :=
  funext fun k => entry3 (m ((c : Thread nD τ).loc main_arg4) : S4x1x1024.Idx → EReal) _ (whole (index_whole t).2.1.1 1 0) (whole (index_whole t).2.1.2.1 1 0) (whole (index_whole t).2.1.2.2 1024 k.val)

/-! ### After each point -/

/-- The block of the gradient after point `t`. -/
theorem outs5 (t : Fin cfg0.N) (r : Fin 512) (j : Fin 1024) :
    (outsAt0 m c t.val t.isLt).1 (ix2 r j) = dxf (argA m c) (argW m c) (argD m c) (argX m c) (argG m c) (prow t r) j := by
  by_cases h0 : t.val % 16 = 0
  · have e := congrFun (congrArg (fun x => x.1) (outsAt0_A m c t h0)) (ix2 r j)
    dsimp only at e
    refine e.trans ((out_A_5 r j).trans ?_)
    rw [blk1, blk4]
    exact dxf_congr _ _ (blk0 m c t r) (blk2 m c t r) (blk3 m c t r) j
  · have e := congrFun (congrArg (fun x => x.1) (outsAt0_B m c t h0)) (ix2 r j)
    dsimp only at e
    refine e.trans ((out_B_5 r j).trans ?_)
    rw [blk1, blk4]
    exact dxf_congr _ _ (blk0 m c t r) (blk2 m c t r) (blk3 m c t r) j

/-- The first point leaves its own rows' part of the gain's gradient. -/
theorem first6 (t : Fin cfg0.N) (h0 : t.val % 16 = 0) (j : Fin 1024) :
    (outsAt0 m c t.val t.isLt).2 (ix2 (0 : Fin 1) j) = 0 + ∑ r, g1f (argA m c) (argW m c) (argX m c) (prow t r) j := by
  have e := congrFun (congrArg (fun x => x.2) (outsAt0_A m c t h0)) (ix2 (0 : Fin 1) j)
  dsimp only at e
  refine e.trans ((out_A_6 j).trans ?_)
  rw [blk1]
  exact congrArg (0 + ·) (Finset.sum_congr rfl fun r _ => g1f_congr _ (blk0 m c t r) (blk3 m c t r) j)

/-- Each later point adds its rows' part. -/
theorem next6 (t : Fin cfg0.N) (h0 : ¬t.val % 16 = 0) (j : Fin 1024) :
    (outsAt0 m c t.val t.isLt).2 (ix2 (0 : Fin 1) j)
      = (outsAt0 m c (t.val - 1) (Nat.lt_of_le_of_lt (Nat.sub_le _ _) t.isLt)).2 (ix2 (0 : Fin 1) j) + ∑ r, g1f (argA m c) (argW m c) (argX m c) (prow t r) j := by
  have e := congrFun (congrArg (fun x => x.2) (outsAt0_B m c t h0)) (ix2 (0 : Fin 1) j)
  dsimp only at e
  refine e.trans ((out_B_6 j).trans ?_)
  rw [blk1]
  exact congrArg ((outsAt0 m c (t.val - 1) (Nat.lt_of_le_of_lt (Nat.sub_le _ _) t.isLt)).2 (ix2 (0 : Fin 1) j) + ·) (Finset.sum_congr rfl fun r _ => g1f_congr _ (blk0 m c t r) (blk3 m c t r) j)

/-! ### The arrays after the run -/

/-- The last point. -/
theorem last : 15 < cfg0.N := by rw [show cfg0.N = 16 from N_0]; decide

/-- The gradient. -/
theorem arr5 (p : Fin 8192) (j : Fin 1024) :
    (dats m 0 c).arrAt 5 cfg0.N (ix2 p j) = dxf (argA m c) (argW m c) (argD m c) (argX m c) (argG m c) p j := by
  have hN : cfg0.N = 16 := N_0
  let t : Fin cfg0.N := ⟨p.val / 512, by omega⟩
  let r : Fin 512 := ⟨p.val % 512, Nat.mod_lt _ (by decide)⟩
  have hp : prow t r = p := Fin.ext (Nat.div_add_mod p.val 512)
  have hb := congrFun (Value.blocks5 m c t (flush0_5 t)) (ix2 r j)
  rw [View.read_apply] at hb
  have hi : ((cfg0.win 5).blk t).view.emb (ix2 r j) = (ix2 p j : S8192x1024.Idx) :=
    entry2 id _ (block (index_rows t).2.2.2.1 512 r.val |>.trans (congrArg Fin.val hp)) (whole (index_rows t).2.2.2.2 1024 j.val)
  rw [hi] at hb
  refine hb.trans ?_
  rw [Value.flushed5]
  exact (outs5 m c t r j).trans (by rw [hp])

/-- The gain's gradient is written back after the last point. -/
theorem flushed6_eq (t : Fin cfg0.N) (hf : (cfg0.win 6).flush t = true) :
    (dats m 0 c).flushed 6 t = ((cfg0.win 6).blk t).view.read (Elt Ideal) ((outsAt0 m c 15 last).2 : Buf (Elt Ideal) ((c : Thread nD τ).loc main_v0_1)) := by
  have ht : t.val = 15 := by have := (flush0_6 t).mp hf; have := lt16 t; omega
  obtain rfl : t = ⟨15, last⟩ := Fin.ext ht
  rw [Value.flushed6]
  have hz' : (fun a => win0_6.index (⟨15, last⟩ : Fin cfg0.N) a * main_v0_1.ty.shape.size a) = fun _ => 0 := funext fun a => by fin_cases a <;> decide +kernel
  exact (Memref.read_access_unit_zero (Elt Ideal) main_v0_1 hz' (fun a => by rw [congrFun hz' a]; simp) ((outsAt0 m c 15 last).2 : Buf (Elt Ideal) ((c : Thread nD τ).loc main_v0_1))).symm

/-- The gain's gradient in the array is what the last point left. -/
theorem final6 : (dats m 0 c).arrAt 6 cfg0.N = ((outsAt0 m c 15 last).2 : Buf (Elt Ideal) ((c : Thread nD τ).loc main_v0_1)) :=
  (dats m 0 c).arrAt_eq_of_cover 6 _ (flushed6_eq m c) fun i =>
    ⟨⟨15, last⟩, (flush0_6 _).mpr rfl, by
      show i ∈ ((View.whole main_v0_1).slice (win0_6.rect ⟨15, last⟩)).set
      rw [View.set_slice_whole, Rect.mem_set_unit]
      intro a
      have h0 : (i 0 : Nat) < 1 := (i 0).isLt
      have h1 : (i 1 : Nat) < 1024 := (i 1).isLt
      match a with
      | ⟨0, _⟩ => show win0_6.index ⟨15, last⟩ 0 * 1 ≤ (i 0 : Nat) ∧ (i 0 : Nat) < win0_6.index ⟨15, last⟩ 0 * 1 + 1
                  rw [(index_whole _).2.2.1]; omega
      | ⟨1, _⟩ => show win0_6.index ⟨15, last⟩ 1 * 1024 ≤ (i 1 : Nat) ∧ (i 1 : Nat) < win0_6.index ⟨15, last⟩ 1 * 1024 + 1024
                  rw [(index_whole _).2.2.2]; omega⟩

/-- The gain's gradient. -/
theorem arr6 (j : Fin 1024) : (dats m 0 c).arrAt 6 cfg0.N (ix2 (0 : Fin 1) j) = ∑ p, g1f (argA m c) (argW m c) (argX m c) p j := by
  have hN : cfg0.N = 16 := N_0
  rw [final6]
  exact chain hN (fun p => g1f (argA m c) (argW m c) (argX m c) p j) (fun n hn => (outsAt0 m c n hn).2 (ix2 (0 : Fin 1) j))
    (fun hn => first6 m c ⟨0, hn⟩ rfl j) (fun n hn => next6 m c ⟨n + 1, hn⟩ (by dsimp only; omega) j) last

end Cert.GradRowsIdeal.RefValue

namespace Cert.GradRowsEq

open Cert.Rows Idealize.ShloMosaic Idealize.ShloMosaic.TcCoe Idealize.SL.Sem Idealize.ShloMosaic.ValueIdx
open Cert.GradRowsIdeal.RefValue (argA argW argD argX argG arr5 arr6)
open scoped BigOperators

section
open Cert.GradRowsIdeal
variable (m : (ℓ : Loc nD τ sig) → Buf (Elt Ideal) ℓ) (c : Dev nD)

/-- The gain, as the operand holds it. -/
abbrev gains : S4x1x1024.Idx → EReal := m ((c : Thread nD τ).loc main_arg4)

/-- The gradient of the rows. -/
theorem same5 : (Gen.dats m 0 c).arrAt 5 cfg0.N = Cert.GradRowsRefIdeal.Read.val_main_v41 (F := Ideal) (argA m c) (argW m c) (argD m c) (argX m c) (gains m c) := by
  refine funext fun i => ?_
  obtain ⟨p, j, rfl⟩ : ∃ (p : Fin 8192) (j : Fin 1024), i = ix2 p j := ⟨i 0, i 1, eq_ix2 i⟩
  exact (arr5 m c p j).trans (Cert.GradRowsRefIdeal.RefValue.ref41 (argA m c) (argW m c) (argD m c) (argX m c) (gains m c) p j).symm

/-- The gain's gradient. -/
theorem same6 : (Gen.dats m 0 c).arrAt 6 cfg0.N = Cert.GradRowsRefIdeal.Read.val_main_v24 (F := Ideal) (argA m c) (argW m c) (argX m c) := by
  refine funext fun i => ?_
  obtain ⟨z, j, rfl⟩ : ∃ (z : Fin 1) (j : Fin 1024), i = ix2 z j := ⟨i 0, i 1, eq_ix2 i⟩
  obtain rfl : z = 0 := Subsingleton.elim _ _
  exact (arr6 m c j).trans (Cert.GradRowsRefIdeal.RefValue.ref24 (argA m c) (argW m c) (argX m c) j).symm

end

/-- The frame of the kernel. -/
theorem frame_p : quiescent_GradRows := fun m ρ _ => Cert.GradRows.Gen.frame m ρ

/-- The frame of the idealized kernel. -/
theorem frame_pi : quiescent_GradRowsIdeal := fun m ρ _ => Cert.GradRowsIdeal.Gen.frame m ρ

/-- The frame of the reference: its run ends with its arguments as they were, and it declares no semaphore. -/
theorem frame_ri : quiescent_GradRowsRefIdeal := fun m ρ _ =>
  (θ_run Cert.GradRowsRefIdeal.defs _ _).mono (fun r h => ⟨fun c => (h c).2.2, sem_eq_zero_of_no_sems (by decide) r.2⟩)
    (Cert.GradRowsRefIdeal.Value.run (F := Ideal) m ρ)

/-- The call computes the gradients of the plain normalisation, the product and the branch. -/
theorem same : algebraic_GradRowsIdeal_GradRowsRefIdeal := by
  intro m g m' g' hm ha
  refine ⟨fun c => (Cert.GradRowsIdeal.Gen.dats m 0 c).arrAt 5 Cert.GradRowsIdeal.cfg0.N, fun c => (Cert.GradRowsIdeal.Gen.dats m 0 c).arrAt 6 Cert.GradRowsIdeal.cfg0.N,
    Cert.GradRowsIdeal.Value.run_blocks m g, ?_⟩
  refine (θ_run Cert.GradRowsRefIdeal.defs _ _).mono (fun r h c => ?_) (Cert.GradRowsRefIdeal.Value.run (F := Ideal) m' g')
  obtain ⟨h41, h24, hrest⟩ := h c
  obtain ⟨a0, a1, a2, a3, a4⟩ := ha c
  refine ⟨h41.trans ?_, h24.trans ?_, hrest⟩
  · rw [Cert.GradRowsRefIdeal.Read.val_main_v41_eq, a0, a1, a2, a3, a4]
    exact (same5 m c).symm
  · rw [Cert.GradRowsRefIdeal.Read.val_main_v24_eq, a0, a1, a3]
    exact (same6 m c).symm

end Cert.GradRowsEq

end
-- ==== Proof.Adam.lean ====
/-
  The optimiser's step on one large weight, as a formula: the gradient of a layer's shard is the sum of the eight devices'
  parts (the first layer's parts come in an array of their own), and the two moving averages and the step are taken entry by
  entry. And the kernel's arithmetic on one block, entry by entry, at any number of rows.
-/
module

public import proofs.«01_k».proof.Proof.Sums

@[expose] public section

set_option maxRecDepth 16384

noncomputable section

namespace Cert.Adam

open Idealize.ShloMosaic hiding ix1 ix2 ix3 ix4 eq_ix2 eq_ix3 eq_ix4
open Idealize.ShloMosaic.ValueIdx
open scoped BigOperators

/-! ### One entry -/

/-- The value of a word of single precision. -/
abbrev num (b : BitVec 32) : EReal := Scalar.ofBits (F := Ideal) .f32 b

/-- The new moving average of the gradient. -/
def mean (g m : EReal) : EReal := num 0x3F666666#32 * m + num 0x3DCCCCCD#32 * g

/-- The new moving average of the gradient's square. -/
def square (g v : EReal) : EReal := num 0x3F7FBE77#32 * v + num 0x3A83126F#32 * (g * g)

/-- The step: the average over the root of the square's average, with the weight's decay, times minus the rate. -/
def step (w g m v : EReal) : EReal :=
  num 0xBA83126F#32 * (Ideal.div (Ideal.div (mean g m) (num 0x3F26BD02#32)) (Ideal.sqrt (Ideal.div (square g v) (num 0x3C231ACC#32)) + num 0x322BCC77#32) + num 0x3C23D70A#32 * w)

/-! ### The arrays -/

section Arrays
variable {a b : ℕ}

/-- The gradient of the four layers' shards from the devices' parts: the first layer's, and the other three layers'. -/
def grad (r0 : (⟨4, ![1, 8, a, b]⟩ : Shape).Idx → EReal) (r : (⟨4, ![3, 8, a, b]⟩ : Shape).Idx → EReal) (i : (⟨3, ![4, a, b]⟩ : Shape).Idx) : EReal :=
  if h : (i 0).val = 0 then ∑ k : Fin 8, r0 (ix4 (0 : Fin 1) k (i 1) (i 2))
  else ∑ k : Fin 8, r (ix4 (⟨(i 0).val - 1, by have h4 : (i 0).val < 4 := (i 0).isLt; omega⟩ : Fin 3) k (i 1) (i 2))

/-- The gradient in the first layer. -/
theorem grad_zero (r0 : (⟨4, ![1, 8, a, b]⟩ : Shape).Idx → EReal) (r : (⟨4, ![3, 8, a, b]⟩ : Shape).Idx → EReal) (i : (⟨3, ![4, a, b]⟩ : Shape).Idx)
    (h : (i 0).val = 0) : grad r0 r i = ∑ k : Fin 8, r0 (ix4 (0 : Fin 1) k (i 1) (i 2)) := dif_pos h

/-- The gradient in a later layer. -/
theorem grad_succ (r0 : (⟨4, ![1, 8, a, b]⟩ : Shape).Idx → EReal) (r : (⟨4, ![3, 8, a, b]⟩ : Shape).Idx → EReal) (i : (⟨3, ![4, a, b]⟩ : Shape).Idx)
    (z : Fin 3) (h : (i 0).val = z.val + 1) : grad r0 r i = ∑ k : Fin 8, r (ix4 z k (i 1) (i 2)) := by
  have e : (⟨(i 0).val - 1, by have h4 : (i 0).val < 4 := (i 0).isLt; omega⟩ : Fin 3) = z := Fin.ext (by show (i 0).val - 1 = z.val; omega)
  unfold grad
  rw [dif_neg (by omega), e]

/-- The host's gradient: the two arrays laid one behind the other, and summed over the devices. -/
theorem host_grad {u : Shape} (r0 : (⟨4, ![1, 8, a, b]⟩ : Shape).Idx → EReal) (r : (⟨4, ![3, 8, a, b]⟩ : Shape).Idx → EReal)
    (hc : Shape.Concatenates [⟨4, ![1, 8, a, b]⟩, ⟨4, ![3, 8, a, b]⟩] (⟨4, ![4, 8, a, b]⟩ : Shape) 0)
    (hr : (⟨4, ![4, 8, a, b]⟩ : Shape).ReducesTo [1] (⟨3, ![4, a, b]⟩ : Shape)) (hu : 0 < u.numel) (hb) (i : (⟨3, ![4, a, b]⟩ : Shape).Idx) :
    Host.reduceAdd (F := Ideal) (φ := .f32) (extf (F := Ideal) (φ := .bf16) .f32 (concatenate (⟨4, ![4, 8, a, b]⟩ : Shape) 0 [⟨⟨4, ![1, 8, a, b]⟩, r0⟩, ⟨⟨4, ![3, 8, a, b]⟩, r⟩] hc) hb)
      (constant u .f32 0x00000000#32) hr hu i = grad r0 r i := by
  obtain ⟨z, p, q, rfl⟩ : ∃ (z : Fin 4) (p : Fin a) (q : Fin b), i = ix3 z p q := ⟨i 0, i 1, i 2, eq_ix3 i⟩
  refine (Cert.Sums.host4 _ hr hu z p q).trans ?_
  by_cases h : z.val = 0
  · rw [grad_zero r0 r _ h]
    refine Finset.sum_congr rfl fun k _ => ?_
    exact concatenate_pair_apply_left 0 r0 r hc (ix4 z k p q) rfl (ix4 (0 : Fin 1) k p q) fun c => match c with
      | ⟨0, _⟩ => h.symm
      | ⟨1, _⟩ => rfl
      | ⟨2, _⟩ => rfl
      | ⟨3, _⟩ => rfl
  · have hz : z.val - 1 + 1 = z.val := by omega
    rw [grad_succ r0 r _ (⟨z.val - 1, by omega⟩ : Fin 3) hz.symm]
    refine Finset.sum_congr rfl fun k _ => ?_
    exact concatenate_pair_apply_right 0 r0 r hc (ix4 z k p q) rfl rfl (ix4 (⟨z.val - 1, by omega⟩ : Fin 3) k p q) (fun c hcz => match c with
      | ⟨0, _⟩ => absurd rfl hcz
      | ⟨1, _⟩ => rfl
      | ⟨2, _⟩ => rfl
      | ⟨3, _⟩ => rfl) hz

end Arrays

/-! ### One block -/

section Blocks
variable {a b : ℕ}

/-- The corner of a block. -/
theorem corner : (![0, 0, 0] : Fin 3 → ℕ) = fun _ => 0 := by
  funext x; match x with | ⟨0, _⟩ => rfl | ⟨1, _⟩ => rfl | ⟨2, _⟩ => rfl

/-- The gradient in a block: the sum of the devices' parts. -/
abbrev gblk (x : (⟨4, ![1, 8, a, b]⟩ : Shape).Idx → EReal) (y : (⟨3, ![1, a, b]⟩ : Shape).Idx) : EReal := ∑ k : Fin 8, x (ix4 (0 : Fin 1) k (y 1) (y 2))

/-- A device's part in a block, read as a matrix. -/
theorem part {Val : EltTy → Type} {e : EltTy} (x : (⟨4, ![1, 8, a, b]⟩ : Shape).Idx → Val e) (o : ℕ) (inb) (ho : o < 8)
    (hs : (⟨4, ![1, 1, a, b]⟩ : Shape).ShapeCasts (⟨2, ![a, b]⟩ : Shape)) (p : Fin a) (q : Fin b) :
    shapeCast (⟨2, ![a, b]⟩ : Shape) (View.ld x (Rect.unit (s := ⟨4, ![1, 8, a, b]⟩) ![0, o, 0, 0] ![1, 1, a, b] inb)) hs (ix2 p q) = x (ix4 (0 : Fin 1) ⟨o, ho⟩ p q) := by
  rw [shapeCast_apply _ _ _ (ix4 (0 : Fin 1) (0 : Fin 1) p q) (by
    rw [Shape.rowMajor_val_two, Shape.rowMajor_val_four]; show ((0 * 1 + 0) * a + p.val) * b + q.val = p.val * b + q.val; simp)]
  exact View.ld_unit_apply_of x _ _ inb _ _ fun c => match c with
    | ⟨0, _⟩ => rfl
    | ⟨1, _⟩ => rfl
    | ⟨2, _⟩ => (Nat.zero_add _).symm
    | ⟨3, _⟩ => (Nat.zero_add _).symm

/-- A block of one layer read as a matrix. -/
theorem flat {α : Type} (x : (⟨3, ![1, a, b]⟩ : Shape).Idx → α)
    (hs : (⟨3, ![1, a, b]⟩ : Shape).ShapeCasts (⟨2, ![a, b]⟩ : Shape)) (p : Fin a) (q : Fin b) :
    shapeCast (⟨2, ![a, b]⟩ : Shape) x hs (ix2 p q) = x (ix3 (0 : Fin 1) p q) :=
  shapeCast_apply _ _ _ (ix3 (0 : Fin 1) p q) (by
    rw [Shape.rowMajor_val_two, Shape.rowMajor_val_three]; show (0 * a + p.val) * b + q.val = p.val * b + q.val; simp)

/-- A matrix laid down as a block of one layer. -/
theorem lift {α : Type} (x : (⟨2, ![a, b]⟩ : Shape).Idx → α)
    (hs : (⟨2, ![a, b]⟩ : Shape).ShapeCasts (⟨3, ![1, a, b]⟩ : Shape)) (p : Fin a) (q : Fin b) :
    shapeCast (⟨3, ![1, a, b]⟩ : Shape) x hs (ix3 (0 : Fin 1) p q) = x (ix2 p q) :=
  shapeCast_apply _ _ _ (ix2 p q) (by
    rw [Shape.rowMajor_val_two, Shape.rowMajor_val_three]; show p.val * b + q.val = (0 * a + p.val) * b + q.val; simp)

/-- A block's index is its row and column. -/
theorem one (y : (⟨3, ![1, a, b]⟩ : Shape).Idx) : ∃ (p : Fin a) (q : Fin b), y = ix3 (0 : Fin 1) p q :=
  ⟨y 1, y 2, (eq_ix3 y).trans (congrArg (fun z => ix3 z (y 1) (y 2)) (Subsingleton.elim (α := Fin 1) (y 0) 0))⟩

section Trees
variable (x : (⟨4, ![1, 8, a, b]⟩ : Shape).Idx → EReal) (w m v : (⟨3, ![1, a, b]⟩ : Shape).Idx → EReal)
  (hs : (⟨3, ![1, a, b]⟩ : Shape).ShapeCasts (⟨2, ![a, b]⟩ : Shape)) (hl : (⟨2, ![a, b]⟩ : Shape).ShapeCasts (⟨3, ![1, a, b]⟩ : Shape))
  (g : FVec Ideal (⟨2, ![a, b]⟩ : Shape) .f32) (hg : ∀ p q, g (ix2 p q) = gblk x (ix3 (0 : Fin 1) p q))

/-- The eight parts, loaded one by one and added. -/
theorem parts (hp : (⟨4, ![1, 1, a, b]⟩ : Shape).ShapeCasts (⟨2, ![a, b]⟩ : Shape)) (hb : FTy.bits .bf16 < FTy.bits .f32) (i0 i1 i2 i3 i4 i5 i6 i7) (p : Fin a) (q : Fin b) :
    let u : (o : ℕ) → (∀ c, (![0, o, 0, 0] : Fin 4 → ℕ) c + (![1, 1, a, b] : Fin 4 → ℕ) c ≤ (⟨4, ![1, 8, a, b]⟩ : Shape).size c) → FVec Ideal (⟨2, ![a, b]⟩ : Shape) .f32 :=
      fun o inb => extf (F := Ideal) (φ := .bf16) .f32 (shapeCast (⟨2, ![a, b]⟩ : Shape) (View.ld (Val := Elt Ideal) (e' := .bf16) x (Rect.unit (s := ⟨4, ![1, 8, a, b]⟩) ![0, o, 0, 0] ![1, 1, a, b] inb)) hp) hb
    addf (addf (addf (addf (addf (addf (addf (u 0 i0) (u 1 i1)) (u 2 i2)) (u 3 i3)) (u 4 i4)) (u 5 i5)) (u 6 i6)) (u 7 i7) (ix2 p q) = gblk x (ix3 (0 : Fin 1) p q) := by
  intro u
  have hu : ∀ o inb (ho : o < 8), u o inb (ix2 p q) = x (ix4 (0 : Fin 1) ⟨o, ho⟩ p q) := fun o inb ho => part (Val := Elt Ideal) (e := .bf16) x o inb ho hp p q
  refine Eq.trans ?_ (Cert.Sums.eight fun k => x (ix4 (0 : Fin 1) k p q))
  simp only [addf_apply]
  rw [hu 0 i0 (by decide), hu 1 i1 (by decide), hu 2 i2 (by decide), hu 3 i3 (by decide), hu 4 i4 (by decide), hu 5 i5 (by decide), hu 6 i6 (by decide), hu 7 i7 (by decide)]
  rfl

/-- The gradient's average as the kernel takes it. -/
abbrev meanTree : FVec Ideal (⟨2, ![a, b]⟩ : Shape) .f32 :=
  addf (mulf (broadcast _ (Scalar.ofBits .f32 0x3F666666#32)) (shapeCast _ m hs)) (mulf (broadcast _ (Scalar.ofBits .f32 0x3DCCCCCD#32)) g)

/-- The square's average as the kernel takes it. -/
abbrev squareTree : FVec Ideal (⟨2, ![a, b]⟩ : Shape) .f32 :=
  addf (mulf (broadcast _ (Scalar.ofBits .f32 0x3F7FBE77#32)) (shapeCast _ v hs)) (mulf (broadcast _ (Scalar.ofBits .f32 0x3A83126F#32)) (mulf g g))

/-- The step as the kernel takes it. -/
abbrev stepTree : FVec Ideal (⟨2, ![a, b]⟩ : Shape) .f32 :=
  mulf (broadcast _ (Scalar.ofBits .f32 0xBA83126F#32)) (addf (divf (divf (meanTree m hs g) (broadcast _ (Scalar.ofBits .f32 0x3F26BD02#32)))
    (addf (sqrt (divf (squareTree v hs g) (broadcast _ (Scalar.ofBits .f32 0x3C231ACC#32)))) (broadcast _ (Scalar.ofBits .f32 0x322BCC77#32))))
    (mulf (broadcast _ (Scalar.ofBits .f32 0x3C23D70A#32)) (shapeCast _ w hs)))

include hg

/-- The gradient's block. -/
theorem lay_grad : shapeCast (⟨3, ![1, a, b]⟩ : Shape) g hl = gblk x := by
  funext y
  obtain ⟨p, q, rfl⟩ := one y
  exact (lift g hl p q).trans (hg p q)

/-- The gradient's average at an entry. -/
theorem mean_apply (p : Fin a) (q : Fin b) : meanTree m hs g (ix2 p q) = mean (gblk x (ix3 (0 : Fin 1) p q)) (m (ix3 (0 : Fin 1) p q)) :=
  congrArg₂ (fun c d => num 0x3F666666#32 * c + num 0x3DCCCCCD#32 * d) (flat m hs p q) (hg p q)

/-- The square's average at an entry. -/
theorem square_apply (p : Fin a) (q : Fin b) : squareTree v hs g (ix2 p q) = square (gblk x (ix3 (0 : Fin 1) p q)) (v (ix3 (0 : Fin 1) p q)) :=
  congrArg₂ (fun c d => num 0x3F7FBE77#32 * c + num 0x3A83126F#32 * (d * d)) (flat v hs p q) (hg p q)

/-- The step's block. -/
theorem lay_step : shapeCast (⟨3, ![1, a, b]⟩ : Shape) (stepTree w m v hs g) hl = fun y => step (w y) (gblk x y) (m y) (v y) := by
  funext y
  obtain ⟨p, q, rfl⟩ := one y
  refine (lift _ hl p q).trans ?_
  show num 0xBA83126F#32 * (Ideal.div (Ideal.div (meanTree m hs g (ix2 p q)) (num 0x3F26BD02#32))
      (Ideal.sqrt (Ideal.div (squareTree v hs g (ix2 p q)) (num 0x3C231ACC#32)) + num 0x322BCC77#32) + num 0x3C23D70A#32 * shapeCast (⟨2, ![a, b]⟩ : Shape) w hs (ix2 p q)) = _
  rw [flat w hs p q, mean_apply x m hs g hg, square_apply x v hs g hg]
  rfl

/-- The gradient's average's block. -/
theorem lay_mean : shapeCast (⟨3, ![1, a, b]⟩ : Shape) (meanTree m hs g) hl = fun y => mean (gblk x y) (m y) := by
  funext y
  obtain ⟨p, q, rfl⟩ := one y
  exact (lift _ hl p q).trans (mean_apply x m hs g hg p q)

/-- The square's average's block. -/
theorem lay_square : shapeCast (⟨3, ![1, a, b]⟩ : Shape) (squareTree v hs g) hl = fun y => square (gblk x y) (v y) := by
  funext y
  obtain ⟨p, q, rfl⟩ := one y
  exact (lift _ hl p q).trans (square_apply x v hs g hg p q)

end Trees

end Blocks

end Cert.Adam

end
-- ==== Proof.AdamSquareArr.lean ====
/-
  The optimiser's two calls on one large weight of 128 rows per layer: what the blocks hold after a point, and the four
  result arrays after the run.
-/
module

public import proofs.«01_k».proof.Proof.Adam
public import proofs.«01_k».proof.Proof.Gen.AdamSquareIdeal.Frame
public import Idealize.ShloMosaic.Lib.Pipeline.ValueKit.Partial

@[expose] public section

set_option maxRecDepth 16384

noncomputable section

namespace Cert.AdamSquareIdeal.RefValue

open Cert.AdamSquareIdeal Cert.AdamSquareIdeal.Gen Cert.Adam
open Idealize.ShloMosaic hiding ix1 ix2 ix3 ix4 eq_ix2 eq_ix3 eq_ix4
open Idealize.ShloMosaic.TcCoe Idealize.SL.Sem Idealize.ShloMosaic.ValueIdx
open scoped BigOperators

/-! ### The blocks after a point -/

section Blocks
variable (x : Vec Ideal S1x8x128x1024 .bf16) (w m v : Vec Ideal S1x128x1024 .f32)

/-- The eight parts added. -/
theorem sum8 (p : Fin 128) (q : Fin 1024) : k0_pay5 (F := Ideal) (k0_pay10 x w m v) (View.ld x r0_7) (ix2 p q) = gblk x (ix3 (0 : Fin 1) p q) :=
  parts x _ _ _ _ _ _ _ _ _ _ p q

/-- The block of the gradient. -/
theorem out4 : out0_4 (F := Ideal) x w m v = gblk x := by
  unfold out0_4
  rw [View.canon_unit_zero (S := S1x128x1024) corner]
  exact lay_grad x _ _ (sum8 x w m v)

/-- The block of the step. -/
theorem out5 : out0_5 (F := Ideal) x w m v = fun y => step (w y) (gblk x y) (m y) (v y) := by
  unfold out0_5
  rw [View.canon_unit_zero (S := S1x128x1024) corner]
  simp only [View.ld_unit_zero (S := S1x128x1024) corner]
  exact lay_step x w m v _ _ _ (sum8 x w m v)

/-- The block of the gradient's average. -/
theorem out6 : out0_6 (F := Ideal) x w m v = fun y => mean (gblk x y) (m y) := by
  unfold out0_6
  rw [View.canon_unit_zero (S := S1x128x1024) corner]
  simp only [View.ld_unit_zero (S := S1x128x1024) corner]
  exact lay_mean x m _ _ _ (sum8 x w m v)

/-- The block of the square's average. -/
theorem out7 : out0_7 (F := Ideal) x w m v = fun y => square (gblk x y) (v y) := by
  unfold out0_7
  rw [View.canon_unit_zero (S := S1x128x1024) corner]
  simp only [View.ld_unit_zero (S := S1x128x1024) corner]
  exact lay_square x v _ _ _ (sum8 x w m v)

end Blocks

/-! ### The blocks of the second call are those of the first -/

section Second
variable (c : Dev nD) (i : grid1.Coords) (a2 : Memref sig .tc .vmem S1x8x128x1024 .bf16) (h2 : a2.IsWhole) (a3 : Memref sig .tc .vmem S1x128x1024 .f32) (h3 : a3.IsWhole) (a4 : Memref sig .tc .vmem S1x128x1024 .f32) (h4 : a4.IsWhole) (a5 : Memref sig .tc .vmem S1x128x1024 .f32) (h5 : a5.IsWhole)
  (a10 : Memref sig .tc .vmem S1x128x1024 .f32) (h10 : a10.IsWhole) (a11 : Memref sig .tc .vmem S1x128x1024 .f32) (h11 : a11.IsWhole) (a12 : Memref sig .tc .vmem S1x128x1024 .f32) (h12 : a12.IsWhole) (a13 : Memref sig .tc .vmem S1x128x1024 .f32) (h13 : a13.IsWhole)
  (x : Vec Ideal S1x8x128x1024 .bf16) (w m v : Vec Ideal S1x128x1024 .f32)

/-- The gradient's. -/
theorem second4 : out1_A_4 c i a2 h2 a3 h3 a4 h4 a5 h5 a10 h10 a11 h11 a12 h12 a13 h13 x w m v = out0_4 (F := Ideal) x w m v := by
  unfold out1_A_4
  rw [View.read_writes_eq_canon _ _ _ (cover1_A_4 c i a2 h2 a3 h3 a4 h4 a5 h5 a10 h10 a11 h11 a12 h12 a13 h13 x w m v)]
  unfold kernelRun1_A
  dsimp only
  sl_unfold_words
  simp only [View.readAt_eq_ld, h2.read_unread, h3.read_unread, h4.read_unread, h5.read_unread]
  rfl

/-- The step's. -/
theorem second5 : out1_A_5 c i a2 h2 a3 h3 a4 h4 a5 h5 a10 h10 a11 h11 a12 h12 a13 h13 x w m v = out0_5 (F := Ideal) x w m v := by
  unfold out1_A_5
  rw [View.read_writes_eq_canon _ _ _ (cover1_A_5 c i a2 h2 a3 h3 a4 h4 a5 h5 a10 h10 a11 h11 a12 h12 a13 h13 x w m v)]
  unfold kernelRun1_A
  dsimp only
  sl_unfold_words
  simp only [View.readAt_eq_ld, h2.read_unread, h3.read_unread, h4.read_unread, h5.read_unread]
  rfl

/-- The gradient's average's. -/
theorem second6 : out1_A_6 c i a2 h2 a3 h3 a4 h4 a5 h5 a10 h10 a11 h11 a12 h12 a13 h13 x w m v = out0_6 (F := Ideal) x w m v := by
  unfold out1_A_6
  rw [View.read_writes_eq_canon _ _ _ (cover1_A_6 c i a2 h2 a3 h3 a4 h4 a5 h5 a10 h10 a11 h11 a12 h12 a13 h13 x w m v)]
  unfold kernelRun1_A
  dsimp only
  sl_unfold_words
  simp only [View.readAt_eq_ld, h2.read_unread, h3.read_unread, h4.read_unread, h5.read_unread]
  rfl

/-- The square's average's. -/
theorem second7 : out1_A_7 c i a2 h2 a3 h3 a4 h4 a5 h5 a10 h10 a11 h11 a12 h12 a13 h13 x w m v = out0_7 (F := Ideal) x w m v := by
  unfold out1_A_7
  rw [View.read_writes_eq_canon _ _ _ (cover1_A_7 c i a2 h2 a3 h3 a4 h4 a5 h5 a10 h10 a11 h11 a12 h12 a13 h13 x w m v)]
  unfold kernelRun1_A
  dsimp only
  sl_unfold_words
  simp only [View.readAt_eq_ld, h2.read_unread, h3.read_unread, h4.read_unread, h5.read_unread]
  rfl

end Second

/-! ### The blocks' places -/

/-- Where the blocks of the first call lie: the parts' one layer before the weight's. -/
theorem place0 : ∀ t : Fin cfg0.N, ((win0_4.index t 0 = win0_0.index t 0 + 1 ∧ win0_0.index t 0 < 3) ∧ win0_0.index t 1 = 0 ∧ win0_0.index t 2 = win0_4.index t 1 ∧ win0_0.index t 3 = 0 ∧ win0_4.index t 2 = 0) :=
  (by decide +kernel : ∀ t : Fin grid0.N, ((win0_4.index t 0 = win0_0.index t 0 + 1 ∧ win0_0.index t 0 < 3) ∧ win0_0.index t 1 = 0 ∧ win0_0.index t 2 = win0_4.index t 1 ∧ win0_0.index t 3 = 0 ∧ win0_4.index t 2 = 0))

/-- Where the blocks of the second call lie: in the first layer. -/
theorem place1 : ∀ t : Fin cfg1.N, ((win1_4.index t 0 = 0 ∧ win1_0.index t 0 = 0) ∧ win1_0.index t 1 = 0 ∧ win1_0.index t 2 = win1_4.index t 1 ∧ win1_0.index t 3 = 0 ∧ win1_4.index t 2 = 0) :=
  (by decide +kernel : ∀ t : Fin grid1.N, ((win1_4.index t 0 = 0 ∧ win1_0.index t 0 = 0) ∧ win1_0.index t 1 = 0 ∧ win1_0.index t 2 = win1_4.index t 1 ∧ win1_0.index t 3 = 0 ∧ win1_4.index t 2 = 0))

section Arrays
variable (V : (c : Dev nD) → (b : Ref sig .tc) → Buf (Elt Ideal) ((c : Thread nD τ).loc b)) (c : Dev nD)
  (r0 : S1x8x128x1024.Idx → EReal) (r : S3x8x128x1024.Idx → EReal) (w m v : S4x128x1024.Idx → EReal)

/-- The gradient in a block of the first call. -/
theorem grad0 (hr : V c main_arg1 = r) (t : Fin cfg0.N) (y : S1x128x1024.Idx) : gblk (iblk0 V c 0 t) y = grad r0 r (((cfg0.win 4).blk t).view.emb y) := by
  obtain ⟨p, q, rfl⟩ := one y
  have h := place0 t
  refine Eq.trans ?_ (grad_succ r0 r _ ⟨win0_0.index t 0, h.1.2⟩ (by show win0_4.index t 0 * 1 + 1 * 0 = win0_0.index t 0 + 1; rw [h.1.1]; omega)).symm
  refine Finset.sum_congr rfl fun k _ => ?_
  unfold iblk0
  rw [View.read_apply]
  refine (congrFun hr _).trans (congrArg r ?_)
  funext a
  apply Fin.ext
  match a with
  | ⟨0, _⟩ => show win0_0.index t 0 * 1 + 1 * 0 = win0_0.index t 0; omega
  | ⟨1, _⟩ => show win0_0.index t 1 * 8 + 1 * k.val = k.val; rw [h.2.1]; omega
  | ⟨2, _⟩ => show win0_0.index t 2 * 128 + 1 * p.val = win0_4.index t 1 * 128 + 1 * p.val; rw [h.2.2.1]
  | ⟨3, _⟩ => show win0_0.index t 3 * 1024 + 1 * q.val = win0_4.index t 2 * 1024 + 1 * q.val; rw [h.2.2.2.1, h.2.2.2.2]

/-- The gradient in a block of the second call. -/
theorem grad1 (hr : V c main_arg0 = r0) (t : Fin cfg1.N) (y : S1x128x1024.Idx) : gblk (iblk1 V c 0 t) y = grad r0 r (((cfg1.win 4).blk t).view.emb y) := by
  obtain ⟨p, q, rfl⟩ := one y
  have h := place1 t
  refine Eq.trans ?_ (grad_zero r0 r _ (by show win1_4.index t 0 * 1 + 1 * 0 = 0; rw [h.1.1])).symm
  refine Finset.sum_congr rfl fun k _ => ?_
  unfold iblk1
  rw [View.read_apply]
  refine (congrFun hr _).trans (congrArg r0 ?_)
  funext a
  apply Fin.ext
  match a with
  | ⟨0, _⟩ => show win1_0.index t 0 * 1 + 1 * 0 = 0; rw [h.1.2]
  | ⟨1, _⟩ => show win1_0.index t 1 * 8 + 1 * k.val = k.val; rw [h.2.1]; omega
  | ⟨2, _⟩ => show win1_0.index t 2 * 128 + 1 * p.val = win1_4.index t 1 * 128 + 1 * p.val; rw [h.2.2.1]
  | ⟨3, _⟩ => show win1_0.index t 3 * 1024 + 1 * q.val = win1_4.index t 2 * 1024 + 1 * q.val; rw [h.2.2.2.1, h.2.2.2.2]

/-- After the first call, the later layers' gradient. -/
theorem first4 (hr : V c main_arg1 = r) (i : S4x128x1024.Idx) (hi : 1 ≤ (i 0).val) :
    (dat0 V c).arrAt 4 cfg0.N i = grad r0 r i := by
  refine ((dat0 V c).arrAt_apply_of_coversWhere 4 (P := fun i => 1 ≤ (i 0).val / 1) (fun i => grad r0 r i) (fun β => 1 ≤ β (0 : Fin 3)) (by decide +kernel) (fun t hf y => ?_) (fun j => Iff.rfl) i).trans (if_pos (by rw [Nat.div_one]; exact hi))
  rw [after0_4, out4]
  exact grad0 V c r0 r hr t y

/-- After the first call, the later layers' step. -/
theorem first5 (hr : V c main_arg1 = r) (hw : V c main_arg2 = w) (hm : V c main_arg3 = m) (hv : V c main_arg4 = v) (i : S4x128x1024.Idx) (hi : 1 ≤ (i 0).val) :
    (dat0 V c).arrAt 5 cfg0.N i = step (w i) (grad r0 r i) (m i) (v i) := by
  refine ((dat0 V c).arrAt_apply_of_coversWhere 5 (P := fun i => 1 ≤ (i 0).val / 1) (fun i => step (w i) (grad r0 r i) (m i) (v i)) (fun β => 1 ≤ β (0 : Fin 3)) (by decide +kernel) (fun t hf y => ?_) (fun j => Iff.rfl) i).trans (if_pos (by rw [Nat.div_one]; exact hi))
  rw [after0_5, out5]
  subst hw hm hv
  exact congrArg (fun g => step _ g _ _) (grad0 V c r0 r hr t y)

/-- After the first call, the later layers' average of the gradient. -/
theorem first6 (hr : V c main_arg1 = r) (hm : V c main_arg3 = m) (i : S4x128x1024.Idx) (hi : 1 ≤ (i 0).val) :
    (dat0 V c).arrAt 6 cfg0.N i = mean (grad r0 r i) (m i) := by
  refine ((dat0 V c).arrAt_apply_of_coversWhere 6 (P := fun i => 1 ≤ (i 0).val / 1) (fun i => mean (grad r0 r i) (m i)) (fun β => 1 ≤ β (0 : Fin 3)) (by decide +kernel) (fun t hf y => ?_) (fun j => Iff.rfl) i).trans (if_pos (by rw [Nat.div_one]; exact hi))
  rw [after0_6, out6]
  subst hm
  exact congrArg (fun g => mean g _) (grad0 V c r0 r hr t y)

/-- After the first call, the later layers' average of the square. -/
theorem first7 (hr : V c main_arg1 = r) (hv : V c main_arg4 = v) (i : S4x128x1024.Idx) (hi : 1 ≤ (i 0).val) :
    (dat0 V c).arrAt 7 cfg0.N i = square (grad r0 r i) (v i) := by
  refine ((dat0 V c).arrAt_apply_of_coversWhere 7 (P := fun i => 1 ≤ (i 0).val / 1) (fun i => square (grad r0 r i) (v i)) (fun β => 1 ≤ β (0 : Fin 3)) (by decide +kernel) (fun t hf y => ?_) (fun j => Iff.rfl) i).trans (if_pos (by rw [Nat.div_one]; exact hi))
  rw [after0_7, out7]
  subst hv
  exact congrArg (fun g => square g _) (grad0 V c r0 r hr t y)

/-- After the second call, every layer's gradient. -/
theorem last4 (hr : V c main_arg0 = r0) (hp : ∀ i : S4x128x1024.Idx, 1 ≤ (i 0).val → V c main_v1_0 i = grad r0 r i) :
    (dat1 V c).arrAt 4 cfg1.N = fun i => grad r0 r i := by
  refine (dat1 V c).arrAt_eq_of_coversWhere_of_agree 4 (fun i => grad r0 r i) (fun β => β (0 : Fin 3) = 0) (by decide +kernel) (fun t hf y => ?_) (fun j hj => ?_)
  · rw [after1_4]
    unfold outsAt1
    dsimp only
    rw [second4, out4]
    exact grad1 V c r0 r hr t y
  · refine hp j (Nat.one_le_iff_ne_zero.mpr fun h => hj ?_)
    show (j 0).val / 1 = 0
    rw [Nat.div_one, h]

/-- After the second call, every layer's step. -/
theorem last5 (hr : V c main_arg0 = r0) (hw : V c main_arg2 = w) (hm : V c main_arg3 = m) (hv : V c main_arg4 = v) (hp : ∀ i : S4x128x1024.Idx, 1 ≤ (i 0).val → V c main_v1_1 i = step (w i) (grad r0 r i) (m i) (v i)) :
    (dat1 V c).arrAt 5 cfg1.N = fun i => step (w i) (grad r0 r i) (m i) (v i) := by
  refine (dat1 V c).arrAt_eq_of_coversWhere_of_agree 5 (fun i => step (w i) (grad r0 r i) (m i) (v i)) (fun β => β (0 : Fin 3) = 0) (by decide +kernel) (fun t hf y => ?_) (fun j hj => ?_)
  · rw [after1_5]
    unfold outsAt1
    dsimp only
    rw [second5, out5]
    subst hw hm hv
    exact congrArg (fun g => step _ g _ _) (grad1 V c r0 r hr t y)
  · refine hp j (Nat.one_le_iff_ne_zero.mpr fun h => hj ?_)
    show (j 0).val / 1 = 0
    rw [Nat.div_one, h]

/-- After the second call, every layer's average of the gradient. -/
theorem last6 (hr : V c main_arg0 = r0) (hm : V c main_arg3 = m) (hp : ∀ i : S4x128x1024.Idx, 1 ≤ (i 0).val → V c main_v1_2 i = mean (grad r0 r i) (m i)) :
    (dat1 V c).arrAt 6 cfg1.N = fun i => mean (grad r0 r i) (m i) := by
  refine (dat1 V c).arrAt_eq_of_coversWhere_of_agree 6 (fun i => mean (grad r0 r i) (m i)) (fun β => β (0 : Fin 3) = 0) (by decide +kernel) (fun t hf y => ?_) (fun j hj => ?_)
  · rw [after1_6]
    unfold outsAt1
    dsimp only
    rw [second6, out6]
    subst hm
    exact congrArg (fun g => mean g _) (grad1 V c r0 r hr t y)
  · refine hp j (Nat.one_le_iff_ne_zero.mpr fun h => hj ?_)
    show (j 0).val / 1 = 0
    rw [Nat.div_one, h]

/-- After the second call, every layer's average of the square. -/
theorem last7 (hr : V c main_arg0 = r0) (hv : V c main_arg4 = v) (hp : ∀ i : S4x128x1024.Idx, 1 ≤ (i 0).val → V c main_v1_3 i = square (grad r0 r i) (v i)) :
    (dat1 V c).arrAt 7 cfg1.N = fun i => square (grad r0 r i) (v i) := by
  refine (dat1 V c).arrAt_eq_of_coversWhere_of_agree 7 (fun i => square (grad r0 r i) (v i)) (fun β => β (0 : Fin 3) = 0) (by decide +kernel) (fun t hf y => ?_) (fun j hj => ?_)
  · rw [after1_7]
    unfold outsAt1
    dsimp only
    rw [second7, out7]
    subst hv
    exact congrArg (fun g => square g _) (grad1 V c r0 r hr t y)
  · refine hp j (Nat.one_le_iff_ne_zero.mpr fun h => hj ?_)
    show (j 0).val / 1 = 0
    rw [Nat.div_one, h]

end Arrays

end Cert.AdamSquareIdeal.RefValue

end
-- ==== Proof.AdamSquareEq.lean ====
/-
  The optimiser's two calls on one large weight of 128 rows per layer and the plain formula leave the same four results.
-/
module

public import proofs.«01_k».proof.Proof.AdamSquareArr
public import proofs.«01_k».proof.Proof.Gen.AdamSquare.Frame
public import proofs.«01_k».proof.Proof.Gen.AdamSquareRefIdeal.Run
public import proofs.«01_k».proof.Defs

@[expose] public section

set_option maxRecDepth 16384

noncomputable section

namespace Cert.AdamSquareIdeal.RefValue

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdamSquareIdeal Cert.AdamSquareIdeal.Gen Cert.Adam
open Idealize.ShloMosaic hiding ix1 ix2 ix3 ix4 eq_ix2 eq_ix3 eq_ix4
open Idealize.ShloMosaic.TcCoe

local notation "𝕄" => MT nD τ sig Unit (Elt Ideal) ℕ (UR sig nD τ) ℕ

variable (m : (ℓ : Loc nD τ sig) → Buf (Elt Ideal) ℓ) (ρ : Dev nD → PrngReg)

/-- Every run ends with the four results as the second call leaves them, and the arguments as they were. -/
theorem runs : θ_run defs (onTc (τ := τ) (main (F := Ideal))) ⟨m, fun _ => 0, ρ⟩ (fun r => ∀ c : Dev nD,
      r.2.mem ((c.tc : Thread nD τ).loc main_v1_0) = (dat1 (V2 m ρ) c).arrAt 4 cfg1.N
      ∧ r.2.mem ((c.tc : Thread nD τ).loc main_v1_1) = (dat1 (V2 m ρ) c).arrAt 5 cfg1.N
      ∧ r.2.mem ((c.tc : Thread nD τ).loc main_v1_2) = (dat1 (V2 m ρ) c).arrAt 6 cfg1.N
      ∧ r.2.mem ((c.tc : Thread nD τ).loc main_v1_3) = (dat1 (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v1_0 (by decide))).trans (W3_arr m ρ c 4),
       (h c _ (mem_uc main_v1_1 (by decide))).trans (W3_arr m ρ c 5),
       (h c _ (mem_uc main_v1_2 (by decide))).trans (W3_arr m ρ c 6),
       (h c _ (mem_uc main_v1_3 (by decide))).trans (W3_arr m ρ c 7),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

/-! ### Between the two calls the first call's results are copied -/

/-- The gradient. -/
theorem copy0 (c : Dev nD) : V2 m ρ c main_v1_0 = (dat0 (V0 m ρ) c).arrAt 4 cfg0.N := by
  refine Eq.trans ?_ (W1_arr m ρ c 4)
  show StableHlo.after hostOps1 (W1 m ρ c) (Proc.devRef .tc main_v1_0) = _
  after_results_simp <;> rfl

/-- The step. -/
theorem copy1 (c : Dev nD) : V2 m ρ c main_v1_1 = (dat0 (V0 m ρ) c).arrAt 5 cfg0.N := by
  refine Eq.trans ?_ (W1_arr m ρ c 5)
  show StableHlo.after hostOps1 (W1 m ρ c) (Proc.devRef .tc main_v1_1) = _
  after_results_simp <;> rfl

/-- The gradient's average. -/
theorem copy2 (c : Dev nD) : V2 m ρ c main_v1_2 = (dat0 (V0 m ρ) c).arrAt 6 cfg0.N := by
  refine Eq.trans ?_ (W1_arr m ρ c 6)
  show StableHlo.after hostOps1 (W1 m ρ c) (Proc.devRef .tc main_v1_2) = _
  after_results_simp <;> rfl

/-- The square's average. -/
theorem copy3 (c : Dev nD) : V2 m ρ c main_v1_3 = (dat0 (V0 m ρ) c).arrAt 7 cfg0.N := by
  refine Eq.trans ?_ (W1_arr m ρ c 7)
  show StableHlo.after hostOps1 (W1 m ρ c) (Proc.devRef .tc main_v1_3) = _
  after_results_simp <;> rfl

/-! ### The four results -/

/-- The gradient, from the arguments. -/
abbrev G (c : Dev nD) : S4x128x1024.Idx → EReal := grad (m ((c.tc : Thread nD τ).loc main_arg0)) (m ((c.tc : Thread nD τ).loc main_arg1))

/-- The gradient after the run. -/
theorem res4 (c : Dev nD) : (dat1 (V2 m ρ) c).arrAt 4 cfg1.N = fun i => G m c i :=
  last4 (V2 m ρ) c _ _ (W2_args m ρ c main_arg0 (by decide)) fun i hi =>
    (congrFun (copy0 m ρ c) i).trans (first4 (V0 m ρ) c _ _ rfl i hi)

/-- The step after the run. -/
theorem res5 (c : Dev nD) : (dat1 (V2 m ρ) c).arrAt 5 cfg1.N
    = fun i => step (m ((c.tc : Thread nD τ).loc main_arg2) i) (G m c i) (m ((c.tc : Thread nD τ).loc main_arg3) i) (m ((c.tc : Thread nD τ).loc main_arg4) i) :=
  last5 (V2 m ρ) c _ _ _ _ _ (W2_args m ρ c main_arg0 (by decide)) (W2_args m ρ c main_arg2 (by decide)) (W2_args m ρ c main_arg3 (by decide))
    (W2_args m ρ c main_arg4 (by decide)) fun i hi => (congrFun (copy1 m ρ c) i).trans (first5 (V0 m ρ) c _ _ _ _ _ rfl rfl rfl rfl i hi)

/-- The gradient's average after the run. -/
theorem res6 (c : Dev nD) : (dat1 (V2 m ρ) c).arrAt 6 cfg1.N = fun i => mean (G m c i) (m ((c.tc : Thread nD τ).loc main_arg3) i) :=
  last6 (V2 m ρ) c _ _ _ (W2_args m ρ c main_arg0 (by decide)) (W2_args m ρ c main_arg3 (by decide)) fun i hi =>
    (congrFun (copy2 m ρ c) i).trans (first6 (V0 m ρ) c _ _ _ rfl rfl i hi)

/-- The square's average after the run. -/
theorem res7 (c : Dev nD) : (dat1 (V2 m ρ) c).arrAt 7 cfg1.N = fun i => square (G m c i) (m ((c.tc : Thread nD τ).loc main_arg4) i) :=
  last7 (V2 m ρ) c _ _ _ (W2_args m ρ c main_arg0 (by decide)) (W2_args m ρ c main_arg4 (by decide)) fun i hi =>
    (congrFun (copy3 m ρ c) i).trans (first7 (V0 m ρ) c _ _ _ rfl rfl i hi)

end Cert.AdamSquareIdeal.RefValue

namespace Cert.AdamSquareEq

open Idealize.ShloMosaic hiding ix1 ix2 ix3 ix4 eq_ix2 eq_ix3 eq_ix4
open Idealize.ShloMosaic.TcCoe Idealize.SL.Sem Idealize.ShloMosaic.ValueIdx Cert.Adam
open Cert.AdamSquareIdeal.RefValue (runs res4 res5 res6 res7)

/-- The frame of the kernel. -/
theorem frame_p : quiescent_AdamSquare := fun m ρ _ => Cert.AdamSquare.Gen.frame m ρ

/-- The frame of the idealized kernel. -/
theorem frame_pi : quiescent_AdamSquareIdeal := fun m ρ _ => Cert.AdamSquareIdeal.Gen.frame m ρ

/-- The frame of the reference: its run ends with its arguments as they were, and it declares no semaphore. -/
theorem frame_ri : quiescent_AdamSquareRefIdeal := fun m ρ _ =>
  (θ_run Cert.AdamSquareRefIdeal.defs _ _).mono (fun r h => ⟨fun c => (h c).2.2.2.2, sem_eq_zero_of_no_sems (by decide) r.2⟩)
    (Cert.AdamSquareRefIdeal.Value.run (F := Ideal) m ρ)

/-- The two calls compute the plain update of the large weight: the gradient, the step and the two moving averages. -/
theorem same : algebraic_AdamSquareIdeal_AdamSquareRefIdeal := by
  intro m g m' g' hm ha
  refine ⟨_, _, _, _, runs m g, ?_⟩
  refine (θ_run Cert.AdamSquareRefIdeal.defs _ _).mono (fun r h c => ?_) (Cert.AdamSquareRefIdeal.Value.run (F := Ideal) m' g')
  obtain ⟨h4, h5, h6, h7, hrest⟩ := h c
  obtain ⟨a0, a1, a2, a3, a4⟩ := ha c
  have hg := fun i => host_grad (a := 128) (b := 1024) (m ((c.tc : Thread Cert.AdamSquareIdeal.nD Cert.AdamSquareIdeal.τ).loc Cert.AdamSquareIdeal.main_arg0))
    (m ((c.tc : Thread Cert.AdamSquareIdeal.nD Cert.AdamSquareIdeal.τ).loc Cert.AdamSquareIdeal.main_arg1)) Cert.AdamSquareRefIdeal.Gen.concatenates_S1x8x128x1024_S3x8x128x1024_S4x8x128x1024_d0
    Cert.AdamSquareRefIdeal.Gen.reducesTo_S4x8x128x1024_S4x128x1024_d1 Cert.AdamSquareRefIdeal.Gen.h_S_ Cert.AdamSquareRefIdeal.Gen.bitsLt_bf16_f32 i
  refine ⟨h4.trans ?_, h5.trans ?_, h6.trans ?_, h7.trans ?_, hrest⟩
  · rw [a0, a1, res4]
    exact funext hg
  · rw [a0, a1, a2, a3, a4, res5]
    exact funext fun i => congrArg (fun d => step _ d _ _) (hg i)
  · rw [a0, a1, a3, res6]
    exact funext fun i => congrArg (fun d => mean d _) (hg i)
  · rw [a0, a1, a4, res7]
    exact funext fun i => congrArg (fun d => square d _) (hg i)

end Cert.AdamSquareEq

end
-- ==== Proof.AdamInArr.lean ====
/-
  The optimiser's two calls on one large weight of 272 rows per layer: what the blocks hold after a point, and the four
  result arrays after the run.
-/
module

public import proofs.«01_k».proof.Proof.Adam
public import proofs.«01_k».proof.Proof.Gen.AdamInIdeal.Frame
public import Idealize.ShloMosaic.Lib.Pipeline.ValueKit.Partial

@[expose] public section

set_option maxRecDepth 16384

noncomputable section

namespace Cert.AdamInIdeal.RefValue

open Cert.AdamInIdeal Cert.AdamInIdeal.Gen Cert.Adam
open Idealize.ShloMosaic hiding ix1 ix2 ix3 ix4 eq_ix2 eq_ix3 eq_ix4
open Idealize.ShloMosaic.TcCoe Idealize.SL.Sem Idealize.ShloMosaic.ValueIdx
open scoped BigOperators

/-! ### The blocks after a point -/

section Blocks
variable (x : Vec Ideal S1x8x272x1024 .bf16) (w m v : Vec Ideal S1x272x1024 .f32)

/-- The eight parts added. -/
theorem sum8 (p : Fin 272) (q : Fin 1024) : k0_pay5 (F := Ideal) (k0_pay10 x w m v) (View.ld x r0_7) (ix2 p q) = gblk x (ix3 (0 : Fin 1) p q) :=
  parts x _ _ _ _ _ _ _ _ _ _ p q

/-- The block of the gradient. -/
theorem out4 : out0_4 (F := Ideal) x w m v = gblk x := by
  unfold out0_4
  rw [View.canon_unit_zero (S := S1x272x1024) corner]
  exact lay_grad x _ _ (sum8 x w m v)

/-- The block of the step. -/
theorem out5 : out0_5 (F := Ideal) x w m v = fun y => step (w y) (gblk x y) (m y) (v y) := by
  unfold out0_5
  rw [View.canon_unit_zero (S := S1x272x1024) corner]
  simp only [View.ld_unit_zero (S := S1x272x1024) corner]
  exact lay_step x w m v _ _ _ (sum8 x w m v)

/-- The block of the gradient's average. -/
theorem out6 : out0_6 (F := Ideal) x w m v = fun y => mean (gblk x y) (m y) := by
  unfold out0_6
  rw [View.canon_unit_zero (S := S1x272x1024) corner]
  simp only [View.ld_unit_zero (S := S1x272x1024) corner]
  exact lay_mean x m _ _ _ (sum8 x w m v)

/-- The block of the square's average. -/
theorem out7 : out0_7 (F := Ideal) x w m v = fun y => square (gblk x y) (v y) := by
  unfold out0_7
  rw [View.canon_unit_zero (S := S1x272x1024) corner]
  simp only [View.ld_unit_zero (S := S1x272x1024) corner]
  exact lay_square x v _ _ _ (sum8 x w m v)

end Blocks

/-! ### The blocks of the second call are those of the first -/

section Second
variable (c : Dev nD) (i : grid1.Coords) (a2 : Memref sig .tc .vmem S1x8x272x1024 .bf16) (h2 : a2.IsWhole) (a3 : Memref sig .tc .vmem S1x272x1024 .f32) (h3 : a3.IsWhole) (a4 : Memref sig .tc .vmem S1x272x1024 .f32) (h4 : a4.IsWhole) (a5 : Memref sig .tc .vmem S1x272x1024 .f32) (h5 : a5.IsWhole)
  (a10 : Memref sig .tc .vmem S1x272x1024 .f32) (h10 : a10.IsWhole) (a11 : Memref sig .tc .vmem S1x272x1024 .f32) (h11 : a11.IsWhole) (a12 : Memref sig .tc .vmem S1x272x1024 .f32) (h12 : a12.IsWhole) (a13 : Memref sig .tc .vmem S1x272x1024 .f32) (h13 : a13.IsWhole)
  (x : Vec Ideal S1x8x272x1024 .bf16) (w m v : Vec Ideal S1x272x1024 .f32)

/-- The gradient's. -/
theorem second4 : out1_A_4 c i a2 h2 a3 h3 a4 h4 a5 h5 a10 h10 a11 h11 a12 h12 a13 h13 x w m v = out0_4 (F := Ideal) x w m v := by
  unfold out1_A_4
  rw [View.read_writes_eq_canon _ _ _ (cover1_A_4 c i a2 h2 a3 h3 a4 h4 a5 h5 a10 h10 a11 h11 a12 h12 a13 h13 x w m v)]
  unfold kernelRun1_A
  dsimp only
  sl_unfold_words
  simp only [View.readAt_eq_ld, h2.read_unread, h3.read_unread, h4.read_unread, h5.read_unread]
  rfl

/-- The step's. -/
theorem second5 : out1_A_5 c i a2 h2 a3 h3 a4 h4 a5 h5 a10 h10 a11 h11 a12 h12 a13 h13 x w m v = out0_5 (F := Ideal) x w m v := by
  unfold out1_A_5
  rw [View.read_writes_eq_canon _ _ _ (cover1_A_5 c i a2 h2 a3 h3 a4 h4 a5 h5 a10 h10 a11 h11 a12 h12 a13 h13 x w m v)]
  unfold kernelRun1_A
  dsimp only
  sl_unfold_words
  simp only [View.readAt_eq_ld, h2.read_unread, h3.read_unread, h4.read_unread, h5.read_unread]
  rfl

/-- The gradient's average's. -/
theorem second6 : out1_A_6 c i a2 h2 a3 h3 a4 h4 a5 h5 a10 h10 a11 h11 a12 h12 a13 h13 x w m v = out0_6 (F := Ideal) x w m v := by
  unfold out1_A_6
  rw [View.read_writes_eq_canon _ _ _ (cover1_A_6 c i a2 h2 a3 h3 a4 h4 a5 h5 a10 h10 a11 h11 a12 h12 a13 h13 x w m v)]
  unfold kernelRun1_A
  dsimp only
  sl_unfold_words
  simp only [View.readAt_eq_ld, h2.read_unread, h3.read_unread, h4.read_unread, h5.read_unread]
  rfl

/-- The square's average's. -/
theorem second7 : out1_A_7 c i a2 h2 a3 h3 a4 h4 a5 h5 a10 h10 a11 h11 a12 h12 a13 h13 x w m v = out0_7 (F := Ideal) x w m v := by
  unfold out1_A_7
  rw [View.read_writes_eq_canon _ _ _ (cover1_A_7 c i a2 h2 a3 h3 a4 h4 a5 h5 a10 h10 a11 h11 a12 h12 a13 h13 x w m v)]
  unfold kernelRun1_A
  dsimp only
  sl_unfold_words
  simp only [View.readAt_eq_ld, h2.read_unread, h3.read_unread, h4.read_unread, h5.read_unread]
  rfl

end Second

/-! ### The blocks' places -/

/-- Where the blocks of the first call lie: the parts' one layer before the weight's. -/
theorem place0 : ∀ t : Fin cfg0.N, ((win0_4.index t 0 = win0_0.index t 0 + 1 ∧ win0_0.index t 0 < 3) ∧ win0_0.index t 1 = 0 ∧ win0_0.index t 2 = win0_4.index t 1 ∧ win0_0.index t 3 = 0 ∧ win0_4.index t 2 = 0) :=
  (by decide +kernel : ∀ t : Fin grid0.N, ((win0_4.index t 0 = win0_0.index t 0 + 1 ∧ win0_0.index t 0 < 3) ∧ win0_0.index t 1 = 0 ∧ win0_0.index t 2 = win0_4.index t 1 ∧ win0_0.index t 3 = 0 ∧ win0_4.index t 2 = 0))

/-- Where the blocks of the second call lie: in the first layer. -/
theorem place1 : ∀ t : Fin cfg1.N, ((win1_4.index t 0 = 0 ∧ win1_0.index t 0 = 0) ∧ win1_0.index t 1 = 0 ∧ win1_0.index t 2 = win1_4.index t 1 ∧ win1_0.index t 3 = 0 ∧ win1_4.index t 2 = 0) :=
  (by decide +kernel : ∀ t : Fin grid1.N, ((win1_4.index t 0 = 0 ∧ win1_0.index t 0 = 0) ∧ win1_0.index t 1 = 0 ∧ win1_0.index t 2 = win1_4.index t 1 ∧ win1_0.index t 3 = 0 ∧ win1_4.index t 2 = 0))

section Arrays
variable (V : (c : Dev nD) → (b : Ref sig .tc) → Buf (Elt Ideal) ((c : Thread nD τ).loc b)) (c : Dev nD)
  (r0 : S1x8x272x1024.Idx → EReal) (r : S3x8x272x1024.Idx → EReal) (w m v : S4x272x1024.Idx → EReal)

/-- The gradient in a block of the first call. -/
theorem grad0 (hr : V c main_arg1 = r) (t : Fin cfg0.N) (y : S1x272x1024.Idx) : gblk (iblk0 V c 0 t) y = grad r0 r (((cfg0.win 4).blk t).view.emb y) := by
  obtain ⟨p, q, rfl⟩ := one y
  have h := place0 t
  refine Eq.trans ?_ (grad_succ r0 r _ ⟨win0_0.index t 0, h.1.2⟩ (by show win0_4.index t 0 * 1 + 1 * 0 = win0_0.index t 0 + 1; rw [h.1.1]; omega)).symm
  refine Finset.sum_congr rfl fun k _ => ?_
  unfold iblk0
  rw [View.read_apply]
  refine (congrFun hr _).trans (congrArg r ?_)
  funext a
  apply Fin.ext
  match a with
  | ⟨0, _⟩ => show win0_0.index t 0 * 1 + 1 * 0 = win0_0.index t 0; omega
  | ⟨1, _⟩ => show win0_0.index t 1 * 8 + 1 * k.val = k.val; rw [h.2.1]; omega
  | ⟨2, _⟩ => show win0_0.index t 2 * 272 + 1 * p.val = win0_4.index t 1 * 272 + 1 * p.val; rw [h.2.2.1]
  | ⟨3, _⟩ => show win0_0.index t 3 * 1024 + 1 * q.val = win0_4.index t 2 * 1024 + 1 * q.val; rw [h.2.2.2.1, h.2.2.2.2]

/-- The gradient in a block of the second call. -/
theorem grad1 (hr : V c main_arg0 = r0) (t : Fin cfg1.N) (y : S1x272x1024.Idx) : gblk (iblk1 V c 0 t) y = grad r0 r (((cfg1.win 4).blk t).view.emb y) := by
  obtain ⟨p, q, rfl⟩ := one y
  have h := place1 t
  refine Eq.trans ?_ (grad_zero r0 r _ (by show win1_4.index t 0 * 1 + 1 * 0 = 0; rw [h.1.1])).symm
  refine Finset.sum_congr rfl fun k _ => ?_
  unfold iblk1
  rw [View.read_apply]
  refine (congrFun hr _).trans (congrArg r0 ?_)
  funext a
  apply Fin.ext
  match a with
  | ⟨0, _⟩ => show win1_0.index t 0 * 1 + 1 * 0 = 0; rw [h.1.2]
  | ⟨1, _⟩ => show win1_0.index t 1 * 8 + 1 * k.val = k.val; rw [h.2.1]; omega
  | ⟨2, _⟩ => show win1_0.index t 2 * 272 + 1 * p.val = win1_4.index t 1 * 272 + 1 * p.val; rw [h.2.2.1]
  | ⟨3, _⟩ => show win1_0.index t 3 * 1024 + 1 * q.val = win1_4.index t 2 * 1024 + 1 * q.val; rw [h.2.2.2.1, h.2.2.2.2]

/-- After the first call, the later layers' gradient. -/
theorem first4 (hr : V c main_arg1 = r) (i : S4x272x1024.Idx) (hi : 1 ≤ (i 0).val) :
    (dat0 V c).arrAt 4 cfg0.N i = grad r0 r i := by
  refine ((dat0 V c).arrAt_apply_of_coversWhere 4 (P := fun i => 1 ≤ (i 0).val / 1) (fun i => grad r0 r i) (fun β => 1 ≤ β (0 : Fin 3)) (by decide +kernel) (fun t hf y => ?_) (fun j => Iff.rfl) i).trans (if_pos (by rw [Nat.div_one]; exact hi))
  rw [after0_4, out4]
  exact grad0 V c r0 r hr t y

/-- After the first call, the later layers' step. -/
theorem first5 (hr : V c main_arg1 = r) (hw : V c main_arg2 = w) (hm : V c main_arg3 = m) (hv : V c main_arg4 = v) (i : S4x272x1024.Idx) (hi : 1 ≤ (i 0).val) :
    (dat0 V c).arrAt 5 cfg0.N i = step (w i) (grad r0 r i) (m i) (v i) := by
  refine ((dat0 V c).arrAt_apply_of_coversWhere 5 (P := fun i => 1 ≤ (i 0).val / 1) (fun i => step (w i) (grad r0 r i) (m i) (v i)) (fun β => 1 ≤ β (0 : Fin 3)) (by decide +kernel) (fun t hf y => ?_) (fun j => Iff.rfl) i).trans (if_pos (by rw [Nat.div_one]; exact hi))
  rw [after0_5, out5]
  subst hw hm hv
  exact congrArg (fun g => step _ g _ _) (grad0 V c r0 r hr t y)

/-- After the first call, the later layers' average of the gradient. -/
theorem first6 (hr : V c main_arg1 = r) (hm : V c main_arg3 = m) (i : S4x272x1024.Idx) (hi : 1 ≤ (i 0).val) :
    (dat0 V c).arrAt 6 cfg0.N i = mean (grad r0 r i) (m i) := by
  refine ((dat0 V c).arrAt_apply_of_coversWhere 6 (P := fun i => 1 ≤ (i 0).val / 1) (fun i => mean (grad r0 r i) (m i)) (fun β => 1 ≤ β (0 : Fin 3)) (by decide +kernel) (fun t hf y => ?_) (fun j => Iff.rfl) i).trans (if_pos (by rw [Nat.div_one]; exact hi))
  rw [after0_6, out6]
  subst hm
  exact congrArg (fun g => mean g _) (grad0 V c r0 r hr t y)

/-- After the first call, the later layers' average of the square. -/
theorem first7 (hr : V c main_arg1 = r) (hv : V c main_arg4 = v) (i : S4x272x1024.Idx) (hi : 1 ≤ (i 0).val) :
    (dat0 V c).arrAt 7 cfg0.N i = square (grad r0 r i) (v i) := by
  refine ((dat0 V c).arrAt_apply_of_coversWhere 7 (P := fun i => 1 ≤ (i 0).val / 1) (fun i => square (grad r0 r i) (v i)) (fun β => 1 ≤ β (0 : Fin 3)) (by decide +kernel) (fun t hf y => ?_) (fun j => Iff.rfl) i).trans (if_pos (by rw [Nat.div_one]; exact hi))
  rw [after0_7, out7]
  subst hv
  exact congrArg (fun g => square g _) (grad0 V c r0 r hr t y)

/-- After the second call, every layer's gradient. -/
theorem last4 (hr : V c main_arg0 = r0) (hp : ∀ i : S4x272x1024.Idx, 1 ≤ (i 0).val → V c main_v1_0 i = grad r0 r i) :
    (dat1 V c).arrAt 4 cfg1.N = fun i => grad r0 r i := by
  refine (dat1 V c).arrAt_eq_of_coversWhere_of_agree 4 (fun i => grad r0 r i) (fun β => β (0 : Fin 3) = 0) (by decide +kernel) (fun t hf y => ?_) (fun j hj => ?_)
  · rw [after1_4]
    unfold outsAt1
    dsimp only
    rw [second4, out4]
    exact grad1 V c r0 r hr t y
  · refine hp j (Nat.one_le_iff_ne_zero.mpr fun h => hj ?_)
    show (j 0).val / 1 = 0
    rw [Nat.div_one, h]

/-- After the second call, every layer's step. -/
theorem last5 (hr : V c main_arg0 = r0) (hw : V c main_arg2 = w) (hm : V c main_arg3 = m) (hv : V c main_arg4 = v) (hp : ∀ i : S4x272x1024.Idx, 1 ≤ (i 0).val → V c main_v1_1 i = step (w i) (grad r0 r i) (m i) (v i)) :
    (dat1 V c).arrAt 5 cfg1.N = fun i => step (w i) (grad r0 r i) (m i) (v i) := by
  refine (dat1 V c).arrAt_eq_of_coversWhere_of_agree 5 (fun i => step (w i) (grad r0 r i) (m i) (v i)) (fun β => β (0 : Fin 3) = 0) (by decide +kernel) (fun t hf y => ?_) (fun j hj => ?_)
  · rw [after1_5]
    unfold outsAt1
    dsimp only
    rw [second5, out5]
    subst hw hm hv
    exact congrArg (fun g => step _ g _ _) (grad1 V c r0 r hr t y)
  · refine hp j (Nat.one_le_iff_ne_zero.mpr fun h => hj ?_)
    show (j 0).val / 1 = 0
    rw [Nat.div_one, h]

/-- After the second call, every layer's average of the gradient. -/
theorem last6 (hr : V c main_arg0 = r0) (hm : V c main_arg3 = m) (hp : ∀ i : S4x272x1024.Idx, 1 ≤ (i 0).val → V c main_v1_2 i = mean (grad r0 r i) (m i)) :
    (dat1 V c).arrAt 6 cfg1.N = fun i => mean (grad r0 r i) (m i) := by
  refine (dat1 V c).arrAt_eq_of_coversWhere_of_agree 6 (fun i => mean (grad r0 r i) (m i)) (fun β => β (0 : Fin 3) = 0) (by decide +kernel) (fun t hf y => ?_) (fun j hj => ?_)
  · rw [after1_6]
    unfold outsAt1
    dsimp only
    rw [second6, out6]
    subst hm
    exact congrArg (fun g => mean g _) (grad1 V c r0 r hr t y)
  · refine hp j (Nat.one_le_iff_ne_zero.mpr fun h => hj ?_)
    show (j 0).val / 1 = 0
    rw [Nat.div_one, h]

/-- After the second call, every layer's average of the square. -/
theorem last7 (hr : V c main_arg0 = r0) (hv : V c main_arg4 = v) (hp : ∀ i : S4x272x1024.Idx, 1 ≤ (i 0).val → V c main_v1_3 i = square (grad r0 r i) (v i)) :
    (dat1 V c).arrAt 7 cfg1.N = fun i => square (grad r0 r i) (v i) := by
  refine (dat1 V c).arrAt_eq_of_coversWhere_of_agree 7 (fun i => square (grad r0 r i) (v i)) (fun β => β (0 : Fin 3) = 0) (by decide +kernel) (fun t hf y => ?_) (fun j hj => ?_)
  · rw [after1_7]
    unfold outsAt1
    dsimp only
    rw [second7, out7]
    subst hv
    exact congrArg (fun g => square g _) (grad1 V c r0 r hr t y)
  · refine hp j (Nat.one_le_iff_ne_zero.mpr fun h => hj ?_)
    show (j 0).val / 1 = 0
    rw [Nat.div_one, h]

end Arrays

end Cert.AdamInIdeal.RefValue

end
-- ==== Proof.AdamInEq.lean ====
/-
  The optimiser's two calls on one large weight of 272 rows per layer and the plain formula leave the same four results.
-/
module

public import proofs.«01_k».proof.Proof.AdamInArr
public import proofs.«01_k».proof.Proof.Gen.AdamIn.Frame
public import proofs.«01_k».proof.Proof.Gen.AdamInRefIdeal.Run
public import proofs.«01_k».proof.Defs

@[expose] public section

set_option maxRecDepth 16384

noncomputable section

namespace Cert.AdamInIdeal.RefValue

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdamInIdeal Cert.AdamInIdeal.Gen Cert.Adam
open Idealize.ShloMosaic hiding ix1 ix2 ix3 ix4 eq_ix2 eq_ix3 eq_ix4
open Idealize.ShloMosaic.TcCoe

local notation "𝕄" => MT nD τ sig Unit (Elt Ideal) ℕ (UR sig nD τ) ℕ

variable (m : (ℓ : Loc nD τ sig) → Buf (Elt Ideal) ℓ) (ρ : Dev nD → PrngReg)

/-- Every run ends with the four results as the second call leaves them, and the arguments as they were. -/
theorem runs : θ_run defs (onTc (τ := τ) (main (F := Ideal))) ⟨m, fun _ => 0, ρ⟩ (fun r => ∀ c : Dev nD,
      r.2.mem ((c.tc : Thread nD τ).loc main_v1_0) = (dat1 (V2 m ρ) c).arrAt 4 cfg1.N
      ∧ r.2.mem ((c.tc : Thread nD τ).loc main_v1_1) = (dat1 (V2 m ρ) c).arrAt 5 cfg1.N
      ∧ r.2.mem ((c.tc : Thread nD τ).loc main_v1_2) = (dat1 (V2 m ρ) c).arrAt 6 cfg1.N
      ∧ r.2.mem ((c.tc : Thread nD τ).loc main_v1_3) = (dat1 (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v1_0 (by decide))).trans (W3_arr m ρ c 4),
       (h c _ (mem_uc main_v1_1 (by decide))).trans (W3_arr m ρ c 5),
       (h c _ (mem_uc main_v1_2 (by decide))).trans (W3_arr m ρ c 6),
       (h c _ (mem_uc main_v1_3 (by decide))).trans (W3_arr m ρ c 7),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

/-! ### Between the two calls the first call's results are copied -/

/-- The gradient. -/
theorem copy0 (c : Dev nD) : V2 m ρ c main_v1_0 = (dat0 (V0 m ρ) c).arrAt 4 cfg0.N := by
  refine Eq.trans ?_ (W1_arr m ρ c 4)
  show StableHlo.after hostOps1 (W1 m ρ c) (Proc.devRef .tc main_v1_0) = _
  after_results_simp <;> rfl

/-- The step. -/
theorem copy1 (c : Dev nD) : V2 m ρ c main_v1_1 = (dat0 (V0 m ρ) c).arrAt 5 cfg0.N := by
  refine Eq.trans ?_ (W1_arr m ρ c 5)
  show StableHlo.after hostOps1 (W1 m ρ c) (Proc.devRef .tc main_v1_1) = _
  after_results_simp <;> rfl

/-- The gradient's average. -/
theorem copy2 (c : Dev nD) : V2 m ρ c main_v1_2 = (dat0 (V0 m ρ) c).arrAt 6 cfg0.N := by
  refine Eq.trans ?_ (W1_arr m ρ c 6)
  show StableHlo.after hostOps1 (W1 m ρ c) (Proc.devRef .tc main_v1_2) = _
  after_results_simp <;> rfl

/-- The square's average. -/
theorem copy3 (c : Dev nD) : V2 m ρ c main_v1_3 = (dat0 (V0 m ρ) c).arrAt 7 cfg0.N := by
  refine Eq.trans ?_ (W1_arr m ρ c 7)
  show StableHlo.after hostOps1 (W1 m ρ c) (Proc.devRef .tc main_v1_3) = _
  after_results_simp <;> rfl

/-! ### The four results -/

/-- The gradient, from the arguments. -/
abbrev G (c : Dev nD) : S4x272x1024.Idx → EReal := grad (m ((c.tc : Thread nD τ).loc main_arg0)) (m ((c.tc : Thread nD τ).loc main_arg1))

/-- The gradient after the run. -/
theorem res4 (c : Dev nD) : (dat1 (V2 m ρ) c).arrAt 4 cfg1.N = fun i => G m c i :=
  last4 (V2 m ρ) c _ _ (W2_args m ρ c main_arg0 (by decide)) fun i hi =>
    (congrFun (copy0 m ρ c) i).trans (first4 (V0 m ρ) c _ _ rfl i hi)

/-- The step after the run. -/
theorem res5 (c : Dev nD) : (dat1 (V2 m ρ) c).arrAt 5 cfg1.N
    = fun i => step (m ((c.tc : Thread nD τ).loc main_arg2) i) (G m c i) (m ((c.tc : Thread nD τ).loc main_arg3) i) (m ((c.tc : Thread nD τ).loc main_arg4) i) :=
  last5 (V2 m ρ) c _ _ _ _ _ (W2_args m ρ c main_arg0 (by decide)) (W2_args m ρ c main_arg2 (by decide)) (W2_args m ρ c main_arg3 (by decide))
    (W2_args m ρ c main_arg4 (by decide)) fun i hi => (congrFun (copy1 m ρ c) i).trans (first5 (V0 m ρ) c _ _ _ _ _ rfl rfl rfl rfl i hi)

/-- The gradient's average after the run. -/
theorem res6 (c : Dev nD) : (dat1 (V2 m ρ) c).arrAt 6 cfg1.N = fun i => mean (G m c i) (m ((c.tc : Thread nD τ).loc main_arg3) i) :=
  last6 (V2 m ρ) c _ _ _ (W2_args m ρ c main_arg0 (by decide)) (W2_args m ρ c main_arg3 (by decide)) fun i hi =>
    (congrFun (copy2 m ρ c) i).trans (first6 (V0 m ρ) c _ _ _ rfl rfl i hi)

/-- The square's average after the run. -/
theorem res7 (c : Dev nD) : (dat1 (V2 m ρ) c).arrAt 7 cfg1.N = fun i => square (G m c i) (m ((c.tc : Thread nD τ).loc main_arg4) i) :=
  last7 (V2 m ρ) c _ _ _ (W2_args m ρ c main_arg0 (by decide)) (W2_args m ρ c main_arg4 (by decide)) fun i hi =>
    (congrFun (copy3 m ρ c) i).trans (first7 (V0 m ρ) c _ _ _ rfl rfl i hi)

end Cert.AdamInIdeal.RefValue

namespace Cert.AdamInEq

open Idealize.ShloMosaic hiding ix1 ix2 ix3 ix4 eq_ix2 eq_ix3 eq_ix4
open Idealize.ShloMosaic.TcCoe Idealize.SL.Sem Idealize.ShloMosaic.ValueIdx Cert.Adam
open Cert.AdamInIdeal.RefValue (runs res4 res5 res6 res7)

/-- The frame of the kernel. -/
theorem frame_p : quiescent_AdamIn := fun m ρ _ => Cert.AdamIn.Gen.frame m ρ

/-- The frame of the idealized kernel. -/
theorem frame_pi : quiescent_AdamInIdeal := fun m ρ _ => Cert.AdamInIdeal.Gen.frame m ρ

/-- The frame of the reference: its run ends with its arguments as they were, and it declares no semaphore. -/
theorem frame_ri : quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run (F := Ideal) m ρ)

/-- The two calls compute the plain update of the large weight: the gradient, the step and the two moving averages. -/
theorem same : algebraic_AdamInIdeal_AdamInRefIdeal := by
  intro m g m' g' hm ha
  refine ⟨_, _, _, _, runs m g, ?_⟩
  refine (θ_run Cert.AdamInRefIdeal.defs _ _).mono (fun r h c => ?_) (Cert.AdamInRefIdeal.Value.run (F := Ideal) m' g')
  obtain ⟨h4, h5, h6, h7, hrest⟩ := h c
  obtain ⟨a0, a1, a2, a3, a4⟩ := ha c
  have hg := fun i => host_grad (a := 272) (b := 1024) (m ((c.tc : Thread Cert.AdamInIdeal.nD Cert.AdamInIdeal.τ).loc Cert.AdamInIdeal.main_arg0))
    (m ((c.tc : Thread Cert.AdamInIdeal.nD Cert.AdamInIdeal.τ).loc Cert.AdamInIdeal.main_arg1)) Cert.AdamInRefIdeal.Gen.concatenates_S1x8x272x1024_S3x8x272x1024_S4x8x272x1024_d0
    Cert.AdamInRefIdeal.Gen.reducesTo_S4x8x272x1024_S4x272x1024_d1 Cert.AdamInRefIdeal.Gen.h_S_ Cert.AdamInRefIdeal.Gen.bitsLt_bf16_f32 i
  refine ⟨h4.trans ?_, h5.trans ?_, h6.trans ?_, h7.trans ?_, hrest⟩
  · rw [a0, a1, res4]
    exact funext hg
  · rw [a0, a1, a2, a3, a4, res5]
    exact funext fun i => congrArg (fun d => step _ d _ _) (hg i)
  · rw [a0, a1, a3, res6]
    exact funext fun i => congrArg (fun d => mean d _) (hg i)
  · rw [a0, a1, a4, res7]
    exact funext fun i => congrArg (fun d => square d _) (hg i)

end Cert.AdamInEq

end
-- ==== Proof.AdamDownArr.lean ====
/-
  The optimiser's two calls on one large weight of 352 rows per layer: what the blocks hold after a point, and the four
  result arrays after the run.
-/
module

public import proofs.«01_k».proof.Proof.Adam
public import proofs.«01_k».proof.Proof.Gen.AdamDownIdeal.Frame
public import Idealize.ShloMosaic.Lib.Pipeline.ValueKit.Partial

@[expose] public section

set_option maxRecDepth 16384

noncomputable section

namespace Cert.AdamDownIdeal.RefValue

open Cert.AdamDownIdeal Cert.AdamDownIdeal.Gen Cert.Adam
open Idealize.ShloMosaic hiding ix1 ix2 ix3 ix4 eq_ix2 eq_ix3 eq_ix4
open Idealize.ShloMosaic.TcCoe Idealize.SL.Sem Idealize.ShloMosaic.ValueIdx
open scoped BigOperators

/-! ### The blocks after a point -/

section Blocks
variable (x : Vec Ideal S1x8x352x1024 .bf16) (w m v : Vec Ideal S1x352x1024 .f32)

/-- The eight parts added. -/
theorem sum8 (p : Fin 352) (q : Fin 1024) : k0_pay5 (F := Ideal) (k0_pay10 x w m v) (View.ld x r0_7) (ix2 p q) = gblk x (ix3 (0 : Fin 1) p q) :=
  parts x _ _ _ _ _ _ _ _ _ _ p q

/-- The block of the gradient. -/
theorem out4 : out0_4 (F := Ideal) x w m v = gblk x := by
  unfold out0_4
  rw [View.canon_unit_zero (S := S1x352x1024) corner]
  exact lay_grad x _ _ (sum8 x w m v)

/-- The block of the step. -/
theorem out5 : out0_5 (F := Ideal) x w m v = fun y => step (w y) (gblk x y) (m y) (v y) := by
  unfold out0_5
  rw [View.canon_unit_zero (S := S1x352x1024) corner]
  simp only [View.ld_unit_zero (S := S1x352x1024) corner]
  exact lay_step x w m v _ _ _ (sum8 x w m v)

/-- The block of the gradient's average. -/
theorem out6 : out0_6 (F := Ideal) x w m v = fun y => mean (gblk x y) (m y) := by
  unfold out0_6
  rw [View.canon_unit_zero (S := S1x352x1024) corner]
  simp only [View.ld_unit_zero (S := S1x352x1024) corner]
  exact lay_mean x m _ _ _ (sum8 x w m v)

/-- The block of the square's average. -/
theorem out7 : out0_7 (F := Ideal) x w m v = fun y => square (gblk x y) (v y) := by
  unfold out0_7
  rw [View.canon_unit_zero (S := S1x352x1024) corner]
  simp only [View.ld_unit_zero (S := S1x352x1024) corner]
  exact lay_square x v _ _ _ (sum8 x w m v)

end Blocks

/-! ### The blocks of the second call are those of the first -/

section Second
variable (c : Dev nD) (i : grid1.Coords) (a2 : Memref sig .tc .vmem S1x8x352x1024 .bf16) (h2 : a2.IsWhole) (a3 : Memref sig .tc .vmem S1x352x1024 .f32) (h3 : a3.IsWhole) (a4 : Memref sig .tc .vmem S1x352x1024 .f32) (h4 : a4.IsWhole) (a5 : Memref sig .tc .vmem S1x352x1024 .f32) (h5 : a5.IsWhole)
  (a10 : Memref sig .tc .vmem S1x352x1024 .f32) (h10 : a10.IsWhole) (a11 : Memref sig .tc .vmem S1x352x1024 .f32) (h11 : a11.IsWhole) (a12 : Memref sig .tc .vmem S1x352x1024 .f32) (h12 : a12.IsWhole) (a13 : Memref sig .tc .vmem S1x352x1024 .f32) (h13 : a13.IsWhole)
  (x : Vec Ideal S1x8x352x1024 .bf16) (w m v : Vec Ideal S1x352x1024 .f32)

/-- The gradient's. -/
theorem second4 : out1_A_4 c i a2 h2 a3 h3 a4 h4 a5 h5 a10 h10 a11 h11 a12 h12 a13 h13 x w m v = out0_4 (F := Ideal) x w m v := by
  unfold out1_A_4
  rw [View.read_writes_eq_canon _ _ _ (cover1_A_4 c i a2 h2 a3 h3 a4 h4 a5 h5 a10 h10 a11 h11 a12 h12 a13 h13 x w m v)]
  unfold kernelRun1_A
  dsimp only
  sl_unfold_words
  simp only [View.readAt_eq_ld, h2.read_unread, h3.read_unread, h4.read_unread, h5.read_unread]
  rfl

/-- The step's. -/
theorem second5 : out1_A_5 c i a2 h2 a3 h3 a4 h4 a5 h5 a10 h10 a11 h11 a12 h12 a13 h13 x w m v = out0_5 (F := Ideal) x w m v := by
  unfold out1_A_5
  rw [View.read_writes_eq_canon _ _ _ (cover1_A_5 c i a2 h2 a3 h3 a4 h4 a5 h5 a10 h10 a11 h11 a12 h12 a13 h13 x w m v)]
  unfold kernelRun1_A
  dsimp only
  sl_unfold_words
  simp only [View.readAt_eq_ld, h2.read_unread, h3.read_unread, h4.read_unread, h5.read_unread]
  rfl

/-- The gradient's average's. -/
theorem second6 : out1_A_6 c i a2 h2 a3 h3 a4 h4 a5 h5 a10 h10 a11 h11 a12 h12 a13 h13 x w m v = out0_6 (F := Ideal) x w m v := by
  unfold out1_A_6
  rw [View.read_writes_eq_canon _ _ _ (cover1_A_6 c i a2 h2 a3 h3 a4 h4 a5 h5 a10 h10 a11 h11 a12 h12 a13 h13 x w m v)]
  unfold kernelRun1_A
  dsimp only
  sl_unfold_words
  simp only [View.readAt_eq_ld, h2.read_unread, h3.read_unread, h4.read_unread, h5.read_unread]
  rfl

/-- The square's average's. -/
theorem second7 : out1_A_7 c i a2 h2 a3 h3 a4 h4 a5 h5 a10 h10 a11 h11 a12 h12 a13 h13 x w m v = out0_7 (F := Ideal) x w m v := by
  unfold out1_A_7
  rw [View.read_writes_eq_canon _ _ _ (cover1_A_7 c i a2 h2 a3 h3 a4 h4 a5 h5 a10 h10 a11 h11 a12 h12 a13 h13 x w m v)]
  unfold kernelRun1_A
  dsimp only
  sl_unfold_words
  simp only [View.readAt_eq_ld, h2.read_unread, h3.read_unread, h4.read_unread, h5.read_unread]
  rfl

end Second

/-! ### The blocks' places -/

/-- Where the blocks of the first call lie: the parts' one layer before the weight's. -/
theorem place0 : ∀ t : Fin cfg0.N, ((win0_4.index t 0 = win0_0.index t 0 + 1 ∧ win0_0.index t 0 < 3) ∧ win0_0.index t 1 = 0 ∧ win0_0.index t 2 = win0_4.index t 1 ∧ win0_0.index t 3 = 0 ∧ win0_4.index t 2 = 0) :=
  (by decide +kernel : ∀ t : Fin grid0.N, ((win0_4.index t 0 = win0_0.index t 0 + 1 ∧ win0_0.index t 0 < 3) ∧ win0_0.index t 1 = 0 ∧ win0_0.index t 2 = win0_4.index t 1 ∧ win0_0.index t 3 = 0 ∧ win0_4.index t 2 = 0))

/-- Where the blocks of the second call lie: in the first layer. -/
theorem place1 : ∀ t : Fin cfg1.N, ((win1_4.index t 0 = 0 ∧ win1_0.index t 0 = 0) ∧ win1_0.index t 1 = 0 ∧ win1_0.index t 2 = win1_4.index t 1 ∧ win1_0.index t 3 = 0 ∧ win1_4.index t 2 = 0) :=
  (by decide +kernel : ∀ t : Fin grid1.N, ((win1_4.index t 0 = 0 ∧ win1_0.index t 0 = 0) ∧ win1_0.index t 1 = 0 ∧ win1_0.index t 2 = win1_4.index t 1 ∧ win1_0.index t 3 = 0 ∧ win1_4.index t 2 = 0))

section Arrays
variable (V : (c : Dev nD) → (b : Ref sig .tc) → Buf (Elt Ideal) ((c : Thread nD τ).loc b)) (c : Dev nD)
  (r0 : S1x8x352x1024.Idx → EReal) (r : S3x8x352x1024.Idx → EReal) (w m v : S4x352x1024.Idx → EReal)

/-- The gradient in a block of the first call. -/
theorem grad0 (hr : V c main_arg1 = r) (t : Fin cfg0.N) (y : S1x352x1024.Idx) : gblk (iblk0 V c 0 t) y = grad r0 r (((cfg0.win 4).blk t).view.emb y) := by
  obtain ⟨p, q, rfl⟩ := one y
  have h := place0 t
  refine Eq.trans ?_ (grad_succ r0 r _ ⟨win0_0.index t 0, h.1.2⟩ (by show win0_4.index t 0 * 1 + 1 * 0 = win0_0.index t 0 + 1; rw [h.1.1]; omega)).symm
  refine Finset.sum_congr rfl fun k _ => ?_
  unfold iblk0
  rw [View.read_apply]
  refine (congrFun hr _).trans (congrArg r ?_)
  funext a
  apply Fin.ext
  match a with
  | ⟨0, _⟩ => show win0_0.index t 0 * 1 + 1 * 0 = win0_0.index t 0; omega
  | ⟨1, _⟩ => show win0_0.index t 1 * 8 + 1 * k.val = k.val; rw [h.2.1]; omega
  | ⟨2, _⟩ => show win0_0.index t 2 * 352 + 1 * p.val = win0_4.index t 1 * 352 + 1 * p.val; rw [h.2.2.1]
  | ⟨3, _⟩ => show win0_0.index t 3 * 1024 + 1 * q.val = win0_4.index t 2 * 1024 + 1 * q.val; rw [h.2.2.2.1, h.2.2.2.2]

/-- The gradient in a block of the second call. -/
theorem grad1 (hr : V c main_arg0 = r0) (t : Fin cfg1.N) (y : S1x352x1024.Idx) : gblk (iblk1 V c 0 t) y = grad r0 r (((cfg1.win 4).blk t).view.emb y) := by
  obtain ⟨p, q, rfl⟩ := one y
  have h := place1 t
  refine Eq.trans ?_ (grad_zero r0 r _ (by show win1_4.index t 0 * 1 + 1 * 0 = 0; rw [h.1.1])).symm
  refine Finset.sum_congr rfl fun k _ => ?_
  unfold iblk1
  rw [View.read_apply]
  refine (congrFun hr _).trans (congrArg r0 ?_)
  funext a
  apply Fin.ext
  match a with
  | ⟨0, _⟩ => show win1_0.index t 0 * 1 + 1 * 0 = 0; rw [h.1.2]
  | ⟨1, _⟩ => show win1_0.index t 1 * 8 + 1 * k.val = k.val; rw [h.2.1]; omega
  | ⟨2, _⟩ => show win1_0.index t 2 * 352 + 1 * p.val = win1_4.index t 1 * 352 + 1 * p.val; rw [h.2.2.1]
  | ⟨3, _⟩ => show win1_0.index t 3 * 1024 + 1 * q.val = win1_4.index t 2 * 1024 + 1 * q.val; rw [h.2.2.2.1, h.2.2.2.2]

/-- After the first call, the later layers' gradient. -/
theorem first4 (hr : V c main_arg1 = r) (i : S4x352x1024.Idx) (hi : 1 ≤ (i 0).val) :
    (dat0 V c).arrAt 4 cfg0.N i = grad r0 r i := by
  refine ((dat0 V c).arrAt_apply_of_coversWhere 4 (P := fun i => 1 ≤ (i 0).val / 1) (fun i => grad r0 r i) (fun β => 1 ≤ β (0 : Fin 3)) (by decide +kernel) (fun t hf y => ?_) (fun j => Iff.rfl) i).trans (if_pos (by rw [Nat.div_one]; exact hi))
  rw [after0_4, out4]
  exact grad0 V c r0 r hr t y

/-- After the first call, the later layers' step. -/
theorem first5 (hr : V c main_arg1 = r) (hw : V c main_arg2 = w) (hm : V c main_arg3 = m) (hv : V c main_arg4 = v) (i : S4x352x1024.Idx) (hi : 1 ≤ (i 0).val) :
    (dat0 V c).arrAt 5 cfg0.N i = step (w i) (grad r0 r i) (m i) (v i) := by
  refine ((dat0 V c).arrAt_apply_of_coversWhere 5 (P := fun i => 1 ≤ (i 0).val / 1) (fun i => step (w i) (grad r0 r i) (m i) (v i)) (fun β => 1 ≤ β (0 : Fin 3)) (by decide +kernel) (fun t hf y => ?_) (fun j => Iff.rfl) i).trans (if_pos (by rw [Nat.div_one]; exact hi))
  rw [after0_5, out5]
  subst hw hm hv
  exact congrArg (fun g => step _ g _ _) (grad0 V c r0 r hr t y)

/-- After the first call, the later layers' average of the gradient. -/
theorem first6 (hr : V c main_arg1 = r) (hm : V c main_arg3 = m) (i : S4x352x1024.Idx) (hi : 1 ≤ (i 0).val) :
    (dat0 V c).arrAt 6 cfg0.N i = mean (grad r0 r i) (m i) := by
  refine ((dat0 V c).arrAt_apply_of_coversWhere 6 (P := fun i => 1 ≤ (i 0).val / 1) (fun i => mean (grad r0 r i) (m i)) (fun β => 1 ≤ β (0 : Fin 3)) (by decide +kernel) (fun t hf y => ?_) (fun j => Iff.rfl) i).trans (if_pos (by rw [Nat.div_one]; exact hi))
  rw [after0_6, out6]
  subst hm
  exact congrArg (fun g => mean g _) (grad0 V c r0 r hr t y)

/-- After the first call, the later layers' average of the square. -/
theorem first7 (hr : V c main_arg1 = r) (hv : V c main_arg4 = v) (i : S4x352x1024.Idx) (hi : 1 ≤ (i 0).val) :
    (dat0 V c).arrAt 7 cfg0.N i = square (grad r0 r i) (v i) := by
  refine ((dat0 V c).arrAt_apply_of_coversWhere 7 (P := fun i => 1 ≤ (i 0).val / 1) (fun i => square (grad r0 r i) (v i)) (fun β => 1 ≤ β (0 : Fin 3)) (by decide +kernel) (fun t hf y => ?_) (fun j => Iff.rfl) i).trans (if_pos (by rw [Nat.div_one]; exact hi))
  rw [after0_7, out7]
  subst hv
  exact congrArg (fun g => square g _) (grad0 V c r0 r hr t y)

/-- After the second call, every layer's gradient. -/
theorem last4 (hr : V c main_arg0 = r0) (hp : ∀ i : S4x352x1024.Idx, 1 ≤ (i 0).val → V c main_v1_0 i = grad r0 r i) :
    (dat1 V c).arrAt 4 cfg1.N = fun i => grad r0 r i := by
  refine (dat1 V c).arrAt_eq_of_coversWhere_of_agree 4 (fun i => grad r0 r i) (fun β => β (0 : Fin 3) = 0) (by decide +kernel) (fun t hf y => ?_) (fun j hj => ?_)
  · rw [after1_4]
    unfold outsAt1
    dsimp only
    rw [second4, out4]
    exact grad1 V c r0 r hr t y
  · refine hp j (Nat.one_le_iff_ne_zero.mpr fun h => hj ?_)
    show (j 0).val / 1 = 0
    rw [Nat.div_one, h]

/-- After the second call, every layer's step. -/
theorem last5 (hr : V c main_arg0 = r0) (hw : V c main_arg2 = w) (hm : V c main_arg3 = m) (hv : V c main_arg4 = v) (hp : ∀ i : S4x352x1024.Idx, 1 ≤ (i 0).val → V c main_v1_1 i = step (w i) (grad r0 r i) (m i) (v i)) :
    (dat1 V c).arrAt 5 cfg1.N = fun i => step (w i) (grad r0 r i) (m i) (v i) := by
  refine (dat1 V c).arrAt_eq_of_coversWhere_of_agree 5 (fun i => step (w i) (grad r0 r i) (m i) (v i)) (fun β => β (0 : Fin 3) = 0) (by decide +kernel) (fun t hf y => ?_) (fun j hj => ?_)
  · rw [after1_5]
    unfold outsAt1
    dsimp only
    rw [second5, out5]
    subst hw hm hv
    exact congrArg (fun g => step _ g _ _) (grad1 V c r0 r hr t y)
  · refine hp j (Nat.one_le_iff_ne_zero.mpr fun h => hj ?_)
    show (j 0).val / 1 = 0
    rw [Nat.div_one, h]

/-- After the second call, every layer's average of the gradient. -/
theorem last6 (hr : V c main_arg0 = r0) (hm : V c main_arg3 = m) (hp : ∀ i : S4x352x1024.Idx, 1 ≤ (i 0).val → V c main_v1_2 i = mean (grad r0 r i) (m i)) :
    (dat1 V c).arrAt 6 cfg1.N = fun i => mean (grad r0 r i) (m i) := by
  refine (dat1 V c).arrAt_eq_of_coversWhere_of_agree 6 (fun i => mean (grad r0 r i) (m i)) (fun β => β (0 : Fin 3) = 0) (by decide +kernel) (fun t hf y => ?_) (fun j hj => ?_)
  · rw [after1_6]
    unfold outsAt1
    dsimp only
    rw [second6, out6]
    subst hm
    exact congrArg (fun g => mean g _) (grad1 V c r0 r hr t y)
  · refine hp j (Nat.one_le_iff_ne_zero.mpr fun h => hj ?_)
    show (j 0).val / 1 = 0
    rw [Nat.div_one, h]

/-- After the second call, every layer's average of the square. -/
theorem last7 (hr : V c main_arg0 = r0) (hv : V c main_arg4 = v) (hp : ∀ i : S4x352x1024.Idx, 1 ≤ (i 0).val → V c main_v1_3 i = square (grad r0 r i) (v i)) :
    (dat1 V c).arrAt 7 cfg1.N = fun i => square (grad r0 r i) (v i) := by
  refine (dat1 V c).arrAt_eq_of_coversWhere_of_agree 7 (fun i => square (grad r0 r i) (v i)) (fun β => β (0 : Fin 3) = 0) (by decide +kernel) (fun t hf y => ?_) (fun j hj => ?_)
  · rw [after1_7]
    unfold outsAt1
    dsimp only
    rw [second7, out7]
    subst hv
    exact congrArg (fun g => square g _) (grad1 V c r0 r hr t y)
  · refine hp j (Nat.one_le_iff_ne_zero.mpr fun h => hj ?_)
    show (j 0).val / 1 = 0
    rw [Nat.div_one, h]

end Arrays

end Cert.AdamDownIdeal.RefValue

end
-- ==== Proof.AdamDownEq.lean ====
/-
  The optimiser's two calls on one large weight of 352 rows per layer and the plain formula leave the same four results.
-/
module

public import proofs.«01_k».proof.Proof.AdamDownArr
public import proofs.«01_k».proof.Proof.Gen.AdamDown.Frame
public import proofs.«01_k».proof.Proof.Gen.AdamDownRefIdeal.Run
public import proofs.«01_k».proof.Defs

@[expose] public section

set_option maxRecDepth 16384

noncomputable section

namespace Cert.AdamDownIdeal.RefValue

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdamDownIdeal Cert.AdamDownIdeal.Gen Cert.Adam
open Idealize.ShloMosaic hiding ix1 ix2 ix3 ix4 eq_ix2 eq_ix3 eq_ix4
open Idealize.ShloMosaic.TcCoe

local notation "𝕄" => MT nD τ sig Unit (Elt Ideal) ℕ (UR sig nD τ) ℕ

variable (m : (ℓ : Loc nD τ sig) → Buf (Elt Ideal) ℓ) (ρ : Dev nD → PrngReg)

/-- Every run ends with the four results as the second call leaves them, and the arguments as they were. -/
theorem runs : θ_run defs (onTc (τ := τ) (main (F := Ideal))) ⟨m, fun _ => 0, ρ⟩ (fun r => ∀ c : Dev nD,
      r.2.mem ((c.tc : Thread nD τ).loc main_v1_0) = (dat1 (V2 m ρ) c).arrAt 4 cfg1.N
      ∧ r.2.mem ((c.tc : Thread nD τ).loc main_v1_1) = (dat1 (V2 m ρ) c).arrAt 5 cfg1.N
      ∧ r.2.mem ((c.tc : Thread nD τ).loc main_v1_2) = (dat1 (V2 m ρ) c).arrAt 6 cfg1.N
      ∧ r.2.mem ((c.tc : Thread nD τ).loc main_v1_3) = (dat1 (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v1_0 (by decide))).trans (W3_arr m ρ c 4),
       (h c _ (mem_uc main_v1_1 (by decide))).trans (W3_arr m ρ c 5),
       (h c _ (mem_uc main_v1_2 (by decide))).trans (W3_arr m ρ c 6),
       (h c _ (mem_uc main_v1_3 (by decide))).trans (W3_arr m ρ c 7),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

/-! ### Between the two calls the first call's results are copied -/

/-- The gradient. -/
theorem copy0 (c : Dev nD) : V2 m ρ c main_v1_0 = (dat0 (V0 m ρ) c).arrAt 4 cfg0.N := by
  refine Eq.trans ?_ (W1_arr m ρ c 4)
  show StableHlo.after hostOps1 (W1 m ρ c) (Proc.devRef .tc main_v1_0) = _
  after_results_simp <;> rfl

/-- The step. -/
theorem copy1 (c : Dev nD) : V2 m ρ c main_v1_1 = (dat0 (V0 m ρ) c).arrAt 5 cfg0.N := by
  refine Eq.trans ?_ (W1_arr m ρ c 5)
  show StableHlo.after hostOps1 (W1 m ρ c) (Proc.devRef .tc main_v1_1) = _
  after_results_simp <;> rfl

/-- The gradient's average. -/
theorem copy2 (c : Dev nD) : V2 m ρ c main_v1_2 = (dat0 (V0 m ρ) c).arrAt 6 cfg0.N := by
  refine Eq.trans ?_ (W1_arr m ρ c 6)
  show StableHlo.after hostOps1 (W1 m ρ c) (Proc.devRef .tc main_v1_2) = _
  after_results_simp <;> rfl

/-- The square's average. -/
theorem copy3 (c : Dev nD) : V2 m ρ c main_v1_3 = (dat0 (V0 m ρ) c).arrAt 7 cfg0.N := by
  refine Eq.trans ?_ (W1_arr m ρ c 7)
  show StableHlo.after hostOps1 (W1 m ρ c) (Proc.devRef .tc main_v1_3) = _
  after_results_simp <;> rfl

/-! ### The four results -/

/-- The gradient, from the arguments. -/
abbrev G (c : Dev nD) : S4x352x1024.Idx → EReal := grad (m ((c.tc : Thread nD τ).loc main_arg0)) (m ((c.tc : Thread nD τ).loc main_arg1))

/-- The gradient after the run. -/
theorem res4 (c : Dev nD) : (dat1 (V2 m ρ) c).arrAt 4 cfg1.N = fun i => G m c i :=
  last4 (V2 m ρ) c _ _ (W2_args m ρ c main_arg0 (by decide)) fun i hi =>
    (congrFun (copy0 m ρ c) i).trans (first4 (V0 m ρ) c _ _ rfl i hi)

/-- The step after the run. -/
theorem res5 (c : Dev nD) : (dat1 (V2 m ρ) c).arrAt 5 cfg1.N
    = fun i => step (m ((c.tc : Thread nD τ).loc main_arg2) i) (G m c i) (m ((c.tc : Thread nD τ).loc main_arg3) i) (m ((c.tc : Thread nD τ).loc main_arg4) i) :=
  last5 (V2 m ρ) c _ _ _ _ _ (W2_args m ρ c main_arg0 (by decide)) (W2_args m ρ c main_arg2 (by decide)) (W2_args m ρ c main_arg3 (by decide))
    (W2_args m ρ c main_arg4 (by decide)) fun i hi => (congrFun (copy1 m ρ c) i).trans (first5 (V0 m ρ) c _ _ _ _ _ rfl rfl rfl rfl i hi)

/-- The gradient's average after the run. -/
theorem res6 (c : Dev nD) : (dat1 (V2 m ρ) c).arrAt 6 cfg1.N = fun i => mean (G m c i) (m ((c.tc : Thread nD τ).loc main_arg3) i) :=
  last6 (V2 m ρ) c _ _ _ (W2_args m ρ c main_arg0 (by decide)) (W2_args m ρ c main_arg3 (by decide)) fun i hi =>
    (congrFun (copy2 m ρ c) i).trans (first6 (V0 m ρ) c _ _ _ rfl rfl i hi)

/-- The square's average after the run. -/
theorem res7 (c : Dev nD) : (dat1 (V2 m ρ) c).arrAt 7 cfg1.N = fun i => square (G m c i) (m ((c.tc : Thread nD τ).loc main_arg4) i) :=
  last7 (V2 m ρ) c _ _ _ (W2_args m ρ c main_arg0 (by decide)) (W2_args m ρ c main_arg4 (by decide)) fun i hi =>
    (congrFun (copy3 m ρ c) i).trans (first7 (V0 m ρ) c _ _ _ rfl rfl i hi)

end Cert.AdamDownIdeal.RefValue

namespace Cert.AdamDownEq

open Idealize.ShloMosaic hiding ix1 ix2 ix3 ix4 eq_ix2 eq_ix3 eq_ix4
open Idealize.ShloMosaic.TcCoe Idealize.SL.Sem Idealize.ShloMosaic.ValueIdx Cert.Adam
open Cert.AdamDownIdeal.RefValue (runs res4 res5 res6 res7)

/-- The frame of the kernel. -/
theorem frame_p : quiescent_AdamDown := fun m ρ _ => Cert.AdamDown.Gen.frame m ρ

/-- The frame of the idealized kernel. -/
theorem frame_pi : quiescent_AdamDownIdeal := fun m ρ _ => Cert.AdamDownIdeal.Gen.frame m ρ

/-- The frame of the reference: its run ends with its arguments as they were, and it declares no semaphore. -/
theorem frame_ri : quiescent_AdamDownRefIdeal := fun m ρ _ =>
  (θ_run Cert.AdamDownRefIdeal.defs _ _).mono (fun r h => ⟨fun c => (h c).2.2.2.2, sem_eq_zero_of_no_sems (by decide) r.2⟩)
    (Cert.AdamDownRefIdeal.Value.run (F := Ideal) m ρ)

/-- The two calls compute the plain update of the large weight: the gradient, the step and the two moving averages. -/
theorem same : algebraic_AdamDownIdeal_AdamDownRefIdeal := by
  intro m g m' g' hm ha
  refine ⟨_, _, _, _, runs m g, ?_⟩
  refine (θ_run Cert.AdamDownRefIdeal.defs _ _).mono (fun r h c => ?_) (Cert.AdamDownRefIdeal.Value.run (F := Ideal) m' g')
  obtain ⟨h4, h5, h6, h7, hrest⟩ := h c
  obtain ⟨a0, a1, a2, a3, a4⟩ := ha c
  have hg := fun i => host_grad (a := 352) (b := 1024) (m ((c.tc : Thread Cert.AdamDownIdeal.nD Cert.AdamDownIdeal.τ).loc Cert.AdamDownIdeal.main_arg0))
    (m ((c.tc : Thread Cert.AdamDownIdeal.nD Cert.AdamDownIdeal.τ).loc Cert.AdamDownIdeal.main_arg1)) Cert.AdamDownRefIdeal.Gen.concatenates_S1x8x352x1024_S3x8x352x1024_S4x8x352x1024_d0
    Cert.AdamDownRefIdeal.Gen.reducesTo_S4x8x352x1024_S4x352x1024_d1 Cert.AdamDownRefIdeal.Gen.h_S_ Cert.AdamDownRefIdeal.Gen.bitsLt_bf16_f32 i
  refine ⟨h4.trans ?_, h5.trans ?_, h6.trans ?_, h7.trans ?_, hrest⟩
  · rw [a0, a1, res4]
    exact funext hg
  · rw [a0, a1, a2, a3, a4, res5]
    exact funext fun i => congrArg (fun d => step _ d _ _) (hg i)
  · rw [a0, a1, a3, res6]
    exact funext fun i => congrArg (fun d => mean d _) (hg i)
  · rw [a0, a1, a4, res7]
    exact funext fun i => congrArg (fun d => square d _) (hg i)

end Cert.AdamDownEq

end
-- ==== Proof.AdamUpArr.lean ====
/-
  The optimiser's two calls on one large weight of 704 rows per layer: what the blocks hold after a point, and the four
  result arrays after the run.
-/
module

public import proofs.«01_k».proof.Proof.Adam
public import proofs.«01_k».proof.Proof.Gen.AdamUpIdeal.Frame
public import Idealize.ShloMosaic.Lib.Pipeline.ValueKit.Partial

@[expose] public section

set_option maxRecDepth 16384

noncomputable section

namespace Cert.AdamUpIdeal.RefValue

open Cert.AdamUpIdeal Cert.AdamUpIdeal.Gen Cert.Adam
open Idealize.ShloMosaic hiding ix1 ix2 ix3 ix4 eq_ix2 eq_ix3 eq_ix4
open Idealize.ShloMosaic.TcCoe Idealize.SL.Sem Idealize.ShloMosaic.ValueIdx
open scoped BigOperators

/-! ### The blocks after a point -/

section Blocks
variable (x : Vec Ideal S1x8x352x1024 .bf16) (w m v : Vec Ideal S1x352x1024 .f32)

/-- The eight parts added. -/
theorem sum8 (p : Fin 352) (q : Fin 1024) : k0_pay5 (F := Ideal) (k0_pay10 x w m v) (View.ld x r0_7) (ix2 p q) = gblk x (ix3 (0 : Fin 1) p q) :=
  parts x _ _ _ _ _ _ _ _ _ _ p q

/-- The block of the gradient. -/
theorem out4 : out0_4 (F := Ideal) x w m v = gblk x := by
  unfold out0_4
  rw [View.canon_unit_zero (S := S1x352x1024) corner]
  exact lay_grad x _ _ (sum8 x w m v)

/-- The block of the step. -/
theorem out5 : out0_5 (F := Ideal) x w m v = fun y => step (w y) (gblk x y) (m y) (v y) := by
  unfold out0_5
  rw [View.canon_unit_zero (S := S1x352x1024) corner]
  simp only [View.ld_unit_zero (S := S1x352x1024) corner]
  exact lay_step x w m v _ _ _ (sum8 x w m v)

/-- The block of the gradient's average. -/
theorem out6 : out0_6 (F := Ideal) x w m v = fun y => mean (gblk x y) (m y) := by
  unfold out0_6
  rw [View.canon_unit_zero (S := S1x352x1024) corner]
  simp only [View.ld_unit_zero (S := S1x352x1024) corner]
  exact lay_mean x m _ _ _ (sum8 x w m v)

/-- The block of the square's average. -/
theorem out7 : out0_7 (F := Ideal) x w m v = fun y => square (gblk x y) (v y) := by
  unfold out0_7
  rw [View.canon_unit_zero (S := S1x352x1024) corner]
  simp only [View.ld_unit_zero (S := S1x352x1024) corner]
  exact lay_square x v _ _ _ (sum8 x w m v)

end Blocks

/-! ### The blocks of the second call are those of the first -/

section Second
variable (c : Dev nD) (i : grid1.Coords) (a2 : Memref sig .tc .vmem S1x8x352x1024 .bf16) (h2 : a2.IsWhole) (a3 : Memref sig .tc .vmem S1x352x1024 .f32) (h3 : a3.IsWhole) (a4 : Memref sig .tc .vmem S1x352x1024 .f32) (h4 : a4.IsWhole) (a5 : Memref sig .tc .vmem S1x352x1024 .f32) (h5 : a5.IsWhole)
  (a10 : Memref sig .tc .vmem S1x352x1024 .f32) (h10 : a10.IsWhole) (a11 : Memref sig .tc .vmem S1x352x1024 .f32) (h11 : a11.IsWhole) (a12 : Memref sig .tc .vmem S1x352x1024 .f32) (h12 : a12.IsWhole) (a13 : Memref sig .tc .vmem S1x352x1024 .f32) (h13 : a13.IsWhole)
  (x : Vec Ideal S1x8x352x1024 .bf16) (w m v : Vec Ideal S1x352x1024 .f32)

/-- The gradient's. -/
theorem second4 : out1_A_4 c i a2 h2 a3 h3 a4 h4 a5 h5 a10 h10 a11 h11 a12 h12 a13 h13 x w m v = out0_4 (F := Ideal) x w m v := by
  unfold out1_A_4
  rw [View.read_writes_eq_canon _ _ _ (cover1_A_4 c i a2 h2 a3 h3 a4 h4 a5 h5 a10 h10 a11 h11 a12 h12 a13 h13 x w m v)]
  unfold kernelRun1_A
  dsimp only
  sl_unfold_words
  simp only [View.readAt_eq_ld, h2.read_unread, h3.read_unread, h4.read_unread, h5.read_unread]
  rfl

/-- The step's. -/
theorem second5 : out1_A_5 c i a2 h2 a3 h3 a4 h4 a5 h5 a10 h10 a11 h11 a12 h12 a13 h13 x w m v = out0_5 (F := Ideal) x w m v := by
  unfold out1_A_5
  rw [View.read_writes_eq_canon _ _ _ (cover1_A_5 c i a2 h2 a3 h3 a4 h4 a5 h5 a10 h10 a11 h11 a12 h12 a13 h13 x w m v)]
  unfold kernelRun1_A
  dsimp only
  sl_unfold_words
  simp only [View.readAt_eq_ld, h2.read_unread, h3.read_unread, h4.read_unread, h5.read_unread]
  rfl

/-- The gradient's average's. -/
theorem second6 : out1_A_6 c i a2 h2 a3 h3 a4 h4 a5 h5 a10 h10 a11 h11 a12 h12 a13 h13 x w m v = out0_6 (F := Ideal) x w m v := by
  unfold out1_A_6
  rw [View.read_writes_eq_canon _ _ _ (cover1_A_6 c i a2 h2 a3 h3 a4 h4 a5 h5 a10 h10 a11 h11 a12 h12 a13 h13 x w m v)]
  unfold kernelRun1_A
  dsimp only
  sl_unfold_words
  simp only [View.readAt_eq_ld, h2.read_unread, h3.read_unread, h4.read_unread, h5.read_unread]
  rfl

/-- The square's average's. -/
theorem second7 : out1_A_7 c i a2 h2 a3 h3 a4 h4 a5 h5 a10 h10 a11 h11 a12 h12 a13 h13 x w m v = out0_7 (F := Ideal) x w m v := by
  unfold out1_A_7
  rw [View.read_writes_eq_canon _ _ _ (cover1_A_7 c i a2 h2 a3 h3 a4 h4 a5 h5 a10 h10 a11 h11 a12 h12 a13 h13 x w m v)]
  unfold kernelRun1_A
  dsimp only
  sl_unfold_words
  simp only [View.readAt_eq_ld, h2.read_unread, h3.read_unread, h4.read_unread, h5.read_unread]
  rfl

end Second

/-! ### The blocks' places -/

/-- Where the blocks of the first call lie: the parts' one layer before the weight's. -/
theorem place0 : ∀ t : Fin cfg0.N, ((win0_4.index t 0 = win0_0.index t 0 + 1 ∧ win0_0.index t 0 < 3) ∧ win0_0.index t 1 = 0 ∧ win0_0.index t 2 = win0_4.index t 1 ∧ win0_0.index t 3 = 0 ∧ win0_4.index t 2 = 0) :=
  (by decide +kernel : ∀ t : Fin grid0.N, ((win0_4.index t 0 = win0_0.index t 0 + 1 ∧ win0_0.index t 0 < 3) ∧ win0_0.index t 1 = 0 ∧ win0_0.index t 2 = win0_4.index t 1 ∧ win0_0.index t 3 = 0 ∧ win0_4.index t 2 = 0))

/-- Where the blocks of the second call lie: in the first layer. -/
theorem place1 : ∀ t : Fin cfg1.N, ((win1_4.index t 0 = 0 ∧ win1_0.index t 0 = 0) ∧ win1_0.index t 1 = 0 ∧ win1_0.index t 2 = win1_4.index t 1 ∧ win1_0.index t 3 = 0 ∧ win1_4.index t 2 = 0) :=
  (by decide +kernel : ∀ t : Fin grid1.N, ((win1_4.index t 0 = 0 ∧ win1_0.index t 0 = 0) ∧ win1_0.index t 1 = 0 ∧ win1_0.index t 2 = win1_4.index t 1 ∧ win1_0.index t 3 = 0 ∧ win1_4.index t 2 = 0))

section Arrays
variable (V : (c : Dev nD) → (b : Ref sig .tc) → Buf (Elt Ideal) ((c : Thread nD τ).loc b)) (c : Dev nD)
  (r0 : S1x8x704x1024.Idx → EReal) (r : S3x8x704x1024.Idx → EReal) (w m v : S4x704x1024.Idx → EReal)

/-- The gradient in a block of the first call. -/
theorem grad0 (hr : V c main_arg1 = r) (t : Fin cfg0.N) (y : S1x352x1024.Idx) : gblk (iblk0 V c 0 t) y = grad r0 r (((cfg0.win 4).blk t).view.emb y) := by
  obtain ⟨p, q, rfl⟩ := one y
  have h := place0 t
  refine Eq.trans ?_ (grad_succ r0 r _ ⟨win0_0.index t 0, h.1.2⟩ (by show win0_4.index t 0 * 1 + 1 * 0 = win0_0.index t 0 + 1; rw [h.1.1]; omega)).symm
  refine Finset.sum_congr rfl fun k _ => ?_
  unfold iblk0
  rw [View.read_apply]
  refine (congrFun hr _).trans (congrArg r ?_)
  funext a
  apply Fin.ext
  match a with
  | ⟨0, _⟩ => show win0_0.index t 0 * 1 + 1 * 0 = win0_0.index t 0; omega
  | ⟨1, _⟩ => show win0_0.index t 1 * 8 + 1 * k.val = k.val; rw [h.2.1]; omega
  | ⟨2, _⟩ => show win0_0.index t 2 * 352 + 1 * p.val = win0_4.index t 1 * 352 + 1 * p.val; rw [h.2.2.1]
  | ⟨3, _⟩ => show win0_0.index t 3 * 1024 + 1 * q.val = win0_4.index t 2 * 1024 + 1 * q.val; rw [h.2.2.2.1, h.2.2.2.2]

/-- The gradient in a block of the second call. -/
theorem grad1 (hr : V c main_arg0 = r0) (t : Fin cfg1.N) (y : S1x352x1024.Idx) : gblk (iblk1 V c 0 t) y = grad r0 r (((cfg1.win 4).blk t).view.emb y) := by
  obtain ⟨p, q, rfl⟩ := one y
  have h := place1 t
  refine Eq.trans ?_ (grad_zero r0 r _ (by show win1_4.index t 0 * 1 + 1 * 0 = 0; rw [h.1.1])).symm
  refine Finset.sum_congr rfl fun k _ => ?_
  unfold iblk1
  rw [View.read_apply]
  refine (congrFun hr _).trans (congrArg r0 ?_)
  funext a
  apply Fin.ext
  match a with
  | ⟨0, _⟩ => show win1_0.index t 0 * 1 + 1 * 0 = 0; rw [h.1.2]
  | ⟨1, _⟩ => show win1_0.index t 1 * 8 + 1 * k.val = k.val; rw [h.2.1]; omega
  | ⟨2, _⟩ => show win1_0.index t 2 * 352 + 1 * p.val = win1_4.index t 1 * 352 + 1 * p.val; rw [h.2.2.1]
  | ⟨3, _⟩ => show win1_0.index t 3 * 1024 + 1 * q.val = win1_4.index t 2 * 1024 + 1 * q.val; rw [h.2.2.2.1, h.2.2.2.2]

/-- After the first call, the later layers' gradient. -/
theorem first4 (hr : V c main_arg1 = r) (i : S4x704x1024.Idx) (hi : 1 ≤ (i 0).val) :
    (dat0 V c).arrAt 4 cfg0.N i = grad r0 r i := by
  refine ((dat0 V c).arrAt_apply_of_coversWhere 4 (P := fun i => 1 ≤ (i 0).val / 1) (fun i => grad r0 r i) (fun β => 1 ≤ β (0 : Fin 3)) (by decide +kernel) (fun t hf y => ?_) (fun j => Iff.rfl) i).trans (if_pos (by rw [Nat.div_one]; exact hi))
  rw [after0_4, out4]
  exact grad0 V c r0 r hr t y

/-- After the first call, the later layers' step. -/
theorem first5 (hr : V c main_arg1 = r) (hw : V c main_arg2 = w) (hm : V c main_arg3 = m) (hv : V c main_arg4 = v) (i : S4x704x1024.Idx) (hi : 1 ≤ (i 0).val) :
    (dat0 V c).arrAt 5 cfg0.N i = step (w i) (grad r0 r i) (m i) (v i) := by
  refine ((dat0 V c).arrAt_apply_of_coversWhere 5 (P := fun i => 1 ≤ (i 0).val / 1) (fun i => step (w i) (grad r0 r i) (m i) (v i)) (fun β => 1 ≤ β (0 : Fin 3)) (by decide +kernel) (fun t hf y => ?_) (fun j => Iff.rfl) i).trans (if_pos (by rw [Nat.div_one]; exact hi))
  rw [after0_5, out5]
  subst hw hm hv
  exact congrArg (fun g => step _ g _ _) (grad0 V c r0 r hr t y)

/-- After the first call, the later layers' average of the gradient. -/
theorem first6 (hr : V c main_arg1 = r) (hm : V c main_arg3 = m) (i : S4x704x1024.Idx) (hi : 1 ≤ (i 0).val) :
    (dat0 V c).arrAt 6 cfg0.N i = mean (grad r0 r i) (m i) := by
  refine ((dat0 V c).arrAt_apply_of_coversWhere 6 (P := fun i => 1 ≤ (i 0).val / 1) (fun i => mean (grad r0 r i) (m i)) (fun β => 1 ≤ β (0 : Fin 3)) (by decide +kernel) (fun t hf y => ?_) (fun j => Iff.rfl) i).trans (if_pos (by rw [Nat.div_one]; exact hi))
  rw [after0_6, out6]
  subst hm
  exact congrArg (fun g => mean g _) (grad0 V c r0 r hr t y)

/-- After the first call, the later layers' average of the square. -/
theorem first7 (hr : V c main_arg1 = r) (hv : V c main_arg4 = v) (i : S4x704x1024.Idx) (hi : 1 ≤ (i 0).val) :
    (dat0 V c).arrAt 7 cfg0.N i = square (grad r0 r i) (v i) := by
  refine ((dat0 V c).arrAt_apply_of_coversWhere 7 (P := fun i => 1 ≤ (i 0).val / 1) (fun i => square (grad r0 r i) (v i)) (fun β => 1 ≤ β (0 : Fin 3)) (by decide +kernel) (fun t hf y => ?_) (fun j => Iff.rfl) i).trans (if_pos (by rw [Nat.div_one]; exact hi))
  rw [after0_7, out7]
  subst hv
  exact congrArg (fun g => square g _) (grad0 V c r0 r hr t y)

/-- After the second call, every layer's gradient. -/
theorem last4 (hr : V c main_arg0 = r0) (hp : ∀ i : S4x704x1024.Idx, 1 ≤ (i 0).val → V c main_v1_0 i = grad r0 r i) :
    (dat1 V c).arrAt 4 cfg1.N = fun i => grad r0 r i := by
  refine (dat1 V c).arrAt_eq_of_coversWhere_of_agree 4 (fun i => grad r0 r i) (fun β => β (0 : Fin 3) = 0) (by decide +kernel) (fun t hf y => ?_) (fun j hj => ?_)
  · rw [after1_4]
    unfold outsAt1
    dsimp only
    rw [second4, out4]
    exact grad1 V c r0 r hr t y
  · refine hp j (Nat.one_le_iff_ne_zero.mpr fun h => hj ?_)
    show (j 0).val / 1 = 0
    rw [Nat.div_one, h]

/-- After the second call, every layer's step. -/
theorem last5 (hr : V c main_arg0 = r0) (hw : V c main_arg2 = w) (hm : V c main_arg3 = m) (hv : V c main_arg4 = v) (hp : ∀ i : S4x704x1024.Idx, 1 ≤ (i 0).val → V c main_v1_1 i = step (w i) (grad r0 r i) (m i) (v i)) :
    (dat1 V c).arrAt 5 cfg1.N = fun i => step (w i) (grad r0 r i) (m i) (v i) := by
  refine (dat1 V c).arrAt_eq_of_coversWhere_of_agree 5 (fun i => step (w i) (grad r0 r i) (m i) (v i)) (fun β => β (0 : Fin 3) = 0) (by decide +kernel) (fun t hf y => ?_) (fun j hj => ?_)
  · rw [after1_5]
    unfold outsAt1
    dsimp only
    rw [second5, out5]
    subst hw hm hv
    exact congrArg (fun g => step _ g _ _) (grad1 V c r0 r hr t y)
  · refine hp j (Nat.one_le_iff_ne_zero.mpr fun h => hj ?_)
    show (j 0).val / 1 = 0
    rw [Nat.div_one, h]

/-- After the second call, every layer's average of the gradient. -/
theorem last6 (hr : V c main_arg0 = r0) (hm : V c main_arg3 = m) (hp : ∀ i : S4x704x1024.Idx, 1 ≤ (i 0).val → V c main_v1_2 i = mean (grad r0 r i) (m i)) :
    (dat1 V c).arrAt 6 cfg1.N = fun i => mean (grad r0 r i) (m i) := by
  refine (dat1 V c).arrAt_eq_of_coversWhere_of_agree 6 (fun i => mean (grad r0 r i) (m i)) (fun β => β (0 : Fin 3) = 0) (by decide +kernel) (fun t hf y => ?_) (fun j hj => ?_)
  · rw [after1_6]
    unfold outsAt1
    dsimp only
    rw [second6, out6]
    subst hm
    exact congrArg (fun g => mean g _) (grad1 V c r0 r hr t y)
  · refine hp j (Nat.one_le_iff_ne_zero.mpr fun h => hj ?_)
    show (j 0).val / 1 = 0
    rw [Nat.div_one, h]

/-- After the second call, every layer's average of the square. -/
theorem last7 (hr : V c main_arg0 = r0) (hv : V c main_arg4 = v) (hp : ∀ i : S4x704x1024.Idx, 1 ≤ (i 0).val → V c main_v1_3 i = square (grad r0 r i) (v i)) :
    (dat1 V c).arrAt 7 cfg1.N = fun i => square (grad r0 r i) (v i) := by
  refine (dat1 V c).arrAt_eq_of_coversWhere_of_agree 7 (fun i => square (grad r0 r i) (v i)) (fun β => β (0 : Fin 3) = 0) (by decide +kernel) (fun t hf y => ?_) (fun j hj => ?_)
  · rw [after1_7]
    unfold outsAt1
    dsimp only
    rw [second7, out7]
    subst hv
    exact congrArg (fun g => square g _) (grad1 V c r0 r hr t y)
  · refine hp j (Nat.one_le_iff_ne_zero.mpr fun h => hj ?_)
    show (j 0).val / 1 = 0
    rw [Nat.div_one, h]

end Arrays

end Cert.AdamUpIdeal.RefValue

end
-- ==== Proof.AdamUpEq.lean ====
/-
  The optimiser's two calls on one large weight of 704 rows per layer and the plain formula leave the same four results.
-/
module

public import proofs.«01_k».proof.Proof.AdamUpArr
public import proofs.«01_k».proof.Proof.Gen.AdamUp.Frame
public import proofs.«01_k».proof.Proof.Gen.AdamUpRefIdeal.Run
public import proofs.«01_k».proof.Defs

@[expose] public section

set_option maxRecDepth 16384

noncomputable section

namespace Cert.AdamUpIdeal.RefValue

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdamUpIdeal Cert.AdamUpIdeal.Gen Cert.Adam
open Idealize.ShloMosaic hiding ix1 ix2 ix3 ix4 eq_ix2 eq_ix3 eq_ix4
open Idealize.ShloMosaic.TcCoe

local notation "𝕄" => MT nD τ sig Unit (Elt Ideal) ℕ (UR sig nD τ) ℕ

variable (m : (ℓ : Loc nD τ sig) → Buf (Elt Ideal) ℓ) (ρ : Dev nD → PrngReg)

/-- Every run ends with the four results as the second call leaves them, and the arguments as they were. -/
theorem runs : θ_run defs (onTc (τ := τ) (main (F := Ideal))) ⟨m, fun _ => 0, ρ⟩ (fun r => ∀ c : Dev nD,
      r.2.mem ((c.tc : Thread nD τ).loc main_v1_0) = (dat1 (V2 m ρ) c).arrAt 4 cfg1.N
      ∧ r.2.mem ((c.tc : Thread nD τ).loc main_v1_1) = (dat1 (V2 m ρ) c).arrAt 5 cfg1.N
      ∧ r.2.mem ((c.tc : Thread nD τ).loc main_v1_2) = (dat1 (V2 m ρ) c).arrAt 6 cfg1.N
      ∧ r.2.mem ((c.tc : Thread nD τ).loc main_v1_3) = (dat1 (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v1_0 (by decide))).trans (W3_arr m ρ c 4),
       (h c _ (mem_uc main_v1_1 (by decide))).trans (W3_arr m ρ c 5),
       (h c _ (mem_uc main_v1_2 (by decide))).trans (W3_arr m ρ c 6),
       (h c _ (mem_uc main_v1_3 (by decide))).trans (W3_arr m ρ c 7),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

/-! ### Between the two calls the first call's results are copied -/

/-- The gradient. -/
theorem copy0 (c : Dev nD) : V2 m ρ c main_v1_0 = (dat0 (V0 m ρ) c).arrAt 4 cfg0.N := by
  refine Eq.trans ?_ (W1_arr m ρ c 4)
  show StableHlo.after hostOps1 (W1 m ρ c) (Proc.devRef .tc main_v1_0) = _
  after_results_simp <;> rfl

/-- The step. -/
theorem copy1 (c : Dev nD) : V2 m ρ c main_v1_1 = (dat0 (V0 m ρ) c).arrAt 5 cfg0.N := by
  refine Eq.trans ?_ (W1_arr m ρ c 5)
  show StableHlo.after hostOps1 (W1 m ρ c) (Proc.devRef .tc main_v1_1) = _
  after_results_simp <;> rfl

/-- The gradient's average. -/
theorem copy2 (c : Dev nD) : V2 m ρ c main_v1_2 = (dat0 (V0 m ρ) c).arrAt 6 cfg0.N := by
  refine Eq.trans ?_ (W1_arr m ρ c 6)
  show StableHlo.after hostOps1 (W1 m ρ c) (Proc.devRef .tc main_v1_2) = _
  after_results_simp <;> rfl

/-- The square's average. -/
theorem copy3 (c : Dev nD) : V2 m ρ c main_v1_3 = (dat0 (V0 m ρ) c).arrAt 7 cfg0.N := by
  refine Eq.trans ?_ (W1_arr m ρ c 7)
  show StableHlo.after hostOps1 (W1 m ρ c) (Proc.devRef .tc main_v1_3) = _
  after_results_simp <;> rfl

/-! ### The four results -/

/-- The gradient, from the arguments. -/
abbrev G (c : Dev nD) : S4x704x1024.Idx → EReal := grad (m ((c.tc : Thread nD τ).loc main_arg0)) (m ((c.tc : Thread nD τ).loc main_arg1))

/-- The gradient after the run. -/
theorem res4 (c : Dev nD) : (dat1 (V2 m ρ) c).arrAt 4 cfg1.N = fun i => G m c i :=
  last4 (V2 m ρ) c _ _ (W2_args m ρ c main_arg0 (by decide)) fun i hi =>
    (congrFun (copy0 m ρ c) i).trans (first4 (V0 m ρ) c _ _ rfl i hi)

/-- The step after the run. -/
theorem res5 (c : Dev nD) : (dat1 (V2 m ρ) c).arrAt 5 cfg1.N
    = fun i => step (m ((c.tc : Thread nD τ).loc main_arg2) i) (G m c i) (m ((c.tc : Thread nD τ).loc main_arg3) i) (m ((c.tc : Thread nD τ).loc main_arg4) i) :=
  last5 (V2 m ρ) c _ _ _ _ _ (W2_args m ρ c main_arg0 (by decide)) (W2_args m ρ c main_arg2 (by decide)) (W2_args m ρ c main_arg3 (by decide))
    (W2_args m ρ c main_arg4 (by decide)) fun i hi => (congrFun (copy1 m ρ c) i).trans (first5 (V0 m ρ) c _ _ _ _ _ rfl rfl rfl rfl i hi)

/-- The gradient's average after the run. -/
theorem res6 (c : Dev nD) : (dat1 (V2 m ρ) c).arrAt 6 cfg1.N = fun i => mean (G m c i) (m ((c.tc : Thread nD τ).loc main_arg3) i) :=
  last6 (V2 m ρ) c _ _ _ (W2_args m ρ c main_arg0 (by decide)) (W2_args m ρ c main_arg3 (by decide)) fun i hi =>
    (congrFun (copy2 m ρ c) i).trans (first6 (V0 m ρ) c _ _ _ rfl rfl i hi)

/-- The square's average after the run. -/
theorem res7 (c : Dev nD) : (dat1 (V2 m ρ) c).arrAt 7 cfg1.N = fun i => square (G m c i) (m ((c.tc : Thread nD τ).loc main_arg4) i) :=
  last7 (V2 m ρ) c _ _ _ (W2_args m ρ c main_arg0 (by decide)) (W2_args m ρ c main_arg4 (by decide)) fun i hi =>
    (congrFun (copy3 m ρ c) i).trans (first7 (V0 m ρ) c _ _ _ rfl rfl i hi)

end Cert.AdamUpIdeal.RefValue

namespace Cert.AdamUpEq

open Idealize.ShloMosaic hiding ix1 ix2 ix3 ix4 eq_ix2 eq_ix3 eq_ix4
open Idealize.ShloMosaic.TcCoe Idealize.SL.Sem Idealize.ShloMosaic.ValueIdx Cert.Adam
open Cert.AdamUpIdeal.RefValue (runs res4 res5 res6 res7)

/-- The frame of the kernel. -/
theorem frame_p : quiescent_AdamUp := fun m ρ _ => Cert.AdamUp.Gen.frame m ρ

/-- The frame of the idealized kernel. -/
theorem frame_pi : quiescent_AdamUpIdeal := fun m ρ _ => Cert.AdamUpIdeal.Gen.frame m ρ

/-- The frame of the reference: its run ends with its arguments as they were, and it declares no semaphore. -/
theorem frame_ri : quiescent_AdamUpRefIdeal := fun m ρ _ =>
  (θ_run Cert.AdamUpRefIdeal.defs _ _).mono (fun r h => ⟨fun c => (h c).2.2.2.2, sem_eq_zero_of_no_sems (by decide) r.2⟩)
    (Cert.AdamUpRefIdeal.Value.run (F := Ideal) m ρ)

/-- The two calls compute the plain update of the large weight: the gradient, the step and the two moving averages. -/
theorem same : algebraic_AdamUpIdeal_AdamUpRefIdeal := by
  intro m g m' g' hm ha
  refine ⟨_, _, _, _, runs m g, ?_⟩
  refine (θ_run Cert.AdamUpRefIdeal.defs _ _).mono (fun r h c => ?_) (Cert.AdamUpRefIdeal.Value.run (F := Ideal) m' g')
  obtain ⟨h4, h5, h6, h7, hrest⟩ := h c
  obtain ⟨a0, a1, a2, a3, a4⟩ := ha c
  have hg := fun i => host_grad (a := 704) (b := 1024) (m ((c.tc : Thread Cert.AdamUpIdeal.nD Cert.AdamUpIdeal.τ).loc Cert.AdamUpIdeal.main_arg0))
    (m ((c.tc : Thread Cert.AdamUpIdeal.nD Cert.AdamUpIdeal.τ).loc Cert.AdamUpIdeal.main_arg1)) Cert.AdamUpRefIdeal.Gen.concatenates_S1x8x704x1024_S3x8x704x1024_S4x8x704x1024_d0
    Cert.AdamUpRefIdeal.Gen.reducesTo_S4x8x704x1024_S4x704x1024_d1 Cert.AdamUpRefIdeal.Gen.h_S_ Cert.AdamUpRefIdeal.Gen.bitsLt_bf16_f32 i
  refine ⟨h4.trans ?_, h5.trans ?_, h6.trans ?_, h7.trans ?_, hrest⟩
  · rw [a0, a1, res4]
    exact funext hg
  · rw [a0, a1, a2, a3, a4, res5]
    exact funext fun i => congrArg (fun d => step _ d _ _) (hg i)
  · rw [a0, a1, a3, res6]
    exact funext fun i => congrArg (fun d => mean d _) (hg i)
  · rw [a0, a1, a4, res7]
    exact funext fun i => congrArg (fun d => square d _) (hg i)

end Cert.AdamUpEq

end
-- ==== Proof.Half.lean ====
/-
  Blocks of 1024 rows of 1024 columns, taken in two halves of 512: what the vector operations on a half are, element by
  element, and what is loaded from and stored to the halves.
-/
module

public import proofs.«01_k».proof.Proof.FfnArr
public import proofs.«01_k».proof.Proof.Prod
public import Idealize.ShloMosaic.Lib.ValueIdx
public import Idealize.ShloMosaic.Lib.Pipeline.Value
public import Idealize.ShloMosaic.Lib.Pipeline.ValueKit.Tiles

@[expose] public section

set_option maxRecDepth 16384

noncomputable section

namespace Cert.Half

open Cert.Rows (rt msq back row width eps dhf dhf_congr)
open Idealize.ShloMosaic Idealize.ShloMosaic.ValueIdx
open scoped BigOperators

/-- A half of a block: 512 rows of 1024 columns. -/
abbrev H : Shape := ⟨2, ![512, 1024]⟩
/-- A column of 512 numbers. -/
abbrev C : Shape := ⟨2, ![512, 1]⟩
/-- A row of 1024 numbers. -/
abbrev R : Shape := ⟨2, ![1, 1024]⟩

/-! ### Vector operations -/

/-- A column of one number per row, spread over the columns. -/
theorem over_cols (v : FVec Ideal C .f32) (hb : C.Broadcasts H) (r : Fin 512) (j : Fin 1024) :
    broadcastTo H v hb (ix2 r j) = v (ix2 r (0 : Fin 1)) :=
  broadcastTo_apply _ _ _ (ix2 r (0 : Fin 1)) (by intro a; match a with | ⟨0, _⟩ => rfl | ⟨1, _⟩ => rfl)

/-- A row of one number per column, spread over the rows. -/
theorem over_rows (v : FVec Ideal R .f32) (hb : R.Broadcasts H) (r : Fin 512) (j : Fin 1024) :
    broadcastTo H v hb (ix2 r j) = v (ix2 (0 : Fin 1) j) :=
  broadcastTo_apply _ _ _ (ix2 (0 : Fin 1) j) (by intro a; match a with | ⟨0, _⟩ => rfl | ⟨1, _⟩ => rfl)

/-- The sums of the rows, as a column. -/
theorem rowsum (v : FVec Ideal H .f32) (hr : H.Reduces [1] (⟨1, ![512]⟩ : Shape)) (hs : (⟨1, ![512]⟩ : Shape).ShapeCasts C) (hf) (r : Fin 512) :
    shapeCast C (multiReduction .add [1] (⟨1, ![512]⟩ : Shape) v 0x00000000#32 hr hf rfl) hs (ix2 r (0 : Fin 1)) = ∑ l : Fin 1024, v (ix2 r l) := by
  rw [shapeCast_apply _ _ _ (ix1 r) (by rw [Shape.rowMajor_val_one, Shape.rowMajor_val_two]; show r.val = r.val * 1 + 0; omega)]
  refine (Ideal.multiReduction_add_single (a := 1) v 0x00000000#32 hr hf rfl (ix1 r)).trans ?_
  refine Finset.sum_congr rfl fun l _ => congrArg v ?_
  funext x; apply Fin.ext; match x with
    | ⟨0, _⟩ => rfl
    | ⟨1, _⟩ => rfl

/-- The sums of the columns, as a row. -/
theorem colsum (v : FVec Ideal H .f32) (hr : H.Reduces [0] (⟨1, ![1024]⟩ : Shape)) (hs : (⟨1, ![1024]⟩ : Shape).ShapeCasts R) (hf) (j : Fin 1024) :
    shapeCast R (multiReduction .add [0] (⟨1, ![1024]⟩ : Shape) v 0x00000000#32 hr hf rfl) hs (ix2 (0 : Fin 1) j) = ∑ r : Fin 512, v (ix2 r j) := by
  rw [shapeCast_apply _ _ _ (ix1 j) (by rw [Shape.rowMajor_val_one, Shape.rowMajor_val_two]; show j.val = 0 * 1024 + j.val; omega)]
  refine (Ideal.multiReduction_add_single (a := 0) v 0x00000000#32 hr hf rfl (ix1 j)).trans ?_
  refine Finset.sum_congr rfl fun l _ => congrArg v ?_
  funext x; apply Fin.ext; match x with
    | ⟨0, _⟩ => rfl
    | ⟨1, _⟩ => rfl

/-- The sum of a column's numbers, taken through one slab. -/
theorem total (v : FVec Ideal C .f32) (h1 : C.ShapeCasts (⟨3, ![1, 512, 1]⟩ : Shape)) (hr : (⟨3, ![1, 512, 1]⟩ : Shape).Reduces [1, 2] (⟨1, ![1]⟩ : Shape))
    (h3 : (⟨1, ![1]⟩ : Shape).ShapeCasts (⟨3, ![1, 1, 1]⟩ : Shape)) (hf) (hp : ∀ a, (![0, 0, 0] : Fin 3 → ℕ) a < (⟨3, ![1, 1, 1]⟩ : Shape).size a) :
    extractAt ![0, 0, 0] (shapeCast (⟨3, ![1, 1, 1]⟩ : Shape)
      (multiReduction (F := Ideal) (φ := .f32) .add [1, 2] (⟨1, ![1]⟩ : Shape) (shapeCast (⟨3, ![1, 512, 1]⟩ : Shape) v h1) 0x00000000#32 hr hf rfl) h3) hp
      = ∑ r : Fin 512, v (ix2 r (0 : Fin 1)) := by
  show shapeCast _ _ h3 _ = _
  rw [shapeCast_apply _ _ _ (ix1 (0 : Fin 1)) (by rw [Shape.rowMajor_val_one, Shape.rowMajor_val_three]; rfl)]
  refine (Ideal.multiReduction_add_total _ 0x00000000#32 hr (fun b => by fin_cases b; rfl) hf rfl _).trans ?_
  refine (Fintype.sum_equiv (⟨fun r => ix3 (0 : Fin 1) r (0 : Fin 1), fun i => i 1, fun r => rfl, fun i => ?_⟩ : Fin 512 ≃ (⟨3, ![1, 512, 1]⟩ : Shape).Idx)
    (fun r => v (ix2 r (0 : Fin 1))) _ fun r => ?_).symm
  · funext a
    match a with
    | ⟨0, _⟩ => exact Subsingleton.elim (α := Fin 1) _ _
    | ⟨1, _⟩ => rfl
    | ⟨2, _⟩ => exact Subsingleton.elim (α := Fin 1) _ _
  · exact (shapeCast_apply _ _ _ (ix2 r (0 : Fin 1)) (by rw [Shape.rowMajor_val_two, Shape.rowMajor_val_three]; show r.val * 1 + 0 = (0 * 512 + r.val) * 1 + 0; omega)).symm

/-- A gain of one slab, as a row. -/
theorem slab_row (g : (⟨3, ![1, 1, 1024]⟩ : Shape).Idx → EReal) (hs : (⟨3, ![1, 1, 1024]⟩ : Shape).ShapeCasts R) (j : Fin 1024) :
    shapeCast R g hs (ix2 (0 : Fin 1) j) = g (ix3 (0 : Fin 1) (0 : Fin 1) j) :=
  shapeCast_apply _ _ _ (ix3 (0 : Fin 1) (0 : Fin 1) j) (by rw [Shape.rowMajor_val_two, Shape.rowMajor_val_three]; rfl)

/-! ### Formulas, over any number of rows -/

/-- A row, normalised. -/
abbrev nrow (y : Fin 1024 → EReal) (j : Fin 1024) : EReal := y j * rt y

section Formulas
variable {n K : ℕ} (A : (⟨2, ![n, K]⟩ : Shape).Idx → EReal) (W : (⟨2, ![K, 1024]⟩ : Shape).Idx → EReal) (X : (⟨2, ![n, 1024]⟩ : Shape).Idx → EReal)
  (G G2 : Fin 1024 → EReal)
/-- The trunk with the branch's normalised rows. -/
abbrev xof (r : Fin n) (j : Fin 1024) : EReal := X (ix2 r j) + nrow (dhf A W r) j * G j
/-- The next branch's normalised rows. -/
abbrev hof (r : Fin n) (j : Fin 1024) : EReal := nrow (xof A W X G r) j * G2 j
end Formulas

section Congr
variable {n n' K : ℕ} {A : (⟨2, ![n, K]⟩ : Shape).Idx → EReal} {A' : (⟨2, ![n', K]⟩ : Shape).Idx → EReal} (W : (⟨2, ![K, 1024]⟩ : Shape).Idx → EReal)
  {X : (⟨2, ![n, 1024]⟩ : Shape).Idx → EReal} {X' : (⟨2, ![n', 1024]⟩ : Shape).Idx → EReal} (G G2 : Fin 1024 → EReal) {r : Fin n} {p : Fin n'}

/-- Equal rows have equal products, as rows. -/
theorem dhf_row (hA : ∀ l, A (ix2 r l) = A' (ix2 p l)) : (fun j => dhf A W r j) = fun j => dhf A' W p j := funext fun j => dhf_congr W hA j

/-- Equal rows give equal rows of the trunk. -/
theorem xof_congr (hA : ∀ l, A (ix2 r l) = A' (ix2 p l)) (hX : ∀ l, X (ix2 r l) = X' (ix2 p l)) (j) : xof A W X G r j = xof A' W X' G p j := by
  show X (ix2 r j) + nrow (fun j => dhf A W r j) j * G j = X' (ix2 p j) + nrow (fun j => dhf A' W p j) j * G j
  rw [dhf_row W hA, hX]

/-- Equal rows give equal rows of the next branch. -/
theorem hof_congr (hA : ∀ l, A (ix2 r l) = A' (ix2 p l)) (hX : ∀ l, X (ix2 r l) = X' (ix2 p l)) (j) : hof A W X G G2 r j = hof A' W X' G G2 p j := by
  show nrow (fun k => xof A W X G r k) j * G2 j = nrow (fun k => xof A' W X' G p k) j * G2 j
  rw [show (fun k => xof A W X G r k) = fun k => xof A' W X' G p k from funext fun k => xof_congr W G hA hX k]
end Congr

/-- The factors of a half's rows. -/
theorem rt_vec (v : FVec Ideal H .f32) (hr : H.Reduces [1] (⟨1, ![512]⟩ : Shape)) (hs : (⟨1, ![512]⟩ : Shape).ShapeCasts C) (hf) (r : Fin 512) :
    rsqrt (addf (divf (shapeCast C (multiReduction .add [1] (⟨1, ![512]⟩ : Shape) (mulf v v) 0x00000000#32 hr hf rfl) hs)
        (broadcast C (Scalar.ofBits (F := Ideal) .f32 0x44800000#32))) (broadcast C (Scalar.ofBits (F := Ideal) .f32 0x358637BD#32))) (ix2 r (0 : Fin 1))
      = rt (row v r) := by
  show Ideal.rsqrt (Ideal.div _ _ + _) = _
  rw [rowsum]
  rfl

/-- A half's rows, normalised. -/
theorem nrow_vec (v : FVec Ideal H .f32) (hr : H.Reduces [1] (⟨1, ![512]⟩ : Shape)) (hs : (⟨1, ![512]⟩ : Shape).ShapeCasts C) (hf) (hb : C.Broadcasts H) (r : Fin 512) (j : Fin 1024) :
    mulf v (broadcastTo H (rsqrt (addf (divf (shapeCast C (multiReduction .add [1] (⟨1, ![512]⟩ : Shape) (mulf v v) 0x00000000#32 hr hf rfl) hs)
        (broadcast C (Scalar.ofBits (F := Ideal) .f32 0x44800000#32))) (broadcast C (Scalar.ofBits (F := Ideal) .f32 0x358637BD#32)))) hb) (ix2 r j)
      = nrow (row v r) j := by
  rw [mulf_apply, over_cols, rt_vec]

/-! ### Bands of 512 rows in a block of 1024 -/

/-- Row `k` of half `h`. -/
def half (h : Fin 2) (k : Fin 512) : Fin 1024 := ⟨512 * h.val + k.val, by omega⟩

/-- Every row is in a half. -/
theorem half_surj (r : Fin 1024) : ∃ h k, half h k = r :=
  ⟨⟨r.val / 512, by omega⟩, ⟨r.val % 512, Nat.mod_lt _ (by decide)⟩, Fin.ext (Nat.div_add_mod r.val 512)⟩

/-- A sum over the rows is the halves' sums added. -/
theorem sum_halves (f : Fin 1024 → EReal) : ∑ r, f r = ∑ k, f (half 0 k) + ∑ k, f (half 1 k) := by
  refine (Fin.sum_univ_add (a := 512) (b := 512) f).trans ?_
  exact congrArg₂ (· + ·) (Finset.sum_congr rfl fun k _ => congrArg f (Fin.ext (Nat.zero_add _).symm)) (Finset.sum_congr rfl fun k _ => congrArg f (Fin.ext rfl))

section Bands
variable {w : ℕ} {Val : EltTy → Type} {e : EltTy}

/-- A half's rows of a block. -/
abbrev band (X : (⟨2, ![1024, w]⟩ : Shape).Idx → Val e) (o : ℕ) (inb : ∀ a, (![o, 0] : Fin 2 → ℕ) a + (![512, w] : Fin 2 → ℕ) a ≤ (⟨2, ![1024, w]⟩ : Shape).size a) :
    (⟨2, ![512, w]⟩ : Shape).Idx → Val e := View.ld X (Rect.unit (s := ⟨2, ![1024, w]⟩) ![o, 0] ![512, w] inb)

/-- A half's row is the block's. -/
theorem band_apply (X : (⟨2, ![1024, w]⟩ : Shape).Idx → Val e) (o : ℕ) (inb) (h : Fin 2) (ho : o = 512 * h.val) (k : Fin 512) (j : Fin w) :
    band X o inb (ix2 k j) = X (ix2 (half h k) j) :=
  View.ld_unit_apply_of X _ _ inb _ _ fun a => match a with
    | ⟨0, _⟩ => by show 512 * h.val + k.val = o + k.val; rw [ho]
    | ⟨1, _⟩ => (Nat.zero_add _).symm

/-- In the band stored last the contents are that store's. -/
theorem canon_hit [∀ e, Nonempty (Val e)] (o : ℕ) (inb) (v : (⟨2, ![512, w]⟩ : Shape).Idx → Val e) (L) (k : Fin 512) (j : Fin w) (r : Fin 1024)
    (hr : r.val = o + k.val) :
    View.canon (⟨Rect.unit (s := ⟨2, ![1024, w]⟩) ![o, 0] ![512, w] inb, v⟩ :: L) (ix2 r j) = v (ix2 k j) := by
  have : (ix2 r j : (⟨2, ![1024, w]⟩ : Shape).Idx) = (Rect.unit (s := ⟨2, ![1024, w]⟩) ![o, 0] ![512, w] inb).emb (ix2 k j) :=
    funext fun a => Fin.ext (by
      refine Eq.trans ?_ (Rect.idx_unit_val _ _ inb (ix2 k j) a).symm
      match a with
      | ⟨0, _⟩ => exact hr
      | ⟨1, _⟩ => exact (Nat.zero_add _).symm)
  rw [this]
  exact View.canon_cons_emb (Rect.unit (s := ⟨2, ![1024, w]⟩) ![o, 0] ![512, w] inb) v L (ix2 k j)

/-- Outside it they are what the earlier stores left. -/
theorem canon_skip [∀ e, Nonempty (Val e)] (o : ℕ) (inb) (v : (⟨2, ![512, w]⟩ : Shape).Idx → Val e) (L) (j : Fin w) (r : Fin 1024)
    (hr : r.val < o ∨ o + 512 ≤ r.val) :
    View.canon (⟨Rect.unit (s := ⟨2, ![1024, w]⟩) ![o, 0] ![512, w] inb, v⟩ :: L) (ix2 r j) = View.canon L (ix2 r j) := by
  refine View.canon_cons_of_not_mem _ L fun h => ?_
  rw [Rect.mem_set_unit] at h
  have h1 : o ≤ r.val ∧ r.val < o + 512 := h 0
  omega

/-- Two bands, stored from the first to the second, read back. -/
theorem canon_halves [∀ e, Nonempty (Val e)] (i0 i1) (v0 v1 : (⟨2, ![512, w]⟩ : Shape).Idx → Val e) (L) (f : Fin 1024 → EReal) (j : Fin w) (g : Val e → EReal)
    (h0 : ∀ k, g (v0 (ix2 k j)) = f (half 0 k)) (h1 : ∀ k, g (v1 (ix2 k j)) = f (half 1 k)) (r : Fin 1024) :
    g (View.canon (⟨Rect.unit (s := ⟨2, ![1024, w]⟩) ![512, 0] ![512, w] i1, v1⟩ :: ⟨Rect.unit (s := ⟨2, ![1024, w]⟩) ![0, 0] ![512, w] i0, v0⟩ :: L) (ix2 r j)) = f r := by
  obtain ⟨h, k, rfl⟩ := half_surj r
  match h with
  | 0 => rw [canon_skip 512 i1 _ _ _ _ (by simp only [half]; omega), canon_hit 0 i0 _ _ k _ _ (by simp only [half]; omega)]; exact h0 k
  | 1 => rw [canon_hit 512 i1 _ _ k _ _ (by simp only [half]; omega)]; exact h1 k

end Bands

/-- A half's product is the block's. -/
theorem prod_vec {K : ℕ} (w : DotDims.WF (⟨2, ![512, K]⟩ : Shape) (⟨2, ![K, 1024]⟩ : Shape) H [1] [0] [0] [1] [] []) (v : FVec Ideal (⟨2, ![512, K]⟩ : Shape) .bf16)
    (x0 : FVec Ideal (⟨2, ![1024, K]⟩ : Shape) .bf16) (x1 : FVec Ideal (⟨2, ![K, 1024]⟩ : Shape) .bf16) (h : Fin 2) (k : Fin 512)
    (hv : ∀ l : Fin K, v (ix2 k l) = x0 (ix2 (half h k) l)) (j : Fin 1024) :
    matmul (⟨[1], [0], [0], [1], [], [], w⟩ : DotDims _ _ _) none v x1 (constant H .f32 0x00000000#32) (ix2 k j) = dhf x0 x1 (half h k) j :=
  (Cert.Prod.unit_nn none w v x1 k j).trans (Finset.sum_congr rfl fun l _ => congrArg (· * x1 (ix2 l j)) (hv l))

/-- The trunk with a half's normalised rows. -/
theorem x_vec (y x : FVec Ideal H .f32) (g : FVec Ideal R .f32) (hr : H.Reduces [1] (⟨1, ![512]⟩ : Shape)) (hs : (⟨1, ![512]⟩ : Shape).ShapeCasts C) (hf) (hb : C.Broadcasts H)
    (hg : R.Broadcasts H) (r : Fin 512) (j : Fin 1024) :
    addf x (mulf (mulf y (broadcastTo H (rsqrt (addf (divf (shapeCast C (multiReduction .add [1] (⟨1, ![512]⟩ : Shape) (mulf y y) 0x00000000#32 hr hf rfl) hs)
        (broadcast C (Scalar.ofBits (F := Ideal) .f32 0x44800000#32))) (broadcast C (Scalar.ofBits (F := Ideal) .f32 0x358637BD#32)))) hb)) (broadcastTo H g hg)) (ix2 r j)
      = x (ix2 r j) + nrow (row y r) j * g (ix2 (0 : Fin 1) j) := by
  rw [addf_apply, mulf_apply, nrow_vec, over_rows]

/-- A half's normalised rows with their gain. -/
theorem h_vec (x : FVec Ideal H .f32) (g : FVec Ideal R .f32) (hr : H.Reduces [1] (⟨1, ![512]⟩ : Shape)) (hs : (⟨1, ![512]⟩ : Shape).ShapeCasts C) (hf) (hb : C.Broadcasts H)
    (hg : R.Broadcasts H) (r : Fin 512) (j : Fin 1024) :
    mulf (mulf x (broadcastTo H (rsqrt (addf (divf (shapeCast C (multiReduction .add [1] (⟨1, ![512]⟩ : Shape) (mulf x x) 0x00000000#32 hr hf rfl) hs)
        (broadcast C (Scalar.ofBits (F := Ideal) .f32 0x44800000#32))) (broadcast C (Scalar.ofBits (F := Ideal) .f32 0x358637BD#32)))) hb)) (broadcastTo H g hg) (ix2 r j)
      = nrow (row x r) j * g (ix2 (0 : Fin 1) j) := by
  rw [mulf_apply, nrow_vec, over_rows]

/-- Row `r` of the `n`-th block of 1024 of 8192 rows. -/
def brow (n : ℕ) (hn : n < 8) (r : Fin 1024) : Fin 8192 := ⟨1024 * n + r.val, by omega⟩

/-- Every row is in a block. -/
theorem brow_surj (p : Fin 8192) : ∃ (n : ℕ) (hn : n < 8) (r : Fin 1024), brow n hn r = p :=
  ⟨p.val / 1024, by omega, ⟨p.val % 1024, Nat.mod_lt _ (by decide)⟩, Fin.ext (Nat.div_add_mod p.val 1024)⟩

end Cert.Half

end
-- ==== Proof.LossHeadOut.lean ====
/-
  The last layer's product with the loss: what one grid point leaves in the four result blocks. The halves' stores are two
  bands of 512 rows; the gain's gradient and the loss are what was there with the point's part added (at the first point,
  added to zero).
-/
module

public import proofs.«01_k».proof.Proof.Half
public import proofs.«01_k».proof.Proof.Gen.LossHeadIdeal.Value

@[expose] public section

set_option maxRecDepth 16384

noncomputable section

namespace Cert.Loss

open Cert.Rows (rt back row width dhf)
open Cert.Half (xof nrow xof_congr dhf_row)
open Idealize.ShloMosaic Idealize.ShloMosaic.ValueIdx
open scoped BigOperators

/-- One half. -/
abbrev hlf : EReal := Ideal.ofBits .f32 0x3F000000#32
/-- One over the number of columns. -/
abbrev inv : EReal := Ideal.ofBits .f32 0x3A800000#32

/-! ### Formulas, over any number of rows -/

section Formulas
variable {n K : ℕ} (A : (⟨2, ![n, K]⟩ : Shape).Idx → EReal) (W : (⟨2, ![K, 1024]⟩ : Shape).Idx → EReal) (X : (⟨2, ![n, 1024]⟩ : Shape).Idx → EReal)
  (G : Fin 1024 → EReal) (T : (⟨2, ![n, 1024]⟩ : Shape).Idx → EReal)
/-- The last activations less the target. -/
def ef (r : Fin n) (j : Fin 1024) : EReal := xof A W X G r j - T (ix2 r j)
/-- The loss's gradient with respect to the last activations. -/
def df (r : Fin n) (j : Fin 1024) : EReal := ef A W X G T r j * inv
/-- A row's part of the gain's gradient. -/
def gf (r : Fin n) (j : Fin 1024) : EReal := df A W X G T r j * nrow (fun k => dhf A W r k) j
/-- The loss's gradient with respect to the product. -/
def yf (r : Fin n) (j : Fin 1024) : EReal := back (fun k => dhf A W r k) (fun k => df A W X G T r k * G k) j
/-- The mean of the squares of a row of differences. -/
def lf (r : Fin n) : EReal := Ideal.div (∑ j, ef A W X G T r j * ef A W X G T r j) width
end Formulas

section Congr
variable {n n' K : ℕ} {A : (⟨2, ![n, K]⟩ : Shape).Idx → EReal} {A' : (⟨2, ![n', K]⟩ : Shape).Idx → EReal} (W : (⟨2, ![K, 1024]⟩ : Shape).Idx → EReal)
  {X T : (⟨2, ![n, 1024]⟩ : Shape).Idx → EReal} {X' T' : (⟨2, ![n', 1024]⟩ : Shape).Idx → EReal} (G : Fin 1024 → EReal) {r : Fin n} {p : Fin n'}
  (hA : ∀ l, A (ix2 r l) = A' (ix2 p l)) (hX : ∀ l, X (ix2 r l) = X' (ix2 p l)) (hT : ∀ l, T (ix2 r l) = T' (ix2 p l))
include hA hX hT

/-- Equal rows have equal differences. -/
theorem ef_congr (j) : ef A W X G T r j = ef A' W X' G T' p j := by
  unfold ef; rw [xof_congr W G hA hX, hT]
/-- Equal rows have equal gradients. -/
theorem df_congr (j) : df A W X G T r j = df A' W X' G T' p j := by
  unfold df; rw [ef_congr W G hA hX hT]
/-- Equal rows have equal parts of the gain's gradient. -/
theorem gf_congr (j) : gf A W X G T r j = gf A' W X' G T' p j := by
  unfold gf; rw [df_congr W G hA hX hT, dhf_row W hA]
/-- Equal rows have equal gradients of the product. -/
theorem yf_congr (j) : yf A W X G T r j = yf A' W X' G T' p j := by
  unfold yf; rw [dhf_row W hA]; simp only [df_congr W G hA hX hT]
/-- Equal rows have equal parts of the loss. -/
theorem lf_congr : lf A W X G T r = lf A' W X' G T' p := by
  unfold lf; simp only [ef_congr W G hA hX hT]
end Congr

/-- One half, as a number. -/
theorem hlf_eq : hlf = ((1 / 2 : ℝ) : EReal) := by
  simp [hlf, Ideal.ofBits, Ideal.ieee]; rw [← EReal.coe_mul]; norm_num

/-- A half of a sum is the sum of the halves. -/
theorem hlf_sum {ι : Type*} (s : Finset ι) (f : ι → EReal) : hlf * ∑ k ∈ s, f k = ∑ k ∈ s, hlf * f k := by
  rw [hlf_eq, mul_comm, Cert.Rows.sum_mul_coe _ _ (by norm_num)]
  exact Finset.sum_congr rfl fun k _ => mul_comm _ _

end Cert.Loss

namespace Cert.LossHeadIdeal.RefValue

open Cert.LossHeadIdeal Cert.LossHeadIdeal.Gen Cert.Half Cert.Loss Idealize.ShloMosaic Idealize.ShloMosaic.TcCoe Idealize.SL.Sem Idealize.ShloMosaic.ValueIdx
open Cert.Rows (rt back row width dhf)
open scoped BigOperators

/-- Zero offsets, of two axes. -/
theorem hz : (![0, 0] : Fin 2 → Nat) = fun _ => 0 := funext fun a => by fin_cases a <;> rfl
/-- Zero offsets, of three axes. -/
theorem hz3 : (![0, 0, 0] : Fin 3 → Nat) = fun _ => 0 := funext fun a => by fin_cases a <;> rfl

/-! ### The second half's payloads are the first's -/

section Names
variable (w : Vec Ideal S2816x1024 .bf16) (g : Vec Ideal S1x1x1024 .f32) (a : Vec Ideal S512x2816 .bf16) (x t : Vec Ideal S512x1024 .f32)
  (l : Vec Ideal S1x128 .f32) (acc : Vec Ideal S1x1024 .f32)
/-- The gradient of the last activations. -/
theorem e22 : k0_pay22 (F := Ideal) (k0_pay4 g) (k0_pay15 w a) (k0_pay16 w a) k0_pay17 x t = k0_pay12 (k0_pay8 w g a x t) := rfl
/-- The gradient of the product. -/
theorem e23 : k0_pay23 (F := Ideal) (k0_pay4 g) (k0_pay15 w a) (k0_pay16 w a) k0_pay17 x t = k0_pay13 (k0_pay4 g) (k0_pay6 w a) (k0_pay7 w a) (k0_pay8 w g a x t) := rfl
/-- The loss. -/
theorem e21 : k0_pay21 (F := Ideal) (k0_pay4 g) (k0_pay15 w a) (k0_pay16 w a) k0_pay17 x t l
    = k0_pay11 (k0_pay9 l) (k0_pay10 w g a x t) (Scalar.ofBits .f32 0x3F000000#32) := rfl
/-- The gain's gradient. -/
theorem e1 : k0_pay1 (F := Ideal) (k0_pay19 (k0_pay15 w a) (k0_pay16 w a) k0_pay17) (k0_pay22 (k0_pay4 g) (k0_pay15 w a) (k0_pay16 w a) k0_pay17 x t) acc
    = k0_pay14 (k0_pay7 w a) (k0_pay8 w g a x t) acc := rfl
end Names

/-! ### One half of a block -/

/-- A gain, as a function of the column. -/
abbrev gain (g : Vec Ideal S1x1x1024 .f32) : Fin 1024 → EReal := fun k => g (ix3 (0 : Fin 1) (0 : Fin 1) k)

section Halves
variable (x0 : Vec Ideal S1024x2816 .bf16) (x1 : Vec Ideal S2816x1024 .bf16) (x2 : Vec Ideal S1024x1024 .f32) (x3 : Vec Ideal S1x1x1024 .f32) (x4 : Vec Ideal S1024x1024 .f32)
  (o : ℕ) (ia : ∀ a, (![o, 0] : Fin 2 → ℕ) a + (![512, 2816] : Fin 2 → ℕ) a ≤ (⟨2, ![1024, 2816]⟩ : Shape).size a)
  (ib : ∀ a, (![o, 0] : Fin 2 → ℕ) a + (![512, 1024] : Fin 2 → ℕ) a ≤ (⟨2, ![1024, 1024]⟩ : Shape).size a) (h : Fin 2) (ho : o = 512 * h.val)
include ho

/-- The product, in a half. -/
theorem n5 (k : Fin 512) (j : Fin 1024) : k0_pay5 (F := Ideal) x1 (band x0 o ia) (ix2 k j) = dhf x0 x1 (half h k) j := by
  unfold k0_pay5
  exact prod_vec _ _ x0 x1 h k (fun l => band_apply x0 o ia h ho k l) j

/-- A row of the product, in a half. -/
theorem n5_row (k : Fin 512) : row (k0_pay5 (F := Ideal) x1 (band x0 o ia)) k = fun j => dhf x0 x1 (half h k) j := funext fun l => n5 x0 x1 o ia h ho k l

/-- The rows' factors, in a half. -/
theorem n6 (k : Fin 512) : k0_pay6 (F := Ideal) x1 (band x0 o ia) (ix2 k (0 : Fin 1)) = rt (fun j => dhf x0 x1 (half h k) j) := by
  unfold k0_pay6
  refine (rt_vec _ _ _ _ k).trans ?_
  rw [n5_row x0 x1 o ia h ho]

/-- The normalised rows, in a half. -/
theorem n7 (k : Fin 512) (j : Fin 1024) : k0_pay7 (F := Ideal) x1 (band x0 o ia) (ix2 k j) = nrow (fun j => dhf x0 x1 (half h k) j) j := by
  unfold k0_pay7
  rw [mulf_apply, over_cols, n6 x0 x1 o ia h ho, n5 x0 x1 o ia h ho]

/-- The differences, in a half. -/
theorem n8 (k : Fin 512) (j : Fin 1024) : k0_pay8 (F := Ideal) x1 x3 (band x0 o ia) (band x2 o ib) (band x4 o ib) (ix2 k j) = ef x0 x1 x2 (gain x3) x4 (half h k) j := by
  unfold k0_pay8
  rw [subf_apply, addf_apply, mulf_apply, over_rows, n7 x0 x1 o ia h ho, band_apply x2 o ib h ho, band_apply x4 o ib h ho, show k0_pay4 (F := Ideal) x3 (ix2 (0 : Fin 1) j) = gain x3 j from slab_row _ _ j]
  rfl

/-- The sum of the rows' mean squares, in a half. -/
theorem n10 : k0_pay10 (F := Ideal) x1 x3 (band x0 o ia) (band x2 o ib) (band x4 o ib) = ∑ k, lf x0 x1 x2 (gain x3) x4 (half h k) := by
  unfold k0_pay10
  refine (total _ _ _ _ _ _).trans (Finset.sum_congr rfl fun k _ => ?_)
  rw [divf_apply, rowsum]
  simp only [mulf_apply, n8 x0 x1 x2 x3 x4 o ia ib h ho]
  rfl

/-- The loss with a half's part added. -/
theorem n11 (l : Vec Ideal S1x128 .f32) (j : Fin 128) :
    k0_pay11 (F := Ideal) (k0_pay9 l) (k0_pay10 x1 x3 (band x0 o ia) (band x2 o ib) (band x4 o ib)) (Scalar.ofBits .f32 0x3F000000#32) (ix2 (0 : Fin 1) j)
      = l (ix2 (0 : Fin 1) j) + ∑ k, hlf * lf x0 x1 x2 (gain x3) x4 (half h k) := by
  unfold k0_pay11 k0_pay9
  rw [addf_apply, shapeCast_self, n10 x0 x1 x2 x3 x4 o ia ib h ho, ← hlf_sum]
  rfl

/-- The gradient of the last activations, in a half. -/
theorem n12 (k : Fin 512) (j : Fin 1024) :
    k0_pay12 (F := Ideal) (k0_pay8 x1 x3 (band x0 o ia) (band x2 o ib) (band x4 o ib)) (ix2 k j) = df x0 x1 x2 (gain x3) x4 (half h k) j := by
  unfold k0_pay12
  rw [mulf_apply, n8 x0 x1 x2 x3 x4 o ia ib h ho]
  rfl

/-- The gradient of the product, in a half. -/
theorem n13 (k : Fin 512) (j : Fin 1024) :
    k0_pay13 (F := Ideal) (k0_pay4 x3) (k0_pay6 x1 (band x0 o ia)) (k0_pay7 x1 (band x0 o ia)) (k0_pay8 x1 x3 (band x0 o ia) (band x2 o ib) (band x4 o ib)) (ix2 k j)
      = yf x0 x1 x2 (gain x3) x4 (half h k) j := by
  have hg : ∀ j, k0_pay4 (F := Ideal) x3 (ix2 (0 : Fin 1) j) = gain x3 j := fun j => slab_row _ _ j
  unfold k0_pay13
  dsimp only
  rw [truncf_apply, mulf_apply, subf_apply, mulf_apply, mulf_apply, over_cols, over_cols, over_rows, n6 x0 x1 o ia h ho, n7 x0 x1 o ia h ho, n12 x0 x1 x2 x3 x4 o ia ib h ho, hg, divf_apply, rowsum]
  simp only [mulf_apply, over_rows, n7 x0 x1 o ia h ho, n12 x0 x1 x2 x3 x4 o ia ib h ho, hg]
  rfl

/-- The gain's gradient with a half's part added. -/
theorem n14 (acc : Vec Ideal S1x1024 .f32) (j : Fin 1024) :
    k0_pay14 (F := Ideal) (k0_pay7 x1 (band x0 o ia)) (k0_pay8 x1 x3 (band x0 o ia) (band x2 o ib) (band x4 o ib)) acc (ix2 (0 : Fin 1) j)
      = acc (ix2 (0 : Fin 1) j) + ∑ k, gf x0 x1 x2 (gain x3) x4 (half h k) j := by
  unfold k0_pay14
  dsimp only
  rw [addf_apply, shapeCast_self, colsum]
  simp only [mulf_apply, n7 x0 x1 o ia h ho, n12 x0 x1 x2 x3 x4 o ia ib h ho]
  rfl
end Halves

/-- The zero row. -/
theorem pay2_apply (y) : k0_pay2 (F := Ideal) y = 0 := by
  unfold k0_pay2; exact Ideal.ofBits_zero_f32
/-- The zero row of the loss. -/
theorem pay3_apply (y) : k0_pay3 (F := Ideal) y = 0 := by
  unfold k0_pay3; exact Ideal.ofBits_zero_f32

/-! ### The blocks after a point -/

section Points
variable {x0 : Vec Ideal S1024x2816 .bf16} {x1 : Vec Ideal S2816x1024 .bf16} {x2 : Vec Ideal S1024x1024 .f32} {x3 : Vec Ideal S1x1x1024 .f32} {x4 : Vec Ideal S1024x1024 .f32}
variable {c : Dev nD} {i : grid0.Coords} {a1 : Memref sig .tc .vmem S1024x2816 .bf16} {h1 : a1.IsWhole} {a2 : Memref sig .tc .vmem S2816x1024 .bf16} {h2 : a2.IsWhole} {a3 : Memref sig .tc .vmem S1024x1024 .f32} {h3 : a3.IsWhole} {a4 : Memref sig .tc .vmem S1x1x1024 .f32} {h4 : a4.IsWhole} {a5 : Memref sig .tc .vmem S1024x1024 .f32} {h5 : a5.IsWhole} {a6 : Memref sig .tc .vmem S1024x1024 .f32} {h6 : a6.IsWhole} {a7 : Memref sig .tc .vmem S1024x1024 .bf16} {h7 : a7.IsWhole} {a8 : Memref sig .tc .vmem S1x1024 .f32} {h8 : a8.IsWhole} {a9 : Memref sig .tc .vmem S1x128 .f32} {h9 : a9.IsWhole} {y7 : Vec Ideal S1x1024 .f32} {y8 : Vec Ideal S1x128 .f32}

/-- The block of the last activations' gradient, after a later point. -/
theorem out_B_5 {hc : ¬cond0_0 i} (r : Fin 1024) (j : Fin 1024) :
    out0_B_5 c i a1 h1 a2 h2 a3 h3 a4 h4 a5 h5 a6 h6 a7 h7 a8 h8 a9 h9 hc x0 x1 x2 x3 x4 y7 y8 (ix2 r j) = df x0 x1 x2 (gain x3) x4 r j := by
  unfold out0_B_5
  rw [View.read_writes_eq_canon _ _ _ (cover0_B_5 c i a1 h1 a2 h2 a3 h3 a4 h4 a5 h5 a6 h6 a7 h7 a8 h8 a9 h9 hc x0 x1 x2 x3 x4 y7 y8)]
  unfold kernelRun0_B
  dsimp only
  sl_unfold_words
  simp only [View.readAt_eq_ld, h1.read_unread, h2.read_unread, h3.read_unread, h4.read_unread, h5.read_unread, h8.read_unread, h9.read_unread, e1, e21, e22, e23,
    View.ld_unit_zero (S := S2816x1024) hz, View.ld_unit_zero (S := S1x1x1024) hz3, View.ld_unit_zero (S := S1x1024) hz, View.ld_unit_zero (S := S1x128) hz]
  refine canon_halves (Val := Elt Ideal) (e := .f32) _ _ _ _ _ (fun r => df x0 x1 x2 (gain x3) x4 r j) j (fun v => v) ?_ ?_ r
  · exact fun k => n12 x0 x1 x2 x3 x4 0 _ _ 0 rfl k j
  · exact fun k => n12 x0 x1 x2 x3 x4 512 _ _ 1 rfl k j

/-- The block of the product's gradient, after a later point. -/
theorem out_B_6 {hc : ¬cond0_0 i} (r : Fin 1024) (j : Fin 1024) :
    out0_B_6 c i a1 h1 a2 h2 a3 h3 a4 h4 a5 h5 a6 h6 a7 h7 a8 h8 a9 h9 hc x0 x1 x2 x3 x4 y7 y8 (ix2 r j) = yf x0 x1 x2 (gain x3) x4 r j := by
  unfold out0_B_6
  rw [View.read_writes_eq_canon _ _ _ (cover0_B_6 c i a1 h1 a2 h2 a3 h3 a4 h4 a5 h5 a6 h6 a7 h7 a8 h8 a9 h9 hc x0 x1 x2 x3 x4 y7 y8)]
  unfold kernelRun0_B
  dsimp only
  sl_unfold_words
  simp only [View.readAt_eq_ld, h1.read_unread, h2.read_unread, h3.read_unread, h4.read_unread, h5.read_unread, h8.read_unread, h9.read_unread, e1, e21, e22, e23,
    View.ld_unit_zero (S := S2816x1024) hz, View.ld_unit_zero (S := S1x1x1024) hz3, View.ld_unit_zero (S := S1x1024) hz, View.ld_unit_zero (S := S1x128) hz]
  refine canon_halves (Val := Elt Ideal) (e := .bf16) _ _ _ _ _ (fun r => yf x0 x1 x2 (gain x3) x4 r j) j (fun v => v) ?_ ?_ r
  · exact fun k => n13 x0 x1 x2 x3 x4 0 _ _ 0 rfl k j
  · exact fun k => n13 x0 x1 x2 x3 x4 512 _ _ 1 rfl k j

/-- The gain's gradient, after a later point. -/
theorem out_B_7 {hc : ¬cond0_0 i} (j : Fin 1024) :
    out0_B_7 c i a1 h1 a2 h2 a3 h3 a4 h4 a5 h5 a6 h6 a7 h7 a8 h8 a9 h9 hc x0 x1 x2 x3 x4 y7 y8 (ix2 (0 : Fin 1) j)
      = y7 (ix2 (0 : Fin 1) j) + ∑ r : Fin 1024, gf x0 x1 x2 (gain x3) x4 r j := by
  unfold out0_B_7
  rw [View.read_writes_eq_canon _ _ _ (cover0_B_7 c i a1 h1 a2 h2 a3 h3 a4 h4 a5 h5 a6 h6 a7 h7 a8 h8 a9 h9 hc x0 x1 x2 x3 x4 y7 y8)]
  unfold kernelRun0_B
  dsimp only
  sl_unfold_words
  simp only [View.readAt_eq_ld, h1.read_unread, h2.read_unread, h3.read_unread, h4.read_unread, h5.read_unread, h8.read_unread, h9.read_unread, e1, e21, e22, e23,
    View.ld_unit_zero (S := S2816x1024) hz, View.ld_unit_zero (S := S1x1x1024) hz3, View.ld_unit_zero (S := S1x1024) hz, View.ld_unit_zero (S := S1x128) hz]
  rw [View.canon_cons_unit_zero (S := S1x1024) hz]
  refine (n14 x0 x1 x2 x3 x4 512 _ _ 1 rfl _ j).trans ?_
  rw [Cert.Prod.readCov_last]
  refine (congrArg (· + _) (n14 x0 x1 x2 x3 x4 0 _ _ 0 rfl _ j)).trans ?_
  rw [sum_halves, add_assoc]

/-- The loss, after a later point. -/
theorem out_B_8 {hc : ¬cond0_0 i} (j : Fin 128) :
    out0_B_8 c i a1 h1 a2 h2 a3 h3 a4 h4 a5 h5 a6 h6 a7 h7 a8 h8 a9 h9 hc x0 x1 x2 x3 x4 y7 y8 (ix2 (0 : Fin 1) j)
      = y8 (ix2 (0 : Fin 1) j) + ∑ r : Fin 1024, hlf * lf x0 x1 x2 (gain x3) x4 r := by
  unfold out0_B_8
  rw [View.read_writes_eq_canon _ _ _ (cover0_B_8 c i a1 h1 a2 h2 a3 h3 a4 h4 a5 h5 a6 h6 a7 h7 a8 h8 a9 h9 hc x0 x1 x2 x3 x4 y7 y8)]
  unfold kernelRun0_B
  dsimp only
  sl_unfold_words
  simp only [View.readAt_eq_ld, h1.read_unread, h2.read_unread, h3.read_unread, h4.read_unread, h5.read_unread, h8.read_unread, h9.read_unread, e1, e21, e22, e23,
    View.ld_unit_zero (S := S2816x1024) hz, View.ld_unit_zero (S := S1x1x1024) hz3, View.ld_unit_zero (S := S1x1024) hz, View.ld_unit_zero (S := S1x128) hz]
  rw [View.canon_cons_unit_zero (S := S1x128) hz]
  refine (n11 x0 x1 x2 x3 x4 512 _ _ 1 rfl _ j).trans ?_
  rw [Cert.Prod.readCov_last]
  refine (congrArg (· + _) (n11 x0 x1 x2 x3 x4 0 _ _ 0 rfl _ j)).trans ?_
  rw [sum_halves, add_assoc]

/-- The block of the last activations' gradient, after the first point. -/
theorem out_A_5 {hc : cond0_0 i} (r : Fin 1024) (j : Fin 1024) :
    out0_A_5 c i a1 h1 a2 h2 a3 h3 a4 h4 a5 h5 a6 h6 a7 h7 a8 h8 a9 h9 hc x0 x1 x2 x3 x4 (ix2 r j) = df x0 x1 x2 (gain x3) x4 r j := by
  unfold out0_A_5
  rw [View.read_writes_eq_canon _ _ _ (cover0_A_5 c i a1 h1 a2 h2 a3 h3 a4 h4 a5 h5 a6 h6 a7 h7 a8 h8 a9 h9 hc x0 x1 x2 x3 x4)]
  unfold kernelRun0_A
  dsimp only
  sl_unfold_words
  simp only [View.readAt_eq_ld, h1.read_unread, h2.read_unread, h3.read_unread, h4.read_unread, h5.read_unread, h8.read_unread, h9.read_unread, e1, e21, e22, e23,
    View.ld_unit_zero (S := S2816x1024) hz, View.ld_unit_zero (S := S1x1x1024) hz3, View.ld_unit_zero (S := S1x1024) hz, View.ld_unit_zero (S := S1x128) hz]
  refine canon_halves (Val := Elt Ideal) (e := .f32) _ _ _ _ _ (fun r => df x0 x1 x2 (gain x3) x4 r j) j (fun v => v) ?_ ?_ r
  · exact fun k => n12 x0 x1 x2 x3 x4 0 _ _ 0 rfl k j
  · exact fun k => n12 x0 x1 x2 x3 x4 512 _ _ 1 rfl k j

/-- The block of the product's gradient, after the first point. -/
theorem out_A_6 {hc : cond0_0 i} (r : Fin 1024) (j : Fin 1024) :
    out0_A_6 c i a1 h1 a2 h2 a3 h3 a4 h4 a5 h5 a6 h6 a7 h7 a8 h8 a9 h9 hc x0 x1 x2 x3 x4 (ix2 r j) = yf x0 x1 x2 (gain x3) x4 r j := by
  unfold out0_A_6
  rw [View.read_writes_eq_canon _ _ _ (cover0_A_6 c i a1 h1 a2 h2 a3 h3 a4 h4 a5 h5 a6 h6 a7 h7 a8 h8 a9 h9 hc x0 x1 x2 x3 x4)]
  unfold kernelRun0_A
  dsimp only
  sl_unfold_words
  simp only [View.readAt_eq_ld, h1.read_unread, h2.read_unread, h3.read_unread, h4.read_unread, h5.read_unread, h8.read_unread, h9.read_unread, e1, e21, e22, e23,
    View.ld_unit_zero (S := S2816x1024) hz, View.ld_unit_zero (S := S1x1x1024) hz3, View.ld_unit_zero (S := S1x1024) hz, View.ld_unit_zero (S := S1x128) hz]
  refine canon_halves (Val := Elt Ideal) (e := .bf16) _ _ _ _ _ (fun r => yf x0 x1 x2 (gain x3) x4 r j) j (fun v => v) ?_ ?_ r
  · exact fun k => n13 x0 x1 x2 x3 x4 0 _ _ 0 rfl k j
  · exact fun k => n13 x0 x1 x2 x3 x4 512 _ _ 1 rfl k j

/-- The gain's gradient, after the first point. -/
theorem out_A_7 {hc : cond0_0 i} (j : Fin 1024) :
    out0_A_7 c i a1 h1 a2 h2 a3 h3 a4 h4 a5 h5 a6 h6 a7 h7 a8 h8 a9 h9 hc x0 x1 x2 x3 x4 (ix2 (0 : Fin 1) j) = ∑ r : Fin 1024, gf x0 x1 x2 (gain x3) x4 r j := by
  unfold out0_A_7
  rw [View.read_writes_eq_canon _ _ _ (cover0_A_7 c i a1 h1 a2 h2 a3 h3 a4 h4 a5 h5 a6 h6 a7 h7 a8 h8 a9 h9 hc x0 x1 x2 x3 x4)]
  unfold kernelRun0_A
  dsimp only
  sl_unfold_words
  simp only [View.readAt_eq_ld, h1.read_unread, h2.read_unread, h3.read_unread, h4.read_unread, h5.read_unread, h8.read_unread, h9.read_unread, e1, e21, e22, e23,
    View.ld_unit_zero (S := S2816x1024) hz, View.ld_unit_zero (S := S1x1x1024) hz3, View.ld_unit_zero (S := S1x1024) hz, View.ld_unit_zero (S := S1x128) hz]
  rw [View.canon_cons_unit_zero (S := S1x1024) hz]
  refine (n14 x0 x1 x2 x3 x4 512 _ _ 1 rfl _ j).trans ?_
  rw [Cert.Prod.readCov_last]
  refine (congrArg (· + _) (n14 x0 x1 x2 x3 x4 0 _ _ 0 rfl _ j)).trans ?_
  rw [sum_halves, Cert.Prod.readCov_last, show k0_pay2 (F := Ideal) (ix2 (0 : Fin 1) j) = 0 from pay2_apply _, zero_add]

/-- The loss, after the first point. -/
theorem out_A_8 {hc : cond0_0 i} (j : Fin 128) :
    out0_A_8 c i a1 h1 a2 h2 a3 h3 a4 h4 a5 h5 a6 h6 a7 h7 a8 h8 a9 h9 hc x0 x1 x2 x3 x4 (ix2 (0 : Fin 1) j) = ∑ r : Fin 1024, hlf * lf x0 x1 x2 (gain x3) x4 r := by
  unfold out0_A_8
  rw [View.read_writes_eq_canon _ _ _ (cover0_A_8 c i a1 h1 a2 h2 a3 h3 a4 h4 a5 h5 a6 h6 a7 h7 a8 h8 a9 h9 hc x0 x1 x2 x3 x4)]
  unfold kernelRun0_A
  dsimp only
  sl_unfold_words
  simp only [View.readAt_eq_ld, h1.read_unread, h2.read_unread, h3.read_unread, h4.read_unread, h5.read_unread, h8.read_unread, h9.read_unread, e1, e21, e22, e23,
    View.ld_unit_zero (S := S2816x1024) hz, View.ld_unit_zero (S := S1x1x1024) hz3, View.ld_unit_zero (S := S1x1024) hz, View.ld_unit_zero (S := S1x128) hz]
  rw [View.canon_cons_unit_zero (S := S1x128) hz]
  refine (n11 x0 x1 x2 x3 x4 512 _ _ 1 rfl _ j).trans ?_
  rw [Cert.Prod.readCov_last]
  refine (congrArg (· + _) (n11 x0 x1 x2 x3 x4 0 _ _ 0 rfl _ j)).trans ?_
  rw [sum_halves, Cert.Prod.readCov_last, show k0_pay3 (F := Ideal) (ix2 (0 : Fin 1) j) = 0 from pay3_apply _, zero_add]

end Points

end Cert.LossHeadIdeal.RefValue

end
-- ==== Proof.LossHeadEq.lean ====
/-
  The last layer's product with the loss: the arrays after the run, the reference's four results, and that they agree.
-/
module

public import proofs.«01_k».proof.Proof.At
public import proofs.«01_k».proof.Proof.LossHeadOut
public import proofs.«01_k».proof.Proof.Prod
public import proofs.«01_k».proof.Proof.FfnRef
public import proofs.«01_k».proof.Proof.Gen.LossHead.Frame
public import proofs.«01_k».proof.Proof.Gen.LossHeadRefIdeal.Read
public import proofs.«01_k».proof.Defs

@[expose] public section

set_option maxRecDepth 16384

noncomputable section

namespace Cert.LossHeadIdeal.RefValue

open Cert.LossHeadIdeal Cert.LossHeadIdeal.Gen Cert.Half Cert.Loss Idealize.ShloMosaic Idealize.ShloMosaic.TcCoe Idealize.SL.Sem Idealize.ShloMosaic.ValueIdx
open Cert.At (entry2 same2 entry3 whole block)
open Cert.Rows (dhf row)
open scoped BigOperators

variable (m : (ℓ : Loc nD τ sig) → Buf (Elt Ideal) ℓ) (ρ : Dev nD → PrngReg) (c : Dev nD)

/-- The product's left side. -/
abbrev argA : S8192x2816.Idx → EReal := m ((c : Thread nD τ).loc main_arg0)
/-- The weights. -/
abbrev argW : S2816x1024.Idx → EReal := m ((c : Thread nD τ).loc main_arg1)
/-- The trunk. -/
abbrev argX : S8192x1024.Idx → EReal := m ((c : Thread nD τ).loc main_arg2)
/-- The gains. -/
abbrev argG : S4x1x1024.Idx → EReal := m ((c : Thread nD τ).loc main_arg3)
/-- The target. -/
abbrev argT : S8192x1024.Idx → EReal := m ((c : Thread nD τ).loc main_arg4)
/-- The last layer's gain, as a function of the column. -/
abbrev layer (g : S4x1x1024.Idx → EReal) : Fin 1024 → EReal := fun k => g (ix3 (3 : Fin 4) (0 : Fin 1) k)

/-- There are eight points. -/
theorem lt8 (t : Fin cfg0.N) : t.val < 8 := by have hN : cfg0.N = 8 := N_0; have := t.isLt; omega

/-- Which block of the left side each point takes. -/
theorem at0 : ∀ t : Fin cfg0.N, win0_0.index t 0 = t.val ∧ win0_0.index t 1 = 0 :=
  (by decide +kernel : ∀ t : Fin grid0.N, win0_0.index t 0 = t.val ∧ win0_0.index t 1 = 0)
/-- The whole of the weights. -/
theorem at1 : ∀ t : Fin cfg0.N, win0_1.index t 0 = 0 ∧ win0_1.index t 1 = 0 :=
  (by decide +kernel : ∀ t : Fin grid0.N, win0_1.index t 0 = 0 ∧ win0_1.index t 1 = 0)
/-- Which block of the trunk each point takes. -/
theorem at2 : ∀ t : Fin cfg0.N, win0_2.index t 0 = t.val ∧ win0_2.index t 1 = 0 :=
  (by decide +kernel : ∀ t : Fin grid0.N, win0_2.index t 0 = t.val ∧ win0_2.index t 1 = 0)
/-- Which block of the target each point takes. -/
theorem at4 : ∀ t : Fin cfg0.N, win0_4.index t 0 = t.val ∧ win0_4.index t 1 = 0 :=
  (by decide +kernel : ∀ t : Fin grid0.N, win0_4.index t 0 = t.val ∧ win0_4.index t 1 = 0)
/-- Which block of the activations' gradient each point writes. -/
theorem at5 : ∀ t : Fin cfg0.N, win0_5.index t 0 = t.val ∧ win0_5.index t 1 = 0 :=
  (by decide +kernel : ∀ t : Fin grid0.N, win0_5.index t 0 = t.val ∧ win0_5.index t 1 = 0)
/-- Which block of the product's gradient each point writes. -/
theorem at6 : ∀ t : Fin cfg0.N, win0_6.index t 0 = t.val ∧ win0_6.index t 1 = 0 :=
  (by decide +kernel : ∀ t : Fin grid0.N, win0_6.index t 0 = t.val ∧ win0_6.index t 1 = 0)
/-- The whole of the gain's gradient. -/
theorem at7 : ∀ t : Fin cfg0.N, win0_7.index t 0 = 0 ∧ win0_7.index t 1 = 0 :=
  (by decide +kernel : ∀ t : Fin grid0.N, win0_7.index t 0 = 0 ∧ win0_7.index t 1 = 0)
/-- The whole of the loss. -/
theorem at8 : ∀ t : Fin cfg0.N, win0_8.index t 0 = 0 ∧ win0_8.index t 1 = 0 :=
  (by decide +kernel : ∀ t : Fin grid0.N, win0_8.index t 0 = 0 ∧ win0_8.index t 1 = 0)
/-- The last layer's gain. -/
theorem at3 : ∀ t : Fin cfg0.N, win0_3.index t 0 = 3 ∧ win0_3.index t 1 = 0 ∧ win0_3.index t 2 = 0 :=
  (by decide +kernel : ∀ t : Fin grid0.N, win0_3.index t 0 = 3 ∧ win0_3.index t 1 = 0 ∧ win0_3.index t 2 = 0)

/-- The left side's block. -/
theorem blk0 (t : Fin cfg0.N) (r : Fin 1024) (d : Fin 2816) : (iblk m c 0 t : Vec Ideal S1024x2816 .bf16) (ix2 r d) = argA m c (ix2 (brow t.val (lt8 t) r) d) :=
  entry2 (argA m c) _ (block (at0 t).1 1024 r.val) (whole (at0 t).2 2816 d.val)

/-- The weights' block. -/
theorem blk1 (t : Fin cfg0.N) : (iblk m c 1 t : Vec Ideal S2816x1024 .bf16) = argW m c :=
  funext fun i => same2 (argW m c) _ i (whole (at1 t).1 2816 (i 0).val) (whole (at1 t).2 1024 (i 1).val)

/-- The trunk's block. -/
theorem blk2 (t : Fin cfg0.N) (r : Fin 1024) (d : Fin 1024) : (iblk m c 2 t : Vec Ideal S1024x1024 .f32) (ix2 r d) = argX m c (ix2 (brow t.val (lt8 t) r) d) :=
  entry2 (argX m c) _ (block (at2 t).1 1024 r.val) (whole (at2 t).2 1024 d.val)

/-- The gain's block. -/
theorem blk3 (t : Fin cfg0.N) : gain (iblk m c 3 t) = layer (argG m c) :=
  funext fun k => entry3 (argG m c) _ (by show win0_3.index t 0 * 1 + 1 * 0 = 3; rw [(at3 t).1]) (whole (at3 t).2.1 1 0) (whole (at3 t).2.2 1024 k.val)

/-- The target's block. -/
theorem blk4 (t : Fin cfg0.N) (r : Fin 1024) (d : Fin 1024) : (iblk m c 4 t : Vec Ideal S1024x1024 .f32) (ix2 r d) = argT m c (ix2 (brow t.val (lt8 t) r) d) :=
  entry2 (argT m c) _ (block (at4 t).1 1024 r.val) (whole (at4 t).2 1024 d.val)

/-- The block of the activations' gradient after a point. -/
theorem outs5 (t : Fin cfg0.N) (r : Fin 1024) (j : Fin 1024) :
    (outsAt0 m c t.val t.isLt).1 (ix2 r j) = df (argA m c) (argW m c) (argX m c) (layer (argG m c)) (argT m c) (brow t.val (lt8 t) r) j := by
  by_cases h0 : t.val % 8 = 0
  · have e := congrFun (congrArg (fun x => x.1) (outsAt0_A m c t h0)) (ix2 r j)
    dsimp only at e
    refine e.trans ((out_A_5 r j).trans ?_)
    rw [blk1, blk3]
    exact df_congr _ _ (blk0 m c t r) (blk2 m c t r) (blk4 m c t r) j
  · have e := congrFun (congrArg (fun x => x.1) (outsAt0_B m c t h0)) (ix2 r j)
    dsimp only at e
    refine e.trans ((out_B_5 r j).trans ?_)
    rw [blk1, blk3]
    exact df_congr _ _ (blk0 m c t r) (blk2 m c t r) (blk4 m c t r) j

/-- The block of the product's gradient after a point. -/
theorem outs6 (t : Fin cfg0.N) (r : Fin 1024) (j : Fin 1024) :
    (outsAt0 m c t.val t.isLt).2.1 (ix2 r j) = yf (argA m c) (argW m c) (argX m c) (layer (argG m c)) (argT m c) (brow t.val (lt8 t) r) j := by
  by_cases h0 : t.val % 8 = 0
  · have e := congrFun (congrArg (fun x => x.2.1) (outsAt0_A m c t h0)) (ix2 r j)
    dsimp only at e
    refine e.trans ((out_A_6 r j).trans ?_)
    rw [blk1, blk3]
    exact yf_congr _ _ (blk0 m c t r) (blk2 m c t r) (blk4 m c t r) j
  · have e := congrFun (congrArg (fun x => x.2.1) (outsAt0_B m c t h0)) (ix2 r j)
    dsimp only at e
    refine e.trans ((out_B_6 r j).trans ?_)
    rw [blk1, blk3]
    exact yf_congr _ _ (blk0 m c t r) (blk2 m c t r) (blk4 m c t r) j

/-- The first point leaves its own rows' part of the gain's gradient. -/
theorem first7 (t : Fin cfg0.N) (h0 : t.val % 8 = 0) (j : Fin 1024) :
    (outsAt0 m c t.val t.isLt).2.2.1 (ix2 (0 : Fin 1) j) = ∑ r : Fin 1024, gf (argA m c) (argW m c) (argX m c) (layer (argG m c)) (argT m c) (brow t.val (lt8 t) r) j := by
  have e := congrFun (congrArg (fun x => x.2.2.1) (outsAt0_A m c t h0)) (ix2 (0 : Fin 1) j)
  dsimp only at e
  refine e.trans ((out_A_7 j).trans ?_)
  rw [blk1, blk3]
  exact Finset.sum_congr rfl fun r _ => gf_congr _ _ (blk0 m c t r) (blk2 m c t r) (blk4 m c t r) j

/-- Each later point adds its rows' part. -/
theorem next7 (t : Fin cfg0.N) (h0 : ¬t.val % 8 = 0) (j : Fin 1024) :
    (outsAt0 m c t.val t.isLt).2.2.1 (ix2 (0 : Fin 1) j)
      = (outsAt0 m c (t.val - 1) (Nat.lt_of_le_of_lt (Nat.sub_le _ _) t.isLt)).2.2.1 (ix2 (0 : Fin 1) j) + ∑ r : Fin 1024, gf (argA m c) (argW m c) (argX m c) (layer (argG m c)) (argT m c) (brow t.val (lt8 t) r) j := by
  have e := congrFun (congrArg (fun x => x.2.2.1) (outsAt0_B m c t h0)) (ix2 (0 : Fin 1) j)
  dsimp only at e
  refine e.trans ((out_B_7 j).trans ?_)
  rw [blk1, blk3]
  exact congrArg ((outsAt0 m c (t.val - 1) (Nat.lt_of_le_of_lt (Nat.sub_le _ _) t.isLt)).2.2.1 (ix2 (0 : Fin 1) j) + ·) (Finset.sum_congr rfl fun r _ => gf_congr _ _ (blk0 m c t r) (blk2 m c t r) (blk4 m c t r) j)

/-- The first point leaves its own rows' part of the loss. -/
theorem first8 (t : Fin cfg0.N) (h0 : t.val % 8 = 0) (j : Fin 128) :
    (outsAt0 m c t.val t.isLt).2.2.2 (ix2 (0 : Fin 1) j) = ∑ r : Fin 1024, hlf * lf (argA m c) (argW m c) (argX m c) (layer (argG m c)) (argT m c) (brow t.val (lt8 t) r) := by
  have e := congrFun (congrArg (fun x => x.2.2.2) (outsAt0_A m c t h0)) (ix2 (0 : Fin 1) j)
  dsimp only at e
  refine e.trans ((out_A_8 j).trans ?_)
  rw [blk1, blk3]
  exact Finset.sum_congr rfl fun r _ => congrArg (hlf * ·) (lf_congr _ _ (blk0 m c t r) (blk2 m c t r) (blk4 m c t r))

/-- Each later point adds its rows' part. -/
theorem next8 (t : Fin cfg0.N) (h0 : ¬t.val % 8 = 0) (j : Fin 128) :
    (outsAt0 m c t.val t.isLt).2.2.2 (ix2 (0 : Fin 1) j)
      = (outsAt0 m c (t.val - 1) (Nat.lt_of_le_of_lt (Nat.sub_le _ _) t.isLt)).2.2.2 (ix2 (0 : Fin 1) j) + ∑ r : Fin 1024, hlf * lf (argA m c) (argW m c) (argX m c) (layer (argG m c)) (argT m c) (brow t.val (lt8 t) r) := by
  have e := congrFun (congrArg (fun x => x.2.2.2) (outsAt0_B m c t h0)) (ix2 (0 : Fin 1) j)
  dsimp only at e
  refine e.trans ((out_B_8 j).trans ?_)
  rw [blk1, blk3]
  exact congrArg ((outsAt0 m c (t.val - 1) (Nat.lt_of_le_of_lt (Nat.sub_le _ _) t.isLt)).2.2.2 (ix2 (0 : Fin 1) j) + ·) (Finset.sum_congr rfl fun r _ => congrArg (hlf * ·) (lf_congr _ _ (blk0 m c t r) (blk2 m c t r) (blk4 m c t r)))

/-- The last point. -/
theorem last : 7 < cfg0.N := by rw [show cfg0.N = 8 from N_0]; decide

/-- The activations' gradient after the run. -/
theorem arr5 (p : Fin 8192) (j : Fin 1024) : (dats m 0 c).arrAt 5 cfg0.N (ix2 p j) = df (argA m c) (argW m c) (argX m c) (layer (argG m c)) (argT m c) p j := by
  obtain ⟨n, hn, r, rfl⟩ := brow_surj p
  let t : Fin cfg0.N := ⟨n, by rw [show cfg0.N = 8 from N_0]; exact hn⟩
  have e := congrFun (Value.blocks5 m c t (flush0_5 t)) (ix2 r j)
  rw [View.read_apply, Value.flushed5] at e
  have hi : ((cfg0.win 5).blk t).view.emb (ix2 r j) = (ix2 (brow n hn r) j : S8192x1024.Idx) :=
    entry2 id _ (block (at5 t).1 1024 r.val) (whole (at5 t).2 1024 j.val)
  rw [hi] at e
  exact e.trans (outs5 m c t r j)

/-- The product's gradient after the run. -/
theorem arr6 (p : Fin 8192) (j : Fin 1024) : (dats m 0 c).arrAt 6 cfg0.N (ix2 p j) = yf (argA m c) (argW m c) (argX m c) (layer (argG m c)) (argT m c) p j := by
  obtain ⟨n, hn, r, rfl⟩ := brow_surj p
  let t : Fin cfg0.N := ⟨n, by rw [show cfg0.N = 8 from N_0]; exact hn⟩
  have e := congrFun (Value.blocks6 m c t (flush0_6 t)) (ix2 r j)
  rw [View.read_apply, Value.flushed6] at e
  have hi : ((cfg0.win 6).blk t).view.emb (ix2 r j) = (ix2 (brow n hn r) j : S8192x1024.Idx) :=
    entry2 id _ (block (at6 t).1 1024 r.val) (whole (at6 t).2 1024 j.val)
  rw [hi] at e
  exact e.trans (outs6 m c t r j)

/-- The last point's value of a running sum over the points is the sum over the rows. -/
theorem chain8 (f : Fin 8192 → EReal) (o : (n : ℕ) → n < cfg0.N → EReal) (h0 : ∀ t : Fin cfg0.N, t.val % 8 = 0 → o t.val t.isLt = ∑ r : Fin 1024, f (brow t.val (lt8 t) r))
    (hs : ∀ t : Fin cfg0.N, ¬t.val % 8 = 0 → o t.val t.isLt = o (t.val - 1) (Nat.lt_of_le_of_lt (Nat.sub_le _ _) t.isLt) + ∑ r : Fin 1024, f (brow t.val (lt8 t) r)) :
    o 7 last = ∑ p, f p := by
  have hN : cfg0.N = 8 := N_0
  have hb : ∀ n, n < 8 → n < cfg0.N := fun n hn => by omega
  refine Cert.Prod.chain (K := 8192) (b := 1024) (g := 8) rfl (by decide) f (fun n hn => o n (hb n hn)) ?_ ?_ (by decide)
  · exact h0 ⟨0, hb 0 (by decide)⟩ rfl
  · exact fun n hn => hs ⟨n + 1, hb _ hn⟩ (by dsimp only; omega)

/-- The gain's gradient is written back after the last point. -/
theorem flushed7_eq (t : Fin cfg0.N) (hf : (cfg0.win 7).flush t = true) :
    (dats m 0 c).flushed 7 t = ((cfg0.win 7).blk t).view.read (Elt Ideal) ((outsAt0 m c 7 last).2.2.1 : Buf (Elt Ideal) ((c : Thread nD τ).loc main_v0_2)) := by
  have ht : t.val = 7 := by have := (flush0_7 t).mp hf; have := lt8 t; omega
  obtain rfl : t = ⟨7, last⟩ := Fin.ext ht
  rw [Value.flushed7]
  have hz' : (fun a => win0_7.index (⟨7, last⟩ : Fin cfg0.N) a * main_v0_2.ty.shape.size a) = fun _ => 0 := funext fun a => by fin_cases a <;> decide +kernel
  exact (Memref.read_access_unit_zero (Elt Ideal) main_v0_2 hz' (fun a => by rw [congrFun hz' a]; simp) ((outsAt0 m c 7 last).2.2.1 : Buf (Elt Ideal) ((c : Thread nD τ).loc main_v0_2))).symm

/-- The gain's gradient in the array is what the last point left. -/
theorem final7 : (dats m 0 c).arrAt 7 cfg0.N = ((outsAt0 m c 7 last).2.2.1 : Buf (Elt Ideal) ((c : Thread nD τ).loc main_v0_2)) :=
  (dats m 0 c).arrAt_eq_of_cover 7 _ (flushed7_eq m c) fun i =>
    ⟨⟨7, last⟩, (flush0_7 _).mpr rfl, by
      show i ∈ ((View.whole main_v0_2).slice (win0_7.rect ⟨7, last⟩)).set
      rw [View.set_slice_whole, Rect.mem_set_unit]
      intro a
      have h0 : (i 0 : Nat) < 1 := (i 0).isLt
      have h1 : (i 1 : Nat) < 1024 := (i 1).isLt
      match a with
      | ⟨0, _⟩ => show win0_7.index ⟨7, last⟩ 0 * 1 ≤ (i 0 : Nat) ∧ (i 0 : Nat) < win0_7.index ⟨7, last⟩ 0 * 1 + 1
                  rw [(at7 _).1]; omega
      | ⟨1, _⟩ => show win0_7.index ⟨7, last⟩ 1 * 1024 ≤ (i 1 : Nat) ∧ (i 1 : Nat) < win0_7.index ⟨7, last⟩ 1 * 1024 + 1024
                  rw [(at7 _).2]; omega⟩

/-- The gain's gradient after the run: the sum over the rows. -/
theorem arr7 (j : Fin 1024) : (dats m 0 c).arrAt 7 cfg0.N (ix2 (0 : Fin 1) j) = ∑ p : Fin 8192, gf (argA m c) (argW m c) (argX m c) (layer (argG m c)) (argT m c) p j := by
  rw [final7]
  exact chain8 (fun p => gf (argA m c) (argW m c) (argX m c) (layer (argG m c)) (argT m c) p j) (fun n hn => (outsAt0 m c n hn).2.2.1 (ix2 (0 : Fin 1) j)) (fun t h => first7 m c t h j) (fun t h => next7 m c t h j)

/-- The loss is written back after the last point. -/
theorem flushed8_eq (t : Fin cfg0.N) (hf : (cfg0.win 8).flush t = true) :
    (dats m 0 c).flushed 8 t = ((cfg0.win 8).blk t).view.read (Elt Ideal) ((outsAt0 m c 7 last).2.2.2 : Buf (Elt Ideal) ((c : Thread nD τ).loc main_v0_3)) := by
  have ht : t.val = 7 := by have := (flush0_8 t).mp hf; have := lt8 t; omega
  obtain rfl : t = ⟨7, last⟩ := Fin.ext ht
  rw [Value.flushed8]
  have hz' : (fun a => win0_8.index (⟨7, last⟩ : Fin cfg0.N) a * main_v0_3.ty.shape.size a) = fun _ => 0 := funext fun a => by fin_cases a <;> decide +kernel
  exact (Memref.read_access_unit_zero (Elt Ideal) main_v0_3 hz' (fun a => by rw [congrFun hz' a]; simp) ((outsAt0 m c 7 last).2.2.2 : Buf (Elt Ideal) ((c : Thread nD τ).loc main_v0_3))).symm

/-- The loss in the array is what the last point left. -/
theorem final8 : (dats m 0 c).arrAt 8 cfg0.N = ((outsAt0 m c 7 last).2.2.2 : Buf (Elt Ideal) ((c : Thread nD τ).loc main_v0_3)) :=
  (dats m 0 c).arrAt_eq_of_cover 8 _ (flushed8_eq m c) fun i =>
    ⟨⟨7, last⟩, (flush0_8 _).mpr rfl, by
      show i ∈ ((View.whole main_v0_3).slice (win0_8.rect ⟨7, last⟩)).set
      rw [View.set_slice_whole, Rect.mem_set_unit]
      intro a
      have h0 : (i 0 : Nat) < 1 := (i 0).isLt
      have h1 : (i 1 : Nat) < 128 := (i 1).isLt
      match a with
      | ⟨0, _⟩ => show win0_8.index ⟨7, last⟩ 0 * 1 ≤ (i 0 : Nat) ∧ (i 0 : Nat) < win0_8.index ⟨7, last⟩ 0 * 1 + 1
                  rw [(at8 _).1]; omega
      | ⟨1, _⟩ => show win0_8.index ⟨7, last⟩ 1 * 128 ≤ (i 1 : Nat) ∧ (i 1 : Nat) < win0_8.index ⟨7, last⟩ 1 * 128 + 128
                  rw [(at8 _).2]; omega⟩

/-- The loss after the run: the sum over the rows. -/
theorem arr8 (j : Fin 128) : (dats m 0 c).arrAt 8 cfg0.N (ix2 (0 : Fin 1) j) = ∑ p : Fin 8192, hlf * lf (argA m c) (argW m c) (argX m c) (layer (argG m c)) (argT m c) p := by
  rw [final8]
  exact chain8 (fun p => hlf * lf (argA m c) (argW m c) (argX m c) (layer (argG m c)) (argT m c) p) (fun n hn => (outsAt0 m c n hn).2.2.2 (ix2 (0 : Fin 1) j)) (fun t h => first8 m c t h j) (fun t h => next8 m c t h j)

end Cert.LossHeadIdeal.RefValue

namespace Cert.Loss

open Cert.Rows (width)
open Idealize.ShloMosaic

/-- The constants of the loss's gradient: half of one, over the number of columns, of twice the difference. -/
theorem scale_eq (e : EReal) :
    Ideal.div (hlf * Ideal.ofBits .f32 0x3F800000#32) width * (Ideal.ofBits .f32 0x40000000#32 * e) = e * inv := by
  have h1 : Ideal.ofBits .f32 0x3F800000#32 = ((1 : ℝ) : EReal) := by
    simp [Ideal.ofBits, Ideal.ieee]; rw [← EReal.coe_mul]; norm_num
  have h2 : Ideal.ofBits .f32 0x40000000#32 = ((2 : ℝ) : EReal) := by
    simp [Ideal.ofBits, Ideal.ieee]; rw [← EReal.coe_mul]; norm_num
  have h3 : inv = ((1 / 1024 : ℝ) : EReal) := by
    simp [inv, Ideal.ofBits, Ideal.ieee]; rw [← EReal.coe_mul]; norm_num
  rw [Cert.Rows.div_width, hlf_eq, h1, h2, h3, ← mul_assoc, ← EReal.coe_mul, ← EReal.coe_mul, ← EReal.coe_mul, mul_comm]
  norm_num

end Cert.Loss

namespace Cert.LossHeadRefIdeal.RefValue

open Cert.LossHeadRefIdeal Cert.LossHeadRefIdeal.Gen Cert.LossHeadRefIdeal.Read Cert.Half Cert.Loss Idealize.ShloMosaic Idealize.ShloMosaic.TcCoe Idealize.SL.Sem Idealize.ShloMosaic.ValueIdx
open Cert.Rows (dhf row rt msq mhalf back back_eq width)
open Cert.LossHeadIdeal.RefValue (layer)
open scoped BigOperators

variable (x0 : (⟨S8192x2816, .bf16⟩ : BufTy).Contents (Elt Ideal)) (x1 : (⟨S2816x1024, .bf16⟩ : BufTy).Contents (Elt Ideal))
  (x2 : (⟨S8192x1024, .f32⟩ : BufTy).Contents (Elt Ideal)) (x3 : (⟨S4x1x1024, .f32⟩ : BufTy).Contents (Elt Ideal)) (x4 : (⟨S8192x1024, .f32⟩ : BufTy).Contents (Elt Ideal))

/-- The product. -/
theorem ref2 (p : Fin 8192) (j : Fin 1024) : val_main_v2 (F := Ideal) x0 x1 (ix2 p j) = dhf x0 x1 p j := by
  rw [val_main_v2_apply]
  refine Finset.sum_congr rfl fun l _ => ?_
  rw [val_main_v0_apply, val_main_v1_apply]
  refine congrArg₂ (· * ·) (congrArg x0 ?_) (congrArg x1 ?_) <;>
    exact funext fun a => match a with | ⟨0, _⟩ => rfl | ⟨1, _⟩ => rfl

/-- A row of the product. -/
theorem ref2_row (p : Fin 8192) : row (val_main_v2 (F := Ideal) x0 x1) p = dhf x0 x1 p := funext fun l => ref2 x0 x1 p l

/-- The factor of a row. -/
theorem ref12 (p : Fin 8192) (z : Fin 1) : val_main_v12 (F := Ideal) x0 x1 (ix2 p z) = rt (dhf x0 x1 p) :=
  (Cert.FfnInRefIdeal.RefValue.ref9 (val_main_v2 (F := Ideal) x0 x1) p z).trans (by rw [ref2_row])

/-- The factor over the mean square, times minus one half. -/
theorem ref15 (p : Fin 8192) (z : Fin 1) : val_main_v15 (F := Ideal) x0 x1 (ix2 p z) = mhalf * Ideal.div (rt (dhf x0 x1 p)) (msq (dhf x0 x1 p)) :=
  (Cert.FfnInRefIdeal.RefValue.ref12 (val_main_v2 (F := Ideal) x0 x1) p z).trans (by rw [ref2_row])

/-- The normalised rows. -/
theorem ref17 (p : Fin 8192) (j : Fin 1024) : val_main_v17 (F := Ideal) x0 x1 (ix2 p j) = nrow (dhf x0 x1 p) j := by
  rw [val_main_v17_apply, ref2,
    show val_main_v16 (F := Ideal) x0 x1 (ix2 p j) = rt (row (val_main_v2 (F := Ideal) x0 x1) p) from Cert.FfnInRefIdeal.RefValue.ref13 (val_main_v2 (F := Ideal) x0 x1) p j,
    ref2_row]
  rfl

/-- The gain, spread over the rows. -/
theorem ref18 (p : Fin 8192) (j : Fin 1024) : val_main_v18 (F := Ideal) x3 (ix2 p j) = layer x3 j := by
  rw [val_main_v18_apply, val_main_v4_apply, val_main_v3_apply]
  refine congrArg x3 (funext fun a => Fin.ext ?_)
  match a with
  | ⟨0, _⟩ => rfl
  | ⟨1, _⟩ => rfl
  | ⟨2, _⟩ => show (0 * 1024 + j.val) % 1024 = j.val; omega

/-- The difference. -/
theorem ref21 (p : Fin 8192) (j : Fin 1024) : val_main_v21 (F := Ideal) x0 x1 x2 x3 x4 (ix2 p j) = ef x0 x1 x2 (layer x3) x4 p j := by
  rw [val_main_v21_apply, val_main_v20_apply, val_main_v19_apply, ref17, ref18]
  rfl

/-- The activations' gradient. -/
theorem ref35 (p : Fin 8192) (j : Fin 1024) : val_main_v35 (F := Ideal) x0 x1 x2 x3 x4 (ix2 p j) = df x0 x1 x2 (layer x3) x4 p j := by
  rw [val_main_v35_apply, val_main_v34_apply, val_main_v33_apply, val_main_v31_apply, val_main_v30_apply, val_main_cst_8_apply, val_main_cst_9_apply, val_main_v32_apply,
    val_main_cst_10_apply, val_main_v24_apply, val_main_v23_apply, val_main_cst_3_apply, ref21]
  exact scale_eq _

/-- The gain's gradient. -/
theorem ref38 (j : Fin 1024) : val_main_v38 (F := Ideal) x0 x1 x2 x3 x4 (ix2 (0 : Fin 1) j) = ∑ p, gf x0 x1 x2 (layer x3) x4 p j := by
  rw [val_main_v38_apply, val_main_v37_apply, val_main_cst_11_apply]
  refine (congrArg₂ (· + ·) Ideal.ofBits_zero_f32 (Finset.sum_congr rfl fun p _ => ?_)).trans (zero_add _)
  have hi : idx_main_v37 (idx_main_v38 (ix2 (0 : Fin 1) j)) p = ix2 p j := funext fun a => Fin.ext (match a with
    | ⟨0, _⟩ => rfl
    | ⟨1, _⟩ => by show 0 * 1024 + j.val = j.val; omega)
  rw [hi, val_main_v36_apply, ref17, ref35]
  exact mul_comm _ _

/-- The activations' gradient with the gain. -/
theorem ref40 (p : Fin 8192) (j : Fin 1024) : val_main_v40 (F := Ideal) x0 x1 x2 x3 x4 (ix2 p j) = df x0 x1 x2 (layer x3) x4 p j * layer x3 j := by
  rw [val_main_v40_apply, ref35, show val_main_v39 (F := Ideal) x3 (ix2 p j) = layer x3 j from ref18 x3 p j]
  rfl

/-- The share of the norm's factor in the gradient, spread over the columns. -/
theorem ref50 (p : Fin 8192) (j : Fin 1024) : val_main_v50 (F := Ideal) x0 x1 x2 x3 x4 (ix2 p j)
    = Ideal.div ((∑ k, dhf x0 x1 p k * (df x0 x1 x2 (layer x3) x4 p k * layer x3 k)) * (mhalf * Ideal.div (rt (dhf x0 x1 p)) (msq (dhf x0 x1 p)))) width := by
  rw [val_main_v50_apply, val_main_v49_apply, val_main_cst_14_apply]
  refine (congrArg₂ (· + ·) Ideal.ofBits_zero_f32 (Fin.sum_univ_one _)).trans ((zero_add _).trans ?_)
  have hi : idx_main_v49 (idx_main_v50 (ix2 p j)) 0 = ix2 p (0 : Fin 1) := funext fun a => match a with | ⟨0, _⟩ => rfl | ⟨1, _⟩ => rfl
  rw [hi, val_main_v48_apply, val_main_v46_apply, val_main_v47_apply, ref15, val_main_v43_apply, val_main_v42_apply, val_main_cst_12_apply]
  refine congrArg (fun s => Ideal.div (s * (mhalf * Ideal.div (rt (dhf x0 x1 p)) (msq (dhf x0 x1 p)))) width) ((congrArg₂ (· + ·) Ideal.ofBits_zero_f32 (Finset.sum_congr rfl fun l _ => ?_)).trans (zero_add _))
  have hj : idx_main_v42 (idx_main_v43 (ix2 p (0 : Fin 1))) l = ix2 p l := funext fun a => Fin.ext (match a with
    | ⟨0, _⟩ => by show p.val * 1 + 0 = p.val; omega
    | ⟨1, _⟩ => rfl)
  rw [hj, val_main_v41_apply, ref2, ref40]
  rfl

/-- The product's gradient. -/
theorem ref55 (p : Fin 8192) (j : Fin 1024) : val_main_v55 (F := Ideal) x0 x1 x2 x3 x4 (ix2 p j) = yf x0 x1 x2 (layer x3) x4 p j := by
  rw [val_main_v55_apply, val_main_v54_apply, val_main_v52_apply, val_main_v45_apply, val_main_v51_apply, val_main_v53_apply, ref50, ref40, ref2,
    show val_main_v44 (F := Ideal) x0 x1 (ix2 p j) = rt (row (val_main_v2 (F := Ideal) x0 x1) p) from Cert.FfnInRefIdeal.RefValue.ref13 (val_main_v2 (F := Ideal) x0 x1) p j,
    ref2_row]
  have e := back_eq (dhf x0 x1 p) (fun k => df x0 x1 x2 (layer x3) x4 p k * layer x3 k) j 0
  rw [zero_add, zero_add] at e
  exact e

/-- The mean of the squares of a row of differences. -/
theorem ref27 (p : Fin 8192) : val_main_v27 (F := Ideal) x0 x1 x2 x3 x4 (ix1 p) = lf x0 x1 x2 (layer x3) x4 p := by
  rw [val_main_v27_apply, val_main_v25_apply, val_main_cst_4_apply, val_main_v26_apply, val_main_cst_5_apply]
  refine congrArg (fun s => Ideal.div s width) ((congrArg₂ (· + ·) Ideal.ofBits_zero_f32 (Finset.sum_congr rfl fun l _ => ?_)).trans (zero_add _))
  have hi : idx_main_v25 (ix1 p) l = ix2 p l := funext fun a => match a with | ⟨0, _⟩ => rfl | ⟨1, _⟩ => rfl
  rw [hi, val_main_v22_apply, ref21]
  rfl

/-- A sum over the indices of one axis is the sum over the axis. -/
theorem sum_axis (f : S8192.Idx → EReal) : ∑ i, f i = ∑ p : Fin 8192, f (ix1 p) :=
  (Fintype.sum_equiv ⟨fun p : Fin 8192 => (ix1 p : S8192.Idx), fun i => i 0, fun _ => rfl, fun i => (eq_ix1 i).symm⟩ _ _ fun _ => rfl).symm

/-- The loss, spread over its row. -/
theorem ref56 (j : Fin 128) : val_main_v56 (F := Ideal) x0 x1 x2 x3 x4 (ix2 (0 : Fin 1) j) = ∑ p, hlf * lf x0 x1 x2 (layer x3) x4 p := by
  rw [val_main_v56_apply, val_main_v29_apply, val_main_cst_7_apply, val_main_v28_apply, val_main_cst_6_apply, ← hlf_sum, sum_axis]
  refine congrArg (hlf * ·) ((congrArg₂ (· + ·) Ideal.ofBits_zero_f32 (Finset.sum_congr rfl fun p _ => ?_)).trans (zero_add _))
  exact ref27 x0 x1 x2 x3 x4 p

end Cert.LossHeadRefIdeal.RefValue

namespace Cert.LossHeadEq

open Idealize.ShloMosaic Idealize.ShloMosaic.TcCoe Idealize.SL.Sem Idealize.ShloMosaic.ValueIdx
open Cert.LossHeadIdeal.RefValue (arr5 arr6 arr7 arr8)
open Cert.LossHeadRefIdeal.RefValue (ref35 ref55 ref38 ref56)

/-- The frame of the kernel. -/
theorem frame_p : quiescent_LossHead := fun m ρ _ => Cert.LossHead.Gen.frame m ρ

/-- The frame of the idealized kernel. -/
theorem frame_pi : quiescent_LossHeadIdeal := fun m ρ _ => Cert.LossHeadIdeal.Gen.frame m ρ

/-- The frame of the reference: its run ends with its arguments as they were, and it declares no semaphore. -/
theorem frame_ri : quiescent_LossHeadRefIdeal := fun m ρ _ =>
  (θ_run Cert.LossHeadRefIdeal.defs _ _).mono (fun r h => ⟨fun c => (h c).2.2.2.2, sem_eq_zero_of_no_sems (by decide) r.2⟩)
    (Cert.LossHeadRefIdeal.Value.run (F := Ideal) m ρ)

/-- The call computes the activations' gradient, the product's gradient, the gain's gradient and the loss. -/
theorem same : algebraic_LossHeadIdeal_LossHeadRefIdeal := by
  intro m g m' g' hm ha
  refine ⟨fun c => (Cert.LossHeadIdeal.Gen.dats m 0 c).arrAt 5 Cert.LossHeadIdeal.cfg0.N, fun c => (Cert.LossHeadIdeal.Gen.dats m 0 c).arrAt 6 Cert.LossHeadIdeal.cfg0.N,
    fun c => (Cert.LossHeadIdeal.Gen.dats m 0 c).arrAt 7 Cert.LossHeadIdeal.cfg0.N, fun c => (Cert.LossHeadIdeal.Gen.dats m 0 c).arrAt 8 Cert.LossHeadIdeal.cfg0.N, Cert.LossHeadIdeal.Value.run_blocks m g, ?_⟩
  refine (θ_run Cert.LossHeadRefIdeal.defs _ _).mono (fun r h c => ?_) (Cert.LossHeadRefIdeal.Value.run (F := Ideal) m' g')
  obtain ⟨h35, h55, h38, h56, hrest⟩ := h c
  obtain ⟨a0, a1, a2, a3, a4⟩ := ha c
  refine ⟨h35.trans ?_, h55.trans ?_, h38.trans ?_, h56.trans ?_, hrest⟩
  · rw [Cert.LossHeadRefIdeal.Read.val_main_v35_eq, a0, a1, a2, a3, a4]
    refine funext fun i => ?_
    obtain ⟨p, j, rfl⟩ : ∃ (p : Fin 8192) (j : Fin 1024), i = ix2 p j := ⟨i 0, i 1, eq_ix2 i⟩
    exact (ref35 _ _ _ _ _ p j).trans (arr5 m c p j).symm
  · rw [Cert.LossHeadRefIdeal.Read.val_main_v55_eq, a0, a1, a2, a3, a4]
    refine funext fun i => ?_
    obtain ⟨p, j, rfl⟩ : ∃ (p : Fin 8192) (j : Fin 1024), i = ix2 p j := ⟨i 0, i 1, eq_ix2 i⟩
    exact (ref55 _ _ _ _ _ p j).trans (arr6 m c p j).symm
  · rw [Cert.LossHeadRefIdeal.Read.val_main_v38_eq, a0, a1, a2, a3, a4]
    refine funext fun i => ?_
    obtain ⟨p, j, rfl⟩ : ∃ (p : Fin 1) (j : Fin 1024), i = ix2 p j := ⟨i 0, i 1, eq_ix2 i⟩
    obtain rfl : p = 0 := Subsingleton.elim _ _
    exact (ref38 _ _ _ _ _ j).trans (arr7 m c j).symm
  · rw [Cert.LossHeadRefIdeal.Read.val_main_v56_eq, a0, a1, a2, a3, a4]
    refine funext fun i => ?_
    obtain ⟨p, j, rfl⟩ : ∃ (p : Fin 1) (j : Fin 128), i = ix2 p j := ⟨i 0, i 1, eq_ix2 i⟩
    obtain rfl : p = 0 := Subsingleton.elim _ _
    exact (ref56 _ _ _ _ _ j).trans (arr8 m c j).symm

end Cert.LossHeadEq

end
-- ==== Proof.CatInEq.lean ====
/-
  The gradient going into the mixers' output projection: each point's block of it is the product of a block of the rows
  of the gradient with the weights' rows, so the whole is the product with the weights transposed.
-/
module

public import proofs.«01_k».proof.Proof.At
public import proofs.«01_k».proof.Proof.Prod
public import proofs.«01_k».proof.Proof.Gen.CatInIdeal.Value
public import proofs.«01_k».proof.Proof.Gen.CatIn.Frame
public import proofs.«01_k».proof.Proof.Gen.CatInRefIdeal.Run
public import proofs.«01_k».proof.Defs

@[expose] public section

set_option maxRecDepth 16384

noncomputable section

namespace Cert.CatInIdeal.RefValue

open Cert.At (entry2 same2 entry3 whole block)
open Cert.CatInIdeal Cert.CatInIdeal.Gen Cert.Prod Idealize.ShloMosaic Idealize.ShloMosaic.TcCoe Idealize.SL.Sem Idealize.ShloMosaic.ValueIdx
open scoped BigOperators

/-- A point's block of the result. -/
theorem out_apply (x0 : Vec Ideal S2048x1024 .bf16) (x1 : Vec Ideal S1024x1024 .bf16) (p : Fin 2048) (q : Fin 1024) :
    out0_2 x0 x1 (ix2 p q) = ∑ k : Fin 1024, x0 (ix2 p k) * x1 (ix2 q k) := by
  unfold out0_2
  have e0 : View.ld x0 r0_0 = x0 := View.ld_unit_zero (S := S2048x1024) hz _ x0
  have e1 : View.ld x1 r0_1 = x1 := View.ld_unit_zero (S := S1024x1024) hz _ x1
  rw [View.canon_unit_zero hz, e0, e1]
  unfold k0_pay1
  exact unit_nt _ _ x0 x1 p q

variable (m : (ℓ : Loc nD τ sig) → Buf (Elt Ideal) ℓ) (ρ : Dev nD → PrngReg) (c : Dev nD)

/-- The gradient of the projection's result, in rows. -/
abbrev argH : S8192x1024.Idx → EReal := m ((c : Thread nD τ).loc main_arg0)
/-- The weights. -/
abbrev argW : S1024x1024.Idx → EReal := m ((c : Thread nD τ).loc main_arg1)

/-- Which block each point takes: its rows, and the whole of the weights. -/
theorem index_at : ∀ t : Fin cfg0.N, (win0_0.index t 0 = t.val ∧ win0_0.index t 1 = 0) ∧ (win0_1.index t 0 = 0 ∧ win0_1.index t 1 = 0)
    ∧ win0_2.index t 0 = t.val ∧ win0_2.index t 1 = 0 :=
  (by decide +kernel : ∀ t : Fin grid0.N, (win0_0.index t 0 = t.val ∧ win0_0.index t 1 = 0) ∧ (win0_1.index t 0 = 0 ∧ win0_1.index t 1 = 0)
    ∧ win0_2.index t 0 = t.val ∧ win0_2.index t 1 = 0)

/-- Row `r` of the block of rows that point `t` takes. -/
abbrev tok (t : Fin cfg0.N) (r : Fin 2048) : Fin 8192 := ⟨2048 * t.val + r.val, by have := t.isLt; have h : cfg0.N = 4 := N_0; omega⟩

/-- The block of the rows. -/
theorem blk0 (t : Fin cfg0.N) (r : Fin 2048) (k : Fin 1024) : (iblk m c 0 t : Vec Ideal S2048x1024 .bf16) (ix2 r k) = argH m c (ix2 (tok t r) k) :=
  entry2 (argH m c) _ (block (index_at t).1.1 2048 r.val) (whole (index_at t).1.2 1024 k.val)

/-- The block of the weights. -/
theorem blk1 (t : Fin cfg0.N) (p : Fin 1024) (k : Fin 1024) : (iblk m c 1 t : Vec Ideal S1024x1024 .bf16) (ix2 p k) = argW m c (ix2 p k) :=
  entry2 (argW m c) _ (whole (index_at t).2.1.1 1024 p.val) (whole (index_at t).2.1.2 1024 k.val)

/-- The block of the array that point `t` wrote. -/
theorem arr_blk (t : Fin cfg0.N) (r : Fin 2048) (p : Fin 1024) :
    (dats m 0 c).arrAt 2 cfg0.N (ix2 (tok t r) p) = ∑ k : Fin 1024, argH m c (ix2 (tok t r) k) * argW m c (ix2 p k) := by
  have e := congrFun (Value.blocks2 m c t (flush0_2 t)) (ix2 r p)
  rw [View.read_apply, Value.flushed2] at e
  have hi : ((cfg0.win 2).blk t).view.emb (ix2 r p) = ix2 (tok t r) p :=
    entry2 id _ (block (index_at t).2.2.1 2048 r.val) (whole (index_at t).2.2.2 1024 p.val)
  rw [hi] at e
  refine e.trans ((out_apply (iblk m c 0 t) (iblk m c 1 t) r p).trans (Finset.sum_congr rfl fun k _ => ?_))
  rw [blk0, blk1]

/-- The product after the run. -/
theorem arr (i : Fin 8192) (j : Fin 1024) : (dats m 0 c).arrAt 2 cfg0.N (ix2 i j) = ∑ k : Fin 1024, argH m c (ix2 i k) * argW m c (ix2 j k) := by
  have hN : cfg0.N = 4 := N_0
  have e := arr_blk m c ⟨i.val / 2048, by omega⟩ ⟨i.val % 2048, Nat.mod_lt _ (by decide)⟩ j
  have e1 : tok ⟨i.val / 2048, by omega⟩ ⟨i.val % 2048, Nat.mod_lt _ (by decide)⟩ = i := Fin.ext (by dsimp only [tok]; omega)
  rw [e1] at e
  exact e

end Cert.CatInIdeal.RefValue

namespace Cert.CatInEq

open Idealize.ShloMosaic Idealize.ShloMosaic.TcCoe Idealize.SL.Sem Idealize.ShloMosaic.ValueIdx

/-- The frame of the kernel. -/
theorem frame_p : quiescent_CatIn := fun m ρ _ => Cert.CatIn.Gen.frame m ρ

/-- The frame of the idealized kernel. -/
theorem frame_pi : quiescent_CatInIdeal := fun m ρ _ => Cert.CatInIdeal.Gen.frame m ρ

/-- The frame of the reference: its run ends with its arguments as they were, and it declares no semaphore. -/
theorem frame_ri : quiescent_CatInRefIdeal := fun m ρ _ =>
  (θ_run Cert.CatInRefIdeal.defs _ _).mono (fun r h => ⟨fun c => (h c).2, sem_eq_zero_of_no_sems (by decide) r.2⟩)
    (Cert.CatInRefIdeal.Value.run (F := Ideal) m ρ)

/-- The call computes the product with the weights transposed. -/
theorem same : algebraic_CatInIdeal_CatInRefIdeal := by
  intro m g m' g' hm ha
  refine ⟨fun c => (Cert.CatInIdeal.Gen.dats m 0 c).arrAt 2 Cert.CatInIdeal.cfg0.N, Cert.CatInIdeal.Value.run_blocks m g, ?_⟩
  refine (θ_run Cert.CatInRefIdeal.defs _ _).mono (fun r h c => ?_) (Cert.CatInRefIdeal.Value.run (F := Ideal) m' g')
  obtain ⟨h3, hrest⟩ := h c
  obtain ⟨a0, a1⟩ := ha c
  refine ⟨h3.trans ?_, hrest⟩
  rw [a0, a1]
  refine funext fun i => ?_
  obtain ⟨p, j, rfl⟩ : ∃ (p : Fin 8192) (j : Fin 1024), i = ix2 p j := ⟨i 0, i 1, eq_ix2 i⟩
  exact (Cert.Prod.host_nt _ _ _ _ p j).trans (Cert.CatInIdeal.RefValue.arr m c p j).symm

end Cert.CatInEq

end
-- ==== Proof.BranchOutEq.lean ====
/-
  A branch's last product, its normalised rows added to the trunk, and the next branch's normalised rows: each point's
  blocks of the three results are the reference's rows.
-/
module

public import proofs.«01_k».proof.Proof.At
public import proofs.«01_k».proof.Proof.Half
public import proofs.«01_k».proof.Proof.FfnRef
public import proofs.«01_k».proof.Proof.Gen.BranchOutIdeal.Value
public import proofs.«01_k».proof.Proof.Gen.BranchOut.Frame
public import proofs.«01_k».proof.Proof.Gen.BranchOutRefIdeal.Read
public import proofs.«01_k».proof.Defs

@[expose] public section

set_option maxRecDepth 16384

noncomputable section

namespace Cert.BranchOutIdeal.RefValue

open Cert.BranchOutIdeal Cert.BranchOutIdeal.Gen Cert.Half Idealize.ShloMosaic Idealize.ShloMosaic.TcCoe Idealize.SL.Sem Idealize.ShloMosaic.ValueIdx
open Cert.At (entry2 same2 entry3 whole block)
open Cert.Rows (dhf row)
open scoped BigOperators

/-- Zero offsets, of two axes. -/
theorem hz : (![0, 0] : Fin 2 → Nat) = fun _ => 0 := funext fun a => by fin_cases a <;> rfl
/-- Zero offsets, of three axes. -/
theorem hz3 : (![0, 0, 0] : Fin 3 → Nat) = fun _ => 0 := funext fun a => by fin_cases a <;> rfl

section Points
variable (x0 : Vec Ideal S1024x1024 .bf16) (x1 : Vec Ideal S1024x1024 .bf16) (x2 : Vec Ideal S1024x1024 .f32) (x3 x4 : Vec Ideal S1x1x1024 .f32)

/-- A gain, as a function of the column. -/
abbrev gain (g : Vec Ideal S1x1x1024 .f32) : Fin 1024 → EReal := fun k => g (ix3 (0 : Fin 1) (0 : Fin 1) k)

/-- The product, in a half. -/
theorem half5 (o : ℕ) (inb) (h : Fin 2) (ho : o = 512 * h.val) (k : Fin 512) (j : Fin 1024) :
    k0_pay2 (F := Ideal) x1 (band x0 o inb) (ix2 k j) = dhf x0 x1 (half h k) j := by
  unfold k0_pay2
  exact prod_vec _ _ x0 x1 h k (fun l => band_apply x0 o inb h ho k l) j

/-- The trunk, in a half. -/
theorem half6 (o : ℕ) (inb inb') (h : Fin 2) (ho : o = 512 * h.val) (k : Fin 512) (j : Fin 1024) :
    k0_pay3 (F := Ideal) x1 (k0_pay5 x3) (band x0 o inb) (band x2 o inb') (ix2 k j) = xof x0 x1 x2 (gain x3) (half h k) j := by
  unfold k0_pay3
  refine (x_vec _ _ _ _ _ _ _ _ k j).trans ?_
  rw [band_apply x2 o inb' h ho, show row (k0_pay2 (F := Ideal) x1 (band x0 o inb)) k = fun j => dhf x0 x1 (half h k) j from funext fun l => half5 x0 x1 o inb h ho k l,
    show k0_pay5 (F := Ideal) x3 (ix2 (0 : Fin 1) j) = gain x3 j from slab_row _ _ j]

/-- The next branch's rows, in a half. -/
theorem half7 (o : ℕ) (inb inb') (h : Fin 2) (ho : o = 512 * h.val) (k : Fin 512) (j : Fin 1024) :
    k0_pay4 (F := Ideal) x1 (k0_pay5 x3) (k0_pay6 x4) (band x0 o inb) (band x2 o inb') (ix2 k j) = hof x0 x1 x2 (gain x3) (gain x4) (half h k) j := by
  unfold k0_pay4
  dsimp only
  rw [truncf_apply]
  refine (h_vec _ _ _ _ _ _ _ k j).trans ?_
  rw [show row (k0_pay3 (F := Ideal) x1 (k0_pay5 x3) (band x0 o inb) (band x2 o inb')) k = fun j => xof x0 x1 x2 (gain x3) (half h k) j from
      funext fun l => half6 x0 x1 x2 x3 o inb inb' h ho k l,
    show k0_pay6 (F := Ideal) x4 (ix2 (0 : Fin 1) j) = gain x4 j from slab_row _ _ j]

/-- The block of the product. -/
theorem out5 (r : Fin 1024) (j : Fin 1024) : out0_5 x0 x1 x2 x3 x4 (ix2 r j) = dhf x0 x1 r j := by
  unfold out0_5
  rw [show View.ld x1 r0_0 = x1 from View.ld_unit_zero (S := S1024x1024) hz _ x1]
  refine canon_halves (Val := Elt Ideal) (e := .f32) _ _ _ _ [] (fun r => dhf x0 x1 r j) j (fun v => v) ?_ ?_ r
  · exact fun k => half5 x0 x1 0 _ 0 rfl k j
  · exact fun k => half5 x0 x1 512 _ 1 rfl k j

/-- The block of the trunk. -/
theorem out6 (r : Fin 1024) (j : Fin 1024) : out0_6 x0 x1 x2 x3 x4 (ix2 r j) = xof x0 x1 x2 (gain x3) r j := by
  unfold out0_6
  rw [show k0_pay11 (F := Ideal) x0 x1 x2 x3 x4 = k0_pay5 (View.ld x3 r0_1) from rfl, show View.ld x1 r0_0 = x1 from View.ld_unit_zero (S := S1024x1024) hz _ x1,
    show View.ld x3 r0_1 = x3 from View.ld_unit_zero (S := S1x1x1024) hz3 _ x3]
  refine canon_halves (Val := Elt Ideal) (e := .f32) _ _ _ _ [] (fun r => xof x0 x1 x2 (gain x3) r j) j (fun v => v) ?_ ?_ r
  · exact fun k => half6 x0 x1 x2 x3 0 _ _ 0 rfl k j
  · exact fun k => half6 x0 x1 x2 x3 512 _ _ 1 rfl k j

/-- The block of the next branch's rows. -/
theorem out7 (r : Fin 1024) (j : Fin 1024) : out0_7 x0 x1 x2 x3 x4 (ix2 r j) = hof x0 x1 x2 (gain x3) (gain x4) r j := by
  unfold out0_7
  rw [show k0_pay11 (F := Ideal) x0 x1 x2 x3 x4 = k0_pay5 (View.ld x3 r0_1) from rfl, show View.ld x1 r0_0 = x1 from View.ld_unit_zero (S := S1024x1024) hz _ x1,
    show View.ld x3 r0_1 = x3 from View.ld_unit_zero (S := S1x1x1024) hz3 _ x3, show View.ld x4 r0_1 = x4 from View.ld_unit_zero (S := S1x1x1024) hz3 _ x4]
  refine canon_halves (Val := Elt Ideal) (e := .bf16) _ _ _ _ [] (fun r => hof x0 x1 x2 (gain x3) (gain x4) r j) j (fun v => v) ?_ ?_ r
  · exact fun k => half7 x0 x1 x2 x3 x4 0 _ _ 0 rfl k j
  · exact fun k => half7 x0 x1 x2 x3 x4 512 _ _ 1 rfl k j
end Points

variable (m : (ℓ : Loc nD τ sig) → Buf (Elt Ideal) ℓ) (ρ : Dev nD → PrngReg) (c : Dev nD)

/-- The product's left side. -/
abbrev argA : S8192x1024.Idx → EReal := m ((c : Thread nD τ).loc main_arg0)
/-- The weights. -/
abbrev argW : S1024x1024.Idx → EReal := m ((c : Thread nD τ).loc main_arg1)
/-- The trunk. -/
abbrev argX : S8192x1024.Idx → EReal := m ((c : Thread nD τ).loc main_arg2)
/-- The branch's gains. -/
abbrev argG : S4x1x1024.Idx → EReal := m ((c : Thread nD τ).loc main_arg3)
/-- The next branch's gains. -/
abbrev argG2 : S4x1x1024.Idx → EReal := m ((c : Thread nD τ).loc main_arg4)
/-- A layer's gain, as a function of the column. -/
abbrev layer (g : S4x1x1024.Idx → EReal) (l : Fin 4) : Fin 1024 → EReal := fun k => g (ix3 l (0 : Fin 1) k)
/-- The layer whose gain the next branch takes. -/
abbrev nxt : Fin 4 := 0

/-- There are eight points. -/
theorem lt8 (t : Fin cfg0.N) : t.val < 8 := by have hN : cfg0.N = 8 := N_0; have := t.isLt; omega

/-- Which block each point takes. -/
theorem index_at : ∀ t : Fin cfg0.N, (win0_0.index t 0 = t.val ∧ win0_0.index t 1 = 0) ∧ (win0_1.index t 0 = 0 ∧ win0_1.index t 1 = 0) ∧ (win0_2.index t 0 = t.val ∧ win0_2.index t 1 = 0)
    ∧ (win0_3.index t 0 = 0 ∧ win0_3.index t 1 = 0 ∧ win0_3.index t 2 = 0) ∧ (win0_4.index t 0 = nxt.val ∧ win0_4.index t 1 = 0 ∧ win0_4.index t 2 = 0)
    ∧ (win0_5.index t 0 = t.val ∧ win0_5.index t 1 = 0) ∧ (win0_6.index t 0 = t.val ∧ win0_6.index t 1 = 0) ∧ (win0_7.index t 0 = t.val ∧ win0_7.index t 1 = 0) :=
  (by decide +kernel : ∀ t : Fin grid0.N, (win0_0.index t 0 = t.val ∧ win0_0.index t 1 = 0) ∧ (win0_1.index t 0 = 0 ∧ win0_1.index t 1 = 0) ∧ (win0_2.index t 0 = t.val ∧ win0_2.index t 1 = 0)
    ∧ (win0_3.index t 0 = 0 ∧ win0_3.index t 1 = 0 ∧ win0_3.index t 2 = 0) ∧ (win0_4.index t 0 = nxt.val ∧ win0_4.index t 1 = 0 ∧ win0_4.index t 2 = 0)
    ∧ (win0_5.index t 0 = t.val ∧ win0_5.index t 1 = 0) ∧ (win0_6.index t 0 = t.val ∧ win0_6.index t 1 = 0) ∧ (win0_7.index t 0 = t.val ∧ win0_7.index t 1 = 0))

/-- The left side's block. -/
theorem blk0 (t : Fin cfg0.N) (r : Fin 1024) (d : Fin 1024) : (iblk m c 0 t : Vec Ideal S1024x1024 .bf16) (ix2 r d) = argA m c (ix2 (brow t.val (lt8 t) r) d) :=
  entry2 (argA m c) _ (block (index_at t).1.1 1024 r.val) (whole (index_at t).1.2 1024 d.val)

/-- The weights' block. -/
theorem blk1 (t : Fin cfg0.N) : (iblk m c 1 t : Vec Ideal S1024x1024 .bf16) = argW m c :=
  funext fun i => same2 (argW m c) _ i (whole (index_at t).2.1.1 1024 (i 0).val) (whole (index_at t).2.1.2 1024 (i 1).val)

/-- The trunk's block. -/
theorem blk2 (t : Fin cfg0.N) (r : Fin 1024) (d : Fin 1024) : (iblk m c 2 t : Vec Ideal S1024x1024 .f32) (ix2 r d) = argX m c (ix2 (brow t.val (lt8 t) r) d) :=
  entry2 (argX m c) _ (block (index_at t).2.2.1.1 1024 r.val) (whole (index_at t).2.2.1.2 1024 d.val)

/-- The branch's gain. -/
theorem blk3 (t : Fin cfg0.N) : gain (iblk m c 3 t) = layer (argG m c) 0 :=
  funext fun k => entry3 (argG m c) _ (whole (index_at t).2.2.2.1.1 1 0) (whole (index_at t).2.2.2.1.2.1 1 0) (whole (index_at t).2.2.2.1.2.2 1024 k.val)

/-- The next branch's gain. -/
theorem blk4 (t : Fin cfg0.N) : gain (iblk m c 4 t) = layer (argG2 m c) nxt :=
  funext fun k => entry3 (argG2 m c) _ (by show win0_4.index t 0 * 1 + 1 * 0 = nxt.val; rw [(index_at t).2.2.2.2.1.1]; omega) (whole (index_at t).2.2.2.2.1.2.1 1 0) (whole (index_at t).2.2.2.2.1.2.2 1024 k.val)

/-- The product after the run. -/
theorem arr5 (p : Fin 8192) (j : Fin 1024) : (dats m 0 c).arrAt 5 cfg0.N (ix2 p j) = dhf (argA m c) (argW m c) p j := by
  obtain ⟨n, hn, r, rfl⟩ := brow_surj p
  let t : Fin cfg0.N := ⟨n, by rw [show cfg0.N = 8 from N_0]; exact hn⟩
  have e := congrFun (Value.blocks5 m c t (flush0_5 t)) (ix2 r j)
  rw [View.read_apply, Value.flushed5] at e
  have hi : ((cfg0.win 5).blk t).view.emb (ix2 r j) = (ix2 (brow n hn r) j : S8192x1024.Idx) :=
    entry2 id _ (block (index_at t).2.2.2.2.2.1.1 1024 r.val) (whole (index_at t).2.2.2.2.2.1.2 1024 j.val)
  rw [hi] at e
  refine e.trans ((out5 _ _ _ _ _ r j).trans ?_)
  rw [blk1]
  exact Cert.Rows.dhf_congr _ (blk0 m c t r) j

/-- The trunk after the run. -/
theorem arr6 (p : Fin 8192) (j : Fin 1024) : (dats m 0 c).arrAt 6 cfg0.N (ix2 p j) = xof (argA m c) (argW m c) (argX m c) (layer (argG m c) 0) p j := by
  obtain ⟨n, hn, r, rfl⟩ := brow_surj p
  let t : Fin cfg0.N := ⟨n, by rw [show cfg0.N = 8 from N_0]; exact hn⟩
  have e := congrFun (Value.blocks6 m c t (flush0_6 t)) (ix2 r j)
  rw [View.read_apply, Value.flushed6] at e
  have hi : ((cfg0.win 6).blk t).view.emb (ix2 r j) = (ix2 (brow n hn r) j : S8192x1024.Idx) :=
    entry2 id _ (block (index_at t).2.2.2.2.2.2.1.1 1024 r.val) (whole (index_at t).2.2.2.2.2.2.1.2 1024 j.val)
  rw [hi] at e
  refine e.trans ((out6 _ _ _ _ _ r j).trans ?_)
  rw [blk1, blk3]
  exact xof_congr _ _ (blk0 m c t r) (blk2 m c t r) j

/-- The next branch's rows after the run. -/
theorem arr7 (p : Fin 8192) (j : Fin 1024) :
    (dats m 0 c).arrAt 7 cfg0.N (ix2 p j) = hof (argA m c) (argW m c) (argX m c) (layer (argG m c) 0) (layer (argG2 m c) nxt) p j := by
  obtain ⟨n, hn, r, rfl⟩ := brow_surj p
  let t : Fin cfg0.N := ⟨n, by rw [show cfg0.N = 8 from N_0]; exact hn⟩
  have e := congrFun (Value.blocks7 m c t (flush0_7 t)) (ix2 r j)
  rw [View.read_apply, Value.flushed7] at e
  have hi : ((cfg0.win 7).blk t).view.emb (ix2 r j) = (ix2 (brow n hn r) j : S8192x1024.Idx) :=
    entry2 id _ (block (index_at t).2.2.2.2.2.2.2.1 1024 r.val) (whole (index_at t).2.2.2.2.2.2.2.2 1024 j.val)
  rw [hi] at e
  refine e.trans ((out7 _ _ _ _ _ r j).trans ?_)
  rw [blk1, blk3, blk4]
  exact hof_congr _ _ _ (blk0 m c t r) (blk2 m c t r) j

end Cert.BranchOutIdeal.RefValue

namespace Cert.BranchOutRefIdeal.RefValue

open Cert.BranchOutRefIdeal Cert.BranchOutRefIdeal.Gen Cert.BranchOutRefIdeal.Read Cert.Half Idealize.ShloMosaic Idealize.ShloMosaic.TcCoe Idealize.SL.Sem Idealize.ShloMosaic.ValueIdx
open Cert.Rows (dhf row rt)
open Cert.BranchOutIdeal.RefValue (layer nxt)
open scoped BigOperators

variable (x0 : (⟨S8192x1024, .bf16⟩ : BufTy).Contents (Elt Ideal)) (x1 : (⟨S1024x1024, .bf16⟩ : BufTy).Contents (Elt Ideal))
  (x2 : (⟨S8192x1024, .f32⟩ : BufTy).Contents (Elt Ideal)) (x3 x4 : (⟨S4x1x1024, .f32⟩ : BufTy).Contents (Elt Ideal))

/-- The product. -/
theorem ref2 (p : Fin 8192) (j : Fin 1024) : val_main_v2 (F := Ideal) x0 x1 (ix2 p j) = dhf x0 x1 p j := by
  rw [val_main_v2_apply]
  refine Finset.sum_congr rfl fun l _ => ?_
  rw [val_main_v0_apply, val_main_v1_apply]
  refine congrArg₂ (· * ·) (congrArg x0 ?_) (congrArg x1 ?_) <;>
    exact funext fun a => match a with | ⟨0, _⟩ => rfl | ⟨1, _⟩ => rfl

/-- The branch's gain, spread over the rows. -/
theorem ref15 (p : Fin 8192) (j : Fin 1024) : val_main_v15 (F := Ideal) x3 (ix2 p j) = layer x3 0 j := Cert.FfnInRefIdeal.RefValue.ref25 x3 p j

/-- The trunk. -/
theorem ref17 (p : Fin 8192) (j : Fin 1024) : val_main_v17 (F := Ideal) x0 x1 x2 x3 (ix2 p j) = xof x0 x1 x2 (layer x3 0) p j := by
  rw [val_main_v17_apply, val_main_v16_apply, val_main_v14_apply, ref15, ref2,
    show val_main_v13 (F := Ideal) x0 x1 (ix2 p j) = rt (row (val_main_v2 (F := Ideal) x0 x1) p) from Cert.FfnInRefIdeal.RefValue.ref13 (val_main_v2 (F := Ideal) x0 x1) p j,
    show row (val_main_v2 (F := Ideal) x0 x1) p = fun j => dhf x0 x1 p j from funext fun l => ref2 x0 x1 p l]
  rfl

/-- The next branch's gain, spread over the rows. -/
theorem ref30 (p : Fin 8192) (j : Fin 1024) : val_main_v30 (F := Ideal) x4 (ix2 p j) = layer x4 nxt j := by
  rw [val_main_v30_apply, val_main_v19_apply, val_main_v18_apply]
  refine congrArg x4 (funext fun a => Fin.ext ?_)
  match a with
  | ⟨0, _⟩ => rfl
  | ⟨1, _⟩ => rfl
  | ⟨2, _⟩ => show (0 * 1024 + j.val) % 1024 = j.val; omega

/-- The next branch's rows. -/
theorem ref32 (p : Fin 8192) (j : Fin 1024) : val_main_v32 (F := Ideal) x0 x1 x2 x3 x4 (ix2 p j) = hof x0 x1 x2 (layer x3 0) (layer x4 nxt) p j := by
  rw [val_main_v32_apply, val_main_v31_apply, val_main_v29_apply, ref30, ref17,
    show val_main_v28 (F := Ideal) x0 x1 x2 x3 (ix2 p j) = rt (row (val_main_v17 (F := Ideal) x0 x1 x2 x3) p) from
      Cert.FfnInRefIdeal.RefValue.ref13 (val_main_v17 (F := Ideal) x0 x1 x2 x3) p j,
    show row (val_main_v17 (F := Ideal) x0 x1 x2 x3) p = fun j => xof x0 x1 x2 (layer x3 0) p j from funext fun l => ref17 x0 x1 x2 x3 p l]
  rfl

end Cert.BranchOutRefIdeal.RefValue

namespace Cert.BranchOutEq

open Idealize.ShloMosaic Idealize.ShloMosaic.TcCoe Idealize.SL.Sem Idealize.ShloMosaic.ValueIdx
open Cert.BranchOutIdeal.RefValue (arr5 arr6 arr7)
open Cert.BranchOutRefIdeal.RefValue (ref2 ref17 ref32)

/-- The frame of the kernel. -/
theorem frame_p : quiescent_BranchOut := fun m ρ _ => Cert.BranchOut.Gen.frame m ρ

/-- The frame of the idealized kernel. -/
theorem frame_pi : quiescent_BranchOutIdeal := fun m ρ _ => Cert.BranchOutIdeal.Gen.frame m ρ

/-- The frame of the reference: its run ends with its arguments as they were, and it declares no semaphore. -/
theorem frame_ri : quiescent_BranchOutRefIdeal := fun m ρ _ =>
  (θ_run Cert.BranchOutRefIdeal.defs _ _).mono (fun r h => ⟨fun c => (h c).2.2.2, sem_eq_zero_of_no_sems (by decide) r.2⟩)
    (Cert.BranchOutRefIdeal.Value.run (F := Ideal) m ρ)

/-- The call computes the product, the trunk with its normalised rows, and the next branch's normalised rows. -/
theorem same : algebraic_BranchOutIdeal_BranchOutRefIdeal := by
  intro m g m' g' hm ha
  refine ⟨fun c => (Cert.BranchOutIdeal.Gen.dats m 0 c).arrAt 5 Cert.BranchOutIdeal.cfg0.N, fun c => (Cert.BranchOutIdeal.Gen.dats m 0 c).arrAt 6 Cert.BranchOutIdeal.cfg0.N,
    fun c => (Cert.BranchOutIdeal.Gen.dats m 0 c).arrAt 7 Cert.BranchOutIdeal.cfg0.N, Cert.BranchOutIdeal.Value.run_blocks m g, ?_⟩
  refine (θ_run Cert.BranchOutRefIdeal.defs _ _).mono (fun r h c => ?_) (Cert.BranchOutRefIdeal.Value.run (F := Ideal) m' g')
  obtain ⟨h2, h17, h32, hrest⟩ := h c
  obtain ⟨a0, a1, a2, a3, a4⟩ := ha c
  refine ⟨h2.trans ?_, h17.trans ?_, h32.trans ?_, hrest⟩
  · rw [Cert.BranchOutRefIdeal.Read.val_main_v2_eq, a0, a1]
    refine funext fun i => ?_
    obtain ⟨p, j, rfl⟩ : ∃ (p : Fin 8192) (j : Fin 1024), i = ix2 p j := ⟨i 0, i 1, eq_ix2 i⟩
    exact (ref2 _ _ p j).trans (arr5 m c p j).symm
  · rw [Cert.BranchOutRefIdeal.Read.val_main_v17_eq, a0, a1, a2, a3]
    refine funext fun i => ?_
    obtain ⟨p, j, rfl⟩ : ∃ (p : Fin 8192) (j : Fin 1024), i = ix2 p j := ⟨i 0, i 1, eq_ix2 i⟩
    exact (ref17 _ _ _ _ p j).trans (arr6 m c p j).symm
  · rw [Cert.BranchOutRefIdeal.Read.val_main_v32_eq, a0, a1, a2, a3, a4]
    refine funext fun i => ?_
    obtain ⟨p, j, rfl⟩ : ∃ (p : Fin 8192) (j : Fin 1024), i = ix2 p j := ⟨i 0, i 1, eq_ix2 i⟩
    exact (ref32 _ _ _ _ _ p j).trans (arr7 m c p j).symm

end Cert.BranchOutEq

end
-- ==== Proof.DownOutEq.lean ====
/-
  The feed-forward branch's last product, its normalised rows added to the trunk, and the next branch's normalised rows: each point's
  blocks of the three results are the reference's rows.
-/
module

public import proofs.«01_k».proof.Proof.At
public import proofs.«01_k».proof.Proof.Half
public import proofs.«01_k».proof.Proof.FfnRef
public import proofs.«01_k».proof.Proof.Gen.DownOutIdeal.Value
public import proofs.«01_k».proof.Proof.Gen.DownOut.Frame
public import proofs.«01_k».proof.Proof.Gen.DownOutRefIdeal.Read
public import proofs.«01_k».proof.Defs

@[expose] public section

set_option maxRecDepth 16384

noncomputable section

namespace Cert.DownOutIdeal.RefValue

open Cert.DownOutIdeal Cert.DownOutIdeal.Gen Cert.Half Idealize.ShloMosaic Idealize.ShloMosaic.TcCoe Idealize.SL.Sem Idealize.ShloMosaic.ValueIdx
open Cert.At (entry2 same2 entry3 whole block)
open Cert.Rows (dhf row)
open scoped BigOperators

/-- Zero offsets, of two axes. -/
theorem hz : (![0, 0] : Fin 2 → Nat) = fun _ => 0 := funext fun a => by fin_cases a <;> rfl
/-- Zero offsets, of three axes. -/
theorem hz3 : (![0, 0, 0] : Fin 3 → Nat) = fun _ => 0 := funext fun a => by fin_cases a <;> rfl

section Points
variable (x0 : Vec Ideal S1024x2816 .bf16) (x1 : Vec Ideal S2816x1024 .bf16) (x2 : Vec Ideal S1024x1024 .f32) (x3 x4 : Vec Ideal S1x1x1024 .f32)

/-- A gain, as a function of the column. -/
abbrev gain (g : Vec Ideal S1x1x1024 .f32) : Fin 1024 → EReal := fun k => g (ix3 (0 : Fin 1) (0 : Fin 1) k)

/-- The product, in a half. -/
theorem half5 (o : ℕ) (inb) (h : Fin 2) (ho : o = 512 * h.val) (k : Fin 512) (j : Fin 1024) :
    k0_pay2 (F := Ideal) x1 (band x0 o inb) (ix2 k j) = dhf x0 x1 (half h k) j := by
  unfold k0_pay2
  exact prod_vec _ _ x0 x1 h k (fun l => band_apply x0 o inb h ho k l) j

/-- The trunk, in a half. -/
theorem half6 (o : ℕ) (inb inb') (h : Fin 2) (ho : o = 512 * h.val) (k : Fin 512) (j : Fin 1024) :
    k0_pay3 (F := Ideal) x1 (k0_pay5 x3) (band x0 o inb) (band x2 o inb') (ix2 k j) = xof x0 x1 x2 (gain x3) (half h k) j := by
  unfold k0_pay3
  refine (x_vec _ _ _ _ _ _ _ _ k j).trans ?_
  rw [band_apply x2 o inb' h ho, show row (k0_pay2 (F := Ideal) x1 (band x0 o inb)) k = fun j => dhf x0 x1 (half h k) j from funext fun l => half5 x0 x1 o inb h ho k l,
    show k0_pay5 (F := Ideal) x3 (ix2 (0 : Fin 1) j) = gain x3 j from slab_row _ _ j]

/-- The next branch's rows, in a half. -/
theorem half7 (o : ℕ) (inb inb') (h : Fin 2) (ho : o = 512 * h.val) (k : Fin 512) (j : Fin 1024) :
    k0_pay4 (F := Ideal) x1 (k0_pay5 x3) (k0_pay6 x4) (band x0 o inb) (band x2 o inb') (ix2 k j) = hof x0 x1 x2 (gain x3) (gain x4) (half h k) j := by
  unfold k0_pay4
  dsimp only
  rw [truncf_apply]
  refine (h_vec _ _ _ _ _ _ _ k j).trans ?_
  rw [show row (k0_pay3 (F := Ideal) x1 (k0_pay5 x3) (band x0 o inb) (band x2 o inb')) k = fun j => xof x0 x1 x2 (gain x3) (half h k) j from
      funext fun l => half6 x0 x1 x2 x3 o inb inb' h ho k l,
    show k0_pay6 (F := Ideal) x4 (ix2 (0 : Fin 1) j) = gain x4 j from slab_row _ _ j]

/-- The block of the product. -/
theorem out5 (r : Fin 1024) (j : Fin 1024) : out0_5 x0 x1 x2 x3 x4 (ix2 r j) = dhf x0 x1 r j := by
  unfold out0_5
  rw [show View.ld x1 r0_0 = x1 from View.ld_unit_zero (S := S2816x1024) hz _ x1]
  refine canon_halves (Val := Elt Ideal) (e := .f32) _ _ _ _ [] (fun r => dhf x0 x1 r j) j (fun v => v) ?_ ?_ r
  · exact fun k => half5 x0 x1 0 _ 0 rfl k j
  · exact fun k => half5 x0 x1 512 _ 1 rfl k j

/-- The block of the trunk. -/
theorem out6 (r : Fin 1024) (j : Fin 1024) : out0_6 x0 x1 x2 x3 x4 (ix2 r j) = xof x0 x1 x2 (gain x3) r j := by
  unfold out0_6
  rw [show k0_pay11 (F := Ideal) x0 x1 x2 x3 x4 = k0_pay5 (View.ld x3 r0_1) from rfl, show View.ld x1 r0_0 = x1 from View.ld_unit_zero (S := S2816x1024) hz _ x1,
    show View.ld x3 r0_1 = x3 from View.ld_unit_zero (S := S1x1x1024) hz3 _ x3]
  refine canon_halves (Val := Elt Ideal) (e := .f32) _ _ _ _ [] (fun r => xof x0 x1 x2 (gain x3) r j) j (fun v => v) ?_ ?_ r
  · exact fun k => half6 x0 x1 x2 x3 0 _ _ 0 rfl k j
  · exact fun k => half6 x0 x1 x2 x3 512 _ _ 1 rfl k j

/-- The block of the next branch's rows. -/
theorem out7 (r : Fin 1024) (j : Fin 1024) : out0_7 x0 x1 x2 x3 x4 (ix2 r j) = hof x0 x1 x2 (gain x3) (gain x4) r j := by
  unfold out0_7
  rw [show k0_pay11 (F := Ideal) x0 x1 x2 x3 x4 = k0_pay5 (View.ld x3 r0_1) from rfl, show View.ld x1 r0_0 = x1 from View.ld_unit_zero (S := S2816x1024) hz _ x1,
    show View.ld x3 r0_1 = x3 from View.ld_unit_zero (S := S1x1x1024) hz3 _ x3, show View.ld x4 r0_1 = x4 from View.ld_unit_zero (S := S1x1x1024) hz3 _ x4]
  refine canon_halves (Val := Elt Ideal) (e := .bf16) _ _ _ _ [] (fun r => hof x0 x1 x2 (gain x3) (gain x4) r j) j (fun v => v) ?_ ?_ r
  · exact fun k => half7 x0 x1 x2 x3 x4 0 _ _ 0 rfl k j
  · exact fun k => half7 x0 x1 x2 x3 x4 512 _ _ 1 rfl k j
end Points

variable (m : (ℓ : Loc nD τ sig) → Buf (Elt Ideal) ℓ) (ρ : Dev nD → PrngReg) (c : Dev nD)

/-- The product's left side. -/
abbrev argA : S8192x2816.Idx → EReal := m ((c : Thread nD τ).loc main_arg0)
/-- The weights. -/
abbrev argW : S2816x1024.Idx → EReal := m ((c : Thread nD τ).loc main_arg1)
/-- The trunk. -/
abbrev argX : S8192x1024.Idx → EReal := m ((c : Thread nD τ).loc main_arg2)
/-- The branch's gains. -/
abbrev argG : S4x1x1024.Idx → EReal := m ((c : Thread nD τ).loc main_arg3)
/-- The next branch's gains. -/
abbrev argG2 : S4x1x1024.Idx → EReal := m ((c : Thread nD τ).loc main_arg4)
/-- A layer's gain, as a function of the column. -/
abbrev layer (g : S4x1x1024.Idx → EReal) (l : Fin 4) : Fin 1024 → EReal := fun k => g (ix3 l (0 : Fin 1) k)
/-- The layer whose gain the next branch takes. -/
abbrev nxt : Fin 4 := 1

/-- There are eight points. -/
theorem lt8 (t : Fin cfg0.N) : t.val < 8 := by have hN : cfg0.N = 8 := N_0; have := t.isLt; omega

/-- Which block each point takes. -/
theorem index_at : ∀ t : Fin cfg0.N, (win0_0.index t 0 = t.val ∧ win0_0.index t 1 = 0) ∧ (win0_1.index t 0 = 0 ∧ win0_1.index t 1 = 0) ∧ (win0_2.index t 0 = t.val ∧ win0_2.index t 1 = 0)
    ∧ (win0_3.index t 0 = 0 ∧ win0_3.index t 1 = 0 ∧ win0_3.index t 2 = 0) ∧ (win0_4.index t 0 = nxt.val ∧ win0_4.index t 1 = 0 ∧ win0_4.index t 2 = 0)
    ∧ (win0_5.index t 0 = t.val ∧ win0_5.index t 1 = 0) ∧ (win0_6.index t 0 = t.val ∧ win0_6.index t 1 = 0) ∧ (win0_7.index t 0 = t.val ∧ win0_7.index t 1 = 0) :=
  (by decide +kernel : ∀ t : Fin grid0.N, (win0_0.index t 0 = t.val ∧ win0_0.index t 1 = 0) ∧ (win0_1.index t 0 = 0 ∧ win0_1.index t 1 = 0) ∧ (win0_2.index t 0 = t.val ∧ win0_2.index t 1 = 0)
    ∧ (win0_3.index t 0 = 0 ∧ win0_3.index t 1 = 0 ∧ win0_3.index t 2 = 0) ∧ (win0_4.index t 0 = nxt.val ∧ win0_4.index t 1 = 0 ∧ win0_4.index t 2 = 0)
    ∧ (win0_5.index t 0 = t.val ∧ win0_5.index t 1 = 0) ∧ (win0_6.index t 0 = t.val ∧ win0_6.index t 1 = 0) ∧ (win0_7.index t 0 = t.val ∧ win0_7.index t 1 = 0))

/-- The left side's block. -/
theorem blk0 (t : Fin cfg0.N) (r : Fin 1024) (d : Fin 2816) : (iblk m c 0 t : Vec Ideal S1024x2816 .bf16) (ix2 r d) = argA m c (ix2 (brow t.val (lt8 t) r) d) :=
  entry2 (argA m c) _ (block (index_at t).1.1 1024 r.val) (whole (index_at t).1.2 2816 d.val)

/-- The weights' block. -/
theorem blk1 (t : Fin cfg0.N) : (iblk m c 1 t : Vec Ideal S2816x1024 .bf16) = argW m c :=
  funext fun i => same2 (argW m c) _ i (whole (index_at t).2.1.1 2816 (i 0).val) (whole (index_at t).2.1.2 1024 (i 1).val)

/-- The trunk's block. -/
theorem blk2 (t : Fin cfg0.N) (r : Fin 1024) (d : Fin 1024) : (iblk m c 2 t : Vec Ideal S1024x1024 .f32) (ix2 r d) = argX m c (ix2 (brow t.val (lt8 t) r) d) :=
  entry2 (argX m c) _ (block (index_at t).2.2.1.1 1024 r.val) (whole (index_at t).2.2.1.2 1024 d.val)

/-- The branch's gain. -/
theorem blk3 (t : Fin cfg0.N) : gain (iblk m c 3 t) = layer (argG m c) 0 :=
  funext fun k => entry3 (argG m c) _ (whole (index_at t).2.2.2.1.1 1 0) (whole (index_at t).2.2.2.1.2.1 1 0) (whole (index_at t).2.2.2.1.2.2 1024 k.val)

/-- The next branch's gain. -/
theorem blk4 (t : Fin cfg0.N) : gain (iblk m c 4 t) = layer (argG2 m c) nxt :=
  funext fun k => entry3 (argG2 m c) _ (by show win0_4.index t 0 * 1 + 1 * 0 = nxt.val; rw [(index_at t).2.2.2.2.1.1]; omega) (whole (index_at t).2.2.2.2.1.2.1 1 0) (whole (index_at t).2.2.2.2.1.2.2 1024 k.val)

/-- The product after the run. -/
theorem arr5 (p : Fin 8192) (j : Fin 1024) : (dats m 0 c).arrAt 5 cfg0.N (ix2 p j) = dhf (argA m c) (argW m c) p j := by
  obtain ⟨n, hn, r, rfl⟩ := brow_surj p
  let t : Fin cfg0.N := ⟨n, by rw [show cfg0.N = 8 from N_0]; exact hn⟩
  have e := congrFun (Value.blocks5 m c t (flush0_5 t)) (ix2 r j)
  rw [View.read_apply, Value.flushed5] at e
  have hi : ((cfg0.win 5).blk t).view.emb (ix2 r j) = (ix2 (brow n hn r) j : S8192x1024.Idx) :=
    entry2 id _ (block (index_at t).2.2.2.2.2.1.1 1024 r.val) (whole (index_at t).2.2.2.2.2.1.2 1024 j.val)
  rw [hi] at e
  refine e.trans ((out5 _ _ _ _ _ r j).trans ?_)
  rw [blk1]
  exact Cert.Rows.dhf_congr _ (blk0 m c t r) j

/-- The trunk after the run. -/
theorem arr6 (p : Fin 8192) (j : Fin 1024) : (dats m 0 c).arrAt 6 cfg0.N (ix2 p j) = xof (argA m c) (argW m c) (argX m c) (layer (argG m c) 0) p j := by
  obtain ⟨n, hn, r, rfl⟩ := brow_surj p
  let t : Fin cfg0.N := ⟨n, by rw [show cfg0.N = 8 from N_0]; exact hn⟩
  have e := congrFun (Value.blocks6 m c t (flush0_6 t)) (ix2 r j)
  rw [View.read_apply, Value.flushed6] at e
  have hi : ((cfg0.win 6).blk t).view.emb (ix2 r j) = (ix2 (brow n hn r) j : S8192x1024.Idx) :=
    entry2 id _ (block (index_at t).2.2.2.2.2.2.1.1 1024 r.val) (whole (index_at t).2.2.2.2.2.2.1.2 1024 j.val)
  rw [hi] at e
  refine e.trans ((out6 _ _ _ _ _ r j).trans ?_)
  rw [blk1, blk3]
  exact xof_congr _ _ (blk0 m c t r) (blk2 m c t r) j

/-- The next branch's rows after the run. -/
theorem arr7 (p : Fin 8192) (j : Fin 1024) :
    (dats m 0 c).arrAt 7 cfg0.N (ix2 p j) = hof (argA m c) (argW m c) (argX m c) (layer (argG m c) 0) (layer (argG2 m c) nxt) p j := by
  obtain ⟨n, hn, r, rfl⟩ := brow_surj p
  let t : Fin cfg0.N := ⟨n, by rw [show cfg0.N = 8 from N_0]; exact hn⟩
  have e := congrFun (Value.blocks7 m c t (flush0_7 t)) (ix2 r j)
  rw [View.read_apply, Value.flushed7] at e
  have hi : ((cfg0.win 7).blk t).view.emb (ix2 r j) = (ix2 (brow n hn r) j : S8192x1024.Idx) :=
    entry2 id _ (block (index_at t).2.2.2.2.2.2.2.1 1024 r.val) (whole (index_at t).2.2.2.2.2.2.2.2 1024 j.val)
  rw [hi] at e
  refine e.trans ((out7 _ _ _ _ _ r j).trans ?_)
  rw [blk1, blk3, blk4]
  exact hof_congr _ _ _ (blk0 m c t r) (blk2 m c t r) j

end Cert.DownOutIdeal.RefValue

namespace Cert.DownOutRefIdeal.RefValue

open Cert.DownOutRefIdeal Cert.DownOutRefIdeal.Gen Cert.DownOutRefIdeal.Read Cert.Half Idealize.ShloMosaic Idealize.ShloMosaic.TcCoe Idealize.SL.Sem Idealize.ShloMosaic.ValueIdx
open Cert.Rows (dhf row rt)
open Cert.DownOutIdeal.RefValue (layer nxt)
open scoped BigOperators

variable (x0 : (⟨S8192x2816, .bf16⟩ : BufTy).Contents (Elt Ideal)) (x1 : (⟨S2816x1024, .bf16⟩ : BufTy).Contents (Elt Ideal))
  (x2 : (⟨S8192x1024, .f32⟩ : BufTy).Contents (Elt Ideal)) (x3 x4 : (⟨S4x1x1024, .f32⟩ : BufTy).Contents (Elt Ideal))

/-- The product. -/
theorem ref2 (p : Fin 8192) (j : Fin 1024) : val_main_v2 (F := Ideal) x0 x1 (ix2 p j) = dhf x0 x1 p j := by
  rw [val_main_v2_apply]
  refine Finset.sum_congr rfl fun l _ => ?_
  rw [val_main_v0_apply, val_main_v1_apply]
  refine congrArg₂ (· * ·) (congrArg x0 ?_) (congrArg x1 ?_) <;>
    exact funext fun a => match a with | ⟨0, _⟩ => rfl | ⟨1, _⟩ => rfl

/-- The branch's gain, spread over the rows. -/
theorem ref15 (p : Fin 8192) (j : Fin 1024) : val_main_v15 (F := Ideal) x3 (ix2 p j) = layer x3 0 j := Cert.FfnInRefIdeal.RefValue.ref25 x3 p j

/-- The trunk. -/
theorem ref17 (p : Fin 8192) (j : Fin 1024) : val_main_v17 (F := Ideal) x0 x1 x2 x3 (ix2 p j) = xof x0 x1 x2 (layer x3 0) p j := by
  rw [val_main_v17_apply, val_main_v16_apply, val_main_v14_apply, ref15, ref2,
    show val_main_v13 (F := Ideal) x0 x1 (ix2 p j) = rt (row (val_main_v2 (F := Ideal) x0 x1) p) from Cert.FfnInRefIdeal.RefValue.ref13 (val_main_v2 (F := Ideal) x0 x1) p j,
    show row (val_main_v2 (F := Ideal) x0 x1) p = fun j => dhf x0 x1 p j from funext fun l => ref2 x0 x1 p l]
  rfl

/-- The next branch's gain, spread over the rows. -/
theorem ref30 (p : Fin 8192) (j : Fin 1024) : val_main_v30 (F := Ideal) x4 (ix2 p j) = layer x4 nxt j := by
  rw [val_main_v30_apply, val_main_v19_apply, val_main_v18_apply]
  refine congrArg x4 (funext fun a => Fin.ext ?_)
  match a with
  | ⟨0, _⟩ => rfl
  | ⟨1, _⟩ => rfl
  | ⟨2, _⟩ => show (0 * 1024 + j.val) % 1024 = j.val; omega

/-- The next branch's rows. -/
theorem ref32 (p : Fin 8192) (j : Fin 1024) : val_main_v32 (F := Ideal) x0 x1 x2 x3 x4 (ix2 p j) = hof x0 x1 x2 (layer x3 0) (layer x4 nxt) p j := by
  rw [val_main_v32_apply, val_main_v31_apply, val_main_v29_apply, ref30, ref17,
    show val_main_v28 (F := Ideal) x0 x1 x2 x3 (ix2 p j) = rt (row (val_main_v17 (F := Ideal) x0 x1 x2 x3) p) from
      Cert.FfnInRefIdeal.RefValue.ref13 (val_main_v17 (F := Ideal) x0 x1 x2 x3) p j,
    show row (val_main_v17 (F := Ideal) x0 x1 x2 x3) p = fun j => xof x0 x1 x2 (layer x3 0) p j from funext fun l => ref17 x0 x1 x2 x3 p l]
  rfl

end Cert.DownOutRefIdeal.RefValue

namespace Cert.DownOutEq

open Idealize.ShloMosaic Idealize.ShloMosaic.TcCoe Idealize.SL.Sem Idealize.ShloMosaic.ValueIdx
open Cert.DownOutIdeal.RefValue (arr5 arr6 arr7)
open Cert.DownOutRefIdeal.RefValue (ref2 ref17 ref32)

/-- The frame of the kernel. -/
theorem frame_p : quiescent_DownOut := fun m ρ _ => Cert.DownOut.Gen.frame m ρ

/-- The frame of the idealized kernel. -/
theorem frame_pi : quiescent_DownOutIdeal := fun m ρ _ => Cert.DownOutIdeal.Gen.frame m ρ

/-- The frame of the reference: its run ends with its arguments as they were, and it declares no semaphore. -/
theorem frame_ri : quiescent_DownOutRefIdeal := fun m ρ _ =>
  (θ_run Cert.DownOutRefIdeal.defs _ _).mono (fun r h => ⟨fun c => (h c).2.2.2, sem_eq_zero_of_no_sems (by decide) r.2⟩)
    (Cert.DownOutRefIdeal.Value.run (F := Ideal) m ρ)

/-- The call computes the product, the trunk with its normalised rows, and the next branch's normalised rows. -/
theorem same : algebraic_DownOutIdeal_DownOutRefIdeal := by
  intro m g m' g' hm ha
  refine ⟨fun c => (Cert.DownOutIdeal.Gen.dats m 0 c).arrAt 5 Cert.DownOutIdeal.cfg0.N, fun c => (Cert.DownOutIdeal.Gen.dats m 0 c).arrAt 6 Cert.DownOutIdeal.cfg0.N,
    fun c => (Cert.DownOutIdeal.Gen.dats m 0 c).arrAt 7 Cert.DownOutIdeal.cfg0.N, Cert.DownOutIdeal.Value.run_blocks m g, ?_⟩
  refine (θ_run Cert.DownOutRefIdeal.defs _ _).mono (fun r h c => ?_) (Cert.DownOutRefIdeal.Value.run (F := Ideal) m' g')
  obtain ⟨h2, h17, h32, hrest⟩ := h c
  obtain ⟨a0, a1, a2, a3, a4⟩ := ha c
  refine ⟨h2.trans ?_, h17.trans ?_, h32.trans ?_, hrest⟩
  · rw [Cert.DownOutRefIdeal.Read.val_main_v2_eq, a0, a1]
    refine funext fun i => ?_
    obtain ⟨p, j, rfl⟩ : ∃ (p : Fin 8192) (j : Fin 1024), i = ix2 p j := ⟨i 0, i 1, eq_ix2 i⟩
    exact (ref2 _ _ p j).trans (arr5 m c p j).symm
  · rw [Cert.DownOutRefIdeal.Read.val_main_v17_eq, a0, a1, a2, a3]
    refine funext fun i => ?_
    obtain ⟨p, j, rfl⟩ : ∃ (p : Fin 8192) (j : Fin 1024), i = ix2 p j := ⟨i 0, i 1, eq_ix2 i⟩
    exact (ref17 _ _ _ _ p j).trans (arr6 m c p j).symm
  · rw [Cert.DownOutRefIdeal.Read.val_main_v32_eq, a0, a1, a2, a3, a4]
    refine funext fun i => ?_
    obtain ⟨p, j, rfl⟩ : ∃ (p : Fin 8192) (j : Fin 1024), i = ix2 p j := ⟨i 0, i 1, eq_ix2 i⟩
    exact (ref32 _ _ _ _ _ p j).trans (arr7 m c p j).symm

end Cert.DownOutEq

end
-- ==== Proof.QueryInOut.lean ====
/-
  The product into the queries' gradient with the two normalisations' gradients, in blocks of 1024 rows: what one grid
  point leaves in the four result blocks. The halves' stores are two bands of 512 rows; the gains' gradients are what was
  there with the point's part added (at the first point, added to zero). The weights enter by their rows.
-/
module

public import proofs.«01_k».proof.Proof.Half
public import proofs.«01_k».proof.Proof.Gen.QueryInIdeal.Value

@[expose] public section

set_option maxRecDepth 16384

noncomputable section

namespace Cert.QueryInIdeal.RefValue

open Cert.QueryInIdeal Cert.QueryInIdeal.Gen Cert.Half Idealize.ShloMosaic Idealize.ShloMosaic.TcCoe Idealize.SL.Sem Idealize.ShloMosaic.ValueIdx
open Cert.Rows (rt back row width dhf dxf dyf g1f g2f)
open scoped BigOperators

/-- Zero offsets, of two axes. -/
theorem hz : (![0, 0] : Fin 2 → Nat) = fun _ => 0 := funext fun a => by fin_cases a <;> rfl
/-- Zero offsets, of three axes. -/
theorem hz3 : (![0, 0, 0] : Fin 3 → Nat) = fun _ => 0 := funext fun a => by fin_cases a <;> rfl

/-- The weights with rows and columns exchanged. -/
def tr (w : (⟨2, ![1024, 1024]⟩ : Shape).Idx → EReal) : (⟨2, ![1024, 1024]⟩ : Shape).Idx → EReal := fun i => w (ix2 (i 1) (i 0))
/-- A gain, as a function of the column. -/
abbrev gain (g : Vec Ideal S1x1x1024 .f32) : Fin 1024 → EReal := fun k => g (ix3 (0 : Fin 1) (0 : Fin 1) k)

/-! ### The payloads -/

/-- The factor of each row. -/
theorem pay1_apply (x : Vec Ideal S512x1024 .f32) (r : Fin 512) : k0_pay1 (F := Ideal) x (ix2 r (0 : Fin 1)) = rt (row x r) := by
  unfold k0_pay1
  exact rt_vec x _ _ _ r

/-- The normalised rows. -/
theorem pay2_apply (x : Vec Ideal S512x1024 .f32) (r : Fin 512) (j : Fin 1024) : k0_pay2 (F := Ideal) x (ix2 r j) = x (ix2 r j) * rt (row x r) := by
  unfold k0_pay2
  rw [mulf_apply, over_cols, pay1_apply]

/-- The gain, as a row. -/
theorem pay7_apply (g : Vec Ideal S1x1x1024 .f32) (j : Fin 1024) : k0_pay7 (F := Ideal) g (ix2 (0 : Fin 1) j) = gain g j := slab_row _ _ j

/-- The product. -/
theorem pay8_apply (w : Vec Ideal S1024x1024 .bf16) (a : Vec Ideal S512x1024 .bf16) (r : Fin 512) (j : Fin 1024) :
    k0_pay8 (F := Ideal) w a (ix2 r j) = dhf a (tr w) r j := by
  unfold k0_pay8
  exact Cert.Prod.unit_nt none _ a w r j

/-- The gradient of the rows from the gradient of the normalised rows with their gain. -/
theorem pay3_apply (d : FVec Ideal S512x1024 .f32) (x : Vec Ideal S512x1024 .f32) (g : Vec Ideal S1x1x1024 .f32) (r : Fin 512) (j : Fin 1024) :
    k0_pay3 (F := Ideal) d x g (ix2 r j) = back (row x r) (fun k => d (ix2 r k) * gain g k) j := by
  have hg : ∀ k, shapeCast S1x1024 g shapeCasts_S1x1x1024_S1x1024 (ix2 (0 : Fin 1) k) = gain g k := pay7_apply g
  unfold k0_pay3
  dsimp only
  rw [truncf_apply, mulf_apply, subf_apply, mulf_apply, mulf_apply, over_cols, over_cols, over_rows, pay1_apply, pay2_apply, hg, divf_apply, rowsum]
  simp only [mulf_apply, over_rows, pay2_apply, hg]
  rfl

/-- The first gradient of the rows, with the gradient that came past the branch. -/
theorem pay11_apply (w : Vec Ideal S1024x1024 .bf16) (g : Vec Ideal S1x1x1024 .f32) (a : Vec Ideal S512x1024 .bf16) (x z : Vec Ideal S512x1024 .f32) (r : Fin 512) (j : Fin 1024) :
    k0_pay11 (F := Ideal) w g a x z (ix2 r j) = dxf a (tr w) z x (gain g) r j := by
  have h10 : k0_pay10 (F := Ideal) x = k0_pay2 x := rfl
  have h9 : k0_pay9 (F := Ideal) x = k0_pay1 x := rfl
  unfold k0_pay11
  dsimp only
  rw [h10, h9, addf_apply, mulf_apply, subf_apply, mulf_apply, mulf_apply, over_cols, over_cols, over_rows, pay1_apply, pay2_apply, pay7_apply, divf_apply, rowsum]
  simp only [mulf_apply, over_rows, pay2_apply, pay7_apply, pay8_apply]
  rfl

/-- The rows' part of a gain's gradient, added to what was there. -/
theorem pay4_apply (d : FVec Ideal S512x1024 .f32) (x : Vec Ideal S512x1024 .f32) (acc : Vec Ideal S1x1024 .f32) (j : Fin 1024) :
    k0_pay4 (F := Ideal) d x acc (ix2 (0 : Fin 1) j) = acc (ix2 (0 : Fin 1) j) + ∑ r : Fin 512, d (ix2 r j) * (x (ix2 r j) * rt (row x r)) := by
  unfold k0_pay4
  dsimp only
  rw [addf_apply, shapeCast_self, colsum]
  simp only [mulf_apply, pay2_apply]

/-- The zero rows. -/
theorem pay5_apply (y) : k0_pay5 (F := Ideal) y = 0 := by
  unfold k0_pay5; exact Ideal.ofBits_zero_f32
/-- The zero rows. -/
theorem pay6_apply (y) : k0_pay6 (F := Ideal) y = 0 := by
  unfold k0_pay6; exact Ideal.ofBits_zero_f32

section Names
variable (w : Vec Ideal S1024x1024 .bf16) (g : Vec Ideal S1x1x1024 .f32) (a : Vec Ideal S512x1024 .bf16) (d : FVec Ideal S512x1024 .f32)
  (x z : Vec Ideal S512x1024 .f32) (acc : Vec Ideal S1x1024 .f32)
/-- The second gradient in the first half. -/
theorem e15 : k0_pay15 (F := Ideal) d x g = k0_pay3 d x g := rfl
/-- The second gain's part in the first half. -/
theorem e16 : k0_pay16 (F := Ideal) d x acc = k0_pay4 d x acc := rfl
/-- The first gradient in the second half. -/
theorem e20 : k0_pay20 (F := Ideal) w (k0_pay7 g) a x z = k0_pay11 w g a x z := rfl
/-- The first gain's part in the first half. -/
theorem e12 : k0_pay12 (F := Ideal) (k0_pay8 w a) (k0_pay10 x) acc = k0_pay4 (k0_pay8 w a) x acc := rfl
/-- The first gain's part in the second half. -/
theorem e21 : k0_pay21 (F := Ideal) w a x acc = k0_pay4 (k0_pay8 w a) x acc := rfl
end Names

/-! ### One half of a block -/

variable (x0 x1 : Vec Ideal S1024x1024 .bf16) (x2 x3 : Vec Ideal S1024x1024 .f32) (x4 : Vec Ideal S1x1x1024 .f32)
  (x5 : Vec Ideal S1024x1024 .f32) (x6 : Vec Ideal S1x1x1024 .f32)

section Halves
variable (o : ℕ) (ib : ∀ a, (![o, 0] : Fin 2 → ℕ) a + (![512, 1024] : Fin 2 → ℕ) a ≤ (⟨2, ![1024, 1024]⟩ : Shape).size a) (h : Fin 2) (ho : o = 512 * h.val)
include ho

/-- A half's row is the block's. -/
theorem row_band (x : Vec Ideal S1024x1024 .f32) (k : Fin 512) : row (band x o ib) k = row x (half h k) := funext fun l => band_apply x o ib h ho k l

/-- The first gradient, in a half. -/
theorem n11 (k : Fin 512) (j : Fin 1024) : k0_pay11 (F := Ideal) x1 x4 (band x0 o ib) (band x3 o ib) (band x2 o ib) (ix2 k j) = dxf x0 (tr x1) x2 x3 (gain x4) (half h k) j := by
  rw [pay11_apply]
  exact Cert.Rows.dxf_congr _ _ (fun l => band_apply x0 o ib h ho k l) (fun l => band_apply x2 o ib h ho k l) (fun l => band_apply x3 o ib h ho k l) j

/-- The first gain's part, in a half. -/
theorem n4 (acc : Vec Ideal S1x1024 .f32) (j : Fin 1024) :
    k0_pay4 (F := Ideal) (k0_pay8 x1 (band x0 o ib)) (band x3 o ib) acc (ix2 (0 : Fin 1) j) = acc (ix2 (0 : Fin 1) j) + ∑ k, g1f x0 (tr x1) x3 (half h k) j := by
  rw [pay4_apply]
  refine congrArg (acc (ix2 (0 : Fin 1) j) + ·) (Finset.sum_congr rfl fun k _ => ?_)
  rw [pay8_apply]
  exact Cert.Rows.g1f_congr _ (fun l => band_apply x0 o ib h ho k l) (fun l => band_apply x3 o ib h ho k l) j

/-- The second gradient, in a half. -/
theorem n3 (k : Fin 512) (j : Fin 1024) :
    k0_pay3 (F := Ideal) (k0_pay11 x1 x4 (band x0 o ib) (band x3 o ib) (band x2 o ib)) (band x5 o ib) x6 (ix2 k j)
      = dyf x0 (tr x1) x2 x3 (gain x4) (gain x6) x5 (half h k) j := by
  rw [pay3_apply, row_band o ib h ho x5 k]
  simp only [n11 x0 x1 x2 x3 x4 o ib h ho]

/-- The second gain's part, in a half. -/
theorem n4b (acc : Vec Ideal S1x1024 .f32) (j : Fin 1024) :
    k0_pay4 (F := Ideal) (k0_pay11 x1 x4 (band x0 o ib) (band x3 o ib) (band x2 o ib)) (band x5 o ib) acc (ix2 (0 : Fin 1) j)
      = acc (ix2 (0 : Fin 1) j) + ∑ k, g2f x0 (tr x1) x2 x3 (gain x4) x5 (half h k) j := by
  rw [pay4_apply]
  refine congrArg (acc (ix2 (0 : Fin 1) j) + ·) (Finset.sum_congr rfl fun k _ => ?_)
  rw [n11 x0 x1 x2 x3 x4 o ib h ho, row_band o ib h ho x5 k, band_apply x5 o ib h ho k j]
end Halves

/-! ### The blocks after a point -/

section Points
variable {x0 x1 x2 x3 x4 x5 x6}
variable {c : Dev nD} {i : grid0.Coords} {a1 : Memref sig .tc .vmem S1024x1024 .bf16} {h1 : a1.IsWhole} {a2 : Memref sig .tc .vmem S1024x1024 .bf16} {h2 : a2.IsWhole} {a3 : Memref sig .tc .vmem S1024x1024 .f32} {h3 : a3.IsWhole} {a4 : Memref sig .tc .vmem S1024x1024 .f32} {h4 : a4.IsWhole} {a5 : Memref sig .tc .vmem S1x1x1024 .f32} {h5 : a5.IsWhole} {a6 : Memref sig .tc .vmem S1024x1024 .f32} {h6 : a6.IsWhole} {a7 : Memref sig .tc .vmem S1x1x1024 .f32} {h7 : a7.IsWhole} {a8 : Memref sig .tc .vmem S1024x1024 .f32} {h8 : a8.IsWhole} {a9 : Memref sig .tc .vmem S1x1024 .f32} {h9 : a9.IsWhole} {a10 : Memref sig .tc .vmem S1024x1024 .bf16} {h10 : a10.IsWhole} {a11 : Memref sig .tc .vmem S1x1024 .f32} {h11 : a11.IsWhole} {y8 y10 : Vec Ideal S1x1024 .f32}

/-- The block of the first gradient, after a later point. -/
theorem out_B_7 {hc : ¬cond0_0 i} (r : Fin 1024) (j : Fin 1024) :
    out0_B_7 c i a1 h1 a2 h2 a3 h3 a4 h4 a5 h5 a6 h6 a7 h7 a8 h8 a9 h9 a10 h10 a11 h11 hc x0 x1 x2 x3 x4 x5 x6 y8 y10 (ix2 r j) = dxf x0 (tr x1) x2 x3 (gain x4) r j := by
  unfold out0_B_7
  rw [View.read_writes_eq_canon _ _ _ (cover0_B_7 c i a1 h1 a2 h2 a3 h3 a4 h4 a5 h5 a6 h6 a7 h7 a8 h8 a9 h9 a10 h10 a11 h11 hc x0 x1 x2 x3 x4 x5 x6 y8 y10)]
  unfold kernelRun0_B
  dsimp only
  sl_unfold_words
  simp only [View.readAt_eq_ld, h1.read_unread, h2.read_unread, h3.read_unread, h4.read_unread, h5.read_unread, h6.read_unread, h7.read_unread, h9.read_unread, h11.read_unread, e15, e16, e20, e12, e21,
    View.ld_unit_zero (S := S1024x1024) hz, View.ld_unit_zero (S := S1x1x1024) hz3, View.ld_unit_zero (S := S1x1024) hz]
  refine canon_halves (Val := Elt Ideal) (e := .f32) _ _ _ _ _ (fun r => dxf x0 (tr x1) x2 x3 (gain x4) r j) j (fun v => v) ?_ ?_ r
  · exact fun k => n11 x0 x1 x2 x3 x4 0 _ 0 rfl k j
  · exact fun k => n11 x0 x1 x2 x3 x4 512 _ 1 rfl k j

/-- The first gain's gradient, after a later point. -/
theorem out_B_8 {hc : ¬cond0_0 i} (j : Fin 1024) :
    out0_B_8 c i a1 h1 a2 h2 a3 h3 a4 h4 a5 h5 a6 h6 a7 h7 a8 h8 a9 h9 a10 h10 a11 h11 hc x0 x1 x2 x3 x4 x5 x6 y8 y10 (ix2 (0 : Fin 1) j) = y8 (ix2 (0 : Fin 1) j) + ∑ r : Fin 1024, g1f x0 (tr x1) x3 r j := by
  unfold out0_B_8
  rw [View.read_writes_eq_canon _ _ _ (cover0_B_8 c i a1 h1 a2 h2 a3 h3 a4 h4 a5 h5 a6 h6 a7 h7 a8 h8 a9 h9 a10 h10 a11 h11 hc x0 x1 x2 x3 x4 x5 x6 y8 y10)]
  unfold kernelRun0_B
  dsimp only
  sl_unfold_words
  simp only [View.readAt_eq_ld, h1.read_unread, h2.read_unread, h3.read_unread, h4.read_unread, h5.read_unread, h6.read_unread, h7.read_unread, h9.read_unread, h11.read_unread, e15, e16, e20, e12, e21,
    View.ld_unit_zero (S := S1024x1024) hz, View.ld_unit_zero (S := S1x1x1024) hz3, View.ld_unit_zero (S := S1x1024) hz]
  rw [View.canon_cons_unit_zero (S := S1x1024) hz]
  refine (n4 x0 x1 x3 512 _ 1 rfl _ j).trans ?_
  rw [Cert.Prod.readCov_last]
  refine (congrArg (· + _) (n4 x0 x1 x3 0 _ 0 rfl _ j)).trans ?_
  rw [sum_halves, add_assoc]

/-- The block of the second gradient, after a later point. -/
theorem out_B_9 {hc : ¬cond0_0 i} (r : Fin 1024) (j : Fin 1024) :
    out0_B_9 c i a1 h1 a2 h2 a3 h3 a4 h4 a5 h5 a6 h6 a7 h7 a8 h8 a9 h9 a10 h10 a11 h11 hc x0 x1 x2 x3 x4 x5 x6 y8 y10 (ix2 r j) = dyf x0 (tr x1) x2 x3 (gain x4) (gain x6) x5 r j := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 x6 y8 y10)]
  unfold kernelRun0_B
  dsimp only
  sl_unfold_words
  simp only [View.readAt_eq_ld, h1.read_unread, h2.read_unread, h3.read_unread, h4.read_unread, h5.read_unread, h6.read_unread, h7.read_unread, h9.read_unread, h11.read_unread, e15, e16, e20, e12, e21,
    View.ld_unit_zero (S := S1024x1024) hz, View.ld_unit_zero (S := S1x1x1024) hz3, View.ld_unit_zero (S := S1x1024) hz]
  refine canon_halves (Val := Elt Ideal) (e := .bf16) _ _ _ _ _ (fun r => dyf x0 (tr x1) x2 x3 (gain x4) (gain x6) x5 r j) j (fun v => v) ?_ ?_ r
  · exact fun k => n3 x0 x1 x2 x3 x4 x5 x6 0 _ 0 rfl k j
  · exact fun k => n3 x0 x1 x2 x3 x4 x5 x6 512 _ 1 rfl k j

/-- The second gain's gradient, after a later point. -/
theorem out_B_10 {hc : ¬cond0_0 i} (j : Fin 1024) :
    out0_B_10 c i a1 h1 a2 h2 a3 h3 a4 h4 a5 h5 a6 h6 a7 h7 a8 h8 a9 h9 a10 h10 a11 h11 hc x0 x1 x2 x3 x4 x5 x6 y8 y10 (ix2 (0 : Fin 1) j) = y10 (ix2 (0 : Fin 1) j) + ∑ r : Fin 1024, g2f x0 (tr x1) x2 x3 (gain x4) x5 r j := by
  unfold out0_B_10
  rw [View.read_writes_eq_canon _ _ _ (cover0_B_10 c i a1 h1 a2 h2 a3 h3 a4 h4 a5 h5 a6 h6 a7 h7 a8 h8 a9 h9 a10 h10 a11 h11 hc x0 x1 x2 x3 x4 x5 x6 y8 y10)]
  unfold kernelRun0_B
  dsimp only
  sl_unfold_words
  simp only [View.readAt_eq_ld, h1.read_unread, h2.read_unread, h3.read_unread, h4.read_unread, h5.read_unread, h6.read_unread, h7.read_unread, h9.read_unread, h11.read_unread, e15, e16, e20, e12, e21,
    View.ld_unit_zero (S := S1024x1024) hz, View.ld_unit_zero (S := S1x1x1024) hz3, View.ld_unit_zero (S := S1x1024) hz]
  rw [View.canon_cons_unit_zero (S := S1x1024) hz]
  refine (n4b x0 x1 x2 x3 x4 x5 512 _ 1 rfl _ j).trans ?_
  rw [Cert.Prod.readCov_last]
  refine (congrArg (· + _) (n4b x0 x1 x2 x3 x4 x5 0 _ 0 rfl _ j)).trans ?_
  rw [sum_halves, add_assoc]

/-- The block of the first gradient, after the first point. -/
theorem out_A_7 {hc : cond0_0 i} (r : Fin 1024) (j : Fin 1024) :
    out0_A_7 c i a1 h1 a2 h2 a3 h3 a4 h4 a5 h5 a6 h6 a7 h7 a8 h8 a9 h9 a10 h10 a11 h11 hc x0 x1 x2 x3 x4 x5 x6 (ix2 r j) = dxf x0 (tr x1) x2 x3 (gain x4) r j := by
  unfold out0_A_7
  rw [View.read_writes_eq_canon _ _ _ (cover0_A_7 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h9.read_unread, h11.read_unread, e15, e16, e20, e12, e21,
    View.ld_unit_zero (S := S1024x1024) hz, View.ld_unit_zero (S := S1x1x1024) hz3, View.ld_unit_zero (S := S1x1024) hz]
  refine canon_halves (Val := Elt Ideal) (e := .f32) _ _ _ _ _ (fun r => dxf x0 (tr x1) x2 x3 (gain x4) r j) j (fun v => v) ?_ ?_ r
  · exact fun k => n11 x0 x1 x2 x3 x4 0 _ 0 rfl k j
  · exact fun k => n11 x0 x1 x2 x3 x4 512 _ 1 rfl k j

/-- The first gain's gradient, after the first point. -/
theorem out_A_8 {hc : cond0_0 i} (j : Fin 1024) :
    out0_A_8 c i a1 h1 a2 h2 a3 h3 a4 h4 a5 h5 a6 h6 a7 h7 a8 h8 a9 h9 a10 h10 a11 h11 hc x0 x1 x2 x3 x4 x5 x6 (ix2 (0 : Fin 1) j) = ∑ r : Fin 1024, g1f x0 (tr x1) x3 r j := by
  unfold out0_A_8
  rw [View.read_writes_eq_canon _ _ _ (cover0_A_8 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h9.read_unread, h11.read_unread, e15, e16, e20, e12, e21,
    View.ld_unit_zero (S := S1024x1024) hz, View.ld_unit_zero (S := S1x1x1024) hz3, View.ld_unit_zero (S := S1x1024) hz]
  rw [View.canon_cons_unit_zero (S := S1x1024) hz]
  refine (n4 x0 x1 x3 512 _ 1 rfl _ j).trans ?_
  rw [Cert.Prod.readCov_last]
  refine (congrArg (· + _) (n4 x0 x1 x3 0 _ 0 rfl _ j)).trans ?_
  rw [sum_halves, Cert.Prod.readCov_last, show k0_pay5 (F := Ideal) (ix2 (0 : Fin 1) j) = 0 from pay5_apply _, zero_add]

/-- The block of the second gradient, after the first point. -/
theorem out_A_9 {hc : cond0_0 i} (r : Fin 1024) (j : Fin 1024) :
    out0_A_9 c i a1 h1 a2 h2 a3 h3 a4 h4 a5 h5 a6 h6 a7 h7 a8 h8 a9 h9 a10 h10 a11 h11 hc x0 x1 x2 x3 x4 x5 x6 (ix2 r j) = dyf x0 (tr x1) x2 x3 (gain x4) (gain x6) x5 r j := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h9.read_unread, h11.read_unread, e15, e16, e20, e12, e21,
    View.ld_unit_zero (S := S1024x1024) hz, View.ld_unit_zero (S := S1x1x1024) hz3, View.ld_unit_zero (S := S1x1024) hz]
  refine canon_halves (Val := Elt Ideal) (e := .bf16) _ _ _ _ _ (fun r => dyf x0 (tr x1) x2 x3 (gain x4) (gain x6) x5 r j) j (fun v => v) ?_ ?_ r
  · exact fun k => n3 x0 x1 x2 x3 x4 x5 x6 0 _ 0 rfl k j
  · exact fun k => n3 x0 x1 x2 x3 x4 x5 x6 512 _ 1 rfl k j

/-- The second gain's gradient, after the first point. -/
theorem out_A_10 {hc : cond0_0 i} (j : Fin 1024) :
    out0_A_10 c i a1 h1 a2 h2 a3 h3 a4 h4 a5 h5 a6 h6 a7 h7 a8 h8 a9 h9 a10 h10 a11 h11 hc x0 x1 x2 x3 x4 x5 x6 (ix2 (0 : Fin 1) j) = ∑ r : Fin 1024, g2f x0 (tr x1) x2 x3 (gain x4) x5 r j := by
  unfold out0_A_10
  rw [View.read_writes_eq_canon _ _ _ (cover0_A_10 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h9.read_unread, h11.read_unread, e15, e16, e20, e12, e21,
    View.ld_unit_zero (S := S1024x1024) hz, View.ld_unit_zero (S := S1x1x1024) hz3, View.ld_unit_zero (S := S1x1024) hz]
  rw [View.canon_cons_unit_zero (S := S1x1024) hz]
  refine (n4b x0 x1 x2 x3 x4 x5 512 _ 1 rfl _ j).trans ?_
  rw [Cert.Prod.readCov_last]
  refine (congrArg (· + _) (n4b x0 x1 x2 x3 x4 x5 0 _ 0 rfl _ j)).trans ?_
  rw [sum_halves, Cert.Prod.readCov_last, show k0_pay6 (F := Ideal) (ix2 (0 : Fin 1) j) = 0 from pay6_apply _, zero_add]

end Points

end Cert.QueryInIdeal.RefValue

end
-- ==== Proof.QueryInEq.lean ====
/-
  The product into the queries' gradient with the two normalisations' gradients: the arrays after the run, the reference's four
  results, and that they agree.
-/
module

public import proofs.«01_k».proof.Proof.At
public import proofs.«01_k».proof.Proof.QueryInOut
public import proofs.«01_k».proof.Proof.Prod
public import proofs.«01_k».proof.Proof.FfnRef
public import proofs.«01_k».proof.Proof.Gen.QueryIn.Frame
public import proofs.«01_k».proof.Proof.Gen.QueryInRefIdeal.Read
public import proofs.«01_k».proof.Defs

@[expose] public section

set_option maxRecDepth 16384

noncomputable section

namespace Cert.QueryInIdeal.RefValue

open Cert.QueryInIdeal Cert.QueryInIdeal.Gen Cert.Half Idealize.ShloMosaic Idealize.ShloMosaic.TcCoe Idealize.SL.Sem Idealize.ShloMosaic.ValueIdx
open Cert.At (entry2 same2 entry3 whole block)
open Cert.Rows (dhf dxf dyf g1f g2f row)
open scoped BigOperators

variable (m : (ℓ : Loc nD τ sig) → Buf (Elt Ideal) ℓ) (ρ : Dev nD → PrngReg) (c : Dev nD)

/-- The product's left side. -/
abbrev argA : S8192x1024.Idx → EReal := m ((c : Thread nD τ).loc main_arg0)
/-- The weights. -/
abbrev argW : S1024x1024.Idx → EReal := m ((c : Thread nD τ).loc main_arg1)
/-- The gradient past the branch. -/
abbrev argD : S8192x1024.Idx → EReal := m ((c : Thread nD τ).loc main_arg2)
/-- The first norm's rows. -/
abbrev argX : S8192x1024.Idx → EReal := m ((c : Thread nD τ).loc main_arg3)
/-- The first gains. -/
abbrev argG : S4x1x1024.Idx → EReal := m ((c : Thread nD τ).loc main_arg4)
/-- The second norm's rows. -/
abbrev argY : S8192x1024.Idx → EReal := m ((c : Thread nD τ).loc main_arg5)
/-- The second gains. -/
abbrev argG2 : S4x1x1024.Idx → EReal := m ((c : Thread nD τ).loc main_arg6)
/-- The first layer's gain, as a function of the column. -/
abbrev layer (g : S4x1x1024.Idx → EReal) : Fin 1024 → EReal := fun k => g (ix3 (0 : Fin 4) (0 : Fin 1) k)

/-- There are eight points. -/
theorem lt8 (t : Fin cfg0.N) : t.val < 8 := by have hN : cfg0.N = 8 := N_0; have := t.isLt; omega

/-- Which block of the left side each point takes. -/
theorem at0 : ∀ t : Fin cfg0.N, win0_0.index t 0 = t.val ∧ win0_0.index t 1 = 0 :=
  (by decide +kernel : ∀ t : Fin grid0.N, win0_0.index t 0 = t.val ∧ win0_0.index t 1 = 0)
/-- The whole of the weights. -/
theorem at1 : ∀ t : Fin cfg0.N, win0_1.index t 0 = 0 ∧ win0_1.index t 1 = 0 :=
  (by decide +kernel : ∀ t : Fin grid0.N, win0_1.index t 0 = 0 ∧ win0_1.index t 1 = 0)
/-- Which block of the gradient past the branch each point takes. -/
theorem at2 : ∀ t : Fin cfg0.N, win0_2.index t 0 = t.val ∧ win0_2.index t 1 = 0 :=
  (by decide +kernel : ∀ t : Fin grid0.N, win0_2.index t 0 = t.val ∧ win0_2.index t 1 = 0)
/-- Which block of the first norm's rows each point takes. -/
theorem at3 : ∀ t : Fin cfg0.N, win0_3.index t 0 = t.val ∧ win0_3.index t 1 = 0 :=
  (by decide +kernel : ∀ t : Fin grid0.N, win0_3.index t 0 = t.val ∧ win0_3.index t 1 = 0)
/-- The first layer's first gain. -/
theorem at4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)
/-- Which block of the second norm's rows each point takes. -/
theorem at5 : ∀ t : Fin cfg0.N, win0_5.index t 0 = t.val ∧ win0_5.index t 1 = 0 :=
  (by decide +kernel : ∀ t : Fin grid0.N, win0_5.index t 0 = t.val ∧ win0_5.index t 1 = 0)
/-- The first layer's second gain. -/
theorem at6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)
/-- Which block of the first gradient of the rows each point writes. -/
theorem at7 : ∀ t : Fin cfg0.N, win0_7.index t 0 = t.val ∧ win0_7.index t 1 = 0 :=
  (by decide +kernel : ∀ t : Fin grid0.N, win0_7.index t 0 = t.val ∧ win0_7.index t 1 = 0)
/-- Which block of the second gradient of the rows each point writes. -/
theorem at9 : ∀ t : Fin cfg0.N, win0_9.index t 0 = t.val ∧ win0_9.index t 1 = 0 :=
  (by decide +kernel : ∀ t : Fin grid0.N, win0_9.index t 0 = t.val ∧ win0_9.index t 1 = 0)
/-- The whole of the first gain's gradient. -/
theorem at8 : ∀ t : Fin cfg0.N, win0_8.index t 0 = 0 ∧ win0_8.index t 1 = 0 :=
  (by decide +kernel : ∀ t : Fin grid0.N, win0_8.index t 0 = 0 ∧ win0_8.index t 1 = 0)
/-- The whole of the second gain's gradient. -/
theorem at10 : ∀ t : Fin cfg0.N, win0_10.index t 0 = 0 ∧ win0_10.index t 1 = 0 :=
  (by decide +kernel : ∀ t : Fin grid0.N, win0_10.index t 0 = 0 ∧ win0_10.index t 1 = 0)

/-- The left side's block. -/
theorem blk0 (t : Fin cfg0.N) (r : Fin 1024) (d : Fin 1024) : (iblk m c 0 t : Vec Ideal S1024x1024 .bf16) (ix2 r d) = argA m c (ix2 (brow t.val (lt8 t) r) d) :=
  entry2 (argA m c) _ (block (at0 t).1 1024 r.val) (whole (at0 t).2 1024 d.val)

/-- The weights' block. -/
theorem blk1 (t : Fin cfg0.N) : (iblk m c 1 t : Vec Ideal S1024x1024 .bf16) = argW m c :=
  funext fun i => same2 (argW m c) _ i (whole (at1 t).1 1024 (i 0).val) (whole (at1 t).2 1024 (i 1).val)

/-- The block of the gradient past the branch. -/
theorem blk2 (t : Fin cfg0.N) (r : Fin 1024) (d : Fin 1024) : (iblk m c 2 t : Vec Ideal S1024x1024 .f32) (ix2 r d) = argD m c (ix2 (brow t.val (lt8 t) r) d) :=
  entry2 (argD m c) _ (block (at2 t).1 1024 r.val) (whole (at2 t).2 1024 d.val)

/-- The block of the first norm's rows. -/
theorem blk3 (t : Fin cfg0.N) (r : Fin 1024) (d : Fin 1024) : (iblk m c 3 t : Vec Ideal S1024x1024 .f32) (ix2 r d) = argX m c (ix2 (brow t.val (lt8 t) r) d) :=
  entry2 (argX m c) _ (block (at3 t).1 1024 r.val) (whole (at3 t).2 1024 d.val)

/-- The first gain's block. -/
theorem blk4 (t : Fin cfg0.N) : gain (iblk m c 4 t) = layer (argG m c) :=
  funext fun k => entry3 (argG m c) _ (whole (at4 t).1 1 0) (whole (at4 t).2.1 1 0) (whole (at4 t).2.2 1024 k.val)

/-- The block of the second norm's rows. -/
theorem blk5 (t : Fin cfg0.N) (r : Fin 1024) (d : Fin 1024) : (iblk m c 5 t : Vec Ideal S1024x1024 .f32) (ix2 r d) = argY m c (ix2 (brow t.val (lt8 t) r) d) :=
  entry2 (argY m c) _ (block (at5 t).1 1024 r.val) (whole (at5 t).2 1024 d.val)

/-- The second gain's block. -/
theorem blk6 (t : Fin cfg0.N) : gain (iblk m c 6 t) = layer (argG2 m c) :=
  funext fun k => entry3 (argG2 m c) _ (whole (at6 t).1 1 0) (whole (at6 t).2.1 1 0) (whole (at6 t).2.2 1024 k.val)

/-- The block of the first gradient of the rows after a point. -/
theorem outs7 (t : Fin cfg0.N) (r : Fin 1024) (j : Fin 1024) :
    (outsAt0 m c t.val t.isLt).1 (ix2 r j) = dxf (argA m c) (tr (argW m c)) (argD m c) (argX m c) (layer (argG m c)) (brow t.val (lt8 t) r) j := by
  by_cases h0 : t.val % 8 = 0
  · have e := congrFun (congrArg (fun x => x.1) (outsAt0_A m c t h0)) (ix2 r j)
    dsimp only at e
    refine e.trans ((out_A_7 r j).trans ?_)
    rw [blk1, blk4]
    exact Cert.Rows.dxf_congr _ _ (blk0 m c t r) (blk2 m c t r) (blk3 m c t r) j
  · have e := congrFun (congrArg (fun x => x.1) (outsAt0_B m c t h0)) (ix2 r j)
    dsimp only at e
    refine e.trans ((out_B_7 r j).trans ?_)
    rw [blk1, blk4]
    exact Cert.Rows.dxf_congr _ _ (blk0 m c t r) (blk2 m c t r) (blk3 m c t r) j

/-- The block of the second gradient of the rows after a point. -/
theorem outs9 (t : Fin cfg0.N) (r : Fin 1024) (j : Fin 1024) :
    (outsAt0 m c t.val t.isLt).2.2.1 (ix2 r j) = dyf (argA m c) (tr (argW m c)) (argD m c) (argX m c) (layer (argG m c)) (layer (argG2 m c)) (argY m c) (brow t.val (lt8 t) r) j := by
  by_cases h0 : t.val % 8 = 0
  · have e := congrFun (congrArg (fun x => x.2.2.1) (outsAt0_A m c t h0)) (ix2 r j)
    dsimp only at e
    refine e.trans ((out_A_9 r j).trans ?_)
    rw [blk1, blk4, blk6]
    exact Cert.Rows.dyf_congr _ _ _ (blk0 m c t r) (blk2 m c t r) (blk3 m c t r) (blk5 m c t r) j
  · have e := congrFun (congrArg (fun x => x.2.2.1) (outsAt0_B m c t h0)) (ix2 r j)
    dsimp only at e
    refine e.trans ((out_B_9 r j).trans ?_)
    rw [blk1, blk4, blk6]
    exact Cert.Rows.dyf_congr _ _ _ (blk0 m c t r) (blk2 m c t r) (blk3 m c t r) (blk5 m c t r) j

/-- The first point leaves its own rows' part of the first gain's gradient. -/
theorem first8 (t : Fin cfg0.N) (h0 : t.val % 8 = 0) (j : Fin 1024) :
    (outsAt0 m c t.val t.isLt).2.1 (ix2 (0 : Fin 1) j) = ∑ r : Fin 1024, g1f (argA m c) (tr (argW m c)) (argX m c) (brow t.val (lt8 t) r) j := by
  have e := congrFun (congrArg (fun x => x.2.1) (outsAt0_A m c t h0)) (ix2 (0 : Fin 1) j)
  dsimp only at e
  refine e.trans ((out_A_8 j).trans ?_)
  rw [blk1]
  exact Finset.sum_congr rfl fun r _ => Cert.Rows.g1f_congr _ (blk0 m c t r) (blk3 m c t r) j

/-- Each later point adds its rows' part. -/
theorem next8 (t : Fin cfg0.N) (h0 : ¬t.val % 8 = 0) (j : Fin 1024) :
    (outsAt0 m c t.val t.isLt).2.1 (ix2 (0 : Fin 1) j)
      = (outsAt0 m c (t.val - 1) (Nat.lt_of_le_of_lt (Nat.sub_le _ _) t.isLt)).2.1 (ix2 (0 : Fin 1) j) + ∑ r : Fin 1024, g1f (argA m c) (tr (argW m c)) (argX m c) (brow t.val (lt8 t) r) j := by
  have e := congrFun (congrArg (fun x => x.2.1) (outsAt0_B m c t h0)) (ix2 (0 : Fin 1) j)
  dsimp only at e
  refine e.trans ((out_B_8 j).trans ?_)
  rw [blk1]
  exact congrArg ((outsAt0 m c (t.val - 1) (Nat.lt_of_le_of_lt (Nat.sub_le _ _) t.isLt)).2.1 (ix2 (0 : Fin 1) j) + ·) (Finset.sum_congr rfl fun r _ => Cert.Rows.g1f_congr _ (blk0 m c t r) (blk3 m c t r) j)

/-- The first point leaves its own rows' part of the second gain's gradient. -/
theorem first10 (t : Fin cfg0.N) (h0 : t.val % 8 = 0) (j : Fin 1024) :
    (outsAt0 m c t.val t.isLt).2.2.2 (ix2 (0 : Fin 1) j) = ∑ r : Fin 1024, g2f (argA m c) (tr (argW m c)) (argD m c) (argX m c) (layer (argG m c)) (argY m c) (brow t.val (lt8 t) r) j := by
  have e := congrFun (congrArg (fun x => x.2.2.2) (outsAt0_A m c t h0)) (ix2 (0 : Fin 1) j)
  dsimp only at e
  refine e.trans ((out_A_10 j).trans ?_)
  rw [blk1, blk4]
  exact Finset.sum_congr rfl fun r _ => Cert.Rows.g2f_congr _ _ (blk0 m c t r) (blk2 m c t r) (blk3 m c t r) (blk5 m c t r) j

/-- Each later point adds its rows' part. -/
theorem next10 (t : Fin cfg0.N) (h0 : ¬t.val % 8 = 0) (j : Fin 1024) :
    (outsAt0 m c t.val t.isLt).2.2.2 (ix2 (0 : Fin 1) j)
      = (outsAt0 m c (t.val - 1) (Nat.lt_of_le_of_lt (Nat.sub_le _ _) t.isLt)).2.2.2 (ix2 (0 : Fin 1) j) + ∑ r : Fin 1024, g2f (argA m c) (tr (argW m c)) (argD m c) (argX m c) (layer (argG m c)) (argY m c) (brow t.val (lt8 t) r) j := by
  have e := congrFun (congrArg (fun x => x.2.2.2) (outsAt0_B m c t h0)) (ix2 (0 : Fin 1) j)
  dsimp only at e
  refine e.trans ((out_B_10 j).trans ?_)
  rw [blk1, blk4]
  exact congrArg ((outsAt0 m c (t.val - 1) (Nat.lt_of_le_of_lt (Nat.sub_le _ _) t.isLt)).2.2.2 (ix2 (0 : Fin 1) j) + ·) (Finset.sum_congr rfl fun r _ => Cert.Rows.g2f_congr _ _ (blk0 m c t r) (blk2 m c t r) (blk3 m c t r) (blk5 m c t r) j)

/-- The last point. -/
theorem last : 7 < cfg0.N := by rw [show cfg0.N = 8 from N_0]; decide

/-- The first gradient of the rows, after the run. -/
theorem arr7 (p : Fin 8192) (j : Fin 1024) : (dats m 0 c).arrAt 7 cfg0.N (ix2 p j) = dxf (argA m c) (tr (argW m c)) (argD m c) (argX m c) (layer (argG m c)) p j := by
  obtain ⟨n, hn, r, rfl⟩ := brow_surj p
  let t : Fin cfg0.N := ⟨n, by rw [show cfg0.N = 8 from N_0]; exact hn⟩
  have e := congrFun (Value.blocks7 m c t (flush0_7 t)) (ix2 r j)
  rw [View.read_apply, Value.flushed7] at e
  have hi : ((cfg0.win 7).blk t).view.emb (ix2 r j) = (ix2 (brow n hn r) j : S8192x1024.Idx) :=
    entry2 id _ (block (at7 t).1 1024 r.val) (whole (at7 t).2 1024 j.val)
  rw [hi] at e
  exact e.trans (outs7 m c t r j)

/-- The second gradient of the rows, after the run. -/
theorem arr9 (p : Fin 8192) (j : Fin 1024) : (dats m 0 c).arrAt 9 cfg0.N (ix2 p j) = dyf (argA m c) (tr (argW m c)) (argD m c) (argX m c) (layer (argG m c)) (layer (argG2 m c)) (argY m c) p j := by
  obtain ⟨n, hn, r, rfl⟩ := brow_surj p
  let t : Fin cfg0.N := ⟨n, by rw [show cfg0.N = 8 from N_0]; exact hn⟩
  have e := congrFun (Value.blocks9 m c t (flush0_9 t)) (ix2 r j)
  rw [View.read_apply, Value.flushed9] at e
  have hi : ((cfg0.win 9).blk t).view.emb (ix2 r j) = (ix2 (brow n hn r) j : S8192x1024.Idx) :=
    entry2 id _ (block (at9 t).1 1024 r.val) (whole (at9 t).2 1024 j.val)
  rw [hi] at e
  exact e.trans (outs9 m c t r j)

/-- The last point's value of a running sum over the points is the sum over the rows. -/
theorem chain8 (f : Fin 8192 → EReal) (o : (n : ℕ) → n < cfg0.N → EReal) (h0 : ∀ t : Fin cfg0.N, t.val % 8 = 0 → o t.val t.isLt = ∑ r : Fin 1024, f (brow t.val (lt8 t) r))
    (hs : ∀ t : Fin cfg0.N, ¬t.val % 8 = 0 → o t.val t.isLt = o (t.val - 1) (Nat.lt_of_le_of_lt (Nat.sub_le _ _) t.isLt) + ∑ r : Fin 1024, f (brow t.val (lt8 t) r)) :
    o 7 last = ∑ p, f p := by
  have hN : cfg0.N = 8 := N_0
  have hb : ∀ n, n < 8 → n < cfg0.N := fun n hn => by omega
  refine Cert.Prod.chain (K := 8192) (b := 1024) (g := 8) rfl (by decide) f (fun n hn => o n (hb n hn)) ?_ ?_ (by decide)
  · exact h0 ⟨0, hb 0 (by decide)⟩ rfl
  · exact fun n hn => hs ⟨n + 1, hb _ hn⟩ (by dsimp only; omega)

/-- The first gain's gradient is written back after the last point. -/
theorem flushed8_eq (t : Fin cfg0.N) (hf : (cfg0.win 8).flush t = true) :
    (dats m 0 c).flushed 8 t = ((cfg0.win 8).blk t).view.read (Elt Ideal) ((outsAt0 m c 7 last).2.1 : Buf (Elt Ideal) ((c : Thread nD τ).loc main_v0_1)) := by
  have ht : t.val = 7 := by have := (flush0_8 t).mp hf; have := lt8 t; omega
  obtain rfl : t = ⟨7, last⟩ := Fin.ext ht
  rw [Value.flushed8]
  have hz' : (fun a => win0_8.index (⟨7, last⟩ : Fin cfg0.N) a * main_v0_1.ty.shape.size a) = fun _ => 0 := funext fun a => by fin_cases a <;> decide +kernel
  exact (Memref.read_access_unit_zero (Elt Ideal) main_v0_1 hz' (fun a => by rw [congrFun hz' a]; simp) ((outsAt0 m c 7 last).2.1 : Buf (Elt Ideal) ((c : Thread nD τ).loc main_v0_1))).symm

/-- The first gain's gradient in the array is what the last point left. -/
theorem final8 : (dats m 0 c).arrAt 8 cfg0.N = ((outsAt0 m c 7 last).2.1 : Buf (Elt Ideal) ((c : Thread nD τ).loc main_v0_1)) :=
  (dats m 0 c).arrAt_eq_of_cover 8 _ (flushed8_eq m c) fun i =>
    ⟨⟨7, last⟩, (flush0_8 _).mpr rfl, by
      show i ∈ ((View.whole main_v0_1).slice (win0_8.rect ⟨7, last⟩)).set
      rw [View.set_slice_whole, Rect.mem_set_unit]
      intro a
      have h0 : (i 0 : Nat) < 1 := (i 0).isLt
      have h1 : (i 1 : Nat) < 1024 := (i 1).isLt
      match a with
      | ⟨0, _⟩ => show win0_8.index ⟨7, last⟩ 0 * 1 ≤ (i 0 : Nat) ∧ (i 0 : Nat) < win0_8.index ⟨7, last⟩ 0 * 1 + 1
                  rw [(at8 _).1]; omega
      | ⟨1, _⟩ => show win0_8.index ⟨7, last⟩ 1 * 1024 ≤ (i 1 : Nat) ∧ (i 1 : Nat) < win0_8.index ⟨7, last⟩ 1 * 1024 + 1024
                  rw [(at8 _).2]; omega⟩

/-- The first gain's gradient after the run: the sum over the rows. -/
theorem arr8 (j : Fin 1024) : (dats m 0 c).arrAt 8 cfg0.N (ix2 (0 : Fin 1) j) = ∑ p : Fin 8192, g1f (argA m c) (tr (argW m c)) (argX m c) p j := by
  rw [final8]
  exact chain8 (fun p => g1f (argA m c) (tr (argW m c)) (argX m c) p j) (fun n hn => (outsAt0 m c n hn).2.1 (ix2 (0 : Fin 1) j)) (fun t h => first8 m c t h j) (fun t h => next8 m c t h j)

/-- The second gain's gradient is written back after the last point. -/
theorem flushed10_eq (t : Fin cfg0.N) (hf : (cfg0.win 10).flush t = true) :
    (dats m 0 c).flushed 10 t = ((cfg0.win 10).blk t).view.read (Elt Ideal) ((outsAt0 m c 7 last).2.2.2 : Buf (Elt Ideal) ((c : Thread nD τ).loc main_v0_3)) := by
  have ht : t.val = 7 := by have := (flush0_10 t).mp hf; have := lt8 t; omega
  obtain rfl : t = ⟨7, last⟩ := Fin.ext ht
  rw [Value.flushed10]
  have hz' : (fun a => win0_10.index (⟨7, last⟩ : Fin cfg0.N) a * main_v0_3.ty.shape.size a) = fun _ => 0 := funext fun a => by fin_cases a <;> decide +kernel
  exact (Memref.read_access_unit_zero (Elt Ideal) main_v0_3 hz' (fun a => by rw [congrFun hz' a]; simp) ((outsAt0 m c 7 last).2.2.2 : Buf (Elt Ideal) ((c : Thread nD τ).loc main_v0_3))).symm

/-- The second gain's gradient in the array is what the last point left. -/
theorem final10 : (dats m 0 c).arrAt 10 cfg0.N = ((outsAt0 m c 7 last).2.2.2 : Buf (Elt Ideal) ((c : Thread nD τ).loc main_v0_3)) :=
  (dats m 0 c).arrAt_eq_of_cover 10 _ (flushed10_eq m c) fun i =>
    ⟨⟨7, last⟩, (flush0_10 _).mpr rfl, by
      show i ∈ ((View.whole main_v0_3).slice (win0_10.rect ⟨7, last⟩)).set
      rw [View.set_slice_whole, Rect.mem_set_unit]
      intro a
      have h0 : (i 0 : Nat) < 1 := (i 0).isLt
      have h1 : (i 1 : Nat) < 1024 := (i 1).isLt
      match a with
      | ⟨0, _⟩ => show win0_10.index ⟨7, last⟩ 0 * 1 ≤ (i 0 : Nat) ∧ (i 0 : Nat) < win0_10.index ⟨7, last⟩ 0 * 1 + 1
                  rw [(at10 _).1]; omega
      | ⟨1, _⟩ => show win0_10.index ⟨7, last⟩ 1 * 1024 ≤ (i 1 : Nat) ∧ (i 1 : Nat) < win0_10.index ⟨7, last⟩ 1 * 1024 + 1024
                  rw [(at10 _).2]; omega⟩

/-- The second gain's gradient after the run: the sum over the rows. -/
theorem arr10 (j : Fin 1024) : (dats m 0 c).arrAt 10 cfg0.N (ix2 (0 : Fin 1) j) = ∑ p : Fin 8192, g2f (argA m c) (tr (argW m c)) (argD m c) (argX m c) (layer (argG m c)) (argY m c) p j := by
  rw [final10]
  exact chain8 (fun p => g2f (argA m c) (tr (argW m c)) (argD m c) (argX m c) (layer (argG m c)) (argY m c) p j) (fun n hn => (outsAt0 m c n hn).2.2.2 (ix2 (0 : Fin 1) j)) (fun t h => first10 m c t h j) (fun t h => next10 m c t h j)

end Cert.QueryInIdeal.RefValue

namespace Cert.QueryInRefIdeal.RefValue

open Cert.QueryInRefIdeal Cert.QueryInRefIdeal.Gen Cert.QueryInRefIdeal.Read Cert.Rows Idealize.ShloMosaic Idealize.ShloMosaic.TcCoe Idealize.SL.Sem Idealize.ShloMosaic.ValueIdx
open Cert.QueryInIdeal.RefValue (tr)
open scoped BigOperators

variable (x0 : (⟨S8192x1024, .bf16⟩ : BufTy).Contents (Elt Ideal)) (x1 : (⟨S1024x1024, .bf16⟩ : BufTy).Contents (Elt Ideal))
  (x2 x3 : (⟨S8192x1024, .f32⟩ : BufTy).Contents (Elt Ideal)) (x4 : (⟨S4x1x1024, .f32⟩ : BufTy).Contents (Elt Ideal))
  (x5 : (⟨S8192x1024, .f32⟩ : BufTy).Contents (Elt Ideal)) (x6 : (⟨S4x1x1024, .f32⟩ : BufTy).Contents (Elt Ideal))

/-- The first layer's gain. -/
abbrev layer (x : (⟨S4x1x1024, .f32⟩ : BufTy).Contents (Elt Ideal)) : Fin 1024 → EReal := fun k => x (ix3 (0 : Fin 4) (0 : Fin 1) k)

/-! ### The norm and the gain -/

/-- The factor of a row. -/
theorem ref9 (x : (⟨S8192x1024, .f32⟩ : BufTy).Contents (Elt Ideal)) (p : Fin 8192) (z : Fin 1) : val_main_v9 (F := Ideal) x (ix2 p z) = rt (row x p) :=
  Cert.FfnInRefIdeal.RefValue.ref9 x p z

/-- The factor over the mean square, times minus one half. -/
theorem ref12 (x : (⟨S8192x1024, .f32⟩ : BufTy).Contents (Elt Ideal)) (p : Fin 8192) (z : Fin 1) :
    val_main_v12 (F := Ideal) x (ix2 p z) = mhalf * Ideal.div (rt (row x p)) (msq (row x p)) := Cert.FfnInRefIdeal.RefValue.ref12 x p z

/-- The factor, spread over the columns. -/
theorem ref13 (x : (⟨S8192x1024, .f32⟩ : BufTy).Contents (Elt Ideal)) (p : Fin 8192) (j : Fin 1024) : val_main_v13 (F := Ideal) x (ix2 p j) = rt (row x p) :=
  Cert.FfnInRefIdeal.RefValue.ref13 x p j

/-- The gain, spread over the rows. -/
theorem ref24 (p : Fin 8192) (j : Fin 1024) : val_main_v24 (F := Ideal) x4 (ix2 p j) = layer x4 j :=
  Cert.FfnInRefIdeal.RefValue.ref25 x4 p j

/-! ### The first norm -/

/-- The product. -/
theorem ref20 (p : Fin 8192) (j : Fin 1024) : val_main_v20 (F := Ideal) x0 x1 (ix2 p j) = dhf x0 (tr x1) p j := by
  rw [val_main_v20_apply]
  refine Finset.sum_congr rfl fun l _ => ?_
  rw [val_main_v19_apply, val_main_v17_apply]
  refine congrArg₂ (· * ·) (congrArg x0 ?_) (congrArg x1 ?_) <;>
    exact funext fun a => match a with | ⟨0, _⟩ => rfl | ⟨1, _⟩ => rfl

/-- The first gain's gradient. -/
theorem ref23 (j : Fin 1024) : val_main_v23 (F := Ideal) x0 x1 x3 (ix2 (0 : Fin 1) j) = ∑ p, g1f x0 (tr x1) x3 p j := by
  rw [val_main_v23_apply, val_main_v22_apply, val_main_cst_3_apply]
  refine (congrArg₂ (· + ·) Ideal.ofBits_zero_f32 (Finset.sum_congr rfl fun p _ => ?_)).trans (zero_add _)
  have hi : idx_main_v22 (idx_main_v23 (ix2 (0 : Fin 1) j)) p = ix2 p j := funext fun a => Fin.ext (match a with
    | ⟨0, _⟩ => rfl
    | ⟨1, _⟩ => by show 0 * 1024 + j.val = j.val; omega)
  rw [hi, val_main_v21_apply, val_main_v14_apply, ref13, ref20]
  exact mul_comm _ _

/-- The gradient with the gain. -/
theorem ref25 (p : Fin 8192) (j : Fin 1024) : val_main_v25 (F := Ideal) x0 x1 x4 (ix2 p j) = dhf x0 (tr x1) p j * layer x4 j := by
  rw [val_main_v25_apply, ref20, ref24]
  rfl

/-- The share of the first norm's factor in the gradient, spread over the columns. -/
theorem ref36 (p : Fin 8192) (j : Fin 1024) : val_main_v36 (F := Ideal) x0 x1 x3 x4 (ix2 p j)
    = Ideal.div ((∑ k, x3 (ix2 p k) * (dhf x0 (tr x1) p k * layer x4 k)) * (mhalf * Ideal.div (rt (row x3 p)) (msq (row x3 p)))) width := by
  rw [val_main_v36_apply, val_main_v35_apply, val_main_cst_6_apply]
  refine (congrArg₂ (· + ·) Ideal.ofBits_zero_f32 (Fin.sum_univ_one _)).trans ((zero_add _).trans ?_)
  have hi : idx_main_v35 (idx_main_v36 (ix2 p j)) 0 = ix2 p (0 : Fin 1) := funext fun a => match a with | ⟨0, _⟩ => rfl | ⟨1, _⟩ => rfl
  rw [hi, val_main_v34_apply, val_main_v32_apply, val_main_v33_apply, ref12, val_main_v28_apply, val_main_v27_apply, val_main_cst_4_apply]
  refine congrArg (fun s => Ideal.div (s * (mhalf * Ideal.div (rt (row x3 p)) (msq (row x3 p)))) width) ((congrArg₂ (· + ·) Ideal.ofBits_zero_f32 (Finset.sum_congr rfl fun l _ => ?_)).trans (zero_add _))
  have hj : idx_main_v27 (idx_main_v28 (ix2 p (0 : Fin 1))) l = ix2 p l := funext fun a => Fin.ext (match a with
    | ⟨0, _⟩ => by show p.val * 1 + 0 = p.val; omega
    | ⟨1, _⟩ => rfl)
  rw [hj, val_main_v26_apply, ref25]
  rfl

/-- The gradient of the first norm's rows, with the gradient that came past the branch. -/
theorem ref40 (p : Fin 8192) (j : Fin 1024) : val_main_v40 (F := Ideal) x0 x1 x2 x3 x4 (ix2 p j) = dxf x0 (tr x1) x2 x3 (layer x4) p j := by
  rw [val_main_v40_apply, val_main_v38_apply, val_main_v31_apply, val_main_v30_apply, val_main_v37_apply, val_main_v39_apply, ref36, ref25, val_main_v29_apply]
  have hi : idx_main_v29 (ix2 p j) = ix2 p (0 : Fin 1) := funext fun a => match a with | ⟨0, _⟩ => rfl | ⟨1, _⟩ => rfl
  rw [hi, ref9]
  exact back_eq (row x3 p) (fun k => dhf x0 (tr x1) p k * layer x4 k) j (x2 (ix2 p j))

/-! ### The second norm -/

/-- The factor of the second norm's rows is the same function. -/
theorem ref50 (p : Fin 8192) (z : Fin 1) : val_main_v50 (F := Ideal) x5 (ix2 p z) = rt (row x5 p) := ref9 x5 p z

/-- So is the factor over the mean square. -/
theorem ref53 (p : Fin 8192) (z : Fin 1) : val_main_v53 (F := Ideal) x5 (ix2 p z) = mhalf * Ideal.div (rt (row x5 p)) (msq (row x5 p)) := ref12 x5 p z

/-- The second gain's gradient. -/
theorem ref60 (j : Fin 1024) : val_main_v60 (F := Ideal) x0 x1 x2 x3 x4 x5 (ix2 (0 : Fin 1) j) = ∑ p, g2f x0 (tr x1) x2 x3 (layer x4) x5 p j := by
  rw [val_main_v60_apply, val_main_v59_apply, val_main_cst_11_apply]
  refine (congrArg₂ (· + ·) Ideal.ofBits_zero_f32 (Finset.sum_congr rfl fun p _ => ?_)).trans (zero_add _)
  have hi : idx_main_v59 (idx_main_v60 (ix2 (0 : Fin 1) j)) p = ix2 p j := funext fun a => Fin.ext (match a with
    | ⟨0, _⟩ => rfl
    | ⟨1, _⟩ => by show 0 * 1024 + j.val = j.val; omega)
  rw [hi, val_main_v58_apply, val_main_v55_apply, ref40, show val_main_v54 (F := Ideal) x5 (ix2 p j) = rt (row x5 p) from ref13 x5 p j]
  exact mul_comm _ _

/-- The first gradient with the second gain. -/
theorem ref62 (p : Fin 8192) (j : Fin 1024) : val_main_v62 (F := Ideal) x0 x1 x2 x3 x4 x6 (ix2 p j) = dxf x0 (tr x1) x2 x3 (layer x4) p j * layer x6 j := by
  rw [val_main_v62_apply, ref40, show val_main_v61 (F := Ideal) x6 (ix2 p j) = layer x6 j from ref24 x6 p j]
  rfl

/-- The share of the second norm's factor in the gradient, spread over the columns. -/
theorem ref72 (p : Fin 8192) (j : Fin 1024) : val_main_v72 (F := Ideal) x0 x1 x2 x3 x4 x5 x6 (ix2 p j)
    = Ideal.div ((∑ k, x5 (ix2 p k) * (dxf x0 (tr x1) x2 x3 (layer x4) p k * layer x6 k)) * (mhalf * Ideal.div (rt (row x5 p)) (msq (row x5 p)))) width := by
  rw [val_main_v72_apply, val_main_v71_apply, val_main_cst_14_apply]
  refine (congrArg₂ (· + ·) Ideal.ofBits_zero_f32 (Fin.sum_univ_one _)).trans ((zero_add _).trans ?_)
  have hi : idx_main_v71 (idx_main_v72 (ix2 p j)) 0 = ix2 p (0 : Fin 1) := funext fun a => match a with | ⟨0, _⟩ => rfl | ⟨1, _⟩ => rfl
  rw [hi, val_main_v70_apply, val_main_v68_apply, val_main_v69_apply, ref53, val_main_v65_apply, val_main_v64_apply, val_main_cst_12_apply]
  refine congrArg (fun s => Ideal.div (s * (mhalf * Ideal.div (rt (row x5 p)) (msq (row x5 p)))) width) ((congrArg₂ (· + ·) Ideal.ofBits_zero_f32 (Finset.sum_congr rfl fun l _ => ?_)).trans (zero_add _))
  have hj : idx_main_v64 (idx_main_v65 (ix2 p (0 : Fin 1))) l = ix2 p l := funext fun a => Fin.ext (match a with
    | ⟨0, _⟩ => by show p.val * 1 + 0 = p.val; omega
    | ⟨1, _⟩ => rfl)
  rw [hj, val_main_v63_apply, ref62]
  rfl

/-- The gradient of the second norm's rows. -/
theorem ref77 (p : Fin 8192) (j : Fin 1024) : val_main_v77 (F := Ideal) x0 x1 x2 x3 x4 x5 x6 (ix2 p j) = dyf x0 (tr x1) x2 x3 (layer x4) (layer x6) x5 p j := by
  rw [val_main_v77_apply, val_main_v76_apply, val_main_v74_apply, val_main_v67_apply, val_main_v73_apply, val_main_v75_apply, ref72, ref62,
    show val_main_v66 (F := Ideal) x5 (ix2 p j) = rt (row x5 p) from ref13 x5 p j]
  have e := back_eq (row x5 p) (fun k => dxf x0 (tr x1) x2 x3 (layer x4) p k * layer x6 k) j 0
  rw [zero_add, zero_add] at e
  exact e

end Cert.QueryInRefIdeal.RefValue

namespace Cert.QueryInEq

open Cert.Rows Idealize.ShloMosaic Idealize.ShloMosaic.TcCoe Idealize.SL.Sem Idealize.ShloMosaic.ValueIdx
open Cert.QueryInIdeal.RefValue (argA argW argD argX argG argY argG2 arr7 arr8 arr9 arr10)
open scoped BigOperators

section
open Cert.QueryInIdeal
variable (m : (ℓ : Loc nD τ sig) → Buf (Elt Ideal) ℓ) (c : Dev nD)

/-- The first gain, as the operand holds it. -/
abbrev gains : S4x1x1024.Idx → EReal := m ((c : Thread nD τ).loc main_arg4)
/-- The second gain, as the operand holds it. -/
abbrev gains2 : S4x1x1024.Idx → EReal := m ((c : Thread nD τ).loc main_arg6)

/-- The first gradient of the rows. -/
theorem same7 : (Gen.dats m 0 c).arrAt 7 cfg0.N = Cert.QueryInRefIdeal.Read.val_main_v40 (F := Ideal) (argA m c) (argW m c) (argD m c) (argX m c) (gains m c) := by
  refine funext fun i => ?_
  obtain ⟨p, j, rfl⟩ : ∃ (p : Fin 8192) (j : Fin 1024), i = ix2 p j := ⟨i 0, i 1, eq_ix2 i⟩
  exact (arr7 m c p j).trans (Cert.QueryInRefIdeal.RefValue.ref40 (argA m c) (argW m c) (argD m c) (argX m c) (gains m c) p j).symm

/-- The first gain's gradient. -/
theorem same8 : (Gen.dats m 0 c).arrAt 8 cfg0.N = Cert.QueryInRefIdeal.Read.val_main_v23 (F := Ideal) (argA m c) (argW m c) (argX m c) := by
  refine funext fun i => ?_
  obtain ⟨z, j, rfl⟩ : ∃ (z : Fin 1) (j : Fin 1024), i = ix2 z j := ⟨i 0, i 1, eq_ix2 i⟩
  obtain rfl : z = 0 := Subsingleton.elim _ _
  exact (arr8 m c j).trans (Cert.QueryInRefIdeal.RefValue.ref23 (argA m c) (argW m c) (argX m c) j).symm

/-- The second gradient of the rows. -/
theorem same9 : (Gen.dats m 0 c).arrAt 9 cfg0.N
    = Cert.QueryInRefIdeal.Read.val_main_v77 (F := Ideal) (argA m c) (argW m c) (argD m c) (argX m c) (gains m c) (argY m c) (gains2 m c) := by
  refine funext fun i => ?_
  obtain ⟨p, j, rfl⟩ : ∃ (p : Fin 8192) (j : Fin 1024), i = ix2 p j := ⟨i 0, i 1, eq_ix2 i⟩
  exact (arr9 m c p j).trans (Cert.QueryInRefIdeal.RefValue.ref77 (argA m c) (argW m c) (argD m c) (argX m c) (gains m c) (argY m c) (gains2 m c) p j).symm

/-- The second gain's gradient. -/
theorem same10 : (Gen.dats m 0 c).arrAt 10 cfg0.N
    = Cert.QueryInRefIdeal.Read.val_main_v60 (F := Ideal) (argA m c) (argW m c) (argD m c) (argX m c) (gains m c) (argY m c) := by
  refine funext fun i => ?_
  obtain ⟨z, j, rfl⟩ : ∃ (z : Fin 1) (j : Fin 1024), i = ix2 z j := ⟨i 0, i 1, eq_ix2 i⟩
  obtain rfl : z = 0 := Subsingleton.elim _ _
  exact (arr10 m c j).trans (Cert.QueryInRefIdeal.RefValue.ref60 (argA m c) (argW m c) (argD m c) (argX m c) (gains m c) (argY m c) j).symm

end

/-! ### The frames -/

/-- The frame of the kernel. -/
theorem frame_p : quiescent_QueryIn := fun m ρ _ => Cert.QueryIn.Gen.frame m ρ

/-- The frame of the idealized kernel. -/
theorem frame_pi : quiescent_QueryInIdeal := fun m ρ _ => Cert.QueryInIdeal.Gen.frame m ρ

/-- The frame of the reference: its run ends with its arguments as they were, and it declares no semaphore. -/
theorem frame_ri : quiescent_QueryInRefIdeal := fun m ρ _ =>
  (θ_run Cert.QueryInRefIdeal.defs _ _).mono (fun r h => ⟨fun c => (h c).2.2.2.2, sem_eq_zero_of_no_sems (by decide) r.2⟩)
    (Cert.QueryInRefIdeal.Value.run (F := Ideal) m ρ)

/-- The call computes the gradients of the plain normalisations, the product and the branch. -/
theorem same : algebraic_QueryInIdeal_QueryInRefIdeal := by
  intro m g m' g' hm ha
  refine ⟨fun c => (Cert.QueryInIdeal.Gen.dats m 0 c).arrAt 7 Cert.QueryInIdeal.cfg0.N, fun c => (Cert.QueryInIdeal.Gen.dats m 0 c).arrAt 8 Cert.QueryInIdeal.cfg0.N,
    fun c => (Cert.QueryInIdeal.Gen.dats m 0 c).arrAt 9 Cert.QueryInIdeal.cfg0.N, fun c => (Cert.QueryInIdeal.Gen.dats m 0 c).arrAt 10 Cert.QueryInIdeal.cfg0.N,
    Cert.QueryInIdeal.Value.run_blocks m g, ?_⟩
  refine (θ_run Cert.QueryInRefIdeal.defs _ _).mono (fun r h c => ?_) (Cert.QueryInRefIdeal.Value.run (F := Ideal) m' g')
  obtain ⟨h40, h23, h77, h60, hrest⟩ := h c
  obtain ⟨a0, a1, a2, a3, a4, a5, a6⟩ := ha c
  refine ⟨h40.trans ?_, h23.trans ?_, h77.trans ?_, h60.trans ?_, hrest⟩
  · rw [Cert.QueryInRefIdeal.Read.val_main_v40_eq, a0, a1, a2, a3, a4]
    exact (same7 m c).symm
  · rw [Cert.QueryInRefIdeal.Read.val_main_v23_eq, a0, a1, a3]
    exact (same8 m c).symm
  · rw [Cert.QueryInRefIdeal.Read.val_main_v77_eq, a0, a1, a2, a3, a4, a5, a6]
    exact (same9 m c).symm
  · rw [Cert.QueryInRefIdeal.Read.val_main_v60_eq, a0, a1, a2, a3, a4, a5]
    exact (same10 m c).symm

end Cert.QueryInEq

end
-- ==== Proof.RowsInOut.lean ====
/-
  The gradient before a later layer: what one grid point leaves in the four result blocks. The payloads of the first norm
  are those of the step's last product, the payloads of the second those of the product around the up-projection.
-/
module

public import proofs.«01_k».proof.Proof.FfnOut
public import proofs.«01_k».proof.Proof.GradRowsOut
public import proofs.«01_k».proof.Proof.Prod
public import proofs.«01_k».proof.Proof.Gen.RowsInIdeal.Value

@[expose] public section

set_option maxRecDepth 16384

noncomputable section

namespace Cert.RowsInIdeal.RefValue

open Cert.RowsInIdeal Cert.RowsInIdeal.Gen Cert.Rows Idealize.ShloMosaic Idealize.ShloMosaic.TcCoe Idealize.SL.Sem Idealize.ShloMosaic.ValueIdx
open Cert.FfnInIdeal.RefValue (pay3_apply pay4_apply rows row_rows gain hz hz3)
open Cert.GradRowsIdeal.RefValue (wide half5 half6)
open scoped BigOperators

/-! ### The payloads are those of the other two calls -/

section Names
variable (w : Vec Ideal S2176x1024 .bf16) (g : Vec Ideal S1x1x1024 .f32) (a : Vec Ideal S256x2176 .bf16) (d : FVec Ideal S256x1024 .f32)
  (x z : Vec Ideal S256x1024 .f32) (acc : Vec Ideal S1x1024 .f32)
/-- The second gradient. -/
theorem e3 : k0_pay3 (F := Ideal) d x g = Cert.FfnInIdeal.Gen.k0_pay3 d x g := rfl
/-- The second gradient in the first half. -/
theorem e15 : k0_pay15 (F := Ideal) d x g = Cert.FfnInIdeal.Gen.k0_pay3 d x g := rfl
/-- The second gain's part. -/
theorem e4 : k0_pay4 (F := Ideal) d x acc = Cert.FfnInIdeal.Gen.k0_pay4 d x acc := rfl
/-- The second gain's part in the first half. -/
theorem e16 : k0_pay16 (F := Ideal) d x acc = Cert.FfnInIdeal.Gen.k0_pay4 d x acc := rfl
/-- The first gradient. -/
theorem e11 : k0_pay11 (F := Ideal) w g a x z = Cert.GradRowsIdeal.Gen.k0_pay7 w g a x z := rfl
/-- The first gradient in the second half. -/
theorem e20 : k0_pay20 (F := Ideal) w (k0_pay7 g) a x z = Cert.GradRowsIdeal.Gen.k0_pay7 w g a x z := rfl
/-- The first gain's part in the first half. -/
theorem e12 : k0_pay12 (F := Ideal) (k0_pay8 w a) (k0_pay10 x) acc = Cert.FfnInIdeal.Gen.k0_pay4 (Cert.GradRowsIdeal.Gen.k0_pay4 w a) x acc := rfl
/-- The first gain's part in the second half. -/
theorem e21 : k0_pay21 (F := Ideal) w a x acc = Cert.FfnInIdeal.Gen.k0_pay4 (Cert.GradRowsIdeal.Gen.k0_pay4 w a) x acc := rfl
end Names

/-! ### The second norm, in one half of a block -/

section Halves
variable (x0 : Vec Ideal S512x2176 .bf16) (x1 : Vec Ideal S2176x1024 .bf16) (x2 x3 : Vec Ideal S512x1024 .f32) (x4 : Vec Ideal S1x1x1024 .f32)
  (x5 : Vec Ideal S512x1024 .f32) (x6 : Vec Ideal S1x1x1024 .f32)

/-- The second gradient, in a half. -/
theorem half9 (o : ℕ) (i i') (h : Fin 2) (ho : o = 256 * h.val) (k : Fin 256) (j : Fin 1024) :
    Cert.FfnInIdeal.Gen.k0_pay3 (F := Ideal) (Cert.GradRowsIdeal.Gen.k0_pay7 x1 x4 (wide x0 o i) (rows x3 o i') (rows x2 o i')) (rows x5 o i') x6 (ix2 k j)
      = dyf x0 x1 x2 x3 (gain x4) (gain x6) x5 (half h k) j := by
  refine (pay3_apply _ _ _ k j).trans ?_
  rw [row_rows x5 o i' h ho]
  simp only [half5 x0 x1 x2 x3 x4 o i i' h ho]

/-- The second gain's part, in a half. -/
theorem half10 (o : ℕ) (i i') (h : Fin 2) (ho : o = 256 * h.val) (acc : Vec Ideal S1x1024 .f32) (j : Fin 1024) :
    Cert.FfnInIdeal.Gen.k0_pay4 (F := Ideal) (Cert.GradRowsIdeal.Gen.k0_pay7 x1 x4 (wide x0 o i) (rows x3 o i') (rows x2 o i')) (rows x5 o i') acc (ix2 (0 : Fin 1) j)
      = acc (ix2 (0 : Fin 1) j) + ∑ k, g2f x0 x1 x2 x3 (gain x4) x5 (half h k) j := by
  refine (pay4_apply _ _ _ j).trans (congrArg (acc (ix2 (0 : Fin 1) j) + ·) (Finset.sum_congr rfl fun k _ => ?_))
  rw [half5 x0 x1 x2 x3 x4 o i i' h ho, row_rows x5 o i' h ho]
  exact congrArg (fun a => _ * (a * _)) (ld_rows x5 o i' k j (half h k) (by rw [ho]; rfl))
end Halves

/-! ### The blocks after a point -/

section Points
variable {x0 : Vec Ideal S512x2176 .bf16} {x1 : Vec Ideal S2176x1024 .bf16} {x2 x3 : Vec Ideal S512x1024 .f32} {x4 : Vec Ideal S1x1x1024 .f32}
  {x5 : Vec Ideal S512x1024 .f32} {x6 : Vec Ideal S1x1x1024 .f32}
variable {c : Dev nD} {i : grid0.Coords} {a1 : Memref sig .tc .vmem S512x2176 .bf16} {h1 : a1.IsWhole} {a2 : Memref sig .tc .vmem S2176x1024 .bf16} {h2 : a2.IsWhole} {a3 : Memref sig .tc .vmem S512x1024 .f32} {h3 : a3.IsWhole} {a4 : Memref sig .tc .vmem S512x1024 .f32} {h4 : a4.IsWhole} {a5 : Memref sig .tc .vmem S1x1x1024 .f32} {h5 : a5.IsWhole} {a6 : Memref sig .tc .vmem S512x1024 .f32} {h6 : a6.IsWhole} {a7 : Memref sig .tc .vmem S1x1x1024 .f32} {h7 : a7.IsWhole} {a8 : Memref sig .tc .vmem S512x1024 .f32} {h8 : a8.IsWhole} {a9 : Memref sig .tc .vmem S1x1024 .f32} {h9 : a9.IsWhole} {a10 : Memref sig .tc .vmem S512x1024 .bf16} {h10 : a10.IsWhole} {a11 : Memref sig .tc .vmem S1x1024 .f32} {h11 : a11.IsWhole} {y8 y10 : Vec Ideal S1x1024 .f32}

/-- The block of the first gradient, after a later point. -/
theorem out_B_7 {hc : ¬cond0_0 i} (r : Fin 512) (j : Fin 1024) :
    out0_B_7 c i a1 h1 a2 h2 a3 h3 a4 h4 a5 h5 a6 h6 a7 h7 a8 h8 a9 h9 a10 h10 a11 h11 hc x0 x1 x2 x3 x4 x5 x6 y8 y10 (ix2 r j) = dxf x0 x1 x2 x3 (gain x4) r j := by
  unfold out0_B_7
  rw [View.read_writes_eq_canon _ _ _ (cover0_B_7 c i a1 h1 a2 h2 a3 h3 a4 h4 a5 h5 a6 h6 a7 h7 a8 h8 a9 h9 a10 h10 a11 h11 hc x0 x1 x2 x3 x4 x5 x6 y8 y10)]
  unfold kernelRun0_B
  dsimp only
  sl_unfold_words
  simp only [View.readAt_eq_ld, h1.read_unread, h2.read_unread, h3.read_unread, h4.read_unread, h5.read_unread, h6.read_unread, h7.read_unread, h9.read_unread, h11.read_unread, e3, e11, e15, e16, e20, e12, e21,
    View.ld_unit_zero (S := S2176x1024) hz, View.ld_unit_zero (S := S1x1x1024) hz3, View.ld_unit_zero (S := S1x1024) hz]
  obtain ⟨h, k, rfl⟩ := half_surj r
  refine (canon_halves _ _ _ _ _ h k j).trans ?_
  match h with
  | 0 => exact half5 x0 x1 x2 x3 x4 0 _ _ 0 rfl k j
  | 1 => exact half5 x0 x1 x2 x3 x4 256 _ _ 1 rfl k j

/-- The first gain's gradient, after a later point. -/
theorem out_B_8 {hc : ¬cond0_0 i} (j : Fin 1024) :
    out0_B_8 c i a1 h1 a2 h2 a3 h3 a4 h4 a5 h5 a6 h6 a7 h7 a8 h8 a9 h9 a10 h10 a11 h11 hc x0 x1 x2 x3 x4 x5 x6 y8 y10 (ix2 (0 : Fin 1) j) = y8 (ix2 (0 : Fin 1) j) + ∑ r : Fin 512, g1f x0 x1 x3 r j := by
  unfold out0_B_8
  rw [View.read_writes_eq_canon _ _ _ (cover0_B_8 c i a1 h1 a2 h2 a3 h3 a4 h4 a5 h5 a6 h6 a7 h7 a8 h8 a9 h9 a10 h10 a11 h11 hc x0 x1 x2 x3 x4 x5 x6 y8 y10)]
  unfold kernelRun0_B
  dsimp only
  sl_unfold_words
  simp only [View.readAt_eq_ld, h1.read_unread, h2.read_unread, h3.read_unread, h4.read_unread, h5.read_unread, h6.read_unread, h7.read_unread, h9.read_unread, h11.read_unread, e3, e11, e15, e16, e20, e12, e21,
    View.ld_unit_zero (S := S2176x1024) hz, View.ld_unit_zero (S := S1x1x1024) hz3, View.ld_unit_zero (S := S1x1024) hz]
  rw [View.canon_cons_unit_zero (S := S1x1024) hz]
  refine (half6 x0 x1 x3 256 _ _ 1 rfl _ j).trans ?_
  rw [Cert.Prod.readCov_last]
  refine (congrArg (· + _) (half6 x0 x1 x3 0 _ _ 0 rfl _ j)).trans ?_
  rw [sum_halves, add_assoc]

/-- The block of the second gradient, after a later point. -/
theorem out_B_9 {hc : ¬cond0_0 i} (r : Fin 512) (j : Fin 1024) :
    out0_B_9 c i a1 h1 a2 h2 a3 h3 a4 h4 a5 h5 a6 h6 a7 h7 a8 h8 a9 h9 a10 h10 a11 h11 hc x0 x1 x2 x3 x4 x5 x6 y8 y10 (ix2 r j) = dyf x0 x1 x2 x3 (gain x4) (gain x6) x5 r j := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 x6 y8 y10)]
  unfold kernelRun0_B
  dsimp only
  sl_unfold_words
  simp only [View.readAt_eq_ld, h1.read_unread, h2.read_unread, h3.read_unread, h4.read_unread, h5.read_unread, h6.read_unread, h7.read_unread, h9.read_unread, h11.read_unread, e3, e11, e15, e16, e20, e12, e21,
    View.ld_unit_zero (S := S2176x1024) hz, View.ld_unit_zero (S := S1x1x1024) hz3, View.ld_unit_zero (S := S1x1024) hz]
  obtain ⟨h, k, rfl⟩ := half_surj r
  refine (canon_halves _ _ _ _ _ h k j).trans ?_
  match h with
  | 0 => exact half9 x0 x1 x2 x3 x4 x5 x6 0 _ _ 0 rfl k j
  | 1 => exact half9 x0 x1 x2 x3 x4 x5 x6 256 _ _ 1 rfl k j

/-- The second gain's gradient, after a later point. -/
theorem out_B_10 {hc : ¬cond0_0 i} (j : Fin 1024) :
    out0_B_10 c i a1 h1 a2 h2 a3 h3 a4 h4 a5 h5 a6 h6 a7 h7 a8 h8 a9 h9 a10 h10 a11 h11 hc x0 x1 x2 x3 x4 x5 x6 y8 y10 (ix2 (0 : Fin 1) j) = y10 (ix2 (0 : Fin 1) j) + ∑ r : Fin 512, g2f x0 x1 x2 x3 (gain x4) x5 r j := by
  unfold out0_B_10
  rw [View.read_writes_eq_canon _ _ _ (cover0_B_10 c i a1 h1 a2 h2 a3 h3 a4 h4 a5 h5 a6 h6 a7 h7 a8 h8 a9 h9 a10 h10 a11 h11 hc x0 x1 x2 x3 x4 x5 x6 y8 y10)]
  unfold kernelRun0_B
  dsimp only
  sl_unfold_words
  simp only [View.readAt_eq_ld, h1.read_unread, h2.read_unread, h3.read_unread, h4.read_unread, h5.read_unread, h6.read_unread, h7.read_unread, h9.read_unread, h11.read_unread, e3, e11, e15, e16, e20, e12, e21,
    View.ld_unit_zero (S := S2176x1024) hz, View.ld_unit_zero (S := S1x1x1024) hz3, View.ld_unit_zero (S := S1x1024) hz]
  rw [View.canon_cons_unit_zero (S := S1x1024) hz]
  refine (half10 x0 x1 x2 x3 x4 x5 256 _ _ 1 rfl _ j).trans ?_
  rw [Cert.Prod.readCov_last]
  refine (congrArg (· + _) (half10 x0 x1 x2 x3 x4 x5 0 _ _ 0 rfl _ j)).trans ?_
  rw [sum_halves, add_assoc]

/-- The block of the first gradient, after the first point. -/
theorem out_A_7 {hc : cond0_0 i} (r : Fin 512) (j : Fin 1024) :
    out0_A_7 c i a1 h1 a2 h2 a3 h3 a4 h4 a5 h5 a6 h6 a7 h7 a8 h8 a9 h9 a10 h10 a11 h11 hc x0 x1 x2 x3 x4 x5 x6 (ix2 r j) = dxf x0 x1 x2 x3 (gain x4) r j := by
  unfold out0_A_7
  rw [View.read_writes_eq_canon _ _ _ (cover0_A_7 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h9.read_unread, h11.read_unread, e3, e11, e15, e16, e20, e12, e21,
    View.ld_unit_zero (S := S2176x1024) hz, View.ld_unit_zero (S := S1x1x1024) hz3, View.ld_unit_zero (S := S1x1024) hz]
  obtain ⟨h, k, rfl⟩ := half_surj r
  refine (canon_halves _ _ _ _ _ h k j).trans ?_
  match h with
  | 0 => exact half5 x0 x1 x2 x3 x4 0 _ _ 0 rfl k j
  | 1 => exact half5 x0 x1 x2 x3 x4 256 _ _ 1 rfl k j

/-- The first gain's gradient, after the first point. -/
theorem out_A_8 {hc : cond0_0 i} (j : Fin 1024) :
    out0_A_8 c i a1 h1 a2 h2 a3 h3 a4 h4 a5 h5 a6 h6 a7 h7 a8 h8 a9 h9 a10 h10 a11 h11 hc x0 x1 x2 x3 x4 x5 x6 (ix2 (0 : Fin 1) j) = 0 + ∑ r : Fin 512, g1f x0 x1 x3 r j := by
  unfold out0_A_8
  rw [View.read_writes_eq_canon _ _ _ (cover0_A_8 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h9.read_unread, h11.read_unread, e3, e11, e15, e16, e20, e12, e21,
    View.ld_unit_zero (S := S2176x1024) hz, View.ld_unit_zero (S := S1x1x1024) hz3, View.ld_unit_zero (S := S1x1024) hz]
  rw [View.canon_cons_unit_zero (S := S1x1024) hz]
  refine (half6 x0 x1 x3 256 _ _ 1 rfl _ j).trans ?_
  rw [Cert.Prod.readCov_last]
  refine (congrArg (· + _) (half6 x0 x1 x3 0 _ _ 0 rfl _ j)).trans ?_
  rw [sum_halves, Cert.Prod.readCov_last, show k0_pay5 (F := Ideal) (ix2 (0 : Fin 1) j) = 0 from Ideal.ofBits_zero_f32, add_assoc]

/-- The block of the second gradient, after the first point. -/
theorem out_A_9 {hc : cond0_0 i} (r : Fin 512) (j : Fin 1024) :
    out0_A_9 c i a1 h1 a2 h2 a3 h3 a4 h4 a5 h5 a6 h6 a7 h7 a8 h8 a9 h9 a10 h10 a11 h11 hc x0 x1 x2 x3 x4 x5 x6 (ix2 r j) = dyf x0 x1 x2 x3 (gain x4) (gain x6) x5 r j := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h9.read_unread, h11.read_unread, e3, e11, e15, e16, e20, e12, e21,
    View.ld_unit_zero (S := S2176x1024) hz, View.ld_unit_zero (S := S1x1x1024) hz3, View.ld_unit_zero (S := S1x1024) hz]
  obtain ⟨h, k, rfl⟩ := half_surj r
  refine (canon_halves _ _ _ _ _ h k j).trans ?_
  match h with
  | 0 => exact half9 x0 x1 x2 x3 x4 x5 x6 0 _ _ 0 rfl k j
  | 1 => exact half9 x0 x1 x2 x3 x4 x5 x6 256 _ _ 1 rfl k j

/-- The second gain's gradient, after the first point. -/
theorem out_A_10 {hc : cond0_0 i} (j : Fin 1024) :
    out0_A_10 c i a1 h1 a2 h2 a3 h3 a4 h4 a5 h5 a6 h6 a7 h7 a8 h8 a9 h9 a10 h10 a11 h11 hc x0 x1 x2 x3 x4 x5 x6 (ix2 (0 : Fin 1) j) = 0 + ∑ r : Fin 512, g2f x0 x1 x2 x3 (gain x4) x5 r j := by
  unfold out0_A_10
  rw [View.read_writes_eq_canon _ _ _ (cover0_A_10 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h9.read_unread, h11.read_unread, e3, e11, e15, e16, e20, e12, e21,
    View.ld_unit_zero (S := S2176x1024) hz, View.ld_unit_zero (S := S1x1x1024) hz3, View.ld_unit_zero (S := S1x1024) hz]
  rw [View.canon_cons_unit_zero (S := S1x1024) hz]
  refine (half10 x0 x1 x2 x3 x4 x5 256 _ _ 1 rfl _ j).trans ?_
  rw [Cert.Prod.readCov_last]
  refine (congrArg (· + _) (half10 x0 x1 x2 x3 x4 x5 0 _ _ 0 rfl _ j)).trans ?_
  rw [sum_halves, Cert.Prod.readCov_last, show k0_pay6 (F := Ideal) (ix2 (0 : Fin 1) j) = 0 from Ideal.ofBits_zero_f32, add_assoc]

end Points

end Cert.RowsInIdeal.RefValue

end
-- ==== Proof.RowsInEq.lean ====
/-
  The gradient before a later layer: the arrays after the run, the reference's four results, and that they agree.
-/
module

public import proofs.«01_k».proof.Proof.At
public import proofs.«01_k».proof.Proof.FfnArr
public import proofs.«01_k».proof.Proof.FfnRef
public import proofs.«01_k».proof.Proof.GradRowsRef
public import proofs.«01_k».proof.Proof.RowsInOut
public import proofs.«01_k».proof.Proof.Gen.RowsIn.Frame
public import proofs.«01_k».proof.Proof.Gen.RowsInRefIdeal.Read
public import proofs.«01_k».proof.Defs

@[expose] public section

set_option maxRecDepth 16384

noncomputable section

namespace Cert.RowsInIdeal.RefValue

open Cert.RowsInIdeal Cert.RowsInIdeal.Gen Cert.Rows Idealize.ShloMosaic Idealize.ShloMosaic.TcCoe Idealize.SL.Sem Idealize.ShloMosaic.ValueIdx
open Cert.At (entry2 same2 entry3 whole block)
open Cert.FfnInIdeal.RefValue (gain)
open Idealize.ShloMosaic.Pipeline (Dat)
open scoped BigOperators

variable (m : (ℓ : Loc nD τ sig) → Buf (Elt Ideal) ℓ) (ρ : Dev nD → PrngReg) (c : Dev nD)

/-- The product's left side. -/
abbrev argA : S8192x2176.Idx → EReal := m ((c : Thread nD τ).loc main_arg0)
/-- The weights. -/
abbrev argW : S2176x1024.Idx → EReal := m ((c : Thread nD τ).loc main_arg1)
/-- The gradient that came past the branch. -/
abbrev argD : S8192x1024.Idx → EReal := m ((c : Thread nD τ).loc main_arg2)
/-- The first norm's rows. -/
abbrev argX : S8192x1024.Idx → EReal := m ((c : Thread nD τ).loc main_arg3)
/-- The first norm's gain. -/
abbrev argG : Fin 1024 → EReal := fun k => (m ((c : Thread nD τ).loc main_arg4) : S4x1x1024.Idx → EReal) (ix3 (1 : Fin 4) (0 : Fin 1) k)
/-- The second norm's rows. -/
abbrev argY : S8192x1024.Idx → EReal := m ((c : Thread nD τ).loc main_arg5)
/-- The second norm's gain. -/
abbrev argG2 : Fin 1024 → EReal := fun k => (m ((c : Thread nD τ).loc main_arg6) : S4x1x1024.Idx → EReal) (ix3 (0 : Fin 4) (0 : Fin 1) k)

/-- There are sixteen points. -/
theorem lt16 (t : Fin cfg0.N) : t.val < 16 := by have hN : cfg0.N = 16 := N_0; have := t.isLt; omega

/-- Row `r` of point `t`'s block. -/
abbrev prow (t : Fin cfg0.N) (r : Fin 512) : Fin 8192 := blockRow t.val (lt16 t) r

/-- The windows over rows are at the point's block of rows. -/
theorem index_rows : ∀ t : Fin cfg0.N, (win0_0.index t 0 = t.val ∧ win0_0.index t 1 = 0) ∧ (win0_2.index t 0 = t.val ∧ win0_2.index t 1 = 0) ∧ (win0_3.index t 0 = t.val ∧ win0_3.index t 1 = 0) ∧ (win0_5.index t 0 = t.val ∧ win0_5.index t 1 = 0) ∧ (win0_7.index t 0 = t.val ∧ win0_7.index t 1 = 0) ∧ (win0_9.index t 0 = t.val ∧ win0_9.index t 1 = 0) :=
  (by decide +kernel : ∀ t : Fin grid0.N, (win0_0.index t 0 = t.val ∧ win0_0.index t 1 = 0) ∧ (win0_2.index t 0 = t.val ∧ win0_2.index t 1 = 0) ∧ (win0_3.index t 0 = t.val ∧ win0_3.index t 1 = 0) ∧ (win0_5.index t 0 = t.val ∧ win0_5.index t 1 = 0) ∧ (win0_7.index t 0 = t.val ∧ win0_7.index t 1 = 0) ∧ (win0_9.index t 0 = t.val ∧ win0_9.index t 1 = 0))

/-- The other windows stand still. -/
theorem index_whole : ∀ t : Fin cfg0.N, (win0_1.index t 0 = 0 ∧ win0_1.index t 1 = 0) ∧ (win0_4.index t 0 = 1 ∧ win0_4.index t 1 = 0 ∧ win0_4.index t 2 = 0) ∧ (win0_6.index t 0 = 0 ∧ win0_6.index t 1 = 0 ∧ win0_6.index t 2 = 0) ∧ (win0_8.index t 0 = 0 ∧ win0_8.index t 1 = 0) ∧ (win0_10.index t 0 = 0 ∧ win0_10.index t 1 = 0) :=
  (by decide +kernel : ∀ t : Fin grid0.N, (win0_1.index t 0 = 0 ∧ win0_1.index t 1 = 0) ∧ (win0_4.index t 0 = 1 ∧ win0_4.index t 1 = 0 ∧ win0_4.index t 2 = 0) ∧ (win0_6.index t 0 = 0 ∧ win0_6.index t 1 = 0 ∧ win0_6.index t 2 = 0) ∧ (win0_8.index t 0 = 0 ∧ win0_8.index t 1 = 0) ∧ (win0_10.index t 0 = 0 ∧ win0_10.index t 1 = 0))

/-! ### The blocks of the operands -/

/-- The left side's block. -/
theorem blk0 (t : Fin cfg0.N) (r : Fin 512) (d : Fin 2176) : (iblk m c 0 t : Vec Ideal S512x2176 .bf16) (ix2 r d) = argA m c (ix2 (prow t r) d) :=
  entry2 (argA m c) _ (block (index_rows t).1.1 512 r.val) (whole (index_rows t).1.2 2176 d.val)

/-- The past gradient's block. -/
theorem blk2 (t : Fin cfg0.N) (r : Fin 512) (d : Fin 1024) : (iblk m c 2 t : Vec Ideal S512x1024 .f32) (ix2 r d) = argD m c (ix2 (prow t r) d) :=
  entry2 (argD m c) _ (block (index_rows t).2.1.1 512 r.val) (whole (index_rows t).2.1.2 1024 d.val)

/-- The first rows' block. -/
theorem blk3 (t : Fin cfg0.N) (r : Fin 512) (d : Fin 1024) : (iblk m c 3 t : Vec Ideal S512x1024 .f32) (ix2 r d) = argX m c (ix2 (prow t r) d) :=
  entry2 (argX m c) _ (block (index_rows t).2.2.1.1 512 r.val) (whole (index_rows t).2.2.1.2 1024 d.val)

/-- The second rows' block. -/
theorem blk5 (t : Fin cfg0.N) (r : Fin 512) (d : Fin 1024) : (iblk m c 5 t : Vec Ideal S512x1024 .f32) (ix2 r d) = argY m c (ix2 (prow t r) d) :=
  entry2 (argY m c) _ (block (index_rows t).2.2.2.1.1 512 r.val) (whole (index_rows t).2.2.2.1.2 1024 d.val)

/-- The weights' block is the weights. -/
theorem blk1 (t : Fin cfg0.N) : (iblk m c 1 t : Vec Ideal S2176x1024 .bf16) = argW m c :=
  funext fun j => same2 (argW m c) _ j (whole (index_whole t).1.1 2176 (j 0).val) (whole (index_whole t).1.2 1024 (j 1).val)

/-- The first gain's block is the first layer's gain. -/
theorem blk4 (t : Fin cfg0.N) : gain (iblk m c 4 t : Vec Ideal S1x1x1024 .f32) = argG m c :=
  funext fun k => entry3 (m ((c : Thread nD τ).loc main_arg4) : S4x1x1024.Idx → EReal) _ (by show win0_4.index t 0 * 1 + 1 * 0 = 1; rw [(index_whole t).2.1.1]) (whole (index_whole t).2.1.2.1 1 0) (whole (index_whole t).2.1.2.2 1024 k.val)

/-- The second gain's block is the first layer's gain. -/
theorem blk6 (t : Fin cfg0.N) : gain (iblk m c 6 t : Vec Ideal S1x1x1024 .f32) = argG2 m c :=
  funext fun k => entry3 (m ((c : Thread nD τ).loc main_arg6) : S4x1x1024.Idx → EReal) _ (whole (index_whole t).2.2.1.1 1 0) (whole (index_whole t).2.2.1.2.1 1 0) (whole (index_whole t).2.2.1.2.2 1024 k.val)

/-! ### After each point -/

/-- The block of the first gradient after point `t`. -/
theorem outs7 (t : Fin cfg0.N) (r : Fin 512) (j : Fin 1024) :
    (outsAt0 m c t.val t.isLt).1 (ix2 r j) = dxf (argA m c) (argW m c) (argD m c) (argX m c) (argG m c) (prow t r) j := by
  by_cases h0 : t.val % 16 = 0
  · have e := congrFun (congrArg (fun x => x.1) (outsAt0_A m c t h0)) (ix2 r j)
    dsimp only at e
    refine e.trans ((out_A_7 r j).trans ?_)
    rw [blk1, blk4]
    exact dxf_congr _ _ (blk0 m c t r) (blk2 m c t r) (blk3 m c t r) j
  · have e := congrFun (congrArg (fun x => x.1) (outsAt0_B m c t h0)) (ix2 r j)
    dsimp only at e
    refine e.trans ((out_B_7 r j).trans ?_)
    rw [blk1, blk4]
    exact dxf_congr _ _ (blk0 m c t r) (blk2 m c t r) (blk3 m c t r) j

/-- The block of the second gradient after point `t`. -/
theorem outs9 (t : Fin cfg0.N) (r : Fin 512) (j : Fin 1024) :
    (outsAt0 m c t.val t.isLt).2.2.1 (ix2 r j) = dyf (argA m c) (argW m c) (argD m c) (argX m c) (argG m c) (argG2 m c) (argY m c) (prow t r) j := by
  by_cases h0 : t.val % 16 = 0
  · have e := congrFun (congrArg (fun x => x.2.2.1) (outsAt0_A m c t h0)) (ix2 r j)
    dsimp only at e
    refine e.trans ((out_A_9 r j).trans ?_)
    rw [blk1, blk4, blk6]
    exact dyf_congr _ _ _ (blk0 m c t r) (blk2 m c t r) (blk3 m c t r) (blk5 m c t r) j
  · have e := congrFun (congrArg (fun x => x.2.2.1) (outsAt0_B m c t h0)) (ix2 r j)
    dsimp only at e
    refine e.trans ((out_B_9 r j).trans ?_)
    rw [blk1, blk4, blk6]
    exact dyf_congr _ _ _ (blk0 m c t r) (blk2 m c t r) (blk3 m c t r) (blk5 m c t r) j

/-- The first point leaves its own rows' part of the first gain's gradient. -/
theorem first8 (t : Fin cfg0.N) (h0 : t.val % 16 = 0) (j : Fin 1024) :
    (outsAt0 m c t.val t.isLt).2.1 (ix2 (0 : Fin 1) j) = 0 + ∑ r, g1f (argA m c) (argW m c) (argX m c) (prow t r) j := by
  have e := congrFun (congrArg (fun x => x.2.1) (outsAt0_A m c t h0)) (ix2 (0 : Fin 1) j)
  dsimp only at e
  refine e.trans ((out_A_8 j).trans ?_)
  rw [blk1]
  exact congrArg (0 + ·) (Finset.sum_congr rfl fun r _ => g1f_congr _ (blk0 m c t r) (blk3 m c t r) j)

/-- Each later point adds its rows' part. -/
theorem next8 (t : Fin cfg0.N) (h0 : ¬t.val % 16 = 0) (j : Fin 1024) :
    (outsAt0 m c t.val t.isLt).2.1 (ix2 (0 : Fin 1) j)
      = (outsAt0 m c (t.val - 1) (Nat.lt_of_le_of_lt (Nat.sub_le _ _) t.isLt)).2.1 (ix2 (0 : Fin 1) j) + ∑ r, g1f (argA m c) (argW m c) (argX m c) (prow t r) j := by
  have e := congrFun (congrArg (fun x => x.2.1) (outsAt0_B m c t h0)) (ix2 (0 : Fin 1) j)
  dsimp only at e
  refine e.trans ((out_B_8 j).trans ?_)
  rw [blk1]
  exact congrArg ((outsAt0 m c (t.val - 1) (Nat.lt_of_le_of_lt (Nat.sub_le _ _) t.isLt)).2.1 (ix2 (0 : Fin 1) j) + ·) (Finset.sum_congr rfl fun r _ => g1f_congr _ (blk0 m c t r) (blk3 m c t r) j)

/-- The first point leaves its own rows' part of the second gain's gradient. -/
theorem first10 (t : Fin cfg0.N) (h0 : t.val % 16 = 0) (j : Fin 1024) :
    (outsAt0 m c t.val t.isLt).2.2.2 (ix2 (0 : Fin 1) j) = 0 + ∑ r, g2f (argA m c) (argW m c) (argD m c) (argX m c) (argG m c) (argY m c) (prow t r) j := by
  have e := congrFun (congrArg (fun x => x.2.2.2) (outsAt0_A m c t h0)) (ix2 (0 : Fin 1) j)
  dsimp only at e
  refine e.trans ((out_A_10 j).trans ?_)
  rw [blk1, blk4]
  exact congrArg (0 + ·) (Finset.sum_congr rfl fun r _ => g2f_congr _ _ (blk0 m c t r) (blk2 m c t r) (blk3 m c t r) (blk5 m c t r) j)

/-- Each later point adds its rows' part. -/
theorem next10 (t : Fin cfg0.N) (h0 : ¬t.val % 16 = 0) (j : Fin 1024) :
    (outsAt0 m c t.val t.isLt).2.2.2 (ix2 (0 : Fin 1) j)
      = (outsAt0 m c (t.val - 1) (Nat.lt_of_le_of_lt (Nat.sub_le _ _) t.isLt)).2.2.2 (ix2 (0 : Fin 1) j) + ∑ r, g2f (argA m c) (argW m c) (argD m c) (argX m c) (argG m c) (argY m c) (prow t r) j := by
  have e := congrFun (congrArg (fun x => x.2.2.2) (outsAt0_B m c t h0)) (ix2 (0 : Fin 1) j)
  dsimp only at e
  refine e.trans ((out_B_10 j).trans ?_)
  rw [blk1, blk4]
  exact congrArg ((outsAt0 m c (t.val - 1) (Nat.lt_of_le_of_lt (Nat.sub_le _ _) t.isLt)).2.2.2 (ix2 (0 : Fin 1) j) + ·) (Finset.sum_congr rfl fun r _ => g2f_congr _ _ (blk0 m c t r) (blk2 m c t r) (blk3 m c t r) (blk5 m c t r) j)

/-! ### The arrays after the run -/

/-- The last point. -/
theorem last : 15 < cfg0.N := by rw [show cfg0.N = 16 from N_0]; decide

/-- The first gradient. -/
theorem arr7 (p : Fin 8192) (j : Fin 1024) :
    (dats m 0 c).arrAt 7 cfg0.N (ix2 p j) = dxf (argA m c) (argW m c) (argD m c) (argX m c) (argG m c) p j := by
  have hN : cfg0.N = 16 := N_0
  let t : Fin cfg0.N := ⟨p.val / 512, by omega⟩
  let r : Fin 512 := ⟨p.val % 512, Nat.mod_lt _ (by decide)⟩
  have hp : prow t r = p := Fin.ext (Nat.div_add_mod p.val 512)
  have hb := congrFun (Value.blocks7 m c t (flush0_7 t)) (ix2 r j)
  rw [View.read_apply] at hb
  have hi : ((cfg0.win 7).blk t).view.emb (ix2 r j) = (ix2 p j : S8192x1024.Idx) :=
    entry2 id _ (block (index_rows t).2.2.2.2.1.1 512 r.val |>.trans (congrArg Fin.val hp)) (whole (index_rows t).2.2.2.2.1.2 1024 j.val)
  rw [hi] at hb
  refine hb.trans ?_
  rw [Value.flushed7]
  exact (outs7 m c t r j).trans (by rw [hp])

/-- The second gradient. -/
theorem arr9 (p : Fin 8192) (j : Fin 1024) :
    (dats m 0 c).arrAt 9 cfg0.N (ix2 p j) = dyf (argA m c) (argW m c) (argD m c) (argX m c) (argG m c) (argG2 m c) (argY m c) p j := by
  have hN : cfg0.N = 16 := N_0
  let t : Fin cfg0.N := ⟨p.val / 512, by omega⟩
  let r : Fin 512 := ⟨p.val % 512, Nat.mod_lt _ (by decide)⟩
  have hp : prow t r = p := Fin.ext (Nat.div_add_mod p.val 512)
  have hb := congrFun (Value.blocks9 m c t (flush0_9 t)) (ix2 r j)
  rw [View.read_apply] at hb
  have hi : ((cfg0.win 9).blk t).view.emb (ix2 r j) = (ix2 p j : S8192x1024.Idx) :=
    entry2 id _ (block (index_rows t).2.2.2.2.2.1 512 r.val |>.trans (congrArg Fin.val hp)) (whole (index_rows t).2.2.2.2.2.2 1024 j.val)
  rw [hi] at hb
  refine hb.trans ?_
  rw [Value.flushed9]
  exact (outs9 m c t r j).trans (by rw [hp])

/-- The first gain's gradient is written back after the last point. -/
theorem flushed8_eq (t : Fin cfg0.N) (hf : (cfg0.win 8).flush t = true) :
    (dats m 0 c).flushed 8 t = ((cfg0.win 8).blk t).view.read (Elt Ideal) ((outsAt0 m c 15 last).2.1 : Buf (Elt Ideal) ((c : Thread nD τ).loc main_v0_1)) := by
  have ht : t.val = 15 := by have := (flush0_8 t).mp hf; have := lt16 t; omega
  obtain rfl : t = ⟨15, last⟩ := Fin.ext ht
  rw [Value.flushed8]
  have hz' : (fun a => win0_8.index (⟨15, last⟩ : Fin cfg0.N) a * main_v0_1.ty.shape.size a) = fun _ => 0 := funext fun a => by fin_cases a <;> decide +kernel
  exact (Memref.read_access_unit_zero (Elt Ideal) main_v0_1 hz' (fun a => by rw [congrFun hz' a]; simp) ((outsAt0 m c 15 last).2.1 : Buf (Elt Ideal) ((c : Thread nD τ).loc main_v0_1))).symm

/-- The first gain's gradient in the array is what the last point left. -/
theorem final8 : (dats m 0 c).arrAt 8 cfg0.N = ((outsAt0 m c 15 last).2.1 : Buf (Elt Ideal) ((c : Thread nD τ).loc main_v0_1)) :=
  (dats m 0 c).arrAt_eq_of_cover 8 _ (flushed8_eq m c) fun i =>
    ⟨⟨15, last⟩, (flush0_8 _).mpr rfl, by
      show i ∈ ((View.whole main_v0_1).slice (win0_8.rect ⟨15, last⟩)).set
      rw [View.set_slice_whole, Rect.mem_set_unit]
      intro a
      have h0 : (i 0 : Nat) < 1 := (i 0).isLt
      have h1 : (i 1 : Nat) < 1024 := (i 1).isLt
      match a with
      | ⟨0, _⟩ => show win0_8.index ⟨15, last⟩ 0 * 1 ≤ (i 0 : Nat) ∧ (i 0 : Nat) < win0_8.index ⟨15, last⟩ 0 * 1 + 1
                  rw [(index_whole _).2.2.2.1.1]; omega
      | ⟨1, _⟩ => show win0_8.index ⟨15, last⟩ 1 * 1024 ≤ (i 1 : Nat) ∧ (i 1 : Nat) < win0_8.index ⟨15, last⟩ 1 * 1024 + 1024
                  rw [(index_whole _).2.2.2.1.2]; omega⟩

/-- The first gain's gradient. -/
theorem arr8 (j : Fin 1024) : (dats m 0 c).arrAt 8 cfg0.N (ix2 (0 : Fin 1) j) = ∑ p, g1f (argA m c) (argW m c) (argX m c) p j := by
  have hN : cfg0.N = 16 := N_0
  rw [final8]
  exact chain hN (fun p => g1f (argA m c) (argW m c) (argX m c) p j) (fun n hn => (outsAt0 m c n hn).2.1 (ix2 (0 : Fin 1) j))
    (fun hn => first8 m c ⟨0, hn⟩ rfl j) (fun n hn => next8 m c ⟨n + 1, hn⟩ (by dsimp only; omega) j) last

/-- The second gain's gradient is written back after the last point. -/
theorem flushed10_eq (t : Fin cfg0.N) (hf : (cfg0.win 10).flush t = true) :
    (dats m 0 c).flushed 10 t = ((cfg0.win 10).blk t).view.read (Elt Ideal) ((outsAt0 m c 15 last).2.2.2 : Buf (Elt Ideal) ((c : Thread nD τ).loc main_v0_3)) := by
  have ht : t.val = 15 := by have := (flush0_10 t).mp hf; have := lt16 t; omega
  obtain rfl : t = ⟨15, last⟩ := Fin.ext ht
  rw [Value.flushed10]
  have hz' : (fun a => win0_10.index (⟨15, last⟩ : Fin cfg0.N) a * main_v0_3.ty.shape.size a) = fun _ => 0 := funext fun a => by fin_cases a <;> decide +kernel
  exact (Memref.read_access_unit_zero (Elt Ideal) main_v0_3 hz' (fun a => by rw [congrFun hz' a]; simp) ((outsAt0 m c 15 last).2.2.2 : Buf (Elt Ideal) ((c : Thread nD τ).loc main_v0_3))).symm

/-- The second gain's gradient in the array is what the last point left. -/
theorem final10 : (dats m 0 c).arrAt 10 cfg0.N = ((outsAt0 m c 15 last).2.2.2 : Buf (Elt Ideal) ((c : Thread nD τ).loc main_v0_3)) :=
  (dats m 0 c).arrAt_eq_of_cover 10 _ (flushed10_eq m c) fun i =>
    ⟨⟨15, last⟩, (flush0_10 _).mpr rfl, by
      show i ∈ ((View.whole main_v0_3).slice (win0_10.rect ⟨15, last⟩)).set
      rw [View.set_slice_whole, Rect.mem_set_unit]
      intro a
      have h0 : (i 0 : Nat) < 1 := (i 0).isLt
      have h1 : (i 1 : Nat) < 1024 := (i 1).isLt
      match a with
      | ⟨0, _⟩ => show win0_10.index ⟨15, last⟩ 0 * 1 ≤ (i 0 : Nat) ∧ (i 0 : Nat) < win0_10.index ⟨15, last⟩ 0 * 1 + 1
                  rw [(index_whole _).2.2.2.2.1]; omega
      | ⟨1, _⟩ => show win0_10.index ⟨15, last⟩ 1 * 1024 ≤ (i 1 : Nat) ∧ (i 1 : Nat) < win0_10.index ⟨15, last⟩ 1 * 1024 + 1024
                  rw [(index_whole _).2.2.2.2.2]; omega⟩

/-- The second gain's gradient. -/
theorem arr10 (j : Fin 1024) : (dats m 0 c).arrAt 10 cfg0.N (ix2 (0 : Fin 1) j) = ∑ p, g2f (argA m c) (argW m c) (argD m c) (argX m c) (argG m c) (argY m c) p j := by
  have hN : cfg0.N = 16 := N_0
  rw [final10]
  exact chain hN (fun p => g2f (argA m c) (argW m c) (argD m c) (argX m c) (argG m c) (argY m c) p j) (fun n hn => (outsAt0 m c n hn).2.2.2 (ix2 (0 : Fin 1) j))
    (fun hn => first10 m c ⟨0, hn⟩ rfl j) (fun n hn => next10 m c ⟨n + 1, hn⟩ (by dsimp only; omega) j) last

end Cert.RowsInIdeal.RefValue

namespace Cert.RowsInRefIdeal.RefValue

open Cert.RowsInRefIdeal Cert.RowsInRefIdeal.Gen Cert.RowsInRefIdeal.Read Cert.Rows Idealize.ShloMosaic Idealize.ShloMosaic.TcCoe Idealize.SL.Sem Idealize.ShloMosaic.ValueIdx
open scoped BigOperators

variable (x0 : (⟨S8192x2176, .bf16⟩ : BufTy).Contents (Elt Ideal)) (x1 : (⟨S2176x1024, .bf16⟩ : BufTy).Contents (Elt Ideal))
  (x2 x3 : (⟨S8192x1024, .f32⟩ : BufTy).Contents (Elt Ideal)) (x4 : (⟨S4x1x1024, .f32⟩ : BufTy).Contents (Elt Ideal))
  (x5 : (⟨S8192x1024, .f32⟩ : BufTy).Contents (Elt Ideal)) (x6 : (⟨S4x1x1024, .f32⟩ : BufTy).Contents (Elt Ideal))

/-- The second layer's gain. -/
abbrev later (x : (⟨S4x1x1024, .f32⟩ : BufTy).Contents (Elt Ideal)) : Fin 1024 → EReal := fun k => x (ix3 (1 : Fin 4) (0 : Fin 1) k)
/-- The first layer's gain. -/
abbrev layer (x : (⟨S4x1x1024, .f32⟩ : BufTy).Contents (Elt Ideal)) : Fin 1024 → EReal := fun k => x (ix3 (0 : Fin 4) (0 : Fin 1) k)

/-! ### The norm and the gain -/

/-- The factor of a row. -/
theorem ref9 (x : (⟨S8192x1024, .f32⟩ : BufTy).Contents (Elt Ideal)) (p : Fin 8192) (z : Fin 1) : val_main_v9 (F := Ideal) x (ix2 p z) = rt (row x p) :=
  Cert.FfnInRefIdeal.RefValue.ref9 x p z

/-- The factor over the mean square, times minus one half. -/
theorem ref12 (x : (⟨S8192x1024, .f32⟩ : BufTy).Contents (Elt Ideal)) (p : Fin 8192) (z : Fin 1) :
    val_main_v12 (F := Ideal) x (ix2 p z) = mhalf * Ideal.div (rt (row x p)) (msq (row x p)) := Cert.FfnInRefIdeal.RefValue.ref12 x p z

/-- The factor, spread over the columns. -/
theorem ref13 (x : (⟨S8192x1024, .f32⟩ : BufTy).Contents (Elt Ideal)) (p : Fin 8192) (j : Fin 1024) : val_main_v13 (F := Ideal) x (ix2 p j) = rt (row x p) :=
  Cert.FfnInRefIdeal.RefValue.ref13 x p j

/-- The gain, spread over the rows. -/
theorem ref25 (p : Fin 8192) (j : Fin 1024) : val_main_v25 (F := Ideal) x4 (ix2 p j) = later x4 j := by
  rw [val_main_v25_apply, val_main_v1_apply, val_main_v0_apply]
  refine congrArg x4 (funext fun a => Fin.ext ?_)
  match a with
  | ⟨0, _⟩ => rfl
  | ⟨1, _⟩ => rfl
  | ⟨2, _⟩ => show (0 * 1024 + j.val) % 1024 = j.val; omega

/-! ### The first norm -/

/-- The product. -/
theorem ref21 (p : Fin 8192) (j : Fin 1024) : val_main_v21 (F := Ideal) x0 x1 (ix2 p j) = dhf x0 x1 p j := Cert.GradRowsRefIdeal.RefValue.ref21 x0 x1 p j

/-- The first gain's gradient. -/
theorem ref24 (j : Fin 1024) : val_main_v24 (F := Ideal) x0 x1 x3 (ix2 (0 : Fin 1) j) = ∑ p, g1f x0 x1 x3 p j := Cert.GradRowsRefIdeal.RefValue.ref24 x0 x1 x3 j

/-- The gradient with the gain. -/
theorem ref26 (p : Fin 8192) (j : Fin 1024) : val_main_v26 (F := Ideal) x0 x1 x4 (ix2 p j) = dhf x0 x1 p j * later x4 j := by
  rw [val_main_v26_apply, ref21, ref25]
  rfl

/-- The share of the first norm's factor in the gradient, spread over the columns. -/
theorem ref37 (p : Fin 8192) (j : Fin 1024) : val_main_v37 (F := Ideal) x0 x1 x3 x4 (ix2 p j)
    = Ideal.div ((∑ k, x3 (ix2 p k) * (dhf x0 x1 p k * later x4 k)) * (mhalf * Ideal.div (rt (row x3 p)) (msq (row x3 p)))) width := by
  rw [val_main_v37_apply, val_main_v36_apply, val_main_cst_6_apply]
  refine (congrArg₂ (· + ·) Ideal.ofBits_zero_f32 (Fin.sum_univ_one _)).trans ((zero_add _).trans ?_)
  have hi : idx_main_v36 (idx_main_v37 (ix2 p j)) 0 = ix2 p (0 : Fin 1) := funext fun a => match a with | ⟨0, _⟩ => rfl | ⟨1, _⟩ => rfl
  rw [hi, val_main_v35_apply, val_main_v33_apply, val_main_v34_apply, ref12, val_main_v29_apply, val_main_v28_apply, val_main_cst_4_apply]
  refine congrArg (fun s => Ideal.div (s * (mhalf * Ideal.div (rt (row x3 p)) (msq (row x3 p)))) width) ((congrArg₂ (· + ·) Ideal.ofBits_zero_f32 (Finset.sum_congr rfl fun l _ => ?_)).trans (zero_add _))
  have hj : idx_main_v28 (idx_main_v29 (ix2 p (0 : Fin 1))) l = ix2 p l := funext fun a => Fin.ext (match a with
    | ⟨0, _⟩ => by show p.val * 1 + 0 = p.val; omega
    | ⟨1, _⟩ => rfl)
  rw [hj, val_main_v27_apply, ref26]
  rfl

/-- The gradient of the first norm's rows, with the gradient that came past the branch. -/
theorem ref41 (p : Fin 8192) (j : Fin 1024) : val_main_v41 (F := Ideal) x0 x1 x2 x3 x4 (ix2 p j) = dxf x0 x1 x2 x3 (later x4) p j := by
  rw [val_main_v41_apply, val_main_v39_apply, val_main_v32_apply, val_main_v31_apply, val_main_v38_apply, val_main_v40_apply, ref37, ref26, val_main_v30_apply]
  have hi : idx_main_v30 (ix2 p j) = ix2 p (0 : Fin 1) := funext fun a => match a with | ⟨0, _⟩ => rfl | ⟨1, _⟩ => rfl
  rw [hi, ref9]
  exact back_eq (row x3 p) (fun k => dhf x0 x1 p k * later x4 k) j (x2 (ix2 p j))

/-! ### The second norm -/

/-- The factor of the second norm's rows is the same function. -/
theorem ref51 (p : Fin 8192) (z : Fin 1) : val_main_v51 (F := Ideal) x5 (ix2 p z) = rt (row x5 p) := ref9 x5 p z

/-- So is the factor over the mean square. -/
theorem ref54 (p : Fin 8192) (z : Fin 1) : val_main_v54 (F := Ideal) x5 (ix2 p z) = mhalf * Ideal.div (rt (row x5 p)) (msq (row x5 p)) := ref12 x5 p z

/-- The second gain's gradient. -/
theorem ref61 (j : Fin 1024) : val_main_v61 (F := Ideal) x0 x1 x2 x3 x4 x5 (ix2 (0 : Fin 1) j) = ∑ p, g2f x0 x1 x2 x3 (later x4) x5 p j := by
  rw [val_main_v61_apply, val_main_v60_apply, val_main_cst_11_apply]
  refine (congrArg₂ (· + ·) Ideal.ofBits_zero_f32 (Finset.sum_congr rfl fun p _ => ?_)).trans (zero_add _)
  have hi : idx_main_v60 (idx_main_v61 (ix2 (0 : Fin 1) j)) p = ix2 p j := funext fun a => Fin.ext (match a with
    | ⟨0, _⟩ => rfl
    | ⟨1, _⟩ => by show 0 * 1024 + j.val = j.val; omega)
  rw [hi, val_main_v59_apply, val_main_v56_apply, ref41, show val_main_v55 (F := Ideal) x5 (ix2 p j) = rt (row x5 p) from ref13 x5 p j]
  exact mul_comm _ _

/-- The first gradient with the second gain. -/
theorem ref63 (p : Fin 8192) (j : Fin 1024) : val_main_v63 (F := Ideal) x0 x1 x2 x3 x4 x6 (ix2 p j) = dxf x0 x1 x2 x3 (later x4) p j * layer x6 j := by
  rw [val_main_v63_apply, ref41, show val_main_v62 (F := Ideal) x6 (ix2 p j) = layer x6 j from Cert.FfnInRefIdeal.RefValue.ref25 x6 p j]
  rfl

/-- The share of the second norm's factor in the gradient, spread over the columns. -/
theorem ref73 (p : Fin 8192) (j : Fin 1024) : val_main_v73 (F := Ideal) x0 x1 x2 x3 x4 x5 x6 (ix2 p j)
    = Ideal.div ((∑ k, x5 (ix2 p k) * (dxf x0 x1 x2 x3 (later x4) p k * layer x6 k)) * (mhalf * Ideal.div (rt (row x5 p)) (msq (row x5 p)))) width := by
  rw [val_main_v73_apply, val_main_v72_apply, val_main_cst_14_apply]
  refine (congrArg₂ (· + ·) Ideal.ofBits_zero_f32 (Fin.sum_univ_one _)).trans ((zero_add _).trans ?_)
  have hi : idx_main_v72 (idx_main_v73 (ix2 p j)) 0 = ix2 p (0 : Fin 1) := funext fun a => match a with | ⟨0, _⟩ => rfl | ⟨1, _⟩ => rfl
  rw [hi, val_main_v71_apply, val_main_v69_apply, val_main_v70_apply, ref54, val_main_v66_apply, val_main_v65_apply, val_main_cst_12_apply]
  refine congrArg (fun s => Ideal.div (s * (mhalf * Ideal.div (rt (row x5 p)) (msq (row x5 p)))) width) ((congrArg₂ (· + ·) Ideal.ofBits_zero_f32 (Finset.sum_congr rfl fun l _ => ?_)).trans (zero_add _))
  have hj : idx_main_v65 (idx_main_v66 (ix2 p (0 : Fin 1))) l = ix2 p l := funext fun a => Fin.ext (match a with
    | ⟨0, _⟩ => by show p.val * 1 + 0 = p.val; omega
    | ⟨1, _⟩ => rfl)
  rw [hj, val_main_v64_apply, ref63]
  rfl

/-- The gradient of the second norm's rows. -/
theorem ref78 (p : Fin 8192) (j : Fin 1024) : val_main_v78 (F := Ideal) x0 x1 x2 x3 x4 x5 x6 (ix2 p j) = dyf x0 x1 x2 x3 (later x4) (layer x6) x5 p j := by
  rw [val_main_v78_apply, val_main_v77_apply, val_main_v75_apply, val_main_v68_apply, val_main_v74_apply, val_main_v76_apply, ref73, ref63,
    show val_main_v67 (F := Ideal) x5 (ix2 p j) = rt (row x5 p) from ref13 x5 p j]
  have e := back_eq (row x5 p) (fun k => dxf x0 x1 x2 x3 (later x4) p k * layer x6 k) j 0
  rw [zero_add, zero_add] at e
  exact e

end Cert.RowsInRefIdeal.RefValue

namespace Cert.RowsInEq

open Cert.Rows Idealize.ShloMosaic Idealize.ShloMosaic.TcCoe Idealize.SL.Sem Idealize.ShloMosaic.ValueIdx
open Cert.RowsInIdeal.RefValue (argA argW argD argX argG argY argG2 arr7 arr8 arr9 arr10)
open scoped BigOperators

section
open Cert.RowsInIdeal
variable (m : (ℓ : Loc nD τ sig) → Buf (Elt Ideal) ℓ) (c : Dev nD)

/-- The first gain, as the operand holds it. -/
abbrev gains : S4x1x1024.Idx → EReal := m ((c : Thread nD τ).loc main_arg4)
/-- The second gain, as the operand holds it. -/
abbrev gains2 : S4x1x1024.Idx → EReal := m ((c : Thread nD τ).loc main_arg6)

/-- The first gradient of the rows. -/
theorem same7 : (Gen.dats m 0 c).arrAt 7 cfg0.N = Cert.RowsInRefIdeal.Read.val_main_v41 (F := Ideal) (argA m c) (argW m c) (argD m c) (argX m c) (gains m c) := by
  refine funext fun i => ?_
  obtain ⟨p, j, rfl⟩ : ∃ (p : Fin 8192) (j : Fin 1024), i = ix2 p j := ⟨i 0, i 1, eq_ix2 i⟩
  exact (arr7 m c p j).trans (Cert.RowsInRefIdeal.RefValue.ref41 (argA m c) (argW m c) (argD m c) (argX m c) (gains m c) p j).symm

/-- The first gain's gradient. -/
theorem same8 : (Gen.dats m 0 c).arrAt 8 cfg0.N = Cert.RowsInRefIdeal.Read.val_main_v24 (F := Ideal) (argA m c) (argW m c) (argX m c) := by
  refine funext fun i => ?_
  obtain ⟨z, j, rfl⟩ : ∃ (z : Fin 1) (j : Fin 1024), i = ix2 z j := ⟨i 0, i 1, eq_ix2 i⟩
  obtain rfl : z = 0 := Subsingleton.elim _ _
  exact (arr8 m c j).trans (Cert.RowsInRefIdeal.RefValue.ref24 (argA m c) (argW m c) (argX m c) j).symm

/-- The second gradient of the rows. -/
theorem same9 : (Gen.dats m 0 c).arrAt 9 cfg0.N
    = Cert.RowsInRefIdeal.Read.val_main_v78 (F := Ideal) (argA m c) (argW m c) (argD m c) (argX m c) (gains m c) (argY m c) (gains2 m c) := by
  refine funext fun i => ?_
  obtain ⟨p, j, rfl⟩ : ∃ (p : Fin 8192) (j : Fin 1024), i = ix2 p j := ⟨i 0, i 1, eq_ix2 i⟩
  exact (arr9 m c p j).trans (Cert.RowsInRefIdeal.RefValue.ref78 (argA m c) (argW m c) (argD m c) (argX m c) (gains m c) (argY m c) (gains2 m c) p j).symm

/-- The second gain's gradient. -/
theorem same10 : (Gen.dats m 0 c).arrAt 10 cfg0.N
    = Cert.RowsInRefIdeal.Read.val_main_v61 (F := Ideal) (argA m c) (argW m c) (argD m c) (argX m c) (gains m c) (argY m c) := by
  refine funext fun i => ?_
  obtain ⟨z, j, rfl⟩ : ∃ (z : Fin 1) (j : Fin 1024), i = ix2 z j := ⟨i 0, i 1, eq_ix2 i⟩
  obtain rfl : z = 0 := Subsingleton.elim _ _
  exact (arr10 m c j).trans (Cert.RowsInRefIdeal.RefValue.ref61 (argA m c) (argW m c) (argD m c) (argX m c) (gains m c) (argY m c) j).symm

end

/-! ### The frames -/

/-- The frame of the kernel. -/
theorem frame_p : quiescent_RowsIn := fun m ρ _ => Cert.RowsIn.Gen.frame m ρ

/-- The frame of the idealized kernel. -/
theorem frame_pi : quiescent_RowsInIdeal := fun m ρ _ => Cert.RowsInIdeal.Gen.frame m ρ

/-- The frame of the reference: its run ends with its arguments as they were, and it declares no semaphore. -/
theorem frame_ri : quiescent_RowsInRefIdeal := fun m ρ _ =>
  (θ_run Cert.RowsInRefIdeal.defs _ _).mono (fun r h => ⟨fun c => (h c).2.2.2.2, sem_eq_zero_of_no_sems (by decide) r.2⟩)
    (Cert.RowsInRefIdeal.Value.run (F := Ideal) m ρ)

/-- The call computes the gradients of the plain normalisations, the product and the branch. -/
theorem same : algebraic_RowsInIdeal_RowsInRefIdeal := by
  intro m g m' g' hm ha
  refine ⟨fun c => (Cert.RowsInIdeal.Gen.dats m 0 c).arrAt 7 Cert.RowsInIdeal.cfg0.N, fun c => (Cert.RowsInIdeal.Gen.dats m 0 c).arrAt 8 Cert.RowsInIdeal.cfg0.N,
    fun c => (Cert.RowsInIdeal.Gen.dats m 0 c).arrAt 9 Cert.RowsInIdeal.cfg0.N, fun c => (Cert.RowsInIdeal.Gen.dats m 0 c).arrAt 10 Cert.RowsInIdeal.cfg0.N,
    Cert.RowsInIdeal.Value.run_blocks m g, ?_⟩
  refine (θ_run Cert.RowsInRefIdeal.defs _ _).mono (fun r h c => ?_) (Cert.RowsInRefIdeal.Value.run (F := Ideal) m' g')
  obtain ⟨h41, h24, h78, h61, hrest⟩ := h c
  obtain ⟨a0, a1, a2, a3, a4, a5, a6⟩ := ha c
  refine ⟨h41.trans ?_, h24.trans ?_, h78.trans ?_, h61.trans ?_, hrest⟩
  · rw [Cert.RowsInRefIdeal.Read.val_main_v41_eq, a0, a1, a2, a3, a4]
    exact (same7 m c).symm
  · rw [Cert.RowsInRefIdeal.Read.val_main_v24_eq, a0, a1, a3]
    exact (same8 m c).symm
  · rw [Cert.RowsInRefIdeal.Read.val_main_v78_eq, a0, a1, a2, a3, a4, a5, a6]
    exact (same9 m c).symm
  · rw [Cert.RowsInRefIdeal.Read.val_main_v61_eq, a0, a1, a2, a3, a4, a5]
    exact (same10 m c).symm

end Cert.RowsInEq

end
-- ==== Proof.ReadsEq.lean ====
/-
  The attention's forward call: each point computes the four heads' reads for a block of rows, so the whole is the softmax
  attention of every row. The payloads of the softmax are those of the backward call, and the reference's softmax is the one
  whose gradient the backward call's reference takes.
-/
module

public import proofs.«01_k».proof.Proof.At
public import proofs.«01_k».proof.Proof.AttnRef
public import proofs.«01_k».proof.Proof.Gen.ReadsIdeal.Value
public import proofs.«01_k».proof.Proof.Gen.Reads.Frame
public import proofs.«01_k».proof.Proof.Gen.ReadsRefIdeal.Read
public import proofs.«01_k».proof.Defs

@[expose] public section

set_option maxRecDepth 16384

noncomputable section

namespace Cert.ReadsIdeal.RefValue

open Cert.ReadsIdeal Cert.ReadsIdeal.Gen Cert.Rows Idealize.ShloMosaic Idealize.ShloMosaic.TcCoe Idealize.SL.Sem Idealize.ShloMosaic.ValueIdx
open Cert.At (entry2 same2 entry3 whole block)
open Cert.AttnIdeal.RefValue (score srow hd5 hd2 srow_hd nn_apply pay8_apply)
open scoped BigOperators

/-- What a head reads from the values. -/
abbrev read {n : ℕ} (Q : (⟨2, ![n, 1024]⟩ : Shape).Idx → EReal) (K V : (⟨2, ![256, 1024]⟩ : Shape).Idx → EReal) (h : Fin 4) (r : Fin n) (d : Fin 256) : EReal :=
  ∑ l : Fin 256, prob (score Q K h r) l * V (ix2 l (col h d))

section Head
variable (q : Vec Ideal S512x256 .bf16) (k v : Vec Ideal S256x256 .bf16)

/-- The second head's stored value is the first's function. -/
theorem h1 : k0_pay4 (F := Ideal) (k0_pay3 q k) v = k0_pay2 q k v := rfl
/-- So is the third's. -/
theorem h2 : k0_pay5 (F := Ideal) q k v = k0_pay2 q k v := rfl
/-- So is the fourth's. -/
theorem h3 : k0_pay1 (F := Ideal) (k0_pay6 q k) (k0_pay7 q k) v = k0_pay2 q k v := rfl

/-- A head's stored value, element by element. -/
theorem head_apply (r : Fin 512) (d : Fin 256) : k0_pay2 (F := Ideal) q k v (ix2 r d) = ∑ l : Fin 256, prob (srow q k r) l * v (ix2 l d) := by
  refine (nn_apply (Cert.AttnIdeal.Gen.k0_pay8 (F := Ideal) q k : FVec Ideal Cert.AttnIdeal.S512x256 .f32) v r d).trans ?_
  exact Finset.sum_congr rfl fun l _ => congrArg (· * _) (pay8_apply q k r l)
end Head

section Block
variable (x0 : Vec Ideal S512x1024 .bf16) (x1 x2 : Vec Ideal S256x1024 .bf16)

/-- A head's stored value, from its columns of the blocks. -/
theorem band (o : ℕ) (i j) (h : Fin 4) (ho : o = 256 * h.val) (r : Fin 512) (d : Fin 256) :
    k0_pay2 (F := Ideal) (hd5 x0 o i) (hd2 x1 o j) (hd2 x2 o j) (ix2 r d) = read x0 x1 x2 h r d := by
  rw [head_apply]
  refine Finset.sum_congr rfl fun l _ => ?_
  rw [srow_hd x0 x1 o i j h ho]
  exact congrArg _ (ld_band x2 o j l d (col h d) (by rw [ho]; rfl))

/-- A point's block of the result. -/
theorem out_apply (h : Fin 4) (r : Fin 512) (d : Fin 256) : out0_3 x0 x1 x2 (ix2 r (col h d)) = read x0 x1 x2 h r d := by
  unfold out0_3
  simp only [h1, h2, h3]
  refine (canon_four _ _ _ _ _ _ _ _ _ h r d).trans ?_
  match h with
  | 0 => exact band x0 x1 x2 0 _ _ 0 rfl r d
  | 1 => exact band x0 x1 x2 256 _ _ 1 rfl r d
  | 2 => exact band x0 x1 x2 512 _ _ 2 rfl r d
  | 3 => exact band x0 x1 x2 768 _ _ 3 rfl r d
end Block

variable (m : (ℓ : Loc nD τ sig) → Buf (Elt Ideal) ℓ) (ρ : Dev nD → PrngReg) (c : Dev nD)

/-- The queries. -/
abbrev argQ : S8192x1024.Idx → EReal := m ((c : Thread nD τ).loc main_arg0)
/-- The keys. -/
abbrev argK : S256x1024.Idx → EReal := m ((c : Thread nD τ).loc main_arg1)
/-- The values. -/
abbrev argV : S256x1024.Idx → EReal := m ((c : Thread nD τ).loc main_arg2)

/-- Which block each point takes: its rows, and the whole of the keys and of the values. -/
theorem index_at : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ win0_3.index t 0 = t.val ∧ win0_3.index t 1 = 0 :=
  (by decide +kernel : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ win0_3.index t 0 = t.val ∧ win0_3.index t 1 = 0)

/-- Row `r` of the block of rows that point `t` takes. -/
abbrev row (t : Fin cfg0.N) (r : Fin 512) : Fin 8192 := ⟨512 * t.val + r.val, by have := t.isLt; have h : cfg0.N = 16 := N_0; omega⟩

/-- The block of the queries. -/
theorem blk0 (t : Fin cfg0.N) (r : Fin 512) (k : Fin 1024) : (iblk m c 0 t : Vec Ideal S512x1024 .bf16) (ix2 r k) = argQ m c (ix2 (row t r) k) :=
  entry2 (argQ m c) _ (block (index_at t).1.1 512 r.val) (whole (index_at t).1.2 1024 k.val)

/-- The block of the keys is the whole of them. -/
theorem blk1 (t : Fin cfg0.N) (l : Fin 256) (k : Fin 1024) : (iblk m c 1 t : Vec Ideal S256x1024 .bf16) (ix2 l k) = argK m c (ix2 l k) :=
  entry2 (argK m c) _ (whole (index_at t).2.1.1 256 l.val) (whole (index_at t).2.1.2 1024 k.val)

/-- The block of the values is the whole of them. -/
theorem blk2 (t : Fin cfg0.N) (l : Fin 256) (k : Fin 1024) : (iblk m c 2 t : Vec Ideal S256x1024 .bf16) (ix2 l k) = argV m c (ix2 l k) :=
  entry2 (argV m c) _ (whole (index_at t).2.2.1.1 256 l.val) (whole (index_at t).2.2.1.2 1024 k.val)

/-- The block of the array that point `t` wrote. -/
theorem arr_blk (t : Fin cfg0.N) (r : Fin 512) (h : Fin 4) (d : Fin 256) :
    (dats m 0 c).arrAt 3 cfg0.N (ix2 (row t r) (col h d)) = read (argQ m c) (argK m c) (argV m c) h (row t r) d := by
  have e := congrFun (Value.blocks3 m c t (flush0_3 t)) (ix2 r (col h d))
  rw [View.read_apply, Value.flushed3] at e
  have hi : ((cfg0.win 3).blk t).view.emb (ix2 r (col h d)) = ix2 (row t r) (col h d) :=
    entry2 id _ (block (index_at t).2.2.2.1 512 r.val) (whole (index_at t).2.2.2.2 1024 (col h d).val)
  rw [hi] at e
  refine e.trans ((out_apply (iblk m c 0 t) (iblk m c 1 t) (iblk m c 2 t) h r d).trans ?_)
  have es : score (n := 512) (iblk m c 0 t : Vec Ideal S512x1024 .bf16) (iblk m c 1 t : Vec Ideal S256x1024 .bf16) h r
      = score (argQ m c) (argK m c) h (row t r) := by
    funext l
    refine congrArg (· * _) (Finset.sum_congr rfl fun k _ => ?_)
    rw [blk0, blk1]
  refine Finset.sum_congr rfl fun l _ => ?_
  rw [es, blk2]

/-- The reads after the run. -/
theorem arr (p : Fin 8192) (h : Fin 4) (d : Fin 256) :
    (dats m 0 c).arrAt 3 cfg0.N (ix2 p (col h d)) = read (argQ m c) (argK m c) (argV m c) h p d := by
  have hN : cfg0.N = 16 := N_0
  have e := arr_blk m c ⟨p.val / 512, by omega⟩ ⟨p.val % 512, Nat.mod_lt _ (by decide)⟩ h d
  have e1 : row ⟨p.val / 512, by omega⟩ ⟨p.val % 512, Nat.mod_lt _ (by decide)⟩ = p := Fin.ext (by dsimp only [row]; omega)
  rw [e1] at e
  exact e

end Cert.ReadsIdeal.RefValue

namespace Cert.ReadsEq

open Cert.Rows Cert.ReadsRefIdeal.Read Idealize.ShloMosaic Idealize.ShloMosaic.TcCoe Idealize.SL.Sem Idealize.ShloMosaic.ValueIdx
open Cert.ReadsIdeal.RefValue (read)
open scoped BigOperators

/-- The frame of the kernel. -/
theorem frame_p : quiescent_Reads := fun m ρ _ => Cert.Reads.Gen.frame m ρ

/-- The frame of the idealized kernel. -/
theorem frame_pi : quiescent_ReadsIdeal := fun m ρ _ => Cert.ReadsIdeal.Gen.frame m ρ

/-- The frame of the reference: its run ends with its arguments as they were, and it declares no semaphore. -/
theorem frame_ri : quiescent_ReadsRefIdeal := fun m ρ _ =>
  (θ_run Cert.ReadsRefIdeal.defs _ _).mono (fun r h => ⟨fun c => (h c).2, sem_eq_zero_of_no_sems (by decide) r.2⟩)
    (Cert.ReadsRefIdeal.Value.run (F := Ideal) m ρ)

section Ref
variable (x0 : (⟨Cert.ReadsRefIdeal.S8192x1024, .bf16⟩ : BufTy).Contents (Elt Ideal)) (x1 x2 : (⟨Cert.ReadsRefIdeal.S256x1024, .bf16⟩ : BufTy).Contents (Elt Ideal))

/-- The reference's softmax is the one of the backward call's reference. -/
theorem soft_eq : val_main_v19 (F := Ideal) x0 x1 = Cert.AttnRefIdeal.Read.val_main_v34 (F := Ideal) x0 x1 := rfl
/-- So are the values cut into heads. -/
theorem values_eq : val_main_v5 (F := Ideal) x2 = Cert.AttnRefIdeal.Read.val_main_v6 (F := Ideal) x2 := rfl

/-- The reference's result, element by element. -/
theorem ref_apply (p : Fin 8192) (h : Fin 4) (d : Fin 256) : val_main_v23 (F := Ideal) x0 x1 x2 (ix2 p (col h d)) = read x0 x1 x2 h p d := by
  rw [val_main_v23_apply]
  refine Eq.trans (b := val_main_v22 (F := Ideal) x0 x1 x2 (ix2 p (col h d))) rfl ?_
  rw [val_main_v22_apply, val_main_v21_apply]
  have hi : idx_main_v21 (idx_main_v22 (ix2 p (col h d))) = ix3 h d p := funext fun a => Fin.ext (by
    match a with
    | ⟨0, _⟩ => show (p.val * 1024 + (256 * h.val + d.val)) / 256 % 4 = h.val; omega
    | ⟨1, _⟩ => show (p.val * 1024 + (256 * h.val + d.val)) % 256 = d.val; omega
    | ⟨2, _⟩ => show (p.val * 1024 + (256 * h.val + d.val)) / 1024 = p.val; omega)
  rw [hi, val_main_v20_apply, soft_eq, values_eq]
  refine Finset.sum_congr rfl fun l _ => (mul_comm _ _).trans ?_
  refine congrArg₂ (· * ·) ((congrArg _ ?_).trans (Cert.AttnRefIdeal.RefValue.ref34 x0 x1 h p l))
      ((congrArg _ ?_).trans (Cert.AttnRefIdeal.RefValue.ref6 x2 l h d)) <;>
    exact funext fun a => match a with | ⟨0, _⟩ => rfl | ⟨1, _⟩ => rfl | ⟨2, _⟩ => rfl
end Ref

/-- The forward call of the attention computes the plain softmax attention. -/
theorem same : algebraic_ReadsIdeal_ReadsRefIdeal := by
  intro m g m' g' hm ha
  refine ⟨fun c => (Cert.ReadsIdeal.Gen.dats m 0 c).arrAt 3 Cert.ReadsIdeal.cfg0.N, Cert.ReadsIdeal.Value.run_blocks m g, ?_⟩
  refine (θ_run Cert.ReadsRefIdeal.defs _ _).mono (fun r h c => ?_) (Cert.ReadsRefIdeal.Value.run (F := Ideal) m' g')
  obtain ⟨h1, hrest⟩ := h c
  obtain ⟨a0, a1, a2⟩ := ha c
  refine ⟨h1.trans ?_, hrest⟩
  rw [val_main_v23_eq, a0, a1, a2]
  refine funext fun i => ?_
  obtain ⟨p, j, rfl⟩ : ∃ (p : Fin 8192) (j : Fin 1024), i = ix2 p j := ⟨i 0, i 1, eq_ix2 i⟩
  obtain ⟨h, d, rfl⟩ := col_surj j
  exact (ref_apply _ _ _ p h d).trans (Cert.ReadsIdeal.RefValue.arr m c p h d).symm

end Cert.ReadsEq

end
-- ==== Proof.KeysEq.lean ====
/-
  The projection of the memory to the keys: one point computes the whole product with the weights.
-/
module

public import proofs.«01_k».proof.Proof.Prod
public import proofs.«01_k».proof.Proof.Gen.KeysIdeal.Value
public import proofs.«01_k».proof.Proof.Gen.Keys.Frame
public import proofs.«01_k».proof.Proof.Gen.KeysRefIdeal.Run
public import proofs.«01_k».proof.Defs

@[expose] public section

set_option maxRecDepth 16384

noncomputable section

namespace Cert.KeysEq

open Idealize.ShloMosaic Idealize.ShloMosaic.TcCoe Idealize.SL.Sem Idealize.ShloMosaic.ValueIdx
open scoped BigOperators

/-- The frame of the kernel. -/
theorem frame_p : quiescent_Keys := fun m ρ _ => Cert.Keys.Gen.frame m ρ

/-- The frame of the idealized kernel. -/
theorem frame_pi : quiescent_KeysIdeal := fun m ρ _ => Cert.KeysIdeal.Gen.frame m ρ

/-- The frame of the reference: its run ends with its arguments as they were, and it declares no semaphore. -/
theorem frame_ri : quiescent_KeysRefIdeal := fun m ρ _ =>
  (θ_run Cert.KeysRefIdeal.defs _ _).mono (fun r h => ⟨fun c => (h c).2, sem_eq_zero_of_no_sems (by decide) r.2⟩)
    (Cert.KeysRefIdeal.Value.run (F := Ideal) m ρ)

/-- The one point's result, element by element. -/
theorem point (A : FVec Ideal Cert.KeysIdeal.S256x1024 .bf16) (B : FVec Ideal Cert.KeysIdeal.S1024x1024 .bf16) (i : Fin 256) (j : Fin 1024) :
    Cert.KeysIdeal.Gen.k0_pay1 (F := Ideal) A B (ix2 i j) = ∑ k : Fin 1024, A (ix2 i k) * B (ix2 k j) := by
  unfold Cert.KeysIdeal.Gen.k0_pay1
  rw [truncf_apply]
  exact Cert.Prod.unit_nn _ _ A B i j

/-- The reference's result, element by element. -/
theorem ref_apply (A : FVec Ideal Cert.KeysRefIdeal.S256x1024 .bf16) (B : FVec Ideal Cert.KeysRefIdeal.S1024x1024 .bf16) (hb) (i : Fin 256) (j : Fin 1024) :
    (truncf .bf16 (Host.dotGeneral Cert.KeysRefIdeal.dot_S256x1024_S1024x1024_S256x1024_1_0_0_1_n_n none (extf .f32 A hb) (extf .f32 B hb)) hb
      : FVec Ideal Cert.KeysRefIdeal.S256x1024 .bf16) (ix2 i j) = ∑ k : Fin 1024, A (ix2 i k) * B (ix2 k j) := by
  rw [truncf_apply]
  exact Cert.Prod.host_nn _ _ _ _ i j

/-- The call computes the product with the weights. -/
theorem same : algebraic_KeysIdeal_KeysRefIdeal := by
  intro m g m' g' hm ha
  refine ⟨_, Cert.KeysIdeal.Value.run m g, ?_⟩
  refine (θ_run Cert.KeysRefIdeal.defs _ _).mono (fun r h c => ?_) (Cert.KeysRefIdeal.Value.run (F := Ideal) m' g')
  obtain ⟨h1, hrest⟩ := h c
  obtain ⟨a0, a1⟩ := ha c
  refine ⟨h1.trans ?_, hrest⟩
  rw [a0, a1]
  refine funext fun i => ?_
  obtain ⟨p, j, rfl⟩ : ∃ (p : Fin 256) (j : Fin 1024), i = ix2 p j := ⟨i 0, i 1, eq_ix2 i⟩
  exact (ref_apply _ _ _ p j).trans (point _ _ p j).symm

end Cert.KeysEq

end
-- ==== Proof.KeyGradEq.lean ====
/-
  The gradient of the keys' weights: one point computes the whole product of the memory transposed with the keys' gradient.
-/
module

public import proofs.«01_k».proof.Proof.Prod
public import proofs.«01_k».proof.Proof.Gen.KeyGradIdeal.Value
public import proofs.«01_k».proof.Proof.Gen.KeyGrad.Frame
public import proofs.«01_k».proof.Proof.Gen.KeyGradRefIdeal.Run
public import proofs.«01_k».proof.Defs

@[expose] public section

set_option maxRecDepth 16384

noncomputable section

namespace Cert.KeyGradEq

open Idealize.ShloMosaic Idealize.ShloMosaic.TcCoe Idealize.SL.Sem Idealize.ShloMosaic.ValueIdx
open scoped BigOperators

/-- The frame of the kernel. -/
theorem frame_p : quiescent_KeyGrad := fun m ρ _ => Cert.KeyGrad.Gen.frame m ρ

/-- The frame of the idealized kernel. -/
theorem frame_pi : quiescent_KeyGradIdeal := fun m ρ _ => Cert.KeyGradIdeal.Gen.frame m ρ

/-- The frame of the reference: its run ends with its arguments as they were, and it declares no semaphore. -/
theorem frame_ri : quiescent_KeyGradRefIdeal := fun m ρ _ =>
  (θ_run Cert.KeyGradRefIdeal.defs _ _).mono (fun r h => ⟨fun c => (h c).2, sem_eq_zero_of_no_sems (by decide) r.2⟩)
    (Cert.KeyGradRefIdeal.Value.run (F := Ideal) m ρ)

/-- The one point's result, element by element. -/
theorem point (A : FVec Ideal Cert.KeyGradIdeal.S256x1024 .bf16) (B : FVec Ideal Cert.KeyGradIdeal.S256x1024 .bf16) (i : Fin 1024) (j : Fin 1024) :
    Cert.KeyGradIdeal.Gen.k0_pay1 (F := Ideal) A B (ix2 i j) = ∑ k : Fin 256, A (ix2 k i) * B (ix2 k j) := by
  unfold Cert.KeyGradIdeal.Gen.k0_pay1
  rw [truncf_apply]
  exact Cert.Prod.unit_tn _ _ A B i j

/-- The reference's result, element by element: there the factors stand the other way round. -/
theorem ref_apply (A D : FVec Ideal Cert.KeyGradRefIdeal.S256x1024 .bf16) (hb ht) (i : Fin 1024) (j : Fin 1024) :
    (truncf .bf16 (transpose Cert.KeyGradRefIdeal.S1024x1024 [1, 0]
      (Host.dotGeneral Cert.KeyGradRefIdeal.dot_S256x1024_S256x1024_S1024x1024_0_0_1_1_n_n none (extf .f32 D hb) (extf .f32 A hb)) ht) hb : FVec Ideal Cert.KeyGradRefIdeal.S1024x1024 .bf16) (ix2 i j)
      = ∑ k : Fin 256, A (ix2 k i) * D (ix2 k j) := by
  rw [truncf_apply]
  refine (Cert.Prod.swap_apply _ ht j i).trans ((Cert.Prod.host_tn _ _ _ _ j i).trans ?_)
  exact Finset.sum_congr rfl fun k _ => mul_comm _ _

/-- The call computes the gradient of the weights. -/
theorem same : algebraic_KeyGradIdeal_KeyGradRefIdeal := by
  intro m g m' g' hm ha
  refine ⟨_, Cert.KeyGradIdeal.Value.run m g, ?_⟩
  refine (θ_run Cert.KeyGradRefIdeal.defs _ _).mono (fun r h c => ?_) (Cert.KeyGradRefIdeal.Value.run (F := Ideal) m' g')
  obtain ⟨h1, hrest⟩ := h c
  obtain ⟨a0, a1⟩ := ha c
  refine ⟨h1.trans ?_, hrest⟩
  rw [a0, a1]
  refine funext fun i => ?_
  obtain ⟨p, j, rfl⟩ : ∃ (p : Fin 1024) (j : Fin 1024), i = ix2 p j := ⟨i 0, i 1, eq_ix2 i⟩
  exact (ref_apply _ _ _ _ p j).trans (point _ _ p j).symm

end Cert.KeyGradEq

end
-- ==== Proof.MemInEq.lean ====
/-
  The keys' gradient taken back to the memory: one point computes the whole product with the weights transposed.
-/
module

public import proofs.«01_k».proof.Proof.Prod
public import proofs.«01_k».proof.Proof.Gen.MemInIdeal.Value
public import proofs.«01_k».proof.Proof.Gen.MemIn.Frame
public import proofs.«01_k».proof.Proof.Gen.MemInRefIdeal.Run
public import proofs.«01_k».proof.Defs

@[expose] public section

set_option maxRecDepth 16384

noncomputable section

namespace Cert.MemInEq

open Idealize.ShloMosaic Idealize.ShloMosaic.TcCoe Idealize.SL.Sem Idealize.ShloMosaic.ValueIdx
open scoped BigOperators

/-- The frame of the kernel. -/
theorem frame_p : quiescent_MemIn := fun m ρ _ => Cert.MemIn.Gen.frame m ρ

/-- The frame of the idealized kernel. -/
theorem frame_pi : quiescent_MemInIdeal := fun m ρ _ => Cert.MemInIdeal.Gen.frame m ρ

/-- The frame of the reference: its run ends with its arguments as they were, and it declares no semaphore. -/
theorem frame_ri : quiescent_MemInRefIdeal := fun m ρ _ =>
  (θ_run Cert.MemInRefIdeal.defs _ _).mono (fun r h => ⟨fun c => (h c).2, sem_eq_zero_of_no_sems (by decide) r.2⟩)
    (Cert.MemInRefIdeal.Value.run (F := Ideal) m ρ)

/-- The one point's result, element by element. -/
theorem point (A : FVec Ideal Cert.MemInIdeal.S256x1024 .bf16) (B : FVec Ideal Cert.MemInIdeal.S1024x1024 .bf16) (i : Fin 256) (j : Fin 1024) :
    Cert.MemInIdeal.Gen.k0_pay1 (F := Ideal) A B (ix2 i j) = ∑ k : Fin 1024, A (ix2 i k) * B (ix2 j k) := by
  unfold Cert.MemInIdeal.Gen.k0_pay1
  exact Cert.Prod.unit_nt _ _ A B i j

/-- The call computes the product with the weights transposed. -/
theorem same : algebraic_MemInIdeal_MemInRefIdeal := by
  intro m g m' g' hm ha
  refine ⟨_, Cert.MemInIdeal.Value.run m g, ?_⟩
  refine (θ_run Cert.MemInRefIdeal.defs _ _).mono (fun r h c => ?_) (Cert.MemInRefIdeal.Value.run (F := Ideal) m' g')
  obtain ⟨h1, hrest⟩ := h c
  obtain ⟨a0, a1⟩ := ha c
  refine ⟨h1.trans ?_, hrest⟩
  rw [a0, a1]
  refine funext fun i => ?_
  obtain ⟨p, j, rfl⟩ : ∃ (p : Fin 256) (j : Fin 1024), i = ix2 p j := ⟨i 0, i 1, eq_ix2 i⟩
  exact (Cert.Prod.host_nt _ _ _ _ p j).trans (point _ _ p j).symm

end Cert.MemInEq

end
-- ==== Proof.PreNormEq.lean ====
/-
  The norm before the first layer: each point normalises a block of 256 rows and multiplies it with the first layer's gain,
  so the whole is the norm of the rows.
-/
module

public import proofs.«01_k».proof.Proof.At
public import proofs.«01_k».proof.Proof.FfnPay
public import proofs.«01_k».proof.Proof.FfnRef
public import proofs.«01_k».proof.Proof.Gen.PreNormIdeal.Value
public import proofs.«01_k».proof.Proof.Gen.PreNorm.Frame
public import proofs.«01_k».proof.Proof.Gen.PreNormRefIdeal.Read
public import proofs.«01_k».proof.Proof.Gen.PreNormRefIdeal.Run
public import proofs.«01_k».proof.Defs

@[expose] public section

set_option maxRecDepth 16384

noncomputable section

namespace Cert.PreNormIdeal.RefValue

open Cert.PreNormIdeal Cert.PreNormIdeal.Gen Cert.Rows Idealize.ShloMosaic Idealize.ShloMosaic.TcCoe Idealize.SL.Sem Idealize.ShloMosaic.ValueIdx
open Cert.At (entry2 same2 entry3 whole block)
open Cert.FfnInIdeal.RefValue (rowOf)

/-- A normalised block of rows with its gain, element by element. -/
theorem point (x : Vec Ideal S256x1024 .f32) (g : Vec Ideal S1x1x1024 .f32) (r : Fin 256) (j : Fin 1024) :
    k0_pay1 (F := Ideal) x g (ix2 r j) = x (ix2 r j) * rt (rowOf x r) * g (ix3 (0 : Fin 1) (0 : Fin 1) j) := by
  show Cert.FfnInIdeal.Gen.k0_pay2 (F := Ideal) x (ix2 r j)
    * broadcastTo S256x1024 (Cert.FfnInIdeal.Gen.k0_pay7 (F := Ideal) g) broadcasts_S1x1024_S256x1024 (ix2 r j) = _
  rw [Cert.FfnInIdeal.RefValue.pay2_apply]
  exact congrArg _ ((Cert.FfnInIdeal.RefValue.over_rows _ r j).trans (Cert.FfnInIdeal.RefValue.pay7_apply g j))

/-- All offsets are zero. -/
theorem hz : (![0, 0] : Fin 2 → Nat) = fun _ => 0 := funext fun a => by fin_cases a <;> rfl
/-- All offsets are zero. -/
theorem hz3 : (![0, 0, 0] : Fin 3 → Nat) = fun _ => 0 := funext fun a => by fin_cases a <;> rfl

/-- A point's block of the result. -/
theorem out_apply (x : Vec Ideal S256x1024 .f32) (g : Vec Ideal S1x1x1024 .f32) (r : Fin 256) (j : Fin 1024) :
    out0_2 x g (ix2 r j) = x (ix2 r j) * rt (rowOf x r) * g (ix3 (0 : Fin 1) (0 : Fin 1) j) := by
  unfold out0_2
  have e0 : View.ld x r0_0 = x := View.ld_unit_zero (S := S256x1024) hz _ x
  have e1 : View.ld g r0_1 = g := View.ld_unit_zero (S := S1x1x1024) hz3 _ g
  rw [View.canon_unit_zero hz, e0, e1]
  exact point x g r j

variable (m : (ℓ : Loc nD τ sig) → Buf (Elt Ideal) ℓ) (ρ : Dev nD → PrngReg) (c : Dev nD)

/-- The rows. -/
abbrev argX : S8192x1024.Idx → EReal := m ((c : Thread nD τ).loc main_arg0)
/-- The layers' gains. -/
abbrev argG : S4x1x1024.Idx → EReal := m ((c : Thread nD τ).loc main_arg1)

/-- The norm of the rows, with the first layer's gain. -/
abbrev nrm (X : S8192x1024.Idx → EReal) (G : S4x1x1024.Idx → EReal) (i : Fin 8192) (j : Fin 1024) : EReal :=
  X (ix2 i j) * rt (rowOf X i) * G (ix3 (0 : Fin 4) (0 : Fin 1) j)

/-- Which block each point takes: its rows, and the first layer's gain. -/
theorem index_at : ∀ t : Fin cfg0.N, (win0_0.index t 0 = t.val ∧ win0_0.index t 1 = 0)
    ∧ (win0_1.index t 0 = 0 ∧ win0_1.index t 1 = 0 ∧ win0_1.index t 2 = 0) ∧ win0_2.index t 0 = t.val ∧ win0_2.index t 1 = 0 :=
  (by decide +kernel : ∀ t : Fin grid0.N, (win0_0.index t 0 = t.val ∧ win0_0.index t 1 = 0)
    ∧ (win0_1.index t 0 = 0 ∧ win0_1.index t 1 = 0 ∧ win0_1.index t 2 = 0) ∧ win0_2.index t 0 = t.val ∧ win0_2.index t 1 = 0)

/-- Row `r` of the block of rows that point `t` takes. -/
abbrev tok (t : Fin cfg0.N) (r : Fin 256) : Fin 8192 := ⟨256 * t.val + r.val, by have := t.isLt; have h : cfg0.N = 32 := N_0; omega⟩

/-- The block of the rows. -/
theorem blk0 (t : Fin cfg0.N) (r : Fin 256) (k : Fin 1024) : (iblk m c 0 t : Vec Ideal S256x1024 .f32) (ix2 r k) = argX m c (ix2 (tok t r) k) :=
  entry2 (argX m c) _ (block (index_at t).1.1 256 r.val) (whole (index_at t).1.2 1024 k.val)

/-- The first layer's gain. -/
theorem blk1 (t : Fin cfg0.N) (k : Fin 1024) :
    (iblk m c 1 t : Vec Ideal S1x1x1024 .f32) (ix3 (0 : Fin 1) (0 : Fin 1) k) = argG m c (ix3 (0 : Fin 4) (0 : Fin 1) k) :=
  entry3 (argG m c) _ (whole (index_at t).2.1.1 1 0) (whole (index_at t).2.1.2.1 1 0) (whole (index_at t).2.1.2.2 1024 k.val)

/-- The block of the array that point `t` wrote. -/
theorem arr_blk (t : Fin cfg0.N) (r : Fin 256) (p : Fin 1024) : (dats m 0 c).arrAt 2 cfg0.N (ix2 (tok t r) p) = nrm (argX m c) (argG m c) (tok t r) p := by
  have e := congrFun (Value.blocks2 m c t (flush0_2 t)) (ix2 r p)
  rw [View.read_apply, Value.flushed2] at e
  have hi : ((cfg0.win 2).blk t).view.emb (ix2 r p) = ix2 (tok t r) p :=
    entry2 id _ (block (index_at t).2.2.1 256 r.val) (whole (index_at t).2.2.2 1024 p.val)
  rw [hi] at e
  refine e.trans ((out_apply (iblk m c 0 t) (iblk m c 1 t) r p).trans ?_)
  have hr : rowOf (iblk m c 0 t : Vec Ideal S256x1024 .f32) r = rowOf (argX m c) (tok t r) := funext fun k => blk0 m c t r k
  rw [hr, blk0, blk1]

/-- The normalised rows after the run. -/
theorem arr (i : Fin 8192) (j : Fin 1024) : (dats m 0 c).arrAt 2 cfg0.N (ix2 i j) = nrm (argX m c) (argG m c) i j := by
  have hN : cfg0.N = 32 := N_0
  have e := arr_blk m c ⟨i.val / 256, by omega⟩ ⟨i.val % 256, Nat.mod_lt _ (by decide)⟩ j
  have e1 : tok ⟨i.val / 256, by omega⟩ ⟨i.val % 256, Nat.mod_lt _ (by decide)⟩ = i := Fin.ext (by dsimp only [tok]; omega)
  rw [e1] at e
  exact e

end Cert.PreNormIdeal.RefValue

namespace Cert.PreNormEq

open Idealize.ShloMosaic Idealize.ShloMosaic.TcCoe Idealize.SL.Sem Idealize.ShloMosaic.ValueIdx

/-- The frame of the kernel. -/
theorem frame_p : quiescent_PreNorm := fun m ρ _ => Cert.PreNorm.Gen.frame m ρ

/-- The frame of the idealized kernel. -/
theorem frame_pi : quiescent_PreNormIdeal := fun m ρ _ => Cert.PreNormIdeal.Gen.frame m ρ

/-- The frame of the reference: its run ends with its arguments as they were, and it declares no semaphore. -/
theorem frame_ri : quiescent_PreNormRefIdeal := fun m ρ _ =>
  (θ_run Cert.PreNormRefIdeal.defs _ _).mono (fun r h => ⟨fun c => (h c).2, sem_eq_zero_of_no_sems (by decide) r.2⟩)
    (Cert.PreNormRefIdeal.Value.run (F := Ideal) m ρ)

open Cert.PreNormRefIdeal Cert.PreNormRefIdeal.Read in
/-- The reference's result, element by element. -/
theorem ref_apply (x : (⟨S8192x1024, .f32⟩ : BufTy).Contents (Elt Ideal)) (g : (⟨S4x1x1024, .f32⟩ : BufTy).Contents (Elt Ideal)) (i : Fin 8192) (j : Fin 1024) :
    val_main_v14 (F := Ideal) x g (ix2 i j) = Cert.PreNormIdeal.RefValue.nrm x g i j := by
  have h10 : val_main_v10 (F := Ideal) x (ix2 i j) = _ := Cert.FfnInRefIdeal.RefValue.ref13 x i j
  have h12 : val_main_v12 (F := Ideal) g (ix2 i j) = _ := Cert.FfnInRefIdeal.RefValue.ref25 g i j
  rw [val_main_v14_apply, val_main_v13_apply, val_main_v11_apply, h10, h12]
  rfl

/-- The call computes the norm of the rows. -/
theorem same : algebraic_PreNormIdeal_PreNormRefIdeal := by
  intro m g m' g' hm ha
  refine ⟨fun c => (Cert.PreNormIdeal.Gen.dats m 0 c).arrAt 2 Cert.PreNormIdeal.cfg0.N, Cert.PreNormIdeal.Value.run_blocks m g, ?_⟩
  refine (θ_run Cert.PreNormRefIdeal.defs _ _).mono (fun r h c => ?_) (Cert.PreNormRefIdeal.Value.run (F := Ideal) m' g')
  obtain ⟨h1, hrest⟩ := h c
  obtain ⟨a0, a1⟩ := ha c
  refine ⟨h1.trans ?_, hrest⟩
  rw [a0, a1]
  refine funext fun i => ?_
  obtain ⟨p, j, rfl⟩ : ∃ (p : Fin 8192) (j : Fin 1024), i = ix2 p j := ⟨i 0, i 1, eq_ix2 i⟩
  rw [Cert.PreNormRefIdeal.Read.val_main_v14_eq]
  exact (ref_apply _ _ p j).trans (Cert.PreNormIdeal.RefValue.arr m c p j).symm

end Cert.PreNormEq

end
-- ==== Proof.MemNormEq.lean ====
/-
  The norm of the memory: one point normalises its 256 rows and multiplies them with the gain. What the reference's norm of
  256 rows is, element by element, is also used for its gradients.
-/
module

public import proofs.«01_k».proof.Proof.PreNormEq
public import proofs.«01_k».proof.Proof.Gen.MemNormIdeal.Value
public import proofs.«01_k».proof.Proof.Gen.MemNorm.Frame
public import proofs.«01_k».proof.Proof.Gen.MemNormRefIdeal.Read
public import proofs.«01_k».proof.Proof.Gen.MemNormRefIdeal.Run

@[expose] public section

set_option maxRecDepth 16384

noncomputable section

namespace Cert.MemNormRefIdeal.RefValue

open Cert.MemNormRefIdeal Cert.MemNormRefIdeal.Read Cert.Rows Idealize.ShloMosaic Idealize.ShloMosaic.TcCoe Idealize.SL.Sem Idealize.ShloMosaic.ValueIdx
open Cert.FfnInIdeal.RefValue (rowOf)

variable (x : (⟨S256x1024, .f32⟩ : BufTy).Contents (Elt Ideal)) (g : (⟨S1x1x1024, .f32⟩ : BufTy).Contents (Elt Ideal))

/-- The mean square of a row, with the small number added. -/
theorem ref7 (p : Fin 256) (z : Fin 1) : val_main_v7 (F := Ideal) x (ix2 p z) = msq (rowOf x p) := by
  rw [val_main_v7_apply, val_main_v5_apply, val_main_v3_apply, val_main_v2_apply, val_main_cst_apply, val_main_v4_apply, val_main_v6_apply]
  refine congrArg (fun s => Ideal.div s width + eps) ((congrArg₂ (· + ·) Ideal.ofBits_zero_f32 (Finset.sum_congr rfl fun l _ => ?_)).trans (zero_add _))
  rw [val_main_v1_apply]
  have hi : idx_main_v2 (idx_main_v3 (ix2 p z)) l = ix2 p l := funext fun a => match a with | ⟨0, _⟩ => rfl | ⟨1, _⟩ => rfl
  rw [hi]
  rfl

/-- The factor of a row. -/
theorem ref8 (p : Fin 256) (z : Fin 1) : val_main_v8 (F := Ideal) x (ix2 p z) = rt (rowOf x p) := by
  rw [val_main_v8_apply, ref7]
  rfl

/-- The factor, spread over the columns. -/
theorem ref9 (p : Fin 256) (j : Fin 1024) : val_main_v9 (F := Ideal) x (ix2 p j) = rt (rowOf x p) := by
  rw [val_main_v9_apply]
  refine (congrArg _ ?_).trans (ref8 x p 0)
  exact funext fun a => match a with | ⟨0, _⟩ => rfl | ⟨1, _⟩ => rfl

/-- The gain, spread over the rows. -/
theorem ref11 (p : Fin 256) (j : Fin 1024) : val_main_v11 (F := Ideal) g (ix2 p j) = g (ix3 (0 : Fin 1) (0 : Fin 1) j) := by
  rw [val_main_v11_apply, val_main_v0_apply]
  refine congrArg g (funext fun a => Fin.ext ?_)
  match a with
  | ⟨0, _⟩ => rfl
  | ⟨1, _⟩ => rfl
  | ⟨2, _⟩ => show (0 * 1024 + j.val) % 1024 = j.val; omega

/-- The norm of the rows. -/
theorem ref13 (p : Fin 256) (j : Fin 1024) :
    val_main_v13 (F := Ideal) x g (ix2 p j) = x (ix2 p j) * rt (rowOf x p) * g (ix3 (0 : Fin 1) (0 : Fin 1) j) := by
  rw [val_main_v13_apply, val_main_v12_apply, val_main_v10_apply, ref9, ref11]
  rfl

end Cert.MemNormRefIdeal.RefValue

namespace Cert.MemNormEq

open Idealize.ShloMosaic Idealize.ShloMosaic.TcCoe Idealize.SL.Sem Idealize.ShloMosaic.ValueIdx

/-- The frame of the kernel. -/
theorem frame_p : quiescent_MemNorm := fun m ρ _ => Cert.MemNorm.Gen.frame m ρ

/-- The frame of the idealized kernel. -/
theorem frame_pi : quiescent_MemNormIdeal := fun m ρ _ => Cert.MemNormIdeal.Gen.frame m ρ

/-- The frame of the reference: its run ends with its arguments as they were, and it declares no semaphore. -/
theorem frame_ri : quiescent_MemNormRefIdeal := fun m ρ _ =>
  (θ_run Cert.MemNormRefIdeal.defs _ _).mono (fun r h => ⟨fun c => (h c).2, sem_eq_zero_of_no_sems (by decide) r.2⟩)
    (Cert.MemNormRefIdeal.Value.run (F := Ideal) m ρ)

/-- The call computes the norm of the memory. -/
theorem same : algebraic_MemNormIdeal_MemNormRefIdeal := by
  intro m g m' g' hm ha
  refine ⟨_, Cert.MemNormIdeal.Value.run m g, ?_⟩
  refine (θ_run Cert.MemNormRefIdeal.defs _ _).mono (fun r h c => ?_) (Cert.MemNormRefIdeal.Value.run (F := Ideal) m' g')
  obtain ⟨h1, hrest⟩ := h c
  obtain ⟨a0, a1⟩ := ha c
  refine ⟨h1.trans ?_, hrest⟩
  rw [a0, a1]
  refine funext fun i => ?_
  obtain ⟨p, j, rfl⟩ : ∃ (p : Fin 256) (j : Fin 1024), i = ix2 p j := ⟨i 0, i 1, eq_ix2 i⟩
  rw [Cert.MemNormRefIdeal.Read.val_main_v13_eq]
  exact (Cert.MemNormRefIdeal.RefValue.ref13 _ _ p j).trans (Cert.PreNormIdeal.RefValue.point _ _ p j).symm

end Cert.MemNormEq

end
-- ==== Proof.MemGainEq.lean ====
/-
  The gradients of the memory's norm: one point computes the gradient of the 256 rows, added to zeros, and the gradient of
  the gain.
-/
module

public import proofs.«01_k».proof.Proof.At
public import proofs.«01_k».proof.Proof.MemNormEq
public import proofs.«01_k».proof.Proof.Prod
public import proofs.«01_k».proof.Proof.Gen.MemGainIdeal.Value
public import proofs.«01_k».proof.Proof.Gen.MemGain.Frame
public import proofs.«01_k».proof.Proof.Gen.MemGainRefIdeal.Read
public import proofs.«01_k».proof.Proof.Gen.MemGainRefIdeal.Run

@[expose] public section

set_option maxRecDepth 16384

noncomputable section

namespace Cert.MemGainIdeal.RefValue

open Cert.MemGainIdeal Cert.MemGainIdeal.Gen Cert.Rows Idealize.ShloMosaic Idealize.ShloMosaic.TcCoe Idealize.SL.Sem Idealize.ShloMosaic.ValueIdx
open Cert.FfnInIdeal.RefValue (rowOf)
open Cert.At (entry2 same2 same3 whole block)
open Cert.PreNormIdeal.RefValue (hz hz3)
open scoped BigOperators

/-- The gradient of the normed rows, element by element. -/
abbrev drows (d x : S256x1024.Idx → EReal) (g : S1x1x1024.Idx → EReal) (r : Fin 256) (j : Fin 1024) : EReal :=
  back (rowOf x r) (fun k => d (ix2 r k) * g (ix3 (0 : Fin 1) (0 : Fin 1) k)) j
/-- The gradient of the gain, element by element. -/
abbrev dgain (d x : S256x1024.Idx → EReal) (j : Fin 1024) : EReal := ∑ r : Fin 256, d (ix2 r j) * (x (ix2 r j) * rt (rowOf x r))

section Point
variable (c : Dev nD) (i : grid0.Coords) {a1 : Memref sig .tc .vmem S256x1024 .f32} {h1 : a1.IsWhole} {a2 : Memref sig .tc .vmem S256x1024 .f32} {h2 : a2.IsWhole}
  {a3 : Memref sig .tc .vmem S256x1024 .f32} {h3 : a3.IsWhole} {a4 : Memref sig .tc .vmem S1x1x1024 .f32} {h4 : a4.IsWhole}
  {a5 : Memref sig .tc .vmem S256x1024 .f32} {h5 : a5.IsWhole} {a6 : Memref sig .tc .vmem S1x1024 .f32} {h6 : a6.IsWhole} {hc : cond0_0 i}
  (z d x : Vec Ideal S256x1024 .f32) (g : Vec Ideal S1x1x1024 .f32)

/-- The rows' gradient is added to what came before. -/
theorem out4 (r : Fin 256) (j : Fin 1024) :
    out0_A_4 c i a1 h1 a2 h2 a3 h3 a4 h4 a5 h5 a6 h6 hc z d x g (ix2 r j) = z (ix2 r j) + drows d x g r j := by
  unfold out0_A_4
  rw [View.read_writes_eq_canon _ _ _ (cover0_A_4 c i a1 h1 a2 h2 a3 h3 a4 h4 a5 h5 a6 h6 hc z d x g)]
  unfold kernelRun0_A
  dsimp only
  sl_unfold_words
  simp only [View.readAt_eq_ld, h1.read_unread, h2.read_unread, h3.read_unread, h4.read_unread, View.ld_unit_zero (S := S256x1024) hz, View.ld_unit_zero (S := S1x1x1024) hz3]
  rw [View.canon_unit_zero (S := S256x1024) hz]
  show shapeCast S256x1024 z shapeCasts_S256x1024_S256x1024 (ix2 r j) + Cert.FfnInIdeal.Gen.k0_pay3 (F := Ideal) d x g (ix2 r j) = _
  rw [shapeCast_self, Cert.FfnInIdeal.RefValue.pay3_apply]

/-- The gain's gradient. -/
theorem out5 (j : Fin 1024) : out0_A_5 c i a1 h1 a2 h2 a3 h3 a4 h4 a5 h5 a6 h6 hc z d x g (ix2 (0 : Fin 1) j) = dgain d x j := by
  unfold out0_A_5
  rw [View.read_writes_eq_canon _ _ _ (cover0_A_5 c i a1 h1 a2 h2 a3 h3 a4 h4 a5 h5 a6 h6 hc z d x g)]
  unfold kernelRun0_A
  dsimp only
  sl_unfold_words
  simp only [View.readAt_eq_ld, h1.read_unread, h2.read_unread, h3.read_unread, h4.read_unread, View.ld_unit_zero (S := S256x1024) hz, View.ld_unit_zero (S := S1x1x1024) hz3]
  rw [View.canon_cons_unit_zero (S := S1x1024) hz]
  refine (Cert.FfnInIdeal.RefValue.pay4_apply d x _ j).trans ?_
  rw [Cert.Prod.readCov_last]
  exact (congrArg (· + dgain d x j) Ideal.ofBits_zero_f32).trans (zero_add _)

end Point

variable (m : (ℓ : Loc nD τ sig) → Buf (Elt Ideal) ℓ) (ρ : Dev nD → PrngReg) (c : Dev nD)

/-- The gradient of the normed rows. -/
abbrev argD : S256x1024.Idx → EReal := m ((c : Thread nD τ).loc main_arg0)
/-- The rows. -/
abbrev argX : S256x1024.Idx → EReal := m ((c : Thread nD τ).loc main_arg1)
/-- The gain. -/
abbrev argG : S1x1x1024.Idx → EReal := m ((c : Thread nD τ).loc main_arg2)

/-- Every window is at its only block. -/
theorem index_at : ∀ t : Fin cfg0.N, (win0_0.index t 0 = 0 ∧ win0_0.index t 1 = 0) ∧ (win0_1.index t 0 = 0 ∧ win0_1.index t 1 = 0) ∧ (win0_2.index t 0 = 0 ∧ win0_2.index t 1 = 0)
    ∧ (win0_3.index t 0 = 0 ∧ win0_3.index t 1 = 0 ∧ win0_3.index t 2 = 0) ∧ (win0_4.index t 0 = 0 ∧ win0_4.index t 1 = 0) ∧ win0_5.index t 0 = 0 ∧ win0_5.index t 1 = 0 :=
  (by decide +kernel : ∀ t : Fin grid0.N, (win0_0.index t 0 = 0 ∧ win0_0.index t 1 = 0) ∧ (win0_1.index t 0 = 0 ∧ win0_1.index t 1 = 0) ∧ (win0_2.index t 0 = 0 ∧ win0_2.index t 1 = 0)
    ∧ (win0_3.index t 0 = 0 ∧ win0_3.index t 1 = 0 ∧ win0_3.index t 2 = 0) ∧ (win0_4.index t 0 = 0 ∧ win0_4.index t 1 = 0) ∧ win0_5.index t 0 = 0 ∧ win0_5.index t 1 = 0)

/-- What came before is zero. -/
theorem blk0 (t : Fin cfg0.N) (y : S256x1024.Idx) : (iblk m c 0 t : Vec Ideal S256x1024 .f32) y = (0 : EReal) := by
  have hV : V m c main_v0 = broadcastInDim S256x1024 ![] bcast_S_S256x1024 (constant (F := Ideal) S_ .f32 0x00000000#32) := by
    show StableHlo.after hostOps0 _ (Proc.devRef .tc main_v0) = _
    after_results_simp <;> rfl
  unfold iblk
  rw [View.read_apply]
  exact (congrFun hV _).trans Ideal.ofBits_zero_f32

/-- The whole of the gradient. -/
theorem blk1 (t : Fin cfg0.N) : (iblk m c 1 t : Vec Ideal S256x1024 .f32) = argD m c :=
  funext fun y => (congrFun (V_main_arg0 m c) _).trans (same2 (argD m c) _ y (whole (index_at t).2.1.1 256 (y 0).val) (whole (index_at t).2.1.2 1024 (y 1).val))

/-- The whole of the rows. -/
theorem blk2 (t : Fin cfg0.N) : (iblk m c 2 t : Vec Ideal S256x1024 .f32) = argX m c :=
  funext fun y => (congrFun (V_main_arg1 m c) _).trans (same2 (argX m c) _ y (whole (index_at t).2.2.1.1 256 (y 0).val) (whole (index_at t).2.2.1.2 1024 (y 1).val))

/-- The whole of the gain. -/
theorem blk3 (t : Fin cfg0.N) : (iblk m c 3 t : Vec Ideal S1x1x1024 .f32) = argG m c :=
  funext fun y => (congrFun (V_main_arg2 m c) _).trans (same3 (argG m c) _ y (whole (index_at t).2.2.2.1.1 1 (y 0).val) (whole (index_at t).2.2.2.1.2.1 1 (y 1).val) (whole (index_at t).2.2.2.1.2.2 1024 (y 2).val))

/-- The rows' gradient after the run. -/
theorem arr4 (r : Fin 256) (j : Fin 1024) : (dats m 0 c).arrAt 4 cfg0.N (ix2 r j) = drows (argD m c) (argX m c) (argG m c) r j := by
  let t : Fin cfg0.N := t0_0
  have e := congrFun (Value.blocks4 m c t (flush0_4 t)) (ix2 r j)
  rw [View.read_apply, Value.flushed4_A] at e
  have hi : ((cfg0.win 4).blk t).view.emb (ix2 r j) = (ix2 r j : S256x1024.Idx) :=
    entry2 id _ (whole (index_at t).2.2.2.2.1.1 256 r.val) (whole (index_at t).2.2.2.2.1.2 1024 j.val)
  rw [hi] at e
  refine e.trans ((out4 c _ (iblk m c 0 t) (iblk m c 1 t) (iblk m c 2 t) (iblk m c 3 t) r j).trans ?_)
  rw [blk0, blk1, blk2, blk3, zero_add]

/-- The gain's gradient after the run. -/
theorem arr5 (j : Fin 1024) : (dats m 0 c).arrAt 5 cfg0.N (ix2 (0 : Fin 1) j) = dgain (argD m c) (argX m c) j := by
  let t : Fin cfg0.N := t0_0
  have e := congrFun (Value.blocks5 m c t (flush0_5 t)) (ix2 (0 : Fin 1) j)
  rw [View.read_apply, Value.flushed5_A] at e
  have hi : ((cfg0.win 5).blk t).view.emb (ix2 (0 : Fin 1) j) = (ix2 (0 : Fin 1) j : S1x1024.Idx) :=
    entry2 id _ (whole (index_at t).2.2.2.2.2.1 1 0) (whole (index_at t).2.2.2.2.2.2 1024 j.val)
  rw [hi] at e
  refine e.trans ((out5 c _ (iblk m c 0 t) (iblk m c 1 t) (iblk m c 2 t) (iblk m c 3 t) j).trans ?_)
  rw [blk1, blk2]

end Cert.MemGainIdeal.RefValue

namespace Cert.MemGainRefIdeal.RefValue

open Cert.MemGainRefIdeal Cert.MemGainRefIdeal.Read Cert.Rows Idealize.ShloMosaic Idealize.ShloMosaic.TcCoe Idealize.SL.Sem Idealize.ShloMosaic.ValueIdx
open Cert.FfnInIdeal.RefValue (rowOf)
open Cert.MemGainIdeal.RefValue (drows dgain)
open scoped BigOperators

variable (d x : (⟨S256x1024, .f32⟩ : BufTy).Contents (Elt Ideal)) (g : (⟨S1x1x1024, .f32⟩ : BufTy).Contents (Elt Ideal))

/-- The mean square of a row, with the small number added. -/
theorem ref7 (p : Fin 256) (z : Fin 1) : val_main_v7 (F := Ideal) x (ix2 p z) = msq (rowOf x p) := Cert.MemNormRefIdeal.RefValue.ref7 x p z
/-- The factor of a row. -/
theorem ref8 (p : Fin 256) (z : Fin 1) : val_main_v8 (F := Ideal) x (ix2 p z) = rt (rowOf x p) := Cert.MemNormRefIdeal.RefValue.ref8 x p z
/-- The factor over the mean square, times minus one half. -/
theorem ref11 (p : Fin 256) (z : Fin 1) : val_main_v11 (F := Ideal) x (ix2 p z) = mhalf * Ideal.div (rt (rowOf x p)) (msq (rowOf x p)) := by
  rw [val_main_v11_apply, val_main_v9_apply, ref8, ref7]
  rfl

/-- The gain's gradient. -/
theorem ref18 (j : Fin 1024) : val_main_v18 (F := Ideal) d x (ix2 (0 : Fin 1) j) = dgain d x j := by
  rw [val_main_v18_apply, val_main_v17_apply, val_main_cst_3_apply]
  refine (congrArg₂ (· + ·) Ideal.ofBits_zero_f32 (Finset.sum_congr rfl fun p _ => ?_)).trans (zero_add _)
  have hi : idx_main_v17 (idx_main_v18 (ix2 (0 : Fin 1) j)) p = ix2 p j := funext fun a => Fin.ext (match a with
    | ⟨0, _⟩ => rfl
    | ⟨1, _⟩ => by show 0 * 1024 + j.val = j.val; omega)
  have h12 : val_main_v12 (F := Ideal) x (ix2 p j) = rt (rowOf x p) := Cert.MemNormRefIdeal.RefValue.ref9 x p j
  rw [hi, val_main_v16_apply, val_main_v13_apply, h12]
  exact mul_comm _ _

/-- The gradient with the gain. -/
theorem ref20 (p : Fin 256) (j : Fin 1024) : val_main_v20 (F := Ideal) d g (ix2 p j) = d (ix2 p j) * g (ix3 (0 : Fin 1) (0 : Fin 1) j) := by
  have h19 : val_main_v19 (F := Ideal) g (ix2 p j) = _ := Cert.MemNormRefIdeal.RefValue.ref11 g p j
  rw [val_main_v20_apply, h19]
  rfl

/-- The share of the norm's factor in the gradient, spread over the columns. -/
theorem ref30 (p : Fin 256) (j : Fin 1024) : val_main_v30 (F := Ideal) d x g (ix2 p j)
    = Ideal.div ((∑ k, x (ix2 p k) * (d (ix2 p k) * g (ix3 (0 : Fin 1) (0 : Fin 1) k))) * (mhalf * Ideal.div (rt (rowOf x p)) (msq (rowOf x p)))) width := by
  rw [val_main_v30_apply, val_main_v29_apply, val_main_cst_6_apply]
  refine (congrArg₂ (· + ·) Ideal.ofBits_zero_f32 (Fin.sum_univ_one _)).trans ((zero_add _).trans ?_)
  have hi : idx_main_v29 (idx_main_v30 (ix2 p j)) 0 = ix2 p (0 : Fin 1) := funext fun a => match a with | ⟨0, _⟩ => rfl | ⟨1, _⟩ => rfl
  rw [hi, val_main_v28_apply, val_main_v26_apply, val_main_v27_apply, ref11, val_main_v23_apply, val_main_v22_apply, val_main_cst_4_apply]
  refine congrArg (fun s => Ideal.div (s * (mhalf * Ideal.div (rt (rowOf x p)) (msq (rowOf x p)))) width) ((congrArg₂ (· + ·) Ideal.ofBits_zero_f32 (Finset.sum_congr rfl fun l _ => ?_)).trans (zero_add _))
  have hj : idx_main_v22 (idx_main_v23 (ix2 p (0 : Fin 1))) l = ix2 p l := funext fun a => Fin.ext (match a with
    | ⟨0, _⟩ => by show p.val * 1 + 0 = p.val; omega
    | ⟨1, _⟩ => rfl)
  rw [hj, val_main_v21_apply, ref20]
  rfl

/-- The rows' gradient. -/
theorem ref34 (p : Fin 256) (j : Fin 1024) : val_main_v34 (F := Ideal) d x g (ix2 p j) = drows d x g p j := by
  have h24 : val_main_v24 (F := Ideal) x (ix2 p j) = rt (rowOf x p) := Cert.MemNormRefIdeal.RefValue.ref9 x p j
  rw [val_main_v34_apply, val_main_v32_apply, val_main_v25_apply, val_main_v31_apply, val_main_v33_apply, ref30, ref20, h24]
  have e := back_eq (rowOf x p) (fun k => d (ix2 p k) * g (ix3 (0 : Fin 1) (0 : Fin 1) k)) j 0
  rw [zero_add, zero_add] at e
  exact e

end Cert.MemGainRefIdeal.RefValue

namespace Cert.MemGainEq

open Idealize.ShloMosaic Idealize.ShloMosaic.TcCoe Idealize.SL.Sem Idealize.ShloMosaic.ValueIdx

/-- The frame of the kernel. -/
theorem frame_p : quiescent_MemGain := fun m ρ _ => Cert.MemGain.Gen.frame m ρ

/-- The frame of the idealized kernel. -/
theorem frame_pi : quiescent_MemGainIdeal := fun m ρ _ => Cert.MemGainIdeal.Gen.frame m ρ

/-- The frame of the reference: its run ends with its arguments as they were, and it declares no semaphore. -/
theorem frame_ri : quiescent_MemGainRefIdeal := fun m ρ _ =>
  (θ_run Cert.MemGainRefIdeal.defs _ _).mono (fun r h => ⟨fun c => (h c).2.2, sem_eq_zero_of_no_sems (by decide) r.2⟩)
    (Cert.MemGainRefIdeal.Value.run (F := Ideal) m ρ)

/-- The call computes the two gradients. -/
theorem same : algebraic_MemGainIdeal_MemGainRefIdeal := by
  intro m g m' g' hm ha
  refine ⟨fun c => (Cert.MemGainIdeal.Gen.dats m 0 c).arrAt 4 Cert.MemGainIdeal.cfg0.N, fun c => (Cert.MemGainIdeal.Gen.dats m 0 c).arrAt 5 Cert.MemGainIdeal.cfg0.N,
    Cert.MemGainIdeal.Value.run_blocks m g, ?_⟩
  refine (θ_run Cert.MemGainRefIdeal.defs _ _).mono (fun r h c => ?_) (Cert.MemGainRefIdeal.Value.run (F := Ideal) m' g')
  obtain ⟨h1, h2, hrest⟩ := h c
  obtain ⟨a0, a1, a2⟩ := ha c
  refine ⟨h1.trans ?_, h2.trans ?_, hrest⟩
  · rw [a0, a1, a2, Cert.MemGainRefIdeal.Read.val_main_v34_eq]
    refine funext fun i => ?_
    obtain ⟨p, j, rfl⟩ : ∃ (p : Fin 256) (j : Fin 1024), i = ix2 p j := ⟨i 0, i 1, eq_ix2 i⟩
    exact (Cert.MemGainRefIdeal.RefValue.ref34 _ _ _ p j).trans (Cert.MemGainIdeal.RefValue.arr4 m c p j).symm
  · rw [a0, a1, Cert.MemGainRefIdeal.Read.val_main_v18_eq]
    refine funext fun i => ?_
    obtain ⟨p, j, rfl⟩ : ∃ (p : Fin 1) (j : Fin 1024), i = ix2 p j := ⟨i 0, i 1, eq_ix2 i⟩
    obtain rfl : p = 0 := Fin.fin_one_eq_zero p
    exact (Cert.MemGainRefIdeal.RefValue.ref18 _ _ j).trans (Cert.MemGainIdeal.RefValue.arr5 m c j).symm

end Cert.MemGainEq

end
-- ==== Proof.lean ====
/- The claims about the calls. -/
module

public import proofs.«01_k».proof.Defs
public import proofs.«01_k».proof.Proof.AttnEq
public import proofs.«01_k».proof.Proof.FfnEq
public import proofs.«01_k».proof.Proof.UpGradEq
public import proofs.«01_k».proof.Proof.UpEq
public import proofs.«01_k».proof.Proof.DownInEq
public import proofs.«01_k».proof.Proof.DownGradEq
public import proofs.«01_k».proof.Proof.MixInEq
public import proofs.«01_k».proof.Proof.MixGradEq
public import proofs.«01_k».proof.Proof.OutInEq
public import proofs.«01_k».proof.Proof.OutGradEq
public import proofs.«01_k».proof.Proof.QueryEq
public import proofs.«01_k».proof.Proof.AdamSmallEq
public import proofs.«01_k».proof.Proof.SumSmallEq
public import proofs.«01_k».proof.Proof.GradRowsEq
public import proofs.«01_k».proof.Proof.AdamSquareEq
public import proofs.«01_k».proof.Proof.AdamInEq
public import proofs.«01_k».proof.Proof.AdamDownEq
public import proofs.«01_k».proof.Proof.AdamUpEq
public import proofs.«01_k».proof.Proof.LossHeadEq
public import proofs.«01_k».proof.Proof.CatInEq
public import proofs.«01_k».proof.Proof.BranchOutEq
public import proofs.«01_k».proof.Proof.DownOutEq
public import proofs.«01_k».proof.Proof.QueryInEq
public import proofs.«01_k».proof.Proof.RowsInEq
public import proofs.«01_k».proof.Proof.ReadsEq
public import proofs.«01_k».proof.Proof.KeysEq
public import proofs.«01_k».proof.Proof.KeyGradEq
public import proofs.«01_k».proof.Proof.MemInEq
public import proofs.«01_k».proof.Proof.PreNormEq
public import proofs.«01_k».proof.Proof.MemNormEq
public import proofs.«01_k».proof.Proof.MemGainEq

@[expose] public section

noncomputable section

namespace Cert.Proof

/-- Everything claimed, with the shape relations of the programs. -/
theorem claim : Cert.Claim :=
  ⟨Cert.Attn.Gen.facts, Cert.AttnIdeal.Gen.facts, Cert.AttnRefIdeal.Gen.facts, Cert.FfnIn.Gen.facts, Cert.FfnInIdeal.Gen.facts, Cert.FfnInRefIdeal.Gen.facts,
    Cert.UpGrad.Gen.facts, Cert.UpGradIdeal.Gen.facts, Cert.UpGradRefIdeal.Gen.facts,
    Cert.Up.Gen.facts, Cert.UpIdeal.Gen.facts, Cert.UpRefIdeal.Gen.facts,
    Cert.DownIn.Gen.facts, Cert.DownInIdeal.Gen.facts, Cert.DownInRefIdeal.Gen.facts,
    Cert.DownGrad.Gen.facts, Cert.DownGradIdeal.Gen.facts, Cert.DownGradRefIdeal.Gen.facts,
    Cert.MixIn.Gen.facts, Cert.MixInIdeal.Gen.facts, Cert.MixInRefIdeal.Gen.facts,
    Cert.MixGrad.Gen.facts, Cert.MixGradIdeal.Gen.facts, Cert.MixGradRefIdeal.Gen.facts,
    Cert.OutIn.Gen.facts, Cert.OutInIdeal.Gen.facts, Cert.OutInRefIdeal.Gen.facts,
    Cert.OutGrad.Gen.facts, Cert.OutGradIdeal.Gen.facts, Cert.OutGradRefIdeal.Gen.facts,
    Cert.Query.Gen.facts, Cert.QueryIdeal.Gen.facts, Cert.QueryRefIdeal.Gen.facts,
    Cert.AdamSmall.Gen.facts, Cert.AdamSmallIdeal.Gen.facts, Cert.AdamSmallRefIdeal.Gen.facts,
    Cert.SumSmall.Gen.facts, Cert.SumSmallIdeal.Gen.facts, Cert.SumSmallRefIdeal.Gen.facts,
    Cert.GradRows.Gen.facts, Cert.GradRowsIdeal.Gen.facts, Cert.GradRowsRefIdeal.Gen.facts,
    Cert.AdamSquare.Gen.facts, Cert.AdamSquareIdeal.Gen.facts, Cert.AdamSquareRefIdeal.Gen.facts,
    Cert.AdamIn.Gen.facts, Cert.AdamInIdeal.Gen.facts, Cert.AdamInRefIdeal.Gen.facts,
    Cert.AdamDown.Gen.facts, Cert.AdamDownIdeal.Gen.facts, Cert.AdamDownRefIdeal.Gen.facts,
    Cert.AdamUp.Gen.facts, Cert.AdamUpIdeal.Gen.facts, Cert.AdamUpRefIdeal.Gen.facts,
    Cert.LossHead.Gen.facts, Cert.LossHeadIdeal.Gen.facts, Cert.LossHeadRefIdeal.Gen.facts,
    Cert.CatIn.Gen.facts, Cert.CatInIdeal.Gen.facts, Cert.CatInRefIdeal.Gen.facts,
    Cert.BranchOut.Gen.facts, Cert.BranchOutIdeal.Gen.facts, Cert.BranchOutRefIdeal.Gen.facts,
    Cert.DownOut.Gen.facts, Cert.DownOutIdeal.Gen.facts, Cert.DownOutRefIdeal.Gen.facts,
    Cert.QueryIn.Gen.facts, Cert.QueryInIdeal.Gen.facts, Cert.QueryInRefIdeal.Gen.facts,
    Cert.RowsIn.Gen.facts, Cert.RowsInIdeal.Gen.facts, Cert.RowsInRefIdeal.Gen.facts,
    Cert.Reads.Gen.facts, Cert.ReadsIdeal.Gen.facts, Cert.ReadsRefIdeal.Gen.facts,
    Cert.Keys.Gen.facts, Cert.KeysIdeal.Gen.facts, Cert.KeysRefIdeal.Gen.facts,
    Cert.KeyGrad.Gen.facts, Cert.KeyGradIdeal.Gen.facts, Cert.KeyGradRefIdeal.Gen.facts,
    Cert.MemIn.Gen.facts, Cert.MemInIdeal.Gen.facts, Cert.MemInRefIdeal.Gen.facts,
    Cert.PreNorm.Gen.facts, Cert.PreNormIdeal.Gen.facts, Cert.PreNormRefIdeal.Gen.facts,
    Cert.MemNorm.Gen.facts, Cert.MemNormIdeal.Gen.facts, Cert.MemNormRefIdeal.Gen.facts,
    Cert.MemGain.Gen.facts, Cert.MemGainIdeal.Gen.facts, Cert.MemGainRefIdeal.Gen.facts,
    Cert.AttnEq.finiteFacts,
    Cert.AttnEq.frame_p, Cert.AttnEq.frame_pi, Cert.AttnEq.frame_pi_pre, Cert.AttnEq.frame_ri, Cert.AttnEq.frame_ri_pre,
    Cert.FfnEq.frame_p, Cert.FfnEq.frame_pi, Cert.FfnEq.frame_ri,
    Cert.UpGradEq.frame_p, Cert.UpGradEq.frame_pi, Cert.UpGradEq.frame_ri,
    Cert.UpEq.frame_p, Cert.UpEq.frame_pi, Cert.UpEq.frame_ri,
    Cert.DownInEq.frame_p, Cert.DownInEq.frame_pi, Cert.DownInEq.frame_ri,
    Cert.DownGradEq.frame_p, Cert.DownGradEq.frame_pi, Cert.DownGradEq.frame_ri,
    Cert.MixInEq.frame_p, Cert.MixInEq.frame_pi, Cert.MixInEq.frame_ri,
    Cert.MixGradEq.frame_p, Cert.MixGradEq.frame_pi, Cert.MixGradEq.frame_ri,
    Cert.OutInEq.frame_p, Cert.OutInEq.frame_pi, Cert.OutInEq.frame_ri,
    Cert.OutGradEq.frame_p, Cert.OutGradEq.frame_pi, Cert.OutGradEq.frame_ri,
    Cert.QueryEq.frame_p, Cert.QueryEq.frame_pi, Cert.QueryEq.frame_ri,
    Cert.AdamSmallEq.frame_p, Cert.AdamSmallEq.frame_pi, Cert.AdamSmallEq.frame_ri,
    Cert.SumSmallEq.frame_p, Cert.SumSmallEq.frame_pi, Cert.SumSmallEq.frame_ri,
    Cert.GradRowsEq.frame_p, Cert.GradRowsEq.frame_pi, Cert.GradRowsEq.frame_ri,
    Cert.AdamSquareEq.frame_p, Cert.AdamSquareEq.frame_pi, Cert.AdamSquareEq.frame_ri,
    Cert.AdamInEq.frame_p, Cert.AdamInEq.frame_pi, Cert.AdamInEq.frame_ri,
    Cert.AdamDownEq.frame_p, Cert.AdamDownEq.frame_pi, Cert.AdamDownEq.frame_ri,
    Cert.AdamUpEq.frame_p, Cert.AdamUpEq.frame_pi, Cert.AdamUpEq.frame_ri,
    Cert.LossHeadEq.frame_p, Cert.LossHeadEq.frame_pi, Cert.LossHeadEq.frame_ri,
    Cert.CatInEq.frame_p, Cert.CatInEq.frame_pi, Cert.CatInEq.frame_ri,
    Cert.BranchOutEq.frame_p, Cert.BranchOutEq.frame_pi, Cert.BranchOutEq.frame_ri,
    Cert.DownOutEq.frame_p, Cert.DownOutEq.frame_pi, Cert.DownOutEq.frame_ri,
    Cert.QueryInEq.frame_p, Cert.QueryInEq.frame_pi, Cert.QueryInEq.frame_ri,
    Cert.RowsInEq.frame_p, Cert.RowsInEq.frame_pi, Cert.RowsInEq.frame_ri,
    Cert.ReadsEq.frame_p, Cert.ReadsEq.frame_pi, Cert.ReadsEq.frame_ri,
    Cert.KeysEq.frame_p, Cert.KeysEq.frame_pi, Cert.KeysEq.frame_ri,
    Cert.KeyGradEq.frame_p, Cert.KeyGradEq.frame_pi, Cert.KeyGradEq.frame_ri,
    Cert.MemInEq.frame_p, Cert.MemInEq.frame_pi, Cert.MemInEq.frame_ri,
    Cert.PreNormEq.frame_p, Cert.PreNormEq.frame_pi, Cert.PreNormEq.frame_ri,
    Cert.MemNormEq.frame_p, Cert.MemNormEq.frame_pi, Cert.MemNormEq.frame_ri,
    Cert.MemGainEq.frame_p, Cert.MemGainEq.frame_pi, Cert.MemGainEq.frame_ri,
    trivial, Cert.AttnEq.same, trivial, Cert.FfnEq.same,
    trivial, Cert.UpGradEq.same, trivial, Cert.UpEq.same, trivial, Cert.DownInEq.same, trivial, Cert.DownGradEq.same,
    trivial, Cert.MixInEq.same, trivial, Cert.MixGradEq.same, trivial, Cert.OutInEq.same, trivial, Cert.OutGradEq.same, trivial, Cert.QueryEq.same,
    trivial, Cert.AdamSmallEq.same, trivial, Cert.SumSmallEq.same, trivial, Cert.GradRowsEq.same, trivial, Cert.AdamSquareEq.same, trivial, Cert.AdamInEq.same, trivial, Cert.AdamDownEq.same, trivial, Cert.AdamUpEq.same, trivial, Cert.LossHeadEq.same, trivial, Cert.CatInEq.same, trivial, Cert.BranchOutEq.same, trivial, Cert.DownOutEq.same, trivial, Cert.QueryInEq.same, trivial, Cert.RowsInEq.same, trivial, Cert.ReadsEq.same, trivial, Cert.KeysEq.same, trivial, Cert.KeyGradEq.same, trivial, Cert.MemInEq.same, trivial, Cert.PreNormEq.same, trivial, Cert.MemNormEq.same, trivial, Cert.MemGainEq.same⟩

end Cert.Proof

end
